-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwMain (m : (ℓ : Loc Cert.DwMain.nD Cert.DwMain.τ Cert.DwMain.sig) → Buf (Elt Bits) ℓ) : Prop :=
  True

def Pre_DwMainIdeal (m : (ℓ : Loc Cert.DwMainIdeal.nD Cert.DwMainIdeal.τ Cert.DwMainIdeal.sig) → Buf (Elt Ideal) ℓ) : Prop :=
  True

def Pre_DwMainReferenceIdeal (m : (ℓ : Loc Cert.DwMainReferenceIdeal.nD Cert.DwMainReferenceIdeal.τ Cert.DwMainReferenceIdeal.sig) → Buf (Elt Ideal) ℓ) : Prop :=
  True

def Pre_InMain (m : (ℓ : Loc Cert.InMain.nD Cert.InMain.τ Cert.InMain.sig) → Buf (Elt Bits) ℓ) : Prop :=
  True

def Pre_InMainIdeal (m : (ℓ : Loc Cert.InMainIdeal.nD Cert.InMainIdeal.τ Cert.InMainIdeal.sig) → Buf (Elt Ideal) ℓ) : Prop :=
  True

def Pre_InMainReferenceIdeal (m : (ℓ : Loc Cert.InMainReferenceIdeal.nD Cert.InMainReferenceIdeal.τ Cert.InMainReferenceIdeal.sig) → Buf (Elt Ideal) ℓ) : Prop :=
  True

def Pre_InSmall (m : (ℓ : Loc Cert.InSmall.nD Cert.InSmall.τ Cert.InSmall.sig) → Buf (Elt Bits) ℓ) : Prop :=
  True

def Pre_InSmallIdeal (m : (ℓ : Loc Cert.InSmallIdeal.nD Cert.InSmallIdeal.τ Cert.InSmallIdeal.sig) → Buf (Elt Ideal) ℓ) : Prop :=
  True

def Pre_InSmallReferenceIdeal (m : (ℓ : Loc Cert.InSmallReferenceIdeal.nD Cert.InSmallReferenceIdeal.τ Cert.InSmallReferenceIdeal.sig) → Buf (Elt Ideal) ℓ) : Prop :=
  True

def Pre_Pa (m : (ℓ : Loc Cert.Pa.nD Cert.Pa.τ Cert.Pa.sig) → Buf (Elt Bits) ℓ) : Prop :=
  True

def Pre_PaIdeal (m : (ℓ : Loc Cert.PaIdeal.nD Cert.PaIdeal.τ Cert.PaIdeal.sig) → Buf (Elt Ideal) ℓ) : Prop :=
  True

def Pre_PaReferenceIdeal (m : (ℓ : Loc Cert.PaReferenceIdeal.nD Cert.PaReferenceIdeal.τ Cert.PaReferenceIdeal.sig) → Buf (Elt Ideal) ℓ) : Prop :=
  True

def Pre_Pb (m : (ℓ : Loc Cert.Pb.nD Cert.Pb.τ Cert.Pb.sig) → Buf (Elt Bits) ℓ) : Prop :=
  True

def Pre_PbIdeal (m : (ℓ : Loc Cert.PbIdeal.nD Cert.PbIdeal.τ Cert.PbIdeal.sig) → Buf (Elt Ideal) ℓ) : Prop :=
  True

def Pre_PbReferenceIdeal (m : (ℓ : Loc Cert.PbReferenceIdeal.nD Cert.PbReferenceIdeal.τ Cert.PbReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DHn (m : (ℓ : Loc Cert.DHn.nD Cert.DHn.τ Cert.DHn.sig) → Buf (Elt Bits) ℓ) : Prop :=
  True

def Pre_DHnIdeal (m : (ℓ : Loc Cert.DHnIdeal.nD Cert.DHnIdeal.τ Cert.DHnIdeal.sig) → Buf (Elt Ideal) ℓ) : Prop :=
  True

def Pre_DHnReferenceIdeal (m : (ℓ : Loc Cert.DHnReferenceIdeal.nD Cert.DHnReferenceIdeal.τ Cert.DHnReferenceIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedReferenceIdeal (m : (ℓ : Loc Cert.DMergedReferenceIdeal.nD Cert.DMergedReferenceIdeal.τ Cert.DMergedReferenceIdeal.sig) → Buf (Elt Ideal) ℓ) : Prop :=
  True

def Pre_DYaIn (m : (ℓ : Loc Cert.DYaIn.nD Cert.DYaIn.τ Cert.DYaIn.sig) → Buf (Elt Bits) ℓ) : Prop :=
  True

def Pre_DYaInIdeal (m : (ℓ : Loc Cert.DYaInIdeal.nD Cert.DYaInIdeal.τ Cert.DYaInIdeal.sig) → Buf (Elt Ideal) ℓ) : Prop :=
  True

def Pre_DYaInReferenceIdeal (m : (ℓ : Loc Cert.DYaInReferenceIdeal.nD Cert.DYaInReferenceIdeal.τ Cert.DYaInReferenceIdeal.sig) → Buf (Elt Ideal) ℓ) : Prop :=
  True

def Pre_DOb (m : (ℓ : Loc Cert.DOb.nD Cert.DOb.τ Cert.DOb.sig) → Buf (Elt Bits) ℓ) : Prop :=
  True

def Pre_DObIdeal (m : (ℓ : Loc Cert.DObIdeal.nD Cert.DObIdeal.τ Cert.DObIdeal.sig) → Buf (Elt Ideal) ℓ) : Prop :=
  True

def Pre_DObReferenceIdeal (m : (ℓ : Loc Cert.DObReferenceIdeal.nD Cert.DObReferenceIdeal.τ Cert.DObReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DpA (m : (ℓ : Loc Cert.DpA.nD Cert.DpA.τ Cert.DpA.sig) → Buf (Elt Bits) ℓ) : Prop :=
  True

def Pre_DpAIdeal (m : (ℓ : Loc Cert.DpAIdeal.nD Cert.DpAIdeal.τ Cert.DpAIdeal.sig) → Buf (Elt Ideal) ℓ) : Prop :=
  True

def Pre_DpAReferenceIdeal (m : (ℓ : Loc Cert.DpAReferenceIdeal.nD Cert.DpAReferenceIdeal.τ Cert.DpAReferenceIdeal.sig) → Buf (Elt Ideal) ℓ) : Prop :=
  True

def Pre_DpB (m : (ℓ : Loc Cert.DpB.nD Cert.DpB.τ Cert.DpB.sig) → Buf (Elt Bits) ℓ) : Prop :=
  True

def Pre_DpBIdeal (m : (ℓ : Loc Cert.DpBIdeal.nD Cert.DpBIdeal.τ Cert.DpBIdeal.sig) → Buf (Elt Ideal) ℓ) : Prop :=
  True

def Pre_DpBReferenceIdeal (m : (ℓ : Loc Cert.DpBReferenceIdeal.nD Cert.DpBReferenceIdeal.τ Cert.DpBReferenceIdeal.sig) → Buf (Elt Ideal) ℓ) : Prop :=
  True

def Pre_DwSmall (m : (ℓ : Loc Cert.DwSmall.nD Cert.DwSmall.τ Cert.DwSmall.sig) → Buf (Elt Bits) ℓ) : Prop :=
  True

def Pre_DwSmallIdeal (m : (ℓ : Loc Cert.DwSmallIdeal.nD Cert.DwSmallIdeal.τ Cert.DwSmallIdeal.sig) → Buf (Elt Ideal) ℓ) : Prop :=
  True

def Pre_DwSmallReferenceIdeal (m : (ℓ : Loc Cert.DwSmallReferenceIdeal.nD Cert.DwSmallReferenceIdeal.τ Cert.DwSmallReferenceIdeal.sig) → Buf (Elt Ideal) ℓ) : Prop :=
  True

def Pre_DUSmall (m : (ℓ : Loc Cert.DUSmall.nD Cert.DUSmall.τ Cert.DUSmall.sig) → Buf (Elt Bits) ℓ) : Prop :=
  True

def Pre_DUSmallIdeal (m : (ℓ : Loc Cert.DUSmallIdeal.nD Cert.DUSmallIdeal.τ Cert.DUSmallIdeal.sig) → Buf (Elt Ideal) ℓ) : Prop :=
  True

def Pre_DUSmallReferenceIdeal (m : (ℓ : Loc Cert.DUSmallReferenceIdeal.nD Cert.DUSmallReferenceIdeal.τ Cert.DUSmallReferenceIdeal.sig) → Buf (Elt Ideal) ℓ) : Prop :=
  True

def Pre_DUFirst (m : (ℓ : Loc Cert.DUFirst.nD Cert.DUFirst.τ Cert.DUFirst.sig) → Buf (Elt Bits) ℓ) : Prop :=
  True

def Pre_DUFirstIdeal (m : (ℓ : Loc Cert.DUFirstIdeal.nD Cert.DUFirstIdeal.τ Cert.DUFirstIdeal.sig) → Buf (Elt Ideal) ℓ) : Prop :=
  True

def Pre_DUFirstReferenceIdeal (m : (ℓ : Loc Cert.DUFirstReferenceIdeal.nD Cert.DUFirstReferenceIdeal.τ Cert.DUFirstReferenceIdeal.sig) → Buf (Elt Ideal) ℓ) : Prop :=
  True

def Pre_DUSecond (m : (ℓ : Loc Cert.DUSecond.nD Cert.DUSecond.τ Cert.DUSecond.sig) → Buf (Elt Bits) ℓ) : Prop :=
  True

def Pre_DUSecondIdeal (m : (ℓ : Loc Cert.DUSecondIdeal.nD Cert.DUSecondIdeal.τ Cert.DUSecondIdeal.sig) → Buf (Elt Ideal) ℓ) : Prop :=
  True

def Pre_DUSecondReferenceIdeal (m : (ℓ : Loc Cert.DUSecondReferenceIdeal.nD Cert.DUSecondReferenceIdeal.τ Cert.DUSecondReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamPa (m : (ℓ : Loc Cert.AdamPa.nD Cert.AdamPa.τ Cert.AdamPa.sig) → Buf (Elt Bits) ℓ) : Prop :=
  True

def Pre_AdamPaIdeal (m : (ℓ : Loc Cert.AdamPaIdeal.nD Cert.AdamPaIdeal.τ Cert.AdamPaIdeal.sig) → Buf (Elt Ideal) ℓ) : Prop :=
  True

def Pre_AdamPaReferenceIdeal (m : (ℓ : Loc Cert.AdamPaReferenceIdeal.nD Cert.AdamPaReferenceIdeal.τ Cert.AdamPaReferenceIdeal.sig) → Buf (Elt Ideal) ℓ) : Prop :=
  True

def Pre_AdamPb (m : (ℓ : Loc Cert.AdamPb.nD Cert.AdamPb.τ Cert.AdamPb.sig) → Buf (Elt Bits) ℓ) : Prop :=
  True

def Pre_AdamPbIdeal (m : (ℓ : Loc Cert.AdamPbIdeal.nD Cert.AdamPbIdeal.τ Cert.AdamPbIdeal.sig) → Buf (Elt Ideal) ℓ) : Prop :=
  True

def Pre_AdamPbReferenceIdeal (m : (ℓ : Loc Cert.AdamPbReferenceIdeal.nD Cert.AdamPbReferenceIdeal.τ Cert.AdamPbReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_DX (m : (ℓ : Loc Cert.DX.nD Cert.DX.τ Cert.DX.sig) → Buf (Elt Bits) ℓ) : Prop :=
  True

def Pre_DXIdeal (m : (ℓ : Loc Cert.DXIdeal.nD Cert.DXIdeal.τ Cert.DXIdeal.sig) → Buf (Elt Ideal) ℓ) : Prop :=
  True

def Pre_DXReferenceIdeal (m : (ℓ : Loc Cert.DXReferenceIdeal.nD Cert.DXReferenceIdeal.τ Cert.DXReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DwMain [hDwMain : Cert.DwMain.Facts] : Prop :=
  ∀ (m : (ℓ : Loc Cert.DwMain.nD Cert.DwMain.τ Cert.DwMain.sig) → Buf (Elt Bits) ℓ) (g : Dev Cert.DwMain.nD → PrngReg), Pre_DwMain m →
    θ_run (Cert.DwMain.defs (F := Bits)) (onTc (τ := Cert.DwMain.τ) (Cert.DwMain.main (F := Bits))) ⟨m, fun _ => 0, g⟩ (fun r => (∀ c : Dev Cert.DwMain.nD,
      r.2.mem ((c.tc : Thread Cert.DwMain.nD Cert.DwMain.τ).loc Cert.DwMain.main_arg0) = m ((c.tc : Thread Cert.DwMain.nD Cert.DwMain.τ).loc Cert.DwMain.main_arg0)
      ∧ r.2.mem ((c.tc : Thread Cert.DwMain.nD Cert.DwMain.τ).loc Cert.DwMain.main_arg1) = m ((c.tc : Thread Cert.DwMain.nD Cert.DwMain.τ).loc Cert.DwMain.main_arg1))
      ∧ r.2.sem = fun _ => 0)

def quiescent_DwMainIdeal [hDwMainIdeal : Cert.DwMainIdeal.Facts] : Prop :=
  ∀ (m : (ℓ : Loc Cert.DwMainIdeal.nD Cert.DwMainIdeal.τ Cert.DwMainIdeal.sig) → Buf (Elt Ideal) ℓ) (g : Dev Cert.DwMainIdeal.nD → PrngReg), Pre_DwMainIdeal m →
    θ_run (Cert.DwMainIdeal.defs (F := Ideal)) (onTc (τ := Cert.DwMainIdeal.τ) (Cert.DwMainIdeal.main (F := Ideal))) ⟨m, fun _ => 0, g⟩ (fun r => (∀ c : Dev Cert.DwMainIdeal.nD,
      r.2.mem ((c.tc : Thread Cert.DwMainIdeal.nD Cert.DwMainIdeal.τ).loc Cert.DwMainIdeal.main_arg0) = m ((c.tc : Thread Cert.DwMainIdeal.nD Cert.DwMainIdeal.τ).loc Cert.DwMainIdeal.main_arg0)
      ∧ r.2.mem ((c.tc : Thread Cert.DwMainIdeal.nD Cert.DwMainIdeal.τ).loc Cert.DwMainIdeal.main_arg1) = m ((c.tc : Thread Cert.DwMainIdeal.nD Cert.DwMainIdeal.τ).loc Cert.DwMainIdeal.main_arg1))
      ∧ r.2.sem = fun _ => 0)

def quiescent_DwMainReferenceIdeal [hDwMainReferenceIdeal : Cert.DwMainReferenceIdeal.Facts] : Prop :=
  ∀ (m : (ℓ : Loc Cert.DwMainReferenceIdeal.nD Cert.DwMainReferenceIdeal.τ Cert.DwMainReferenceIdeal.sig) → Buf (Elt Ideal) ℓ) (g : Dev Cert.DwMainReferenceIdeal.nD → PrngReg), Pre_DwMainReferenceIdeal m →
    θ_run (Cert.DwMainReferenceIdeal.defs (F := Ideal)) (onTc (τ := Cert.DwMainReferenceIdeal.τ) (Cert.DwMainReferenceIdeal.main (F := Ideal))) ⟨m, fun _ => 0, g⟩ (fun r => (∀ c : Dev Cert.DwMainReferenceIdeal.nD,
      r.2.mem ((c.tc : Thread Cert.DwMainReferenceIdeal.nD Cert.DwMainReferenceIdeal.τ).loc Cert.DwMainReferenceIdeal.main_arg0) = m ((c.tc : Thread Cert.DwMainReferenceIdeal.nD Cert.DwMainReferenceIdeal.τ).loc Cert.DwMainReferenceIdeal.main_arg0)
      ∧ r.2.mem ((c.tc : Thread Cert.DwMainReferenceIdeal.nD Cert.DwMainReferenceIdeal.τ).loc Cert.DwMainReferenceIdeal.main_arg1) = m ((c.tc : Thread Cert.DwMainReferenceIdeal.nD Cert.DwMainReferenceIdeal.τ).loc Cert.DwMainReferenceIdeal.main_arg1))
      ∧ r.2.sem = fun _ => 0)

def quiescent_InMain [hInMain : Cert.InMain.Facts] : Prop :=
  ∀ (m : (ℓ : Loc Cert.InMain.nD Cert.InMain.τ Cert.InMain.sig) → Buf (Elt Bits) ℓ) (g : Dev Cert.InMain.nD → PrngReg), Pre_InMain m →
    θ_run (Cert.InMain.defs (F := Bits)) (onTc (τ := Cert.InMain.τ) (Cert.InMain.main (F := Bits))) ⟨m, fun _ => 0, g⟩ (fun r => (∀ c : Dev Cert.InMain.nD,
      r.2.mem ((c.tc : Thread Cert.InMain.nD Cert.InMain.τ).loc Cert.InMain.main_arg0) = m ((c.tc : Thread Cert.InMain.nD Cert.InMain.τ).loc Cert.InMain.main_arg0)
      ∧ r.2.mem ((c.tc : Thread Cert.InMain.nD Cert.InMain.τ).loc Cert.InMain.main_arg1) = m ((c.tc : Thread Cert.InMain.nD Cert.InMain.τ).loc Cert.InMain.main_arg1))
      ∧ r.2.sem = fun _ => 0)

def quiescent_InMainIdeal [hInMainIdeal : Cert.InMainIdeal.Facts] : Prop :=
  ∀ (m : (ℓ : Loc Cert.InMainIdeal.nD Cert.InMainIdeal.τ Cert.InMainIdeal.sig) → Buf (Elt Ideal) ℓ) (g : Dev Cert.InMainIdeal.nD → PrngReg), Pre_InMainIdeal m →
    θ_run (Cert.InMainIdeal.defs (F := Ideal)) (onTc (τ := Cert.InMainIdeal.τ) (Cert.InMainIdeal.main (F := Ideal))) ⟨m, fun _ => 0, g⟩ (fun r => (∀ c : Dev Cert.InMainIdeal.nD,
      r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
      ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1))
      ∧ r.2.sem = fun _ => 0)

def quiescent_InMainReferenceIdeal [hInMainReferenceIdeal : Cert.InMainReferenceIdeal.Facts] : Prop :=
  ∀ (m : (ℓ : Loc Cert.InMainReferenceIdeal.nD Cert.InMainReferenceIdeal.τ Cert.InMainReferenceIdeal.sig) → Buf (Elt Ideal) ℓ) (g : Dev Cert.InMainReferenceIdeal.nD → PrngReg), Pre_InMainReferenceIdeal m →
    θ_run (Cert.InMainReferenceIdeal.defs (F := Ideal)) (onTc (τ := Cert.InMainReferenceIdeal.τ) (Cert.InMainReferenceIdeal.main (F := Ideal))) ⟨m, fun _ => 0, g⟩ (fun r => (∀ c : Dev Cert.InMainReferenceIdeal.nD,
      r.2.mem ((c.tc : Thread Cert.InMainReferenceIdeal.nD Cert.InMainReferenceIdeal.τ).loc Cert.InMainReferenceIdeal.main_arg0) = m ((c.tc : Thread Cert.InMainReferenceIdeal.nD Cert.InMainReferenceIdeal.τ).loc Cert.InMainReferenceIdeal.main_arg0)
      ∧ r.2.mem ((c.tc : Thread Cert.InMainReferenceIdeal.nD Cert.InMainReferenceIdeal.τ).loc Cert.InMainReferenceIdeal.main_arg1) = m ((c.tc : Thread Cert.InMainReferenceIdeal.nD Cert.InMainReferenceIdeal.τ).loc Cert.InMainReferenceIdeal.main_arg1))
      ∧ r.2.sem = fun _ => 0)

def quiescent_InSmall [hInSmall : Cert.InSmall.Facts] : Prop :=
  ∀ (m : (ℓ : Loc Cert.InSmall.nD Cert.InSmall.τ Cert.InSmall.sig) → Buf (Elt Bits) ℓ) (g : Dev Cert.InSmall.nD → PrngReg), Pre_InSmall m →
    θ_run (Cert.InSmall.defs (F := Bits)) (onTc (τ := Cert.InSmall.τ) (Cert.InSmall.main (F := Bits))) ⟨m, fun _ => 0, g⟩ (fun r => (∀ c : Dev Cert.InSmall.nD,
      r.2.mem ((c.tc : Thread Cert.InSmall.nD Cert.InSmall.τ).loc Cert.InSmall.main_arg0) = m ((c.tc : Thread Cert.InSmall.nD Cert.InSmall.τ).loc Cert.InSmall.main_arg0)
      ∧ r.2.mem ((c.tc : Thread Cert.InSmall.nD Cert.InSmall.τ).loc Cert.InSmall.main_arg1) = m ((c.tc : Thread Cert.InSmall.nD Cert.InSmall.τ).loc Cert.InSmall.main_arg1))
      ∧ r.2.sem = fun _ => 0)

def quiescent_InSmallIdeal [hInSmallIdeal : Cert.InSmallIdeal.Facts] : Prop :=
  ∀ (m : (ℓ : Loc Cert.InSmallIdeal.nD Cert.InSmallIdeal.τ Cert.InSmallIdeal.sig) → Buf (Elt Ideal) ℓ) (g : Dev Cert.InSmallIdeal.nD → PrngReg), Pre_InSmallIdeal m →
    θ_run (Cert.InSmallIdeal.defs (F := Ideal)) (onTc (τ := Cert.InSmallIdeal.τ) (Cert.InSmallIdeal.main (F := Ideal))) ⟨m, fun _ => 0, g⟩ (fun r => (∀ c : Dev Cert.InSmallIdeal.nD,
      r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
      ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ r.2.sem = fun _ => 0)

def quiescent_InSmallReferenceIdeal [hInSmallReferenceIdeal : Cert.InSmallReferenceIdeal.Facts] : Prop :=
  ∀ (m : (ℓ : Loc Cert.InSmallReferenceIdeal.nD Cert.InSmallReferenceIdeal.τ Cert.InSmallReferenceIdeal.sig) → Buf (Elt Ideal) ℓ) (g : Dev Cert.InSmallReferenceIdeal.nD → PrngReg), Pre_InSmallReferenceIdeal m →
    θ_run (Cert.InSmallReferenceIdeal.defs (F := Ideal)) (onTc (τ := Cert.InSmallReferenceIdeal.τ) (Cert.InSmallReferenceIdeal.main (F := Ideal))) ⟨m, fun _ => 0, g⟩ (fun r => (∀ c : Dev Cert.InSmallReferenceIdeal.nD,
      r.2.mem ((c.tc : Thread Cert.InSmallReferenceIdeal.nD Cert.InSmallReferenceIdeal.τ).loc Cert.InSmallReferenceIdeal.main_arg0) = m ((c.tc : Thread Cert.InSmallReferenceIdeal.nD Cert.InSmallReferenceIdeal.τ).loc Cert.InSmallReferenceIdeal.main_arg0)
      ∧ r.2.mem ((c.tc : Thread Cert.InSmallReferenceIdeal.nD Cert.InSmallReferenceIdeal.τ).loc Cert.InSmallReferenceIdeal.main_arg1) = m ((c.tc : Thread Cert.InSmallReferenceIdeal.nD Cert.InSmallReferenceIdeal.τ).loc Cert.InSmallReferenceIdeal.main_arg1))
      ∧ r.2.sem = fun _ => 0)

def quiescent_Pa [hPa : Cert.Pa.Facts] : Prop :=
  ∀ (m : (ℓ : Loc Cert.Pa.nD Cert.Pa.τ Cert.Pa.sig) → Buf (Elt Bits) ℓ) (g : Dev Cert.Pa.nD → PrngReg), Pre_Pa m →
    θ_run (Cert.Pa.defs (F := Bits)) (onTc (τ := Cert.Pa.τ) (Cert.Pa.main (F := Bits))) ⟨m, fun _ => 0, g⟩ (fun r => (∀ c : Dev Cert.Pa.nD,
      r.2.mem ((c.tc : Thread Cert.Pa.nD Cert.Pa.τ).loc Cert.Pa.main_arg0) = m ((c.tc : Thread Cert.Pa.nD Cert.Pa.τ).loc Cert.Pa.main_arg0)
      ∧ r.2.mem ((c.tc : Thread Cert.Pa.nD Cert.Pa.τ).loc Cert.Pa.main_arg1) = m ((c.tc : Thread Cert.Pa.nD Cert.Pa.τ).loc Cert.Pa.main_arg1))
      ∧ r.2.sem = fun _ => 0)

def quiescent_PaIdeal [hPaIdeal : Cert.PaIdeal.Facts] : Prop :=
  ∀ (m : (ℓ : Loc Cert.PaIdeal.nD Cert.PaIdeal.τ Cert.PaIdeal.sig) → Buf (Elt Ideal) ℓ) (g : Dev Cert.PaIdeal.nD → PrngReg), Pre_PaIdeal m →
    θ_run (Cert.PaIdeal.defs (F := Ideal)) (onTc (τ := Cert.PaIdeal.τ) (Cert.PaIdeal.main (F := Ideal))) ⟨m, fun _ => 0, g⟩ (fun r => (∀ c : Dev Cert.PaIdeal.nD,
      r.2.mem ((c.tc : Thread Cert.PaIdeal.nD Cert.PaIdeal.τ).loc Cert.PaIdeal.main_arg0) = m ((c.tc : Thread Cert.PaIdeal.nD Cert.PaIdeal.τ).loc Cert.PaIdeal.main_arg0)
      ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ r.2.sem = fun _ => 0)

def quiescent_PaReferenceIdeal [hPaReferenceIdeal : Cert.PaReferenceIdeal.Facts] : Prop :=
  ∀ (m : (ℓ : Loc Cert.PaReferenceIdeal.nD Cert.PaReferenceIdeal.τ Cert.PaReferenceIdeal.sig) → Buf (Elt Ideal) ℓ) (g : Dev Cert.PaReferenceIdeal.nD → PrngReg), Pre_PaReferenceIdeal m →
    θ_run (Cert.PaReferenceIdeal.defs (F := Ideal)) (onTc (τ := Cert.PaReferenceIdeal.τ) (Cert.PaReferenceIdeal.main (F := Ideal))) ⟨m, fun _ => 0, g⟩ (fun r => (∀ c : Dev Cert.PaReferenceIdeal.nD,
      r.2.mem ((c.tc : Thread Cert.PaReferenceIdeal.nD Cert.PaReferenceIdeal.τ).loc Cert.PaReferenceIdeal.main_arg0) = m ((c.tc : Thread Cert.PaReferenceIdeal.nD Cert.PaReferenceIdeal.τ).loc Cert.PaReferenceIdeal.main_arg0)
      ∧ r.2.mem ((c.tc : Thread Cert.PaReferenceIdeal.nD Cert.PaReferenceIdeal.τ).loc Cert.PaReferenceIdeal.main_arg1) = m ((c.tc : Thread Cert.PaReferenceIdeal.nD Cert.PaReferenceIdeal.τ).loc Cert.PaReferenceIdeal.main_arg1))
      ∧ r.2.sem = fun _ => 0)

def quiescent_Pb [hPb : Cert.Pb.Facts] : Prop :=
  ∀ (m : (ℓ : Loc Cert.Pb.nD Cert.Pb.τ Cert.Pb.sig) → Buf (Elt Bits) ℓ) (g : Dev Cert.Pb.nD → PrngReg), Pre_Pb m →
    θ_run (Cert.Pb.defs (F := Bits)) (onTc (τ := Cert.Pb.τ) (Cert.Pb.main (F := Bits))) ⟨m, fun _ => 0, g⟩ (fun r => (∀ c : Dev Cert.Pb.nD,
      r.2.mem ((c.tc : Thread Cert.Pb.nD Cert.Pb.τ).loc Cert.Pb.main_arg0) = m ((c.tc : Thread Cert.Pb.nD Cert.Pb.τ).loc Cert.Pb.main_arg0)
      ∧ r.2.mem ((c.tc : Thread Cert.Pb.nD Cert.Pb.τ).loc Cert.Pb.main_arg1) = m ((c.tc : Thread Cert.Pb.nD Cert.Pb.τ).loc Cert.Pb.main_arg1))
      ∧ r.2.sem = fun _ => 0)

def quiescent_PbIdeal [hPbIdeal : Cert.PbIdeal.Facts] : Prop :=
  ∀ (m : (ℓ : Loc Cert.PbIdeal.nD Cert.PbIdeal.τ Cert.PbIdeal.sig) → Buf (Elt Ideal) ℓ) (g : Dev Cert.PbIdeal.nD → PrngReg), Pre_PbIdeal m →
    θ_run (Cert.PbIdeal.defs (F := Ideal)) (onTc (τ := Cert.PbIdeal.τ) (Cert.PbIdeal.main (F := Ideal))) ⟨m, fun _ => 0, g⟩ (fun r => (∀ c : Dev Cert.PbIdeal.nD,
      r.2.mem ((c.tc : Thread Cert.PbIdeal.nD Cert.PbIdeal.τ).loc Cert.PbIdeal.main_arg0) = m ((c.tc : Thread Cert.PbIdeal.nD Cert.PbIdeal.τ).loc Cert.PbIdeal.main_arg0)
      ∧ r.2.mem ((c.tc : Thread Cert.PbIdeal.nD Cert.PbIdeal.τ).loc Cert.PbIdeal.main_arg1) = m ((c.tc : Thread Cert.PbIdeal.nD Cert.PbIdeal.τ).loc Cert.PbIdeal.main_arg1))
      ∧ r.2.sem = fun _ => 0)

def quiescent_PbReferenceIdeal [hPbReferenceIdeal : Cert.PbReferenceIdeal.Facts] : Prop :=
  ∀ (m : (ℓ : Loc Cert.PbReferenceIdeal.nD Cert.PbReferenceIdeal.τ Cert.PbReferenceIdeal.sig) → Buf (Elt Ideal) ℓ) (g : Dev Cert.PbReferenceIdeal.nD → PrngReg), Pre_PbReferenceIdeal m →
    θ_run (Cert.PbReferenceIdeal.defs (F := Ideal)) (onTc (τ := Cert.PbReferenceIdeal.τ) (Cert.PbReferenceIdeal.main (F := Ideal))) ⟨m, fun _ => 0, g⟩ (fun r => (∀ c : Dev Cert.PbReferenceIdeal.nD,
      r.2.mem ((c.tc : Thread Cert.PbReferenceIdeal.nD Cert.PbReferenceIdeal.τ).loc Cert.PbReferenceIdeal.main_arg0) = m ((c.tc : Thread Cert.PbReferenceIdeal.nD Cert.PbReferenceIdeal.τ).loc Cert.PbReferenceIdeal.main_arg0)
      ∧ r.2.mem ((c.tc : Thread Cert.PbReferenceIdeal.nD Cert.PbReferenceIdeal.τ).loc Cert.PbReferenceIdeal.main_arg1) = m ((c.tc : Thread Cert.PbReferenceIdeal.nD Cert.PbReferenceIdeal.τ).loc Cert.PbReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1)
      ∧ r.2.mem ((c.tc : Thread Cert.DActReferenceIdeal.nD Cert.DActReferenceIdeal.τ).loc Cert.DActReferenceIdeal.main_arg2) = m ((c.tc : Thread Cert.DActReferenceIdeal.nD Cert.DActReferenceIdeal.τ).loc Cert.DActReferenceIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DHn [hDHn : Cert.DHn.Facts] : Prop :=
  ∀ (m : (ℓ : Loc Cert.DHn.nD Cert.DHn.τ Cert.DHn.sig) → Buf (Elt Bits) ℓ) (g : Dev Cert.DHn.nD → PrngReg), Pre_DHn m →
    θ_run (Cert.DHn.defs (F := Bits)) (onTc (τ := Cert.DHn.τ) (Cert.DHn.main (F := Bits))) ⟨m, fun _ => 0, g⟩ (fun r => (∀ c : Dev Cert.DHn.nD,
      r.2.mem ((c.tc : Thread Cert.DHn.nD Cert.DHn.τ).loc Cert.DHn.main_arg0) = m ((c.tc : Thread Cert.DHn.nD Cert.DHn.τ).loc Cert.DHn.main_arg0)
      ∧ r.2.mem ((c.tc : Thread Cert.DHn.nD Cert.DHn.τ).loc Cert.DHn.main_arg1) = m ((c.tc : Thread Cert.DHn.nD Cert.DHn.τ).loc Cert.DHn.main_arg1))
      ∧ r.2.sem = fun _ => 0)

def quiescent_DHnIdeal [hDHnIdeal : Cert.DHnIdeal.Facts] : Prop :=
  ∀ (m : (ℓ : Loc Cert.DHnIdeal.nD Cert.DHnIdeal.τ Cert.DHnIdeal.sig) → Buf (Elt Ideal) ℓ) (g : Dev Cert.DHnIdeal.nD → PrngReg), Pre_DHnIdeal m →
    θ_run (Cert.DHnIdeal.defs (F := Ideal)) (onTc (τ := Cert.DHnIdeal.τ) (Cert.DHnIdeal.main (F := Ideal))) ⟨m, fun _ => 0, g⟩ (fun r => (∀ c : Dev Cert.DHnIdeal.nD,
      r.2.mem ((c.tc : Thread Cert.DHnIdeal.nD Cert.DHnIdeal.τ).loc Cert.DHnIdeal.main_arg0) = m ((c.tc : Thread Cert.DHnIdeal.nD Cert.DHnIdeal.τ).loc Cert.DHnIdeal.main_arg0)
      ∧ r.2.mem ((c.tc : Thread Cert.DHnIdeal.nD Cert.DHnIdeal.τ).loc Cert.DHnIdeal.main_arg1) = m ((c.tc : Thread Cert.DHnIdeal.nD Cert.DHnIdeal.τ).loc Cert.DHnIdeal.main_arg1))
      ∧ r.2.sem = fun _ => 0)

def quiescent_DHnReferenceIdeal [hDHnReferenceIdeal : Cert.DHnReferenceIdeal.Facts] : Prop :=
  ∀ (m : (ℓ : Loc Cert.DHnReferenceIdeal.nD Cert.DHnReferenceIdeal.τ Cert.DHnReferenceIdeal.sig) → Buf (Elt Ideal) ℓ) (g : Dev Cert.DHnReferenceIdeal.nD → PrngReg), Pre_DHnReferenceIdeal m →
    θ_run (Cert.DHnReferenceIdeal.defs (F := Ideal)) (onTc (τ := Cert.DHnReferenceIdeal.τ) (Cert.DHnReferenceIdeal.main (F := Ideal))) ⟨m, fun _ => 0, g⟩ (fun r => (∀ c : Dev Cert.DHnReferenceIdeal.nD,
      r.2.mem ((c.tc : Thread Cert.DHnReferenceIdeal.nD Cert.DHnReferenceIdeal.τ).loc Cert.DHnReferenceIdeal.main_arg0) = m ((c.tc : Thread Cert.DHnReferenceIdeal.nD Cert.DHnReferenceIdeal.τ).loc Cert.DHnReferenceIdeal.main_arg0)
      ∧ r.2.mem ((c.tc : Thread Cert.DHnReferenceIdeal.nD Cert.DHnReferenceIdeal.τ).loc Cert.DHnReferenceIdeal.main_arg1) = m ((c.tc : Thread Cert.DHnReferenceIdeal.nD Cert.DHnReferenceIdeal.τ).loc Cert.DHnReferenceIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedReferenceIdeal [hDMergedReferenceIdeal : Cert.DMergedReferenceIdeal.Facts] : Prop :=
  ∀ (m : (ℓ : Loc Cert.DMergedReferenceIdeal.nD Cert.DMergedReferenceIdeal.τ Cert.DMergedReferenceIdeal.sig) → Buf (Elt Ideal) ℓ) (g : Dev Cert.DMergedReferenceIdeal.nD → PrngReg), Pre_DMergedReferenceIdeal m →
    θ_run (Cert.DMergedReferenceIdeal.defs (F := Ideal)) (onTc (τ := Cert.DMergedReferenceIdeal.τ) (Cert.DMergedReferenceIdeal.main (F := Ideal))) ⟨m, fun _ => 0, g⟩ (fun r => (∀ c : Dev Cert.DMergedReferenceIdeal.nD,
      r.2.mem ((c.tc : Thread Cert.DMergedReferenceIdeal.nD Cert.DMergedReferenceIdeal.τ).loc Cert.DMergedReferenceIdeal.main_arg0) = m ((c.tc : Thread Cert.DMergedReferenceIdeal.nD Cert.DMergedReferenceIdeal.τ).loc Cert.DMergedReferenceIdeal.main_arg0)
      ∧ r.2.mem ((c.tc : Thread Cert.DMergedReferenceIdeal.nD Cert.DMergedReferenceIdeal.τ).loc Cert.DMergedReferenceIdeal.main_arg1) = m ((c.tc : Thread Cert.DMergedReferenceIdeal.nD Cert.DMergedReferenceIdeal.τ).loc Cert.DMergedReferenceIdeal.main_arg1))
      ∧ r.2.sem = fun _ => 0)

def quiescent_DYaIn [hDYaIn : Cert.DYaIn.Facts] : Prop :=
  ∀ (m : (ℓ : Loc Cert.DYaIn.nD Cert.DYaIn.τ Cert.DYaIn.sig) → Buf (Elt Bits) ℓ) (g : Dev Cert.DYaIn.nD → PrngReg), Pre_DYaIn m →
    θ_run (Cert.DYaIn.defs (F := Bits)) (onTc (τ := Cert.DYaIn.τ) (Cert.DYaIn.main (F := Bits))) ⟨m, fun _ => 0, g⟩ (fun r => (∀ c : Dev Cert.DYaIn.nD,
      r.2.mem ((c.tc : Thread Cert.DYaIn.nD Cert.DYaIn.τ).loc Cert.DYaIn.main_arg0) = m ((c.tc : Thread Cert.DYaIn.nD Cert.DYaIn.τ).loc Cert.DYaIn.main_arg0)
      ∧ r.2.mem ((c.tc : Thread Cert.DYaIn.nD Cert.DYaIn.τ).loc Cert.DYaIn.main_arg1) = m ((c.tc : Thread Cert.DYaIn.nD Cert.DYaIn.τ).loc Cert.DYaIn.main_arg1))
      ∧ r.2.sem = fun _ => 0)

def quiescent_DYaInIdeal [hDYaInIdeal : Cert.DYaInIdeal.Facts] : Prop :=
  ∀ (m : (ℓ : Loc Cert.DYaInIdeal.nD Cert.DYaInIdeal.τ Cert.DYaInIdeal.sig) → Buf (Elt Ideal) ℓ) (g : Dev Cert.DYaInIdeal.nD → PrngReg), Pre_DYaInIdeal m →
    θ_run (Cert.DYaInIdeal.defs (F := Ideal)) (onTc (τ := Cert.DYaInIdeal.τ) (Cert.DYaInIdeal.main (F := Ideal))) ⟨m, fun _ => 0, g⟩ (fun r => (∀ c : Dev Cert.DYaInIdeal.nD,
      r.2.mem ((c.tc : Thread Cert.DYaInIdeal.nD Cert.DYaInIdeal.τ).loc Cert.DYaInIdeal.main_arg0) = m ((c.tc : Thread Cert.DYaInIdeal.nD Cert.DYaInIdeal.τ).loc Cert.DYaInIdeal.main_arg0)
      ∧ r.2.mem ((c.tc : Thread Cert.DYaInIdeal.nD Cert.DYaInIdeal.τ).loc Cert.DYaInIdeal.main_arg1) = m ((c.tc : Thread Cert.DYaInIdeal.nD Cert.DYaInIdeal.τ).loc Cert.DYaInIdeal.main_arg1))
      ∧ r.2.sem = fun _ => 0)

def quiescent_DYaInReferenceIdeal [hDYaInReferenceIdeal : Cert.DYaInReferenceIdeal.Facts] : Prop :=
  ∀ (m : (ℓ : Loc Cert.DYaInReferenceIdeal.nD Cert.DYaInReferenceIdeal.τ Cert.DYaInReferenceIdeal.sig) → Buf (Elt Ideal) ℓ) (g : Dev Cert.DYaInReferenceIdeal.nD → PrngReg), Pre_DYaInReferenceIdeal m →
    θ_run (Cert.DYaInReferenceIdeal.defs (F := Ideal)) (onTc (τ := Cert.DYaInReferenceIdeal.τ) (Cert.DYaInReferenceIdeal.main (F := Ideal))) ⟨m, fun _ => 0, g⟩ (fun r => (∀ c : Dev Cert.DYaInReferenceIdeal.nD,
      r.2.mem ((c.tc : Thread Cert.DYaInReferenceIdeal.nD Cert.DYaInReferenceIdeal.τ).loc Cert.DYaInReferenceIdeal.main_arg0) = m ((c.tc : Thread Cert.DYaInReferenceIdeal.nD Cert.DYaInReferenceIdeal.τ).loc Cert.DYaInReferenceIdeal.main_arg0)
      ∧ r.2.mem ((c.tc : Thread Cert.DYaInReferenceIdeal.nD Cert.DYaInReferenceIdeal.τ).loc Cert.DYaInReferenceIdeal.main_arg1) = m ((c.tc : Thread Cert.DYaInReferenceIdeal.nD Cert.DYaInReferenceIdeal.τ).loc Cert.DYaInReferenceIdeal.main_arg1))
      ∧ r.2.sem = fun _ => 0)

def quiescent_DOb [hDOb : Cert.DOb.Facts] : Prop :=
  ∀ (m : (ℓ : Loc Cert.DOb.nD Cert.DOb.τ Cert.DOb.sig) → Buf (Elt Bits) ℓ) (g : Dev Cert.DOb.nD → PrngReg), Pre_DOb m →
    θ_run (Cert.DOb.defs (F := Bits)) (onTc (τ := Cert.DOb.τ) (Cert.DOb.main (F := Bits))) ⟨m, fun _ => 0, g⟩ (fun r => (∀ c : Dev Cert.DOb.nD,
      r.2.mem ((c.tc : Thread Cert.DOb.nD Cert.DOb.τ).loc Cert.DOb.main_arg0) = m ((c.tc : Thread Cert.DOb.nD Cert.DOb.τ).loc Cert.DOb.main_arg0)
      ∧ r.2.mem ((c.tc : Thread Cert.DOb.nD Cert.DOb.τ).loc Cert.DOb.main_arg1) = m ((c.tc : Thread Cert.DOb.nD Cert.DOb.τ).loc Cert.DOb.main_arg1))
      ∧ r.2.sem = fun _ => 0)

def quiescent_DObIdeal [hDObIdeal : Cert.DObIdeal.Facts] : Prop :=
  ∀ (m : (ℓ : Loc Cert.DObIdeal.nD Cert.DObIdeal.τ Cert.DObIdeal.sig) → Buf (Elt Ideal) ℓ) (g : Dev Cert.DObIdeal.nD → PrngReg), Pre_DObIdeal m →
    θ_run (Cert.DObIdeal.defs (F := Ideal)) (onTc (τ := Cert.DObIdeal.τ) (Cert.DObIdeal.main (F := Ideal))) ⟨m, fun _ => 0, g⟩ (fun r => (∀ c : Dev Cert.DObIdeal.nD,
      r.2.mem ((c.tc : Thread Cert.DObIdeal.nD Cert.DObIdeal.τ).loc Cert.DObIdeal.main_arg0) = m ((c.tc : Thread Cert.DObIdeal.nD Cert.DObIdeal.τ).loc Cert.DObIdeal.main_arg0)
      ∧ r.2.mem ((c.tc : Thread Cert.DObIdeal.nD Cert.DObIdeal.τ).loc Cert.DObIdeal.main_arg1) = m ((c.tc : Thread Cert.DObIdeal.nD Cert.DObIdeal.τ).loc Cert.DObIdeal.main_arg1))
      ∧ r.2.sem = fun _ => 0)

def quiescent_DObReferenceIdeal [hDObReferenceIdeal : Cert.DObReferenceIdeal.Facts] : Prop :=
  ∀ (m : (ℓ : Loc Cert.DObReferenceIdeal.nD Cert.DObReferenceIdeal.τ Cert.DObReferenceIdeal.sig) → Buf (Elt Ideal) ℓ) (g : Dev Cert.DObReferenceIdeal.nD → PrngReg), Pre_DObReferenceIdeal m →
    θ_run (Cert.DObReferenceIdeal.defs (F := Ideal)) (onTc (τ := Cert.DObReferenceIdeal.τ) (Cert.DObReferenceIdeal.main (F := Ideal))) ⟨m, fun _ => 0, g⟩ (fun r => (∀ c : Dev Cert.DObReferenceIdeal.nD,
      r.2.mem ((c.tc : Thread Cert.DObReferenceIdeal.nD Cert.DObReferenceIdeal.τ).loc Cert.DObReferenceIdeal.main_arg0) = m ((c.tc : Thread Cert.DObReferenceIdeal.nD Cert.DObReferenceIdeal.τ).loc Cert.DObReferenceIdeal.main_arg0)
      ∧ r.2.mem ((c.tc : Thread Cert.DObReferenceIdeal.nD Cert.DObReferenceIdeal.τ).loc Cert.DObReferenceIdeal.main_arg1) = m ((c.tc : Thread Cert.DObReferenceIdeal.nD Cert.DObReferenceIdeal.τ).loc Cert.DObReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DpA [hDpA : Cert.DpA.Facts] : Prop :=
  ∀ (m : (ℓ : Loc Cert.DpA.nD Cert.DpA.τ Cert.DpA.sig) → Buf (Elt Bits) ℓ) (g : Dev Cert.DpA.nD → PrngReg), Pre_DpA m →
    θ_run (Cert.DpA.defs (F := Bits)) (onTc (τ := Cert.DpA.τ) (Cert.DpA.main (F := Bits))) ⟨m, fun _ => 0, g⟩ (fun r => (∀ c : Dev Cert.DpA.nD,
      r.2.mem ((c.tc : Thread Cert.DpA.nD Cert.DpA.τ).loc Cert.DpA.main_arg0) = m ((c.tc : Thread Cert.DpA.nD Cert.DpA.τ).loc Cert.DpA.main_arg0)
      ∧ r.2.mem ((c.tc : Thread Cert.DpA.nD Cert.DpA.τ).loc Cert.DpA.main_arg1) = m ((c.tc : Thread Cert.DpA.nD Cert.DpA.τ).loc Cert.DpA.main_arg1))
      ∧ r.2.sem = fun _ => 0)

def quiescent_DpAIdeal [hDpAIdeal : Cert.DpAIdeal.Facts] : Prop :=
  ∀ (m : (ℓ : Loc Cert.DpAIdeal.nD Cert.DpAIdeal.τ Cert.DpAIdeal.sig) → Buf (Elt Ideal) ℓ) (g : Dev Cert.DpAIdeal.nD → PrngReg), Pre_DpAIdeal m →
    θ_run (Cert.DpAIdeal.defs (F := Ideal)) (onTc (τ := Cert.DpAIdeal.τ) (Cert.DpAIdeal.main (F := Ideal))) ⟨m, fun _ => 0, g⟩ (fun r => (∀ c : Dev Cert.DpAIdeal.nD,
      r.2.mem ((c.tc : Thread Cert.DpAIdeal.nD Cert.DpAIdeal.τ).loc Cert.DpAIdeal.main_arg0) = m ((c.tc : Thread Cert.DpAIdeal.nD Cert.DpAIdeal.τ).loc Cert.DpAIdeal.main_arg0)
      ∧ r.2.mem ((c.tc : Thread Cert.DpAIdeal.nD Cert.DpAIdeal.τ).loc Cert.DpAIdeal.main_arg1) = m ((c.tc : Thread Cert.DpAIdeal.nD Cert.DpAIdeal.τ).loc Cert.DpAIdeal.main_arg1))
      ∧ r.2.sem = fun _ => 0)

def quiescent_DpAReferenceIdeal [hDpAReferenceIdeal : Cert.DpAReferenceIdeal.Facts] : Prop :=
  ∀ (m : (ℓ : Loc Cert.DpAReferenceIdeal.nD Cert.DpAReferenceIdeal.τ Cert.DpAReferenceIdeal.sig) → Buf (Elt Ideal) ℓ) (g : Dev Cert.DpAReferenceIdeal.nD → PrngReg), Pre_DpAReferenceIdeal m →
    θ_run (Cert.DpAReferenceIdeal.defs (F := Ideal)) (onTc (τ := Cert.DpAReferenceIdeal.τ) (Cert.DpAReferenceIdeal.main (F := Ideal))) ⟨m, fun _ => 0, g⟩ (fun r => (∀ c : Dev Cert.DpAReferenceIdeal.nD,
      r.2.mem ((c.tc : Thread Cert.DpAReferenceIdeal.nD Cert.DpAReferenceIdeal.τ).loc Cert.DpAReferenceIdeal.main_arg0) = m ((c.tc : Thread Cert.DpAReferenceIdeal.nD Cert.DpAReferenceIdeal.τ).loc Cert.DpAReferenceIdeal.main_arg0)
      ∧ r.2.mem ((c.tc : Thread Cert.DpAReferenceIdeal.nD Cert.DpAReferenceIdeal.τ).loc Cert.DpAReferenceIdeal.main_arg1) = m ((c.tc : Thread Cert.DpAReferenceIdeal.nD Cert.DpAReferenceIdeal.τ).loc Cert.DpAReferenceIdeal.main_arg1))
      ∧ r.2.sem = fun _ => 0)

def quiescent_DpB [hDpB : Cert.DpB.Facts] : Prop :=
  ∀ (m : (ℓ : Loc Cert.DpB.nD Cert.DpB.τ Cert.DpB.sig) → Buf (Elt Bits) ℓ) (g : Dev Cert.DpB.nD → PrngReg), Pre_DpB m →
    θ_run (Cert.DpB.defs (F := Bits)) (onTc (τ := Cert.DpB.τ) (Cert.DpB.main (F := Bits))) ⟨m, fun _ => 0, g⟩ (fun r => (∀ c : Dev Cert.DpB.nD,
      r.2.mem ((c.tc : Thread Cert.DpB.nD Cert.DpB.τ).loc Cert.DpB.main_arg0) = m ((c.tc : Thread Cert.DpB.nD Cert.DpB.τ).loc Cert.DpB.main_arg0)
      ∧ r.2.mem ((c.tc : Thread Cert.DpB.nD Cert.DpB.τ).loc Cert.DpB.main_arg1) = m ((c.tc : Thread Cert.DpB.nD Cert.DpB.τ).loc Cert.DpB.main_arg1))
      ∧ r.2.sem = fun _ => 0)

def quiescent_DpBIdeal [hDpBIdeal : Cert.DpBIdeal.Facts] : Prop :=
  ∀ (m : (ℓ : Loc Cert.DpBIdeal.nD Cert.DpBIdeal.τ Cert.DpBIdeal.sig) → Buf (Elt Ideal) ℓ) (g : Dev Cert.DpBIdeal.nD → PrngReg), Pre_DpBIdeal m →
    θ_run (Cert.DpBIdeal.defs (F := Ideal)) (onTc (τ := Cert.DpBIdeal.τ) (Cert.DpBIdeal.main (F := Ideal))) ⟨m, fun _ => 0, g⟩ (fun r => (∀ c : Dev Cert.DpBIdeal.nD,
      r.2.mem ((c.tc : Thread Cert.DpBIdeal.nD Cert.DpBIdeal.τ).loc Cert.DpBIdeal.main_arg0) = m ((c.tc : Thread Cert.DpBIdeal.nD Cert.DpBIdeal.τ).loc Cert.DpBIdeal.main_arg0)
      ∧ r.2.mem ((c.tc : Thread Cert.DpBIdeal.nD Cert.DpBIdeal.τ).loc Cert.DpBIdeal.main_arg1) = m ((c.tc : Thread Cert.DpBIdeal.nD Cert.DpBIdeal.τ).loc Cert.DpBIdeal.main_arg1))
      ∧ r.2.sem = fun _ => 0)

def quiescent_DpBReferenceIdeal [hDpBReferenceIdeal : Cert.DpBReferenceIdeal.Facts] : Prop :=
  ∀ (m : (ℓ : Loc Cert.DpBReferenceIdeal.nD Cert.DpBReferenceIdeal.τ Cert.DpBReferenceIdeal.sig) → Buf (Elt Ideal) ℓ) (g : Dev Cert.DpBReferenceIdeal.nD → PrngReg), Pre_DpBReferenceIdeal m →
    θ_run (Cert.DpBReferenceIdeal.defs (F := Ideal)) (onTc (τ := Cert.DpBReferenceIdeal.τ) (Cert.DpBReferenceIdeal.main (F := Ideal))) ⟨m, fun _ => 0, g⟩ (fun r => (∀ c : Dev Cert.DpBReferenceIdeal.nD,
      r.2.mem ((c.tc : Thread Cert.DpBReferenceIdeal.nD Cert.DpBReferenceIdeal.τ).loc Cert.DpBReferenceIdeal.main_arg0) = m ((c.tc : Thread Cert.DpBReferenceIdeal.nD Cert.DpBReferenceIdeal.τ).loc Cert.DpBReferenceIdeal.main_arg0)
      ∧ r.2.mem ((c.tc : Thread Cert.DpBReferenceIdeal.nD Cert.DpBReferenceIdeal.τ).loc Cert.DpBReferenceIdeal.main_arg1) = m ((c.tc : Thread Cert.DpBReferenceIdeal.nD Cert.DpBReferenceIdeal.τ).loc Cert.DpBReferenceIdeal.main_arg1))
      ∧ r.2.sem = fun _ => 0)

def quiescent_DwSmall [hDwSmall : Cert.DwSmall.Facts] : Prop :=
  ∀ (m : (ℓ : Loc Cert.DwSmall.nD Cert.DwSmall.τ Cert.DwSmall.sig) → Buf (Elt Bits) ℓ) (g : Dev Cert.DwSmall.nD → PrngReg), Pre_DwSmall m →
    θ_run (Cert.DwSmall.defs (F := Bits)) (onTc (τ := Cert.DwSmall.τ) (Cert.DwSmall.main (F := Bits))) ⟨m, fun _ => 0, g⟩ (fun r => (∀ c : Dev Cert.DwSmall.nD,
      r.2.mem ((c.tc : Thread Cert.DwSmall.nD Cert.DwSmall.τ).loc Cert.DwSmall.main_arg0) = m ((c.tc : Thread Cert.DwSmall.nD Cert.DwSmall.τ).loc Cert.DwSmall.main_arg0)
      ∧ r.2.mem ((c.tc : Thread Cert.DwSmall.nD Cert.DwSmall.τ).loc Cert.DwSmall.main_arg1) = m ((c.tc : Thread Cert.DwSmall.nD Cert.DwSmall.τ).loc Cert.DwSmall.main_arg1))
      ∧ r.2.sem = fun _ => 0)

def quiescent_DwSmallIdeal [hDwSmallIdeal : Cert.DwSmallIdeal.Facts] : Prop :=
  ∀ (m : (ℓ : Loc Cert.DwSmallIdeal.nD Cert.DwSmallIdeal.τ Cert.DwSmallIdeal.sig) → Buf (Elt Ideal) ℓ) (g : Dev Cert.DwSmallIdeal.nD → PrngReg), Pre_DwSmallIdeal m →
    θ_run (Cert.DwSmallIdeal.defs (F := Ideal)) (onTc (τ := Cert.DwSmallIdeal.τ) (Cert.DwSmallIdeal.main (F := Ideal))) ⟨m, fun _ => 0, g⟩ (fun r => (∀ c : Dev Cert.DwSmallIdeal.nD,
      r.2.mem ((c.tc : Thread Cert.DwSmallIdeal.nD Cert.DwSmallIdeal.τ).loc Cert.DwSmallIdeal.main_arg0) = m ((c.tc : Thread Cert.DwSmallIdeal.nD Cert.DwSmallIdeal.τ).loc Cert.DwSmallIdeal.main_arg0)
      ∧ r.2.mem ((c.tc : Thread Cert.DwSmallIdeal.nD Cert.DwSmallIdeal.τ).loc Cert.DwSmallIdeal.main_arg1) = m ((c.tc : Thread Cert.DwSmallIdeal.nD Cert.DwSmallIdeal.τ).loc Cert.DwSmallIdeal.main_arg1))
      ∧ r.2.sem = fun _ => 0)

def quiescent_DwSmallReferenceIdeal [hDwSmallReferenceIdeal : Cert.DwSmallReferenceIdeal.Facts] : Prop :=
  ∀ (m : (ℓ : Loc Cert.DwSmallReferenceIdeal.nD Cert.DwSmallReferenceIdeal.τ Cert.DwSmallReferenceIdeal.sig) → Buf (Elt Ideal) ℓ) (g : Dev Cert.DwSmallReferenceIdeal.nD → PrngReg), Pre_DwSmallReferenceIdeal m →
    θ_run (Cert.DwSmallReferenceIdeal.defs (F := Ideal)) (onTc (τ := Cert.DwSmallReferenceIdeal.τ) (Cert.DwSmallReferenceIdeal.main (F := Ideal))) ⟨m, fun _ => 0, g⟩ (fun r => (∀ c : Dev Cert.DwSmallReferenceIdeal.nD,
      r.2.mem ((c.tc : Thread Cert.DwSmallReferenceIdeal.nD Cert.DwSmallReferenceIdeal.τ).loc Cert.DwSmallReferenceIdeal.main_arg0) = m ((c.tc : Thread Cert.DwSmallReferenceIdeal.nD Cert.DwSmallReferenceIdeal.τ).loc Cert.DwSmallReferenceIdeal.main_arg0)
      ∧ r.2.mem ((c.tc : Thread Cert.DwSmallReferenceIdeal.nD Cert.DwSmallReferenceIdeal.τ).loc Cert.DwSmallReferenceIdeal.main_arg1) = m ((c.tc : Thread Cert.DwSmallReferenceIdeal.nD Cert.DwSmallReferenceIdeal.τ).loc Cert.DwSmallReferenceIdeal.main_arg1))
      ∧ r.2.sem = fun _ => 0)

def quiescent_DUSmall [hDUSmall : Cert.DUSmall.Facts] : Prop :=
  ∀ (m : (ℓ : Loc Cert.DUSmall.nD Cert.DUSmall.τ Cert.DUSmall.sig) → Buf (Elt Bits) ℓ) (g : Dev Cert.DUSmall.nD → PrngReg), Pre_DUSmall m →
    θ_run (Cert.DUSmall.defs (F := Bits)) (onTc (τ := Cert.DUSmall.τ) (Cert.DUSmall.main (F := Bits))) ⟨m, fun _ => 0, g⟩ (fun r => (∀ c : Dev Cert.DUSmall.nD,
      r.2.mem ((c.tc : Thread Cert.DUSmall.nD Cert.DUSmall.τ).loc Cert.DUSmall.main_arg0) = m ((c.tc : Thread Cert.DUSmall.nD Cert.DUSmall.τ).loc Cert.DUSmall.main_arg0)
      ∧ r.2.mem ((c.tc : Thread Cert.DUSmall.nD Cert.DUSmall.τ).loc Cert.DUSmall.main_arg1) = m ((c.tc : Thread Cert.DUSmall.nD Cert.DUSmall.τ).loc Cert.DUSmall.main_arg1))
      ∧ r.2.sem = fun _ => 0)

def quiescent_DUSmallIdeal [hDUSmallIdeal : Cert.DUSmallIdeal.Facts] : Prop :=
  ∀ (m : (ℓ : Loc Cert.DUSmallIdeal.nD Cert.DUSmallIdeal.τ Cert.DUSmallIdeal.sig) → Buf (Elt Ideal) ℓ) (g : Dev Cert.DUSmallIdeal.nD → PrngReg), Pre_DUSmallIdeal m →
    θ_run (Cert.DUSmallIdeal.defs (F := Ideal)) (onTc (τ := Cert.DUSmallIdeal.τ) (Cert.DUSmallIdeal.main (F := Ideal))) ⟨m, fun _ => 0, g⟩ (fun r => (∀ c : Dev Cert.DUSmallIdeal.nD,
      r.2.mem ((c.tc : Thread Cert.DUSmallIdeal.nD Cert.DUSmallIdeal.τ).loc Cert.DUSmallIdeal.main_arg0) = m ((c.tc : Thread Cert.DUSmallIdeal.nD Cert.DUSmallIdeal.τ).loc Cert.DUSmallIdeal.main_arg0)
      ∧ r.2.mem ((c.tc : Thread Cert.DUSmallIdeal.nD Cert.DUSmallIdeal.τ).loc Cert.DUSmallIdeal.main_arg1) = m ((c.tc : Thread Cert.DUSmallIdeal.nD Cert.DUSmallIdeal.τ).loc Cert.DUSmallIdeal.main_arg1))
      ∧ r.2.sem = fun _ => 0)

def quiescent_DUSmallReferenceIdeal [hDUSmallReferenceIdeal : Cert.DUSmallReferenceIdeal.Facts] : Prop :=
  ∀ (m : (ℓ : Loc Cert.DUSmallReferenceIdeal.nD Cert.DUSmallReferenceIdeal.τ Cert.DUSmallReferenceIdeal.sig) → Buf (Elt Ideal) ℓ) (g : Dev Cert.DUSmallReferenceIdeal.nD → PrngReg), Pre_DUSmallReferenceIdeal m →
    θ_run (Cert.DUSmallReferenceIdeal.defs (F := Ideal)) (onTc (τ := Cert.DUSmallReferenceIdeal.τ) (Cert.DUSmallReferenceIdeal.main (F := Ideal))) ⟨m, fun _ => 0, g⟩ (fun r => (∀ c : Dev Cert.DUSmallReferenceIdeal.nD,
      r.2.mem ((c.tc : Thread Cert.DUSmallReferenceIdeal.nD Cert.DUSmallReferenceIdeal.τ).loc Cert.DUSmallReferenceIdeal.main_arg0) = m ((c.tc : Thread Cert.DUSmallReferenceIdeal.nD Cert.DUSmallReferenceIdeal.τ).loc Cert.DUSmallReferenceIdeal.main_arg0)
      ∧ r.2.mem ((c.tc : Thread Cert.DUSmallReferenceIdeal.nD Cert.DUSmallReferenceIdeal.τ).loc Cert.DUSmallReferenceIdeal.main_arg1) = m ((c.tc : Thread Cert.DUSmallReferenceIdeal.nD Cert.DUSmallReferenceIdeal.τ).loc Cert.DUSmallReferenceIdeal.main_arg1))
      ∧ r.2.sem = fun _ => 0)

def quiescent_DUFirst [hDUFirst : Cert.DUFirst.Facts] : Prop :=
  ∀ (m : (ℓ : Loc Cert.DUFirst.nD Cert.DUFirst.τ Cert.DUFirst.sig) → Buf (Elt Bits) ℓ) (g : Dev Cert.DUFirst.nD → PrngReg), Pre_DUFirst m →
    θ_run (Cert.DUFirst.defs (F := Bits)) (onTc (τ := Cert.DUFirst.τ) (Cert.DUFirst.main (F := Bits))) ⟨m, fun _ => 0, g⟩ (fun r => (∀ c : Dev Cert.DUFirst.nD,
      r.2.mem ((c.tc : Thread Cert.DUFirst.nD Cert.DUFirst.τ).loc Cert.DUFirst.main_arg0) = m ((c.tc : Thread Cert.DUFirst.nD Cert.DUFirst.τ).loc Cert.DUFirst.main_arg0)
      ∧ r.2.mem ((c.tc : Thread Cert.DUFirst.nD Cert.DUFirst.τ).loc Cert.DUFirst.main_arg1) = m ((c.tc : Thread Cert.DUFirst.nD Cert.DUFirst.τ).loc Cert.DUFirst.main_arg1)
      ∧ r.2.mem ((c.tc : Thread Cert.DUFirst.nD Cert.DUFirst.τ).loc Cert.DUFirst.main_arg2) = m ((c.tc : Thread Cert.DUFirst.nD Cert.DUFirst.τ).loc Cert.DUFirst.main_arg2))
      ∧ r.2.sem = fun _ => 0)

def quiescent_DUFirstIdeal [hDUFirstIdeal : Cert.DUFirstIdeal.Facts] : Prop :=
  ∀ (m : (ℓ : Loc Cert.DUFirstIdeal.nD Cert.DUFirstIdeal.τ Cert.DUFirstIdeal.sig) → Buf (Elt Ideal) ℓ) (g : Dev Cert.DUFirstIdeal.nD → PrngReg), Pre_DUFirstIdeal m →
    θ_run (Cert.DUFirstIdeal.defs (F := Ideal)) (onTc (τ := Cert.DUFirstIdeal.τ) (Cert.DUFirstIdeal.main (F := Ideal))) ⟨m, fun _ => 0, g⟩ (fun r => (∀ c : Dev Cert.DUFirstIdeal.nD,
      r.2.mem ((c.tc : Thread Cert.DUFirstIdeal.nD Cert.DUFirstIdeal.τ).loc Cert.DUFirstIdeal.main_arg0) = m ((c.tc : Thread Cert.DUFirstIdeal.nD Cert.DUFirstIdeal.τ).loc Cert.DUFirstIdeal.main_arg0)
      ∧ r.2.mem ((c.tc : Thread Cert.DUFirstIdeal.nD Cert.DUFirstIdeal.τ).loc Cert.DUFirstIdeal.main_arg1) = m ((c.tc : Thread Cert.DUFirstIdeal.nD Cert.DUFirstIdeal.τ).loc Cert.DUFirstIdeal.main_arg1)
      ∧ r.2.mem ((c.tc : Thread Cert.DUFirstIdeal.nD Cert.DUFirstIdeal.τ).loc Cert.DUFirstIdeal.main_arg2) = m ((c.tc : Thread Cert.DUFirstIdeal.nD Cert.DUFirstIdeal.τ).loc Cert.DUFirstIdeal.main_arg2))
      ∧ r.2.sem = fun _ => 0)

def quiescent_DUFirstReferenceIdeal [hDUFirstReferenceIdeal : Cert.DUFirstReferenceIdeal.Facts] : Prop :=
  ∀ (m : (ℓ : Loc Cert.DUFirstReferenceIdeal.nD Cert.DUFirstReferenceIdeal.τ Cert.DUFirstReferenceIdeal.sig) → Buf (Elt Ideal) ℓ) (g : Dev Cert.DUFirstReferenceIdeal.nD → PrngReg), Pre_DUFirstReferenceIdeal m →
    θ_run (Cert.DUFirstReferenceIdeal.defs (F := Ideal)) (onTc (τ := Cert.DUFirstReferenceIdeal.τ) (Cert.DUFirstReferenceIdeal.main (F := Ideal))) ⟨m, fun _ => 0, g⟩ (fun r => (∀ c : Dev Cert.DUFirstReferenceIdeal.nD,
      r.2.mem ((c.tc : Thread Cert.DUFirstReferenceIdeal.nD Cert.DUFirstReferenceIdeal.τ).loc Cert.DUFirstReferenceIdeal.main_arg0) = m ((c.tc : Thread Cert.DUFirstReferenceIdeal.nD Cert.DUFirstReferenceIdeal.τ).loc Cert.DUFirstReferenceIdeal.main_arg0)
      ∧ r.2.mem ((c.tc : Thread Cert.DUFirstReferenceIdeal.nD Cert.DUFirstReferenceIdeal.τ).loc Cert.DUFirstReferenceIdeal.main_arg1) = m ((c.tc : Thread Cert.DUFirstReferenceIdeal.nD Cert.DUFirstReferenceIdeal.τ).loc Cert.DUFirstReferenceIdeal.main_arg1)
      ∧ r.2.mem ((c.tc : Thread Cert.DUFirstReferenceIdeal.nD Cert.DUFirstReferenceIdeal.τ).loc Cert.DUFirstReferenceIdeal.main_arg2) = m ((c.tc : Thread Cert.DUFirstReferenceIdeal.nD Cert.DUFirstReferenceIdeal.τ).loc Cert.DUFirstReferenceIdeal.main_arg2))
      ∧ r.2.sem = fun _ => 0)

def quiescent_DUSecond [hDUSecond : Cert.DUSecond.Facts] : Prop :=
  ∀ (m : (ℓ : Loc Cert.DUSecond.nD Cert.DUSecond.τ Cert.DUSecond.sig) → Buf (Elt Bits) ℓ) (g : Dev Cert.DUSecond.nD → PrngReg), Pre_DUSecond m →
    θ_run (Cert.DUSecond.defs (F := Bits)) (onTc (τ := Cert.DUSecond.τ) (Cert.DUSecond.main (F := Bits))) ⟨m, fun _ => 0, g⟩ (fun r => (∀ c : Dev Cert.DUSecond.nD,
      r.2.mem ((c.tc : Thread Cert.DUSecond.nD Cert.DUSecond.τ).loc Cert.DUSecond.main_arg0) = m ((c.tc : Thread Cert.DUSecond.nD Cert.DUSecond.τ).loc Cert.DUSecond.main_arg0)
      ∧ r.2.mem ((c.tc : Thread Cert.DUSecond.nD Cert.DUSecond.τ).loc Cert.DUSecond.main_arg1) = m ((c.tc : Thread Cert.DUSecond.nD Cert.DUSecond.τ).loc Cert.DUSecond.main_arg1)
      ∧ r.2.mem ((c.tc : Thread Cert.DUSecond.nD Cert.DUSecond.τ).loc Cert.DUSecond.main_arg2) = m ((c.tc : Thread Cert.DUSecond.nD Cert.DUSecond.τ).loc Cert.DUSecond.main_arg2))
      ∧ r.2.sem = fun _ => 0)

def quiescent_DUSecondIdeal [hDUSecondIdeal : Cert.DUSecondIdeal.Facts] : Prop :=
  ∀ (m : (ℓ : Loc Cert.DUSecondIdeal.nD Cert.DUSecondIdeal.τ Cert.DUSecondIdeal.sig) → Buf (Elt Ideal) ℓ) (g : Dev Cert.DUSecondIdeal.nD → PrngReg), Pre_DUSecondIdeal m →
    θ_run (Cert.DUSecondIdeal.defs (F := Ideal)) (onTc (τ := Cert.DUSecondIdeal.τ) (Cert.DUSecondIdeal.main (F := Ideal))) ⟨m, fun _ => 0, g⟩ (fun r => (∀ c : Dev Cert.DUSecondIdeal.nD,
      r.2.mem ((c.tc : Thread Cert.DUSecondIdeal.nD Cert.DUSecondIdeal.τ).loc Cert.DUSecondIdeal.main_arg0) = m ((c.tc : Thread Cert.DUSecondIdeal.nD Cert.DUSecondIdeal.τ).loc Cert.DUSecondIdeal.main_arg0)
      ∧ r.2.mem ((c.tc : Thread Cert.DUSecondIdeal.nD Cert.DUSecondIdeal.τ).loc Cert.DUSecondIdeal.main_arg1) = m ((c.tc : Thread Cert.DUSecondIdeal.nD Cert.DUSecondIdeal.τ).loc Cert.DUSecondIdeal.main_arg1)
      ∧ r.2.mem ((c.tc : Thread Cert.DUSecondIdeal.nD Cert.DUSecondIdeal.τ).loc Cert.DUSecondIdeal.main_arg2) = m ((c.tc : Thread Cert.DUSecondIdeal.nD Cert.DUSecondIdeal.τ).loc Cert.DUSecondIdeal.main_arg2))
      ∧ r.2.sem = fun _ => 0)

def quiescent_DUSecondReferenceIdeal [hDUSecondReferenceIdeal : Cert.DUSecondReferenceIdeal.Facts] : Prop :=
  ∀ (m : (ℓ : Loc Cert.DUSecondReferenceIdeal.nD Cert.DUSecondReferenceIdeal.τ Cert.DUSecondReferenceIdeal.sig) → Buf (Elt Ideal) ℓ) (g : Dev Cert.DUSecondReferenceIdeal.nD → PrngReg), Pre_DUSecondReferenceIdeal m →
    θ_run (Cert.DUSecondReferenceIdeal.defs (F := Ideal)) (onTc (τ := Cert.DUSecondReferenceIdeal.τ) (Cert.DUSecondReferenceIdeal.main (F := Ideal))) ⟨m, fun _ => 0, g⟩ (fun r => (∀ c : Dev Cert.DUSecondReferenceIdeal.nD,
      r.2.mem ((c.tc : Thread Cert.DUSecondReferenceIdeal.nD Cert.DUSecondReferenceIdeal.τ).loc Cert.DUSecondReferenceIdeal.main_arg0) = m ((c.tc : Thread Cert.DUSecondReferenceIdeal.nD Cert.DUSecondReferenceIdeal.τ).loc Cert.DUSecondReferenceIdeal.main_arg0)
      ∧ r.2.mem ((c.tc : Thread Cert.DUSecondReferenceIdeal.nD Cert.DUSecondReferenceIdeal.τ).loc Cert.DUSecondReferenceIdeal.main_arg1) = m ((c.tc : Thread Cert.DUSecondReferenceIdeal.nD Cert.DUSecondReferenceIdeal.τ).loc Cert.DUSecondReferenceIdeal.main_arg1)
      ∧ r.2.mem ((c.tc : Thread Cert.DUSecondReferenceIdeal.nD Cert.DUSecondReferenceIdeal.τ).loc Cert.DUSecondReferenceIdeal.main_arg2) = m ((c.tc : Thread Cert.DUSecondReferenceIdeal.nD Cert.DUSecondReferenceIdeal.τ).loc Cert.DUSecondReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamPa [hAdamPa : Cert.AdamPa.Facts] : Prop :=
  ∀ (m : (ℓ : Loc Cert.AdamPa.nD Cert.AdamPa.τ Cert.AdamPa.sig) → Buf (Elt Bits) ℓ) (g : Dev Cert.AdamPa.nD → PrngReg), Pre_AdamPa m →
    θ_run (Cert.AdamPa.defs (F := Bits)) (onTc (τ := Cert.AdamPa.τ) (Cert.AdamPa.main (F := Bits))) ⟨m, fun _ => 0, g⟩ (fun r => (∀ c : Dev Cert.AdamPa.nD,
      r.2.mem ((c.tc : Thread Cert.AdamPa.nD Cert.AdamPa.τ).loc Cert.AdamPa.main_arg0) = m ((c.tc : Thread Cert.AdamPa.nD Cert.AdamPa.τ).loc Cert.AdamPa.main_arg0)
      ∧ r.2.mem ((c.tc : Thread Cert.AdamPa.nD Cert.AdamPa.τ).loc Cert.AdamPa.main_arg1) = m ((c.tc : Thread Cert.AdamPa.nD Cert.AdamPa.τ).loc Cert.AdamPa.main_arg1)
      ∧ r.2.mem ((c.tc : Thread Cert.AdamPa.nD Cert.AdamPa.τ).loc Cert.AdamPa.main_arg2) = m ((c.tc : Thread Cert.AdamPa.nD Cert.AdamPa.τ).loc Cert.AdamPa.main_arg2)
      ∧ r.2.mem ((c.tc : Thread Cert.AdamPa.nD Cert.AdamPa.τ).loc Cert.AdamPa.main_arg3) = m ((c.tc : Thread Cert.AdamPa.nD Cert.AdamPa.τ).loc Cert.AdamPa.main_arg3)
      ∧ r.2.mem ((c.tc : Thread Cert.AdamPa.nD Cert.AdamPa.τ).loc Cert.AdamPa.main_arg4) = m ((c.tc : Thread Cert.AdamPa.nD Cert.AdamPa.τ).loc Cert.AdamPa.main_arg4)
      ∧ r.2.mem ((c.tc : Thread Cert.AdamPa.nD Cert.AdamPa.τ).loc Cert.AdamPa.main_arg5) = m ((c.tc : Thread Cert.AdamPa.nD Cert.AdamPa.τ).loc Cert.AdamPa.main_arg5))
      ∧ r.2.sem = fun _ => 0)

def quiescent_AdamPaIdeal [hAdamPaIdeal : Cert.AdamPaIdeal.Facts] : Prop :=
  ∀ (m : (ℓ : Loc Cert.AdamPaIdeal.nD Cert.AdamPaIdeal.τ Cert.AdamPaIdeal.sig) → Buf (Elt Ideal) ℓ) (g : Dev Cert.AdamPaIdeal.nD → PrngReg), Pre_AdamPaIdeal m →
    θ_run (Cert.AdamPaIdeal.defs (F := Ideal)) (onTc (τ := Cert.AdamPaIdeal.τ) (Cert.AdamPaIdeal.main (F := Ideal))) ⟨m, fun _ => 0, g⟩ (fun r => (∀ c : Dev Cert.AdamPaIdeal.nD,
      r.2.mem ((c.tc : Thread Cert.AdamPaIdeal.nD Cert.AdamPaIdeal.τ).loc Cert.AdamPaIdeal.main_arg0) = m ((c.tc : Thread Cert.AdamPaIdeal.nD Cert.AdamPaIdeal.τ).loc Cert.AdamPaIdeal.main_arg0)
      ∧ r.2.mem ((c.tc : Thread Cert.AdamPaIdeal.nD Cert.AdamPaIdeal.τ).loc Cert.AdamPaIdeal.main_arg1) = m ((c.tc : Thread Cert.AdamPaIdeal.nD Cert.AdamPaIdeal.τ).loc Cert.AdamPaIdeal.main_arg1)
      ∧ r.2.mem ((c.tc : Thread Cert.AdamPaIdeal.nD Cert.AdamPaIdeal.τ).loc Cert.AdamPaIdeal.main_arg2) = m ((c.tc : Thread Cert.AdamPaIdeal.nD Cert.AdamPaIdeal.τ).loc Cert.AdamPaIdeal.main_arg2)
      ∧ r.2.mem ((c.tc : Thread Cert.AdamPaIdeal.nD Cert.AdamPaIdeal.τ).loc Cert.AdamPaIdeal.main_arg3) = m ((c.tc : Thread Cert.AdamPaIdeal.nD Cert.AdamPaIdeal.τ).loc Cert.AdamPaIdeal.main_arg3)
      ∧ r.2.mem ((c.tc : Thread Cert.AdamPaIdeal.nD Cert.AdamPaIdeal.τ).loc Cert.AdamPaIdeal.main_arg4) = m ((c.tc : Thread Cert.AdamPaIdeal.nD Cert.AdamPaIdeal.τ).loc Cert.AdamPaIdeal.main_arg4)
      ∧ r.2.mem ((c.tc : Thread Cert.AdamPaIdeal.nD Cert.AdamPaIdeal.τ).loc Cert.AdamPaIdeal.main_arg5) = m ((c.tc : Thread Cert.AdamPaIdeal.nD Cert.AdamPaIdeal.τ).loc Cert.AdamPaIdeal.main_arg5))
      ∧ r.2.sem = fun _ => 0)

def quiescent_AdamPaReferenceIdeal [hAdamPaReferenceIdeal : Cert.AdamPaReferenceIdeal.Facts] : Prop :=
  ∀ (m : (ℓ : Loc Cert.AdamPaReferenceIdeal.nD Cert.AdamPaReferenceIdeal.τ Cert.AdamPaReferenceIdeal.sig) → Buf (Elt Ideal) ℓ) (g : Dev Cert.AdamPaReferenceIdeal.nD → PrngReg), Pre_AdamPaReferenceIdeal m →
    θ_run (Cert.AdamPaReferenceIdeal.defs (F := Ideal)) (onTc (τ := Cert.AdamPaReferenceIdeal.τ) (Cert.AdamPaReferenceIdeal.main (F := Ideal))) ⟨m, fun _ => 0, g⟩ (fun r => (∀ c : Dev Cert.AdamPaReferenceIdeal.nD,
      r.2.mem ((c.tc : Thread Cert.AdamPaReferenceIdeal.nD Cert.AdamPaReferenceIdeal.τ).loc Cert.AdamPaReferenceIdeal.main_arg0) = m ((c.tc : Thread Cert.AdamPaReferenceIdeal.nD Cert.AdamPaReferenceIdeal.τ).loc Cert.AdamPaReferenceIdeal.main_arg0)
      ∧ r.2.mem ((c.tc : Thread Cert.AdamPaReferenceIdeal.nD Cert.AdamPaReferenceIdeal.τ).loc Cert.AdamPaReferenceIdeal.main_arg1) = m ((c.tc : Thread Cert.AdamPaReferenceIdeal.nD Cert.AdamPaReferenceIdeal.τ).loc Cert.AdamPaReferenceIdeal.main_arg1)
      ∧ r.2.mem ((c.tc : Thread Cert.AdamPaReferenceIdeal.nD Cert.AdamPaReferenceIdeal.τ).loc Cert.AdamPaReferenceIdeal.main_arg2) = m ((c.tc : Thread Cert.AdamPaReferenceIdeal.nD Cert.AdamPaReferenceIdeal.τ).loc Cert.AdamPaReferenceIdeal.main_arg2)
      ∧ r.2.mem ((c.tc : Thread Cert.AdamPaReferenceIdeal.nD Cert.AdamPaReferenceIdeal.τ).loc Cert.AdamPaReferenceIdeal.main_arg3) = m ((c.tc : Thread Cert.AdamPaReferenceIdeal.nD Cert.AdamPaReferenceIdeal.τ).loc Cert.AdamPaReferenceIdeal.main_arg3)
      ∧ r.2.mem ((c.tc : Thread Cert.AdamPaReferenceIdeal.nD Cert.AdamPaReferenceIdeal.τ).loc Cert.AdamPaReferenceIdeal.main_arg4) = m ((c.tc : Thread Cert.AdamPaReferenceIdeal.nD Cert.AdamPaReferenceIdeal.τ).loc Cert.AdamPaReferenceIdeal.main_arg4)
      ∧ r.2.mem ((c.tc : Thread Cert.AdamPaReferenceIdeal.nD Cert.AdamPaReferenceIdeal.τ).loc Cert.AdamPaReferenceIdeal.main_arg5) = m ((c.tc : Thread Cert.AdamPaReferenceIdeal.nD Cert.AdamPaReferenceIdeal.τ).loc Cert.AdamPaReferenceIdeal.main_arg5))
      ∧ r.2.sem = fun _ => 0)

def quiescent_AdamPb [hAdamPb : Cert.AdamPb.Facts] : Prop :=
  ∀ (m : (ℓ : Loc Cert.AdamPb.nD Cert.AdamPb.τ Cert.AdamPb.sig) → Buf (Elt Bits) ℓ) (g : Dev Cert.AdamPb.nD → PrngReg), Pre_AdamPb m →
    θ_run (Cert.AdamPb.defs (F := Bits)) (onTc (τ := Cert.AdamPb.τ) (Cert.AdamPb.main (F := Bits))) ⟨m, fun _ => 0, g⟩ (fun r => (∀ c : Dev Cert.AdamPb.nD,
      r.2.mem ((c.tc : Thread Cert.AdamPb.nD Cert.AdamPb.τ).loc Cert.AdamPb.main_arg0) = m ((c.tc : Thread Cert.AdamPb.nD Cert.AdamPb.τ).loc Cert.AdamPb.main_arg0)
      ∧ r.2.mem ((c.tc : Thread Cert.AdamPb.nD Cert.AdamPb.τ).loc Cert.AdamPb.main_arg1) = m ((c.tc : Thread Cert.AdamPb.nD Cert.AdamPb.τ).loc Cert.AdamPb.main_arg1)
      ∧ r.2.mem ((c.tc : Thread Cert.AdamPb.nD Cert.AdamPb.τ).loc Cert.AdamPb.main_arg2) = m ((c.tc : Thread Cert.AdamPb.nD Cert.AdamPb.τ).loc Cert.AdamPb.main_arg2)
      ∧ r.2.mem ((c.tc : Thread Cert.AdamPb.nD Cert.AdamPb.τ).loc Cert.AdamPb.main_arg3) = m ((c.tc : Thread Cert.AdamPb.nD Cert.AdamPb.τ).loc Cert.AdamPb.main_arg3)
      ∧ r.2.mem ((c.tc : Thread Cert.AdamPb.nD Cert.AdamPb.τ).loc Cert.AdamPb.main_arg4) = m ((c.tc : Thread Cert.AdamPb.nD Cert.AdamPb.τ).loc Cert.AdamPb.main_arg4)
      ∧ r.2.mem ((c.tc : Thread Cert.AdamPb.nD Cert.AdamPb.τ).loc Cert.AdamPb.main_arg5) = m ((c.tc : Thread Cert.AdamPb.nD Cert.AdamPb.τ).loc Cert.AdamPb.main_arg5))
      ∧ r.2.sem = fun _ => 0)

def quiescent_AdamPbIdeal [hAdamPbIdeal : Cert.AdamPbIdeal.Facts] : Prop :=
  ∀ (m : (ℓ : Loc Cert.AdamPbIdeal.nD Cert.AdamPbIdeal.τ Cert.AdamPbIdeal.sig) → Buf (Elt Ideal) ℓ) (g : Dev Cert.AdamPbIdeal.nD → PrngReg), Pre_AdamPbIdeal m →
    θ_run (Cert.AdamPbIdeal.defs (F := Ideal)) (onTc (τ := Cert.AdamPbIdeal.τ) (Cert.AdamPbIdeal.main (F := Ideal))) ⟨m, fun _ => 0, g⟩ (fun r => (∀ c : Dev Cert.AdamPbIdeal.nD,
      r.2.mem ((c.tc : Thread Cert.AdamPbIdeal.nD Cert.AdamPbIdeal.τ).loc Cert.AdamPbIdeal.main_arg0) = m ((c.tc : Thread Cert.AdamPbIdeal.nD Cert.AdamPbIdeal.τ).loc Cert.AdamPbIdeal.main_arg0)
      ∧ r.2.mem ((c.tc : Thread Cert.AdamPbIdeal.nD Cert.AdamPbIdeal.τ).loc Cert.AdamPbIdeal.main_arg1) = m ((c.tc : Thread Cert.AdamPbIdeal.nD Cert.AdamPbIdeal.τ).loc Cert.AdamPbIdeal.main_arg1)
      ∧ r.2.mem ((c.tc : Thread Cert.AdamPbIdeal.nD Cert.AdamPbIdeal.τ).loc Cert.AdamPbIdeal.main_arg2) = m ((c.tc : Thread Cert.AdamPbIdeal.nD Cert.AdamPbIdeal.τ).loc Cert.AdamPbIdeal.main_arg2)
      ∧ r.2.mem ((c.tc : Thread Cert.AdamPbIdeal.nD Cert.AdamPbIdeal.τ).loc Cert.AdamPbIdeal.main_arg3) = m ((c.tc : Thread Cert.AdamPbIdeal.nD Cert.AdamPbIdeal.τ).loc Cert.AdamPbIdeal.main_arg3)
      ∧ r.2.mem ((c.tc : Thread Cert.AdamPbIdeal.nD Cert.AdamPbIdeal.τ).loc Cert.AdamPbIdeal.main_arg4) = m ((c.tc : Thread Cert.AdamPbIdeal.nD Cert.AdamPbIdeal.τ).loc Cert.AdamPbIdeal.main_arg4)
      ∧ r.2.mem ((c.tc : Thread Cert.AdamPbIdeal.nD Cert.AdamPbIdeal.τ).loc Cert.AdamPbIdeal.main_arg5) = m ((c.tc : Thread Cert.AdamPbIdeal.nD Cert.AdamPbIdeal.τ).loc Cert.AdamPbIdeal.main_arg5))
      ∧ r.2.sem = fun _ => 0)

def quiescent_AdamPbReferenceIdeal [hAdamPbReferenceIdeal : Cert.AdamPbReferenceIdeal.Facts] : Prop :=
  ∀ (m : (ℓ : Loc Cert.AdamPbReferenceIdeal.nD Cert.AdamPbReferenceIdeal.τ Cert.AdamPbReferenceIdeal.sig) → Buf (Elt Ideal) ℓ) (g : Dev Cert.AdamPbReferenceIdeal.nD → PrngReg), Pre_AdamPbReferenceIdeal m →
    θ_run (Cert.AdamPbReferenceIdeal.defs (F := Ideal)) (onTc (τ := Cert.AdamPbReferenceIdeal.τ) (Cert.AdamPbReferenceIdeal.main (F := Ideal))) ⟨m, fun _ => 0, g⟩ (fun r => (∀ c : Dev Cert.AdamPbReferenceIdeal.nD,
      r.2.mem ((c.tc : Thread Cert.AdamPbReferenceIdeal.nD Cert.AdamPbReferenceIdeal.τ).loc Cert.AdamPbReferenceIdeal.main_arg0) = m ((c.tc : Thread Cert.AdamPbReferenceIdeal.nD Cert.AdamPbReferenceIdeal.τ).loc Cert.AdamPbReferenceIdeal.main_arg0)
      ∧ r.2.mem ((c.tc : Thread Cert.AdamPbReferenceIdeal.nD Cert.AdamPbReferenceIdeal.τ).loc Cert.AdamPbReferenceIdeal.main_arg1) = m ((c.tc : Thread Cert.AdamPbReferenceIdeal.nD Cert.AdamPbReferenceIdeal.τ).loc Cert.AdamPbReferenceIdeal.main_arg1)
      ∧ r.2.mem ((c.tc : Thread Cert.AdamPbReferenceIdeal.nD Cert.AdamPbReferenceIdeal.τ).loc Cert.AdamPbReferenceIdeal.main_arg2) = m ((c.tc : Thread Cert.AdamPbReferenceIdeal.nD Cert.AdamPbReferenceIdeal.τ).loc Cert.AdamPbReferenceIdeal.main_arg2)
      ∧ r.2.mem ((c.tc : Thread Cert.AdamPbReferenceIdeal.nD Cert.AdamPbReferenceIdeal.τ).loc Cert.AdamPbReferenceIdeal.main_arg3) = m ((c.tc : Thread Cert.AdamPbReferenceIdeal.nD Cert.AdamPbReferenceIdeal.τ).loc Cert.AdamPbReferenceIdeal.main_arg3)
      ∧ r.2.mem ((c.tc : Thread Cert.AdamPbReferenceIdeal.nD Cert.AdamPbReferenceIdeal.τ).loc Cert.AdamPbReferenceIdeal.main_arg4) = m ((c.tc : Thread Cert.AdamPbReferenceIdeal.nD Cert.AdamPbReferenceIdeal.τ).loc Cert.AdamPbReferenceIdeal.main_arg4)
      ∧ r.2.mem ((c.tc : Thread Cert.AdamPbReferenceIdeal.nD Cert.AdamPbReferenceIdeal.τ).loc Cert.AdamPbReferenceIdeal.main_arg5) = m ((c.tc : Thread Cert.AdamPbReferenceIdeal.nD Cert.AdamPbReferenceIdeal.τ).loc Cert.AdamPbReferenceIdeal.main_arg5))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4)
      ∧ r.2.mem ((c.tc : Thread Cert.AdamUpReferenceIdeal.nD Cert.AdamUpReferenceIdeal.τ).loc Cert.AdamUpReferenceIdeal.main_arg5) = m ((c.tc : Thread Cert.AdamUpReferenceIdeal.nD Cert.AdamUpReferenceIdeal.τ).loc Cert.AdamUpReferenceIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5))
      ∧ r.2.sem = fun _ => 0)

def quiescent_DX [hDX : Cert.DX.Facts] : Prop :=
  ∀ (m : (ℓ : Loc Cert.DX.nD Cert.DX.τ Cert.DX.sig) → Buf (Elt Bits) ℓ) (g : Dev Cert.DX.nD → PrngReg), Pre_DX m →
    θ_run (Cert.DX.defs (F := Bits)) (onTc (τ := Cert.DX.τ) (Cert.DX.main (F := Bits))) ⟨m, fun _ => 0, g⟩ (fun r => (∀ c : Dev Cert.DX.nD,
      r.2.mem ((c.tc : Thread Cert.DX.nD Cert.DX.τ).loc Cert.DX.main_arg0) = m ((c.tc : Thread Cert.DX.nD Cert.DX.τ).loc Cert.DX.main_arg0)
      ∧ r.2.mem ((c.tc : Thread Cert.DX.nD Cert.DX.τ).loc Cert.DX.main_arg1) = m ((c.tc : Thread Cert.DX.nD Cert.DX.τ).loc Cert.DX.main_arg1)
      ∧ r.2.mem ((c.tc : Thread Cert.DX.nD Cert.DX.τ).loc Cert.DX.main_arg2) = m ((c.tc : Thread Cert.DX.nD Cert.DX.τ).loc Cert.DX.main_arg2)
      ∧ r.2.mem ((c.tc : Thread Cert.DX.nD Cert.DX.τ).loc Cert.DX.main_arg3) = m ((c.tc : Thread Cert.DX.nD Cert.DX.τ).loc Cert.DX.main_arg3))
      ∧ r.2.sem = fun _ => 0)

def quiescent_DXIdeal [hDXIdeal : Cert.DXIdeal.Facts] : Prop :=
  ∀ (m : (ℓ : Loc Cert.DXIdeal.nD Cert.DXIdeal.τ Cert.DXIdeal.sig) → Buf (Elt Ideal) ℓ) (g : Dev Cert.DXIdeal.nD → PrngReg), Pre_DXIdeal m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
      ∧ r.2.mem ((c.tc : Thread Cert.DXIdeal.nD Cert.DXIdeal.τ).loc Cert.DXIdeal.main_arg2) = m ((c.tc : Thread Cert.DXIdeal.nD Cert.DXIdeal.τ).loc Cert.DXIdeal.main_arg2)
      ∧ r.2.mem ((c.tc : Thread Cert.DXIdeal.nD Cert.DXIdeal.τ).loc Cert.DXIdeal.main_arg3) = m ((c.tc : Thread Cert.DXIdeal.nD Cert.DXIdeal.τ).loc Cert.DXIdeal.main_arg3))
      ∧ r.2.sem = fun _ => 0)

def quiescent_DXReferenceIdeal [hDXReferenceIdeal : Cert.DXReferenceIdeal.Facts] : Prop :=
  ∀ (m : (ℓ : Loc Cert.DXReferenceIdeal.nD Cert.DXReferenceIdeal.τ Cert.DXReferenceIdeal.sig) → Buf (Elt Ideal) ℓ) (g : Dev Cert.DXReferenceIdeal.nD → PrngReg), Pre_DXReferenceIdeal m →
    θ_run (Cert.DXReferenceIdeal.defs (F := Ideal)) (onTc (τ := Cert.DXReferenceIdeal.τ) (Cert.DXReferenceIdeal.main (F := Ideal))) ⟨m, fun _ => 0, g⟩ (fun r => (∀ c : Dev Cert.DXReferenceIdeal.nD,
      r.2.mem ((c.tc : Thread Cert.DXReferenceIdeal.nD Cert.DXReferenceIdeal.τ).loc Cert.DXReferenceIdeal.main_arg0) = m ((c.tc : Thread Cert.DXReferenceIdeal.nD Cert.DXReferenceIdeal.τ).loc Cert.DXReferenceIdeal.main_arg0)
      ∧ r.2.mem ((c.tc : Thread Cert.DXReferenceIdeal.nD Cert.DXReferenceIdeal.τ).loc Cert.DXReferenceIdeal.main_arg1) = m ((c.tc : Thread Cert.DXReferenceIdeal.nD Cert.DXReferenceIdeal.τ).loc Cert.DXReferenceIdeal.main_arg1)
      ∧ r.2.mem ((c.tc : Thread Cert.DXReferenceIdeal.nD Cert.DXReferenceIdeal.τ).loc Cert.DXReferenceIdeal.main_arg2) = m ((c.tc : Thread Cert.DXReferenceIdeal.nD Cert.DXReferenceIdeal.τ).loc Cert.DXReferenceIdeal.main_arg2)
      ∧ r.2.mem ((c.tc : Thread Cert.DXReferenceIdeal.nD Cert.DXReferenceIdeal.τ).loc Cert.DXReferenceIdeal.main_arg3) = m ((c.tc : Thread Cert.DXReferenceIdeal.nD Cert.DXReferenceIdeal.τ).loc Cert.DXReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_v55) = v5 c
          ∧ r.2.mem ((c.tc : Thread Cert.ReferenceIdeal.nD Cert.ReferenceIdeal.τ).loc Cert.ReferenceIdeal.main_v65) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DwMain_DwMainIdeal : Prop :=
  True

def algebraic_DwMainIdeal_DwMainReferenceIdeal [hDwMainIdeal : Cert.DwMainIdeal.Facts] [hDwMainReferenceIdeal : Cert.DwMainReferenceIdeal.Facts] : Prop :=
  ∀ (m : (ℓ : Loc Cert.DwMainIdeal.nD Cert.DwMainIdeal.τ Cert.DwMainIdeal.sig) → Buf (Elt Ideal) ℓ) (g : Dev Cert.DwMainIdeal.nD → PrngReg)
    (m' : (ℓ : Loc Cert.DwMainReferenceIdeal.nD Cert.DwMainReferenceIdeal.τ Cert.DwMainReferenceIdeal.sig) → Buf (Elt Ideal) ℓ) (g' : Dev Cert.DwMainReferenceIdeal.nD → PrngReg), Pre_DwMainIdeal m →
    (∀ c : Dev Cert.DwMainIdeal.nD,
      m' ((c.tc : Thread Cert.DwMainReferenceIdeal.nD Cert.DwMainReferenceIdeal.τ).loc Cert.DwMainReferenceIdeal.main_arg0) = m ((c.tc : Thread Cert.DwMainIdeal.nD Cert.DwMainIdeal.τ).loc Cert.DwMainIdeal.main_arg0)
      ∧ m' ((c.tc : Thread Cert.DwMainReferenceIdeal.nD Cert.DwMainReferenceIdeal.τ).loc Cert.DwMainReferenceIdeal.main_arg1) = m ((c.tc : Thread Cert.DwMainIdeal.nD Cert.DwMainIdeal.τ).loc Cert.DwMainIdeal.main_arg1)) →
    ∃ (v0 : (c : Dev Cert.DwMainIdeal.nD) → Buf (Elt Ideal) ((c.tc : Thread Cert.DwMainIdeal.nD Cert.DwMainIdeal.τ).loc Cert.DwMainIdeal.main_v0)),
      θ_run (Cert.DwMainIdeal.defs (F := Ideal)) (onTc (τ := Cert.DwMainIdeal.τ) (Cert.DwMainIdeal.main (F := Ideal))) ⟨m, fun _ => 0, g⟩ (fun r => ∀ c : Dev Cert.DwMainIdeal.nD,
          r.2.mem ((c.tc : Thread Cert.DwMainIdeal.nD Cert.DwMainIdeal.τ).loc Cert.DwMainIdeal.main_v0) = v0 c
          ∧ r.2.mem ((c.tc : Thread Cert.DwMainIdeal.nD Cert.DwMainIdeal.τ).loc Cert.DwMainIdeal.main_arg0) = m ((c.tc : Thread Cert.DwMainIdeal.nD Cert.DwMainIdeal.τ).loc Cert.DwMainIdeal.main_arg0)
          ∧ r.2.mem ((c.tc : Thread Cert.DwMainIdeal.nD Cert.DwMainIdeal.τ).loc Cert.DwMainIdeal.main_arg1) = m ((c.tc : Thread Cert.DwMainIdeal.nD Cert.DwMainIdeal.τ).loc Cert.DwMainIdeal.main_arg1))
      ∧ θ_run (Cert.DwMainReferenceIdeal.defs (F := Ideal)) (onTc (τ := Cert.DwMainReferenceIdeal.τ) (Cert.DwMainReferenceIdeal.main (F := Ideal))) ⟨m', fun _ => 0, g'⟩ (fun r => ∀ c : Dev Cert.DwMainReferenceIdeal.nD,
          r.2.mem ((c.tc : Thread Cert.DwMainReferenceIdeal.nD Cert.DwMainReferenceIdeal.τ).loc Cert.DwMainReferenceIdeal.main_v7) = v0 c
          ∧ r.2.mem ((c.tc : Thread Cert.DwMainReferenceIdeal.nD Cert.DwMainReferenceIdeal.τ).loc Cert.DwMainReferenceIdeal.main_arg0) = m' ((c.tc : Thread Cert.DwMainReferenceIdeal.nD Cert.DwMainReferenceIdeal.τ).loc Cert.DwMainReferenceIdeal.main_arg0)
          ∧ r.2.mem ((c.tc : Thread Cert.DwMainReferenceIdeal.nD Cert.DwMainReferenceIdeal.τ).loc Cert.DwMainReferenceIdeal.main_arg1) = m' ((c.tc : Thread Cert.DwMainReferenceIdeal.nD Cert.DwMainReferenceIdeal.τ).loc Cert.DwMainReferenceIdeal.main_arg1))

def preserves_InMain_InMainIdeal : Prop :=
  True

def algebraic_InMainIdeal_InMainReferenceIdeal [hInMainIdeal : Cert.InMainIdeal.Facts] [hInMainReferenceIdeal : Cert.InMainReferenceIdeal.Facts] : Prop :=
  ∀ (m : (ℓ : Loc Cert.InMainIdeal.nD Cert.InMainIdeal.τ Cert.InMainIdeal.sig) → Buf (Elt Ideal) ℓ) (g : Dev Cert.InMainIdeal.nD → PrngReg)
    (m' : (ℓ : Loc Cert.InMainReferenceIdeal.nD Cert.InMainReferenceIdeal.τ Cert.InMainReferenceIdeal.sig) → Buf (Elt Ideal) ℓ) (g' : Dev Cert.InMainReferenceIdeal.nD → PrngReg), Pre_InMainIdeal m →
    (∀ c : Dev Cert.InMainIdeal.nD,
      m' ((c.tc : Thread Cert.InMainReferenceIdeal.nD Cert.InMainReferenceIdeal.τ).loc Cert.InMainReferenceIdeal.main_arg0) = m ((c.tc : Thread Cert.InMainIdeal.nD Cert.InMainIdeal.τ).loc Cert.InMainIdeal.main_arg0)
      ∧ m' ((c.tc : Thread Cert.InMainReferenceIdeal.nD Cert.InMainReferenceIdeal.τ).loc Cert.InMainReferenceIdeal.main_arg1) = m ((c.tc : Thread Cert.InMainIdeal.nD Cert.InMainIdeal.τ).loc Cert.InMainIdeal.main_arg1)) →
    ∃ (v0 : (c : Dev Cert.InMainIdeal.nD) → Buf (Elt Ideal) ((c.tc : Thread Cert.InMainIdeal.nD Cert.InMainIdeal.τ).loc Cert.InMainIdeal.main_v0)),
      θ_run (Cert.InMainIdeal.defs (F := Ideal)) (onTc (τ := Cert.InMainIdeal.τ) (Cert.InMainIdeal.main (F := Ideal))) ⟨m, fun _ => 0, g⟩ (fun r => ∀ c : Dev Cert.InMainIdeal.nD,
          r.2.mem ((c.tc : Thread Cert.InMainIdeal.nD Cert.InMainIdeal.τ).loc Cert.InMainIdeal.main_v0) = v0 c
          ∧ r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
          ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1))
      ∧ θ_run (Cert.InMainReferenceIdeal.defs (F := Ideal)) (onTc (τ := Cert.InMainReferenceIdeal.τ) (Cert.InMainReferenceIdeal.main (F := Ideal))) ⟨m', fun _ => 0, g'⟩ (fun r => ∀ c : Dev Cert.InMainReferenceIdeal.nD,
          r.2.mem ((c.tc : Thread Cert.InMainReferenceIdeal.nD Cert.InMainReferenceIdeal.τ).loc Cert.InMainReferenceIdeal.main_v4) = v0 c
          ∧ r.2.mem ((c.tc : Thread Cert.InMainReferenceIdeal.nD Cert.InMainReferenceIdeal.τ).loc Cert.InMainReferenceIdeal.main_arg0) = m' ((c.tc : Thread Cert.InMainReferenceIdeal.nD Cert.InMainReferenceIdeal.τ).loc Cert.InMainReferenceIdeal.main_arg0)
          ∧ r.2.mem ((c.tc : Thread Cert.InMainReferenceIdeal.nD Cert.InMainReferenceIdeal.τ).loc Cert.InMainReferenceIdeal.main_arg1) = m' ((c.tc : Thread Cert.InMainReferenceIdeal.nD Cert.InMainReferenceIdeal.τ).loc Cert.InMainReferenceIdeal.main_arg1))

def preserves_InSmall_InSmallIdeal : Prop :=
  True

def algebraic_InSmallIdeal_InSmallReferenceIdeal [hInSmallIdeal : Cert.InSmallIdeal.Facts] [hInSmallReferenceIdeal : Cert.InSmallReferenceIdeal.Facts] : Prop :=
  ∀ (m : (ℓ : Loc Cert.InSmallIdeal.nD Cert.InSmallIdeal.τ Cert.InSmallIdeal.sig) → Buf (Elt Ideal) ℓ) (g : Dev Cert.InSmallIdeal.nD → PrngReg)
    (m' : (ℓ : Loc Cert.InSmallReferenceIdeal.nD Cert.InSmallReferenceIdeal.τ Cert.InSmallReferenceIdeal.sig) → Buf (Elt Ideal) ℓ) (g' : Dev Cert.InSmallReferenceIdeal.nD → PrngReg), Pre_InSmallIdeal m →
    (∀ c : Dev Cert.InSmallIdeal.nD,
      m' ((c.tc : Thread Cert.InSmallReferenceIdeal.nD Cert.InSmallReferenceIdeal.τ).loc Cert.InSmallReferenceIdeal.main_arg0) = m ((c.tc : Thread Cert.InSmallIdeal.nD Cert.InSmallIdeal.τ).loc Cert.InSmallIdeal.main_arg0)
      ∧ m' ((c.tc : Thread Cert.InSmallReferenceIdeal.nD Cert.InSmallReferenceIdeal.τ).loc Cert.InSmallReferenceIdeal.main_arg1) = m ((c.tc : Thread Cert.InSmallIdeal.nD Cert.InSmallIdeal.τ).loc Cert.InSmallIdeal.main_arg1)) →
    ∃ (v0 : (c : Dev Cert.InSmallIdeal.nD) → Buf (Elt Ideal) ((c.tc : Thread Cert.InSmallIdeal.nD Cert.InSmallIdeal.τ).loc Cert.InSmallIdeal.main_v0)),
      θ_run (Cert.InSmallIdeal.defs (F := Ideal)) (onTc (τ := Cert.InSmallIdeal.τ) (Cert.InSmallIdeal.main (F := Ideal))) ⟨m, fun _ => 0, g⟩ (fun r => ∀ c : Dev Cert.InSmallIdeal.nD,
          r.2.mem ((c.tc : Thread Cert.InSmallIdeal.nD Cert.InSmallIdeal.τ).loc Cert.InSmallIdeal.main_v0) = v0 c
          ∧ r.2.mem ((c.tc : Thread Cert.InSmallIdeal.nD Cert.InSmallIdeal.τ).loc Cert.InSmallIdeal.main_arg0) = m ((c.tc : Thread Cert.InSmallIdeal.nD Cert.InSmallIdeal.τ).loc Cert.InSmallIdeal.main_arg0)
          ∧ r.2.mem ((c.tc : Thread Cert.InSmallIdeal.nD Cert.InSmallIdeal.τ).loc Cert.InSmallIdeal.main_arg1) = m ((c.tc : Thread Cert.InSmallIdeal.nD Cert.InSmallIdeal.τ).loc Cert.InSmallIdeal.main_arg1))
      ∧ θ_run (Cert.InSmallReferenceIdeal.defs (F := Ideal)) (onTc (τ := Cert.InSmallReferenceIdeal.τ) (Cert.InSmallReferenceIdeal.main (F := Ideal))) ⟨m', fun _ => 0, g'⟩ (fun r => ∀ c : Dev Cert.InSmallReferenceIdeal.nD,
          r.2.mem ((c.tc : Thread Cert.InSmallReferenceIdeal.nD Cert.InSmallReferenceIdeal.τ).loc Cert.InSmallReferenceIdeal.main_v3) = v0 c
          ∧ r.2.mem ((c.tc : Thread Cert.InSmallReferenceIdeal.nD Cert.InSmallReferenceIdeal.τ).loc Cert.InSmallReferenceIdeal.main_arg0) = m' ((c.tc : Thread Cert.InSmallReferenceIdeal.nD Cert.InSmallReferenceIdeal.τ).loc Cert.InSmallReferenceIdeal.main_arg0)
          ∧ r.2.mem ((c.tc : Thread Cert.InSmallReferenceIdeal.nD Cert.InSmallReferenceIdeal.τ).loc Cert.InSmallReferenceIdeal.main_arg1) = m' ((c.tc : Thread Cert.InSmallReferenceIdeal.nD Cert.InSmallReferenceIdeal.τ).loc Cert.InSmallReferenceIdeal.main_arg1))

def preserves_Pa_PaIdeal : Prop :=
  True

def algebraic_PaIdeal_PaReferenceIdeal [hPaIdeal : Cert.PaIdeal.Facts] [hPaReferenceIdeal : Cert.PaReferenceIdeal.Facts] : Prop :=
  ∀ (m : (ℓ : Loc Cert.PaIdeal.nD Cert.PaIdeal.τ Cert.PaIdeal.sig) → Buf (Elt Ideal) ℓ) (g : Dev Cert.PaIdeal.nD → PrngReg)
    (m' : (ℓ : Loc Cert.PaReferenceIdeal.nD Cert.PaReferenceIdeal.τ Cert.PaReferenceIdeal.sig) → Buf (Elt Ideal) ℓ) (g' : Dev Cert.PaReferenceIdeal.nD → PrngReg), Pre_PaIdeal m →
    (∀ c : Dev Cert.PaIdeal.nD,
      m' ((c.tc : Thread Cert.PaReferenceIdeal.nD Cert.PaReferenceIdeal.τ).loc Cert.PaReferenceIdeal.main_arg0) = m ((c.tc : Thread Cert.PaIdeal.nD Cert.PaIdeal.τ).loc Cert.PaIdeal.main_arg0)
      ∧ m' ((c.tc : Thread Cert.PaReferenceIdeal.nD Cert.PaReferenceIdeal.τ).loc Cert.PaReferenceIdeal.main_arg1) = m ((c.tc : Thread Cert.PaIdeal.nD Cert.PaIdeal.τ).loc Cert.PaIdeal.main_arg1)) →
    ∃ (v0 : (c : Dev Cert.PaIdeal.nD) → Buf (Elt Ideal) ((c.tc : Thread Cert.PaIdeal.nD Cert.PaIdeal.τ).loc Cert.PaIdeal.main_v0)),
      θ_run (Cert.PaIdeal.defs (F := Ideal)) (onTc (τ := Cert.PaIdeal.τ) (Cert.PaIdeal.main (F := Ideal))) ⟨m, fun _ => 0, g⟩ (fun r => ∀ c : Dev Cert.PaIdeal.nD,
          r.2.mem ((c.tc : Thread Cert.PaIdeal.nD Cert.PaIdeal.τ).loc Cert.PaIdeal.main_v0) = v0 c
          ∧ r.2.mem ((c.tc : Thread Cert.PaIdeal.nD Cert.PaIdeal.τ).loc Cert.PaIdeal.main_arg0) = m ((c.tc : Thread Cert.PaIdeal.nD Cert.PaIdeal.τ).loc Cert.PaIdeal.main_arg0)
          ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ θ_run (Cert.PaReferenceIdeal.defs (F := Ideal)) (onTc (τ := Cert.PaReferenceIdeal.τ) (Cert.PaReferenceIdeal.main (F := Ideal))) ⟨m', fun _ => 0, g'⟩ (fun r => ∀ c : Dev Cert.PaReferenceIdeal.nD,
          r.2.mem ((c.tc : Thread Cert.PaReferenceIdeal.nD Cert.PaReferenceIdeal.τ).loc Cert.PaReferenceIdeal.main_v2) = v0 c
          ∧ r.2.mem ((c.tc : Thread Cert.PaReferenceIdeal.nD Cert.PaReferenceIdeal.τ).loc Cert.PaReferenceIdeal.main_arg0) = m' ((c.tc : Thread Cert.PaReferenceIdeal.nD Cert.PaReferenceIdeal.τ).loc Cert.PaReferenceIdeal.main_arg0)
          ∧ r.2.mem ((c.tc : Thread Cert.PaReferenceIdeal.nD Cert.PaReferenceIdeal.τ).loc Cert.PaReferenceIdeal.main_arg1) = m' ((c.tc : Thread Cert.PaReferenceIdeal.nD Cert.PaReferenceIdeal.τ).loc Cert.PaReferenceIdeal.main_arg1))

def preserves_Pb_PbIdeal : Prop :=
  True

def algebraic_PbIdeal_PbReferenceIdeal [hPbIdeal : Cert.PbIdeal.Facts] [hPbReferenceIdeal : Cert.PbReferenceIdeal.Facts] : Prop :=
  ∀ (m : (ℓ : Loc Cert.PbIdeal.nD Cert.PbIdeal.τ Cert.PbIdeal.sig) → Buf (Elt Ideal) ℓ) (g : Dev Cert.PbIdeal.nD → PrngReg)
    (m' : (ℓ : Loc Cert.PbReferenceIdeal.nD Cert.PbReferenceIdeal.τ Cert.PbReferenceIdeal.sig) → Buf (Elt Ideal) ℓ) (g' : Dev Cert.PbReferenceIdeal.nD → PrngReg), Pre_PbIdeal m →
    (∀ c : Dev Cert.PbIdeal.nD,
      m' ((c.tc : Thread Cert.PbReferenceIdeal.nD Cert.PbReferenceIdeal.τ).loc Cert.PbReferenceIdeal.main_arg0) = m ((c.tc : Thread Cert.PbIdeal.nD Cert.PbIdeal.τ).loc Cert.PbIdeal.main_arg0)
      ∧ m' ((c.tc : Thread Cert.PbReferenceIdeal.nD Cert.PbReferenceIdeal.τ).loc Cert.PbReferenceIdeal.main_arg1) = m ((c.tc : Thread Cert.PbIdeal.nD Cert.PbIdeal.τ).loc Cert.PbIdeal.main_arg1)) →
    ∃ (v0 : (c : Dev Cert.PbIdeal.nD) → Buf (Elt Ideal) ((c.tc : Thread Cert.PbIdeal.nD Cert.PbIdeal.τ).loc Cert.PbIdeal.main_v0)),
      θ_run (Cert.PbIdeal.defs (F := Ideal)) (onTc (τ := Cert.PbIdeal.τ) (Cert.PbIdeal.main (F := Ideal))) ⟨m, fun _ => 0, g⟩ (fun r => ∀ c : Dev Cert.PbIdeal.nD,
          r.2.mem ((c.tc : Thread Cert.PbIdeal.nD Cert.PbIdeal.τ).loc Cert.PbIdeal.main_v0) = v0 c
          ∧ r.2.mem ((c.tc : Thread Cert.PbIdeal.nD Cert.PbIdeal.τ).loc Cert.PbIdeal.main_arg0) = m ((c.tc : Thread Cert.PbIdeal.nD Cert.PbIdeal.τ).loc Cert.PbIdeal.main_arg0)
          ∧ r.2.mem ((c.tc : Thread Cert.PbIdeal.nD Cert.PbIdeal.τ).loc Cert.PbIdeal.main_arg1) = m ((c.tc : Thread Cert.PbIdeal.nD Cert.PbIdeal.τ).loc Cert.PbIdeal.main_arg1))
      ∧ θ_run (Cert.PbReferenceIdeal.defs (F := Ideal)) (onTc (τ := Cert.PbReferenceIdeal.τ) (Cert.PbReferenceIdeal.main (F := Ideal))) ⟨m', fun _ => 0, g'⟩ (fun r => ∀ c : Dev Cert.PbReferenceIdeal.nD,
          r.2.mem ((c.tc : Thread Cert.PbReferenceIdeal.nD Cert.PbReferenceIdeal.τ).loc Cert.PbReferenceIdeal.main_v2) = v0 c
          ∧ r.2.mem ((c.tc : Thread Cert.PbReferenceIdeal.nD Cert.PbReferenceIdeal.τ).loc Cert.PbReferenceIdeal.main_arg0) = m' ((c.tc : Thread Cert.PbReferenceIdeal.nD Cert.PbReferenceIdeal.τ).loc Cert.PbReferenceIdeal.main_arg0)
          ∧ r.2.mem ((c.tc : Thread Cert.PbReferenceIdeal.nD Cert.PbReferenceIdeal.τ).loc Cert.PbReferenceIdeal.main_arg1) = m' ((c.tc : Thread Cert.PbReferenceIdeal.nD Cert.PbReferenceIdeal.τ).loc Cert.PbReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_v7) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)
      ∧ m' ((c.tc : Thread Cert.DActReferenceIdeal.nD Cert.DActReferenceIdeal.τ).loc Cert.DActReferenceIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v14) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1)
          ∧ r.2.mem ((c.tc : Thread Cert.DActReferenceIdeal.nD Cert.DActReferenceIdeal.τ).loc Cert.DActReferenceIdeal.main_arg2) = m' ((c.tc : Thread Cert.DActReferenceIdeal.nD Cert.DActReferenceIdeal.τ).loc Cert.DActReferenceIdeal.main_arg2))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v5) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v9) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DHn_DHnIdeal : Prop :=
  True

def algebraic_DHnIdeal_DHnReferenceIdeal [hDHnIdeal : Cert.DHnIdeal.Facts] [hDHnReferenceIdeal : Cert.DHnReferenceIdeal.Facts] : Prop :=
  ∀ (m : (ℓ : Loc Cert.DHnIdeal.nD Cert.DHnIdeal.τ Cert.DHnIdeal.sig) → Buf (Elt Ideal) ℓ) (g : Dev Cert.DHnIdeal.nD → PrngReg)
    (m' : (ℓ : Loc Cert.DHnReferenceIdeal.nD Cert.DHnReferenceIdeal.τ Cert.DHnReferenceIdeal.sig) → Buf (Elt Ideal) ℓ) (g' : Dev Cert.DHnReferenceIdeal.nD → PrngReg), Pre_DHnIdeal m →
    (∀ c : Dev Cert.DHnIdeal.nD,
      m' ((c.tc : Thread Cert.DHnReferenceIdeal.nD Cert.DHnReferenceIdeal.τ).loc Cert.DHnReferenceIdeal.main_arg0) = m ((c.tc : Thread Cert.DHnIdeal.nD Cert.DHnIdeal.τ).loc Cert.DHnIdeal.main_arg0)
      ∧ m' ((c.tc : Thread Cert.DHnReferenceIdeal.nD Cert.DHnReferenceIdeal.τ).loc Cert.DHnReferenceIdeal.main_arg1) = m ((c.tc : Thread Cert.DHnIdeal.nD Cert.DHnIdeal.τ).loc Cert.DHnIdeal.main_arg1)) →
    ∃ (v0 : (c : Dev Cert.DHnIdeal.nD) → Buf (Elt Ideal) ((c.tc : Thread Cert.DHnIdeal.nD Cert.DHnIdeal.τ).loc Cert.DHnIdeal.main_v0)),
      θ_run (Cert.DHnIdeal.defs (F := Ideal)) (onTc (τ := Cert.DHnIdeal.τ) (Cert.DHnIdeal.main (F := Ideal))) ⟨m, fun _ => 0, g⟩ (fun r => ∀ c : Dev Cert.DHnIdeal.nD,
          r.2.mem ((c.tc : Thread Cert.DHnIdeal.nD Cert.DHnIdeal.τ).loc Cert.DHnIdeal.main_v0) = v0 c
          ∧ r.2.mem ((c.tc : Thread Cert.DHnIdeal.nD Cert.DHnIdeal.τ).loc Cert.DHnIdeal.main_arg0) = m ((c.tc : Thread Cert.DHnIdeal.nD Cert.DHnIdeal.τ).loc Cert.DHnIdeal.main_arg0)
          ∧ r.2.mem ((c.tc : Thread Cert.DHnIdeal.nD Cert.DHnIdeal.τ).loc Cert.DHnIdeal.main_arg1) = m ((c.tc : Thread Cert.DHnIdeal.nD Cert.DHnIdeal.τ).loc Cert.DHnIdeal.main_arg1))
      ∧ θ_run (Cert.DHnReferenceIdeal.defs (F := Ideal)) (onTc (τ := Cert.DHnReferenceIdeal.τ) (Cert.DHnReferenceIdeal.main (F := Ideal))) ⟨m', fun _ => 0, g'⟩ (fun r => ∀ c : Dev Cert.DHnReferenceIdeal.nD,
          r.2.mem ((c.tc : Thread Cert.DHnReferenceIdeal.nD Cert.DHnReferenceIdeal.τ).loc Cert.DHnReferenceIdeal.main_v6) = v0 c
          ∧ r.2.mem ((c.tc : Thread Cert.DHnReferenceIdeal.nD Cert.DHnReferenceIdeal.τ).loc Cert.DHnReferenceIdeal.main_arg0) = m' ((c.tc : Thread Cert.DHnReferenceIdeal.nD Cert.DHnReferenceIdeal.τ).loc Cert.DHnReferenceIdeal.main_arg0)
          ∧ r.2.mem ((c.tc : Thread Cert.DHnReferenceIdeal.nD Cert.DHnReferenceIdeal.τ).loc Cert.DHnReferenceIdeal.main_arg1) = m' ((c.tc : Thread Cert.DHnReferenceIdeal.nD Cert.DHnReferenceIdeal.τ).loc Cert.DHnReferenceIdeal.main_arg1))

def preserves_DMerged_DMergedIdeal : Prop :=
  True

def algebraic_DMergedIdeal_DMergedReferenceIdeal [hDMergedIdeal : Cert.DMergedIdeal.Facts] [hDMergedReferenceIdeal : Cert.DMergedReferenceIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedReferenceIdeal.nD Cert.DMergedReferenceIdeal.τ Cert.DMergedReferenceIdeal.sig) → Buf (Elt Ideal) ℓ) (g' : Dev Cert.DMergedReferenceIdeal.nD → PrngReg), Pre_DMergedIdeal m →
    (∀ c : Dev Cert.DMergedIdeal.nD,
      m' ((c.tc : Thread Cert.DMergedReferenceIdeal.nD Cert.DMergedReferenceIdeal.τ).loc Cert.DMergedReferenceIdeal.main_arg0) = m ((c.tc : Thread Cert.DMergedIdeal.nD Cert.DMergedIdeal.τ).loc Cert.DMergedIdeal.main_arg0)
      ∧ m' ((c.tc : Thread Cert.DMergedReferenceIdeal.nD Cert.DMergedReferenceIdeal.τ).loc Cert.DMergedReferenceIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedReferenceIdeal.defs (F := Ideal)) (onTc (τ := Cert.DMergedReferenceIdeal.τ) (Cert.DMergedReferenceIdeal.main (F := Ideal))) ⟨m', fun _ => 0, g'⟩ (fun r => ∀ c : Dev Cert.DMergedReferenceIdeal.nD,
          r.2.mem ((c.tc : Thread Cert.DMergedReferenceIdeal.nD Cert.DMergedReferenceIdeal.τ).loc Cert.DMergedReferenceIdeal.main_v4) = v0 c
          ∧ r.2.mem ((c.tc : Thread Cert.DMergedReferenceIdeal.nD Cert.DMergedReferenceIdeal.τ).loc Cert.DMergedReferenceIdeal.main_arg0) = m' ((c.tc : Thread Cert.DMergedReferenceIdeal.nD Cert.DMergedReferenceIdeal.τ).loc Cert.DMergedReferenceIdeal.main_arg0)
          ∧ r.2.mem ((c.tc : Thread Cert.DMergedReferenceIdeal.nD Cert.DMergedReferenceIdeal.τ).loc Cert.DMergedReferenceIdeal.main_arg1) = m' ((c.tc : Thread Cert.DMergedReferenceIdeal.nD Cert.DMergedReferenceIdeal.τ).loc Cert.DMergedReferenceIdeal.main_arg1))

def preserves_DYaIn_DYaInIdeal : Prop :=
  True

def algebraic_DYaInIdeal_DYaInReferenceIdeal [hDYaInIdeal : Cert.DYaInIdeal.Facts] [hDYaInReferenceIdeal : Cert.DYaInReferenceIdeal.Facts] : Prop :=
  ∀ (m : (ℓ : Loc Cert.DYaInIdeal.nD Cert.DYaInIdeal.τ Cert.DYaInIdeal.sig) → Buf (Elt Ideal) ℓ) (g : Dev Cert.DYaInIdeal.nD → PrngReg)
    (m' : (ℓ : Loc Cert.DYaInReferenceIdeal.nD Cert.DYaInReferenceIdeal.τ Cert.DYaInReferenceIdeal.sig) → Buf (Elt Ideal) ℓ) (g' : Dev Cert.DYaInReferenceIdeal.nD → PrngReg), Pre_DYaInIdeal m →
    (∀ c : Dev Cert.DYaInIdeal.nD,
      m' ((c.tc : Thread Cert.DYaInReferenceIdeal.nD Cert.DYaInReferenceIdeal.τ).loc Cert.DYaInReferenceIdeal.main_arg0) = m ((c.tc : Thread Cert.DYaInIdeal.nD Cert.DYaInIdeal.τ).loc Cert.DYaInIdeal.main_arg0)
      ∧ m' ((c.tc : Thread Cert.DYaInReferenceIdeal.nD Cert.DYaInReferenceIdeal.τ).loc Cert.DYaInReferenceIdeal.main_arg1) = m ((c.tc : Thread Cert.DYaInIdeal.nD Cert.DYaInIdeal.τ).loc Cert.DYaInIdeal.main_arg1)) →
    ∃ (v0 : (c : Dev Cert.DYaInIdeal.nD) → Buf (Elt Ideal) ((c.tc : Thread Cert.DYaInIdeal.nD Cert.DYaInIdeal.τ).loc Cert.DYaInIdeal.main_v0)),
      θ_run (Cert.DYaInIdeal.defs (F := Ideal)) (onTc (τ := Cert.DYaInIdeal.τ) (Cert.DYaInIdeal.main (F := Ideal))) ⟨m, fun _ => 0, g⟩ (fun r => ∀ c : Dev Cert.DYaInIdeal.nD,
          r.2.mem ((c.tc : Thread Cert.DYaInIdeal.nD Cert.DYaInIdeal.τ).loc Cert.DYaInIdeal.main_v0) = v0 c
          ∧ r.2.mem ((c.tc : Thread Cert.DYaInIdeal.nD Cert.DYaInIdeal.τ).loc Cert.DYaInIdeal.main_arg0) = m ((c.tc : Thread Cert.DYaInIdeal.nD Cert.DYaInIdeal.τ).loc Cert.DYaInIdeal.main_arg0)
          ∧ r.2.mem ((c.tc : Thread Cert.DYaInIdeal.nD Cert.DYaInIdeal.τ).loc Cert.DYaInIdeal.main_arg1) = m ((c.tc : Thread Cert.DYaInIdeal.nD Cert.DYaInIdeal.τ).loc Cert.DYaInIdeal.main_arg1))
      ∧ θ_run (Cert.DYaInReferenceIdeal.defs (F := Ideal)) (onTc (τ := Cert.DYaInReferenceIdeal.τ) (Cert.DYaInReferenceIdeal.main (F := Ideal))) ⟨m', fun _ => 0, g'⟩ (fun r => ∀ c : Dev Cert.DYaInReferenceIdeal.nD,
          r.2.mem ((c.tc : Thread Cert.DYaInReferenceIdeal.nD Cert.DYaInReferenceIdeal.τ).loc Cert.DYaInReferenceIdeal.main_v4) = v0 c
          ∧ r.2.mem ((c.tc : Thread Cert.DYaInReferenceIdeal.nD Cert.DYaInReferenceIdeal.τ).loc Cert.DYaInReferenceIdeal.main_arg0) = m' ((c.tc : Thread Cert.DYaInReferenceIdeal.nD Cert.DYaInReferenceIdeal.τ).loc Cert.DYaInReferenceIdeal.main_arg0)
          ∧ r.2.mem ((c.tc : Thread Cert.DYaInReferenceIdeal.nD Cert.DYaInReferenceIdeal.τ).loc Cert.DYaInReferenceIdeal.main_arg1) = m' ((c.tc : Thread Cert.DYaInReferenceIdeal.nD Cert.DYaInReferenceIdeal.τ).loc Cert.DYaInReferenceIdeal.main_arg1))

def preserves_DOb_DObIdeal : Prop :=
  True

def algebraic_DObIdeal_DObReferenceIdeal [hDObIdeal : Cert.DObIdeal.Facts] [hDObReferenceIdeal : Cert.DObReferenceIdeal.Facts] : Prop :=
  ∀ (m : (ℓ : Loc Cert.DObIdeal.nD Cert.DObIdeal.τ Cert.DObIdeal.sig) → Buf (Elt Ideal) ℓ) (g : Dev Cert.DObIdeal.nD → PrngReg)
    (m' : (ℓ : Loc Cert.DObReferenceIdeal.nD Cert.DObReferenceIdeal.τ Cert.DObReferenceIdeal.sig) → Buf (Elt Ideal) ℓ) (g' : Dev Cert.DObReferenceIdeal.nD → PrngReg), Pre_DObIdeal m →
    (∀ c : Dev Cert.DObIdeal.nD,
      m' ((c.tc : Thread Cert.DObReferenceIdeal.nD Cert.DObReferenceIdeal.τ).loc Cert.DObReferenceIdeal.main_arg0) = m ((c.tc : Thread Cert.DObIdeal.nD Cert.DObIdeal.τ).loc Cert.DObIdeal.main_arg0)
      ∧ m' ((c.tc : Thread Cert.DObReferenceIdeal.nD Cert.DObReferenceIdeal.τ).loc Cert.DObReferenceIdeal.main_arg1) = m ((c.tc : Thread Cert.DObIdeal.nD Cert.DObIdeal.τ).loc Cert.DObIdeal.main_arg1)) →
    ∃ (v0 : (c : Dev Cert.DObIdeal.nD) → Buf (Elt Ideal) ((c.tc : Thread Cert.DObIdeal.nD Cert.DObIdeal.τ).loc Cert.DObIdeal.main_v0)),
      θ_run (Cert.DObIdeal.defs (F := Ideal)) (onTc (τ := Cert.DObIdeal.τ) (Cert.DObIdeal.main (F := Ideal))) ⟨m, fun _ => 0, g⟩ (fun r => ∀ c : Dev Cert.DObIdeal.nD,
          r.2.mem ((c.tc : Thread Cert.DObIdeal.nD Cert.DObIdeal.τ).loc Cert.DObIdeal.main_v0) = v0 c
          ∧ r.2.mem ((c.tc : Thread Cert.DObIdeal.nD Cert.DObIdeal.τ).loc Cert.DObIdeal.main_arg0) = m ((c.tc : Thread Cert.DObIdeal.nD Cert.DObIdeal.τ).loc Cert.DObIdeal.main_arg0)
          ∧ r.2.mem ((c.tc : Thread Cert.DObIdeal.nD Cert.DObIdeal.τ).loc Cert.DObIdeal.main_arg1) = m ((c.tc : Thread Cert.DObIdeal.nD Cert.DObIdeal.τ).loc Cert.DObIdeal.main_arg1))
      ∧ θ_run (Cert.DObReferenceIdeal.defs (F := Ideal)) (onTc (τ := Cert.DObReferenceIdeal.τ) (Cert.DObReferenceIdeal.main (F := Ideal))) ⟨m', fun _ => 0, g'⟩ (fun r => ∀ c : Dev Cert.DObReferenceIdeal.nD,
          r.2.mem ((c.tc : Thread Cert.DObReferenceIdeal.nD Cert.DObReferenceIdeal.τ).loc Cert.DObReferenceIdeal.main_v4) = v0 c
          ∧ r.2.mem ((c.tc : Thread Cert.DObReferenceIdeal.nD Cert.DObReferenceIdeal.τ).loc Cert.DObReferenceIdeal.main_arg0) = m' ((c.tc : Thread Cert.DObReferenceIdeal.nD Cert.DObReferenceIdeal.τ).loc Cert.DObReferenceIdeal.main_arg0)
          ∧ r.2.mem ((c.tc : Thread Cert.DObReferenceIdeal.nD Cert.DObReferenceIdeal.τ).loc Cert.DObReferenceIdeal.main_arg1) = m' ((c.tc : Thread Cert.DObReferenceIdeal.nD Cert.DObReferenceIdeal.τ).loc Cert.DObReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v5) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DpA_DpAIdeal : Prop :=
  True

def algebraic_DpAIdeal_DpAReferenceIdeal [hDpAIdeal : Cert.DpAIdeal.Facts] [hDpAReferenceIdeal : Cert.DpAReferenceIdeal.Facts] : Prop :=
  ∀ (m : (ℓ : Loc Cert.DpAIdeal.nD Cert.DpAIdeal.τ Cert.DpAIdeal.sig) → Buf (Elt Ideal) ℓ) (g : Dev Cert.DpAIdeal.nD → PrngReg)
    (m' : (ℓ : Loc Cert.DpAReferenceIdeal.nD Cert.DpAReferenceIdeal.τ Cert.DpAReferenceIdeal.sig) → Buf (Elt Ideal) ℓ) (g' : Dev Cert.DpAReferenceIdeal.nD → PrngReg), Pre_DpAIdeal m →
    (∀ c : Dev Cert.DpAIdeal.nD,
      m' ((c.tc : Thread Cert.DpAReferenceIdeal.nD Cert.DpAReferenceIdeal.τ).loc Cert.DpAReferenceIdeal.main_arg0) = m ((c.tc : Thread Cert.DpAIdeal.nD Cert.DpAIdeal.τ).loc Cert.DpAIdeal.main_arg0)
      ∧ m' ((c.tc : Thread Cert.DpAReferenceIdeal.nD Cert.DpAReferenceIdeal.τ).loc Cert.DpAReferenceIdeal.main_arg1) = m ((c.tc : Thread Cert.DpAIdeal.nD Cert.DpAIdeal.τ).loc Cert.DpAIdeal.main_arg1)) →
    ∃ (v0 : (c : Dev Cert.DpAIdeal.nD) → Buf (Elt Ideal) ((c.tc : Thread Cert.DpAIdeal.nD Cert.DpAIdeal.τ).loc Cert.DpAIdeal.main_v0)),
      θ_run (Cert.DpAIdeal.defs (F := Ideal)) (onTc (τ := Cert.DpAIdeal.τ) (Cert.DpAIdeal.main (F := Ideal))) ⟨m, fun _ => 0, g⟩ (fun r => ∀ c : Dev Cert.DpAIdeal.nD,
          r.2.mem ((c.tc : Thread Cert.DpAIdeal.nD Cert.DpAIdeal.τ).loc Cert.DpAIdeal.main_v0) = v0 c
          ∧ r.2.mem ((c.tc : Thread Cert.DpAIdeal.nD Cert.DpAIdeal.τ).loc Cert.DpAIdeal.main_arg0) = m ((c.tc : Thread Cert.DpAIdeal.nD Cert.DpAIdeal.τ).loc Cert.DpAIdeal.main_arg0)
          ∧ r.2.mem ((c.tc : Thread Cert.DpAIdeal.nD Cert.DpAIdeal.τ).loc Cert.DpAIdeal.main_arg1) = m ((c.tc : Thread Cert.DpAIdeal.nD Cert.DpAIdeal.τ).loc Cert.DpAIdeal.main_arg1))
      ∧ θ_run (Cert.DpAReferenceIdeal.defs (F := Ideal)) (onTc (τ := Cert.DpAReferenceIdeal.τ) (Cert.DpAReferenceIdeal.main (F := Ideal))) ⟨m', fun _ => 0, g'⟩ (fun r => ∀ c : Dev Cert.DpAReferenceIdeal.nD,
          r.2.mem ((c.tc : Thread Cert.DpAReferenceIdeal.nD Cert.DpAReferenceIdeal.τ).loc Cert.DpAReferenceIdeal.main_v5) = v0 c
          ∧ r.2.mem ((c.tc : Thread Cert.DpAReferenceIdeal.nD Cert.DpAReferenceIdeal.τ).loc Cert.DpAReferenceIdeal.main_arg0) = m' ((c.tc : Thread Cert.DpAReferenceIdeal.nD Cert.DpAReferenceIdeal.τ).loc Cert.DpAReferenceIdeal.main_arg0)
          ∧ r.2.mem ((c.tc : Thread Cert.DpAReferenceIdeal.nD Cert.DpAReferenceIdeal.τ).loc Cert.DpAReferenceIdeal.main_arg1) = m' ((c.tc : Thread Cert.DpAReferenceIdeal.nD Cert.DpAReferenceIdeal.τ).loc Cert.DpAReferenceIdeal.main_arg1))

def preserves_DpB_DpBIdeal : Prop :=
  True

def algebraic_DpBIdeal_DpBReferenceIdeal [hDpBIdeal : Cert.DpBIdeal.Facts] [hDpBReferenceIdeal : Cert.DpBReferenceIdeal.Facts] : Prop :=
  ∀ (m : (ℓ : Loc Cert.DpBIdeal.nD Cert.DpBIdeal.τ Cert.DpBIdeal.sig) → Buf (Elt Ideal) ℓ) (g : Dev Cert.DpBIdeal.nD → PrngReg)
    (m' : (ℓ : Loc Cert.DpBReferenceIdeal.nD Cert.DpBReferenceIdeal.τ Cert.DpBReferenceIdeal.sig) → Buf (Elt Ideal) ℓ) (g' : Dev Cert.DpBReferenceIdeal.nD → PrngReg), Pre_DpBIdeal m →
    (∀ c : Dev Cert.DpBIdeal.nD,
      m' ((c.tc : Thread Cert.DpBReferenceIdeal.nD Cert.DpBReferenceIdeal.τ).loc Cert.DpBReferenceIdeal.main_arg0) = m ((c.tc : Thread Cert.DpBIdeal.nD Cert.DpBIdeal.τ).loc Cert.DpBIdeal.main_arg0)
      ∧ m' ((c.tc : Thread Cert.DpBReferenceIdeal.nD Cert.DpBReferenceIdeal.τ).loc Cert.DpBReferenceIdeal.main_arg1) = m ((c.tc : Thread Cert.DpBIdeal.nD Cert.DpBIdeal.τ).loc Cert.DpBIdeal.main_arg1)) →
    ∃ (v0 : (c : Dev Cert.DpBIdeal.nD) → Buf (Elt Ideal) ((c.tc : Thread Cert.DpBIdeal.nD Cert.DpBIdeal.τ).loc Cert.DpBIdeal.main_v0)),
      θ_run (Cert.DpBIdeal.defs (F := Ideal)) (onTc (τ := Cert.DpBIdeal.τ) (Cert.DpBIdeal.main (F := Ideal))) ⟨m, fun _ => 0, g⟩ (fun r => ∀ c : Dev Cert.DpBIdeal.nD,
          r.2.mem ((c.tc : Thread Cert.DpBIdeal.nD Cert.DpBIdeal.τ).loc Cert.DpBIdeal.main_v0) = v0 c
          ∧ r.2.mem ((c.tc : Thread Cert.DpBIdeal.nD Cert.DpBIdeal.τ).loc Cert.DpBIdeal.main_arg0) = m ((c.tc : Thread Cert.DpBIdeal.nD Cert.DpBIdeal.τ).loc Cert.DpBIdeal.main_arg0)
          ∧ r.2.mem ((c.tc : Thread Cert.DpBIdeal.nD Cert.DpBIdeal.τ).loc Cert.DpBIdeal.main_arg1) = m ((c.tc : Thread Cert.DpBIdeal.nD Cert.DpBIdeal.τ).loc Cert.DpBIdeal.main_arg1))
      ∧ θ_run (Cert.DpBReferenceIdeal.defs (F := Ideal)) (onTc (τ := Cert.DpBReferenceIdeal.τ) (Cert.DpBReferenceIdeal.main (F := Ideal))) ⟨m', fun _ => 0, g'⟩ (fun r => ∀ c : Dev Cert.DpBReferenceIdeal.nD,
          r.2.mem ((c.tc : Thread Cert.DpBReferenceIdeal.nD Cert.DpBReferenceIdeal.τ).loc Cert.DpBReferenceIdeal.main_v5) = v0 c
          ∧ r.2.mem ((c.tc : Thread Cert.DpBReferenceIdeal.nD Cert.DpBReferenceIdeal.τ).loc Cert.DpBReferenceIdeal.main_arg0) = m' ((c.tc : Thread Cert.DpBReferenceIdeal.nD Cert.DpBReferenceIdeal.τ).loc Cert.DpBReferenceIdeal.main_arg0)
          ∧ r.2.mem ((c.tc : Thread Cert.DpBReferenceIdeal.nD Cert.DpBReferenceIdeal.τ).loc Cert.DpBReferenceIdeal.main_arg1) = m' ((c.tc : Thread Cert.DpBReferenceIdeal.nD Cert.DpBReferenceIdeal.τ).loc Cert.DpBReferenceIdeal.main_arg1))

def preserves_DwSmall_DwSmallIdeal : Prop :=
  True

def algebraic_DwSmallIdeal_DwSmallReferenceIdeal [hDwSmallIdeal : Cert.DwSmallIdeal.Facts] [hDwSmallReferenceIdeal : Cert.DwSmallReferenceIdeal.Facts] : Prop :=
  ∀ (m : (ℓ : Loc Cert.DwSmallIdeal.nD Cert.DwSmallIdeal.τ Cert.DwSmallIdeal.sig) → Buf (Elt Ideal) ℓ) (g : Dev Cert.DwSmallIdeal.nD → PrngReg)
    (m' : (ℓ : Loc Cert.DwSmallReferenceIdeal.nD Cert.DwSmallReferenceIdeal.τ Cert.DwSmallReferenceIdeal.sig) → Buf (Elt Ideal) ℓ) (g' : Dev Cert.DwSmallReferenceIdeal.nD → PrngReg), Pre_DwSmallIdeal m →
    (∀ c : Dev Cert.DwSmallIdeal.nD,
      m' ((c.tc : Thread Cert.DwSmallReferenceIdeal.nD Cert.DwSmallReferenceIdeal.τ).loc Cert.DwSmallReferenceIdeal.main_arg0) = m ((c.tc : Thread Cert.DwSmallIdeal.nD Cert.DwSmallIdeal.τ).loc Cert.DwSmallIdeal.main_arg0)
      ∧ m' ((c.tc : Thread Cert.DwSmallReferenceIdeal.nD Cert.DwSmallReferenceIdeal.τ).loc Cert.DwSmallReferenceIdeal.main_arg1) = m ((c.tc : Thread Cert.DwSmallIdeal.nD Cert.DwSmallIdeal.τ).loc Cert.DwSmallIdeal.main_arg1)) →
    ∃ (v0 : (c : Dev Cert.DwSmallIdeal.nD) → Buf (Elt Ideal) ((c.tc : Thread Cert.DwSmallIdeal.nD Cert.DwSmallIdeal.τ).loc Cert.DwSmallIdeal.main_v0)),
      θ_run (Cert.DwSmallIdeal.defs (F := Ideal)) (onTc (τ := Cert.DwSmallIdeal.τ) (Cert.DwSmallIdeal.main (F := Ideal))) ⟨m, fun _ => 0, g⟩ (fun r => ∀ c : Dev Cert.DwSmallIdeal.nD,
          r.2.mem ((c.tc : Thread Cert.DwSmallIdeal.nD Cert.DwSmallIdeal.τ).loc Cert.DwSmallIdeal.main_v0) = v0 c
          ∧ r.2.mem ((c.tc : Thread Cert.DwSmallIdeal.nD Cert.DwSmallIdeal.τ).loc Cert.DwSmallIdeal.main_arg0) = m ((c.tc : Thread Cert.DwSmallIdeal.nD Cert.DwSmallIdeal.τ).loc Cert.DwSmallIdeal.main_arg0)
          ∧ r.2.mem ((c.tc : Thread Cert.DwSmallIdeal.nD Cert.DwSmallIdeal.τ).loc Cert.DwSmallIdeal.main_arg1) = m ((c.tc : Thread Cert.DwSmallIdeal.nD Cert.DwSmallIdeal.τ).loc Cert.DwSmallIdeal.main_arg1))
      ∧ θ_run (Cert.DwSmallReferenceIdeal.defs (F := Ideal)) (onTc (τ := Cert.DwSmallReferenceIdeal.τ) (Cert.DwSmallReferenceIdeal.main (F := Ideal))) ⟨m', fun _ => 0, g'⟩ (fun r => ∀ c : Dev Cert.DwSmallReferenceIdeal.nD,
          r.2.mem ((c.tc : Thread Cert.DwSmallReferenceIdeal.nD Cert.DwSmallReferenceIdeal.τ).loc Cert.DwSmallReferenceIdeal.main_v7) = v0 c
          ∧ r.2.mem ((c.tc : Thread Cert.DwSmallReferenceIdeal.nD Cert.DwSmallReferenceIdeal.τ).loc Cert.DwSmallReferenceIdeal.main_arg0) = m' ((c.tc : Thread Cert.DwSmallReferenceIdeal.nD Cert.DwSmallReferenceIdeal.τ).loc Cert.DwSmallReferenceIdeal.main_arg0)
          ∧ r.2.mem ((c.tc : Thread Cert.DwSmallReferenceIdeal.nD Cert.DwSmallReferenceIdeal.τ).loc Cert.DwSmallReferenceIdeal.main_arg1) = m' ((c.tc : Thread Cert.DwSmallReferenceIdeal.nD Cert.DwSmallReferenceIdeal.τ).loc Cert.DwSmallReferenceIdeal.main_arg1))

def preserves_DUSmall_DUSmallIdeal : Prop :=
  True

def algebraic_DUSmallIdeal_DUSmallReferenceIdeal [hDUSmallIdeal : Cert.DUSmallIdeal.Facts] [hDUSmallReferenceIdeal : Cert.DUSmallReferenceIdeal.Facts] : Prop :=
  ∀ (m : (ℓ : Loc Cert.DUSmallIdeal.nD Cert.DUSmallIdeal.τ Cert.DUSmallIdeal.sig) → Buf (Elt Ideal) ℓ) (g : Dev Cert.DUSmallIdeal.nD → PrngReg)
    (m' : (ℓ : Loc Cert.DUSmallReferenceIdeal.nD Cert.DUSmallReferenceIdeal.τ Cert.DUSmallReferenceIdeal.sig) → Buf (Elt Ideal) ℓ) (g' : Dev Cert.DUSmallReferenceIdeal.nD → PrngReg), Pre_DUSmallIdeal m →
    (∀ c : Dev Cert.DUSmallIdeal.nD,
      m' ((c.tc : Thread Cert.DUSmallReferenceIdeal.nD Cert.DUSmallReferenceIdeal.τ).loc Cert.DUSmallReferenceIdeal.main_arg0) = m ((c.tc : Thread Cert.DUSmallIdeal.nD Cert.DUSmallIdeal.τ).loc Cert.DUSmallIdeal.main_arg0)
      ∧ m' ((c.tc : Thread Cert.DUSmallReferenceIdeal.nD Cert.DUSmallReferenceIdeal.τ).loc Cert.DUSmallReferenceIdeal.main_arg1) = m ((c.tc : Thread Cert.DUSmallIdeal.nD Cert.DUSmallIdeal.τ).loc Cert.DUSmallIdeal.main_arg1)) →
    ∃ (v0 : (c : Dev Cert.DUSmallIdeal.nD) → Buf (Elt Ideal) ((c.tc : Thread Cert.DUSmallIdeal.nD Cert.DUSmallIdeal.τ).loc Cert.DUSmallIdeal.main_v0)),
      θ_run (Cert.DUSmallIdeal.defs (F := Ideal)) (onTc (τ := Cert.DUSmallIdeal.τ) (Cert.DUSmallIdeal.main (F := Ideal))) ⟨m, fun _ => 0, g⟩ (fun r => ∀ c : Dev Cert.DUSmallIdeal.nD,
          r.2.mem ((c.tc : Thread Cert.DUSmallIdeal.nD Cert.DUSmallIdeal.τ).loc Cert.DUSmallIdeal.main_v0) = v0 c
          ∧ r.2.mem ((c.tc : Thread Cert.DUSmallIdeal.nD Cert.DUSmallIdeal.τ).loc Cert.DUSmallIdeal.main_arg0) = m ((c.tc : Thread Cert.DUSmallIdeal.nD Cert.DUSmallIdeal.τ).loc Cert.DUSmallIdeal.main_arg0)
          ∧ r.2.mem ((c.tc : Thread Cert.DUSmallIdeal.nD Cert.DUSmallIdeal.τ).loc Cert.DUSmallIdeal.main_arg1) = m ((c.tc : Thread Cert.DUSmallIdeal.nD Cert.DUSmallIdeal.τ).loc Cert.DUSmallIdeal.main_arg1))
      ∧ θ_run (Cert.DUSmallReferenceIdeal.defs (F := Ideal)) (onTc (τ := Cert.DUSmallReferenceIdeal.τ) (Cert.DUSmallReferenceIdeal.main (F := Ideal))) ⟨m', fun _ => 0, g'⟩ (fun r => ∀ c : Dev Cert.DUSmallReferenceIdeal.nD,
          r.2.mem ((c.tc : Thread Cert.DUSmallReferenceIdeal.nD Cert.DUSmallReferenceIdeal.τ).loc Cert.DUSmallReferenceIdeal.main_v5) = v0 c
          ∧ r.2.mem ((c.tc : Thread Cert.DUSmallReferenceIdeal.nD Cert.DUSmallReferenceIdeal.τ).loc Cert.DUSmallReferenceIdeal.main_arg0) = m' ((c.tc : Thread Cert.DUSmallReferenceIdeal.nD Cert.DUSmallReferenceIdeal.τ).loc Cert.DUSmallReferenceIdeal.main_arg0)
          ∧ r.2.mem ((c.tc : Thread Cert.DUSmallReferenceIdeal.nD Cert.DUSmallReferenceIdeal.τ).loc Cert.DUSmallReferenceIdeal.main_arg1) = m' ((c.tc : Thread Cert.DUSmallReferenceIdeal.nD Cert.DUSmallReferenceIdeal.τ).loc Cert.DUSmallReferenceIdeal.main_arg1))

def preserves_DUFirst_DUFirstIdeal : Prop :=
  True

def algebraic_DUFirstIdeal_DUFirstReferenceIdeal [hDUFirstIdeal : Cert.DUFirstIdeal.Facts] [hDUFirstReferenceIdeal : Cert.DUFirstReferenceIdeal.Facts] : Prop :=
  ∀ (m : (ℓ : Loc Cert.DUFirstIdeal.nD Cert.DUFirstIdeal.τ Cert.DUFirstIdeal.sig) → Buf (Elt Ideal) ℓ) (g : Dev Cert.DUFirstIdeal.nD → PrngReg)
    (m' : (ℓ : Loc Cert.DUFirstReferenceIdeal.nD Cert.DUFirstReferenceIdeal.τ Cert.DUFirstReferenceIdeal.sig) → Buf (Elt Ideal) ℓ) (g' : Dev Cert.DUFirstReferenceIdeal.nD → PrngReg), Pre_DUFirstIdeal m →
    (∀ c : Dev Cert.DUFirstIdeal.nD,
      m' ((c.tc : Thread Cert.DUFirstReferenceIdeal.nD Cert.DUFirstReferenceIdeal.τ).loc Cert.DUFirstReferenceIdeal.main_arg0) = m ((c.tc : Thread Cert.DUFirstIdeal.nD Cert.DUFirstIdeal.τ).loc Cert.DUFirstIdeal.main_arg0)
      ∧ m' ((c.tc : Thread Cert.DUFirstReferenceIdeal.nD Cert.DUFirstReferenceIdeal.τ).loc Cert.DUFirstReferenceIdeal.main_arg1) = m ((c.tc : Thread Cert.DUFirstIdeal.nD Cert.DUFirstIdeal.τ).loc Cert.DUFirstIdeal.main_arg1)
      ∧ m' ((c.tc : Thread Cert.DUFirstReferenceIdeal.nD Cert.DUFirstReferenceIdeal.τ).loc Cert.DUFirstReferenceIdeal.main_arg2) = m ((c.tc : Thread Cert.DUFirstIdeal.nD Cert.DUFirstIdeal.τ).loc Cert.DUFirstIdeal.main_arg2)) →
    ∃ (v0 : (c : Dev Cert.DUFirstIdeal.nD) → Buf (Elt Ideal) ((c.tc : Thread Cert.DUFirstIdeal.nD Cert.DUFirstIdeal.τ).loc Cert.DUFirstIdeal.main_v0)),
      θ_run (Cert.DUFirstIdeal.defs (F := Ideal)) (onTc (τ := Cert.DUFirstIdeal.τ) (Cert.DUFirstIdeal.main (F := Ideal))) ⟨m, fun _ => 0, g⟩ (fun r => ∀ c : Dev Cert.DUFirstIdeal.nD,
          r.2.mem ((c.tc : Thread Cert.DUFirstIdeal.nD Cert.DUFirstIdeal.τ).loc Cert.DUFirstIdeal.main_v0) = v0 c
          ∧ r.2.mem ((c.tc : Thread Cert.DUFirstIdeal.nD Cert.DUFirstIdeal.τ).loc Cert.DUFirstIdeal.main_arg0) = m ((c.tc : Thread Cert.DUFirstIdeal.nD Cert.DUFirstIdeal.τ).loc Cert.DUFirstIdeal.main_arg0)
          ∧ r.2.mem ((c.tc : Thread Cert.DUFirstIdeal.nD Cert.DUFirstIdeal.τ).loc Cert.DUFirstIdeal.main_arg1) = m ((c.tc : Thread Cert.DUFirstIdeal.nD Cert.DUFirstIdeal.τ).loc Cert.DUFirstIdeal.main_arg1)
          ∧ r.2.mem ((c.tc : Thread Cert.DUFirstIdeal.nD Cert.DUFirstIdeal.τ).loc Cert.DUFirstIdeal.main_arg2) = m ((c.tc : Thread Cert.DUFirstIdeal.nD Cert.DUFirstIdeal.τ).loc Cert.DUFirstIdeal.main_arg2))
      ∧ θ_run (Cert.DUFirstReferenceIdeal.defs (F := Ideal)) (onTc (τ := Cert.DUFirstReferenceIdeal.τ) (Cert.DUFirstReferenceIdeal.main (F := Ideal))) ⟨m', fun _ => 0, g'⟩ (fun r => ∀ c : Dev Cert.DUFirstReferenceIdeal.nD,
          r.2.mem ((c.tc : Thread Cert.DUFirstReferenceIdeal.nD Cert.DUFirstReferenceIdeal.τ).loc Cert.DUFirstReferenceIdeal.main_v8) = v0 c
          ∧ r.2.mem ((c.tc : Thread Cert.DUFirstReferenceIdeal.nD Cert.DUFirstReferenceIdeal.τ).loc Cert.DUFirstReferenceIdeal.main_arg0) = m' ((c.tc : Thread Cert.DUFirstReferenceIdeal.nD Cert.DUFirstReferenceIdeal.τ).loc Cert.DUFirstReferenceIdeal.main_arg0)
          ∧ r.2.mem ((c.tc : Thread Cert.DUFirstReferenceIdeal.nD Cert.DUFirstReferenceIdeal.τ).loc Cert.DUFirstReferenceIdeal.main_arg1) = m' ((c.tc : Thread Cert.DUFirstReferenceIdeal.nD Cert.DUFirstReferenceIdeal.τ).loc Cert.DUFirstReferenceIdeal.main_arg1)
          ∧ r.2.mem ((c.tc : Thread Cert.DUFirstReferenceIdeal.nD Cert.DUFirstReferenceIdeal.τ).loc Cert.DUFirstReferenceIdeal.main_arg2) = m' ((c.tc : Thread Cert.DUFirstReferenceIdeal.nD Cert.DUFirstReferenceIdeal.τ).loc Cert.DUFirstReferenceIdeal.main_arg2))

def preserves_DUSecond_DUSecondIdeal : Prop :=
  True

def algebraic_DUSecondIdeal_DUSecondReferenceIdeal [hDUSecondIdeal : Cert.DUSecondIdeal.Facts] [hDUSecondReferenceIdeal : Cert.DUSecondReferenceIdeal.Facts] : Prop :=
  ∀ (m : (ℓ : Loc Cert.DUSecondIdeal.nD Cert.DUSecondIdeal.τ Cert.DUSecondIdeal.sig) → Buf (Elt Ideal) ℓ) (g : Dev Cert.DUSecondIdeal.nD → PrngReg)
    (m' : (ℓ : Loc Cert.DUSecondReferenceIdeal.nD Cert.DUSecondReferenceIdeal.τ Cert.DUSecondReferenceIdeal.sig) → Buf (Elt Ideal) ℓ) (g' : Dev Cert.DUSecondReferenceIdeal.nD → PrngReg), Pre_DUSecondIdeal m →
    (∀ c : Dev Cert.DUSecondIdeal.nD,
      m' ((c.tc : Thread Cert.DUSecondReferenceIdeal.nD Cert.DUSecondReferenceIdeal.τ).loc Cert.DUSecondReferenceIdeal.main_arg0) = m ((c.tc : Thread Cert.DUSecondIdeal.nD Cert.DUSecondIdeal.τ).loc Cert.DUSecondIdeal.main_arg0)
      ∧ m' ((c.tc : Thread Cert.DUSecondReferenceIdeal.nD Cert.DUSecondReferenceIdeal.τ).loc Cert.DUSecondReferenceIdeal.main_arg1) = m ((c.tc : Thread Cert.DUSecondIdeal.nD Cert.DUSecondIdeal.τ).loc Cert.DUSecondIdeal.main_arg1)
      ∧ m' ((c.tc : Thread Cert.DUSecondReferenceIdeal.nD Cert.DUSecondReferenceIdeal.τ).loc Cert.DUSecondReferenceIdeal.main_arg2) = m ((c.tc : Thread Cert.DUSecondIdeal.nD Cert.DUSecondIdeal.τ).loc Cert.DUSecondIdeal.main_arg2)) →
    ∃ (v0 : (c : Dev Cert.DUSecondIdeal.nD) → Buf (Elt Ideal) ((c.tc : Thread Cert.DUSecondIdeal.nD Cert.DUSecondIdeal.τ).loc Cert.DUSecondIdeal.main_v0)),
      θ_run (Cert.DUSecondIdeal.defs (F := Ideal)) (onTc (τ := Cert.DUSecondIdeal.τ) (Cert.DUSecondIdeal.main (F := Ideal))) ⟨m, fun _ => 0, g⟩ (fun r => ∀ c : Dev Cert.DUSecondIdeal.nD,
          r.2.mem ((c.tc : Thread Cert.DUSecondIdeal.nD Cert.DUSecondIdeal.τ).loc Cert.DUSecondIdeal.main_v0) = v0 c
          ∧ r.2.mem ((c.tc : Thread Cert.DUSecondIdeal.nD Cert.DUSecondIdeal.τ).loc Cert.DUSecondIdeal.main_arg0) = m ((c.tc : Thread Cert.DUSecondIdeal.nD Cert.DUSecondIdeal.τ).loc Cert.DUSecondIdeal.main_arg0)
          ∧ r.2.mem ((c.tc : Thread Cert.DUSecondIdeal.nD Cert.DUSecondIdeal.τ).loc Cert.DUSecondIdeal.main_arg1) = m ((c.tc : Thread Cert.DUSecondIdeal.nD Cert.DUSecondIdeal.τ).loc Cert.DUSecondIdeal.main_arg1)
          ∧ r.2.mem ((c.tc : Thread Cert.DUSecondIdeal.nD Cert.DUSecondIdeal.τ).loc Cert.DUSecondIdeal.main_arg2) = m ((c.tc : Thread Cert.DUSecondIdeal.nD Cert.DUSecondIdeal.τ).loc Cert.DUSecondIdeal.main_arg2))
      ∧ θ_run (Cert.DUSecondReferenceIdeal.defs (F := Ideal)) (onTc (τ := Cert.DUSecondReferenceIdeal.τ) (Cert.DUSecondReferenceIdeal.main (F := Ideal))) ⟨m', fun _ => 0, g'⟩ (fun r => ∀ c : Dev Cert.DUSecondReferenceIdeal.nD,
          r.2.mem ((c.tc : Thread Cert.DUSecondReferenceIdeal.nD Cert.DUSecondReferenceIdeal.τ).loc Cert.DUSecondReferenceIdeal.main_v8) = v0 c
          ∧ r.2.mem ((c.tc : Thread Cert.DUSecondReferenceIdeal.nD Cert.DUSecondReferenceIdeal.τ).loc Cert.DUSecondReferenceIdeal.main_arg0) = m' ((c.tc : Thread Cert.DUSecondReferenceIdeal.nD Cert.DUSecondReferenceIdeal.τ).loc Cert.DUSecondReferenceIdeal.main_arg0)
          ∧ r.2.mem ((c.tc : Thread Cert.DUSecondReferenceIdeal.nD Cert.DUSecondReferenceIdeal.τ).loc Cert.DUSecondReferenceIdeal.main_arg1) = m' ((c.tc : Thread Cert.DUSecondReferenceIdeal.nD Cert.DUSecondReferenceIdeal.τ).loc Cert.DUSecondReferenceIdeal.main_arg1)
          ∧ r.2.mem ((c.tc : Thread Cert.DUSecondReferenceIdeal.nD Cert.DUSecondReferenceIdeal.τ).loc Cert.DUSecondReferenceIdeal.main_arg2) = m' ((c.tc : Thread Cert.DUSecondReferenceIdeal.nD Cert.DUSecondReferenceIdeal.τ).loc Cert.DUSecondReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v18) = v0 c
          ∧ r.2.mem ((c.tc : Thread Cert.DownReferenceIdeal.nD Cert.DownReferenceIdeal.τ).loc Cert.DownReferenceIdeal.main_v26) = v1 c
          ∧ r.2.mem ((c.tc : Thread Cert.DownReferenceIdeal.nD Cert.DownReferenceIdeal.τ).loc Cert.DownReferenceIdeal.main_v29) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamPa_AdamPaIdeal : Prop :=
  True

def algebraic_AdamPaIdeal_AdamPaReferenceIdeal [hAdamPaIdeal : Cert.AdamPaIdeal.Facts] [hAdamPaReferenceIdeal : Cert.AdamPaReferenceIdeal.Facts] : Prop :=
  ∀ (m : (ℓ : Loc Cert.AdamPaIdeal.nD Cert.AdamPaIdeal.τ Cert.AdamPaIdeal.sig) → Buf (Elt Ideal) ℓ) (g : Dev Cert.AdamPaIdeal.nD → PrngReg)
    (m' : (ℓ : Loc Cert.AdamPaReferenceIdeal.nD Cert.AdamPaReferenceIdeal.τ Cert.AdamPaReferenceIdeal.sig) → Buf (Elt Ideal) ℓ) (g' : Dev Cert.AdamPaReferenceIdeal.nD → PrngReg), Pre_AdamPaIdeal m →
    (∀ c : Dev Cert.AdamPaIdeal.nD,
      m' ((c.tc : Thread Cert.AdamPaReferenceIdeal.nD Cert.AdamPaReferenceIdeal.τ).loc Cert.AdamPaReferenceIdeal.main_arg0) = m ((c.tc : Thread Cert.AdamPaIdeal.nD Cert.AdamPaIdeal.τ).loc Cert.AdamPaIdeal.main_arg0)
      ∧ m' ((c.tc : Thread Cert.AdamPaReferenceIdeal.nD Cert.AdamPaReferenceIdeal.τ).loc Cert.AdamPaReferenceIdeal.main_arg1) = m ((c.tc : Thread Cert.AdamPaIdeal.nD Cert.AdamPaIdeal.τ).loc Cert.AdamPaIdeal.main_arg1)
      ∧ m' ((c.tc : Thread Cert.AdamPaReferenceIdeal.nD Cert.AdamPaReferenceIdeal.τ).loc Cert.AdamPaReferenceIdeal.main_arg2) = m ((c.tc : Thread Cert.AdamPaIdeal.nD Cert.AdamPaIdeal.τ).loc Cert.AdamPaIdeal.main_arg2)
      ∧ m' ((c.tc : Thread Cert.AdamPaReferenceIdeal.nD Cert.AdamPaReferenceIdeal.τ).loc Cert.AdamPaReferenceIdeal.main_arg3) = m ((c.tc : Thread Cert.AdamPaIdeal.nD Cert.AdamPaIdeal.τ).loc Cert.AdamPaIdeal.main_arg3)
      ∧ m' ((c.tc : Thread Cert.AdamPaReferenceIdeal.nD Cert.AdamPaReferenceIdeal.τ).loc Cert.AdamPaReferenceIdeal.main_arg4) = m ((c.tc : Thread Cert.AdamPaIdeal.nD Cert.AdamPaIdeal.τ).loc Cert.AdamPaIdeal.main_arg4)
      ∧ m' ((c.tc : Thread Cert.AdamPaReferenceIdeal.nD Cert.AdamPaReferenceIdeal.τ).loc Cert.AdamPaReferenceIdeal.main_arg5) = m ((c.tc : Thread Cert.AdamPaIdeal.nD Cert.AdamPaIdeal.τ).loc Cert.AdamPaIdeal.main_arg5)) →
    ∃ (v0 : (c : Dev Cert.AdamPaIdeal.nD) → Buf (Elt Ideal) ((c.tc : Thread Cert.AdamPaIdeal.nD Cert.AdamPaIdeal.τ).loc Cert.AdamPaIdeal.main_v0_0)) (v1 : (c : Dev Cert.AdamPaIdeal.nD) → Buf (Elt Ideal) ((c.tc : Thread Cert.AdamPaIdeal.nD Cert.AdamPaIdeal.τ).loc Cert.AdamPaIdeal.main_v0_1)) (v2 : (c : Dev Cert.AdamPaIdeal.nD) → Buf (Elt Ideal) ((c.tc : Thread Cert.AdamPaIdeal.nD Cert.AdamPaIdeal.τ).loc Cert.AdamPaIdeal.main_v0_2)) (v3 : (c : Dev Cert.AdamPaIdeal.nD) → Buf (Elt Ideal) ((c.tc : Thread Cert.AdamPaIdeal.nD Cert.AdamPaIdeal.τ).loc Cert.AdamPaIdeal.main_v0_3)),
      θ_run (Cert.AdamPaIdeal.defs (F := Ideal)) (onTc (τ := Cert.AdamPaIdeal.τ) (Cert.AdamPaIdeal.main (F := Ideal))) ⟨m, fun _ => 0, g⟩ (fun r => ∀ c : Dev Cert.AdamPaIdeal.nD,
          r.2.mem ((c.tc : Thread Cert.AdamPaIdeal.nD Cert.AdamPaIdeal.τ).loc Cert.AdamPaIdeal.main_v0_0) = v0 c
          ∧ r.2.mem ((c.tc : Thread Cert.AdamPaIdeal.nD Cert.AdamPaIdeal.τ).loc Cert.AdamPaIdeal.main_v0_1) = v1 c
          ∧ r.2.mem ((c.tc : Thread Cert.AdamPaIdeal.nD Cert.AdamPaIdeal.τ).loc Cert.AdamPaIdeal.main_v0_2) = v2 c
          ∧ r.2.mem ((c.tc : Thread Cert.AdamPaIdeal.nD Cert.AdamPaIdeal.τ).loc Cert.AdamPaIdeal.main_v0_3) = v3 c
          ∧ r.2.mem ((c.tc : Thread Cert.AdamPaIdeal.nD Cert.AdamPaIdeal.τ).loc Cert.AdamPaIdeal.main_arg0) = m ((c.tc : Thread Cert.AdamPaIdeal.nD Cert.AdamPaIdeal.τ).loc Cert.AdamPaIdeal.main_arg0)
          ∧ r.2.mem ((c.tc : Thread Cert.AdamPaIdeal.nD Cert.AdamPaIdeal.τ).loc Cert.AdamPaIdeal.main_arg1) = m ((c.tc : Thread Cert.AdamPaIdeal.nD Cert.AdamPaIdeal.τ).loc Cert.AdamPaIdeal.main_arg1)
          ∧ r.2.mem ((c.tc : Thread Cert.AdamPaIdeal.nD Cert.AdamPaIdeal.τ).loc Cert.AdamPaIdeal.main_arg2) = m ((c.tc : Thread Cert.AdamPaIdeal.nD Cert.AdamPaIdeal.τ).loc Cert.AdamPaIdeal.main_arg2)
          ∧ r.2.mem ((c.tc : Thread Cert.AdamPaIdeal.nD Cert.AdamPaIdeal.τ).loc Cert.AdamPaIdeal.main_arg3) = m ((c.tc : Thread Cert.AdamPaIdeal.nD Cert.AdamPaIdeal.τ).loc Cert.AdamPaIdeal.main_arg3)
          ∧ r.2.mem ((c.tc : Thread Cert.AdamPaIdeal.nD Cert.AdamPaIdeal.τ).loc Cert.AdamPaIdeal.main_arg4) = m ((c.tc : Thread Cert.AdamPaIdeal.nD Cert.AdamPaIdeal.τ).loc Cert.AdamPaIdeal.main_arg4)
          ∧ r.2.mem ((c.tc : Thread Cert.AdamPaIdeal.nD Cert.AdamPaIdeal.τ).loc Cert.AdamPaIdeal.main_arg5) = m ((c.tc : Thread Cert.AdamPaIdeal.nD Cert.AdamPaIdeal.τ).loc Cert.AdamPaIdeal.main_arg5))
      ∧ θ_run (Cert.AdamPaReferenceIdeal.defs (F := Ideal)) (onTc (τ := Cert.AdamPaReferenceIdeal.τ) (Cert.AdamPaReferenceIdeal.main (F := Ideal))) ⟨m', fun _ => 0, g'⟩ (fun r => ∀ c : Dev Cert.AdamPaReferenceIdeal.nD,
          r.2.mem ((c.tc : Thread Cert.AdamPaReferenceIdeal.nD Cert.AdamPaReferenceIdeal.τ).loc Cert.AdamPaReferenceIdeal.main_v6) = v0 c
          ∧ r.2.mem ((c.tc : Thread Cert.AdamPaReferenceIdeal.nD Cert.AdamPaReferenceIdeal.τ).loc Cert.AdamPaReferenceIdeal.main_v30) = v1 c
          ∧ r.2.mem ((c.tc : Thread Cert.AdamPaReferenceIdeal.nD Cert.AdamPaReferenceIdeal.τ).loc Cert.AdamPaReferenceIdeal.main_v11) = v2 c
          ∧ r.2.mem ((c.tc : Thread Cert.AdamPaReferenceIdeal.nD Cert.AdamPaReferenceIdeal.τ).loc Cert.AdamPaReferenceIdeal.main_v17) = v3 c
          ∧ r.2.mem ((c.tc : Thread Cert.AdamPaReferenceIdeal.nD Cert.AdamPaReferenceIdeal.τ).loc Cert.AdamPaReferenceIdeal.main_arg0) = m' ((c.tc : Thread Cert.AdamPaReferenceIdeal.nD Cert.AdamPaReferenceIdeal.τ).loc Cert.AdamPaReferenceIdeal.main_arg0)
          ∧ r.2.mem ((c.tc : Thread Cert.AdamPaReferenceIdeal.nD Cert.AdamPaReferenceIdeal.τ).loc Cert.AdamPaReferenceIdeal.main_arg1) = m' ((c.tc : Thread Cert.AdamPaReferenceIdeal.nD Cert.AdamPaReferenceIdeal.τ).loc Cert.AdamPaReferenceIdeal.main_arg1)
          ∧ r.2.mem ((c.tc : Thread Cert.AdamPaReferenceIdeal.nD Cert.AdamPaReferenceIdeal.τ).loc Cert.AdamPaReferenceIdeal.main_arg2) = m' ((c.tc : Thread Cert.AdamPaReferenceIdeal.nD Cert.AdamPaReferenceIdeal.τ).loc Cert.AdamPaReferenceIdeal.main_arg2)
          ∧ r.2.mem ((c.tc : Thread Cert.AdamPaReferenceIdeal.nD Cert.AdamPaReferenceIdeal.τ).loc Cert.AdamPaReferenceIdeal.main_arg3) = m' ((c.tc : Thread Cert.AdamPaReferenceIdeal.nD Cert.AdamPaReferenceIdeal.τ).loc Cert.AdamPaReferenceIdeal.main_arg3)
          ∧ r.2.mem ((c.tc : Thread Cert.AdamPaReferenceIdeal.nD Cert.AdamPaReferenceIdeal.τ).loc Cert.AdamPaReferenceIdeal.main_arg4) = m' ((c.tc : Thread Cert.AdamPaReferenceIdeal.nD Cert.AdamPaReferenceIdeal.τ).loc Cert.AdamPaReferenceIdeal.main_arg4)
          ∧ r.2.mem ((c.tc : Thread Cert.AdamPaReferenceIdeal.nD Cert.AdamPaReferenceIdeal.τ).loc Cert.AdamPaReferenceIdeal.main_arg5) = m' ((c.tc : Thread Cert.AdamPaReferenceIdeal.nD Cert.AdamPaReferenceIdeal.τ).loc Cert.AdamPaReferenceIdeal.main_arg5))

def preserves_AdamPb_AdamPbIdeal : Prop :=
  True

def algebraic_AdamPbIdeal_AdamPbReferenceIdeal [hAdamPbIdeal : Cert.AdamPbIdeal.Facts] [hAdamPbReferenceIdeal : Cert.AdamPbReferenceIdeal.Facts] : Prop :=
  ∀ (m : (ℓ : Loc Cert.AdamPbIdeal.nD Cert.AdamPbIdeal.τ Cert.AdamPbIdeal.sig) → Buf (Elt Ideal) ℓ) (g : Dev Cert.AdamPbIdeal.nD → PrngReg)
    (m' : (ℓ : Loc Cert.AdamPbReferenceIdeal.nD Cert.AdamPbReferenceIdeal.τ Cert.AdamPbReferenceIdeal.sig) → Buf (Elt Ideal) ℓ) (g' : Dev Cert.AdamPbReferenceIdeal.nD → PrngReg), Pre_AdamPbIdeal m →
    (∀ c : Dev Cert.AdamPbIdeal.nD,
      m' ((c.tc : Thread Cert.AdamPbReferenceIdeal.nD Cert.AdamPbReferenceIdeal.τ).loc Cert.AdamPbReferenceIdeal.main_arg0) = m ((c.tc : Thread Cert.AdamPbIdeal.nD Cert.AdamPbIdeal.τ).loc Cert.AdamPbIdeal.main_arg0)
      ∧ m' ((c.tc : Thread Cert.AdamPbReferenceIdeal.nD Cert.AdamPbReferenceIdeal.τ).loc Cert.AdamPbReferenceIdeal.main_arg1) = m ((c.tc : Thread Cert.AdamPbIdeal.nD Cert.AdamPbIdeal.τ).loc Cert.AdamPbIdeal.main_arg1)
      ∧ m' ((c.tc : Thread Cert.AdamPbReferenceIdeal.nD Cert.AdamPbReferenceIdeal.τ).loc Cert.AdamPbReferenceIdeal.main_arg2) = m ((c.tc : Thread Cert.AdamPbIdeal.nD Cert.AdamPbIdeal.τ).loc Cert.AdamPbIdeal.main_arg2)
      ∧ m' ((c.tc : Thread Cert.AdamPbReferenceIdeal.nD Cert.AdamPbReferenceIdeal.τ).loc Cert.AdamPbReferenceIdeal.main_arg3) = m ((c.tc : Thread Cert.AdamPbIdeal.nD Cert.AdamPbIdeal.τ).loc Cert.AdamPbIdeal.main_arg3)
      ∧ m' ((c.tc : Thread Cert.AdamPbReferenceIdeal.nD Cert.AdamPbReferenceIdeal.τ).loc Cert.AdamPbReferenceIdeal.main_arg4) = m ((c.tc : Thread Cert.AdamPbIdeal.nD Cert.AdamPbIdeal.τ).loc Cert.AdamPbIdeal.main_arg4)
      ∧ m' ((c.tc : Thread Cert.AdamPbReferenceIdeal.nD Cert.AdamPbReferenceIdeal.τ).loc Cert.AdamPbReferenceIdeal.main_arg5) = m ((c.tc : Thread Cert.AdamPbIdeal.nD Cert.AdamPbIdeal.τ).loc Cert.AdamPbIdeal.main_arg5)) →
    ∃ (v0 : (c : Dev Cert.AdamPbIdeal.nD) → Buf (Elt Ideal) ((c.tc : Thread Cert.AdamPbIdeal.nD Cert.AdamPbIdeal.τ).loc Cert.AdamPbIdeal.main_v0_0)) (v1 : (c : Dev Cert.AdamPbIdeal.nD) → Buf (Elt Ideal) ((c.tc : Thread Cert.AdamPbIdeal.nD Cert.AdamPbIdeal.τ).loc Cert.AdamPbIdeal.main_v0_1)) (v2 : (c : Dev Cert.AdamPbIdeal.nD) → Buf (Elt Ideal) ((c.tc : Thread Cert.AdamPbIdeal.nD Cert.AdamPbIdeal.τ).loc Cert.AdamPbIdeal.main_v0_2)) (v3 : (c : Dev Cert.AdamPbIdeal.nD) → Buf (Elt Ideal) ((c.tc : Thread Cert.AdamPbIdeal.nD Cert.AdamPbIdeal.τ).loc Cert.AdamPbIdeal.main_v0_3)),
      θ_run (Cert.AdamPbIdeal.defs (F := Ideal)) (onTc (τ := Cert.AdamPbIdeal.τ) (Cert.AdamPbIdeal.main (F := Ideal))) ⟨m, fun _ => 0, g⟩ (fun r => ∀ c : Dev Cert.AdamPbIdeal.nD,
          r.2.mem ((c.tc : Thread Cert.AdamPbIdeal.nD Cert.AdamPbIdeal.τ).loc Cert.AdamPbIdeal.main_v0_0) = v0 c
          ∧ r.2.mem ((c.tc : Thread Cert.AdamPbIdeal.nD Cert.AdamPbIdeal.τ).loc Cert.AdamPbIdeal.main_v0_1) = v1 c
          ∧ r.2.mem ((c.tc : Thread Cert.AdamPbIdeal.nD Cert.AdamPbIdeal.τ).loc Cert.AdamPbIdeal.main_v0_2) = v2 c
          ∧ r.2.mem ((c.tc : Thread Cert.AdamPbIdeal.nD Cert.AdamPbIdeal.τ).loc Cert.AdamPbIdeal.main_v0_3) = v3 c
          ∧ r.2.mem ((c.tc : Thread Cert.AdamPbIdeal.nD Cert.AdamPbIdeal.τ).loc Cert.AdamPbIdeal.main_arg0) = m ((c.tc : Thread Cert.AdamPbIdeal.nD Cert.AdamPbIdeal.τ).loc Cert.AdamPbIdeal.main_arg0)
          ∧ r.2.mem ((c.tc : Thread Cert.AdamPbIdeal.nD Cert.AdamPbIdeal.τ).loc Cert.AdamPbIdeal.main_arg1) = m ((c.tc : Thread Cert.AdamPbIdeal.nD Cert.AdamPbIdeal.τ).loc Cert.AdamPbIdeal.main_arg1)
          ∧ r.2.mem ((c.tc : Thread Cert.AdamPbIdeal.nD Cert.AdamPbIdeal.τ).loc Cert.AdamPbIdeal.main_arg2) = m ((c.tc : Thread Cert.AdamPbIdeal.nD Cert.AdamPbIdeal.τ).loc Cert.AdamPbIdeal.main_arg2)
          ∧ r.2.mem ((c.tc : Thread Cert.AdamPbIdeal.nD Cert.AdamPbIdeal.τ).loc Cert.AdamPbIdeal.main_arg3) = m ((c.tc : Thread Cert.AdamPbIdeal.nD Cert.AdamPbIdeal.τ).loc Cert.AdamPbIdeal.main_arg3)
          ∧ r.2.mem ((c.tc : Thread Cert.AdamPbIdeal.nD Cert.AdamPbIdeal.τ).loc Cert.AdamPbIdeal.main_arg4) = m ((c.tc : Thread Cert.AdamPbIdeal.nD Cert.AdamPbIdeal.τ).loc Cert.AdamPbIdeal.main_arg4)
          ∧ r.2.mem ((c.tc : Thread Cert.AdamPbIdeal.nD Cert.AdamPbIdeal.τ).loc Cert.AdamPbIdeal.main_arg5) = m ((c.tc : Thread Cert.AdamPbIdeal.nD Cert.AdamPbIdeal.τ).loc Cert.AdamPbIdeal.main_arg5))
      ∧ θ_run (Cert.AdamPbReferenceIdeal.defs (F := Ideal)) (onTc (τ := Cert.AdamPbReferenceIdeal.τ) (Cert.AdamPbReferenceIdeal.main (F := Ideal))) ⟨m', fun _ => 0, g'⟩ (fun r => ∀ c : Dev Cert.AdamPbReferenceIdeal.nD,
          r.2.mem ((c.tc : Thread Cert.AdamPbReferenceIdeal.nD Cert.AdamPbReferenceIdeal.τ).loc Cert.AdamPbReferenceIdeal.main_v6) = v0 c
          ∧ r.2.mem ((c.tc : Thread Cert.AdamPbReferenceIdeal.nD Cert.AdamPbReferenceIdeal.τ).loc Cert.AdamPbReferenceIdeal.main_v30) = v1 c
          ∧ r.2.mem ((c.tc : Thread Cert.AdamPbReferenceIdeal.nD Cert.AdamPbReferenceIdeal.τ).loc Cert.AdamPbReferenceIdeal.main_v11) = v2 c
          ∧ r.2.mem ((c.tc : Thread Cert.AdamPbReferenceIdeal.nD Cert.AdamPbReferenceIdeal.τ).loc Cert.AdamPbReferenceIdeal.main_v17) = v3 c
          ∧ r.2.mem ((c.tc : Thread Cert.AdamPbReferenceIdeal.nD Cert.AdamPbReferenceIdeal.τ).loc Cert.AdamPbReferenceIdeal.main_arg0) = m' ((c.tc : Thread Cert.AdamPbReferenceIdeal.nD Cert.AdamPbReferenceIdeal.τ).loc Cert.AdamPbReferenceIdeal.main_arg0)
          ∧ r.2.mem ((c.tc : Thread Cert.AdamPbReferenceIdeal.nD Cert.AdamPbReferenceIdeal.τ).loc Cert.AdamPbReferenceIdeal.main_arg1) = m' ((c.tc : Thread Cert.AdamPbReferenceIdeal.nD Cert.AdamPbReferenceIdeal.τ).loc Cert.AdamPbReferenceIdeal.main_arg1)
          ∧ r.2.mem ((c.tc : Thread Cert.AdamPbReferenceIdeal.nD Cert.AdamPbReferenceIdeal.τ).loc Cert.AdamPbReferenceIdeal.main_arg2) = m' ((c.tc : Thread Cert.AdamPbReferenceIdeal.nD Cert.AdamPbReferenceIdeal.τ).loc Cert.AdamPbReferenceIdeal.main_arg2)
          ∧ r.2.mem ((c.tc : Thread Cert.AdamPbReferenceIdeal.nD Cert.AdamPbReferenceIdeal.τ).loc Cert.AdamPbReferenceIdeal.main_arg3) = m' ((c.tc : Thread Cert.AdamPbReferenceIdeal.nD Cert.AdamPbReferenceIdeal.τ).loc Cert.AdamPbReferenceIdeal.main_arg3)
          ∧ r.2.mem ((c.tc : Thread Cert.AdamPbReferenceIdeal.nD Cert.AdamPbReferenceIdeal.τ).loc Cert.AdamPbReferenceIdeal.main_arg4) = m' ((c.tc : Thread Cert.AdamPbReferenceIdeal.nD Cert.AdamPbReferenceIdeal.τ).loc Cert.AdamPbReferenceIdeal.main_arg4)
          ∧ r.2.mem ((c.tc : Thread Cert.AdamPbReferenceIdeal.nD Cert.AdamPbReferenceIdeal.τ).loc Cert.AdamPbReferenceIdeal.main_arg5) = m' ((c.tc : Thread Cert.AdamPbReferenceIdeal.nD Cert.AdamPbReferenceIdeal.τ).loc Cert.AdamPbReferenceIdeal.main_arg5))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)
      ∧ m' ((c.tc : Thread Cert.AdamOutReferenceIdeal.nD Cert.AdamOutReferenceIdeal.τ).loc Cert.AdamOutReferenceIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v6) = v0 c
          ∧ r.2.mem ((c.tc : Thread Cert.AdamOutReferenceIdeal.nD Cert.AdamOutReferenceIdeal.τ).loc Cert.AdamOutReferenceIdeal.main_v30) = v1 c
          ∧ r.2.mem ((c.tc : Thread Cert.AdamOutReferenceIdeal.nD Cert.AdamOutReferenceIdeal.τ).loc Cert.AdamOutReferenceIdeal.main_v11) = v2 c
          ∧ r.2.mem ((c.tc : Thread Cert.AdamOutReferenceIdeal.nD Cert.AdamOutReferenceIdeal.τ).loc Cert.AdamOutReferenceIdeal.main_v17) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)
      ∧ m' ((c.tc : Thread Cert.AdamUpReferenceIdeal.nD Cert.AdamUpReferenceIdeal.τ).loc Cert.AdamUpReferenceIdeal.main_arg4) = m ((c.tc : Thread Cert.AdamUpIdeal.nD Cert.AdamUpIdeal.τ).loc Cert.AdamUpIdeal.main_arg4)
      ∧ m' ((c.tc : Thread Cert.AdamUpReferenceIdeal.nD Cert.AdamUpReferenceIdeal.τ).loc Cert.AdamUpReferenceIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v6) = v0 c
          ∧ r.2.mem ((c.tc : Thread Cert.AdamUpReferenceIdeal.nD Cert.AdamUpReferenceIdeal.τ).loc Cert.AdamUpReferenceIdeal.main_v30) = v1 c
          ∧ r.2.mem ((c.tc : Thread Cert.AdamUpReferenceIdeal.nD Cert.AdamUpReferenceIdeal.τ).loc Cert.AdamUpReferenceIdeal.main_v11) = v2 c
          ∧ r.2.mem ((c.tc : Thread Cert.AdamUpReferenceIdeal.nD Cert.AdamUpReferenceIdeal.τ).loc Cert.AdamUpReferenceIdeal.main_v17) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4)
          ∧ r.2.mem ((c.tc : Thread Cert.AdamUpReferenceIdeal.nD Cert.AdamUpReferenceIdeal.τ).loc Cert.AdamUpReferenceIdeal.main_arg5) = m' ((c.tc : Thread Cert.AdamUpReferenceIdeal.nD Cert.AdamUpReferenceIdeal.τ).loc Cert.AdamUpReferenceIdeal.main_arg5))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)
      ∧ m' ((c.tc : Thread Cert.AdamDownReferenceIdeal.nD Cert.AdamDownReferenceIdeal.τ).loc Cert.AdamDownReferenceIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v6) = v0 c
          ∧ r.2.mem ((c.tc : Thread Cert.AdamDownReferenceIdeal.nD Cert.AdamDownReferenceIdeal.τ).loc Cert.AdamDownReferenceIdeal.main_v30) = v1 c
          ∧ r.2.mem ((c.tc : Thread Cert.AdamDownReferenceIdeal.nD Cert.AdamDownReferenceIdeal.τ).loc Cert.AdamDownReferenceIdeal.main_v11) = v2 c
          ∧ r.2.mem ((c.tc : Thread Cert.AdamDownReferenceIdeal.nD Cert.AdamDownReferenceIdeal.τ).loc Cert.AdamDownReferenceIdeal.main_v17) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4)
          ∧ r.2.mem ((c.tc : Thread Cert.AdamDownReferenceIdeal.nD Cert.AdamDownReferenceIdeal.τ).loc Cert.AdamDownReferenceIdeal.main_arg5) = m' ((c.tc : Thread Cert.AdamDownReferenceIdeal.nD Cert.AdamDownReferenceIdeal.τ).loc Cert.AdamDownReferenceIdeal.main_arg5))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)
      ∧ m' ((c.tc : Thread Cert.AdamInReferenceIdeal.nD Cert.AdamInReferenceIdeal.τ).loc Cert.AdamInReferenceIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v6) = v0 c
          ∧ r.2.mem ((c.tc : Thread Cert.AdamInReferenceIdeal.nD Cert.AdamInReferenceIdeal.τ).loc Cert.AdamInReferenceIdeal.main_v30) = v1 c
          ∧ r.2.mem ((c.tc : Thread Cert.AdamInReferenceIdeal.nD Cert.AdamInReferenceIdeal.τ).loc Cert.AdamInReferenceIdeal.main_v11) = v2 c
          ∧ r.2.mem ((c.tc : Thread Cert.AdamInReferenceIdeal.nD Cert.AdamInReferenceIdeal.τ).loc Cert.AdamInReferenceIdeal.main_v17) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5))

def preserves_DX_DXIdeal : Prop :=
  True

def algebraic_DXIdeal_DXReferenceIdeal [hDXIdeal : Cert.DXIdeal.Facts] [hDXReferenceIdeal : Cert.DXReferenceIdeal.Facts] : Prop :=
  ∀ (m : (ℓ : Loc Cert.DXIdeal.nD Cert.DXIdeal.τ Cert.DXIdeal.sig) → Buf (Elt Ideal) ℓ) (g : Dev Cert.DXIdeal.nD → PrngReg)
    (m' : (ℓ : Loc Cert.DXReferenceIdeal.nD Cert.DXReferenceIdeal.τ Cert.DXReferenceIdeal.sig) → Buf (Elt Ideal) ℓ) (g' : Dev Cert.DXReferenceIdeal.nD → PrngReg), Pre_DXIdeal m →
    (∀ c : Dev Cert.DXIdeal.nD,
      m' ((c.tc : Thread Cert.DXReferenceIdeal.nD Cert.DXReferenceIdeal.τ).loc Cert.DXReferenceIdeal.main_arg0) = m ((c.tc : Thread Cert.DXIdeal.nD Cert.DXIdeal.τ).loc Cert.DXIdeal.main_arg0)
      ∧ m' ((c.tc : Thread Cert.DXReferenceIdeal.nD Cert.DXReferenceIdeal.τ).loc Cert.DXReferenceIdeal.main_arg1) = m ((c.tc : Thread Cert.DXIdeal.nD Cert.DXIdeal.τ).loc Cert.DXIdeal.main_arg1)
      ∧ m' ((c.tc : Thread Cert.DXReferenceIdeal.nD Cert.DXReferenceIdeal.τ).loc Cert.DXReferenceIdeal.main_arg2) = m ((c.tc : Thread Cert.DXIdeal.nD Cert.DXIdeal.τ).loc Cert.DXIdeal.main_arg2)
      ∧ m' ((c.tc : Thread Cert.DXReferenceIdeal.nD Cert.DXReferenceIdeal.τ).loc Cert.DXReferenceIdeal.main_arg3) = m ((c.tc : Thread Cert.DXIdeal.nD Cert.DXIdeal.τ).loc Cert.DXIdeal.main_arg3)) →
    ∃ (v0 : (c : Dev Cert.DXIdeal.nD) → Buf (Elt Ideal) ((c.tc : Thread Cert.DXIdeal.nD Cert.DXIdeal.τ).loc Cert.DXIdeal.main_v0_0)) (v1 : (c : Dev Cert.DXIdeal.nD) → Buf (Elt Ideal) ((c.tc : Thread Cert.DXIdeal.nD Cert.DXIdeal.τ).loc Cert.DXIdeal.main_v0_1)),
      θ_run (Cert.DXIdeal.defs (F := Ideal)) (onTc (τ := Cert.DXIdeal.τ) (Cert.DXIdeal.main (F := Ideal))) ⟨m, fun _ => 0, g⟩ (fun r => ∀ c : Dev Cert.DXIdeal.nD,
          r.2.mem ((c.tc : Thread Cert.DXIdeal.nD Cert.DXIdeal.τ).loc Cert.DXIdeal.main_v0_0) = v0 c
          ∧ r.2.mem ((c.tc : Thread Cert.DXIdeal.nD Cert.DXIdeal.τ).loc Cert.DXIdeal.main_v0_1) = v1 c
          ∧ r.2.mem ((c.tc : Thread Cert.DXIdeal.nD Cert.DXIdeal.τ).loc Cert.DXIdeal.main_arg0) = m ((c.tc : Thread Cert.DXIdeal.nD Cert.DXIdeal.τ).loc Cert.DXIdeal.main_arg0)
          ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
          ∧ r.2.mem ((c.tc : Thread Cert.DXIdeal.nD Cert.DXIdeal.τ).loc Cert.DXIdeal.main_arg2) = m ((c.tc : Thread Cert.DXIdeal.nD Cert.DXIdeal.τ).loc Cert.DXIdeal.main_arg2)
          ∧ r.2.mem ((c.tc : Thread Cert.DXIdeal.nD Cert.DXIdeal.τ).loc Cert.DXIdeal.main_arg3) = m ((c.tc : Thread Cert.DXIdeal.nD Cert.DXIdeal.τ).loc Cert.DXIdeal.main_arg3))
      ∧ θ_run (Cert.DXReferenceIdeal.defs (F := Ideal)) (onTc (τ := Cert.DXReferenceIdeal.τ) (Cert.DXReferenceIdeal.main (F := Ideal))) ⟨m', fun _ => 0, g'⟩ (fun r => ∀ c : Dev Cert.DXReferenceIdeal.nD,
          r.2.mem ((c.tc : Thread Cert.DXReferenceIdeal.nD Cert.DXReferenceIdeal.τ).loc Cert.DXReferenceIdeal.main_v34) = v0 c
          ∧ r.2.mem ((c.tc : Thread Cert.DXReferenceIdeal.nD Cert.DXReferenceIdeal.τ).loc Cert.DXReferenceIdeal.main_v17) = v1 c
          ∧ r.2.mem ((c.tc : Thread Cert.DXReferenceIdeal.nD Cert.DXReferenceIdeal.τ).loc Cert.DXReferenceIdeal.main_arg0) = m' ((c.tc : Thread Cert.DXReferenceIdeal.nD Cert.DXReferenceIdeal.τ).loc Cert.DXReferenceIdeal.main_arg0)
          ∧ r.2.mem ((c.tc : Thread Cert.DXReferenceIdeal.nD Cert.DXReferenceIdeal.τ).loc Cert.DXReferenceIdeal.main_arg1) = m' ((c.tc : Thread Cert.DXReferenceIdeal.nD Cert.DXReferenceIdeal.τ).loc Cert.DXReferenceIdeal.main_arg1)
          ∧ r.2.mem ((c.tc : Thread Cert.DXReferenceIdeal.nD Cert.DXReferenceIdeal.τ).loc Cert.DXReferenceIdeal.main_arg2) = m' ((c.tc : Thread Cert.DXReferenceIdeal.nD Cert.DXReferenceIdeal.τ).loc Cert.DXReferenceIdeal.main_arg2)
          ∧ r.2.mem ((c.tc : Thread Cert.DXReferenceIdeal.nD Cert.DXReferenceIdeal.τ).loc Cert.DXReferenceIdeal.main_arg3) = m' ((c.tc : Thread Cert.DXReferenceIdeal.nD Cert.DXReferenceIdeal.τ).loc Cert.DXReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hDwMain : Cert.DwMain.Facts) (hDwMainIdeal : Cert.DwMainIdeal.Facts) (hDwMainReferenceIdeal : Cert.DwMainReferenceIdeal.Facts) (hInMain : Cert.InMain.Facts) (hInMainIdeal : Cert.InMainIdeal.Facts) (hInMainReferenceIdeal : Cert.InMainReferenceIdeal.Facts) (hInSmall : Cert.InSmall.Facts) (hInSmallIdeal : Cert.InSmallIdeal.Facts) (hInSmallReferenceIdeal : Cert.InSmallReferenceIdeal.Facts) (hPa : Cert.Pa.Facts) (hPaIdeal : Cert.PaIdeal.Facts) (hPaReferenceIdeal : Cert.PaReferenceIdeal.Facts) (hPb : Cert.Pb.Facts) (hPbIdeal : Cert.PbIdeal.Facts) (hPbReferenceIdeal : Cert.PbReferenceIdeal.Facts) (hOut : Cert.Out.Facts) (hOutIdeal : Cert.OutIdeal.Facts) (hOutReferenceIdeal : Cert.OutReferenceIdeal.Facts) (hUp : Cert.Up.Facts) (hUpIdeal : Cert.UpIdeal.Facts) (hUpReferenceIdeal : Cert.UpReferenceIdeal.Facts) (hDAct : Cert.DAct.Facts) (hDActIdeal : Cert.DActIdeal.Facts) (hDActReferenceIdeal : Cert.DActReferenceIdeal.Facts) (hDwDown : Cert.DwDown.Facts) (hDwDownIdeal : Cert.DwDownIdeal.Facts) (hDwDownReferenceIdeal : Cert.DwDownReferenceIdeal.Facts) (hDwUp : Cert.DwUp.Facts) (hDwUpIdeal : Cert.DwUpIdeal.Facts) (hDwUpReferenceIdeal : Cert.DwUpReferenceIdeal.Facts) (hDHn : Cert.DHn.Facts) (hDHnIdeal : Cert.DHnIdeal.Facts) (hDHnReferenceIdeal : Cert.DHnReferenceIdeal.Facts) (hDMerged : Cert.DMerged.Facts) (hDMergedIdeal : Cert.DMergedIdeal.Facts) (hDMergedReferenceIdeal : Cert.DMergedReferenceIdeal.Facts) (hDYaIn : Cert.DYaIn.Facts) (hDYaInIdeal : Cert.DYaInIdeal.Facts) (hDYaInReferenceIdeal : Cert.DYaInReferenceIdeal.Facts) (hDOb : Cert.DOb.Facts) (hDObIdeal : Cert.DObIdeal.Facts) (hDObReferenceIdeal : Cert.DObReferenceIdeal.Facts) (hDwOut : Cert.DwOut.Facts) (hDwOutIdeal : Cert.DwOutIdeal.Facts) (hDwOutReferenceIdeal : Cert.DwOutReferenceIdeal.Facts) (hDpA : Cert.DpA.Facts) (hDpAIdeal : Cert.DpAIdeal.Facts) (hDpAReferenceIdeal : Cert.DpAReferenceIdeal.Facts) (hDpB : Cert.DpB.Facts) (hDpBIdeal : Cert.DpBIdeal.Facts) (hDpBReferenceIdeal : Cert.DpBReferenceIdeal.Facts) (hDwSmall : Cert.DwSmall.Facts) (hDwSmallIdeal : Cert.DwSmallIdeal.Facts) (hDwSmallReferenceIdeal : Cert.DwSmallReferenceIdeal.Facts) (hDUSmall : Cert.DUSmall.Facts) (hDUSmallIdeal : Cert.DUSmallIdeal.Facts) (hDUSmallReferenceIdeal : Cert.DUSmallReferenceIdeal.Facts) (hDUFirst : Cert.DUFirst.Facts) (hDUFirstIdeal : Cert.DUFirstIdeal.Facts) (hDUFirstReferenceIdeal : Cert.DUFirstReferenceIdeal.Facts) (hDUSecond : Cert.DUSecond.Facts) (hDUSecondIdeal : Cert.DUSecondIdeal.Facts) (hDUSecondReferenceIdeal : Cert.DUSecondReferenceIdeal.Facts) (hDown : Cert.Down.Facts) (hDownIdeal : Cert.DownIdeal.Facts) (hDownReferenceIdeal : Cert.DownReferenceIdeal.Facts) (hAdamSmall : Cert.AdamSmall.Facts) (hAdamSmallIdeal : Cert.AdamSmallIdeal.Facts) (hAdamSmallReferenceIdeal : Cert.AdamSmallReferenceIdeal.Facts) (hAdamPa : Cert.AdamPa.Facts) (hAdamPaIdeal : Cert.AdamPaIdeal.Facts) (hAdamPaReferenceIdeal : Cert.AdamPaReferenceIdeal.Facts) (hAdamPb : Cert.AdamPb.Facts) (hAdamPbIdeal : Cert.AdamPbIdeal.Facts) (hAdamPbReferenceIdeal : Cert.AdamPbReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamIn : Cert.AdamIn.Facts) (hAdamInIdeal : Cert.AdamInIdeal.Facts) (hAdamInReferenceIdeal : Cert.AdamInReferenceIdeal.Facts) (hDX : Cert.DX.Facts) (hDXIdeal : Cert.DXIdeal.Facts) (hDXReferenceIdeal : Cert.DXReferenceIdeal.Facts) (hNorm : Cert.Norm.Facts) (hNormIdeal : Cert.NormIdeal.Facts) (hNormReferenceIdeal : Cert.NormReferenceIdeal.Facts),
    quiescent_Kernel (hKernel := hKernel)
    ∧ quiescent_KernelIdeal (hKernelIdeal := hKernelIdeal)
    ∧ quiescent_ReferenceIdeal (hReferenceIdeal := hReferenceIdeal)
    ∧ quiescent_DwMain (hDwMain := hDwMain)
    ∧ quiescent_DwMainIdeal (hDwMainIdeal := hDwMainIdeal)
    ∧ quiescent_DwMainReferenceIdeal (hDwMainReferenceIdeal := hDwMainReferenceIdeal)
    ∧ quiescent_InMain (hInMain := hInMain)
    ∧ quiescent_InMainIdeal (hInMainIdeal := hInMainIdeal)
    ∧ quiescent_InMainReferenceIdeal (hInMainReferenceIdeal := hInMainReferenceIdeal)
    ∧ quiescent_InSmall (hInSmall := hInSmall)
    ∧ quiescent_InSmallIdeal (hInSmallIdeal := hInSmallIdeal)
    ∧ quiescent_InSmallReferenceIdeal (hInSmallReferenceIdeal := hInSmallReferenceIdeal)
    ∧ quiescent_Pa (hPa := hPa)
    ∧ quiescent_PaIdeal (hPaIdeal := hPaIdeal)
    ∧ quiescent_PaReferenceIdeal (hPaReferenceIdeal := hPaReferenceIdeal)
    ∧ quiescent_Pb (hPb := hPb)
    ∧ quiescent_PbIdeal (hPbIdeal := hPbIdeal)
    ∧ quiescent_PbReferenceIdeal (hPbReferenceIdeal := hPbReferenceIdeal)
    ∧ quiescent_Out (hOut := hOut)
    ∧ quiescent_OutIdeal (hOutIdeal := hOutIdeal)
    ∧ quiescent_OutReferenceIdeal (hOutReferenceIdeal := hOutReferenceIdeal)
    ∧ quiescent_Up (hUp := hUp)
    ∧ quiescent_UpIdeal (hUpIdeal := hUpIdeal)
    ∧ quiescent_UpReferenceIdeal (hUpReferenceIdeal := hUpReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DHn (hDHn := hDHn)
    ∧ quiescent_DHnIdeal (hDHnIdeal := hDHnIdeal)
    ∧ quiescent_DHnReferenceIdeal (hDHnReferenceIdeal := hDHnReferenceIdeal)
    ∧ quiescent_DMerged (hDMerged := hDMerged)
    ∧ quiescent_DMergedIdeal (hDMergedIdeal := hDMergedIdeal)
    ∧ quiescent_DMergedReferenceIdeal (hDMergedReferenceIdeal := hDMergedReferenceIdeal)
    ∧ quiescent_DYaIn (hDYaIn := hDYaIn)
    ∧ quiescent_DYaInIdeal (hDYaInIdeal := hDYaInIdeal)
    ∧ quiescent_DYaInReferenceIdeal (hDYaInReferenceIdeal := hDYaInReferenceIdeal)
    ∧ quiescent_DOb (hDOb := hDOb)
    ∧ quiescent_DObIdeal (hDObIdeal := hDObIdeal)
    ∧ quiescent_DObReferenceIdeal (hDObReferenceIdeal := hDObReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DpA (hDpA := hDpA)
    ∧ quiescent_DpAIdeal (hDpAIdeal := hDpAIdeal)
    ∧ quiescent_DpAReferenceIdeal (hDpAReferenceIdeal := hDpAReferenceIdeal)
    ∧ quiescent_DpB (hDpB := hDpB)
    ∧ quiescent_DpBIdeal (hDpBIdeal := hDpBIdeal)
    ∧ quiescent_DpBReferenceIdeal (hDpBReferenceIdeal := hDpBReferenceIdeal)
    ∧ quiescent_DwSmall (hDwSmall := hDwSmall)
    ∧ quiescent_DwSmallIdeal (hDwSmallIdeal := hDwSmallIdeal)
    ∧ quiescent_DwSmallReferenceIdeal (hDwSmallReferenceIdeal := hDwSmallReferenceIdeal)
    ∧ quiescent_DUSmall (hDUSmall := hDUSmall)
    ∧ quiescent_DUSmallIdeal (hDUSmallIdeal := hDUSmallIdeal)
    ∧ quiescent_DUSmallReferenceIdeal (hDUSmallReferenceIdeal := hDUSmallReferenceIdeal)
    ∧ quiescent_DUFirst (hDUFirst := hDUFirst)
    ∧ quiescent_DUFirstIdeal (hDUFirstIdeal := hDUFirstIdeal)
    ∧ quiescent_DUFirstReferenceIdeal (hDUFirstReferenceIdeal := hDUFirstReferenceIdeal)
    ∧ quiescent_DUSecond (hDUSecond := hDUSecond)
    ∧ quiescent_DUSecondIdeal (hDUSecondIdeal := hDUSecondIdeal)
    ∧ quiescent_DUSecondReferenceIdeal (hDUSecondReferenceIdeal := hDUSecondReferenceIdeal)
    ∧ quiescent_Down (hDown := hDown)
    ∧ quiescent_DownIdeal (hDownIdeal := hDownIdeal)
    ∧ quiescent_DownReferenceIdeal (hDownReferenceIdeal := hDownReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamPa (hAdamPa := hAdamPa)
    ∧ quiescent_AdamPaIdeal (hAdamPaIdeal := hAdamPaIdeal)
    ∧ quiescent_AdamPaReferenceIdeal (hAdamPaReferenceIdeal := hAdamPaReferenceIdeal)
    ∧ quiescent_AdamPb (hAdamPb := hAdamPb)
    ∧ quiescent_AdamPbIdeal (hAdamPbIdeal := hAdamPbIdeal)
    ∧ quiescent_AdamPbReferenceIdeal (hAdamPbReferenceIdeal := hAdamPbReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_DX (hDX := hDX)
    ∧ quiescent_DXIdeal (hDXIdeal := hDXIdeal)
    ∧ quiescent_DXReferenceIdeal (hDXReferenceIdeal := hDXReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal (hKernelIdeal := hKernelIdeal) (hReferenceIdeal := hReferenceIdeal)
    ∧ preserves_DwMain_DwMainIdeal
    ∧ algebraic_DwMainIdeal_DwMainReferenceIdeal (hDwMainIdeal := hDwMainIdeal) (hDwMainReferenceIdeal := hDwMainReferenceIdeal)
    ∧ preserves_InMain_InMainIdeal
    ∧ algebraic_InMainIdeal_InMainReferenceIdeal (hInMainIdeal := hInMainIdeal) (hInMainReferenceIdeal := hInMainReferenceIdeal)
    ∧ preserves_InSmall_InSmallIdeal
    ∧ algebraic_InSmallIdeal_InSmallReferenceIdeal (hInSmallIdeal := hInSmallIdeal) (hInSmallReferenceIdeal := hInSmallReferenceIdeal)
    ∧ preserves_Pa_PaIdeal
    ∧ algebraic_PaIdeal_PaReferenceIdeal (hPaIdeal := hPaIdeal) (hPaReferenceIdeal := hPaReferenceIdeal)
    ∧ preserves_Pb_PbIdeal
    ∧ algebraic_PbIdeal_PbReferenceIdeal (hPbIdeal := hPbIdeal) (hPbReferenceIdeal := hPbReferenceIdeal)
    ∧ preserves_Out_OutIdeal
    ∧ algebraic_OutIdeal_OutReferenceIdeal (hOutIdeal := hOutIdeal) (hOutReferenceIdeal := hOutReferenceIdeal)
    ∧ preserves_Up_UpIdeal
    ∧ algebraic_UpIdeal_UpReferenceIdeal (hUpIdeal := hUpIdeal) (hUpReferenceIdeal := hUpReferenceIdeal)
    ∧ preserves_DAct_DActIdeal
    ∧ algebraic_DActIdeal_DActReferenceIdeal (hDActIdeal := hDActIdeal) (hDActReferenceIdeal := hDActReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwUp_DwUpIdeal
    ∧ algebraic_DwUpIdeal_DwUpReferenceIdeal (hDwUpIdeal := hDwUpIdeal) (hDwUpReferenceIdeal := hDwUpReferenceIdeal)
    ∧ preserves_DHn_DHnIdeal
    ∧ algebraic_DHnIdeal_DHnReferenceIdeal (hDHnIdeal := hDHnIdeal) (hDHnReferenceIdeal := hDHnReferenceIdeal)
    ∧ preserves_DMerged_DMergedIdeal
    ∧ algebraic_DMergedIdeal_DMergedReferenceIdeal (hDMergedIdeal := hDMergedIdeal) (hDMergedReferenceIdeal := hDMergedReferenceIdeal)
    ∧ preserves_DYaIn_DYaInIdeal
    ∧ algebraic_DYaInIdeal_DYaInReferenceIdeal (hDYaInIdeal := hDYaInIdeal) (hDYaInReferenceIdeal := hDYaInReferenceIdeal)
    ∧ preserves_DOb_DObIdeal
    ∧ algebraic_DObIdeal_DObReferenceIdeal (hDObIdeal := hDObIdeal) (hDObReferenceIdeal := hDObReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DpA_DpAIdeal
    ∧ algebraic_DpAIdeal_DpAReferenceIdeal (hDpAIdeal := hDpAIdeal) (hDpAReferenceIdeal := hDpAReferenceIdeal)
    ∧ preserves_DpB_DpBIdeal
    ∧ algebraic_DpBIdeal_DpBReferenceIdeal (hDpBIdeal := hDpBIdeal) (hDpBReferenceIdeal := hDpBReferenceIdeal)
    ∧ preserves_DwSmall_DwSmallIdeal
    ∧ algebraic_DwSmallIdeal_DwSmallReferenceIdeal (hDwSmallIdeal := hDwSmallIdeal) (hDwSmallReferenceIdeal := hDwSmallReferenceIdeal)
    ∧ preserves_DUSmall_DUSmallIdeal
    ∧ algebraic_DUSmallIdeal_DUSmallReferenceIdeal (hDUSmallIdeal := hDUSmallIdeal) (hDUSmallReferenceIdeal := hDUSmallReferenceIdeal)
    ∧ preserves_DUFirst_DUFirstIdeal
    ∧ algebraic_DUFirstIdeal_DUFirstReferenceIdeal (hDUFirstIdeal := hDUFirstIdeal) (hDUFirstReferenceIdeal := hDUFirstReferenceIdeal)
    ∧ preserves_DUSecond_DUSecondIdeal
    ∧ algebraic_DUSecondIdeal_DUSecondReferenceIdeal (hDUSecondIdeal := hDUSecondIdeal) (hDUSecondReferenceIdeal := hDUSecondReferenceIdeal)
    ∧ preserves_Down_DownIdeal
    ∧ algebraic_DownIdeal_DownReferenceIdeal (hDownIdeal := hDownIdeal) (hDownReferenceIdeal := hDownReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamPa_AdamPaIdeal
    ∧ algebraic_AdamPaIdeal_AdamPaReferenceIdeal (hAdamPaIdeal := hAdamPaIdeal) (hAdamPaReferenceIdeal := hAdamPaReferenceIdeal)
    ∧ preserves_AdamPb_AdamPbIdeal
    ∧ algebraic_AdamPbIdeal_AdamPbReferenceIdeal (hAdamPbIdeal := hAdamPbIdeal) (hAdamPbReferenceIdeal := hAdamPbReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_DX_DXIdeal
    ∧ algebraic_DXIdeal_DXReferenceIdeal (hDXIdeal := hDXIdeal) (hDXReferenceIdeal := hDXReferenceIdeal)
    ∧ preserves_Norm_NormIdeal
    ∧ algebraic_NormIdeal_NormReferenceIdeal (hNormIdeal := hNormIdeal) (hNormReferenceIdeal := hNormReferenceIdeal)
-- ==== Kernel.lean ====
abbrev S4096x1024 : Shape := ⟨2, ![4096, 1024]⟩
abbrev S4096x2048 : Shape := ⟨2, ![4096, 2048]⟩
abbrev S65536x128 : Shape := ⟨2, ![65536, 128]⟩
abbrev S256x1024 : Shape := ⟨2, ![256, 1024]⟩
abbrev S256x2048 : Shape := ⟨2, ![256, 2048]⟩
abbrev S4096x128 : Shape := ⟨2, ![4096, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S64x256 : Shape := ⟨2, ![64, 256]⟩
abbrev S256x128 : Shape := ⟨2, ![256, 128]⟩
abbrev S128 : Shape := ⟨1, ![128]⟩
abbrev S1x128 : Shape := ⟨2, ![1, 128]⟩
abbrev S128x64 : Shape := ⟨2, ![128, 64]⟩
abbrev S128x256 : Shape := ⟨2, ![128, 256]⟩

abbrev nBuf : Space → Nat
  | .hbm => 15
  | .vmem => 46
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x2048, .bf16⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S65536x128, .f32⟩
  | .hbm, ⟨9, _⟩ => ⟨S4096x1024, .f32⟩
  | .hbm, ⟨10, _⟩ => ⟨S4096x1024, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S4096x128, .f32⟩
  | .local _ .vmem, ⟨15, _⟩ => ⟨S4096x128, .f32⟩
  | .local _ .vmem, ⟨16, _⟩ => ⟨S8x128x128, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x2048, .bf16⟩
  | .local _ .vmem, ⟨22, _⟩ => ⟨S256x2048, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x1024, .f32⟩
  | .local _ .vmem, ⟨29, _⟩ => ⟨S4096x128, .f32⟩
  | .local _ .vmem, ⟨30, _⟩ => ⟨S4096x128, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x2048, .f32⟩
  | .local _ .vmem, ⟨38, _⟩ => ⟨S256x2048, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c1_i32 : BitVec 32 := 1#32
  let v2 : BitVec 32 := Scalar.muli v1 c1_i32
  let v3 : BitVec 32 := Scalar.addi v2 arg1
  let c0_i32 : BitVec 32 := 0#32
  let c0_i32_0 : BitVec 32 := 0#32
  ![v3.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev grid1 : Pipeline.Grid := ⟨3, ![2, 1, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c1_i32 : BitVec 32 := 1#32
  let v3 : BitVec 32 := Scalar.muli v2 c1_i32
  let v4 : BitVec 32 := Scalar.addi v3 arg1
  let c0_i32 : BitVec 32 := 0#32
  let c0_i32_0 : BitVec 32 := 0#32
  ![v4.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_11 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_12 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

def cc1_transform_13 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev stage1_10 : Fin 2 → Memref sig .tc .vmem S256x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, true]

abbrev stage1_12 : Fin 2 → Memref sig .tc .vmem S256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]

abbrev stage1_13 : Fin 2 → Memref sig .tc .vmem S256x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true, true]
-- ==== ReferenceIdeal.lean ====
abbrev S4096x1024 : Shape := ⟨2, ![4096, 1024]⟩
abbrev S4096x2048 : Shape := ⟨2, ![4096, 2048]⟩
abbrev S2x8x4x64x8x4x64 : Shape := ⟨7, ![2, 8, 4, 64, 8, 4, 64]⟩
abbrev S2x8x1x64x8x1x64 : Shape := ⟨7, ![2, 8, 1, 64, 8, 1, 64]⟩
abbrev S2x8x64x8x64 : Shape := ⟨5, ![2, 8, 64, 8, 64]⟩
abbrev S2x8x1x64x8x64 : Shape := ⟨6, ![2, 8, 1, 64, 8, 64]⟩
abbrev S2x8x4x64x8x64 : Shape := ⟨6, ![2, 8, 4, 64, 8, 64]⟩
abbrev S2x32x64x8x64 : Shape := ⟨5, ![2, 32, 64, 8, 64]⟩
abbrev S32x2x8x64x64 : Shape := ⟨5, ![32, 2, 8, 64, 64]⟩
abbrev S2x32x64x8x128 : Shape := ⟨5, ![2, 32, 64, 8, 128]⟩
abbrev S32x2x8x64x128 : Shape := ⟨5, ![32, 2, 8, 64, 128]⟩
abbrev S_ : Shape := ⟨0, ![]⟩
abbrev S32x2x8x128 : Shape := ⟨4, ![32, 2, 8, 128]⟩
abbrev S2x8x128x128 : Shape := ⟨4, ![2, 8, 128, 128]⟩
abbrev S32x2x8x128x128 : Shape := ⟨5, ![32, 2, 8, 128, 128]⟩
abbrev S32x2x8x1x128 : Shape := ⟨5, ![32, 2, 8, 1, 128]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8x128 : Shape := ⟨4, ![1, 2, 8, 128]⟩
abbrev S2x8x128 : Shape := ⟨3, ![2, 8, 128]⟩
abbrev S2x8x1x128 : Shape := ⟨4, ![2, 8, 1, 128]⟩
abbrev S1x2x8x128x128 : Shape := ⟨5, ![1, 2, 8, 128, 128]⟩
abbrev S1x2x8x1x128 : Shape := ⟨5, ![1, 2, 8, 1, 128]⟩
abbrev S2x8x128x64 : Shape := ⟨4, ![2, 8, 128, 64]⟩

abbrev nBuf : Space → Nat
  | .hbm => 333
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x2048, .bf16⟩
  | 3 => ⟨S4096x1024, .bf16⟩
  | 4 => ⟨S4096x1024, .bf16⟩
  | 5 => ⟨S4096x1024, .f32⟩
  | 6 => ⟨S4096x1024, .f32⟩
  | 7 => ⟨S4096x1024, .f32⟩
  | 8 => ⟨S4096x2048, .f32⟩
  | 9 => ⟨S4096x1024, .f32⟩
  | 10 => ⟨S4096x1024, .f32⟩
  | 11 => ⟨S2x8x4x64x8x4x64, .f32⟩
  | 12 => ⟨S2x8x1x64x8x1x64, .f32⟩
  | 13 => ⟨S2x8x64x8x64, .f32⟩
  | 14 => ⟨S2x8x4x64x8x4x64, .f32⟩
  | 15 => ⟨S2x8x1x64x8x1x64, .f32⟩
  | 16 => ⟨S2x8x64x8x64, .f32⟩
  | 17 => ⟨S2x8x4x64x8x4x64, .f32⟩
  | 18 => ⟨S2x8x1x64x8x1x64, .f32⟩
  | 19 => ⟨S2x8x64x8x64, .f32⟩
  | 20 => ⟨S2x8x4x64x8x4x64, .f32⟩
  | 21 => ⟨S2x8x1x64x8x1x64, .f32⟩
  | 22 => ⟨S2x8x64x8x64, .f32⟩
  | 23 => ⟨S2x8x1x64x8x64, .f32⟩
  | 24 => ⟨S2x8x1x64x8x64, .f32⟩
  | 25 => ⟨S2x8x1x64x8x64, .f32⟩
  | 26 => ⟨S2x8x1x64x8x64, .f32⟩
  | 27 => ⟨S2x8x4x64x8x64, .f32⟩
  | 28 => ⟨S2x32x64x8x64, .f32⟩
  | 29 => ⟨S32x2x8x64x64, .f32⟩
  | 30 => ⟨S2x32x64x8x128, .f32⟩
  | 31 => ⟨S32x2x8x64x128, .f32⟩
  | 32 => ⟨S_, .f32⟩
  | 33 => ⟨S32x2x8x128, .f32⟩
  | 34 => ⟨S32x2x8x128, .f32⟩
  | 35 => ⟨S_, .f32⟩
  | 36 => ⟨S2x8x128x128, .f32⟩
  | 37 => ⟨S2x32x64x8x128, .f32⟩
  | 38 => ⟨S32x2x8x64x128, .f32⟩
  | 39 => ⟨S2x32x64x8x128, .f32⟩
  | 40 => ⟨S32x2x8x64x128, .f32⟩
  | 41 => ⟨S2x32x64x8x128, .f32⟩
  | 42 => ⟨S32x2x8x64x128, .f32⟩
  | 43 => ⟨S2x32x64x8x128, .f32⟩
  | 44 => ⟨S32x2x8x64x128, .f32⟩
  | 45 => ⟨S_, .f32⟩
  | 46 => ⟨S32x2x8x64x128, .f32⟩
  | 47 => ⟨S_, .f32⟩
  | 48 => ⟨S32x2x8x128x128, .f32⟩
  | 49 => ⟨S_, .f32⟩
  | 50 => ⟨S32x2x8x64x128, .f32⟩
  | 51 => ⟨S_, .f32⟩
  | 52 => ⟨S32x2x8x1x128, .f32⟩
  | 53 => ⟨S_, .i32⟩
  | 54 => ⟨S32x2x8x64x128, .f32⟩
  | 55 => ⟨S32x2x8x64x128, .f32⟩
  | 56 => ⟨S32x2x8x64x64, .f32⟩
  | 57 => ⟨S32x2x8x64x128, .f32⟩
  | 58 => ⟨S32x2x8x64x128, .f32⟩
  | 59 => ⟨S32x2x8x128, .f32⟩
  | 60 => ⟨S_, .i32⟩
  | 61 => ⟨S2x8x128x128, .f32⟩
  | 62 => ⟨S32x2x8x64x128, .f32⟩
  | 63 => ⟨S32x2x8x128x128, .f32⟩
  | 64 => ⟨S32x2x8x64x128, .f32⟩
  | 65 => ⟨S32x2x8x1x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S1x2x8x64x128, .f32⟩
  | 73 => ⟨S2x8x64x128, .f32⟩
  | 74 => ⟨S_, .i32⟩
  | 75 => ⟨S_, .i32⟩
  | 76 => ⟨S_, .i32⟩
  | 77 => ⟨S_, .i32⟩
  | 78 => ⟨S1x2x8x64x128, .f32⟩
  | 79 => ⟨S2x8x64x128, .f32⟩
  | 80 => ⟨S_, .i32⟩
  | 81 => ⟨S_, .i32⟩
  | 82 => ⟨S_, .i32⟩
  | 83 => ⟨S_, .i32⟩
  | 84 => ⟨S1x2x8x64x64, .f32⟩
  | 85 => ⟨S2x8x64x64, .f32⟩
  | 86 => ⟨S_, .i32⟩
  | 87 => ⟨S_, .i32⟩
  | 88 => ⟨S_, .i32⟩
  | 89 => ⟨S_, .i32⟩
  | 90 => ⟨S1x2x8x64x128, .f32⟩
  | 91 => ⟨S2x8x64x128, .f32⟩
  | 92 => ⟨S_, .i32⟩
  | 93 => ⟨S_, .i32⟩
  | 94 => ⟨S_, .i32⟩
  | 95 => ⟨S_, .i32⟩
  | 96 => ⟨S1x2x8x64x128, .f32⟩
  | 97 => ⟨S2x8x64x128, .f32⟩
  | 98 => ⟨S_, .i32⟩
  | 99 => ⟨S_, .i32⟩
  | 100 => ⟨S_, .i32⟩
  | 101 => ⟨S1x2x8x128, .f32⟩
  | 102 => ⟨S2x8x128, .f32⟩
  | 103 => ⟨S2x8x64x128, .f32⟩
  | 104 => ⟨S2x8x64x128, .f32⟩
  | 105 => ⟨S2x8x64x128, .f32⟩
  | 106 => ⟨S2x8x64x128, .f32⟩
  | 107 => ⟨S2x8x64x128, .f32⟩
  | 108 => ⟨S2x8x1x128, .f32⟩
  | 109 => ⟨S2x8x128x128, .f32⟩
  | 110 => ⟨S2x8x128x128, .f32⟩
  | 111 => ⟨S2x8x128x128, .f32⟩
  | 112 => ⟨S2x8x128x128, .f32⟩
  | 113 => ⟨S1x2x8x64x128, .f32⟩
  | 114 => ⟨S_, .i32⟩
  | 115 => ⟨S_, .i32⟩
  | 116 => ⟨S_, .i32⟩
  | 117 => ⟨S_, .i32⟩
  | 118 => ⟨S32x2x8x64x128, .f32⟩
  | 119 => ⟨S1x2x8x128x128, .f32⟩
  | 120 => ⟨S_, .i32⟩
  | 121 => ⟨S_, .i32⟩
  | 122 => ⟨S_, .i32⟩
  | 123 => ⟨S_, .i32⟩
  | 124 => ⟨S32x2x8x128x128, .f32⟩
  | 125 => ⟨S1x2x8x64x128, .f32⟩
  | 126 => ⟨S_, .i32⟩
  | 127 => ⟨S_, .i32⟩
  | _ => ⟨S4096x1024, .f32⟩

abbrev hbmTy0_1 (i : Nat) : BufTy := match i % 128 with
  | 0 => ⟨S_, .i32⟩
  | 1 => ⟨S_, .i32⟩
  | 2 => ⟨S32x2x8x64x128, .f32⟩
  | 3 => ⟨S1x2x8x1x128, .f32⟩
  | 4 => ⟨S_, .i32⟩
  | 5 => ⟨S_, .i32⟩
  | 6 => ⟨S_, .i32⟩
  | 7 => ⟨S_, .i32⟩
  | 8 => ⟨S32x2x8x1x128, .f32⟩
  | 9 => ⟨S_, .i32⟩
  | 10 => ⟨S_, .i32⟩
  | 11 => ⟨S2x32x64x8x128, .f32⟩
  | 12 => ⟨S4096x1024, .f32⟩
  | 13 => ⟨S_, .f32⟩
  | 14 => ⟨S2x8x128x128, .f32⟩
  | 15 => ⟨S2x32x64x8x128, .f32⟩
  | 16 => ⟨S32x2x8x64x128, .f32⟩
  | 17 => ⟨S_, .f32⟩
  | 18 => ⟨S2x8x128x128, .f32⟩
  | 19 => ⟨S_, .f32⟩
  | 20 => ⟨S32x2x8x64x128, .f32⟩
  | 21 => ⟨S_, .f32⟩
  | 22 => ⟨S32x2x8x64x128, .f32⟩
  | 23 => ⟨S_, .f32⟩
  | 24 => ⟨S32x2x8x64x64, .f32⟩
  | 25 => ⟨S_, .f32⟩
  | 26 => ⟨S32x2x8x64x128, .f32⟩
  | 27 => ⟨S_, .f32⟩
  | 28 => ⟨S32x2x8x64x128, .f32⟩
  | 29 => ⟨S_, .f32⟩
  | 30 => ⟨S32x2x8x128, .f32⟩
  | 31 => ⟨S_, .i32⟩
  | 32 => ⟨S32x2x8x64x128, .f32⟩
  | 33 => ⟨S32x2x8x128x128, .f32⟩
  | 34 => ⟨S32x2x8x64x128, .f32⟩
  | 35 => ⟨S32x2x8x64x128, .f32⟩
  | 36 => ⟨S32x2x8x64x128, .f32⟩
  | 37 => ⟨S32x2x8x64x64, .f32⟩
  | 38 => ⟨S32x2x8x1x128, .f32⟩
  | 39 => ⟨S32x2x8x64x128, .f32⟩
  | 40 => ⟨S_, .i32⟩
  | 41 => ⟨S2x8x128x128, .f32⟩
  | 42 => ⟨S32x2x8x64x128, .f32⟩
  | 43 => ⟨S32x2x8x64x128, .f32⟩
  | 44 => ⟨S32x2x8x64x64, .f32⟩
  | 45 => ⟨S32x2x8x64x128, .f32⟩
  | 46 => ⟨S32x2x8x64x128, .f32⟩
  | 47 => ⟨S32x2x8x128, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S1x2x8x64x128, .f32⟩
  | 59 => ⟨S2x8x64x128, .f32⟩
  | 60 => ⟨S_, .i32⟩
  | 61 => ⟨S_, .i32⟩
  | 62 => ⟨S_, .i32⟩
  | 63 => ⟨S_, .i32⟩
  | 64 => ⟨S1x2x8x128x128, .f32⟩
  | 65 => ⟨S2x8x128x128, .f32⟩
  | 66 => ⟨S_, .i32⟩
  | 67 => ⟨S_, .i32⟩
  | 68 => ⟨S_, .i32⟩
  | 69 => ⟨S_, .i32⟩
  | 70 => ⟨S1x2x8x64x128, .f32⟩
  | 71 => ⟨S2x8x64x128, .f32⟩
  | 72 => ⟨S_, .i32⟩
  | 73 => ⟨S_, .i32⟩
  | 74 => ⟨S_, .i32⟩
  | 75 => ⟨S_, .i32⟩
  | 76 => ⟨S1x2x8x64x128, .f32⟩
  | 77 => ⟨S2x8x64x128, .f32⟩
  | 78 => ⟨S_, .i32⟩
  | 79 => ⟨S_, .i32⟩
  | 80 => ⟨S_, .i32⟩
  | 81 => ⟨S_, .i32⟩
  | 82 => ⟨S1x2x8x64x128, .f32⟩
  | 83 => ⟨S2x8x64x128, .f32⟩
  | 84 => ⟨S_, .i32⟩
  | 85 => ⟨S_, .i32⟩
  | 86 => ⟨S_, .i32⟩
  | 87 => ⟨S_, .i32⟩
  | 88 => ⟨S1x2x8x64x64, .f32⟩
  | 89 => ⟨S2x8x64x64, .f32⟩
  | 90 => ⟨S_, .i32⟩
  | 91 => ⟨S_, .i32⟩
  | 92 => ⟨S_, .i32⟩
  | 93 => ⟨S_, .i32⟩
  | 94 => ⟨S1x2x8x1x128, .f32⟩
  | 95 => ⟨S2x8x1x128, .f32⟩
  | 96 => ⟨S_, .i32⟩
  | 97 => ⟨S_, .i32⟩
  | 98 => ⟨S_, .i32⟩
  | 99 => ⟨S_, .i32⟩
  | 100 => ⟨S1x2x8x64x128, .f32⟩
  | 101 => ⟨S2x8x64x128, .f32⟩
  | 102 => ⟨S2x8x128x64, .f32⟩
  | 103 => ⟨S2x8x64x128, .f32⟩
  | 104 => ⟨S2x8x128x64, .f32⟩
  | 105 => ⟨S2x8x64x128, .f32⟩
  | 106 => ⟨S2x8x128x128, .f32⟩
  | 107 => ⟨S_, .f32⟩
  | 108 => ⟨S2x8x128, .f32⟩
  | 109 => ⟨S2x8x1x128, .f32⟩
  | 110 => ⟨S2x8x128x128, .f32⟩
  | 111 => ⟨S2x8x128x128, .f32⟩
  | 112 => ⟨S_, .f32⟩
  | 113 => ⟨S2x8x128, .f32⟩
  | 114 => ⟨S2x8x128x64, .f32⟩
  | 115 => ⟨S2x8x64x128, .f32⟩
  | 116 => ⟨S2x8x64x128, .f32⟩
  | 117 => ⟨S2x8x64x64, .f32⟩
  | 118 => ⟨S2x8x128x128, .f32⟩
  | 119 => ⟨S2x8x128x128, .f32⟩
  | 120 => ⟨S2x8x128x128, .f32⟩
  | 121 => ⟨S2x8x64x128, .f32⟩
  | 122 => ⟨S2x8x64x128, .f32⟩
  | 123 => ⟨S2x8x128x128, .f32⟩
  | 124 => ⟨S2x8x128x128, .f32⟩
  | 125 => ⟨S2x8x128x128, .f32⟩
  | 126 => ⟨S2x8x64x128, .f32⟩
  | 127 => ⟨S1x2x8x64x128, .f32⟩
  | _ => ⟨S4096x1024, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S32x2x8x64x128, .f32⟩
  | 5 => ⟨S1x2x8x64x128, .f32⟩
  | 6 => ⟨S_, .i32⟩
  | 7 => ⟨S_, .i32⟩
  | 8 => ⟨S_, .i32⟩
  | 9 => ⟨S_, .i32⟩
  | 10 => ⟨S32x2x8x64x128, .f32⟩
  | 11 => ⟨S1x2x8x64x64, .f32⟩
  | 12 => ⟨S_, .i32⟩
  | 13 => ⟨S_, .i32⟩
  | 14 => ⟨S_, .i32⟩
  | 15 => ⟨S_, .i32⟩
  | 16 => ⟨S32x2x8x64x64, .f32⟩
  | 17 => ⟨S1x2x8x64x128, .f32⟩
  | 18 => ⟨S_, .i32⟩
  | 19 => ⟨S_, .i32⟩
  | 20 => ⟨S_, .i32⟩
  | 21 => ⟨S_, .i32⟩
  | 22 => ⟨S32x2x8x64x128, .f32⟩
  | 23 => ⟨S1x2x8x64x128, .f32⟩
  | 24 => ⟨S_, .i32⟩
  | 25 => ⟨S_, .i32⟩
  | 26 => ⟨S_, .i32⟩
  | 27 => ⟨S_, .i32⟩
  | 28 => ⟨S32x2x8x64x128, .f32⟩
  | 29 => ⟨S1x2x8x128, .f32⟩
  | 30 => ⟨S_, .i32⟩
  | 31 => ⟨S_, .i32⟩
  | 32 => ⟨S_, .i32⟩
  | 33 => ⟨S32x2x8x128, .f32⟩
  | 34 => ⟨S_, .i32⟩
  | 35 => ⟨S_, .i32⟩
  | 36 => ⟨S2x32x64x8x128, .f32⟩
  | 37 => ⟨S4096x1024, .f32⟩
  | 38 => ⟨S2x32x64x8x128, .f32⟩
  | 39 => ⟨S4096x1024, .f32⟩
  | 40 => ⟨S2x32x64x8x128, .f32⟩
  | 41 => ⟨S4096x1024, .f32⟩
  | 42 => ⟨S2x32x64x8x128, .f32⟩
  | 43 => ⟨S4096x1024, .f32⟩
  | 44 => ⟨S32x2x8x128, .f32⟩
  | 45 => ⟨S32x2x8x64x128, .f32⟩
  | 46 => ⟨S2x32x64x8x128, .f32⟩
  | 47 => ⟨S4096x1024, .f32⟩
  | 48 => ⟨S2x32x64x8x64, .f32⟩
  | 49 => ⟨S2x8x4x64x8x64, .f32⟩
  | 50 => ⟨S2x8x1x64x8x64, .f32⟩
  | 51 => ⟨S2x8x64x8x64, .f32⟩
  | 52 => ⟨S2x8x1x64x8x64, .f32⟩
  | 53 => ⟨S2x8x64x8x64, .f32⟩
  | 54 => ⟨S2x8x1x64x8x64, .f32⟩
  | 55 => ⟨S2x8x64x8x64, .f32⟩
  | 56 => ⟨S2x8x1x64x8x64, .f32⟩
  | 57 => ⟨S2x8x64x8x64, .f32⟩
  | 58 => ⟨S2x8x1x64x8x1x64, .f32⟩
  | 59 => ⟨S_, .f32⟩
  | 60 => ⟨S2x8x4x64x8x4x64, .f32⟩
  | 61 => ⟨S4096x2048, .f32⟩
  | 62 => ⟨S2x8x1x64x8x1x64, .f32⟩
  | 63 => ⟨S_, .f32⟩
  | 64 => ⟨S2x8x4x64x8x4x64, .f32⟩
  | 65 => ⟨S4096x2048, .f32⟩
  | 66 => ⟨S4096x2048, .f32⟩
  | 67 => ⟨S2x8x1x64x8x1x64, .f32⟩
  | 68 => ⟨S_, .f32⟩
  | 69 => ⟨S2x8x4x64x8x4x64, .f32⟩
  | 70 => ⟨S4096x2048, .f32⟩
  | 71 => ⟨S4096x2048, .f32⟩
  | 72 => ⟨S2x8x1x64x8x1x64, .f32⟩
  | 73 => ⟨S_, .f32⟩
  | 74 => ⟨S2x8x4x64x8x4x64, .f32⟩
  | 75 => ⟨S4096x2048, .f32⟩
  | 76 => ⟨S4096x2048, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_c : Ref sig .tc := ⟨.hbm, 53, rfl⟩
abbrev main_v40_0 : Ref sig .tc := ⟨.hbm, 54, rfl⟩
abbrev main_v40_1 : Ref sig .tc := ⟨.hbm, 55, rfl⟩
abbrev main_v40_2 : Ref sig .tc := ⟨.hbm, 56, rfl⟩
abbrev main_v40_3 : Ref sig .tc := ⟨.hbm, 57, rfl⟩
abbrev main_v40_4 : Ref sig .tc := ⟨.hbm, 58, rfl⟩
abbrev main_v40_5 : Ref sig .tc := ⟨.hbm, 59, rfl⟩
abbrev main_v40_6 : Ref sig .tc := ⟨.hbm, 60, rfl⟩
abbrev main_v40_7 : Ref sig .tc := ⟨.hbm, 61, rfl⟩
abbrev main_v40_8 : Ref sig .tc := ⟨.hbm, 62, rfl⟩
abbrev main_v40_9 : Ref sig .tc := ⟨.hbm, 63, rfl⟩
abbrev main_v40_10 : Ref sig .tc := ⟨.hbm, 64, rfl⟩
abbrev main_v40_11 : Ref sig .tc := ⟨.hbm, 65, rfl⟩
abbrev main_while0c_c_29 : Ref sig .tc := ⟨.hbm, 66, rfl⟩
abbrev main_while0c_v91 : Ref sig .tc := ⟨.hbm, 67, rfl⟩
abbrev main_while0b_call0_c : Ref sig .tc := ⟨.hbm, 68, rfl⟩
abbrev main_while0b_call0_c_0 : Ref sig .tc := ⟨.hbm, 69, rfl⟩
abbrev main_while0b_call0_c_1 : Ref sig .tc := ⟨.hbm, 70, rfl⟩
abbrev main_while0b_call0_c_2 : Ref sig .tc := ⟨.hbm, 71, rfl⟩
abbrev main_while0b_call0_v0 : Ref sig .tc := ⟨.hbm, 72, rfl⟩
abbrev main_while0b_v91 : Ref sig .tc := ⟨.hbm, 73, rfl⟩
abbrev main_while0b_call1_c : Ref sig .tc := ⟨.hbm, 74, rfl⟩
abbrev main_while0b_call1_c_0 : Ref sig .tc := ⟨.hbm, 75, rfl⟩
abbrev main_while0b_call1_c_1 : Ref sig .tc := ⟨.hbm, 76, rfl⟩
abbrev main_while0b_call1_c_2 : Ref sig .tc := ⟨.hbm, 77, rfl⟩
abbrev main_while0b_call1_v0 : Ref sig .tc := ⟨.hbm, 78, rfl⟩
abbrev main_while0b_v92 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_c_2 : Ref sig .tc := ⟨.hbm, 83, rfl⟩
abbrev main_while0b_call2_v0 : Ref sig .tc := ⟨.hbm, 84, rfl⟩
abbrev main_while0b_v93 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_c_2 : Ref sig .tc := ⟨.hbm, 89, rfl⟩
abbrev main_while0b_call3_v0 : Ref sig .tc := ⟨.hbm, 90, rfl⟩
abbrev main_while0b_v94 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_c_2 : Ref sig .tc := ⟨.hbm, 95, rfl⟩
abbrev main_while0b_call4_v0 : Ref sig .tc := ⟨.hbm, 96, rfl⟩
abbrev main_while0b_v95 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_c_1 : Ref sig .tc := ⟨.hbm, 100, rfl⟩
abbrev main_while0b_call5_v0 : Ref sig .tc := ⟨.hbm, 101, rfl⟩
abbrev main_while0b_v96 : Ref sig .tc := ⟨.hbm, 102, rfl⟩
abbrev main_while0b_v97 : Ref sig .tc := ⟨.hbm, 103, rfl⟩
abbrev main_while0b_v98 : Ref sig .tc := ⟨.hbm, 104, rfl⟩
abbrev main_while0b_v99 : Ref sig .tc := ⟨.hbm, 105, rfl⟩
abbrev main_while0b_v100 : Ref sig .tc := ⟨.hbm, 106, rfl⟩
abbrev main_while0b_v101 : Ref sig .tc := ⟨.hbm, 107, rfl⟩
abbrev main_while0b_v102 : Ref sig .tc := ⟨.hbm, 108, rfl⟩
abbrev main_while0b_v103 : Ref sig .tc := ⟨.hbm, 109, rfl⟩
abbrev main_while0b_v104 : Ref sig .tc := ⟨.hbm, 110, rfl⟩
abbrev main_while0b_v105 : Ref sig .tc := ⟨.hbm, 111, rfl⟩
abbrev main_while0b_v106 : Ref sig .tc := ⟨.hbm, 112, rfl⟩
abbrev main_while0b_call6_v0 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_c_1 : Ref sig .tc := ⟨.hbm, 116, rfl⟩
abbrev main_while0b_call6_c_2 : Ref sig .tc := ⟨.hbm, 117, rfl⟩
abbrev main_while0b_v107 : Ref sig .tc := ⟨.hbm, 118, rfl⟩
abbrev main_while0b_call7_v0 : Ref sig .tc := ⟨.hbm, 119, rfl⟩
abbrev main_while0b_call7_c : Ref sig .tc := ⟨.hbm, 120, rfl⟩
abbrev main_while0b_call7_c_0 : Ref sig .tc := ⟨.hbm, 121, rfl⟩
abbrev main_while0b_call7_c_1 : Ref sig .tc := ⟨.hbm, 122, rfl⟩
abbrev main_while0b_call7_c_2 : Ref sig .tc := ⟨.hbm, 123, rfl⟩
abbrev main_while0b_v108 : Ref sig .tc := ⟨.hbm, 124, rfl⟩
abbrev main_while0b_call8_v0 : Ref sig .tc := ⟨.hbm, 125, rfl⟩
abbrev main_while0b_call8_c : Ref sig .tc := ⟨.hbm, 126, rfl⟩
abbrev main_while0b_call8_c_0 : Ref sig .tc := ⟨.hbm, 127, rfl⟩
abbrev main_while0b_call8_c_1 : Ref sig .tc := ⟨.hbm, 128, rfl⟩
abbrev main_while0b_call8_c_2 : Ref sig .tc := ⟨.hbm, 129, rfl⟩
abbrev main_while0b_v109 : Ref sig .tc := ⟨.hbm, 130, rfl⟩
abbrev main_while0b_call9_v0 : Ref sig .tc := ⟨.hbm, 131, rfl⟩
abbrev main_while0b_call9_c : Ref sig .tc := ⟨.hbm, 132, rfl⟩
abbrev main_while0b_call9_c_0 : Ref sig .tc := ⟨.hbm, 133, rfl⟩
abbrev main_while0b_call9_c_1 : Ref sig .tc := ⟨.hbm, 134, rfl⟩
abbrev main_while0b_call9_c_2 : Ref sig .tc := ⟨.hbm, 135, rfl⟩
abbrev main_while0b_v110 : Ref sig .tc := ⟨.hbm, 136, rfl⟩
abbrev main_while0b_c_29 : Ref sig .tc := ⟨.hbm, 137, rfl⟩
abbrev main_while0b_v111 : Ref sig .tc := ⟨.hbm, 138, rfl⟩
abbrev main_v41 : Ref sig .tc := ⟨.hbm, 139, rfl⟩
abbrev main_v42 : Ref sig .tc := ⟨.hbm, 140, rfl⟩
abbrev main_cst_5 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_cst_6 : Ref sig .tc := ⟨.hbm, 145, rfl⟩
abbrev main_v46 : Ref sig .tc := ⟨.hbm, 146, rfl⟩
abbrev main_cst_7 : Ref sig .tc := ⟨.hbm, 147, rfl⟩
abbrev main_v47 : Ref sig .tc := ⟨.hbm, 148, rfl⟩
abbrev main_cst_8 : Ref sig .tc := ⟨.hbm, 149, rfl⟩
abbrev main_v48 : Ref sig .tc := ⟨.hbm, 150, rfl⟩
abbrev main_cst_9 : Ref sig .tc := ⟨.hbm, 151, rfl⟩
abbrev main_v49 : Ref sig .tc := ⟨.hbm, 152, rfl⟩
abbrev main_cst_10 : Ref sig .tc := ⟨.hbm, 153, rfl⟩
abbrev main_v50 : Ref sig .tc := ⟨.hbm, 154, rfl⟩
abbrev main_cst_11 : Ref sig .tc := ⟨.hbm, 155, rfl⟩
abbrev main_v51 : Ref sig .tc := ⟨.hbm, 156, rfl⟩
abbrev main_cst_12 : Ref sig .tc := ⟨.hbm, 157, rfl⟩
abbrev main_v52 : Ref sig .tc := ⟨.hbm, 158, rfl⟩
abbrev main_c_13 : Ref sig .tc := ⟨.hbm, 159, rfl⟩
abbrev main_v53_0 : Ref sig .tc := ⟨.hbm, 160, rfl⟩
abbrev main_v53_1 : Ref sig .tc := ⟨.hbm, 161, rfl⟩
abbrev main_v53_2 : Ref sig .tc := ⟨.hbm, 162, rfl⟩
abbrev main_v53_3 : Ref sig .tc := ⟨.hbm, 163, rfl⟩
abbrev main_v53_4 : Ref sig .tc := ⟨.hbm, 164, rfl⟩
abbrev main_v53_5 : Ref sig .tc := ⟨.hbm, 165, rfl⟩
abbrev main_v53_6 : Ref sig .tc := ⟨.hbm, 166, rfl⟩
abbrev main_v53_7 : Ref sig .tc := ⟨.hbm, 167, rfl⟩
abbrev main_v53_8 : Ref sig .tc := ⟨.hbm, 168, rfl⟩
abbrev main_v53_9 : Ref sig .tc := ⟨.hbm, 169, rfl⟩
abbrev main_v53_10 : Ref sig .tc := ⟨.hbm, 170, rfl⟩
abbrev main_v53_11 : Ref sig .tc := ⟨.hbm, 171, rfl⟩
abbrev main_v53_12 : Ref sig .tc := ⟨.hbm, 172, rfl⟩
abbrev main_v53_13 : Ref sig .tc := ⟨.hbm, 173, rfl⟩
abbrev main_v53_14 : Ref sig .tc := ⟨.hbm, 174, rfl⟩
abbrev main_v53_15 : Ref sig .tc := ⟨.hbm, 175, rfl⟩
abbrev main_while1c_c_33 : Ref sig .tc := ⟨.hbm, 176, rfl⟩
abbrev main_while1c_v91 : Ref sig .tc := ⟨.hbm, 177, rfl⟩
abbrev main_while1b_c_33 : Ref sig .tc := ⟨.hbm, 178, rfl⟩
abbrev main_while1b_v91 : Ref sig .tc := ⟨.hbm, 179, rfl⟩
abbrev main_while1b_c_34 : Ref sig .tc := ⟨.hbm, 180, rfl⟩
abbrev main_while1b_v92 : Ref sig .tc := ⟨.hbm, 181, rfl⟩
abbrev main_while1b_call10_c : Ref sig .tc := ⟨.hbm, 182, rfl⟩
abbrev main_while1b_call10_c_0 : Ref sig .tc := ⟨.hbm, 183, rfl⟩
abbrev main_while1b_call10_c_1 : Ref sig .tc := ⟨.hbm, 184, rfl⟩
abbrev main_while1b_call10_c_2 : Ref sig .tc := ⟨.hbm, 185, rfl⟩
abbrev main_while1b_call10_v0 : Ref sig .tc := ⟨.hbm, 186, rfl⟩
abbrev main_while1b_v93 : Ref sig .tc := ⟨.hbm, 187, rfl⟩
abbrev main_while1b_call11_c : Ref sig .tc := ⟨.hbm, 188, rfl⟩
abbrev main_while1b_call11_c_0 : Ref sig .tc := ⟨.hbm, 189, rfl⟩
abbrev main_while1b_call11_c_1 : Ref sig .tc := ⟨.hbm, 190, rfl⟩
abbrev main_while1b_call11_c_2 : Ref sig .tc := ⟨.hbm, 191, rfl⟩
abbrev main_while1b_call11_v0 : Ref sig .tc := ⟨.hbm, 192, rfl⟩
abbrev main_while1b_v94 : Ref sig .tc := ⟨.hbm, 193, rfl⟩
abbrev main_while1b_call12_c : Ref sig .tc := ⟨.hbm, 194, rfl⟩
abbrev main_while1b_call12_c_0 : Ref sig .tc := ⟨.hbm, 195, rfl⟩
abbrev main_while1b_call12_c_1 : Ref sig .tc := ⟨.hbm, 196, rfl⟩
abbrev main_while1b_call12_c_2 : Ref sig .tc := ⟨.hbm, 197, rfl⟩
abbrev main_while1b_call12_v0 : Ref sig .tc := ⟨.hbm, 198, rfl⟩
abbrev main_while1b_v95 : Ref sig .tc := ⟨.hbm, 199, rfl⟩
abbrev main_while1b_call13_c : Ref sig .tc := ⟨.hbm, 200, rfl⟩
abbrev main_while1b_call13_c_0 : Ref sig .tc := ⟨.hbm, 201, rfl⟩
abbrev main_while1b_call13_c_1 : Ref sig .tc := ⟨.hbm, 202, rfl⟩
abbrev main_while1b_call13_c_2 : Ref sig .tc := ⟨.hbm, 203, rfl⟩
abbrev main_while1b_call13_v0 : Ref sig .tc := ⟨.hbm, 204, rfl⟩
abbrev main_while1b_v96 : Ref sig .tc := ⟨.hbm, 205, rfl⟩
abbrev main_while1b_call14_c : Ref sig .tc := ⟨.hbm, 206, rfl⟩
abbrev main_while1b_call14_c_0 : Ref sig .tc := ⟨.hbm, 207, rfl⟩
abbrev main_while1b_call14_c_1 : Ref sig .tc := ⟨.hbm, 208, rfl⟩
abbrev main_while1b_call14_c_2 : Ref sig .tc := ⟨.hbm, 209, rfl⟩
abbrev main_while1b_call14_v0 : Ref sig .tc := ⟨.hbm, 210, rfl⟩
abbrev main_while1b_v97 : Ref sig .tc := ⟨.hbm, 211, rfl⟩
abbrev main_while1b_call15_c : Ref sig .tc := ⟨.hbm, 212, rfl⟩
abbrev main_while1b_call15_c_0 : Ref sig .tc := ⟨.hbm, 213, rfl⟩
abbrev main_while1b_call15_c_1 : Ref sig .tc := ⟨.hbm, 214, rfl⟩
abbrev main_while1b_call15_c_2 : Ref sig .tc := ⟨.hbm, 215, rfl⟩
abbrev main_while1b_call15_v0 : Ref sig .tc := ⟨.hbm, 216, rfl⟩
abbrev main_while1b_v98 : Ref sig .tc := ⟨.hbm, 217, rfl⟩
abbrev main_while1b_call16_c : Ref sig .tc := ⟨.hbm, 218, rfl⟩
abbrev main_while1b_call16_c_0 : Ref sig .tc := ⟨.hbm, 219, rfl⟩
abbrev main_while1b_call16_c_1 : Ref sig .tc := ⟨.hbm, 220, rfl⟩
abbrev main_while1b_call16_c_2 : Ref sig .tc := ⟨.hbm, 221, rfl⟩
abbrev main_while1b_call16_v0 : Ref sig .tc := ⟨.hbm, 222, rfl⟩
abbrev main_while1b_v99 : Ref sig .tc := ⟨.hbm, 223, rfl⟩
abbrev main_while1b_call17_c : Ref sig .tc := ⟨.hbm, 224, rfl⟩
abbrev main_while1b_call17_c_0 : Ref sig .tc := ⟨.hbm, 225, rfl⟩
abbrev main_while1b_call17_c_1 : Ref sig .tc := ⟨.hbm, 226, rfl⟩
abbrev main_while1b_call17_c_2 : Ref sig .tc := ⟨.hbm, 227, rfl⟩
abbrev main_while1b_call17_v0 : Ref sig .tc := ⟨.hbm, 228, rfl⟩
abbrev main_while1b_v100 : Ref sig .tc := ⟨.hbm, 229, rfl⟩
abbrev main_while1b_v101 : Ref sig .tc := ⟨.hbm, 230, rfl⟩
abbrev main_while1b_v102 : Ref sig .tc := ⟨.hbm, 231, rfl⟩
abbrev main_while1b_v103 : Ref sig .tc := ⟨.hbm, 232, rfl⟩
abbrev main_while1b_v104 : Ref sig .tc := ⟨.hbm, 233, rfl⟩
abbrev main_while1b_v105 : Ref sig .tc := ⟨.hbm, 234, rfl⟩
abbrev main_while1b_cst_35 : Ref sig .tc := ⟨.hbm, 235, rfl⟩
abbrev main_while1b_v106 : Ref sig .tc := ⟨.hbm, 236, rfl⟩
abbrev main_while1b_v107 : Ref sig .tc := ⟨.hbm, 237, rfl⟩
abbrev main_while1b_v108 : Ref sig .tc := ⟨.hbm, 238, rfl⟩
abbrev main_while1b_v109 : Ref sig .tc := ⟨.hbm, 239, rfl⟩
abbrev main_while1b_cst_36 : Ref sig .tc := ⟨.hbm, 240, rfl⟩
abbrev main_while1b_v110 : Ref sig .tc := ⟨.hbm, 241, rfl⟩
abbrev main_while1b_v111 : Ref sig .tc := ⟨.hbm, 242, rfl⟩
abbrev main_while1b_v112 : Ref sig .tc := ⟨.hbm, 243, rfl⟩
abbrev main_while1b_v113 : Ref sig .tc := ⟨.hbm, 244, rfl⟩
abbrev main_while1b_v114 : Ref sig .tc := ⟨.hbm, 245, rfl⟩
abbrev main_while1b_v115 : Ref sig .tc := ⟨.hbm, 246, rfl⟩
abbrev main_while1b_v116 : Ref sig .tc := ⟨.hbm, 247, rfl⟩
abbrev main_while1b_v117 : Ref sig .tc := ⟨.hbm, 248, rfl⟩
abbrev main_while1b_v118 : Ref sig .tc := ⟨.hbm, 249, rfl⟩
abbrev main_while1b_v119 : Ref sig .tc := ⟨.hbm, 250, rfl⟩
abbrev main_while1b_v120 : Ref sig .tc := ⟨.hbm, 251, rfl⟩
abbrev main_while1b_v121 : Ref sig .tc := ⟨.hbm, 252, rfl⟩
abbrev main_while1b_v122 : Ref sig .tc := ⟨.hbm, 253, rfl⟩
abbrev main_while1b_v123 : Ref sig .tc := ⟨.hbm, 254, rfl⟩
abbrev main_while1b_call18_v0 : Ref sig .tc := ⟨.hbm, 255, rfl⟩
abbrev main_while1b_call18_c : Ref sig .tc := ⟨.hbm, 256, rfl⟩
abbrev main_while1b_call18_c_0 : Ref sig .tc := ⟨.hbm, 257, rfl⟩
abbrev main_while1b_call18_c_1 : Ref sig .tc := ⟨.hbm, 258, rfl⟩
abbrev main_while1b_call18_c_2 : Ref sig .tc := ⟨.hbm, 259, rfl⟩
abbrev main_while1b_v124 : Ref sig .tc := ⟨.hbm, 260, rfl⟩
abbrev main_while1b_call19_v0 : Ref sig .tc := ⟨.hbm, 261, rfl⟩
abbrev main_while1b_call19_c : Ref sig .tc := ⟨.hbm, 262, rfl⟩
abbrev main_while1b_call19_c_0 : Ref sig .tc := ⟨.hbm, 263, rfl⟩
abbrev main_while1b_call19_c_1 : Ref sig .tc := ⟨.hbm, 264, rfl⟩
abbrev main_while1b_call19_c_2 : Ref sig .tc := ⟨.hbm, 265, rfl⟩
abbrev main_while1b_v125 : Ref sig .tc := ⟨.hbm, 266, rfl⟩
abbrev main_while1b_call20_v0 : Ref sig .tc := ⟨.hbm, 267, rfl⟩
abbrev main_while1b_call20_c : Ref sig .tc := ⟨.hbm, 268, rfl⟩
abbrev main_while1b_call20_c_0 : Ref sig .tc := ⟨.hbm, 269, rfl⟩
abbrev main_while1b_call20_c_1 : Ref sig .tc := ⟨.hbm, 270, rfl⟩
abbrev main_while1b_call20_c_2 : Ref sig .tc := ⟨.hbm, 271, rfl⟩
abbrev main_while1b_v126 : Ref sig .tc := ⟨.hbm, 272, rfl⟩
abbrev main_while1b_call21_v0 : Ref sig .tc := ⟨.hbm, 273, rfl⟩
abbrev main_while1b_call21_c : Ref sig .tc := ⟨.hbm, 274, rfl⟩
abbrev main_while1b_call21_c_0 : Ref sig .tc := ⟨.hbm, 275, rfl⟩
abbrev main_while1b_call21_c_1 : Ref sig .tc := ⟨.hbm, 276, rfl⟩
abbrev main_while1b_call21_c_2 : Ref sig .tc := ⟨.hbm, 277, rfl⟩
abbrev main_while1b_v127 : Ref sig .tc := ⟨.hbm, 278, rfl⟩
abbrev main_while1b_call22_v0 : Ref sig .tc := ⟨.hbm, 279, rfl⟩
abbrev main_while1b_call22_c : Ref sig .tc := ⟨.hbm, 280, rfl⟩
abbrev main_while1b_call22_c_0 : Ref sig .tc := ⟨.hbm, 281, rfl⟩
abbrev main_while1b_call22_c_1 : Ref sig .tc := ⟨.hbm, 282, rfl⟩
abbrev main_while1b_call22_c_2 : Ref sig .tc := ⟨.hbm, 283, rfl⟩
abbrev main_while1b_v128 : Ref sig .tc := ⟨.hbm, 284, rfl⟩
abbrev main_while1b_call23_v0 : Ref sig .tc := ⟨.hbm, 285, rfl⟩
abbrev main_while1b_call23_c : Ref sig .tc := ⟨.hbm, 286, rfl⟩
abbrev main_while1b_call23_c_0 : Ref sig .tc := ⟨.hbm, 287, rfl⟩
abbrev main_while1b_call23_c_1 : Ref sig .tc := ⟨.hbm, 288, rfl⟩
abbrev main_while1b_v129 : Ref sig .tc := ⟨.hbm, 289, rfl⟩
abbrev main_while1b_c_37 : Ref sig .tc := ⟨.hbm, 290, rfl⟩
abbrev main_while1b_v130 : Ref sig .tc := ⟨.hbm, 291, rfl⟩
abbrev main_v54 : Ref sig .tc := ⟨.hbm, 292, rfl⟩
abbrev main_v55 : Ref sig .tc := ⟨.hbm, 293, rfl⟩
abbrev main_v56 : Ref sig .tc := ⟨.hbm, 294, rfl⟩
abbrev main_v57 : Ref sig .tc := ⟨.hbm, 295, rfl⟩
abbrev main_v58 : Ref sig .tc := ⟨.hbm, 296, rfl⟩
abbrev main_v59 : Ref sig .tc := ⟨.hbm, 297, rfl⟩
abbrev main_v60 : Ref sig .tc := ⟨.hbm, 298, rfl⟩
abbrev main_v61 : Ref sig .tc := ⟨.hbm, 299, rfl⟩
abbrev main_v62 : Ref sig .tc := ⟨.hbm, 300, rfl⟩
abbrev main_v63 : Ref sig .tc := ⟨.hbm, 301, rfl⟩
abbrev main_v64 : Ref sig .tc := ⟨.hbm, 302, rfl⟩
abbrev main_v65 : Ref sig .tc := ⟨.hbm, 303, rfl⟩
abbrev main_v66 : Ref sig .tc := ⟨.hbm, 304, rfl⟩
abbrev main_v67 : Ref sig .tc := ⟨.hbm, 305, rfl⟩
abbrev main_v68 : Ref sig .tc := ⟨.hbm, 306, rfl⟩
abbrev main_v69 : Ref sig .tc := ⟨.hbm, 307, rfl⟩
abbrev main_v70 : Ref sig .tc := ⟨.hbm, 308, rfl⟩
abbrev main_v71 : Ref sig .tc := ⟨.hbm, 309, rfl⟩
abbrev main_v72 : Ref sig .tc := ⟨.hbm, 310, rfl⟩
abbrev main_v73 : Ref sig .tc := ⟨.hbm, 311, rfl⟩
abbrev main_v74 : Ref sig .tc := ⟨.hbm, 312, rfl⟩
abbrev main_v75 : Ref sig .tc := ⟨.hbm, 313, rfl⟩
abbrev main_v76 : Ref sig .tc := ⟨.hbm, 314, rfl⟩
abbrev main_cst_14 : Ref sig .tc := ⟨.hbm, 315, rfl⟩
abbrev main_v77 : Ref sig .tc := ⟨.hbm, 316, rfl⟩
abbrev main_v78 : Ref sig .tc := ⟨.hbm, 317, rfl⟩
abbrev main_v79 : Ref sig .tc := ⟨.hbm, 318, rfl⟩
abbrev main_cst_15 : Ref sig .tc := ⟨.hbm, 319, rfl⟩
abbrev main_v80 : Ref sig .tc := ⟨.hbm, 320, rfl⟩
abbrev main_v81 : Ref sig .tc := ⟨.hbm, 321, rfl⟩
abbrev main_v82 : Ref sig .tc := ⟨.hbm, 322, rfl⟩
abbrev main_v83 : Ref sig .tc := ⟨.hbm, 323, rfl⟩
abbrev main_cst_16 : Ref sig .tc := ⟨.hbm, 324, rfl⟩
abbrev main_v84 : Ref sig .tc := ⟨.hbm, 325, rfl⟩
abbrev main_v85 : Ref sig .tc := ⟨.hbm, 326, rfl⟩
abbrev main_v86 : Ref sig .tc := ⟨.hbm, 327, rfl⟩
abbrev main_v87 : Ref sig .tc := ⟨.hbm, 328, rfl⟩
abbrev main_cst_17 : Ref sig .tc := ⟨.hbm, 329, rfl⟩
abbrev main_v88 : Ref sig .tc := ⟨.hbm, 330, rfl⟩
abbrev main_v89 : Ref sig .tc := ⟨.hbm, 331, rfl⟩
abbrev main_v90 : Ref sig .tc := ⟨.hbm, 332, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== DwMain.lean ====
abbrev S4096x1024 : Shape := ⟨2, ![4096, 1024]⟩
abbrev S4096x9216 : Shape := ⟨2, ![4096, 9216]⟩
abbrev S9216x1024 : Shape := ⟨2, ![9216, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x9216, .bf16⟩
  | .hbm, ⟨2, _⟩ => ⟨S9216x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMainReferenceIdeal.lean ====
abbrev S4096x1024 : Shape := ⟨2, ![4096, 1024]⟩
abbrev S4096x9216 : Shape := ⟨2, ![4096, 9216]⟩
abbrev S_ : Shape := ⟨0, ![]⟩
abbrev S9216x1024 : Shape := ⟨2, ![9216, 1024]⟩
abbrev S1024x9216 : Shape := ⟨2, ![1024, 9216]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x9216, .bf16⟩
  | .hbm, ⟨2, _⟩ => ⟨S_, .f32⟩
  | .hbm, ⟨3, _⟩ => ⟨S9216x1024, .f32⟩
  | .hbm, ⟨4, _⟩ => ⟨S4096x1024, .f32⟩
  | .hbm, ⟨5, _⟩ => ⟨S1024x9216, .f32⟩
  | .hbm, ⟨6, _⟩ => ⟨S4096x9216, .f32⟩
  | .hbm, ⟨7, _⟩ => ⟨S4096x9216, .f32⟩
  | .hbm, ⟨8, _⟩ => ⟨S9216x1024, .f32⟩
  | .hbm, ⟨9, _⟩ => ⟨S1024x9216, .f32⟩
  | .hbm, ⟨10, _⟩ => ⟨S9216x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InMain.lean ====
abbrev S4096x1024 : Shape := ⟨2, ![4096, 1024]⟩
abbrev S9216x1024 : Shape := ⟨2, ![9216, 1024]⟩
abbrev S4096x9216 : Shape := ⟨2, ![4096, 9216]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S9216x1024, .bf16⟩
  | .hbm, ⟨2, _⟩ => ⟨S4096x9216, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InMainReferenceIdeal.lean ====
abbrev S4096x1024 : Shape := ⟨2, ![4096, 1024]⟩
abbrev S9216x1024 : Shape := ⟨2, ![9216, 1024]⟩
abbrev S1024x9216 : Shape := ⟨2, ![1024, 9216]⟩
abbrev S4096x9216 : Shape := ⟨2, ![4096, 9216]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S9216x1024, .bf16⟩
  | .hbm, ⟨2, _⟩ => ⟨S4096x1024, .f32⟩
  | .hbm, ⟨3, _⟩ => ⟨S9216x1024, .f32⟩
  | .hbm, ⟨4, _⟩ => ⟨S1024x9216, .f32⟩
  | .hbm, ⟨5, _⟩ => ⟨S4096x9216, .f32⟩
  | .hbm, ⟨6, _⟩ => ⟨S4096x9216, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InSmall.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InSmallReferenceIdeal.lean ====
abbrev S4096x1024 : Shape := ⟨2, ![4096, 1024]⟩
abbrev S128x1024 : Shape := ⟨2, ![128, 1024]⟩
abbrev S1024x128 : Shape := ⟨2, ![1024, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x1024, .f32⟩
  | .hbm, ⟨3, _⟩ => ⟨S128x1024, .f32⟩
  | .hbm, ⟨4, _⟩ => ⟨S1024x128, .f32⟩
  | .hbm, ⟨5, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Pa.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PaReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pb.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PbReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Up.lean ====
abbrev S4096x1024 : Shape := ⟨2, ![4096, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .f32⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DAct.lean ====
abbrev S4096x1024 : Shape := ⟨2, ![4096, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActReferenceIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DwDown.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUp.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S4096x1024 : Shape := ⟨2, ![4096, 1024]⟩
abbrev S4096x4096 : Shape := ⟨2, ![4096, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S4x1024x1024, .f32⟩
  | .hbm, ⟨4, _⟩ => ⟨S4096x1024, .f32⟩
  | .hbm, ⟨5, _⟩ => ⟨S1024x4x1024, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DHn.lean ====
abbrev S4096x4096 : Shape := ⟨2, ![4096, 4096]⟩
abbrev S4x1024x1024 : Shape := ⟨3, ![4, 1024, 1024]⟩
abbrev S4096x1024 : Shape := ⟨2, ![4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHnReferenceIdeal.lean ====
abbrev S4096x4096 : Shape := ⟨2, ![4096, 4096]⟩
abbrev S4x1024x1024 : Shape := ⟨3, ![4, 1024, 1024]⟩
abbrev S_ : Shape := ⟨0, ![]⟩
abbrev S4096x1024 : Shape := ⟨2, ![4096, 1024]⟩
abbrev S1024x4x1024 : Shape := ⟨3, ![1024, 4, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S_, .f32⟩
  | .hbm, ⟨3, _⟩ => ⟨S4096x1024, .f32⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DMerged.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DYaIn.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYaInReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DOb.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DObReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DpA.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DpAReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DpB.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DpBReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwSmall.lean ====
abbrev S4096x1024 : Shape := ⟨2, ![4096, 1024]⟩
abbrev S4096x128 : Shape := ⟨2, ![4096, 128]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSmallReferenceIdeal.lean ====
abbrev S4096x1024 : Shape := ⟨2, ![4096, 1024]⟩
abbrev S4096x128 : Shape := ⟨2, ![4096, 128]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S_, .f32⟩
  | .hbm, ⟨3, _⟩ => ⟨S128x1024, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x128, .f32⟩
  | .hbm, ⟨8, _⟩ => ⟨S128x1024, .f32⟩
  | .hbm, ⟨9, _⟩ => ⟨S1024x128, .f32⟩
  | .hbm, ⟨10, _⟩ => ⟨S128x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DUSmall.lean ====
abbrev S4096x128 : Shape := ⟨2, ![4096, 128]⟩
abbrev S128x1024 : Shape := ⟨2, ![128, 1024]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUSmallReferenceIdeal.lean ====
abbrev S4096x128 : Shape := ⟨2, ![4096, 128]⟩
abbrev S128x1024 : Shape := ⟨2, ![128, 1024]⟩
abbrev S_ : Shape := ⟨0, ![]⟩
abbrev S4096x1024 : Shape := ⟨2, ![4096, 1024]⟩
abbrev S1024x128 : Shape := ⟨2, ![1024, 128]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S_, .f32⟩
  | .hbm, ⟨3, _⟩ => ⟨S4096x1024, .f32⟩
  | .hbm, ⟨4, _⟩ => ⟨S128x1024, .f32⟩
  | .hbm, ⟨5, _⟩ => ⟨S1024x128, .f32⟩
  | .hbm, ⟨6, _⟩ => ⟨S4096x128, .f32⟩
  | .hbm, ⟨7, _⟩ => ⟨S4096x128, .f32⟩
  | .hbm, ⟨8, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DUFirst.lean ====
abbrev S4096x9216 : Shape := ⟨2, ![4096, 9216]⟩
abbrev S9216x1024 : Shape := ⟨2, ![9216, 1024]⟩
abbrev S4096x1024 : Shape := ⟨2, ![4096, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x9216, .bf16⟩
  | .hbm, ⟨1, _⟩ => ⟨S9216x1024, .bf16⟩
  | .hbm, ⟨2, _⟩ => ⟨S4096x1024, .f32⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DUFirstReferenceIdeal.lean ====
abbrev S4096x9216 : Shape := ⟨2, ![4096, 9216]⟩
abbrev S9216x1024 : Shape := ⟨2, ![9216, 1024]⟩
abbrev S4096x1024 : Shape := ⟨2, ![4096, 1024]⟩
abbrev S_ : Shape := ⟨0, ![]⟩
abbrev S4608x1024 : Shape := ⟨2, ![4608, 1024]⟩
abbrev S1024x4608 : Shape := ⟨2, ![1024, 4608]⟩
abbrev S4096x4608 : Shape := ⟨2, ![4096, 4608]⟩

abbrev nBuf : Space → Nat
  | .hbm => 13
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S9216x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4608x1024, .bf16⟩
  | .hbm, ⟨6, _⟩ => ⟨S4608x1024, .f32⟩
  | .hbm, ⟨7, _⟩ => ⟨S1024x4608, .f32⟩
  | .hbm, ⟨8, _⟩ => ⟨S4096x4608, .f32⟩
  | .hbm, ⟨9, _⟩ => ⟨S4096x4608, .bf16⟩
  | .hbm, ⟨10, _⟩ => ⟨S4096x4608, .f32⟩
  | .hbm, ⟨11, _⟩ => ⟨S4096x1024, .f32⟩
  | .hbm, ⟨12, _⟩ => ⟨S4096x1024, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DUSecond.lean ====
abbrev S4096x9216 : Shape := ⟨2, ![4096, 9216]⟩
abbrev S9216x1024 : Shape := ⟨2, ![9216, 1024]⟩
abbrev S4096x1024 : Shape := ⟨2, ![4096, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x9216, .bf16⟩
  | .hbm, ⟨1, _⟩ => ⟨S9216x1024, .bf16⟩
  | .hbm, ⟨2, _⟩ => ⟨S4096x1024, .f32⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DUSecondReferenceIdeal.lean ====
abbrev S4096x9216 : Shape := ⟨2, ![4096, 9216]⟩
abbrev S9216x1024 : Shape := ⟨2, ![9216, 1024]⟩
abbrev S4096x1024 : Shape := ⟨2, ![4096, 1024]⟩
abbrev S_ : Shape := ⟨0, ![]⟩
abbrev S4608x1024 : Shape := ⟨2, ![4608, 1024]⟩
abbrev S1024x4608 : Shape := ⟨2, ![1024, 4608]⟩
abbrev S4096x4608 : Shape := ⟨2, ![4096, 4608]⟩

abbrev nBuf : Space → Nat
  | .hbm => 13
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S9216x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4608x1024, .bf16⟩
  | .hbm, ⟨6, _⟩ => ⟨S4608x1024, .f32⟩
  | .hbm, ⟨7, _⟩ => ⟨S1024x4608, .f32⟩
  | .hbm, ⟨8, _⟩ => ⟨S4096x4608, .f32⟩
  | .hbm, ⟨9, _⟩ => ⟨S4096x4608, .bf16⟩
  | .hbm, ⟨10, _⟩ => ⟨S4096x4608, .f32⟩
  | .hbm, ⟨11, _⟩ => ⟨S4096x1024, .f32⟩
  | .hbm, ⟨12, _⟩ => ⟨S4096x1024, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S32x128 : Shape := ⟨2, ![32, 128]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩
abbrev S128x8x1024 : Shape := ⟨3, ![128, 8, 1024]⟩
abbrev S8x1024 : Shape := ⟨2, ![8, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S32x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | .local _ .vmem, ⟨13, _⟩ => ⟨S8x128, .f32⟩
  | .local _ .vmem, ⟨14, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DownReferenceIdeal.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S4x128x8x8x128 : Shape := ⟨5, ![4, 128, 8, 8, 128]⟩
abbrev S4x8x8x128 : Shape := ⟨4, ![4, 8, 8, 128]⟩
abbrev S4x8x128 : Shape := ⟨3, ![4, 8, 128]⟩
abbrev S32x128 : Shape := ⟨2, ![32, 128]⟩

abbrev nBuf : Space → Nat
  | .hbm => 46
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4x128x8x8x128, .f32⟩
  | .hbm, ⟨40, _⟩ => ⟨S4096x1024, .bf16⟩
  | .hbm, ⟨41, _⟩ => ⟨S_, .f32⟩
  | .hbm, ⟨42, _⟩ => ⟨S4x8x8x128, .f32⟩
  | .hbm, ⟨43, _⟩ => ⟨S_, .f32⟩
  | .hbm, ⟨44, _⟩ => ⟨S4x8x128, .f32⟩
  | .hbm, ⟨45, _⟩ => ⟨S32x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdamSmall.lean ====
abbrev S48x128 : Shape := ⟨2, ![48, 128]⟩

abbrev nBuf : Space → Nat
  | .hbm => 7
  | .vmem => 7
  | .smem => 0
  | _ => 0

abbrev bufTy : (tb : Table) → Fin (tcTables nBuf tb) → BufTy
  | .hbm, ⟨0, _⟩ => ⟨S48x128, .f32⟩
  | .hbm, ⟨1, _⟩ => ⟨S48x128, .f32⟩
  | .hbm, ⟨2, _⟩ => ⟨S48x128, .f32⟩
  | .hbm, ⟨3, _⟩ => ⟨S48x128, .f32⟩
  | .hbm, ⟨4, _⟩ => ⟨S48x128, .f32⟩
  | .hbm, ⟨5, _⟩ => ⟨S48x128, .f32⟩
  | .hbm, ⟨6, _⟩ => ⟨S48x128, .f32⟩
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | _, _ => ⟨S48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallReferenceIdeal.lean ====
abbrev S48x128 : Shape := ⟨2, ![48, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x128, .f32⟩
  | .hbm, ⟨1, _⟩ => ⟨S48x128, .f32⟩
  | .hbm, ⟨2, _⟩ => ⟨S48x128, .f32⟩
  | .hbm, ⟨3, _⟩ => ⟨S48x128, .f32⟩
  | .hbm, ⟨4, _⟩ => ⟨S_, .f32⟩
  | .hbm, ⟨5, _⟩ => ⟨S48x128, .f32⟩
  | .hbm, ⟨6, _⟩ => ⟨S48x128, .f32⟩
  | .hbm, ⟨7, _⟩ => ⟨S_, .f32⟩
  | .hbm, ⟨8, _⟩ => ⟨S48x128, .f32⟩
  | .hbm, ⟨9, _⟩ => ⟨S48x128, .f32⟩
  | .hbm, ⟨10, _⟩ => ⟨S48x128, .f32⟩
  | .hbm, ⟨11, _⟩ => ⟨S_, .f32⟩
  | .hbm, ⟨12, _⟩ => ⟨S48x128, .f32⟩
  | .hbm, ⟨13, _⟩ => ⟨S48x128, .f32⟩
  | .hbm, ⟨14, _⟩ => ⟨S48x128, .f32⟩
  | .hbm, ⟨15, _⟩ => ⟨S_, .f32⟩
  | .hbm, ⟨16, _⟩ => ⟨S48x128, .f32⟩
  | .hbm, ⟨17, _⟩ => ⟨S48x128, .f32⟩
  | .hbm, ⟨18, _⟩ => ⟨S48x128, .f32⟩
  | .hbm, ⟨19, _⟩ => ⟨S_, .f32⟩
  | .hbm, ⟨20, _⟩ => ⟨S48x128, .f32⟩
  | .hbm, ⟨21, _⟩ => ⟨S48x128, .f32⟩
  | .hbm, ⟨22, _⟩ => ⟨S_, .f32⟩
  | .hbm, ⟨23, _⟩ => ⟨S48x128, .f32⟩
  | .hbm, ⟨24, _⟩ => ⟨S48x128, .f32⟩
  | .hbm, ⟨25, _⟩ => ⟨S48x128, .f32⟩
  | .hbm, ⟨26, _⟩ => ⟨S_, .f32⟩
  | .hbm, ⟨27, _⟩ => ⟨S48x128, .f32⟩
  | .hbm, ⟨28, _⟩ => ⟨S48x128, .f32⟩
  | .hbm, ⟨29, _⟩ => ⟨S48x128, .f32⟩
  | .hbm, ⟨30, _⟩ => ⟨S_, .f32⟩
  | .hbm, ⟨31, _⟩ => ⟨S48x128, .f32⟩
  | .hbm, ⟨32, _⟩ => ⟨S48x128, .f32⟩
  | .hbm, ⟨33, _⟩ => ⟨S48x128, .f32⟩
  | .hbm, ⟨34, _⟩ => ⟨S_, .f32⟩
  | .hbm, ⟨35, _⟩ => ⟨S48x128, .f32⟩
  | .hbm, ⟨36, _⟩ => ⟨S48x128, .f32⟩
  | _, _ => ⟨S48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPa.lean ====
abbrev S256x1024 : Shape := ⟨2, ![256, 1024]⟩
abbrev S128x1024 : Shape := ⟨2, ![128, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPaReferenceIdeal.lean ====
abbrev S256x1024 : Shape := ⟨2, ![256, 1024]⟩
abbrev S128x1024 : Shape := ⟨2, ![128, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamPb.lean ====
abbrev S256x1024 : Shape := ⟨2, ![256, 1024]⟩
abbrev S128x1024 : Shape := ⟨2, ![128, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPbReferenceIdeal.lean ====
abbrev S256x1024 : Shape := ⟨2, ![256, 1024]⟩
abbrev S128x1024 : Shape := ⟨2, ![128, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamOut.lean ====
abbrev S256x1024 : Shape := ⟨2, ![256, 1024]⟩
abbrev S128x1024 : Shape := ⟨2, ![128, 1024]⟩
abbrev S1 : Shape := ⟨1, ![1]⟩

abbrev nBuf : Space → Nat
  | .hbm => 9
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutReferenceIdeal.lean ====
abbrev S256x1024 : Shape := ⟨2, ![256, 1024]⟩
abbrev S128x1024 : Shape := ⟨2, ![128, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S128x1024, .f32⟩
  | .hbm, ⟨3, _⟩ => ⟨S256x1024, .f32⟩
  | .hbm, ⟨4, _⟩ => ⟨S256x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamUp.lean ====
abbrev S1024x1024 : Shape := ⟨2, ![1024, 1024]⟩
abbrev S512x1024 : Shape := ⟨2, ![512, 1024]⟩
abbrev S1 : Shape := ⟨1, ![1]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpReferenceIdeal.lean ====
abbrev S1024x1024 : Shape := ⟨2, ![1024, 1024]⟩
abbrev S512x1024 : Shape := ⟨2, ![512, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamDown.lean ====
abbrev S1024x1024 : Shape := ⟨2, ![1024, 1024]⟩
abbrev S512x1024 : Shape := ⟨2, ![512, 1024]⟩
abbrev S1 : Shape := ⟨1, ![1]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownReferenceIdeal.lean ====
abbrev S1024x1024 : Shape := ⟨2, ![1024, 1024]⟩
abbrev S512x1024 : Shape := ⟨2, ![512, 1024]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512x1024, .f32⟩
  | .hbm, ⟨3, _⟩ => ⟨S1024x1024, .f32⟩
  | .hbm, ⟨4, _⟩ => ⟨S1024x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamIn.lean ====
abbrev S2310x1024 : Shape := ⟨2, ![2310, 1024]⟩
abbrev S2310x512 : Shape := ⟨2, ![2310, 512]⟩
abbrev S1 : Shape := ⟨1, ![1]⟩
abbrev S2310x128 : Shape := ⟨2, ![2310, 128]⟩

abbrev nBuf : Space → Nat
  | .hbm => 9
  | .vmem => 18
  | .smem => 1
  | _ => 0

abbrev bufTy : (tb : Table) → Fin (tcTables nBuf tb) → BufTy
  | .hbm, ⟨0, _⟩ => ⟨S2310x1024, .f32⟩
  | .hbm, ⟨1, _⟩ => ⟨S2310x512, .f32⟩
  | .hbm, ⟨2, _⟩ => ⟨S2310x512, .f32⟩
  | .hbm, ⟨3, _⟩ => ⟨S2310x1024, .f32⟩
  | .hbm, ⟨4, _⟩ => ⟨S2310x1024, .f32⟩
  | .hbm, ⟨5, _⟩ => ⟨S2310x1024, .f32⟩
  | .hbm, ⟨6, _⟩ => ⟨S2310x1024, .f32⟩
  | .hbm, ⟨7, _⟩ => ⟨S2310x1024, .f32⟩
  | .hbm, ⟨8, _⟩ => ⟨S2310x1024, .f32⟩
  | .local _ .vmem, ⟨0, _⟩ => ⟨S2310x128, .f32⟩
  | .local _ .vmem, ⟨1, _⟩ => ⟨S2310x128, .f32⟩
  | .local _ .vmem, ⟨2, _⟩ => ⟨S2310x128, .f32⟩
  | .local _ .vmem, ⟨3, _⟩ => ⟨S2310x128, .f32⟩
  | .local _ .vmem, ⟨4, _⟩ => ⟨S2310x128, .f32⟩
  | .local _ .vmem, ⟨5, _⟩ => ⟨S2310x128, .f32⟩
  | .local _ .vmem, ⟨6, _⟩ => ⟨S2310x128, .f32⟩
  | .local _ .vmem, ⟨7, _⟩ => ⟨S2310x128, .f32⟩
  | .local _ .vmem, ⟨8, _⟩ => ⟨S2310x128, .f32⟩
  | .local _ .vmem, ⟨9, _⟩ => ⟨S2310x128, .f32⟩
  | .local _ .vmem, ⟨10, _⟩ => ⟨S2310x128, .f32⟩
  | .local _ .vmem, ⟨11, _⟩ => ⟨S2310x128, .f32⟩
  | .local _ .vmem, ⟨12, _⟩ => ⟨S2310x128, .f32⟩
  | .local _ .vmem, ⟨13, _⟩ => ⟨S2310x128, .f32⟩
  | .local _ .vmem, ⟨14, _⟩ => ⟨S2310x128, .f32⟩
  | .local _ .vmem, ⟨15, _⟩ => ⟨S2310x128, .f32⟩
  | .local _ .vmem, ⟨16, _⟩ => ⟨S2310x128, .f32⟩
  | .local _ .vmem, ⟨17, _⟩ => ⟨S2310x128, .f32⟩
  | .local _ .smem, ⟨0, _⟩ => ⟨S1, .i32⟩
  | _, _ => ⟨S2310x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2310x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2310x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2310x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2310x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2310x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2310x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2310x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2310x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2310x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S2310x1024 : Shape := ⟨2, ![2310, 1024]⟩
abbrev S2310x512 : Shape := ⟨2, ![2310, 512]⟩
abbrev S1 : Shape := ⟨1, ![1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2310x1024, .f32⟩
  | .hbm, ⟨1, _⟩ => ⟨S2310x512, .f32⟩
  | .hbm, ⟨2, _⟩ => ⟨S2310x512, .f32⟩
  | .hbm, ⟨3, _⟩ => ⟨S2310x1024, .f32⟩
  | .hbm, ⟨4, _⟩ => ⟨S2310x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S2310x512, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S2310x512, .f32⟩
  | .hbm, ⟨14, _⟩ => ⟨S2310x1024, .f32⟩
  | .hbm, ⟨15, _⟩ => ⟨S_, .f32⟩
  | .hbm, ⟨16, _⟩ => ⟨S2310x1024, .f32⟩
  | .hbm, ⟨17, _⟩ => ⟨S2310x1024, .f32⟩
  | .hbm, ⟨18, _⟩ => ⟨S_, .f32⟩
  | .hbm, ⟨19, _⟩ => ⟨S2310x1024, .f32⟩
  | .hbm, ⟨20, _⟩ => ⟨S2310x1024, .f32⟩
  | .hbm, ⟨21, _⟩ => ⟨S2310x1024, .f32⟩
  | .hbm, ⟨22, _⟩ => ⟨S_, .f32⟩
  | .hbm, ⟨23, _⟩ => ⟨S2310x1024, .f32⟩
  | .hbm, ⟨24, _⟩ => ⟨S2310x1024, .f32⟩
  | .hbm, ⟨25, _⟩ => ⟨S2310x1024, .f32⟩
  | .hbm, ⟨26, _⟩ => ⟨S_, .f32⟩
  | .hbm, ⟨27, _⟩ => ⟨S2310x1024, .f32⟩
  | .hbm, ⟨28, _⟩ => ⟨S2310x1024, .f32⟩
  | .hbm, ⟨29, _⟩ => ⟨S2310x1024, .f32⟩
  | .hbm, ⟨30, _⟩ => ⟨S_, .f32⟩
  | .hbm, ⟨31, _⟩ => ⟨S2310x1024, .f32⟩
  | .hbm, ⟨32, _⟩ => ⟨S2310x1024, .f32⟩
  | .hbm, ⟨33, _⟩ => ⟨S_, .f32⟩
  | .hbm, ⟨34, _⟩ => ⟨S2310x1024, .f32⟩
  | .hbm, ⟨35, _⟩ => ⟨S2310x1024, .f32⟩
  | .hbm, ⟨36, _⟩ => ⟨S2310x1024, .f32⟩
  | .hbm, ⟨37, _⟩ => ⟨S_, .f32⟩
  | .hbm, ⟨38, _⟩ => ⟨S2310x1024, .f32⟩
  | .hbm, ⟨39, _⟩ => ⟨S2310x1024, .f32⟩
  | .hbm, ⟨40, _⟩ => ⟨S2310x1024, .f32⟩
  | .hbm, ⟨41, _⟩ => ⟨S_, .f32⟩
  | .hbm, ⟨42, _⟩ => ⟨S2310x1024, .f32⟩
  | .hbm, ⟨43, _⟩ => ⟨S2310x1024, .f32⟩
  | .hbm, ⟨44, _⟩ => ⟨S2310x1024, .f32⟩
  | .hbm, ⟨45, _⟩ => ⟨S_, .f32⟩
  | .hbm, ⟨46, _⟩ => ⟨S2310x1024, .f32⟩
  | .hbm, ⟨47, _⟩ => ⟨S2310x1024, .f32⟩
  | _, _ => ⟨S2310x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== DX.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let arg1 : BitVec 32 := BitVec.ofNat 32 (i 1).val
  let c0_i32_16 : BitVec 32 := 0#32
  let v40 : BitVec 1 := Scalar.cmpi .eq arg1 c0_i32_16
  let v41 : BitVec 1 := Scalar.andi v39 v40
  let v42 : BitVec 32 := Scalar.extui v41
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let arg1 : BitVec 32 := BitVec.ofNat 32 (i 1).val
  let c0_i32_16 : BitVec 32 := 0#32
  let v40 : BitVec 1 := Scalar.cmpi .eq arg1 c0_i32_16
  let v41 : BitVec 1 := Scalar.andi v39 v40
  let v_true : BitVec 1 := 1#1
  let v44 : BitVec 1 := Scalar.xori v41 v_true
  let v45 : BitVec 32 := Scalar.extui v44
  let c0_i32_18 : BitVec 32 := 0#32
  let v46 : BitVec 1 := Scalar.cmpi .ne v45 c0_i32_18
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== DXReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Fwd.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s (`hA`) and whose body leaves the block in place (`hafter`): -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s (`hA`) and whose body leaves the block in place (`hafter`): -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s (`hA`) and whose body leaves the block in place (`hafter`): -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s (`hA`) and whose body leaves the block in place (`hafter`): -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s (`hA`) and whose body leaves the block in place (`hafter`): -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s (`hA`) and whose body leaves the block in place (`hafter`): -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 8 % 1 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-! ## The kernel body on any staging memrefs: a subtype the run finds -/

/-- One staging buffer of output window 6, through which its contents are stated (`View.read_writes_of_cover`: the
    choice does not matter). -/
abbrev VO0_6 : View sig .tc .vmem S256x1024 .f32 := (Memref.whole cc0_stg6_0 : Memref sig .tc .vmem S256x1024 .f32).view
/-- One staging buffer of output window 7, through which its contents are stated (`View.read_writes_of_cover`: the
    choice does not matter). -/
abbrev VO0_7 : View sig .tc .vmem S4096x128 .f32 := (Memref.whole cc0_stg7_0 : Memref sig .tc .vmem S4096x128 .f32).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S8x128x128 .f32 := Memref.whole cc0_scratch0
/-- The scratch `arg11` the kernel carries between points, as a view: what it holds is stated through it. -/
abbrev VS0_0 : View sig .tc .vmem S8x128x128 .f32 := scM0_0.view

/-- What the body never opens: the other scoped buffers, and the generator register at some state. -/
abbrev rest (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The kit's invariant with the carried scratch as a memref owned at some contents, beside what is never opened. -/
theorem PhiA0_eq (c : Dev nD) :
    (Pipeline.ΦA spec0 c : sProp 𝕄) = iprop((∃ d, owns (c : Thread nD τ) scM0_0 fullShare d) ∗ rest c) := by
  have h : (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
    Pipeline.scopedRest_split_of_list spec0 c [cc0_scratch0] (by decide) (by decide)
  unfold Pipeline.ΦA; rw [h]; simp only [scM0_0, owns_whole]
  exact Idealize.SL.BI.equiv_iff.mp ⟨Idealize.SL.BI.sep_assoc, Idealize.SL.BI.sep_assoc'⟩

end Cert.KernelIdeal.Fwd

end
-- ==== Proof.Fwd.RunA.lean ====
module

public import proofs.«01_k».proof.Proof.Fwd.Runs

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1800000 in
/-- What the body's stores leave in each output's staging memref, as pieces (last first) IN CASE A (`scf.if` 0 taken: -/
noncomputable def kernelRun0_A (c : Dev nD) (i : grid0.Coords) (arg3 : Memref sig .tc .vmem S256x1024 .f32) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S4096x128 .f32) (harg10 : arg10.IsWhole) (arg11 : Memref sig .tc .vmem S8x128x128 .f32) (harg11 : arg11.IsWhole) (hc0 : cond0_0 i)
    (x0 : Vec F S256x1024 .f32) (x1 : Vec F S256x1024 .bf16) (x2 : Vec F S256x2048 .bf16) (x3 : Vec F S256x1024 .bf16) (x4 : Vec F S256x1024 .bf16) (x5 : Vec F S256x1024 .f32) :
    Σ' (L6 : List (View.Piece (Elt F) S256x1024 .f32)), Σ' (L7 : List (View.Piece (Elt F) S4096x128 .f32)), { LS0 : List (View.Piece (Elt F) S8x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_gdn_b_fwd i arg3 harg3 arg4 harg4 arg5 harg5 arg6 harg6 arg7 harg7 arg8 harg8 arg9 harg9 arg10 harg10 arg11 harg11) K } := by
  refine ⟨?_, ?_, ?_, fun E K => ?run⟩
  case run =>
    simp only [cc0_gdn_b_fwd_eq_skeleton]; unfold cc0_gdn_b_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

end Cert.KernelIdeal.Fwd

end
-- ==== Proof.Fwd.RunB.lean ====
module

public import proofs.«01_k».proof.Proof.Fwd.Runs

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1788000 in
/-- What the body's stores leave in each output's staging memref, as pieces (last first) IN CASE B (`scf.if` 0 not taken: -/
noncomputable def kernelRun0_B (c : Dev nD) (i : grid0.Coords) (arg3 : Memref sig .tc .vmem S256x1024 .f32) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S4096x128 .f32) (harg10 : arg10.IsWhole) (arg11 : Memref sig .tc .vmem S8x128x128 .f32) (harg11 : arg11.IsWhole) (hc0 : ¬cond0_0 i)
    (x0 : Vec F S256x1024 .f32) (x1 : Vec F S256x1024 .bf16) (x2 : Vec F S256x2048 .bf16) (x3 : Vec F S256x1024 .bf16) (x4 : Vec F S256x1024 .bf16) (x5 : Vec F S256x1024 .f32) (xs0 : Vec F S8x128x128 .f32) :
    Σ' (L6 : List (View.Piece (Elt F) S256x1024 .f32)), Σ' (L7 : List (View.Piece (Elt F) S4096x128 .f32)), { LS0 : List (View.Piece (Elt F) S8x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_gdn_b_fwd i arg3 harg3 arg4 harg4 arg5 harg5 arg6 harg6 arg7 harg7 arg8 harg8 arg9 harg9 arg10 harg10 arg11 harg11) K } := by
  refine ⟨?_, ?_, ?_, fun E K => ?run⟩
  case run =>
    simp only [cc0_gdn_b_fwd_eq_skeleton]; unfold cc0_gdn_b_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

end Cert.KernelIdeal.Fwd

end
-- ==== Proof.Fwd.Region.lean ====
module

public import proofs.«01_k».proof.Proof.Fwd.RunA
public import proofs.«01_k».proof.Proof.Fwd.RunB

@[expose] public section

set_option maxRecDepth 16384

noncomputable section

namespace Cert.KernelIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section CaseA

variable (c : Dev nD) (i : grid0.Coords) (arg3 : Memref sig .tc .vmem S256x1024 .f32) (h3 : arg3.IsWhole) (arg4 : Memref sig .tc .vmem S256x1024 .bf16) (h4 : arg4.IsWhole) (arg5 : Memref sig .tc .vmem S256x2048 .bf16) (h5 : arg5.IsWhole) (arg6 : Memref sig .tc .vmem S256x1024 .bf16) (h6 : arg6.IsWhole) (arg7 : Memref sig .tc .vmem S256x1024 .bf16) (h7 : arg7.IsWhole) (arg8 : Memref sig .tc .vmem S256x1024 .f32) (h8 : arg8.IsWhole) (arg9 : Memref sig .tc .vmem S256x1024 .f32) (h9 : arg9.IsWhole) (arg10 : Memref sig .tc .vmem S4096x128 .f32) (h10 : arg10.IsWhole) (arg11 : Memref sig .tc .vmem S8x128x128 .f32) (h11 : arg11.IsWhole) (hc0 : cond0_0 i)
  (x0 : Vec F S256x1024 .f32) (x1 : Vec F S256x1024 .bf16) (x2 : Vec F S256x2048 .bf16) (x3 : Vec F S256x1024 .bf16) (x4 : Vec F S256x1024 .bf16) (x5 : Vec F S256x1024 .f32)

/-- Case A's pieces for output 6 tile its block (32 stores of `S64x128`), so they cover it. -/
theorem cover0_A_6 (y : S256x1024.Idx) :
    ∃ pc ∈ (kernelRun0_A c i _ h3 _ h4 _ h5 _ h6 _ h7 _ h8 _ h9 _ h10 _ h11 hc0 x0 x1 x2 x3 x4 x5).1, y ∈ pc.1.set :=
  View.cover_of_tiledL (s := S256x1024) _ S64x128.size (by sl_kernel_rfl) y

/-- What case A leaves in output 6's staging buffer: its pieces read back over junk. -/
def out0_A_6 : Vec F S256x1024 .f32 :=
  VO0_6.read (Elt F) (VO0_6.writes (Elt F) VO0_6.junk (kernelRun0_A c i _ h3 _ h4 _ h5 _ h6 _ h7 _ h8 _ h9 _ h10 _ h11 hc0 x0 x1 x2 x3 x4 x5).1)

/-- Case A's pieces for output 7 tile its block (32 stores of `S128x128`), so they cover it. -/
theorem cover0_A_7 (y : S4096x128.Idx) :
    ∃ pc ∈ (kernelRun0_A c i _ h3 _ h4 _ h5 _ h6 _ h7 _ h8 _ h9 _ h10 _ h11 hc0 x0 x1 x2 x3 x4 x5).2.1, y ∈ pc.1.set :=
  View.cover_of_tiledL (s := S4096x128) _ S128x128.size (by sl_kernel_rfl) y

/-- What case A leaves in output 7's staging buffer: its pieces read back over junk. -/
def out0_A_7 : Vec F S4096x128 .f32 :=
  VO0_7.read (Elt F) (VO0_7.writes (Elt F) VO0_7.junk (kernelRun0_A c i _ h3 _ h4 _ h5 _ h6 _ h7 _ h8 _ h9 _ h10 _ h11 hc0 x0 x1 x2 x3 x4 x5).2.1)

/-- Case A's pieces for scratch `arg11`, which the kernel carries between points, cover it: one of them a store of the WHOLE buffer (Lib/Ring.lean `sl_whole_mem`). -/
theorem scover0_A_0 (y : S8x128x128.Idx) :
    ∃ pc ∈ (kernelRun0_A c i _ h3 _ h4 _ h5 _ h6 _ h7 _ h8 _ h9 _ h10 _ h11 hc0 x0 x1 x2 x3 x4 x5).2.2.1, y ∈ pc.1.set :=
  View.cover_of_wholeMem _ (by sl_whole_mem) y

/-- What case A leaves in scratch `arg11`: its pieces read back over junk. -/
def sout0_A_0 : Vec F S8x128x128 .f32 :=
  VS0_0.read (Elt F) (VS0_0.writes (Elt F) VS0_0.junk (kernelRun0_A c i _ h3 _ h4 _ h5 _ h6 _ h7 _ h8 _ h9 _ h10 _ h11 hc0 x0 x1 x2 x3 x4 x5).2.2.1)

/-- What case A leaves: the outputs, then the carried scratch. -/
def outsA : Vec F S256x1024 .f32 × Vec F S4096x128 .f32 × Vec F S8x128x128 .f32 :=
  (out0_A_6 c i _ h3 _ h4 _ h5 _ h6 _ h7 _ h8 _ h9 _ h10 _ h11 hc0 x0 x1 x2 x3 x4 x5, out0_A_7 c i _ h3 _ h4 _ h5 _ h6 _ h7 _ h8 _ h9 _ h10 _ h11 hc0 x0 x1 x2 x3 x4 x5, sout0_A_0 c i _ h3 _ h4 _ h5 _ h6 _ h7 _ h8 _ h9 _ h10 _ h11 hc0 x0 x1 x2 x3 x4 x5)

end CaseA

section CaseB

variable (c : Dev nD) (i : grid0.Coords) (arg3 : Memref sig .tc .vmem S256x1024 .f32) (h3 : arg3.IsWhole) (arg4 : Memref sig .tc .vmem S256x1024 .bf16) (h4 : arg4.IsWhole) (arg5 : Memref sig .tc .vmem S256x2048 .bf16) (h5 : arg5.IsWhole) (arg6 : Memref sig .tc .vmem S256x1024 .bf16) (h6 : arg6.IsWhole) (arg7 : Memref sig .tc .vmem S256x1024 .bf16) (h7 : arg7.IsWhole) (arg8 : Memref sig .tc .vmem S256x1024 .f32) (h8 : arg8.IsWhole) (arg9 : Memref sig .tc .vmem S256x1024 .f32) (h9 : arg9.IsWhole) (arg10 : Memref sig .tc .vmem S4096x128 .f32) (h10 : arg10.IsWhole) (arg11 : Memref sig .tc .vmem S8x128x128 .f32) (h11 : arg11.IsWhole) (hc0 : ¬cond0_0 i)
  (x0 : Vec F S256x1024 .f32) (x1 : Vec F S256x1024 .bf16) (x2 : Vec F S256x2048 .bf16) (x3 : Vec F S256x1024 .bf16) (x4 : Vec F S256x1024 .bf16) (x5 : Vec F S256x1024 .f32) (xs0 : Vec F S8x128x128 .f32)

/-- Case B's pieces for output 6 tile its block (32 stores of `S64x128`), so they cover it. -/
theorem cover0_B_6 (y : S256x1024.Idx) :
    ∃ pc ∈ (kernelRun0_B c i _ h3 _ h4 _ h5 _ h6 _ h7 _ h8 _ h9 _ h10 _ h11 hc0 x0 x1 x2 x3 x4 x5 xs0).1, y ∈ pc.1.set :=
  View.cover_of_tiledL (s := S256x1024) _ S64x128.size (by sl_kernel_rfl) y

/-- What case B leaves in output 6's staging buffer: its pieces read back over junk. -/
def out0_B_6 : Vec F S256x1024 .f32 :=
  VO0_6.read (Elt F) (VO0_6.writes (Elt F) VO0_6.junk (kernelRun0_B c i _ h3 _ h4 _ h5 _ h6 _ h7 _ h8 _ h9 _ h10 _ h11 hc0 x0 x1 x2 x3 x4 x5 xs0).1)

/-- Case B's pieces for output 7 tile its block (32 stores of `S128x128`), so they cover it. -/
theorem cover0_B_7 (y : S4096x128.Idx) :
    ∃ pc ∈ (kernelRun0_B c i _ h3 _ h4 _ h5 _ h6 _ h7 _ h8 _ h9 _ h10 _ h11 hc0 x0 x1 x2 x3 x4 x5 xs0).2.1, y ∈ pc.1.set :=
  View.cover_of_tiledL (s := S4096x128) _ S128x128.size (by sl_kernel_rfl) y

/-- What case B leaves in output 7's staging buffer: its pieces read back over junk. -/
def out0_B_7 : Vec F S4096x128 .f32 :=
  VO0_7.read (Elt F) (VO0_7.writes (Elt F) VO0_7.junk (kernelRun0_B c i _ h3 _ h4 _ h5 _ h6 _ h7 _ h8 _ h9 _ h10 _ h11 hc0 x0 x1 x2 x3 x4 x5 xs0).2.1)

/-- Case B's pieces for scratch `arg11`, which the kernel carries between points, cover it: 8 pieces of `S1x128x128` tiling it (Lib/Ring.lean `Piece.tiledL`). -/
theorem scover0_B_0 (y : S8x128x128.Idx) :
    ∃ pc ∈ (kernelRun0_B c i _ h3 _ h4 _ h5 _ h6 _ h7 _ h8 _ h9 _ h10 _ h11 hc0 x0 x1 x2 x3 x4 x5 xs0).2.2.1, y ∈ pc.1.set :=
  View.cover_of_tiledL (s := S8x128x128) _ S1x128x128.size (by sl_kernel_rfl) y

/-- What case B leaves in scratch `arg11`: its pieces read back over junk. -/
def sout0_B_0 : Vec F S8x128x128 .f32 :=
  VS0_0.read (Elt F) (VS0_0.writes (Elt F) VS0_0.junk (kernelRun0_B c i _ h3 _ h4 _ h5 _ h6 _ h7 _ h8 _ h9 _ h10 _ h11 hc0 x0 x1 x2 x3 x4 x5 xs0).2.2.1)

/-- What case B leaves: the outputs, then the carried scratch. -/
def outsB : Vec F S256x1024 .f32 × Vec F S4096x128 .f32 × Vec F S8x128x128 .f32 :=
  (out0_B_6 c i _ h3 _ h4 _ h5 _ h6 _ h7 _ h8 _ h9 _ h10 _ h11 hc0 x0 x1 x2 x3 x4 x5 xs0, out0_B_7 c i _ h3 _ h4 _ h5 _ h6 _ h7 _ h8 _ h9 _ h10 _ h11 hc0 x0 x1 x2 x3 x4 x5 xs0, sout0_B_0 c i _ h3 _ h4 _ h5 _ h6 _ h7 _ h8 _ h9 _ h10 _ h11 hc0 x0 x1 x2 x3 x4 x5 xs0)

end CaseB

/-! ## What the outputs hold after each point -/

/-- What a point of case A leaves. -/
def atA (c : Dev nD) (t : Fin cfg0.N) (h0 : t.val % 8 = 0) : Vec F S256x1024 .f32 × Vec F S4096x128 .f32 × Vec F S8x128x128 .f32 :=
  outsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t)

/-- What a point of case B leaves, over the scratch `s` the point before left. -/
def atB (c : Dev nD) (t : Fin cfg0.N) (h0 : ¬t.val % 8 = 0) (s : Vec F S8x128x128 .f32) : Vec F S256x1024 .f32 × Vec F S4096x128 .f32 × Vec F S8x128x128 .f32 :=
  outsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) s

/-- THE ACCUMULATION. -/
def outsAt0 (c : Dev nD) : (n : ℕ) → n < cfg0.N → Vec F S256x1024 .f32 × Vec F S4096x128 .f32 × Vec F S8x128x128 .f32
  | 0, hn => atA V c ⟨0, hn⟩ (Nat.zero_mod _)
  | n + 1, hn =>
    if h0 : (n + 1) % 8 = 0 then atA V c ⟨n + 1, hn⟩ h0
    else atB V c ⟨n + 1, hn⟩ h0 (outsAt0 c n (Nat.lt_of_succ_lt hn)).2.2

/-- `outsAt0` at a point of case A: that case's contents. -/
theorem outsAt0_A (c : Dev nD) (t : Fin cfg0.N) (h0 : t.val % 8 = 0) :
    outsAt0 V c t.val t.isLt = atA V c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = atB V c t h0 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: -/
def PhiS (c : Dev nD) : (n : ℕ) → n ≤ cfg0.N → sProp 𝕄
  | 0, _ => Pipeline.ΦA spec0 c
  | n + 1, hn => iprop(owns (c : Thread nD τ) scM0_0 fullShare ((outsAt0 V c n hn).2.2) ∗ rest c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(owns (c : Thread nD τ) scM0_0 fullShare ((outsAt0 V c n hn).2.2) ∗ rest c) := rfl

/-- Before a point that is not the first: the carried scratch at what the point before left. -/
theorem PhiS_pos (c : Dev nD) (n : ℕ) (h : n ≤ cfg0.N) (hz : n ≠ 0) :
    PhiS V c n h = iprop(owns (c : Thread nD τ) scM0_0 fullShare ((outsAt0 V c (n - 1) (by omega)).2.2) ∗ rest c) := by
  cases n with
  | zero => exact absurd rfl hz
  | succ n => rfl

/-! ## The pipeline's proof data -/

/-- The proof data of the one pipeline on core `c`: -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = (outsAt0 V c t.val t.isLt).1 := by dsimp only [dat]
theorem after0_7 (c : Dev nD) (t : Fin cfg0.N) : (dat V c).after 7 t = (outsAt0 V c t.val t.isLt).2.1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t))

/-- Before any point the invariant gives `ΦA`: the carried scratch's named contents are forgotten. -/
theorem Phi_out (c : Dev nD) (t : Fin (cfg0.N + 1)) : (dat V c).Φ t ⊢ Pipeline.ΦA spec0 c := by
  rw [show (dat V c).Φ t = PhiS V c t.val (Nat.le_of_lt_succ t.isLt) from rfl]
  by_cases ht : t.val = 0
  · rw [PhiS_zero V c _ _ ht]
  · rw [PhiS_pos V c _ _ ht, PhiA0_eq]
    iintro ⟨HS0, Hg⟩
    isplitl [HS0]
    · iexists _; iexact HS0
    iexact Hg

/-- The first conjunct of a precondition, weakened. -/
theorem front {P P' Q R : sProp 𝕄} (h : P ⊢ P') (k : iprop(P' ∗ Q) ⊢ R) : iprop(P ∗ Q) ⊢ R := by
  refine .trans ?_ k
  iintro ⟨HP, HQ⟩
  isplitl [HP]
  · iapply h; iexact HP
  iexact HQ

set_option maxHeartbeats 6400000 in
/-- The body at any point: -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).owesAt () t.succ = (dat V c).owesAt () t.castSucc from rfl,
    after0_0, after0_1, after0_2, after0_3, after0_4, after0_5, after0_6, after0_7]
  rw [show (dat V c).Φ t.succ = PhiS V c (t.val + 1) t.isLt from rfl, PhiS_succ]
  have hN : t.val < 16 := lt_of_lt_of_eq t.isLt (show cfg0.N = 16 from N_0)
  by_cases h0 : t.val % 8 = 0
  · refine front (Phi_out V c t.castSucc) ?_
    rw [PhiA0_eq, outsAt0_A V c t h0]
    unfold atA outsA out0_A_6 out0_A_7 sout0_A_0; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk V c 0 t) (iblk V c 1 t) (iblk V c 2 t) (iblk V c 3 t) (iblk V c 4 t) (iblk V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hg]
    · isplitl [HS0]
      · unfold owns; iexists _; isplitr
        swap; · iexact HS0
        ipureintro; exact View.read_writes_of_cover _ _ _ _ _ fun y => scover0_A_0 c (y := y) ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ fun y => cover0_A_6 c (y := y) ..
    unfold owns; iexists _; isplitr
    swap; · iexact H7
    ipureintro; exact View.read_writes_of_cover _ _ _ _ _ fun y => cover0_A_7 c (y := y) ..
  · rw [PhiS_castSucc V c t, PhiS_pos V c _ _ fun hz => h0 (by rw [hz])]
    rw [outsAt0_B V c t h0]
    unfold atB outsB out0_B_6 out0_B_7 sout0_B_0; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 Hg]
    · isplitl [HS0]
      · unfold owns; iexists _; isplitr
        swap; · iexact HS0
        ipureintro; exact View.read_writes_of_cover _ _ _ _ _ fun y => scover0_B_0 c (y := y) ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ fun y => cover0_B_6 c (y := y) ..
    unfold owns; iexists _; isplitr
    swap; · iexact H7
    ipureintro; exact View.read_writes_of_cover _ _ _ _ _ fun y => cover0_B_7 c (y := y) ..

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- The same after the last point. -/
theorem hout (c : Dev nD) : (dat V c).Φ (Fin.last cfg0.N) ⊢ Pipeline.ΦA spec0 c :=
  Phi_out V c _

end Cert.KernelIdeal.Fwd

end
-- ==== Proof.Bwd.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s (`hA`) and whose body leaves the block in place (`hafter`): -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof data whose array is `V`'s (`hA`) and whose body leaves the block in place (`hafter`): -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof data whose array is `V`'s (`hA`) and whose body leaves the block in place (`hafter`): -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof data whose array is `V`'s (`hA`) and whose body leaves the block in place (`hafter`): -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof data whose array is `V`'s (`hA`) and whose body leaves the block in place (`hafter`): -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof data whose array is `V`'s (`hA`) and whose body leaves the block in place (`hafter`): -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof data whose array is `V`'s (`hA`) and whose body leaves the block in place (`hafter`): -/
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof data whose array is `V`'s (`hA`) and whose body leaves the block in place (`hafter`): -/
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 8) — by arithmetic of the point. -/
theorem hcond1_0 : ∀ t : Fin cfg1.N, cond1_0 (grid1.coords t) ↔ t.val % 8 = 0 :=
  (fun t => by
    have ht : t.val < 16 := Nat.lt_of_lt_of_eq t.isLt N_1
    have e0 : (grid1.coords t 0).val = t.val / 8 % 2 := Pipeline.Grid.coords_val t 0 (by decide) rfl
    have e1 : (grid1.coords t 1).val = t.val / 8 % 1 := Pipeline.Grid.coords_val t 1 (by decide) rfl
    have e2 : (grid1.coords t 2).val = t.val / 1 % 8 := Pipeline.Grid.coords_val t 2 (by decide) rfl
    simp only [cond1_0, e0, e1, e2]
    word_cmp
   : ∀ t : Fin grid1.N, cond1_0 (grid1.coords t) ↔ t.val % 8 = 0)

/-! ## The kernel body on any staging memrefs: a subtype the run finds -/

/-- One staging buffer of output window 8, through which its contents are stated (`View.read_writes_of_cover`: the
    choice does not matter). -/
abbrev VO1_8 : View sig .tc .vmem S256x1024 .f32 := (Memref.whole cc1_stg8_0 : Memref sig .tc .vmem S256x1024 .f32).view
/-- One staging buffer of output window 9, through which its contents are stated (`View.read_writes_of_cover`: the
    choice does not matter). -/
abbrev VO1_9 : View sig .tc .vmem S256x1024 .f32 := (Memref.whole cc1_stg9_0 : Memref sig .tc .vmem S256x1024 .f32).view
/-- One staging buffer of output window 10, through which its contents are stated (`View.read_writes_of_cover`: the
    choice does not matter). -/
abbrev VO1_10 : View sig .tc .vmem S256x2048 .f32 := (Memref.whole cc1_stg10_0 : Memref sig .tc .vmem S256x2048 .f32).view
/-- One staging buffer of output window 11, through which its contents are stated (`View.read_writes_of_cover`: the
    choice does not matter). -/
abbrev VO1_11 : View sig .tc .vmem S256x1024 .f32 := (Memref.whole cc1_stg11_0 : Memref sig .tc .vmem S256x1024 .f32).view
/-- One staging buffer of output window 12, through which its contents are stated (`View.read_writes_of_cover`: the
    choice does not matter). -/
abbrev VO1_12 : View sig .tc .vmem S256x1024 .f32 := (Memref.whole cc1_stg12_0 : Memref sig .tc .vmem S256x1024 .f32).view
/-- One staging buffer of output window 13, through which its contents are stated (`View.read_writes_of_cover`: the
    choice does not matter). -/
abbrev VO1_13 : View sig .tc .vmem S256x1024 .f32 := (Memref.whole cc1_stg13_0 : Memref sig .tc .vmem S256x1024 .f32).view
/-- Each window's current staging memref at point `t`, spelled as the pipeline passes it (`bodyAt1`), and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4096x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x2048 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x1024 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x1024 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S256x1024 .f32 := win1_13.stage (cfg1.slots t 13)
abbrev hs1_13 (t : Fin cfg1.N) : (ms1_13 t).IsWhole := hstage1_13 ((cfg1.slots t 13).cast nbuf1_13)
/-- The scratch operands: whole scoped buffers of the kernel's own, passed beside the windows. -/
abbrev scM1_0 : Memref sig .tc .vmem S8x128x128 .f32 := Memref.whole cc1_scratch0
/-- The scratch `arg17` the kernel carries between points, as a view: what it holds is stated through it. -/
abbrev VS1_0 : View sig .tc .vmem S8x128x128 .f32 := scM1_0.view

/-- What the body never opens: the other scoped buffers, and the generator register at some state. -/
abbrev rest (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The kit's invariant with the carried scratch as a memref owned at some contents, beside what is never opened. -/
theorem PhiA1_eq (c : Dev nD) :
    (Pipeline.ΦA spec1 c : sProp 𝕄) = iprop((∃ d, owns (c : Thread nD τ) scM1_0 fullShare d) ∗ rest c) := by
  have h : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
    Pipeline.scopedRest_split_of_list spec1 c [cc1_scratch0] (by decide) (by decide)
  unfold Pipeline.ΦA; rw [h]; simp only [scM1_0, owns_whole]
  exact Idealize.SL.BI.equiv_iff.mp ⟨Idealize.SL.BI.sep_assoc, Idealize.SL.BI.sep_assoc'⟩

end Cert.KernelIdeal.Bwd

end
-- ==== Proof.Bwd.RunA.lean ====
module

public import proofs.«01_k».proof.Proof.Bwd.Runs

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 4076000 in
/-- What the body's stores leave in each output's staging memref, as pieces (last first) IN CASE A (`scf.if` 0 taken: -/
noncomputable def kernelRun1_A (c : Dev nD) (i : grid1.Coords) (arg3 : Memref sig .tc .vmem S256x1024 .f32) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S4096x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x2048 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S8x128x128 .f32) (harg17 : arg17.IsWhole) (hc0 : cond1_0 i)
    (x0 : Vec F S256x1024 .f32) (x1 : Vec F S256x1024 .bf16) (x2 : Vec F S256x2048 .bf16) (x3 : Vec F S256x1024 .bf16) (x4 : Vec F S256x1024 .bf16) (x5 : Vec F S256x1024 .f32) (x6 : Vec F S4096x128 .f32) (x7 : Vec F S256x1024 .f32) :
    Σ' (L8 : List (View.Piece (Elt F) S256x1024 .f32)), Σ' (L9 : List (View.Piece (Elt F) S256x1024 .f32)), Σ' (L10 : List (View.Piece (Elt F) S256x2048 .f32)), Σ' (L11 : List (View.Piece (Elt F) S256x1024 .f32)), Σ' (L12 : List (View.Piece (Elt F) S256x1024 .f32)), Σ' (L13 : List (View.Piece (Elt F) S256x1024 .f32)), { LS0 : List (View.Piece (Elt F) S8x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0)) -∗ K ⟨⟩))
          ⊢ wp frame (wpE (defs₀ (F := F)) Variants.none c none) E (cc1_gdn_b_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc1_gdn_b_bwd_eq_skeleton]; unfold cc1_gdn_b_bwd_skel
    simp only [k1_part58_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.Bwd.RunB.lean ====
module

public import proofs.«01_k».proof.Proof.Bwd.Runs

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 4064000 in
/-- What the body's stores leave in each output's staging memref, as pieces (last first) IN CASE B (`scf.if` 0 not taken: -/
noncomputable def kernelRun1_B (c : Dev nD) (i : grid1.Coords) (arg3 : Memref sig .tc .vmem S256x1024 .f32) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S4096x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x2048 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S8x128x128 .f32) (harg17 : arg17.IsWhole) (hc0 : ¬cond1_0 i)
    (x0 : Vec F S256x1024 .f32) (x1 : Vec F S256x1024 .bf16) (x2 : Vec F S256x2048 .bf16) (x3 : Vec F S256x1024 .bf16) (x4 : Vec F S256x1024 .bf16) (x5 : Vec F S256x1024 .f32) (x6 : Vec F S4096x128 .f32) (x7 : Vec F S256x1024 .f32) (xs0 : Vec F S8x128x128 .f32) :
    Σ' (L8 : List (View.Piece (Elt F) S256x1024 .f32)), Σ' (L9 : List (View.Piece (Elt F) S256x1024 .f32)), Σ' (L10 : List (View.Piece (Elt F) S256x2048 .f32)), Σ' (L11 : List (View.Piece (Elt F) S256x1024 .f32)), Σ' (L12 : List (View.Piece (Elt F) S256x1024 .f32)), Σ' (L13 : List (View.Piece (Elt F) S256x1024 .f32)), { LS0 : List (View.Piece (Elt F) S8x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f LS0)) -∗ K ⟨⟩))
          ⊢ wp frame (wpE (defs₀ (F := F)) Variants.none c none) E (cc1_gdn_b_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc1_gdn_b_bwd_eq_skeleton]; unfold cc1_gdn_b_bwd_skel
    simp only [k1_part58_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg17.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.Bwd.Region.lean ====
module

public import proofs.«01_k».proof.Proof.Bwd.RunA
public import proofs.«01_k».proof.Proof.Bwd.RunB

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section CaseA

variable (c : Dev nD) (i : grid1.Coords) (arg3 : Memref sig .tc .vmem S256x1024 .f32) (h3 : arg3.IsWhole) (arg4 : Memref sig .tc .vmem S256x1024 .bf16) (h4 : arg4.IsWhole) (arg5 : Memref sig .tc .vmem S256x2048 .bf16) (h5 : arg5.IsWhole) (arg6 : Memref sig .tc .vmem S256x1024 .bf16) (h6 : arg6.IsWhole) (arg7 : Memref sig .tc .vmem S256x1024 .bf16) (h7 : arg7.IsWhole) (arg8 : Memref sig .tc .vmem S256x1024 .f32) (h8 : arg8.IsWhole) (arg9 : Memref sig .tc .vmem S4096x128 .f32) (h9 : arg9.IsWhole) (arg10 : Memref sig .tc .vmem S256x1024 .f32) (h10 : arg10.IsWhole) (arg11 : Memref sig .tc .vmem S256x1024 .f32) (h11 : arg11.IsWhole) (arg12 : Memref sig .tc .vmem S256x1024 .f32) (h12 : arg12.IsWhole) (arg13 : Memref sig .tc .vmem S256x2048 .f32) (h13 : arg13.IsWhole) (arg14 : Memref sig .tc .vmem S256x1024 .f32) (h14 : arg14.IsWhole) (arg15 : Memref sig .tc .vmem S256x1024 .f32) (h15 : arg15.IsWhole) (arg16 : Memref sig .tc .vmem S256x1024 .f32) (h16 : arg16.IsWhole) (arg17 : Memref sig .tc .vmem S8x128x128 .f32) (h17 : arg17.IsWhole) (hc0 : cond1_0 i)
  (x0 : Vec F S256x1024 .f32) (x1 : Vec F S256x1024 .bf16) (x2 : Vec F S256x2048 .bf16) (x3 : Vec F S256x1024 .bf16) (x4 : Vec F S256x1024 .bf16) (x5 : Vec F S256x1024 .f32) (x6 : Vec F S4096x128 .f32) (x7 : Vec F S256x1024 .f32)

/-- Case A's pieces for output 8 tile its block (32 stores of `S64x128`), so they cover it. -/
theorem cover1_A_8 (y : S256x1024.Idx) :
    ∃ pc ∈ (kernelRun1_A c i _ h3 _ h4 _ h5 _ h6 _ h7 _ h8 _ h9 _ h10 _ h11 _ h12 _ h13 _ h14 _ h15 _ h16 _ h17 hc0 x0 x1 x2 x3 x4 x5 x6 x7).1, y ∈ pc.1.set :=
  View.cover_of_tiledL (s := S256x1024) _ S64x128.size (by sl_kernel_rfl) y

/-- What case A leaves in output 8's staging buffer: its pieces read back over junk. -/
def out1_A_8 : Vec F S256x1024 .f32 :=
  VO1_8.read (Elt F) (VO1_8.writes (Elt F) VO1_8.junk (kernelRun1_A c i _ h3 _ h4 _ h5 _ h6 _ h7 _ h8 _ h9 _ h10 _ h11 _ h12 _ h13 _ h14 _ h15 _ h16 _ h17 hc0 x0 x1 x2 x3 x4 x5 x6 x7).1)

/-- Case A's pieces for output 9 tile its block (32 stores of `S64x128`), so they cover it. -/
theorem cover1_A_9 (y : S256x1024.Idx) :
    ∃ pc ∈ (kernelRun1_A c i _ h3 _ h4 _ h5 _ h6 _ h7 _ h8 _ h9 _ h10 _ h11 _ h12 _ h13 _ h14 _ h15 _ h16 _ h17 hc0 x0 x1 x2 x3 x4 x5 x6 x7).2.1, y ∈ pc.1.set :=
  View.cover_of_tiledL (s := S256x1024) _ S64x128.size (by sl_kernel_rfl) y

/-- What case A leaves in output 9's staging buffer: its pieces read back over junk. -/
def out1_A_9 : Vec F S256x1024 .f32 :=
  VO1_9.read (Elt F) (VO1_9.writes (Elt F) VO1_9.junk (kernelRun1_A c i _ h3 _ h4 _ h5 _ h6 _ h7 _ h8 _ h9 _ h10 _ h11 _ h12 _ h13 _ h14 _ h15 _ h16 _ h17 hc0 x0 x1 x2 x3 x4 x5 x6 x7).2.1)

/-- Case A's pieces for output 10 tile its block (32 stores of `S64x256`), so they cover it. -/
theorem cover1_A_10 (y : S256x2048.Idx) :
    ∃ pc ∈ (kernelRun1_A c i _ h3 _ h4 _ h5 _ h6 _ h7 _ h8 _ h9 _ h10 _ h11 _ h12 _ h13 _ h14 _ h15 _ h16 _ h17 hc0 x0 x1 x2 x3 x4 x5 x6 x7).2.2.1, y ∈ pc.1.set :=
  View.cover_of_tiledL (s := S256x2048) _ S64x256.size (by sl_kernel_rfl) y

/-- What case A leaves in output 10's staging buffer: its pieces read back over junk. -/
def out1_A_10 : Vec F S256x2048 .f32 :=
  VO1_10.read (Elt F) (VO1_10.writes (Elt F) VO1_10.junk (kernelRun1_A c i _ h3 _ h4 _ h5 _ h6 _ h7 _ h8 _ h9 _ h10 _ h11 _ h12 _ h13 _ h14 _ h15 _ h16 _ h17 hc0 x0 x1 x2 x3 x4 x5 x6 x7).2.2.1)

/-- Case A's pieces for output 11 tile its block (32 stores of `S64x128`), so they cover it. -/
theorem cover1_A_11 (y : S256x1024.Idx) :
    ∃ pc ∈ (kernelRun1_A c i _ h3 _ h4 _ h5 _ h6 _ h7 _ h8 _ h9 _ h10 _ h11 _ h12 _ h13 _ h14 _ h15 _ h16 _ h17 hc0 x0 x1 x2 x3 x4 x5 x6 x7).2.2.2.1, y ∈ pc.1.set :=
  View.cover_of_tiledL (s := S256x1024) _ S64x128.size (by sl_kernel_rfl) y

/-- What case A leaves in output 11's staging buffer: its pieces read back over junk. -/
def out1_A_11 : Vec F S256x1024 .f32 :=
  VO1_11.read (Elt F) (VO1_11.writes (Elt F) VO1_11.junk (kernelRun1_A c i _ h3 _ h4 _ h5 _ h6 _ h7 _ h8 _ h9 _ h10 _ h11 _ h12 _ h13 _ h14 _ h15 _ h16 _ h17 hc0 x0 x1 x2 x3 x4 x5 x6 x7).2.2.2.1)

/-- Case A's pieces for output 12 tile its block (32 stores of `S64x128`), so they cover it. -/
theorem cover1_A_12 (y : S256x1024.Idx) :
    ∃ pc ∈ (kernelRun1_A c i _ h3 _ h4 _ h5 _ h6 _ h7 _ h8 _ h9 _ h10 _ h11 _ h12 _ h13 _ h14 _ h15 _ h16 _ h17 hc0 x0 x1 x2 x3 x4 x5 x6 x7).2.2.2.2.1, y ∈ pc.1.set :=
  View.cover_of_tiledL (s := S256x1024) _ S64x128.size (by sl_kernel_rfl) y

/-- What case A leaves in output 12's staging buffer: its pieces read back over junk. -/
def out1_A_12 : Vec F S256x1024 .f32 :=
  VO1_12.read (Elt F) (VO1_12.writes (Elt F) VO1_12.junk (kernelRun1_A c i _ h3 _ h4 _ h5 _ h6 _ h7 _ h8 _ h9 _ h10 _ h11 _ h12 _ h13 _ h14 _ h15 _ h16 _ h17 hc0 x0 x1 x2 x3 x4 x5 x6 x7).2.2.2.2.1)

/-- Case A's pieces for output 13 tile its block (32 stores of `S64x128`), so they cover it. -/
theorem cover1_A_13 (y : S256x1024.Idx) :
    ∃ pc ∈ (kernelRun1_A c i _ h3 _ h4 _ h5 _ h6 _ h7 _ h8 _ h9 _ h10 _ h11 _ h12 _ h13 _ h14 _ h15 _ h16 _ h17 hc0 x0 x1 x2 x3 x4 x5 x6 x7).2.2.2.2.2.1, y ∈ pc.1.set :=
  View.cover_of_tiledL (s := S256x1024) _ S64x128.size (by sl_kernel_rfl) y

/-- What case A leaves in output 13's staging buffer: its pieces read back over junk. -/
def out1_A_13 : Vec F S256x1024 .f32 :=
  VO1_13.read (Elt F) (VO1_13.writes (Elt F) VO1_13.junk (kernelRun1_A c i _ h3 _ h4 _ h5 _ h6 _ h7 _ h8 _ h9 _ h10 _ h11 _ h12 _ h13 _ h14 _ h15 _ h16 _ h17 hc0 x0 x1 x2 x3 x4 x5 x6 x7).2.2.2.2.2.1)

/-- Case A's pieces for scratch `arg17`, which the kernel carries between points, cover it: one of them a store of the WHOLE buffer (Lib/Ring.lean `sl_whole_mem`). -/
theorem scover1_A_0 (y : S8x128x128.Idx) :
    ∃ pc ∈ (kernelRun1_A c i _ h3 _ h4 _ h5 _ h6 _ h7 _ h8 _ h9 _ h10 _ h11 _ h12 _ h13 _ h14 _ h15 _ h16 _ h17 hc0 x0 x1 x2 x3 x4 x5 x6 x7).2.2.2.2.2.2.1, y ∈ pc.1.set :=
  View.cover_of_wholeMem _ (by sl_whole_mem) y

/-- What case A leaves in scratch `arg17`: its pieces read back over junk. -/
def sout1_A_0 : Vec F S8x128x128 .f32 :=
  VS1_0.read (Elt F) (VS1_0.writes (Elt F) VS1_0.junk (kernelRun1_A c i _ h3 _ h4 _ h5 _ h6 _ h7 _ h8 _ h9 _ h10 _ h11 _ h12 _ h13 _ h14 _ h15 _ h16 _ h17 hc0 x0 x1 x2 x3 x4 x5 x6 x7).2.2.2.2.2.2.1)

/-- What case A leaves: the outputs, then the carried scratch. -/
def outsA : Vec F S256x1024 .f32 × Vec F S256x1024 .f32 × Vec F S256x2048 .f32 × Vec F S256x1024 .f32 × Vec F S256x1024 .f32 × Vec F S256x1024 .f32 × Vec F S8x128x128 .f32 :=
  (out1_A_8 c i _ h3 _ h4 _ h5 _ h6 _ h7 _ h8 _ h9 _ h10 _ h11 _ h12 _ h13 _ h14 _ h15 _ h16 _ h17 hc0 x0 x1 x2 x3 x4 x5 x6 x7, out1_A_9 c i _ h3 _ h4 _ h5 _ h6 _ h7 _ h8 _ h9 _ h10 _ h11 _ h12 _ h13 _ h14 _ h15 _ h16 _ h17 hc0 x0 x1 x2 x3 x4 x5 x6 x7, out1_A_10 c i _ h3 _ h4 _ h5 _ h6 _ h7 _ h8 _ h9 _ h10 _ h11 _ h12 _ h13 _ h14 _ h15 _ h16 _ h17 hc0 x0 x1 x2 x3 x4 x5 x6 x7, out1_A_11 c i _ h3 _ h4 _ h5 _ h6 _ h7 _ h8 _ h9 _ h10 _ h11 _ h12 _ h13 _ h14 _ h15 _ h16 _ h17 hc0 x0 x1 x2 x3 x4 x5 x6 x7, out1_A_12 c i _ h3 _ h4 _ h5 _ h6 _ h7 _ h8 _ h9 _ h10 _ h11 _ h12 _ h13 _ h14 _ h15 _ h16 _ h17 hc0 x0 x1 x2 x3 x4 x5 x6 x7, out1_A_13 c i _ h3 _ h4 _ h5 _ h6 _ h7 _ h8 _ h9 _ h10 _ h11 _ h12 _ h13 _ h14 _ h15 _ h16 _ h17 hc0 x0 x1 x2 x3 x4 x5 x6 x7, sout1_A_0 c i _ h3 _ h4 _ h5 _ h6 _ h7 _ h8 _ h9 _ h10 _ h11 _ h12 _ h13 _ h14 _ h15 _ h16 _ h17 hc0 x0 x1 x2 x3 x4 x5 x6 x7)

end CaseA

section CaseB

variable (c : Dev nD) (i : grid1.Coords) (arg3 : Memref sig .tc .vmem S256x1024 .f32) (h3 : arg3.IsWhole) (arg4 : Memref sig .tc .vmem S256x1024 .bf16) (h4 : arg4.IsWhole) (arg5 : Memref sig .tc .vmem S256x2048 .bf16) (h5 : arg5.IsWhole) (arg6 : Memref sig .tc .vmem S256x1024 .bf16) (h6 : arg6.IsWhole) (arg7 : Memref sig .tc .vmem S256x1024 .bf16) (h7 : arg7.IsWhole) (arg8 : Memref sig .tc .vmem S256x1024 .f32) (h8 : arg8.IsWhole) (arg9 : Memref sig .tc .vmem S4096x128 .f32) (h9 : arg9.IsWhole) (arg10 : Memref sig .tc .vmem S256x1024 .f32) (h10 : arg10.IsWhole) (arg11 : Memref sig .tc .vmem S256x1024 .f32) (h11 : arg11.IsWhole) (arg12 : Memref sig .tc .vmem S256x1024 .f32) (h12 : arg12.IsWhole) (arg13 : Memref sig .tc .vmem S256x2048 .f32) (h13 : arg13.IsWhole) (arg14 : Memref sig .tc .vmem S256x1024 .f32) (h14 : arg14.IsWhole) (arg15 : Memref sig .tc .vmem S256x1024 .f32) (h15 : arg15.IsWhole) (arg16 : Memref sig .tc .vmem S256x1024 .f32) (h16 : arg16.IsWhole) (arg17 : Memref sig .tc .vmem S8x128x128 .f32) (h17 : arg17.IsWhole) (hc0 : ¬cond1_0 i)
  (x0 : Vec F S256x1024 .f32) (x1 : Vec F S256x1024 .bf16) (x2 : Vec F S256x2048 .bf16) (x3 : Vec F S256x1024 .bf16) (x4 : Vec F S256x1024 .bf16) (x5 : Vec F S256x1024 .f32) (x6 : Vec F S4096x128 .f32) (x7 : Vec F S256x1024 .f32) (xs0 : Vec F S8x128x128 .f32)

/-- Case B's pieces for output 8 tile its block (32 stores of `S64x128`), so they cover it. -/
theorem cover1_B_8 (y : S256x1024.Idx) :
    ∃ pc ∈ (kernelRun1_B c i _ h3 _ h4 _ h5 _ h6 _ h7 _ h8 _ h9 _ h10 _ h11 _ h12 _ h13 _ h14 _ h15 _ h16 _ h17 hc0 x0 x1 x2 x3 x4 x5 x6 x7 xs0).1, y ∈ pc.1.set :=
  View.cover_of_tiledL (s := S256x1024) _ S64x128.size (by sl_kernel_rfl) y

/-- What case B leaves in output 8's staging buffer: its pieces read back over junk. -/
def out1_B_8 : Vec F S256x1024 .f32 :=
  VO1_8.read (Elt F) (VO1_8.writes (Elt F) VO1_8.junk (kernelRun1_B c i _ h3 _ h4 _ h5 _ h6 _ h7 _ h8 _ h9 _ h10 _ h11 _ h12 _ h13 _ h14 _ h15 _ h16 _ h17 hc0 x0 x1 x2 x3 x4 x5 x6 x7 xs0).1)

/-- Case B's pieces for output 9 tile its block (32 stores of `S64x128`), so they cover it. -/
theorem cover1_B_9 (y : S256x1024.Idx) :
    ∃ pc ∈ (kernelRun1_B c i _ h3 _ h4 _ h5 _ h6 _ h7 _ h8 _ h9 _ h10 _ h11 _ h12 _ h13 _ h14 _ h15 _ h16 _ h17 hc0 x0 x1 x2 x3 x4 x5 x6 x7 xs0).2.1, y ∈ pc.1.set :=
  View.cover_of_tiledL (s := S256x1024) _ S64x128.size (by sl_kernel_rfl) y

/-- What case B leaves in output 9's staging buffer: its pieces read back over junk. -/
def out1_B_9 : Vec F S256x1024 .f32 :=
  VO1_9.read (Elt F) (VO1_9.writes (Elt F) VO1_9.junk (kernelRun1_B c i _ h3 _ h4 _ h5 _ h6 _ h7 _ h8 _ h9 _ h10 _ h11 _ h12 _ h13 _ h14 _ h15 _ h16 _ h17 hc0 x0 x1 x2 x3 x4 x5 x6 x7 xs0).2.1)

/-- Case B's pieces for output 10 tile its block (32 stores of `S64x256`), so they cover it. -/
theorem cover1_B_10 (y : S256x2048.Idx) :
    ∃ pc ∈ (kernelRun1_B c i _ h3 _ h4 _ h5 _ h6 _ h7 _ h8 _ h9 _ h10 _ h11 _ h12 _ h13 _ h14 _ h15 _ h16 _ h17 hc0 x0 x1 x2 x3 x4 x5 x6 x7 xs0).2.2.1, y ∈ pc.1.set :=
  View.cover_of_tiledL (s := S256x2048) _ S64x256.size (by sl_kernel_rfl) y

/-- What case B leaves in output 10's staging buffer: its pieces read back over junk. -/
def out1_B_10 : Vec F S256x2048 .f32 :=
  VO1_10.read (Elt F) (VO1_10.writes (Elt F) VO1_10.junk (kernelRun1_B c i _ h3 _ h4 _ h5 _ h6 _ h7 _ h8 _ h9 _ h10 _ h11 _ h12 _ h13 _ h14 _ h15 _ h16 _ h17 hc0 x0 x1 x2 x3 x4 x5 x6 x7 xs0).2.2.1)

/-- Case B's pieces for output 11 tile its block (32 stores of `S64x128`), so they cover it. -/
theorem cover1_B_11 (y : S256x1024.Idx) :
    ∃ pc ∈ (kernelRun1_B c i _ h3 _ h4 _ h5 _ h6 _ h7 _ h8 _ h9 _ h10 _ h11 _ h12 _ h13 _ h14 _ h15 _ h16 _ h17 hc0 x0 x1 x2 x3 x4 x5 x6 x7 xs0).2.2.2.1, y ∈ pc.1.set :=
  View.cover_of_tiledL (s := S256x1024) _ S64x128.size (by sl_kernel_rfl) y

/-- What case B leaves in output 11's staging buffer: its pieces read back over junk. -/
def out1_B_11 : Vec F S256x1024 .f32 :=
  VO1_11.read (Elt F) (VO1_11.writes (Elt F) VO1_11.junk (kernelRun1_B c i _ h3 _ h4 _ h5 _ h6 _ h7 _ h8 _ h9 _ h10 _ h11 _ h12 _ h13 _ h14 _ h15 _ h16 _ h17 hc0 x0 x1 x2 x3 x4 x5 x6 x7 xs0).2.2.2.1)

/-- Case B's pieces for output 12 tile its block (32 stores of `S64x128`), so they cover it. -/
theorem cover1_B_12 (y : S256x1024.Idx) :
    ∃ pc ∈ (kernelRun1_B c i _ h3 _ h4 _ h5 _ h6 _ h7 _ h8 _ h9 _ h10 _ h11 _ h12 _ h13 _ h14 _ h15 _ h16 _ h17 hc0 x0 x1 x2 x3 x4 x5 x6 x7 xs0).2.2.2.2.1, y ∈ pc.1.set :=
  View.cover_of_tiledL (s := S256x1024) _ S64x128.size (by sl_kernel_rfl) y

/-- What case B leaves in output 12's staging buffer: its pieces read back over junk. -/
def out1_B_12 : Vec F S256x1024 .f32 :=
  VO1_12.read (Elt F) (VO1_12.writes (Elt F) VO1_12.junk (kernelRun1_B c i _ h3 _ h4 _ h5 _ h6 _ h7 _ h8 _ h9 _ h10 _ h11 _ h12 _ h13 _ h14 _ h15 _ h16 _ h17 hc0 x0 x1 x2 x3 x4 x5 x6 x7 xs0).2.2.2.2.1)

/-- Case B's pieces for output 13 tile its block (32 stores of `S64x128`), so they cover it. -/
theorem cover1_B_13 (y : S256x1024.Idx) :
    ∃ pc ∈ (kernelRun1_B c i _ h3 _ h4 _ h5 _ h6 _ h7 _ h8 _ h9 _ h10 _ h11 _ h12 _ h13 _ h14 _ h15 _ h16 _ h17 hc0 x0 x1 x2 x3 x4 x5 x6 x7 xs0).2.2.2.2.2.1, y ∈ pc.1.set :=
  View.cover_of_tiledL (s := S256x1024) _ S64x128.size (by sl_kernel_rfl) y

/-- What case B leaves in output 13's staging buffer: its pieces read back over junk. -/
def out1_B_13 : Vec F S256x1024 .f32 :=
  VO1_13.read (Elt F) (VO1_13.writes (Elt F) VO1_13.junk (kernelRun1_B c i _ h3 _ h4 _ h5 _ h6 _ h7 _ h8 _ h9 _ h10 _ h11 _ h12 _ h13 _ h14 _ h15 _ h16 _ h17 hc0 x0 x1 x2 x3 x4 x5 x6 x7 xs0).2.2.2.2.2.1)

/-- Case B's pieces for scratch `arg17`, which the kernel carries between points, cover it: 8 pieces of `S1x128x128` tiling it (Lib/Ring.lean `Piece.tiledL`). -/
theorem scover1_B_0 (y : S8x128x128.Idx) :
    ∃ pc ∈ (kernelRun1_B c i _ h3 _ h4 _ h5 _ h6 _ h7 _ h8 _ h9 _ h10 _ h11 _ h12 _ h13 _ h14 _ h15 _ h16 _ h17 hc0 x0 x1 x2 x3 x4 x5 x6 x7 xs0).2.2.2.2.2.2.1, y ∈ pc.1.set :=
  View.cover_of_tiledL (s := S8x128x128) _ S1x128x128.size (by sl_kernel_rfl) y

/-- What case B leaves in scratch `arg17`: its pieces read back over junk. -/
def sout1_B_0 : Vec F S8x128x128 .f32 :=
  VS1_0.read (Elt F) (VS1_0.writes (Elt F) VS1_0.junk (kernelRun1_B c i _ h3 _ h4 _ h5 _ h6 _ h7 _ h8 _ h9 _ h10 _ h11 _ h12 _ h13 _ h14 _ h15 _ h16 _ h17 hc0 x0 x1 x2 x3 x4 x5 x6 x7 xs0).2.2.2.2.2.2.1)

/-- What case B leaves: the outputs, then the carried scratch. -/
def outsB : Vec F S256x1024 .f32 × Vec F S256x1024 .f32 × Vec F S256x2048 .f32 × Vec F S256x1024 .f32 × Vec F S256x1024 .f32 × Vec F S256x1024 .f32 × Vec F S8x128x128 .f32 :=
  (out1_B_8 c i _ h3 _ h4 _ h5 _ h6 _ h7 _ h8 _ h9 _ h10 _ h11 _ h12 _ h13 _ h14 _ h15 _ h16 _ h17 hc0 x0 x1 x2 x3 x4 x5 x6 x7 xs0, out1_B_9 c i _ h3 _ h4 _ h5 _ h6 _ h7 _ h8 _ h9 _ h10 _ h11 _ h12 _ h13 _ h14 _ h15 _ h16 _ h17 hc0 x0 x1 x2 x3 x4 x5 x6 x7 xs0, out1_B_10 c i _ h3 _ h4 _ h5 _ h6 _ h7 _ h8 _ h9 _ h10 _ h11 _ h12 _ h13 _ h14 _ h15 _ h16 _ h17 hc0 x0 x1 x2 x3 x4 x5 x6 x7 xs0, out1_B_11 c i _ h3 _ h4 _ h5 _ h6 _ h7 _ h8 _ h9 _ h10 _ h11 _ h12 _ h13 _ h14 _ h15 _ h16 _ h17 hc0 x0 x1 x2 x3 x4 x5 x6 x7 xs0, out1_B_12 c i _ h3 _ h4 _ h5 _ h6 _ h7 _ h8 _ h9 _ h10 _ h11 _ h12 _ h13 _ h14 _ h15 _ h16 _ h17 hc0 x0 x1 x2 x3 x4 x5 x6 x7 xs0, out1_B_13 c i _ h3 _ h4 _ h5 _ h6 _ h7 _ h8 _ h9 _ h10 _ h11 _ h12 _ h13 _ h14 _ h15 _ h16 _ h17 hc0 x0 x1 x2 x3 x4 x5 x6 x7 xs0, sout1_B_0 c i _ h3 _ h4 _ h5 _ h6 _ h7 _ h8 _ h9 _ h10 _ h11 _ h12 _ h13 _ h14 _ h15 _ h16 _ h17 hc0 x0 x1 x2 x3 x4 x5 x6 x7 xs0)

end CaseB

/-! ## What the outputs hold after each point -/

/-- What a point of case A leaves. -/
def atA (c : Dev nD) (t : Fin cfg1.N) (h0 : t.val % 8 = 0) : Vec F S256x1024 .f32 × Vec F S256x1024 .f32 × Vec F S256x2048 .f32 × Vec F S256x1024 .f32 × Vec F S256x1024 .f32 × Vec F S256x1024 .f32 × Vec F S8x128x128 .f32 :=
  outsA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) ((hcond1_0 t).mpr h0) (iblk V c 0 t) (iblk V c 1 t) (iblk V c 2 t) (iblk V c 3 t) (iblk V c 4 t) (iblk V c 5 t) (iblk V c 6 t) (iblk V c 7 t)

/-- What a point of case B leaves, over the scratch `s` the point before left. -/
def atB (c : Dev nD) (t : Fin cfg1.N) (h0 : ¬t.val % 8 = 0) (s : Vec F S8x128x128 .f32) : Vec F S256x1024 .f32 × Vec F S256x1024 .f32 × Vec F S256x2048 .f32 × Vec F S256x1024 .f32 × Vec F S256x1024 .f32 × Vec F S256x1024 .f32 × Vec F S8x128x128 .f32 :=
  outsB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) (fun h => h0 ((hcond1_0 t).mp h)) (iblk V c 0 t) (iblk V c 1 t) (iblk V c 2 t) (iblk V c 3 t) (iblk V c 4 t) (iblk V c 5 t) (iblk V c 6 t) (iblk V c 7 t) s

/-- THE ACCUMULATION. -/
def outsAt1 (c : Dev nD) : (n : ℕ) → n < cfg1.N → Vec F S256x1024 .f32 × Vec F S256x1024 .f32 × Vec F S256x2048 .f32 × Vec F S256x1024 .f32 × Vec F S256x1024 .f32 × Vec F S256x1024 .f32 × Vec F S8x128x128 .f32
  | 0, hn => atA V c ⟨0, hn⟩ (Nat.zero_mod _)
  | n + 1, hn =>
    if h0 : (n + 1) % 8 = 0 then atA V c ⟨n + 1, hn⟩ h0
    else atB V c ⟨n + 1, hn⟩ h0 (outsAt1 c n (Nat.lt_of_succ_lt hn)).2.2.2.2.2.2

/-- `outsAt1` at a point of case A: that case's contents. -/
theorem outsAt0_A (c : Dev nD) (t : Fin cfg1.N) (h0 : t.val % 8 = 0) :
    outsAt1 V c t.val t.isLt = atA V c t h0 := by
  obtain ⟨n, hn⟩ := t
  cases n with
  | zero => exact rfl
  | succ n => exact (dif_pos h0).trans rfl

/-- `outsAt1` at a point of case B: that case's contents, over what the point before left. -/
theorem outsAt0_B (c : Dev nD) (t : Fin cfg1.N) (h0 : ¬t.val % 8 = 0) :
    outsAt1 V c t.val t.isLt = atB V c t h0 (outsAt1 V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: -/
def PhiS (c : Dev nD) : (n : ℕ) → n ≤ cfg1.N → sProp 𝕄
  | 0, _ => Pipeline.ΦA spec1 c
  | n + 1, hn => iprop(owns (c : Thread nD τ) scM1_0 fullShare ((outsAt1 V c n hn).2.2.2.2.2.2) ∗ rest c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(owns (c : Thread nD τ) scM1_0 fullShare ((outsAt1 V c n hn).2.2.2.2.2.2) ∗ rest c) := rfl

/-- Before a point that is not the first: the carried scratch at what the point before left. -/
theorem PhiS_pos (c : Dev nD) (n : ℕ) (h : n ≤ cfg1.N) (hz : n ≠ 0) :
    PhiS V c n h = iprop(owns (c : Thread nD τ) scM1_0 fullShare ((outsAt1 V c (n - 1) (by omega)).2.2.2.2.2.2) ∗ rest c) := by
  cases n with
  | zero => exact absurd rfl hz
  | succ n => rfl

/-! ## The pipeline's proof data -/

/-- The proof data of the one pipeline on core `c`: -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt1 V c t.val t.isLt).1
    | ⟨9, _⟩ => (outsAt1 V c t.val t.isLt).2.1
    | ⟨10, _⟩ => (outsAt1 V c t.val t.isLt).2.2.1
    | ⟨11, _⟩ => (outsAt1 V c t.val t.isLt).2.2.2.1
    | ⟨12, _⟩ => (outsAt1 V c t.val t.isLt).2.2.2.2.1
    | ⟨13, _⟩ => (outsAt1 V c t.val t.isLt).2.2.2.2.2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = (outsAt1 V c t.val t.isLt).1 := by dsimp only [dat]
theorem after1_9 (c : Dev nD) (t : Fin cfg1.N) : (dat V c).after 9 t = (outsAt1 V c t.val t.isLt).2.1 := by dsimp only [dat]
theorem after1_10 (c : Dev nD) (t : Fin cfg1.N) : (dat V c).after 10 t = (outsAt1 V c t.val t.isLt).2.2.1 := by dsimp only [dat]
theorem after1_11 (c : Dev nD) (t : Fin cfg1.N) : (dat V c).after 11 t = (outsAt1 V c t.val t.isLt).2.2.2.1 := by dsimp only [dat]
theorem after1_12 (c : Dev nD) (t : Fin cfg1.N) : (dat V c).after 12 t = (outsAt1 V c t.val t.isLt).2.2.2.2.1 := by dsimp only [dat]
theorem after1_13 (c : Dev nD) (t : Fin cfg1.N) : (dat V c).after 13 t = (outsAt1 V c t.val t.isLt).2.2.2.2.2.1 := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d))
    ∗ (∃ d, owns (c : Thread nD τ) (ms1_11 t) fullShare ((dat V c).before 11 t d))
    ∗ (∃ d, owns (c : Thread nD τ) (ms1_12 t) fullShare ((dat V c).before 12 t d))
    ∗ (∃ d, owns (c : Thread nD τ) (ms1_13 t) fullShare ((dat V c).before 13 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t)
    ∗ owns (c : Thread nD τ) (ms1_8 t) fullShare ((dat V c).after 8 t)
    ∗ owns (c : Thread nD τ) (ms1_9 t) fullShare ((dat V c).after 9 t)
    ∗ owns (c : Thread nD τ) (ms1_10 t) fullShare ((dat V c).after 10 t)
    ∗ owns (c : Thread nD τ) (ms1_11 t) fullShare ((dat V c).after 11 t)
    ∗ owns (c : Thread nD τ) (ms1_12 t) fullShare ((dat V c).after 12 t)
    ∗ owns (c : Thread nD τ) (ms1_13 t) fullShare ((dat V c).after 13 t))

/-- Before any point the invariant gives `ΦA`: the carried scratch's named contents are forgotten. -/
theorem Phi_out (c : Dev nD) (t : Fin (cfg1.N + 1)) : (dat V c).Φ t ⊢ Pipeline.ΦA spec1 c := by
  rw [show (dat V c).Φ t = PhiS V c t.val (Nat.le_of_lt_succ t.isLt) from rfl]
  by_cases ht : t.val = 0
  · rw [PhiS_zero V c _ _ ht]
  · rw [PhiS_pos V c _ _ ht, PhiA1_eq]
    iintro ⟨HS0, Hg⟩
    isplitl [HS0]
    · iexists _; iexact HS0
    iexact Hg

/-- The first conjunct of a precondition, weakened. -/
theorem front {P P' Q R : sProp 𝕄} (h : P ⊢ P') (k : iprop(P' ∗ Q) ⊢ R) : iprop(P ∗ Q) ⊢ R := by
  refine .trans ?_ k
  iintro ⟨HP, HQ⟩
  isplitl [HP]
  · iapply h; iexact HP
  iexact HQ

set_option maxHeartbeats 9600000 in
/-- The body at any point: -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl,
    after1_0, after1_1, after1_2, after1_3, after1_4, after1_5, after1_6, after1_7, after1_8, after1_9, after1_10, after1_11, after1_12, after1_13]
  rw [show (dat V c).Φ t.succ = PhiS V c (t.val + 1) t.isLt from rfl, PhiS_succ]
  have hN : t.val < 16 := lt_of_lt_of_eq t.isLt (show cfg1.N = 16 from N_1)
  by_cases h0 : t.val % 8 = 0
  · refine front (Phi_out V c t.castSucc) ?_
    rw [PhiA1_eq, outsAt0_A V c t h0]
    unfold atA outsA out1_A_8 out1_A_9 out1_A_10 out1_A_11 out1_A_12 out1_A_13 sout1_A_0; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun1_A c (grid1.coords t) _ _ _ _ _ _ _ _ _ _ _ _ _ _ _ _ _ _ _ _ _ _ _ _ _ _ _ _ _ _ ((hcond1_0 t).mpr h0) (iblk V c 0 t) (iblk V c 1 t) (iblk V c 2 t) (iblk V c 3 t) (iblk V c 4 t) (iblk V c 5 t) (iblk V c 6 t) (iblk V c 7 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
    isplitl [HS0 Hg]
    · isplitl [HS0]
      · unfold owns; iexists _; isplitr
        swap; · iexact HS0
        ipureintro; exact View.read_writes_of_cover _ _ _ _ _ fun y => scover1_A_0 c (y := y) ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ fun y => cover1_A_8 c (y := y) ..
    isplitl [H9]
    · unfold owns; iexists _; isplitr
      swap; · iexact H9
      ipureintro; exact View.read_writes_of_cover _ _ _ _ _ fun y => cover1_A_9 c (y := y) ..
    isplitl [H10]
    · unfold owns; iexists _; isplitr
      swap; · iexact H10
      ipureintro; exact View.read_writes_of_cover _ _ _ _ _ fun y => cover1_A_10 c (y := y) ..
    isplitl [H11]
    · unfold owns; iexists _; isplitr
      swap; · iexact H11
      ipureintro; exact View.read_writes_of_cover _ _ _ _ _ fun y => cover1_A_11 c (y := y) ..
    isplitl [H12]
    · unfold owns; iexists _; isplitr
      swap; · iexact H12
      ipureintro; exact View.read_writes_of_cover _ _ _ _ _ fun y => cover1_A_12 c (y := y) ..
    unfold owns; iexists _; isplitr
    swap; · iexact H13
    ipureintro; exact View.read_writes_of_cover _ _ _ _ _ fun y => cover1_A_13 c (y := y) ..
  · rw [PhiS_castSucc V c t, PhiS_pos V c _ _ fun hz => h0 (by rw [hz])]
    rw [outsAt0_B V c t h0]
    unfold atB outsB out1_B_8 out1_B_9 out1_B_10 out1_B_11 out1_B_12 out1_B_13 sout1_B_0; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun1_B c (grid1.coords t) _ _ _ _ _ _ _ _ _ _ _ _ _ _ _ _ _ _ _ _ _ _ _ _ _ _ _ _ _ _ (fun h => h0 ((hcond1_0 t).mp h)) (iblk V c 0 t) (iblk V c 1 t) (iblk V c 2 t) (iblk V c 3 t) (iblk V c 4 t) (iblk V c 5 t) (iblk V c 6 t) (iblk V c 7 t) _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
    isplitl [HS0 Hg]
    · isplitl [HS0]
      · unfold owns; iexists _; isplitr
        swap; · iexact HS0
        ipureintro; exact View.read_writes_of_cover _ _ _ _ _ fun y => scover1_B_0 c (y := y) ..
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ fun y => cover1_B_8 c (y := y) ..
    isplitl [H9]
    · unfold owns; iexists _; isplitr
      swap; · iexact H9
      ipureintro; exact View.read_writes_of_cover _ _ _ _ _ fun y => cover1_B_9 c (y := y) ..
    isplitl [H10]
    · unfold owns; iexists _; isplitr
      swap; · iexact H10
      ipureintro; exact View.read_writes_of_cover _ _ _ _ _ fun y => cover1_B_10 c (y := y) ..
    isplitl [H11]
    · unfold owns; iexists _; isplitr
      swap; · iexact H11
      ipureintro; exact View.read_writes_of_cover _ _ _ _ _ fun y => cover1_B_11 c (y := y) ..
    isplitl [H12]
    · unfold owns; iexists _; isplitr
      swap; · iexact H12
      ipureintro; exact View.read_writes_of_cover _ _ _ _ _ fun y => cover1_B_12 c (y := y) ..
    unfold owns; iexists _; isplitr
    swap; · iexact H13
    ipureintro; exact View.read_writes_of_cover _ _ _ _ _ fun y => cover1_B_13 c (y := y) ..

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- The same after the last point. -/
theorem hout (c : Dev nD) : (dat V c).Φ (Fin.last cfg1.N) ⊢ Pipeline.ΦA spec1 c :=
  Phi_out V c _

end Cert.KernelIdeal.Bwd

end
-- ==== Proof.Two.Run.lean ====
module

public import proofs.«01_k».proof.Proof.Fwd.Region
public import proofs.«01_k».proof.Proof.Bwd.Region
public import Idealize.ShloMosaic.Lib.Claim

@[expose] public section

set_option maxRecDepth 16384

noncomputable section

namespace Cert.KernelIdeal.Two

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the two regions: the forward call, then the backward call over what it saved -/

/-- @main's argument arrays. -/
abbrev argRefs : List (Ref sig .tc) := [main_arg0, main_arg1, main_arg2, main_arg3, main_arg4, main_arg5, main_arg6]

/-- A core's buffers at launch. -/
abbrev W0 : Dev nD → Valuation τ sig (Elt F) := fun c b => (s₀ m ρ).mem ((c : Dev nD), b)
/-- The same, read at the TensorCore's references. -/
abbrev V0 : (c : Dev nD) → (b : Ref sig .tc) → Buf (Elt F) ((c : Thread nD τ).loc b) := fun c b => W0 m ρ c b

/-- The buffers after region 0: its arrays at what its pipeline leaves, every other buffer as it was. -/
def W1 (c : Dev nD) : Valuation τ sig (Elt F) :=
  Pipeline.withArrays spec0 c (W0 m ρ c) fun w => (Fwd.dat (V0 m ρ) c).arrAt w cfg0.N
theorem W1_arr (c : Dev nD) (w : Fin cfg0.W) :
    W1 m ρ c (Proc.devRef .tc (Pipeline.arrRef spec0 w)) = (Fwd.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer that is none of the region's output arrays is unchanged by it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Fwd.dat (V0 m ρ) c).arrAt_in w (h w rfl) _).trans (Fwd.A_eq (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans rfl
abbrev V1 : (c : Dev nD) → (b : Ref sig .tc) → Buf (Elt F) ((c : Thread nD τ).loc b) := fun c b => W1 m ρ c b
theorem hF0 (c : Dev nD) (w : Fin cfg0.W) : (Fwd.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers after region 1: its arrays at what its pipeline leaves, every other buffer as it was. -/
def W2 (c : Dev nD) : Valuation τ sig (Elt F) :=
  Pipeline.withArrays spec1 c (W1 m ρ c) fun w => (Bwd.dat (V1 m ρ) c).arrAt w cfg1.N
theorem W2_arr (c : Dev nD) (w : Fin cfg1.W) :
    W2 m ρ c (Proc.devRef .tc (Pipeline.arrRef spec1 w)) = (Bwd.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A buffer that is none of the region's output arrays is unchanged by it. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((Bwd.dat (V1 m ρ) c).arrAt_in w (h w rfl) _).trans (Bwd.A_eq (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (Bwd.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The proof data of both pipelines, and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Fwd.dat (V0 m ρ) c
  | ⟨1, _⟩ => fun c => Bwd.dat (V1 m ρ) c
abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- Region 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Fwd.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (Fwd.A_eq (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := Fwd.hin (V0 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := Fwd.hout (V0 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Bwd.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (Bwd.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := Bwd.hin (V1 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := Bwd.hout (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- THE RUN: every weakly fair execution terminates, and in every final state each unscoped buffer holds what the two
    regions leave (`W2`) and every semaphore counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨fun c => h c, funext fun g => hz g (.inr (no_unscoped g.2))⟩)

/-- THE FRAME at any values: the arguments end as launched, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc main_arg0 (by decide))).trans (W2_args m ρ c main_arg0 (by decide)),
     (h.1 c _ (mem_uc main_arg1 (by decide))).trans (W2_args m ρ c main_arg1 (by decide)),
     (h.1 c _ (mem_uc main_arg2 (by decide))).trans (W2_args m ρ c main_arg2 (by decide)),
     (h.1 c _ (mem_uc main_arg3 (by decide))).trans (W2_args m ρ c main_arg3 (by decide)),
     (h.1 c _ (mem_uc main_arg4 (by decide))).trans (W2_args m ρ c main_arg4 (by decide)),
     (h.1 c _ (mem_uc main_arg5 (by decide))).trans (W2_args m ρ c main_arg5 (by decide)),
     (h.1 c _ (mem_uc main_arg6 (by decide))).trans (W2_args m ρ c main_arg6 (by decide))⟩, h.2⟩) (run m ρ)

end Cert.KernelIdeal.Two

end
-- ==== Proof.Ref.Lists.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1844

noncomputable section

/-! ## The reference's operations, as lists

`@main` of the reference is a stretch of host operations, the scan over the 32 chunks, a second stretch, the scan's
transpose (which runs the chunks from the last to the first), and a last stretch. This module lists the operations of each
stretch and of each loop's body, and shows that the printed blocks are the chains of these lists. -/

namespace Cert.ReferenceIdeal.Loops

open Idealize.ShloMosaic Idealize.ShloMosaic.TcCoe Idealize.ShloMosaic.StableHlo
open Cert.ReferenceIdeal Cert.ReferenceIdeal.Gen
open Idealize.SL Idealize.SL.RA Idealize.SL.BI
open scoped Idealize.SL.BI
open Idealize.SL.BI.BIBase Idealize.SL.Sem

variable {F : FTy → Type} [FloatOps F]

/-- Single-precision arrays of a shape. -/
abbrev A (F : FTy → Type) (s : Shape) : Type := (⟨s, .f32⟩ : BufTy).Contents (Elt F)

theorem f32_eq : (.f32 : EltTy) = .f32 := rfl

/-- Programs of the reference's signature. -/
abbrev P (F : FTy → Type) [FloatOps F] : Type _ := Prog (TpuEff nD τ sig (Elt F) (HostLoop.Sig (Pipeline.Sig Λ₀ (Fin 0) fun p => (pcfgs (F := F) p).Adm) 2) .tc) PUnit

/-- Lists of its host operations. -/
abbrev Ops (F : FTy → Type) : Type _ := List (HloOp τ sig (Elt F))

/-- They touch the reference's buffers only. -/
abbrev Inside (l : Ops F) : Prop := l.Forall fun op => op.bufs ⊆ tcRefs τ sig

/-- They allocate nothing. -/
abbrev Fresh (l : Ops F) : Prop := l.Forall fun op => op.fresh = ∅

/-- They write the buffers of a list only. -/
abbrev Writes (l : Ops F) (W : List (Ref sig .tc)) : Prop := l.Forall fun op => op.writes ⊆ (W.map (Proc.devRef (τ := τ) .tc)).toFinset

abbrev hostOps0 : Ops F :=
  ( unary main_arg1 main_v0 ((extf .f32 · bitsLt_bf16_f32) : (⟨S4096x1024, .bf16⟩ : BufTy).Contents (Elt F) → A F S4096x1024)
  :: unary main_arg2 main_v1 ((extf .f32 · bitsLt_bf16_f32) : (⟨S4096x2048, .bf16⟩ : BufTy).Contents (Elt F) → A F S4096x2048)
  :: unary main_arg3 main_v2 ((extf .f32 · bitsLt_bf16_f32) : (⟨S4096x1024, .bf16⟩ : BufTy).Contents (Elt F) → A F S4096x1024)
  :: unary main_arg4 main_v3 ((extf .f32 · bitsLt_bf16_f32) : (⟨S4096x1024, .bf16⟩ : BufTy).Contents (Elt F) → A F S4096x1024)
  :: reshape main_v1 main_v4 f32_eq shapeCasts_S4096x2048_S2x8x4x64x8x4x64
  :: unary main_v4 main_v5 ((extractStridedSlice S2x8x1x64x8x1x64 ![0, 0, 0, 0, 0, 0, 0] · slices_S2x8x4x64x8x4x64_S2x8x1x64x8x1x64_0_0_0_0_0_0_0) : A F S2x8x4x64x8x4x64 → A F S2x8x1x64x8x1x64)
  :: reshape main_v5 main_v6 f32_eq shapeCasts_S2x8x1x64x8x1x64_S2x8x64x8x64
  :: reshape main_v1 main_v7 f32_eq shapeCasts_S4096x2048_S2x8x4x64x8x4x64
  :: unary main_v7 main_v8 ((extractStridedSlice S2x8x1x64x8x1x64 ![0, 0, 1, 0, 0, 1, 0] · slices_S2x8x4x64x8x4x64_S2x8x1x64x8x1x64_0_0_1_0_0_1_0) : A F S2x8x4x64x8x4x64 → A F S2x8x1x64x8x1x64)
  :: reshape main_v8 main_v9 f32_eq shapeCasts_S2x8x1x64x8x1x64_S2x8x64x8x64
  :: reshape main_v1 main_v10 f32_eq shapeCasts_S4096x2048_S2x8x4x64x8x4x64
  :: unary main_v10 main_v11 ((extractStridedSlice S2x8x1x64x8x1x64 ![0, 0, 2, 0, 0, 2, 0] · slices_S2x8x4x64x8x4x64_S2x8x1x64x8x1x64_0_0_2_0_0_2_0) : A F S2x8x4x64x8x4x64 → A F S2x8x1x64x8x1x64)
  :: reshape main_v11 main_v12 f32_eq shapeCasts_S2x8x1x64x8x1x64_S2x8x64x8x64
  :: reshape main_v1 main_v13 f32_eq shapeCasts_S4096x2048_S2x8x4x64x8x4x64
  :: unary main_v13 main_v14 ((extractStridedSlice S2x8x1x64x8x1x64 ![0, 0, 3, 0, 0, 3, 0] · slices_S2x8x4x64x8x4x64_S2x8x1x64x8x1x64_0_0_3_0_0_3_0) : A F S2x8x4x64x8x4x64 → A F S2x8x1x64x8x1x64)
  :: reshape main_v14 main_v15 f32_eq shapeCasts_S2x8x1x64x8x1x64_S2x8x64x8x64
  :: unary main_v6 main_v16 (broadcastInDim S2x8x1x64x8x64 ![0, 1, 3, 4, 5] bcast_S2x8x64x8x64_S2x8x1x64x8x64_0_1_3_4_5 : A F S2x8x64x8x64 → A F S2x8x1x64x8x64)
  :: unary main_v9 main_v17 (broadcastInDim S2x8x1x64x8x64 ![0, 1, 3, 4, 5] bcast_S2x8x64x8x64_S2x8x1x64x8x64_0_1_3_4_5 : A F S2x8x64x8x64 → A F S2x8x1x64x8x64)
  :: unary main_v12 main_v18 (broadcastInDim S2x8x1x64x8x64 ![0, 1, 3, 4, 5] bcast_S2x8x64x8x64_S2x8x1x64x8x64_0_1_3_4_5 : A F S2x8x64x8x64 → A F S2x8x1x64x8x64)
  :: unary main_v15 main_v19 (broadcastInDim S2x8x1x64x8x64 ![0, 1, 3, 4, 5] bcast_S2x8x64x8x64_S2x8x1x64x8x64_0_1_3_4_5 : A F S2x8x64x8x64 → A F S2x8x1x64x8x64)
  :: nary ![main_v16, main_v17, main_v18, main_v19] main_v20 (fun u => (concatenate S2x8x4x64x8x64 2 [⟨S2x8x1x64x8x64, (u 0 : A F S2x8x1x64x8x64)⟩, ⟨S2x8x1x64x8x64, (u 1 : A F S2x8x1x64x8x64)⟩, ⟨S2x8x1x64x8x64, (u 2 : A F S2x8x1x64x8x64)⟩, ⟨S2x8x1x64x8x64, (u 3 : A F S2x8x1x64x8x64)⟩] concatenates_S2x8x1x64x8x64_S2x8x1x64x8x64_S2x8x1x64x8x64_S2x8x1x64x8x64_S2x8x4x64x8x64_d2 : A F S2x8x4x64x8x64))
  :: reshape main_v20 main_v21 f32_eq shapeCasts_S2x8x4x64x8x64_S2x32x64x8x64
  :: unary main_v21 main_v22 ((transpose S32x2x8x64x64 [1, 0, 3, 2, 4] · transposes_S2x32x64x8x64_S32x2x8x64x64_1_0_3_2_4) : A F S2x32x64x8x64 → A F S32x2x8x64x64)
  :: reshape main_arg5 main_v23 f32_eq shapeCasts_S4096x1024_S2x32x64x8x128
  :: unary main_v23 main_v24 ((transpose S32x2x8x64x128 [1, 0, 3, 2, 4] · transposes_S2x32x64x8x128_S32x2x8x64x128_1_0_3_2_4) : A F S2x32x64x8x128 → A F S32x2x8x64x128)
  :: nullary main_cst (constant S_ .f32 0x00000000#32)
  :: binary main_v24 main_cst main_v25 ((fun x v => Host.reduceAdd x v reducesTo_S32x2x8x64x128_S32x2x8x128_d3 h_S_) : A F S32x2x8x64x128 → A F S_ → A F S32x2x8x128)
  :: unary main_v25 main_v26 (Host.exp : A F S32x2x8x128 → A F S32x2x8x128)
  :: nullary main_cst_0 (constant S_ .f32 0x00000000#32)
  :: unary main_cst_0 main_v27 (broadcastInDim S2x8x128x128 ![] bcast_S_S2x8x128x128 : A F S_ → A F S2x8x128x128)
  :: reshape main_arg0 main_v28 f32_eq shapeCasts_S4096x1024_S2x32x64x8x128
  :: unary main_v28 main_v29 ((transpose S32x2x8x64x128 [1, 0, 3, 2, 4] · transposes_S2x32x64x8x128_S32x2x8x64x128_1_0_3_2_4) : A F S2x32x64x8x128 → A F S32x2x8x64x128)
  :: reshape main_v0 main_v30 f32_eq shapeCasts_S4096x1024_S2x32x64x8x128
  :: unary main_v30 main_v31 ((transpose S32x2x8x64x128 [1, 0, 3, 2, 4] · transposes_S2x32x64x8x128_S32x2x8x64x128_1_0_3_2_4) : A F S2x32x64x8x128 → A F S32x2x8x64x128)
  :: reshape main_v2 main_v32 f32_eq shapeCasts_S4096x1024_S2x32x64x8x128
  :: unary main_v32 main_v33 ((transpose S32x2x8x64x128 [1, 0, 3, 2, 4] · transposes_S2x32x64x8x128_S32x2x8x64x128_1_0_3_2_4) : A F S2x32x64x8x128 → A F S32x2x8x64x128)
  :: reshape main_v3 main_v34 f32_eq shapeCasts_S4096x1024_S2x32x64x8x128
  :: unary main_v34 main_v35 ((transpose S32x2x8x64x128 [1, 0, 3, 2, 4] · transposes_S2x32x64x8x128_S32x2x8x64x128_1_0_3_2_4) : A F S2x32x64x8x128 → A F S32x2x8x64x128)
  :: nullary main_cst_1 (constant S_ .f32 0x00000000#32)
  :: unary main_cst_1 main_v36 (broadcastInDim S32x2x8x64x128 ![] bcast_S_S32x2x8x64x128 : A F S_ → A F S32x2x8x64x128)
  :: nullary main_cst_2 (constant S_ .f32 0x00000000#32)
  :: unary main_cst_2 main_v37 (broadcastInDim S32x2x8x128x128 ![] bcast_S_S32x2x8x128x128 : A F S_ → A F S32x2x8x128x128)
  :: nullary main_cst_3 (constant S_ .f32 0x00000000#32)
  :: unary main_cst_3 main_v38 (broadcastInDim S32x2x8x64x128 ![] bcast_S_S32x2x8x64x128 : A F S_ → A F S32x2x8x64x128)
  :: nullary main_cst_4 (constant S_ .f32 0x00000000#32)
  :: unary main_cst_4 main_v39 (broadcastInDim S32x2x8x1x128 ![] bcast_S_S32x2x8x1x128 : A F S_ → A F S32x2x8x1x128)
  :: nullary main_c (constantI S_ 32 0#32)
  :: unary main_v29 main_v40_0 id
  :: unary main_v31 main_v40_1 id
  :: unary main_v22 main_v40_2 id
  :: unary main_v33 main_v40_3 id
  :: unary main_v35 main_v40_4 id
  :: unary main_v26 main_v40_5 id
  :: unary main_c main_v40_6 id
  :: unary main_v27 main_v40_7 id
  :: unary main_v36 main_v40_8 id
  :: unary main_v37 main_v40_9 id
  :: unary main_v38 main_v40_10 id
  :: unary main_v39 main_v40_11 id
  :: [] )
theorem hostOps0_sub : Inside (F := F) hostOps0 :=
  ⟨unary_bufs_sub .., unary_bufs_sub .., unary_bufs_sub .., unary_bufs_sub .., reshape_bufs_sub .., unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., unary_bufs_sub .., unary_bufs_sub .., unary_bufs_sub .., unary_bufs_sub .., nary_bufs_sub .., reshape_bufs_sub .., unary_bufs_sub .., reshape_bufs_sub .., unary_bufs_sub .., nullary_bufs_sub .., binary_bufs_sub .., unary_bufs_sub .., nullary_bufs_sub .., unary_bufs_sub .., reshape_bufs_sub .., unary_bufs_sub .., reshape_bufs_sub .., unary_bufs_sub .., reshape_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev hostOps0_1 : Ops F :=
  ( unary main_v40_8 main_v41 ((transpose S2x32x64x8x128 [1, 0, 3, 2, 4] · transposes_S32x2x8x64x128_S2x32x64x8x128_1_0_3_2_4) : A F S32x2x8x64x128 → A F S2x32x64x8x128)
  :: reshape main_v41 main_v42 f32_eq shapeCasts_S2x32x64x8x128_S4096x1024
  :: nullary main_cst_5 (constant S_ .f32 0x00000000#32)
  :: unary main_cst_5 main_v43 (broadcastInDim S2x8x128x128 ![] bcast_S_S2x8x128x128 : A F S_ → A F S2x8x128x128)
  :: reshape main_arg6 main_v44 f32_eq shapeCasts_S4096x1024_S2x32x64x8x128
  :: unary main_v44 main_v45 ((transpose S32x2x8x64x128 [1, 0, 3, 2, 4] · transposes_S2x32x64x8x128_S32x2x8x64x128_1_0_3_2_4) : A F S2x32x64x8x128 → A F S32x2x8x64x128)
  :: nullary main_cst_6 (constant S_ .f32 0x00000000#32)
  :: unary main_cst_6 main_v46 (broadcastInDim S2x8x128x128 ![] bcast_S_S2x8x128x128 : A F S_ → A F S2x8x128x128)
  :: nullary main_cst_7 (constant S_ .f32 0x00000000#32)
  :: unary main_cst_7 main_v47 (broadcastInDim S32x2x8x64x128 ![] bcast_S_S32x2x8x64x128 : A F S_ → A F S32x2x8x64x128)
  :: nullary main_cst_8 (constant S_ .f32 0x00000000#32)
  :: unary main_cst_8 main_v48 (broadcastInDim S32x2x8x64x128 ![] bcast_S_S32x2x8x64x128 : A F S_ → A F S32x2x8x64x128)
  :: nullary main_cst_9 (constant S_ .f32 0x00000000#32)
  :: unary main_cst_9 main_v49 (broadcastInDim S32x2x8x64x64 ![] bcast_S_S32x2x8x64x64 : A F S_ → A F S32x2x8x64x64)
  :: nullary main_cst_10 (constant S_ .f32 0x00000000#32)
  :: unary main_cst_10 main_v50 (broadcastInDim S32x2x8x64x128 ![] bcast_S_S32x2x8x64x128 : A F S_ → A F S32x2x8x64x128)
  :: nullary main_cst_11 (constant S_ .f32 0x00000000#32)
  :: unary main_cst_11 main_v51 (broadcastInDim S32x2x8x64x128 ![] bcast_S_S32x2x8x64x128 : A F S_ → A F S32x2x8x64x128)
  :: nullary main_cst_12 (constant S_ .f32 0x00000000#32)
  :: unary main_cst_12 main_v52 (broadcastInDim S32x2x8x128 ![] bcast_S_S32x2x8x128 : A F S_ → A F S32x2x8x128)
  :: nullary main_c_13 (constantI S_ 32 0#32)
  :: unary main_v45 main_v53_0 id
  :: unary main_v40_9 main_v53_1 id
  :: unary main_v31 main_v53_2 id
  :: unary main_v33 main_v53_3 id
  :: unary main_v40_10 main_v53_4 id
  :: unary main_v22 main_v53_5 id
  :: unary main_v40_11 main_v53_6 id
  :: unary main_v35 main_v53_7 id
  :: unary main_c_13 main_v53_8 id
  :: unary main_v46 main_v53_9 id
  :: unary main_v47 main_v53_10 id
  :: unary main_v48 main_v53_11 id
  :: unary main_v49 main_v53_12 id
  :: unary main_v50 main_v53_13 id
  :: unary main_v51 main_v53_14 id
  :: unary main_v52 main_v53_15 id
  :: [] )
theorem hostOps0_1_sub : Inside (F := F) hostOps0_1 :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev hostOps0_2 : Ops F :=
  ( unary main_v53_14 main_v54 ((transpose S2x32x64x8x128 [1, 0, 3, 2, 4] · transposes_S32x2x8x64x128_S2x32x64x8x128_1_0_3_2_4) : A F S32x2x8x64x128 → A F S2x32x64x8x128)
  :: reshape main_v54 main_v55 f32_eq shapeCasts_S2x32x64x8x128_S4096x1024
  :: unary main_v53_13 main_v56 ((transpose S2x32x64x8x128 [1, 0, 3, 2, 4] · transposes_S32x2x8x64x128_S2x32x64x8x128_1_0_3_2_4) : A F S32x2x8x64x128 → A F S2x32x64x8x128)
  :: reshape main_v56 main_v57 f32_eq shapeCasts_S2x32x64x8x128_S4096x1024
  :: unary main_v53_11 main_v58 ((transpose S2x32x64x8x128 [1, 0, 3, 2, 4] · transposes_S32x2x8x64x128_S2x32x64x8x128_1_0_3_2_4) : A F S32x2x8x64x128 → A F S2x32x64x8x128)
  :: reshape main_v58 main_v59 f32_eq shapeCasts_S2x32x64x8x128_S4096x1024
  :: unary main_v53_10 main_v60 ((transpose S2x32x64x8x128 [1, 0, 3, 2, 4] · transposes_S32x2x8x64x128_S2x32x64x8x128_1_0_3_2_4) : A F S32x2x8x64x128 → A F S2x32x64x8x128)
  :: reshape main_v60 main_v61 f32_eq shapeCasts_S2x32x64x8x128_S4096x1024
  :: binary main_v53_15 main_v26 main_v62 (mulf : A F S32x2x8x128 → A F S32x2x8x128 → A F S32x2x8x128)
  :: unary main_v62 main_v63 (broadcastInDim S32x2x8x64x128 ![0, 1, 2, 4] bcast_S32x2x8x128_S32x2x8x64x128_0_1_2_4 : A F S32x2x8x128 → A F S32x2x8x64x128)
  :: unary main_v63 main_v64 ((transpose S2x32x64x8x128 [1, 0, 3, 2, 4] · transposes_S32x2x8x64x128_S2x32x64x8x128_1_0_3_2_4) : A F S32x2x8x64x128 → A F S2x32x64x8x128)
  :: reshape main_v64 main_v65 f32_eq shapeCasts_S2x32x64x8x128_S4096x1024
  :: unary main_v53_12 main_v66 ((transpose S2x32x64x8x64 [1, 0, 3, 2, 4] · transposes_S32x2x8x64x64_S2x32x64x8x64_1_0_3_2_4) : A F S32x2x8x64x64 → A F S2x32x64x8x64)
  :: reshape main_v66 main_v67 f32_eq shapeCasts_S2x32x64x8x64_S2x8x4x64x8x64
  :: unary main_v67 main_v68 ((extractStridedSlice S2x8x1x64x8x64 ![0, 0, 0, 0, 0, 0] · slices_S2x8x4x64x8x64_S2x8x1x64x8x64_0_0_0_0_0_0) : A F S2x8x4x64x8x64 → A F S2x8x1x64x8x64)
  :: reshape main_v68 main_v69 f32_eq shapeCasts_S2x8x1x64x8x64_S2x8x64x8x64
  :: unary main_v67 main_v70 ((extractStridedSlice S2x8x1x64x8x64 ![0, 0, 1, 0, 0, 0] · slices_S2x8x4x64x8x64_S2x8x1x64x8x64_0_0_1_0_0_0) : A F S2x8x4x64x8x64 → A F S2x8x1x64x8x64)
  :: reshape main_v70 main_v71 f32_eq shapeCasts_S2x8x1x64x8x64_S2x8x64x8x64
  :: unary main_v67 main_v72 ((extractStridedSlice S2x8x1x64x8x64 ![0, 0, 2, 0, 0, 0] · slices_S2x8x4x64x8x64_S2x8x1x64x8x64_0_0_2_0_0_0) : A F S2x8x4x64x8x64 → A F S2x8x1x64x8x64)
  :: reshape main_v72 main_v73 f32_eq shapeCasts_S2x8x1x64x8x64_S2x8x64x8x64
  :: unary main_v67 main_v74 ((extractStridedSlice S2x8x1x64x8x64 ![0, 0, 3, 0, 0, 0] · slices_S2x8x4x64x8x64_S2x8x1x64x8x64_0_0_3_0_0_0) : A F S2x8x4x64x8x64 → A F S2x8x1x64x8x64)
  :: reshape main_v74 main_v75 f32_eq shapeCasts_S2x8x1x64x8x64_S2x8x64x8x64
  :: unary main_v75 main_v76 (broadcastInDim S2x8x1x64x8x1x64 ![0, 1, 3, 4, 6] bcast_S2x8x64x8x64_S2x8x1x64x8x1x64_0_1_3_4_6 : A F S2x8x64x8x64 → A F S2x8x1x64x8x1x64)
  :: nullary main_cst_14 (constant S_ .f32 0x00000000#32)
  :: binary main_v76 main_cst_14 main_v77 ((fun x v => pad S2x8x4x64x8x4x64 ![0, 0, 3, 0, 0, 3, 0] ![0, 0, 0, 0, 0, 0, 0] ![0, 0, 0, 0, 0, 0, 0] x v pads_S2x8x1x64x8x1x64_S2x8x4x64x8x4x64_000_000_300_000_000_300_000 h_S_) : A F S2x8x1x64x8x1x64 → A F S_ → A F S2x8x4x64x8x4x64)
  :: reshape main_v77 main_v78 f32_eq shapeCasts_S2x8x4x64x8x4x64_S4096x2048
  :: unary main_v73 main_v79 (broadcastInDim S2x8x1x64x8x1x64 ![0, 1, 3, 4, 6] bcast_S2x8x64x8x64_S2x8x1x64x8x1x64_0_1_3_4_6 : A F S2x8x64x8x64 → A F S2x8x1x64x8x1x64)
  :: nullary main_cst_15 (constant S_ .f32 0x00000000#32)
  :: binary main_v79 main_cst_15 main_v80 ((fun x v => pad S2x8x4x64x8x4x64 ![0, 0, 2, 0, 0, 2, 0] ![0, 0, 1, 0, 0, 1, 0] ![0, 0, 0, 0, 0, 0, 0] x v pads_S2x8x1x64x8x1x64_S2x8x4x64x8x4x64_000_000_210_000_000_210_000 h_S_) : A F S2x8x1x64x8x1x64 → A F S_ → A F S2x8x4x64x8x4x64)
  :: reshape main_v80 main_v81 f32_eq shapeCasts_S2x8x4x64x8x4x64_S4096x2048
  :: binary main_v78 main_v81 main_v82 (addf : A F S4096x2048 → A F S4096x2048 → A F S4096x2048)
  :: unary main_v71 main_v83 (broadcastInDim S2x8x1x64x8x1x64 ![0, 1, 3, 4, 6] bcast_S2x8x64x8x64_S2x8x1x64x8x1x64_0_1_3_4_6 : A F S2x8x64x8x64 → A F S2x8x1x64x8x1x64)
  :: nullary main_cst_16 (constant S_ .f32 0x00000000#32)
  :: binary main_v83 main_cst_16 main_v84 ((fun x v => pad S2x8x4x64x8x4x64 ![0, 0, 1, 0, 0, 1, 0] ![0, 0, 2, 0, 0, 2, 0] ![0, 0, 0, 0, 0, 0, 0] x v pads_S2x8x1x64x8x1x64_S2x8x4x64x8x4x64_000_000_120_000_000_120_000 h_S_) : A F S2x8x1x64x8x1x64 → A F S_ → A F S2x8x4x64x8x4x64)
  :: reshape main_v84 main_v85 f32_eq shapeCasts_S2x8x4x64x8x4x64_S4096x2048
  :: binary main_v82 main_v85 main_v86 (addf : A F S4096x2048 → A F S4096x2048 → A F S4096x2048)
  :: unary main_v69 main_v87 (broadcastInDim S2x8x1x64x8x1x64 ![0, 1, 3, 4, 6] bcast_S2x8x64x8x64_S2x8x1x64x8x1x64_0_1_3_4_6 : A F S2x8x64x8x64 → A F S2x8x1x64x8x1x64)
  :: nullary main_cst_17 (constant S_ .f32 0x00000000#32)
  :: binary main_v87 main_cst_17 main_v88 ((fun x v => pad S2x8x4x64x8x4x64 ![0, 0, 0, 0, 0, 0, 0] ![0, 0, 3, 0, 0, 3, 0] ![0, 0, 0, 0, 0, 0, 0] x v pads_S2x8x1x64x8x1x64_S2x8x4x64x8x4x64_000_000_030_000_000_030_000 h_S_) : A F S2x8x1x64x8x1x64 → A F S_ → A F S2x8x4x64x8x4x64)
  :: reshape main_v88 main_v89 f32_eq shapeCasts_S2x8x4x64x8x4x64_S4096x2048
  :: binary main_v86 main_v89 main_v90 (addf : A F S4096x2048 → A F S4096x2048 → A F S4096x2048)
  :: [] )
theorem hostOps0_2_sub : Inside (F := F) hostOps0_2 :=
  ⟨unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., nullary_bufs_sub .., binary_bufs_sub .., reshape_bufs_sub .., unary_bufs_sub .., nullary_bufs_sub .., binary_bufs_sub .., reshape_bufs_sub .., binary_bufs_sub .., unary_bufs_sub .., nullary_bufs_sub .., binary_bufs_sub .., reshape_bufs_sub .., binary_bufs_sub .., unary_bufs_sub .., nullary_bufs_sub .., binary_bufs_sub .., reshape_bufs_sub .., binary_bufs_sub ..⟩
theorem main_part0_chain (c : Dev nD) : main_part0 (F := F) c = (Pipeline.chainK
  [ seq hostOps0 ]
  (HostLoop.enter 0) : P F) := by
  rewrite [chainK_seq_cons]
  chain_rfl

abbrev main_part1_ops1 : Ops F := hostOps0_2.take 22

theorem main_part1_chain (c : Dev nD) : main_part1 (F := F) c = (Pipeline.chainK
  [ seq hostOps0_1,
    HostLoop.enter 1 ]
  (seq main_part1_ops1) : P F) := by
  rewrite [chainK_seq_cons, Pipeline.chainK_cons]
  chain_rfl

abbrev main_part2_ops0 : Ops F := hostOps0_2.drop 22

theorem main_part2_chain (c : Dev nD) : main_part2 (F := F) c = (Pipeline.chain
  [ seq main_part2_ops0 ] : P F) := by
  rewrite [chain_seq_cons]
  chain_rfl

theorem main_chain_windows (c : Dev nD) : main (F := F) c = (Pipeline.chain
  [ seq hostOps0,
    HostLoop.enter 0,
    seq hostOps0_1,
    HostLoop.enter 1,
    seq main_part1_ops1,
    seq main_part2_ops0 ] : P F) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

abbrev main_groups (c : Dev nD) : List (Group nD τ sig (Elt F) (HostLoop.Sig (Pipeline.Sig Λ₀ (Fin 0) fun p => (pcfgs (F := F) p).Adm) 2)) :=
  [ .ops [hostOps0],
    .prog (HostLoop.enter 0),
    .ops [hostOps0_1],
    .prog (HostLoop.enter 1),
    .ops [main_part1_ops1, main_part2_ops0] ]

theorem main_chain_cut (c : Dev nD) : (Pipeline.chain
  [ seq hostOps0,
    HostLoop.enter 0,
    seq hostOps0_1,
    HostLoop.enter 1,
    seq main_part1_ops1,
    seq main_part2_ops0 ] : P F) = Pipeline.chain ((main_groups (F := F) c).flatMap Group.cut) := by
  chain_rfl

theorem main_chain_whole (c : Dev nD) : Pipeline.chain ((main_groups (F := F) c).map Group.whole) = (Pipeline.chain
  [ seq hostOps0,
    HostLoop.enter 0,
    seq hostOps0_1,
    HostLoop.enter 1,
    seq hostOps0_2 ] : P F) := by
  chain_rfl

theorem main_chain (c : Dev nD) : main (F := F) c = (Pipeline.chain
  [ seq hostOps0,
    HostLoop.enter 0,
    seq hostOps0_1,
    HostLoop.enter 1,
    seq hostOps0_2 ] : P F) :=
  (main_chain_windows (F := F) c).trans <| (main_chain_cut (F := F) c).trans <|
    (chain_cut_eq_whole (main_groups (F := F) c)).trans (main_chain_whole (F := F) c)

abbrev while0Ops0 : Ops F :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.nullary (.of main_while0b_call0_c_2 : TRef sig ⟨S_, .i32⟩) (constantI S_ 32 0#32),
    TRef.unaryIndexed (.of main_v40_0 : TRef sig ⟨S32x2x8x64x128, .f32⟩) ![(.of main_v40_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩), (.of main_while0b_call0_c_2 : TRef sig ⟨S_, .i32⟩)] (.of main_while0b_call0_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while0b_call0_v0 : TRef sig ⟨S1x2x8x64x128, .f32⟩) (.of main_while0b_v91 : TRef sig ⟨S2x8x64x128, .f32⟩) f32_eq shapeCasts_S1x2x8x64x128_S2x8x64x128 ]
theorem while0Ops0_sub : Inside (F := F) while0Ops0 :=
  ⟨nullary_bufs_sub .., nullary_bufs_sub .., nullary_bufs_sub .., nullary_bufs_sub .., unaryIndexed_bufs_sub .., reshape_bufs_sub ..⟩
abbrev while0Ops0_1 : Ops F :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.nullary (.of main_while0b_call1_c_2 : TRef sig ⟨S_, .i32⟩) (constantI S_ 32 0#32),
    TRef.unaryIndexed (.of main_v40_1 : TRef sig ⟨S32x2x8x64x128, .f32⟩) ![(.of main_v40_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩), (.of main_while0b_call1_c_2 : TRef sig ⟨S_, .i32⟩)] (.of main_while0b_call1_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while0b_call1_v0 : TRef sig ⟨S1x2x8x64x128, .f32⟩) (.of main_while0b_v92 : TRef sig ⟨S2x8x64x128, .f32⟩) f32_eq shapeCasts_S1x2x8x64x128_S2x8x64x128 ]
theorem while0Ops0_1_sub : Inside (F := F) while0Ops0_1 :=
  ⟨nullary_bufs_sub .., nullary_bufs_sub .., nullary_bufs_sub .., nullary_bufs_sub .., unaryIndexed_bufs_sub .., reshape_bufs_sub ..⟩
abbrev while0Ops0_2 : Ops F :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.unaryIndexed (.of main_v40_2 : TRef sig ⟨S32x2x8x64x64, .f32⟩) ![(.of main_v40_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_call2_v0 : TRef sig ⟨S1x2x8x64x64, .f32⟩) (fun x i => Host.dynamicSlice S1x2x8x64x64 x (fun k => (i k (Shape.Idx.first h_S_)).toInt) sliceFits_S32x2x8x64x64_S1x2x8x64x64),
    TRef.reshape (.of main_while0b_call2_v0 : TRef sig ⟨S1x2x8x64x64, .f32⟩) (.of main_while0b_v93 : TRef sig ⟨S2x8x64x64, .f32⟩) f32_eq shapeCasts_S1x2x8x64x64_S2x8x64x64 ]
theorem while0Ops0_2_sub : Inside (F := F) while0Ops0_2 :=
  ⟨nullary_bufs_sub .., nullary_bufs_sub .., nullary_bufs_sub .., nullary_bufs_sub .., unaryIndexed_bufs_sub .., reshape_bufs_sub ..⟩
abbrev while0Ops0_3 : Ops F :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.nullary (.of main_while0b_call3_c_2 : TRef sig ⟨S_, .i32⟩) (constantI S_ 32 0#32),
    TRef.unaryIndexed (.of main_v40_3 : TRef sig ⟨S32x2x8x64x128, .f32⟩) ![(.of main_v40_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩), (.of main_while0b_call3_c_2 : TRef sig ⟨S_, .i32⟩)] (.of main_while0b_call3_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while0b_call3_v0 : TRef sig ⟨S1x2x8x64x128, .f32⟩) (.of main_while0b_v94 : TRef sig ⟨S2x8x64x128, .f32⟩) f32_eq shapeCasts_S1x2x8x64x128_S2x8x64x128 ]
theorem while0Ops0_3_sub : Inside (F := F) while0Ops0_3 :=
  ⟨nullary_bufs_sub .., nullary_bufs_sub .., nullary_bufs_sub .., nullary_bufs_sub .., unaryIndexed_bufs_sub .., reshape_bufs_sub ..⟩
abbrev while0Ops0_4 : Ops F :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.nullary (.of main_while0b_call4_c_2 : TRef sig ⟨S_, .i32⟩) (constantI S_ 32 0#32),
    TRef.unaryIndexed (.of main_v40_4 : TRef sig ⟨S32x2x8x64x128, .f32⟩) ![(.of main_v40_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩), (.of main_while0b_call4_c_2 : TRef sig ⟨S_, .i32⟩)] (.of main_while0b_call4_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while0b_call4_v0 : TRef sig ⟨S1x2x8x64x128, .f32⟩) (.of main_while0b_v95 : TRef sig ⟨S2x8x64x128, .f32⟩) f32_eq shapeCasts_S1x2x8x64x128_S2x8x64x128 ]
theorem while0Ops0_4_sub : Inside (F := F) while0Ops0_4 :=
  ⟨nullary_bufs_sub .., nullary_bufs_sub .., nullary_bufs_sub .., nullary_bufs_sub .., unaryIndexed_bufs_sub .., reshape_bufs_sub ..⟩
abbrev while0Ops0_5 : Ops F :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.unaryIndexed (.of main_v40_5 : TRef sig ⟨S32x2x8x128, .f32⟩) ![(.of main_v40_6 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩)] (.of main_while0b_call5_v0 : TRef sig ⟨S1x2x8x128, .f32⟩) (fun x i => Host.dynamicSlice S1x2x8x128 x (fun k => (i k (Shape.Idx.first h_S_)).toInt) sliceFits_S32x2x8x128_S1x2x8x128),
    TRef.reshape (.of main_while0b_call5_v0 : TRef sig ⟨S1x2x8x128, .f32⟩) (.of main_while0b_v96 : TRef sig ⟨S2x8x128, .f32⟩) f32_eq shapeCasts_S1x2x8x128_S2x8x128 ]
theorem while0Ops0_5_sub : Inside (F := F) while0Ops0_5 :=
  ⟨nullary_bufs_sub .., nullary_bufs_sub .., nullary_bufs_sub .., unaryIndexed_bufs_sub .., reshape_bufs_sub ..⟩
abbrev while0Ops0_6 : Ops F :=
  [ binary main_while0b_v92 main_v40_7 main_while0b_v97 ((fun l r => Host.dotGeneral dot_S2x8x64x128_S2x8x128x128_S2x8x64x128_3_2_2_3_01_01 none l r) : A F S2x8x64x128 → A F S2x8x128x128 → A F S2x8x64x128),
    binary main_while0b_v91 main_while0b_v97 main_while0b_v98 (subf : A F S2x8x64x128 → A F S2x8x64x128 → A F S2x8x64x128),
    binary main_while0b_v94 main_v40_7 main_while0b_v99 ((fun l r => Host.dotGeneral dot_S2x8x64x128_S2x8x128x128_S2x8x64x128_3_2_2_3_01_01 none l r) : A F S2x8x64x128 → A F S2x8x128x128 → A F S2x8x64x128),
    binary main_while0b_v93 main_while0b_v98 main_while0b_v100 ((fun l r => Host.dotGeneral dot_S2x8x64x64_S2x8x64x128_S2x8x64x128_3_2_2_3_01_01 none l r) : A F S2x8x64x64 → A F S2x8x64x128 → A F S2x8x64x128),
    binary main_while0b_v99 main_while0b_v100 main_while0b_v101 (addf : A F S2x8x64x128 → A F S2x8x64x128 → A F S2x8x64x128),
    unary main_while0b_v96 main_while0b_v102 (broadcastInDim S2x8x1x128 ![0, 1, 3] bcast_S2x8x128_S2x8x1x128_0_1_3 : A F S2x8x128 → A F S2x8x1x128),
    unary main_while0b_v102 main_while0b_v103 (broadcastInDim S2x8x128x128 ![0, 1, 2, 3] bcast_S2x8x1x128_S2x8x128x128_0_1_2_3 : A F S2x8x1x128 → A F S2x8x128x128),
    binary main_v40_7 main_while0b_v103 main_while0b_v104 (mulf : A F S2x8x128x128 → A F S2x8x128x128 → A F S2x8x128x128),
    binary main_while0b_v95 main_while0b_v98 main_while0b_v105 ((fun l r => Host.dotGeneral dot_S2x8x64x128_S2x8x64x128_S2x8x128x128_2_2_3_3_01_01 none l r) : A F S2x8x64x128 → A F S2x8x64x128 → A F S2x8x128x128),
    binary main_while0b_v104 main_while0b_v105 main_while0b_v106 (addf : A F S2x8x128x128 → A F S2x8x128x128 → A F S2x8x128x128) ]
theorem while0Ops0_6_sub : Inside (F := F) while0Ops0_6 :=
  ⟨binary_bufs_sub .., binary_bufs_sub .., binary_bufs_sub .., binary_bufs_sub .., binary_bufs_sub .., unary_bufs_sub .., unary_bufs_sub .., binary_bufs_sub .., binary_bufs_sub .., binary_bufs_sub ..⟩
abbrev while0Ops0_7 : Ops F :=
  [ TRef.unary (.of main_while0b_v101 : TRef sig ⟨S2x8x64x128, .f32⟩) (.of main_while0b_call6_v0 : TRef sig ⟨S1x2x8x64x128, .f32⟩) (broadcastInDim S1x2x8x64x128 ![1, 2, 3, 4] bcast_S2x8x64x128_S1x2x8x64x128_1_2_3_4),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.nullary (.of main_while0b_call6_c_2 : TRef sig ⟨S_, .i32⟩) (constantI S_ 32 0#32),
    TRef.binaryIndexed (.of main_v40_8 : TRef sig ⟨S32x2x8x64x128, .f32⟩) (.of main_while0b_call6_v0 : TRef sig ⟨S1x2x8x64x128, .f32⟩) ![(.of main_v40_6 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩), (.of main_while0b_call6_c_2 : TRef sig ⟨S_, .i32⟩)] (.of main_while0b_v107 : TRef sig ⟨S32x2x8x64x128, .f32⟩) (fun x u i => Host.dynamicUpdateSlice x u (fun k => (i k (Shape.Idx.first h_S_)).toInt) updateFits_S32x2x8x64x128_S1x2x8x64x128) ]
theorem while0Ops0_7_sub : Inside (F := F) while0Ops0_7 :=
  ⟨unary_bufs_sub .., nullary_bufs_sub .., nullary_bufs_sub .., nullary_bufs_sub .., nullary_bufs_sub .., binaryIndexed_bufs_sub ..⟩
abbrev while0Ops0_8 : Ops F :=
  [ TRef.unary (.of main_v40_7 : TRef sig ⟨S2x8x128x128, .f32⟩) (.of main_while0b_call7_v0 : TRef sig ⟨S1x2x8x128x128, .f32⟩) (broadcastInDim S1x2x8x128x128 ![1, 2, 3, 4] bcast_S2x8x128x128_S1x2x8x128x128_1_2_3_4),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.nullary (.of main_while0b_call7_c_2 : TRef sig ⟨S_, .i32⟩) (constantI S_ 32 0#32),
    TRef.binaryIndexed (.of main_v40_9 : TRef sig ⟨S32x2x8x128x128, .f32⟩) (.of main_while0b_call7_v0 : TRef sig ⟨S1x2x8x128x128, .f32⟩) ![(.of main_v40_6 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩), (.of main_while0b_call7_c_2 : TRef sig ⟨S_, .i32⟩)] (.of main_while0b_v108 : TRef sig ⟨S32x2x8x128x128, .f32⟩) (fun x u i => Host.dynamicUpdateSlice x u (fun k => (i k (Shape.Idx.first h_S_)).toInt) updateFits_S32x2x8x128x128_S1x2x8x128x128) ]
theorem while0Ops0_8_sub : Inside (F := F) while0Ops0_8 :=
  ⟨unary_bufs_sub .., nullary_bufs_sub .., nullary_bufs_sub .., nullary_bufs_sub .., nullary_bufs_sub .., binaryIndexed_bufs_sub ..⟩
abbrev while0Ops0_9 : Ops F :=
  [ TRef.unary (.of main_while0b_v98 : TRef sig ⟨S2x8x64x128, .f32⟩) (.of main_while0b_call8_v0 : TRef sig ⟨S1x2x8x64x128, .f32⟩) (broadcastInDim S1x2x8x64x128 ![1, 2, 3, 4] bcast_S2x8x64x128_S1x2x8x64x128_1_2_3_4),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.nullary (.of main_while0b_call8_c_2 : TRef sig ⟨S_, .i32⟩) (constantI S_ 32 0#32),
    TRef.binaryIndexed (.of main_v40_10 : TRef sig ⟨S32x2x8x64x128, .f32⟩) (.of main_while0b_call8_v0 : TRef sig ⟨S1x2x8x64x128, .f32⟩) ![(.of main_v40_6 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩), (.of main_while0b_call8_c_2 : TRef sig ⟨S_, .i32⟩)] (.of main_while0b_v109 : TRef sig ⟨S32x2x8x64x128, .f32⟩) (fun x u i => Host.dynamicUpdateSlice x u (fun k => (i k (Shape.Idx.first h_S_)).toInt) updateFits_S32x2x8x64x128_S1x2x8x64x128) ]
theorem while0Ops0_9_sub : Inside (F := F) while0Ops0_9 :=
  ⟨unary_bufs_sub .., nullary_bufs_sub .., nullary_bufs_sub .., nullary_bufs_sub .., nullary_bufs_sub .., binaryIndexed_bufs_sub ..⟩
abbrev while0Ops0_10 : Ops F :=
  [ TRef.unary (.of main_while0b_v102 : TRef sig ⟨S2x8x1x128, .f32⟩) (.of main_while0b_call9_v0 : TRef sig ⟨S1x2x8x1x128, .f32⟩) (broadcastInDim S1x2x8x1x128 ![1, 2, 3, 4] bcast_S2x8x1x128_S1x2x8x1x128_1_2_3_4),
    TRef.nullary (.of main_while0b_call9_c : TRef sig ⟨S_, .i32⟩) (constantI S_ 32 0#32),
    TRef.nullary (.of main_while0b_call9_c_0 : TRef sig ⟨S_, .i32⟩) (constantI S_ 32 0#32),
    TRef.nullary (.of main_while0b_call9_c_1 : TRef sig ⟨S_, .i32⟩) (constantI S_ 32 0#32),
    TRef.nullary (.of main_while0b_call9_c_2 : TRef sig ⟨S_, .i32⟩) (constantI S_ 32 0#32),
    TRef.binaryIndexed (.of main_v40_11 : TRef sig ⟨S32x2x8x1x128, .f32⟩) (.of main_while0b_call9_v0 : TRef sig ⟨S1x2x8x1x128, .f32⟩) ![(.of main_v40_6 : TRef sig ⟨S_, .i32⟩), (.of main_while0b_call9_c : TRef sig ⟨S_, .i32⟩), (.of main_while0b_call9_c_0 : TRef sig ⟨S_, .i32⟩), (.of main_while0b_call9_c_1 : TRef sig ⟨S_, .i32⟩), (.of main_while0b_call9_c_2 : TRef sig ⟨S_, .i32⟩)] (.of main_while0b_v110 : TRef sig ⟨S32x2x8x1x128, .f32⟩) (fun x u i => Host.dynamicUpdateSlice x u (fun k => (i k (Shape.Idx.first h_S_)).toInt) updateFits_S32x2x8x1x128_S1x2x8x1x128) ]
theorem while0Ops0_10_sub : Inside (F := F) while0Ops0_10 :=
  ⟨unary_bufs_sub .., nullary_bufs_sub .., nullary_bufs_sub .., nullary_bufs_sub .., nullary_bufs_sub .., binaryIndexed_bufs_sub ..⟩
abbrev while0Ops0_11 : Ops F :=
  [ nullary main_while0b_c_29 (constantI S_ 32 1#32),
    binary main_v40_6 main_while0b_c_29 main_while0b_v111 (addi : (⟨S_, .i32⟩ : BufTy).Contents (Elt F) → (⟨S_, .i32⟩ : BufTy).Contents (Elt F) → (⟨S_, .i32⟩ : BufTy).Contents (Elt F)),
    unary main_while0b_v111 main_v40_6 id,
    unary main_while0b_v106 main_v40_7 id,
    unary main_while0b_v107 main_v40_8 id,
    unary main_while0b_v108 main_v40_9 id,
    unary main_while0b_v109 main_v40_10 id,
    unary main_while0b_v110 main_v40_11 id ]
theorem while0Ops0_11_sub : Inside (F := F) while0Ops0_11 :=
  ⟨nullary_bufs_sub .., binary_bufs_sub .., unary_bufs_sub .., unary_bufs_sub .., unary_bufs_sub .., unary_bufs_sub .., unary_bufs_sub .., unary_bufs_sub ..⟩
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10,
    seq while0Ops0_11 ] : P F) := by
  rewrite [Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, chain_seq_cons]
  chain_rfl

abbrev while1Ops0 : Ops F :=
  [ nullary main_while1b_c_33 (constantI S_ 32 32#32),
    binary main_while1b_c_33 main_v53_8 main_while1b_v91 (subi : (⟨S_, .i32⟩ : BufTy).Contents (Elt F) → (⟨S_, .i32⟩ : BufTy).Contents (Elt F) → (⟨S_, .i32⟩ : BufTy).Contents (Elt F)),
    nullary main_while1b_c_34 (constantI S_ 32 1#32),
    binary main_while1b_v91 main_while1b_c_34 main_while1b_v92 (subi : (⟨S_, .i32⟩ : BufTy).Contents (Elt F) → (⟨S_, .i32⟩ : BufTy).Contents (Elt F) → (⟨S_, .i32⟩ : BufTy).Contents (Elt F)) ]
theorem while1Ops0_sub : Inside (F := F) while1Ops0 :=
  ⟨nullary_bufs_sub .., binary_bufs_sub .., nullary_bufs_sub .., binary_bufs_sub ..⟩
abbrev while1Ops0_1 : Ops F :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.nullary (.of main_while1b_call10_c_2 : TRef sig ⟨S_, .i32⟩) (constantI S_ 32 0#32),
    TRef.unaryIndexed (.of main_v53_0 : TRef sig ⟨S32x2x8x64x128, .f32⟩) ![(.of main_while1b_v92 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩), (.of main_while1b_call10_c_2 : TRef sig ⟨S_, .i32⟩)] (.of main_while1b_call10_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while1b_call10_v0 : TRef sig ⟨S1x2x8x64x128, .f32⟩) (.of main_while1b_v93 : TRef sig ⟨S2x8x64x128, .f32⟩) f32_eq shapeCasts_S1x2x8x64x128_S2x8x64x128 ]
theorem while1Ops0_1_sub : Inside (F := F) while1Ops0_1 :=
  ⟨nullary_bufs_sub .., nullary_bufs_sub .., nullary_bufs_sub .., nullary_bufs_sub .., unaryIndexed_bufs_sub .., reshape_bufs_sub ..⟩
abbrev while1Ops0_2 : Ops F :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.nullary (.of main_while1b_call11_c_2 : TRef sig ⟨S_, .i32⟩) (constantI S_ 32 0#32),
    TRef.unaryIndexed (.of main_v53_1 : TRef sig ⟨S32x2x8x128x128, .f32⟩) ![(.of main_while1b_v92 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩), (.of main_while1b_call11_c_2 : TRef sig ⟨S_, .i32⟩)] (.of main_while1b_call11_v0 : TRef sig ⟨S1x2x8x128x128, .f32⟩) (fun x i => Host.dynamicSlice S1x2x8x128x128 x (fun k => (i k (Shape.Idx.first h_S_)).toInt) sliceFits_S32x2x8x128x128_S1x2x8x128x128),
    TRef.reshape (.of main_while1b_call11_v0 : TRef sig ⟨S1x2x8x128x128, .f32⟩) (.of main_while1b_v94 : TRef sig ⟨S2x8x128x128, .f32⟩) f32_eq shapeCasts_S1x2x8x128x128_S2x8x128x128 ]
theorem while1Ops0_2_sub : Inside (F := F) while1Ops0_2 :=
  ⟨nullary_bufs_sub .., nullary_bufs_sub .., nullary_bufs_sub .., nullary_bufs_sub .., unaryIndexed_bufs_sub .., reshape_bufs_sub ..⟩
abbrev while1Ops0_3 : Ops F :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.nullary (.of main_while1b_call12_c_2 : TRef sig ⟨S_, .i32⟩) (constantI S_ 32 0#32),
    TRef.unaryIndexed (.of main_v53_2 : TRef sig ⟨S32x2x8x64x128, .f32⟩) ![(.of main_while1b_v92 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩), (.of main_while1b_call12_c_2 : TRef sig ⟨S_, .i32⟩)] (.of main_while1b_call12_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while1b_call12_v0 : TRef sig ⟨S1x2x8x64x128, .f32⟩) (.of main_while1b_v95 : TRef sig ⟨S2x8x64x128, .f32⟩) f32_eq shapeCasts_S1x2x8x64x128_S2x8x64x128 ]
theorem while1Ops0_3_sub : Inside (F := F) while1Ops0_3 :=
  ⟨nullary_bufs_sub .., nullary_bufs_sub .., nullary_bufs_sub .., nullary_bufs_sub .., unaryIndexed_bufs_sub .., reshape_bufs_sub ..⟩
abbrev while1Ops0_4 : Ops F :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.nullary (.of main_while1b_call13_c_2 : TRef sig ⟨S_, .i32⟩) (constantI S_ 32 0#32),
    TRef.unaryIndexed (.of main_v53_3 : TRef sig ⟨S32x2x8x64x128, .f32⟩) ![(.of main_while1b_v92 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩), (.of main_while1b_call13_c_2 : TRef sig ⟨S_, .i32⟩)] (.of main_while1b_call13_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while1b_call13_v0 : TRef sig ⟨S1x2x8x64x128, .f32⟩) (.of main_while1b_v96 : TRef sig ⟨S2x8x64x128, .f32⟩) f32_eq shapeCasts_S1x2x8x64x128_S2x8x64x128 ]
theorem while1Ops0_4_sub : Inside (F := F) while1Ops0_4 :=
  ⟨nullary_bufs_sub .., nullary_bufs_sub .., nullary_bufs_sub .., nullary_bufs_sub .., unaryIndexed_bufs_sub .., reshape_bufs_sub ..⟩
abbrev while1Ops0_5 : Ops F :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.nullary (.of main_while1b_call14_c_2 : TRef sig ⟨S_, .i32⟩) (constantI S_ 32 0#32),
    TRef.unaryIndexed (.of main_v53_4 : TRef sig ⟨S32x2x8x64x128, .f32⟩) ![(.of main_while1b_v92 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩), (.of main_while1b_call14_c_2 : TRef sig ⟨S_, .i32⟩)] (.of main_while1b_call14_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while1b_call14_v0 : TRef sig ⟨S1x2x8x64x128, .f32⟩) (.of main_while1b_v97 : TRef sig ⟨S2x8x64x128, .f32⟩) f32_eq shapeCasts_S1x2x8x64x128_S2x8x64x128 ]
theorem while1Ops0_5_sub : Inside (F := F) while1Ops0_5 :=
  ⟨nullary_bufs_sub .., nullary_bufs_sub .., nullary_bufs_sub .., nullary_bufs_sub .., unaryIndexed_bufs_sub .., reshape_bufs_sub ..⟩
abbrev while1Ops0_6 : Ops F :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.nullary (.of main_while1b_call15_c_2 : TRef sig ⟨S_, .i32⟩) (constantI S_ 32 0#32),
    TRef.unaryIndexed (.of main_v53_5 : TRef sig ⟨S32x2x8x64x64, .f32⟩) ![(.of main_while1b_v92 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩), (.of main_while1b_call15_c_2 : TRef sig ⟨S_, .i32⟩)] (.of main_while1b_call15_v0 : TRef sig ⟨S1x2x8x64x64, .f32⟩) (fun x i => Host.dynamicSlice S1x2x8x64x64 x (fun k => (i k (Shape.Idx.first h_S_)).toInt) sliceFits_S32x2x8x64x64_S1x2x8x64x64),
    TRef.reshape (.of main_while1b_call15_v0 : TRef sig ⟨S1x2x8x64x64, .f32⟩) (.of main_while1b_v98 : TRef sig ⟨S2x8x64x64, .f32⟩) f32_eq shapeCasts_S1x2x8x64x64_S2x8x64x64 ]
theorem while1Ops0_6_sub : Inside (F := F) while1Ops0_6 :=
  ⟨nullary_bufs_sub .., nullary_bufs_sub .., nullary_bufs_sub .., nullary_bufs_sub .., unaryIndexed_bufs_sub .., reshape_bufs_sub ..⟩
abbrev while1Ops0_7 : Ops F :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.nullary (.of main_while1b_call16_c_2 : TRef sig ⟨S_, .i32⟩) (constantI S_ 32 0#32),
    TRef.unaryIndexed (.of main_v53_6 : TRef sig ⟨S32x2x8x1x128, .f32⟩) ![(.of main_while1b_v92 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩), (.of main_while1b_call16_c_2 : TRef sig ⟨S_, .i32⟩)] (.of main_while1b_call16_v0 : TRef sig ⟨S1x2x8x1x128, .f32⟩) (fun x i => Host.dynamicSlice S1x2x8x1x128 x (fun k => (i k (Shape.Idx.first h_S_)).toInt) sliceFits_S32x2x8x1x128_S1x2x8x1x128),
    TRef.reshape (.of main_while1b_call16_v0 : TRef sig ⟨S1x2x8x1x128, .f32⟩) (.of main_while1b_v99 : TRef sig ⟨S2x8x1x128, .f32⟩) f32_eq shapeCasts_S1x2x8x1x128_S2x8x1x128 ]
theorem while1Ops0_7_sub : Inside (F := F) while1Ops0_7 :=
  ⟨nullary_bufs_sub .., nullary_bufs_sub .., nullary_bufs_sub .., nullary_bufs_sub .., unaryIndexed_bufs_sub .., reshape_bufs_sub ..⟩
abbrev while1Ops0_8 : Ops F :=
  [ TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.nullary (.of main_while1b_call17_c_2 : TRef sig ⟨S_, .i32⟩) (constantI S_ 32 0#32),
    TRef.unaryIndexed (.of main_v53_7 : TRef sig ⟨S32x2x8x64x128, .f32⟩) ![(.of main_while1b_v92 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩), (.of main_while1b_call17_c_2 : TRef sig ⟨S_, .i32⟩)] (.of main_while1b_call17_v0 : TRef sig ⟨S1x2x8x64x128, .f32⟩) (fun x i => Host.dynamicSlice S1x2x8x64x128 x (fun k => (i k (Shape.Idx.first h_S_)).toInt) sliceFits_S32x2x8x64x128_S1x2x8x64x128),
    TRef.reshape (.of main_while1b_call17_v0 : TRef sig ⟨S1x2x8x64x128, .f32⟩) (.of main_while1b_v100 : TRef sig ⟨S2x8x64x128, .f32⟩) f32_eq shapeCasts_S1x2x8x64x128_S2x8x64x128 ]
theorem while1Ops0_8_sub : Inside (F := F) while1Ops0_8 :=
  ⟨nullary_bufs_sub .., nullary_bufs_sub .., nullary_bufs_sub .., nullary_bufs_sub .., unaryIndexed_bufs_sub .., reshape_bufs_sub ..⟩
abbrev while1Ops0_9 : Ops F :=
  [ binary main_v53_9 main_while1b_v100 main_while1b_v101 ((fun l r => Host.dotGeneral dot_S2x8x128x128_S2x8x64x128_S2x8x128x64_2_3_3_2_01_01 none l r) : A F S2x8x128x128 → A F S2x8x64x128 → A F S2x8x128x64),
    unary main_while1b_v101 main_while1b_v102 ((transpose S2x8x64x128 [0, 1, 3, 2] · transposes_S2x8x128x64_S2x8x64x128_0_1_3_2) : A F S2x8x128x64 → A F S2x8x64x128),
    binary main_v53_9 main_while1b_v97 main_while1b_v103 ((fun l r => Host.dotGeneral dot_S2x8x128x128_S2x8x64x128_S2x8x128x64_3_3_2_2_01_01 none l r) : A F S2x8x128x128 → A F S2x8x64x128 → A F S2x8x128x64),
    unary main_while1b_v103 main_while1b_v104 ((transpose S2x8x64x128 [0, 1, 3, 2] · transposes_S2x8x128x64_S2x8x64x128_0_1_3_2) : A F S2x8x128x64 → A F S2x8x64x128),
    binary main_while1b_v94 main_v53_9 main_while1b_v105 (mulf : A F S2x8x128x128 → A F S2x8x128x128 → A F S2x8x128x128),
    nullary main_while1b_cst_35 (constant S_ .f32 0x00000000#32),
    binary main_while1b_v105 main_while1b_cst_35 main_while1b_v106 ((fun x v => Host.reduceAdd x v reducesTo_S2x8x128x128_S2x8x128_d2 h_S_) : A F S2x8x128x128 → A F S_ → A F S2x8x128),
    reshape main_while1b_v106 main_while1b_v107 f32_eq shapeCasts_S2x8x128_S2x8x1x128,
    unary main_while1b_v99 main_while1b_v108 (broadcastInDim S2x8x128x128 ![0, 1, 2, 3] bcast_S2x8x1x128_S2x8x128x128_0_1_2_3 : A F S2x8x1x128 → A F S2x8x128x128),
    binary main_v53_9 main_while1b_v108 main_while1b_v109 (mulf : A F S2x8x128x128 → A F S2x8x128x128 → A F S2x8x128x128),
    nullary main_while1b_cst_36 (constant S_ .f32 0x00000000#32),
    binary main_while1b_v107 main_while1b_cst_36 main_while1b_v110 ((fun x v => Host.reduceAdd x v reducesTo_S2x8x1x128_S2x8x128_d2 h_S_) : A F S2x8x1x128 → A F S_ → A F S2x8x128),
    binary main_while1b_v93 main_while1b_v98 main_while1b_v111 ((fun l r => Host.dotGeneral dot_S2x8x64x128_S2x8x64x64_S2x8x128x64_2_2_3_3_01_01 none l r) : A F S2x8x64x128 → A F S2x8x64x64 → A F S2x8x128x64),
    unary main_while1b_v111 main_while1b_v112 ((transpose S2x8x64x128 [0, 1, 3, 2] · transposes_S2x8x128x64_S2x8x64x128_0_1_3_2) : A F S2x8x128x64 → A F S2x8x64x128),
    binary main_while1b_v102 main_while1b_v112 main_while1b_v113 (addf : A F S2x8x64x128 → A F S2x8x64x128 → A F S2x8x64x128),
    binary main_while1b_v93 main_while1b_v97 main_while1b_v114 ((fun l r => Host.dotGeneral dot_S2x8x64x128_S2x8x64x128_S2x8x64x64_3_3_2_2_01_01 none l r) : A F S2x8x64x128 → A F S2x8x64x128 → A F S2x8x64x64),
    binary main_while1b_v93 main_while1b_v96 main_while1b_v115 ((fun l r => Host.dotGeneral dot_S2x8x64x128_S2x8x64x128_S2x8x128x128_2_2_3_3_01_01 none l r) : A F S2x8x64x128 → A F S2x8x64x128 → A F S2x8x128x128),
    unary main_while1b_v115 main_while1b_v116 ((transpose S2x8x128x128 [0, 1, 3, 2] · transposes_S2x8x128x128_S2x8x128x128_0_1_3_2) : A F S2x8x128x128 → A F S2x8x128x128),
    binary main_while1b_v109 main_while1b_v116 main_while1b_v117 (addf : A F S2x8x128x128 → A F S2x8x128x128 → A F S2x8x128x128),
    binary main_while1b_v93 main_while1b_v94 main_while1b_v118 ((fun l r => Host.dotGeneral dot_S2x8x64x128_S2x8x128x128_S2x8x64x128_3_3_2_2_01_01 none l r) : A F S2x8x64x128 → A F S2x8x128x128 → A F S2x8x64x128),
    unary main_while1b_v113 main_while1b_v119 (Host.negf : A F S2x8x64x128 → A F S2x8x64x128),
    binary main_while1b_v119 main_while1b_v95 main_while1b_v120 ((fun l r => Host.dotGeneral dot_S2x8x64x128_S2x8x64x128_S2x8x128x128_2_2_3_3_01_01 none l r) : A F S2x8x64x128 → A F S2x8x64x128 → A F S2x8x128x128),
    unary main_while1b_v120 main_while1b_v121 ((transpose S2x8x128x128 [0, 1, 3, 2] · transposes_S2x8x128x128_S2x8x128x128_0_1_3_2) : A F S2x8x128x128 → A F S2x8x128x128),
    binary main_while1b_v117 main_while1b_v121 main_while1b_v122 (addf : A F S2x8x128x128 → A F S2x8x128x128 → A F S2x8x128x128),
    binary main_while1b_v119 main_while1b_v94 main_while1b_v123 ((fun l r => Host.dotGeneral dot_S2x8x64x128_S2x8x128x128_S2x8x64x128_3_3_2_2_01_01 none l r) : A F S2x8x64x128 → A F S2x8x128x128 → A F S2x8x64x128) ]
theorem while1Ops0_9_sub : Inside (F := F) while1Ops0_9 :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
abbrev while1Ops0_10 : Ops F :=
  [ TRef.unary (.of main_while1b_v113 : TRef sig ⟨S2x8x64x128, .f32⟩) (.of main_while1b_call18_v0 : TRef sig ⟨S1x2x8x64x128, .f32⟩) (broadcastInDim S1x2x8x64x128 ![1, 2, 3, 4] bcast_S2x8x64x128_S1x2x8x64x128_1_2_3_4),
    TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.nullary (.of main_while1b_call18_c_2 : TRef sig ⟨S_, .i32⟩) (constantI S_ 32 0#32),
    TRef.binaryIndexed (.of main_v53_10 : TRef sig ⟨S32x2x8x64x128, .f32⟩) (.of main_while1b_call18_v0 : TRef sig ⟨S1x2x8x64x128, .f32⟩) ![(.of main_while1b_v92 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩), (.of main_while1b_call18_c_2 : TRef sig ⟨S_, .i32⟩)] (.of main_while1b_v124 : TRef sig ⟨S32x2x8x64x128, .f32⟩) (fun x u i => Host.dynamicUpdateSlice x u (fun k => (i k (Shape.Idx.first h_S_)).toInt) updateFits_S32x2x8x64x128_S1x2x8x64x128) ]
theorem while1Ops0_10_sub : Inside (F := F) while1Ops0_10 :=
  ⟨unary_bufs_sub .., nullary_bufs_sub .., nullary_bufs_sub .., nullary_bufs_sub .., nullary_bufs_sub .., binaryIndexed_bufs_sub ..⟩
abbrev while1Ops0_11 : Ops F :=
  [ TRef.unary (.of main_while1b_v123 : TRef sig ⟨S2x8x64x128, .f32⟩) (.of main_while1b_call19_v0 : TRef sig ⟨S1x2x8x64x128, .f32⟩) (broadcastInDim S1x2x8x64x128 ![1, 2, 3, 4] bcast_S2x8x64x128_S1x2x8x64x128_1_2_3_4),
    TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.nullary (.of main_while1b_call19_c_2 : TRef sig ⟨S_, .i32⟩) (constantI S_ 32 0#32),
    TRef.binaryIndexed (.of main_v53_11 : TRef sig ⟨S32x2x8x64x128, .f32⟩) (.of main_while1b_call19_v0 : TRef sig ⟨S1x2x8x64x128, .f32⟩) ![(.of main_while1b_v92 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩), (.of main_while1b_call19_c_2 : TRef sig ⟨S_, .i32⟩)] (.of main_while1b_v125 : TRef sig ⟨S32x2x8x64x128, .f32⟩) (fun x u i => Host.dynamicUpdateSlice x u (fun k => (i k (Shape.Idx.first h_S_)).toInt) updateFits_S32x2x8x64x128_S1x2x8x64x128) ]
theorem while1Ops0_11_sub : Inside (F := F) while1Ops0_11 :=
  ⟨unary_bufs_sub .., nullary_bufs_sub .., nullary_bufs_sub .., nullary_bufs_sub .., nullary_bufs_sub .., binaryIndexed_bufs_sub ..⟩
abbrev while1Ops0_12 : Ops F :=
  [ TRef.unary (.of main_while1b_v114 : TRef sig ⟨S2x8x64x64, .f32⟩) (.of main_while1b_call20_v0 : TRef sig ⟨S1x2x8x64x64, .f32⟩) (broadcastInDim S1x2x8x64x64 ![1, 2, 3, 4] bcast_S2x8x64x64_S1x2x8x64x64_1_2_3_4),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.nullary (.of main_while1b_call20_c_2 : TRef sig ⟨S_, .i32⟩) (constantI S_ 32 0#32),
    TRef.binaryIndexed (.of main_v53_12 : TRef sig ⟨S32x2x8x64x64, .f32⟩) (.of main_while1b_call20_v0 : TRef sig ⟨S1x2x8x64x64, .f32⟩) ![(.of main_while1b_v92 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩), (.of main_while1b_call20_c_2 : TRef sig ⟨S_, .i32⟩)] (.of main_while1b_v126 : TRef sig ⟨S32x2x8x64x64, .f32⟩) (fun x u i => Host.dynamicUpdateSlice x u (fun k => (i k (Shape.Idx.first h_S_)).toInt) updateFits_S32x2x8x64x64_S1x2x8x64x64) ]
theorem while1Ops0_12_sub : Inside (F := F) while1Ops0_12 :=
  ⟨unary_bufs_sub .., nullary_bufs_sub .., nullary_bufs_sub .., nullary_bufs_sub .., nullary_bufs_sub .., binaryIndexed_bufs_sub ..⟩
abbrev while1Ops0_13 : Ops F :=
  [ TRef.unary (.of main_while1b_v118 : TRef sig ⟨S2x8x64x128, .f32⟩) (.of main_while1b_call21_v0 : TRef sig ⟨S1x2x8x64x128, .f32⟩) (broadcastInDim S1x2x8x64x128 ![1, 2, 3, 4] bcast_S2x8x64x128_S1x2x8x64x128_1_2_3_4),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.nullary (.of main_while1b_call21_c_2 : TRef sig ⟨S_, .i32⟩) (constantI S_ 32 0#32),
    TRef.binaryIndexed (.of main_v53_13 : TRef sig ⟨S32x2x8x64x128, .f32⟩) (.of main_while1b_call21_v0 : TRef sig ⟨S1x2x8x64x128, .f32⟩) ![(.of main_while1b_v92 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩), (.of main_while1b_call21_c_2 : TRef sig ⟨S_, .i32⟩)] (.of main_while1b_v127 : TRef sig ⟨S32x2x8x64x128, .f32⟩) (fun x u i => Host.dynamicUpdateSlice x u (fun k => (i k (Shape.Idx.first h_S_)).toInt) updateFits_S32x2x8x64x128_S1x2x8x64x128) ]
theorem while1Ops0_13_sub : Inside (F := F) while1Ops0_13 :=
  ⟨unary_bufs_sub .., nullary_bufs_sub .., nullary_bufs_sub .., nullary_bufs_sub .., nullary_bufs_sub .., binaryIndexed_bufs_sub ..⟩
abbrev while1Ops0_14 : Ops F :=
  [ TRef.unary (.of main_while1b_v104 : TRef sig ⟨S2x8x64x128, .f32⟩) (.of main_while1b_call22_v0 : TRef sig ⟨S1x2x8x64x128, .f32⟩) (broadcastInDim S1x2x8x64x128 ![1, 2, 3, 4] bcast_S2x8x64x128_S1x2x8x64x128_1_2_3_4),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.nullary (.of main_while1b_call22_c_2 : TRef sig ⟨S_, .i32⟩) (constantI S_ 32 0#32),
    TRef.binaryIndexed (.of main_v53_14 : TRef sig ⟨S32x2x8x64x128, .f32⟩) (.of main_while1b_call22_v0 : TRef sig ⟨S1x2x8x64x128, .f32⟩) ![(.of main_while1b_v92 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩), (.of main_while1b_call22_c_2 : TRef sig ⟨S_, .i32⟩)] (.of main_while1b_v128 : TRef sig ⟨S32x2x8x64x128, .f32⟩) (fun x u i => Host.dynamicUpdateSlice x u (fun k => (i k (Shape.Idx.first h_S_)).toInt) updateFits_S32x2x8x64x128_S1x2x8x64x128) ]
theorem while1Ops0_14_sub : Inside (F := F) while1Ops0_14 :=
  ⟨unary_bufs_sub .., nullary_bufs_sub .., nullary_bufs_sub .., nullary_bufs_sub .., nullary_bufs_sub .., binaryIndexed_bufs_sub ..⟩
abbrev while1Ops0_15 : Ops F :=
  [ TRef.unary (.of main_while1b_v110 : TRef sig ⟨S2x8x128, .f32⟩) (.of main_while1b_call23_v0 : TRef sig ⟨S1x2x8x128, .f32⟩) (broadcastInDim S1x2x8x128 ![1, 2, 3] bcast_S2x8x128_S1x2x8x128_1_2_3),
    TRef.nullary (.of main_while1b_call23_c : TRef sig ⟨S_, .i32⟩) (constantI S_ 32 0#32),
    TRef.nullary (.of main_while1b_call23_c_0 : TRef sig ⟨S_, .i32⟩) (constantI S_ 32 0#32),
    TRef.nullary (.of main_while1b_call23_c_1 : TRef sig ⟨S_, .i32⟩) (constantI S_ 32 0#32),
    TRef.binaryIndexed (.of main_v53_15 : TRef sig ⟨S32x2x8x128, .f32⟩) (.of main_while1b_call23_v0 : TRef sig ⟨S1x2x8x128, .f32⟩) ![(.of main_while1b_v92 : TRef sig ⟨S_, .i32⟩), (.of main_while1b_call23_c : TRef sig ⟨S_, .i32⟩), (.of main_while1b_call23_c_0 : TRef sig ⟨S_, .i32⟩), (.of main_while1b_call23_c_1 : TRef sig ⟨S_, .i32⟩)] (.of main_while1b_v129 : TRef sig ⟨S32x2x8x128, .f32⟩) (fun x u i => Host.dynamicUpdateSlice x u (fun k => (i k (Shape.Idx.first h_S_)).toInt) updateFits_S32x2x8x128_S1x2x8x128) ]
theorem while1Ops0_15_sub : Inside (F := F) while1Ops0_15 :=
  ⟨unary_bufs_sub .., nullary_bufs_sub .., nullary_bufs_sub .., nullary_bufs_sub .., binaryIndexed_bufs_sub ..⟩
abbrev while1Ops0_16 : Ops F :=
  [ nullary main_while1b_c_37 (constantI S_ 32 1#32),
    binary main_v53_8 main_while1b_c_37 main_while1b_v130 (addi : (⟨S_, .i32⟩ : BufTy).Contents (Elt F) → (⟨S_, .i32⟩ : BufTy).Contents (Elt F) → (⟨S_, .i32⟩ : BufTy).Contents (Elt F)),
    unary main_while1b_v130 main_v53_8 id,
    unary main_while1b_v122 main_v53_9 id,
    unary main_while1b_v124 main_v53_10 id,
    unary main_while1b_v125 main_v53_11 id,
    unary main_while1b_v126 main_v53_12 id,
    unary main_while1b_v127 main_v53_13 id,
    unary main_while1b_v128 main_v53_14 id,
    unary main_while1b_v129 main_v53_15 id ]
theorem while1Ops0_16_sub : Inside (F := F) while1Ops0_16 :=
  ⟨nullary_bufs_sub .., binary_bufs_sub .., unary_bufs_sub .., unary_bufs_sub .., unary_bufs_sub .., unary_bufs_sub .., unary_bufs_sub .., unary_bufs_sub .., unary_bufs_sub .., unary_bufs_sub ..⟩
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12,
    seq while1Ops0_13,
    seq while1Ops0_14,
    seq while1Ops0_15,
    seq while1Ops0_16 ] : P F) := by
  rewrite [chain_seq_cons, Pipeline.chain_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, Pipeline.chain_cons, chain_seq_cons]
  chain_rfl

end Cert.ReferenceIdeal.Loops

end
-- ==== Proof.Ref.Facts.lean ====
module

public import proofs.«01_k».proof.Proof.Ref.Lists

@[expose] public section

set_option maxRecDepth 100000

noncomputable section

/-! ## What the reference's stretches write, and the two loops' counters -/

namespace Cert.ReferenceIdeal.Loops

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem hostOps0_fresh : Fresh (F := F) hostOps0 := forall_fresh_of_map rfl
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_cst, main_v25, main_v26, main_cst_0, main_v27, main_v28, main_v29, main_v30, main_v31, main_v32, main_v33, main_v34, main_v35, main_cst_1, main_v36, main_cst_2, main_v37, main_cst_3, main_v38, main_cst_4, main_v39, main_c, main_v40_0, main_v40_1, main_v40_2, main_v40_3, main_v40_4, main_v40_5, main_v40_6, main_v40_7, main_v40_8, main_v40_9, main_v40_10, main_v40_11]
theorem hostOps0_writes : Writes (F := F) hostOps0 hostOps0_W := forall_writes_sub_of_map rfl
theorem hostOps0_1_fresh : Fresh (F := F) hostOps0_1 := forall_fresh_of_map rfl
abbrev hostOps0_1_W : List (Ref sig .tc) := [main_v41, main_v42, main_cst_5, main_v43, main_v44, main_v45, main_cst_6, main_v46, main_cst_7, main_v47, main_cst_8, main_v48, main_cst_9, main_v49, main_cst_10, main_v50, main_cst_11, main_v51, main_cst_12, main_v52, main_c_13, main_v53_0, main_v53_1, main_v53_2, main_v53_3, main_v53_4, main_v53_5, main_v53_6, main_v53_7, main_v53_8, main_v53_9, main_v53_10, main_v53_11, main_v53_12, main_v53_13, main_v53_14, main_v53_15]
theorem hostOps0_1_writes : Writes (F := F) hostOps0_1 hostOps0_1_W := forall_writes_sub_of_map rfl
theorem hostOps0_2_fresh : Fresh (F := F) hostOps0_2 := forall_fresh_of_map rfl
abbrev hostOps0_2_W : List (Ref sig .tc) := [main_v54, main_v55, main_v56, main_v57, main_v58, main_v59, main_v60, main_v61, main_v62, main_v63, main_v64, main_v65, main_v66, main_v67, main_v68, main_v69, main_v70, main_v71, main_v72, main_v73, main_v74, main_v75, main_v76, main_cst_14, main_v77, main_v78, main_v79, main_cst_15, main_v80, main_v81, main_v82, main_v83, main_cst_16, main_v84, main_v85, main_v86, main_v87, main_cst_17, main_v88, main_v89, main_v90]
theorem hostOps0_2_writes : Writes (F := F) hostOps0_2 hostOps0_2_W := forall_writes_sub_of_map rfl
theorem while0Ops0_fresh : Fresh (F := F) while0Ops0 := forall_fresh_of_map rfl
abbrev while0Ops0_W : List (Ref sig .tc) := [main_while0b_call0_c, main_while0b_call0_c_0, main_while0b_call0_c_1, main_while0b_call0_c_2, main_while0b_call0_v0, main_while0b_v91]
theorem while0Ops0_writes : Writes (F := F) while0Ops0 while0Ops0_W := forall_writes_sub_of_map rfl
theorem while0Ops0_1_fresh : Fresh (F := F) while0Ops0_1 := forall_fresh_of_map rfl
abbrev while0Ops0_1_W : List (Ref sig .tc) := [main_while0b_call1_c, main_while0b_call1_c_0, main_while0b_call1_c_1, main_while0b_call1_c_2, main_while0b_call1_v0, main_while0b_v92]
theorem while0Ops0_1_writes : Writes (F := F) while0Ops0_1 while0Ops0_1_W := forall_writes_sub_of_map rfl
theorem while0Ops0_2_fresh : Fresh (F := F) while0Ops0_2 := forall_fresh_of_map rfl
abbrev while0Ops0_2_W : List (Ref sig .tc) := [main_while0b_call2_c, main_while0b_call2_c_0, main_while0b_call2_c_1, main_while0b_call2_c_2, main_while0b_call2_v0, main_while0b_v93]
theorem while0Ops0_2_writes : Writes (F := F) while0Ops0_2 while0Ops0_2_W := forall_writes_sub_of_map rfl
theorem while0Ops0_3_fresh : Fresh (F := F) while0Ops0_3 := forall_fresh_of_map rfl
abbrev while0Ops0_3_W : List (Ref sig .tc) := [main_while0b_call3_c, main_while0b_call3_c_0, main_while0b_call3_c_1, main_while0b_call3_c_2, main_while0b_call3_v0, main_while0b_v94]
theorem while0Ops0_3_writes : Writes (F := F) while0Ops0_3 while0Ops0_3_W := forall_writes_sub_of_map rfl
theorem while0Ops0_4_fresh : Fresh (F := F) while0Ops0_4 := forall_fresh_of_map rfl
abbrev while0Ops0_4_W : List (Ref sig .tc) := [main_while0b_call4_c, main_while0b_call4_c_0, main_while0b_call4_c_1, main_while0b_call4_c_2, main_while0b_call4_v0, main_while0b_v95]
theorem while0Ops0_4_writes : Writes (F := F) while0Ops0_4 while0Ops0_4_W := forall_writes_sub_of_map rfl
theorem while0Ops0_5_fresh : Fresh (F := F) while0Ops0_5 := forall_fresh_of_map rfl
abbrev while0Ops0_5_W : List (Ref sig .tc) := [main_while0b_call5_c, main_while0b_call5_c_0, main_while0b_call5_c_1, main_while0b_call5_v0, main_while0b_v96]
theorem while0Ops0_5_writes : Writes (F := F) while0Ops0_5 while0Ops0_5_W := forall_writes_sub_of_map rfl
theorem while0Ops0_6_fresh : Fresh (F := F) while0Ops0_6 := forall_fresh_of_map rfl
abbrev while0Ops0_6_W : List (Ref sig .tc) := [main_while0b_v97, main_while0b_v98, main_while0b_v99, main_while0b_v100, main_while0b_v101, main_while0b_v102, main_while0b_v103, main_while0b_v104, main_while0b_v105, main_while0b_v106]
theorem while0Ops0_6_writes : Writes (F := F) while0Ops0_6 while0Ops0_6_W := forall_writes_sub_of_map rfl
theorem while0Ops0_7_fresh : Fresh (F := F) while0Ops0_7 := forall_fresh_of_map rfl
abbrev while0Ops0_7_W : List (Ref sig .tc) := [main_while0b_call6_v0, main_while0b_call6_c, main_while0b_call6_c_0, main_while0b_call6_c_1, main_while0b_call6_c_2, main_while0b_v107]
theorem while0Ops0_7_writes : Writes (F := F) while0Ops0_7 while0Ops0_7_W := forall_writes_sub_of_map rfl
theorem while0Ops0_8_fresh : Fresh (F := F) while0Ops0_8 := forall_fresh_of_map rfl
abbrev while0Ops0_8_W : List (Ref sig .tc) := [main_while0b_call7_v0, main_while0b_call7_c, main_while0b_call7_c_0, main_while0b_call7_c_1, main_while0b_call7_c_2, main_while0b_v108]
theorem while0Ops0_8_writes : Writes (F := F) while0Ops0_8 while0Ops0_8_W := forall_writes_sub_of_map rfl
theorem while0Ops0_9_fresh : Fresh (F := F) while0Ops0_9 := forall_fresh_of_map rfl
abbrev while0Ops0_9_W : List (Ref sig .tc) := [main_while0b_call8_v0, main_while0b_call8_c, main_while0b_call8_c_0, main_while0b_call8_c_1, main_while0b_call8_c_2, main_while0b_v109]
theorem while0Ops0_9_writes : Writes (F := F) while0Ops0_9 while0Ops0_9_W := forall_writes_sub_of_map rfl
theorem while0Ops0_10_fresh : Fresh (F := F) while0Ops0_10 := forall_fresh_of_map rfl
abbrev while0Ops0_10_W : List (Ref sig .tc) := [main_while0b_call9_v0, main_while0b_call9_c, main_while0b_call9_c_0, main_while0b_call9_c_1, main_while0b_call9_c_2, main_while0b_v110]
theorem while0Ops0_10_writes : Writes (F := F) while0Ops0_10 while0Ops0_10_W := forall_writes_sub_of_map rfl
theorem while0Ops0_11_fresh : Fresh (F := F) while0Ops0_11 := forall_fresh_of_map rfl
abbrev while0Ops0_11_W : List (Ref sig .tc) := [main_while0b_c_29, main_while0b_v111, main_v40_6, main_v40_7, main_v40_8, main_v40_9, main_v40_10, main_v40_11]
theorem while0Ops0_11_writes : Writes (F := F) while0Ops0_11 while0Ops0_11_W := forall_writes_sub_of_map rfl
theorem while1Ops0_fresh : Fresh (F := F) while1Ops0 := forall_fresh_of_map rfl
abbrev while1Ops0_W : List (Ref sig .tc) := [main_while1b_c_33, main_while1b_v91, main_while1b_c_34, main_while1b_v92]
theorem while1Ops0_writes : Writes (F := F) while1Ops0 while1Ops0_W := forall_writes_sub_of_map rfl
theorem while1Ops0_1_fresh : Fresh (F := F) while1Ops0_1 := forall_fresh_of_map rfl
abbrev while1Ops0_1_W : List (Ref sig .tc) := [main_while1b_call10_c, main_while1b_call10_c_0, main_while1b_call10_c_1, main_while1b_call10_c_2, main_while1b_call10_v0, main_while1b_v93]
theorem while1Ops0_1_writes : Writes (F := F) while1Ops0_1 while1Ops0_1_W := forall_writes_sub_of_map rfl
theorem while1Ops0_2_fresh : Fresh (F := F) while1Ops0_2 := forall_fresh_of_map rfl
abbrev while1Ops0_2_W : List (Ref sig .tc) := [main_while1b_call11_c, main_while1b_call11_c_0, main_while1b_call11_c_1, main_while1b_call11_c_2, main_while1b_call11_v0, main_while1b_v94]
theorem while1Ops0_2_writes : Writes (F := F) while1Ops0_2 while1Ops0_2_W := forall_writes_sub_of_map rfl
theorem while1Ops0_3_fresh : Fresh (F := F) while1Ops0_3 := forall_fresh_of_map rfl
abbrev while1Ops0_3_W : List (Ref sig .tc) := [main_while1b_call12_c, main_while1b_call12_c_0, main_while1b_call12_c_1, main_while1b_call12_c_2, main_while1b_call12_v0, main_while1b_v95]
theorem while1Ops0_3_writes : Writes (F := F) while1Ops0_3 while1Ops0_3_W := forall_writes_sub_of_map rfl
theorem while1Ops0_4_fresh : Fresh (F := F) while1Ops0_4 := forall_fresh_of_map rfl
abbrev while1Ops0_4_W : List (Ref sig .tc) := [main_while1b_call13_c, main_while1b_call13_c_0, main_while1b_call13_c_1, main_while1b_call13_c_2, main_while1b_call13_v0, main_while1b_v96]
theorem while1Ops0_4_writes : Writes (F := F) while1Ops0_4 while1Ops0_4_W := forall_writes_sub_of_map rfl
theorem while1Ops0_5_fresh : Fresh (F := F) while1Ops0_5 := forall_fresh_of_map rfl
abbrev while1Ops0_5_W : List (Ref sig .tc) := [main_while1b_call14_c, main_while1b_call14_c_0, main_while1b_call14_c_1, main_while1b_call14_c_2, main_while1b_call14_v0, main_while1b_v97]
theorem while1Ops0_5_writes : Writes (F := F) while1Ops0_5 while1Ops0_5_W := forall_writes_sub_of_map rfl
theorem while1Ops0_6_fresh : Fresh (F := F) while1Ops0_6 := forall_fresh_of_map rfl
abbrev while1Ops0_6_W : List (Ref sig .tc) := [main_while1b_call15_c, main_while1b_call15_c_0, main_while1b_call15_c_1, main_while1b_call15_c_2, main_while1b_call15_v0, main_while1b_v98]
theorem while1Ops0_6_writes : Writes (F := F) while1Ops0_6 while1Ops0_6_W := forall_writes_sub_of_map rfl
theorem while1Ops0_7_fresh : Fresh (F := F) while1Ops0_7 := forall_fresh_of_map rfl
abbrev while1Ops0_7_W : List (Ref sig .tc) := [main_while1b_call16_c, main_while1b_call16_c_0, main_while1b_call16_c_1, main_while1b_call16_c_2, main_while1b_call16_v0, main_while1b_v99]
theorem while1Ops0_7_writes : Writes (F := F) while1Ops0_7 while1Ops0_7_W := forall_writes_sub_of_map rfl
theorem while1Ops0_8_fresh : Fresh (F := F) while1Ops0_8 := forall_fresh_of_map rfl
abbrev while1Ops0_8_W : List (Ref sig .tc) := [main_while1b_call17_c, main_while1b_call17_c_0, main_while1b_call17_c_1, main_while1b_call17_c_2, main_while1b_call17_v0, main_while1b_v100]
theorem while1Ops0_8_writes : Writes (F := F) while1Ops0_8 while1Ops0_8_W := forall_writes_sub_of_map rfl
theorem while1Ops0_9_fresh : Fresh (F := F) while1Ops0_9 := forall_fresh_of_map rfl
abbrev while1Ops0_9_W : List (Ref sig .tc) := [main_while1b_v101, main_while1b_v102, main_while1b_v103, main_while1b_v104, main_while1b_v105, main_while1b_cst_35, main_while1b_v106, main_while1b_v107, main_while1b_v108, main_while1b_v109, main_while1b_cst_36, main_while1b_v110, main_while1b_v111, main_while1b_v112, main_while1b_v113, main_while1b_v114, main_while1b_v115, main_while1b_v116, main_while1b_v117, main_while1b_v118, main_while1b_v119, main_while1b_v120, main_while1b_v121, main_while1b_v122, main_while1b_v123]
theorem while1Ops0_9_writes : Writes (F := F) while1Ops0_9 while1Ops0_9_W := forall_writes_sub_of_map rfl
theorem while1Ops0_10_fresh : Fresh (F := F) while1Ops0_10 := forall_fresh_of_map rfl
abbrev while1Ops0_10_W : List (Ref sig .tc) := [main_while1b_call18_v0, main_while1b_call18_c, main_while1b_call18_c_0, main_while1b_call18_c_1, main_while1b_call18_c_2, main_while1b_v124]
theorem while1Ops0_10_writes : Writes (F := F) while1Ops0_10 while1Ops0_10_W := forall_writes_sub_of_map rfl
theorem while1Ops0_11_fresh : Fresh (F := F) while1Ops0_11 := forall_fresh_of_map rfl
abbrev while1Ops0_11_W : List (Ref sig .tc) := [main_while1b_call19_v0, main_while1b_call19_c, main_while1b_call19_c_0, main_while1b_call19_c_1, main_while1b_call19_c_2, main_while1b_v125]
theorem while1Ops0_11_writes : Writes (F := F) while1Ops0_11 while1Ops0_11_W := forall_writes_sub_of_map rfl
theorem while1Ops0_12_fresh : Fresh (F := F) while1Ops0_12 := forall_fresh_of_map rfl
abbrev while1Ops0_12_W : List (Ref sig .tc) := [main_while1b_call20_v0, main_while1b_call20_c, main_while1b_call20_c_0, main_while1b_call20_c_1, main_while1b_call20_c_2, main_while1b_v126]
theorem while1Ops0_12_writes : Writes (F := F) while1Ops0_12 while1Ops0_12_W := forall_writes_sub_of_map rfl
theorem while1Ops0_13_fresh : Fresh (F := F) while1Ops0_13 := forall_fresh_of_map rfl
abbrev while1Ops0_13_W : List (Ref sig .tc) := [main_while1b_call21_v0, main_while1b_call21_c, main_while1b_call21_c_0, main_while1b_call21_c_1, main_while1b_call21_c_2, main_while1b_v127]
theorem while1Ops0_13_writes : Writes (F := F) while1Ops0_13 while1Ops0_13_W := forall_writes_sub_of_map rfl
theorem while1Ops0_14_fresh : Fresh (F := F) while1Ops0_14 := forall_fresh_of_map rfl
abbrev while1Ops0_14_W : List (Ref sig .tc) := [main_while1b_call22_v0, main_while1b_call22_c, main_while1b_call22_c_0, main_while1b_call22_c_1, main_while1b_call22_c_2, main_while1b_v128]
theorem while1Ops0_14_writes : Writes (F := F) while1Ops0_14 while1Ops0_14_W := forall_writes_sub_of_map rfl
theorem while1Ops0_15_fresh : Fresh (F := F) while1Ops0_15 := forall_fresh_of_map rfl
abbrev while1Ops0_15_W : List (Ref sig .tc) := [main_while1b_call23_v0, main_while1b_call23_c, main_while1b_call23_c_0, main_while1b_call23_c_1, main_while1b_v129]
theorem while1Ops0_15_writes : Writes (F := F) while1Ops0_15 while1Ops0_15_W := forall_writes_sub_of_map rfl
theorem while1Ops0_16_fresh : Fresh (F := F) while1Ops0_16 := forall_fresh_of_map rfl
abbrev while1Ops0_16_W : List (Ref sig .tc) := [main_while1b_c_37, main_while1b_v130, main_v53_8, main_v53_9, main_v53_10, main_v53_11, main_v53_12, main_v53_13, main_v53_14, main_v53_15]
theorem while1Ops0_16_writes : Writes (F := F) while1Ops0_16 while1Ops0_16_W := forall_writes_sub_of_map rfl

abbrev preI : List (List (HloOp τ sig (Elt F))) := [hostOps0]
theorem preI_plain : Plain (preI (F := F)) := .cons hostOps0_sub (hf := List.forall_iff_forall_mem.mp hostOps0_fresh) (.nil)

abbrev midI : List (List (HloOp τ sig (Elt F))) := [hostOps0_1]
theorem midI_plain : Plain (midI (F := F)) := .cons hostOps0_1_sub (hf := List.forall_iff_forall_mem.mp hostOps0_1_fresh) (.nil)

abbrev postI : List (List (HloOp τ sig (Elt F))) := [hostOps0_2]
theorem postI_plain : Plain (postI (F := F)) := .cons hostOps0_2_sub (hf := List.forall_iff_forall_mem.mp hostOps0_2_fresh) (.nil)

abbrev body0 : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]
theorem body0_plain : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.nil))))))))))))

abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]
theorem body1_plain : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.cons while1Ops0_11_sub (hf := List.forall_iff_forall_mem.mp while1Ops0_11_fresh) (.cons while1Ops0_12_sub (hf := List.forall_iff_forall_mem.mp while1Ops0_12_fresh) (.cons while1Ops0_13_sub (hf := List.forall_iff_forall_mem.mp while1Ops0_13_fresh) (.cons while1Ops0_14_sub (hf := List.forall_iff_forall_mem.mp while1Ops0_14_fresh) (.cons while1Ops0_15_sub (hf := List.forall_iff_forall_mem.mp while1Ops0_15_fresh) (.cons while1Ops0_16_sub (hf := List.forall_iff_forall_mem.mp while1Ops0_16_fresh) (.nil)))))))))))))))))

/-- The condition's operations of loop 0: the bound, and the counter compared with it. -/
abbrev cond0 : List (HloOp τ sig (Elt F)) :=
  [ StableHlo.nullary main_while0c_c_29 (constantI S_ 32 32#32),
    StableHlo.binary main_v40_6 main_while0c_c_29 main_while0c_v91 (cmpi .slt) ]
abbrev cond0_W : List (Ref sig .tc) := [main_while0c_c_29, main_while0c_v91]
theorem cond0_writes : Writes (F := F) cond0 cond0_W := forall_writes_sub_of_map rfl

/-- The condition's operations of loop 1: the bound, and the counter compared with it. -/
abbrev cond1 : List (HloOp τ sig (Elt F)) :=
  [ StableHlo.nullary main_while1c_c_33 (constantI S_ 32 32#32),
    StableHlo.binary main_v53_8 main_while1c_c_33 main_while1c_v91 (cmpi .slt) ]
abbrev cond1_W : List (Ref sig .tc) := [main_while1c_c_33, main_while1c_v91]
theorem cond1_writes : Writes (F := F) cond1 cond1_W := forall_writes_sub_of_map rfl

/-- A list of operations keeps the arrays it does not write. -/
theorem kept {ops : List (HloOp τ sig (Elt F))} {W : List (Ref sig .tc)} {V : Valuation τ sig (Elt F)} {r : Ref sig .tc}
    (h : ops.Forall fun op => op.writes ⊆ (W.map (Proc.devRef (τ := τ) .tc)).toFinset) (hr : r ∉ W) :
    after ops V (Proc.devRef .tc r) = V (Proc.devRef .tc r) := after_of_writes_sub ops V h hr

variable (m : (ℓ : Loc nD τ sig) → Buf (Elt F) ℓ)

/-- The contents where the scan starts. -/
abbrev E0 (c : Dev nD) : Valuation τ sig (Elt F) := entryContents preI m c
/-- The contents before the scan's `k`-th condition. -/
abbrev at0 (k : ℕ) (c : Dev nD) : Valuation τ sig (Elt F) := atTrip cond0 body0 (E0 m) k c
/-- The contents where the transposed scan starts. -/
abbrev E1 (c : Dev nD) : Valuation τ sig (Elt F) := afterL midI (after cond0 (at0 m 32 c))
/-- The contents before the transposed scan's `k`-th condition. -/
abbrev at1 (k : ℕ) (c : Dev nD) : Valuation τ sig (Elt F) := atTrip cond1 body1 (E1 m) k c
/-- The contents at the end. -/
abbrev last (c : Dev nD) : Valuation τ sig (Elt F) := afterL postI (after cond1 (at1 m 32 c))

/-- The body's last stretch moves the counter one step on. -/
theorem ctr0_step (X : Valuation τ sig (Elt F)) :
    after while0Ops0_11 X (Proc.devRef .tc main_v40_6) = addi (X (Proc.devRef .tc main_v40_6)) (constantI S_ 32 1#32) := by
  after_results
  rfl

theorem ctr0_entry (c : Dev nD) : E0 m c (Proc.devRef .tc main_v40_6) = fun _ => (0#32 : BitVec 32) := by
  simp only [E0, entryContents, preI, afterL_cons, afterL_nil]
  after_reads_simp
  rfl

/-- The counter before the `k`-th condition is `k`. -/
theorem at0_ctr (c : Dev nD) : ∀ k, at0 m k c (Proc.devRef .tc main_v40_6) = fun _ => Scf.iv 0#32 1#32 k
  | 0 => by rw [show at0 m 0 c = E0 m c from rfl, ctr0_entry, Scf.iv_zero]
  | k + 1 => by
    rw [show at0 m (k + 1) c = afterL body0 (after cond0 (at0 m k c)) from rfl]
    simp only [afterL_cons, afterL_nil]
    rw [ctr0_step, kept while0Ops0_10_writes (by decide +kernel), kept while0Ops0_9_writes (by decide +kernel), kept while0Ops0_8_writes (by decide +kernel), kept while0Ops0_7_writes (by decide +kernel), kept while0Ops0_6_writes (by decide +kernel), kept while0Ops0_5_writes (by decide +kernel), kept while0Ops0_4_writes (by decide +kernel), kept while0Ops0_3_writes (by decide +kernel), kept while0Ops0_2_writes (by decide +kernel), kept while0Ops0_1_writes (by decide +kernel), kept while0Ops0_writes (by decide +kernel), kept cond0_writes (by decide +kernel), at0_ctr c k, Scf.iv_succ]
    rfl

/-- The body's last stretch moves the counter one step on. -/
theorem ctr1_step (X : Valuation τ sig (Elt F)) :
    after while1Ops0_16 X (Proc.devRef .tc main_v53_8) = addi (X (Proc.devRef .tc main_v53_8)) (constantI S_ 32 1#32) := by
  after_results
  rfl

theorem ctr1_entry (c : Dev nD) : E1 m c (Proc.devRef .tc main_v53_8) = fun _ => (0#32 : BitVec 32) := by
  simp only [E1, midI, afterL_cons, afterL_nil]
  after_reads_simp
  rfl

/-- The counter before the `k`-th condition is `k`. -/
theorem at1_ctr (c : Dev nD) : ∀ k, at1 m k c (Proc.devRef .tc main_v53_8) = fun _ => Scf.iv 0#32 1#32 k
  | 0 => by rw [show at1 m 0 c = E1 m c from rfl, ctr1_entry, Scf.iv_zero]
  | k + 1 => by
    rw [show at1 m (k + 1) c = afterL body1 (after cond1 (at1 m k c)) from rfl]
    simp only [afterL_cons, afterL_nil]
    rw [ctr1_step, kept while1Ops0_15_writes (by decide +kernel), kept while1Ops0_14_writes (by decide +kernel), kept while1Ops0_13_writes (by decide +kernel), kept while1Ops0_12_writes (by decide +kernel), kept while1Ops0_11_writes (by decide +kernel), kept while1Ops0_10_writes (by decide +kernel), kept while1Ops0_9_writes (by decide +kernel), kept while1Ops0_8_writes (by decide +kernel), kept while1Ops0_7_writes (by decide +kernel), kept while1Ops0_6_writes (by decide +kernel), kept while1Ops0_5_writes (by decide +kernel), kept while1Ops0_4_writes (by decide +kernel), kept while1Ops0_3_writes (by decide +kernel), kept while1Ops0_2_writes (by decide +kernel), kept while1Ops0_1_writes (by decide +kernel), kept while1Ops0_writes (by decide +kernel), kept cond1_writes (by decide +kernel), at1_ctr c k, Scf.iv_succ]
    rfl

end Cert.ReferenceIdeal.Loops

end
-- ==== Proof.Ref.Run.lean ====
module

public import proofs.«01_k».proof.Proof.Ref.Facts

@[expose] public section

set_option maxRecDepth 100000

noncomputable section

/-! ## The reference's run

The library runs one host loop between two stretches. The reference has two, so this module chains the same pieces twice:
a stretch, the scan, a stretch, the transposed scan, a stretch. -/

namespace Cert.ReferenceIdeal.Loops

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-- The program's logic: it launches no kernel, so the kit's tickets, levels and user state are all trivial. -/
abbrev World (F : FTy → Type) [FloatOps F] := MT nD τ sig Unit (Elt F) ℕ (Option PUnit) ℕ
abbrev noAdm : (p : Fin 0) → (pcfgs (F := F) p).Adm := fun p => p.elim0
abbrev noTicket : Fin 0 → Pipeline.Ticket (Ix := Unit) (Name := ℕ) (U := Option PUnit) (Lvl := ℕ) (nD := nD) (τ := τ) (pcfgs (F := F)) noAdm := fun j => j.elim0
abbrev noLevels : GSem nD τ sig → Finset Unit := fun _ => ∅
abbrev noLevel : GSem nD τ sig → Unit → ℕ := fun _ _ => 0
/-- What rides along beside the buffers. -/
abbrev Ride (c : Dev nD) : sProp (World F) := iprop(∃ W, owes (c : Thread nD τ) (0 : CellTallies nD τ sig Unit) W)

set_option backward.isDefEq.respectTransparency.types false in
/-- Loop 0's condition is true at the first 32 tests and false at the next. -/
theorem cond0_spec : LoopCond (Ix := Unit) (Name := ℕ) (U := Option PUnit) (Lvl := ℕ) (pcfgs (F := F)) defs₀ Variants.none loops (Ride (F := F)) (main_while0_cond (F := F)) cond0 body0 (E0 m) 32 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v40_6 HostLoop.idx0)
        (HloOp.result _ (at0 m k c) main_while0c_c_29 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]
  isplitl [Hh]; · iexact Hh
  iexact HR

set_option backward.isDefEq.respectTransparency.types false in
/-- Loop 1's condition is true at the first 32 tests and false at the next. -/
theorem cond1_spec : LoopCond (Ix := Unit) (Name := ℕ) (U := Option PUnit) (Lvl := ℕ) (pcfgs (F := F)) defs₀ Variants.none loops (Ride (F := F)) (main_while1_cond (F := F)) cond1 body1 (E1 m) 32 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v53_8 HostLoop.idx0)
        (HloOp.result _ (at1 m k c) main_while1c_c_33 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]
  isplitl [Hh]; · iexact Hh
  iexact HR

abbrev stretch (items : List (List (HloOp τ sig (Elt F)))) (h : Plain items) (V : Dev nD → Valuation τ sig (Elt F)) :=
  segsOf (pcfgs (F := F)) noAdm defs₀ Variants.none noLevels noLevel loops noTicket Ride items h V

abbrev loop0 := loopSeg (pcfgs (F := F)) noAdm defs₀ Variants.none noLevels noLevel loops noTicket 0 main_while0_cond main_while0_body rfl
  cond0 body0 body0_plain (by rw [while0_body_chain]; rfl) 32 (E0 m) Ride (cond0_spec m)
abbrev loop1 := loopSeg (pcfgs (F := F)) noAdm defs₀ Variants.none noLevels noLevel loops noTicket 1 main_while1_cond main_while1_body rfl
  cond1 body1 body1_plain (by rw [while1_body_chain]; rfl) 32 (E1 m) Ride (cond1_spec m)

/-- `@main` in five parts. -/
abbrev parts := stretch preI preI_plain (launchContents m) ++ (loop0 m :: (stretch midI midI_plain (fun c => after cond0 (at0 m 32 c))
  ++ (loop1 m :: stretch postI postI_plain (fun c => after cond1 (at1 m 32 c)))))

theorem parts_prog : (parts m).map Pipeline.CSeg.prog
    = (preI.map fun ops => (seq ops : Prog _ PUnit)) ++ HostLoop.enter 0 :: ((midI.map fun ops => (seq ops : Prog _ PUnit))
      ++ HostLoop.enter 1 :: postI.map fun ops => (seq ops : Prog _ PUnit)) := by
  unfold parts
  rw [List.map_append, List.map_cons, List.map_append, List.map_cons, segsOf_prog, segsOf_prog, segsOf_prog]
  rfl

theorem parts_chain : Pipeline.CSeg.Chains (fun c => iprop(held (c : Thread nD τ) (ucRefs τ sig) (launchContents m c) ∗ Ride c)) (parts m)
    (fun c => iprop(iprop(held (c : Thread nD τ) (ucRefs τ sig) (last m c)) ∗ ∃ W, owes (c : Thread nD τ) (0 : CellTallies nD τ sig Unit) W)) := by
  unfold parts
  refine Pipeline.CSeg.Chains.append (segsOf_chains _ _ _ _ _ _ _ _ Ride preI preI_plain _) ⟨fun _ => .rfl, ?_⟩
  exact Pipeline.CSeg.Chains.append (segsOf_chains _ _ _ _ _ _ _ _ Ride midI midI_plain _) ⟨fun _ => .rfl,
    segsOf_chains _ _ _ _ _ _ _ _ Ride postI postI_plain _⟩

/-- The program has no semaphore that outlives a call: it has none at all. -/
theorem no_unscoped : ∀ s : SemLoc sig, s.isScoped .tc = true := by decide

/-- From any memory with zero counters every weakly fair execution of the reference ends with every tensor at `last`. -/
theorem run_last : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = last m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noLevels noLevel loops noTicket m ρ main (parts m)
    (fun c Q => by
      rw [main_chain c]
      show wp _ _ _ (Pipeline.chain ((parts m).map Pipeline.CSeg.prog)) Q ⊢ _
      rw [parts_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (World F)) ⊢ bigSep Finset.univ (fun _ : Dev nD => (BI.emp : sProp (World F))) from by rw [BI.bigSep_emp_const])
        iempintro)
    (T₀ := fun c => iprop(held (c : Thread nD τ) (ucRefs τ sig) (launchContents m c) ∗ Ride c))
    (Tₙ := fun c => iprop(held (c : Thread nD τ) (ucRefs τ sig) (last m c)))
    (hch := parts_chain m)
    (hinit := by
      refine Pipeline.initEach noLevels noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = last m c b)
    (hfin := fun c s' => by
      unfold held
      iintro ⟨Hh, HSI⟩
      ihave Hr := (pointsTo_read_all (ucRefs τ sig) (fun b => ((c : Dev nD), b)) (fun b => last m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (no_unscoped g.2))⟩)

/-- A buffer none of the lists writes is left alone by all of them. -/
theorem afterL_of_untouched (r : Ref sig .tc) : ∀ {ls : List (List (HloOp τ sig (Elt F)))},
    (∀ l ∈ ls, ∃ W : List (Ref sig .tc), (l.Forall fun op => op.writes ⊆ (W.map (Proc.devRef (τ := τ) .tc)).toFinset) ∧ r ∉ W) →
    ∀ V : Valuation τ sig (Elt F), afterL ls V (Proc.devRef .tc r) = V (Proc.devRef .tc r)
  | [], _, _ => rfl
  | l :: ls, h, V => by
    obtain ⟨W, hW, hr⟩ := h l List.mem_cons_self
    rw [afterL_cons, afterL_of_untouched r (fun l' h' => h l' (List.mem_cons_of_mem _ h')), after_of_writes_sub l V hW]
    simpa using hr

theorem atTrip_of_untouched (r : Ref sig .tc) {cond : List (HloOp τ sig (Elt F))} {body : List (List (HloOp τ sig (Elt F)))} {E : Dev nD → Valuation τ sig (Elt F)}
    (hc : ∀ V : Valuation τ sig (Elt F), after cond V (Proc.devRef .tc r) = V (Proc.devRef .tc r)) (hb : ∀ V : Valuation τ sig (Elt F), afterL body V (Proc.devRef .tc r) = V (Proc.devRef .tc r)) (c : Dev nD) :
    ∀ k, atTrip cond body E k c (Proc.devRef .tc r) = E c (Proc.devRef .tc r)
  | 0 => rfl
  | k + 1 => by
    rw [show atTrip cond body E (k + 1) c = afterL body (after cond (atTrip cond body E k c)) from rfl, hb, hc, atTrip_of_untouched r hc hb c k]

/-- What each loop's body writes. -/
abbrev body0W : List (List (Ref sig .tc)) := [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W]
abbrev body1W : List (List (Ref sig .tc)) := [while1Ops0_W, while1Ops0_1_W, while1Ops0_2_W, while1Ops0_3_W, while1Ops0_4_W, while1Ops0_5_W, while1Ops0_6_W, while1Ops0_7_W, while1Ops0_8_W, while1Ops0_9_W, while1Ops0_10_W, while1Ops0_11_W, while1Ops0_12_W, while1Ops0_13_W, while1Ops0_14_W, while1Ops0_15_W, while1Ops0_16_W]

theorem body0_writes : ∀ l ∈ (body0 : List (List (HloOp τ sig (Elt F)))), ∃ W ∈ body0W, l.Forall fun op => op.writes ⊆ (W.map (Proc.devRef (τ := τ) .tc)).toFinset := by
  intro l hl
  fin_cases hl
  · exact ⟨while0Ops0_W, by simp only [body0W, body1W, List.mem_cons, true_or, or_true], while0Ops0_writes⟩
  · exact ⟨while0Ops0_1_W, by simp only [body0W, body1W, List.mem_cons, true_or, or_true], while0Ops0_1_writes⟩
  · exact ⟨while0Ops0_2_W, by simp only [body0W, body1W, List.mem_cons, true_or, or_true], while0Ops0_2_writes⟩
  · exact ⟨while0Ops0_3_W, by simp only [body0W, body1W, List.mem_cons, true_or, or_true], while0Ops0_3_writes⟩
  · exact ⟨while0Ops0_4_W, by simp only [body0W, body1W, List.mem_cons, true_or, or_true], while0Ops0_4_writes⟩
  · exact ⟨while0Ops0_5_W, by simp only [body0W, body1W, List.mem_cons, true_or, or_true], while0Ops0_5_writes⟩
  · exact ⟨while0Ops0_6_W, by simp only [body0W, body1W, List.mem_cons, true_or, or_true], while0Ops0_6_writes⟩
  · exact ⟨while0Ops0_7_W, by simp only [body0W, body1W, List.mem_cons, true_or, or_true], while0Ops0_7_writes⟩
  · exact ⟨while0Ops0_8_W, by simp only [body0W, body1W, List.mem_cons, true_or, or_true], while0Ops0_8_writes⟩
  · exact ⟨while0Ops0_9_W, by simp only [body0W, body1W, List.mem_cons, true_or, or_true], while0Ops0_9_writes⟩
  · exact ⟨while0Ops0_10_W, by simp only [body0W, body1W, List.mem_cons, true_or, or_true], while0Ops0_10_writes⟩
  · exact ⟨while0Ops0_11_W, by simp only [body0W, body1W, List.mem_cons, true_or, or_true], while0Ops0_11_writes⟩
theorem body1_writes : ∀ l ∈ (body1 : List (List (HloOp τ sig (Elt F)))), ∃ W ∈ body1W, l.Forall fun op => op.writes ⊆ (W.map (Proc.devRef (τ := τ) .tc)).toFinset := by
  intro l hl
  fin_cases hl
  · exact ⟨while1Ops0_W, by simp only [body0W, body1W, List.mem_cons, true_or, or_true], while1Ops0_writes⟩
  · exact ⟨while1Ops0_1_W, by simp only [body0W, body1W, List.mem_cons, true_or, or_true], while1Ops0_1_writes⟩
  · exact ⟨while1Ops0_2_W, by simp only [body0W, body1W, List.mem_cons, true_or, or_true], while1Ops0_2_writes⟩
  · exact ⟨while1Ops0_3_W, by simp only [body0W, body1W, List.mem_cons, true_or, or_true], while1Ops0_3_writes⟩
  · exact ⟨while1Ops0_4_W, by simp only [body0W, body1W, List.mem_cons, true_or, or_true], while1Ops0_4_writes⟩
  · exact ⟨while1Ops0_5_W, by simp only [body0W, body1W, List.mem_cons, true_or, or_true], while1Ops0_5_writes⟩
  · exact ⟨while1Ops0_6_W, by simp only [body0W, body1W, List.mem_cons, true_or, or_true], while1Ops0_6_writes⟩
  · exact ⟨while1Ops0_7_W, by simp only [body0W, body1W, List.mem_cons, true_or, or_true], while1Ops0_7_writes⟩
  · exact ⟨while1Ops0_8_W, by simp only [body0W, body1W, List.mem_cons, true_or, or_true], while1Ops0_8_writes⟩
  · exact ⟨while1Ops0_9_W, by simp only [body0W, body1W, List.mem_cons, true_or, or_true], while1Ops0_9_writes⟩
  · exact ⟨while1Ops0_10_W, by simp only [body0W, body1W, List.mem_cons, true_or, or_true], while1Ops0_10_writes⟩
  · exact ⟨while1Ops0_11_W, by simp only [body0W, body1W, List.mem_cons, true_or, or_true], while1Ops0_11_writes⟩
  · exact ⟨while1Ops0_12_W, by simp only [body0W, body1W, List.mem_cons, true_or, or_true], while1Ops0_12_writes⟩
  · exact ⟨while1Ops0_13_W, by simp only [body0W, body1W, List.mem_cons, true_or, or_true], while1Ops0_13_writes⟩
  · exact ⟨while1Ops0_14_W, by simp only [body0W, body1W, List.mem_cons, true_or, or_true], while1Ops0_14_writes⟩
  · exact ⟨while1Ops0_15_W, by simp only [body0W, body1W, List.mem_cons, true_or, or_true], while1Ops0_15_writes⟩
  · exact ⟨while1Ops0_16_W, by simp only [body0W, body1W, List.mem_cons, true_or, or_true], while1Ops0_16_writes⟩

/-- The arguments end as they began. -/
theorem last_arg (c : Dev nD) (r : Ref sig .tc) (h0 : r ∉ hostOps0_W) (h1 : r ∉ hostOps0_1_W) (h2 : r ∉ hostOps0_2_W) (k0 : r ∉ cond0_W) (k1 : r ∉ cond1_W)
    (b0 : ∀ W ∈ body0W, r ∉ W) (b1 : ∀ W ∈ body1W, r ∉ W) : last m c (Proc.devRef .tc r) = m ((c.tc : Thread nD τ).loc r) := by
  have hc0 : ∀ V : Valuation τ sig (Elt F), after cond0 V (Proc.devRef .tc r) = V (Proc.devRef .tc r) := fun V => after_of_writes_sub cond0 V cond0_writes k0
  have hc1 : ∀ V : Valuation τ sig (Elt F), after cond1 V (Proc.devRef .tc r) = V (Proc.devRef .tc r) := fun V => after_of_writes_sub cond1 V cond1_writes k1
  have hb0 : ∀ V : Valuation τ sig (Elt F), afterL body0 V (Proc.devRef .tc r) = V (Proc.devRef .tc r) := afterL_of_untouched r fun l hl => by
    obtain ⟨W, hW, h⟩ := body0_writes (F := F) l hl
    exact ⟨W, h, b0 W hW⟩
  have hb1 : ∀ V : Valuation τ sig (Elt F), afterL body1 V (Proc.devRef .tc r) = V (Proc.devRef .tc r) := afterL_of_untouched r fun l hl => by
    obtain ⟨W, hW, h⟩ := body1_writes (F := F) l hl
    exact ⟨W, h, b1 W hW⟩
  have g0 (V : Valuation τ sig (Elt F)) : afterL preI V (Proc.devRef .tc r) = V (Proc.devRef .tc r) := after_of_writes_sub hostOps0 V hostOps0_writes h0
  have g1 (V : Valuation τ sig (Elt F)) : afterL midI V (Proc.devRef .tc r) = V (Proc.devRef .tc r) := after_of_writes_sub hostOps0_1 V hostOps0_1_writes h1
  have g2 (V : Valuation τ sig (Elt F)) : afterL postI V (Proc.devRef .tc r) = V (Proc.devRef .tc r) := after_of_writes_sub hostOps0_2 V hostOps0_2_writes h2
  exact (g2 _).trans <| (hc1 _).trans <| (atTrip_of_untouched r hc1 hb1 c 32).trans <| (g1 _).trans <| (hc0 _).trans <|
    (atTrip_of_untouched r hc0 hb0 c 32).trans (g0 _)

/-- The reference's frame. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c main_arg0 (by decide)).trans (last_arg m c main_arg0 (by decide +kernel) (by decide +kernel) (by decide +kernel) (by decide +kernel) (by decide +kernel) (by decide +kernel) (by decide +kernel)),
    (h.1 c main_arg1 (by decide)).trans (last_arg m c main_arg1 (by decide +kernel) (by decide +kernel) (by decide +kernel) (by decide +kernel) (by decide +kernel) (by decide +kernel) (by decide +kernel)),
    (h.1 c main_arg2 (by decide)).trans (last_arg m c main_arg2 (by decide +kernel) (by decide +kernel) (by decide +kernel) (by decide +kernel) (by decide +kernel) (by decide +kernel) (by decide +kernel)),
    (h.1 c main_arg3 (by decide)).trans (last_arg m c main_arg3 (by decide +kernel) (by decide +kernel) (by decide +kernel) (by decide +kernel) (by decide +kernel) (by decide +kernel) (by decide +kernel)),
    (h.1 c main_arg4 (by decide)).trans (last_arg m c main_arg4 (by decide +kernel) (by decide +kernel) (by decide +kernel) (by decide +kernel) (by decide +kernel) (by decide +kernel) (by decide +kernel)),
    (h.1 c main_arg5 (by decide)).trans (last_arg m c main_arg5 (by decide +kernel) (by decide +kernel) (by decide +kernel) (by decide +kernel) (by decide +kernel) (by decide +kernel) (by decide +kernel)),
    (h.1 c main_arg6 (by decide)).trans (last_arg m c main_arg6 (by decide +kernel) (by decide +kernel) (by decide +kernel) (by decide +kernel) (by decide +kernel) (by decide +kernel) (by decide +kernel))⟩, h.2⟩) (run_last m ρ)

end Cert.ReferenceIdeal.Loops

end
-- ==== Proof.Frames.lean ====
module

public import proofs.«01_k».proof.Defs
public import proofs.«01_k».proof.Proof.Gen.Kernel
public import proofs.«01_k».proof.Proof.Two.Run
public import proofs.«01_k».proof.Proof.Ref.Run

@[expose] public section

noncomputable section

/-! ## The three frames

The kernel and its ideal reading are the same text at different numbers, and the run of `Two/Run.lean` is at any numbers: one
run gives both frames. -/

namespace Cert.Proof

open Idealize.ShloMosaic Idealize.SL.Sem

/-- The statement of the kernel's frame with the names of its ideal reading. -/
def ReadAsIdeal [hKernel : Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

theorem readAsIdeal : ReadAsIdeal := fun m ρ _ => Cert.KernelIdeal.Two.frame m ρ

theorem same : Cert.quiescent_Kernel = ReadAsIdeal := by sl_kernel_rfl

theorem frame_kernel : Cert.quiescent_Kernel := same.mpr readAsIdeal

theorem frame_ideal : Cert.quiescent_KernelIdeal := fun m ρ _ => Cert.KernelIdeal.Two.frame m ρ

theorem frame_reference : Cert.quiescent_ReferenceIdeal := fun m ρ _ => Cert.ReferenceIdeal.Loops.frame m ρ

end Cert.Proof

end
-- ==== Proof.Chunk.lean ====
module

public import proofs.«01_k».proof.Proof.Gen.KernelIdeal.Skeleton

@[expose] public section

set_option maxRecDepth 16384

noncomputable section

/-! ## One chunk of one head, as the kernels compute it

The two kernels of the program run, for each of 8 heads and each of 4 chunks of 64 rows in a block of 256 rows, the same
vector operations. This module names those operations once, over any float values: everything the runs store is one of
these functions of the loaded pieces. -/

namespace Cert.KernelIdeal.Chunk

open Idealize.ShloMosaic Idealize.ShloMosaic.TcCoe Idealize.ShloMosaic.Tactic
open Cert.KernelIdeal.Gen

variable {F : FTy → Type} [FloatOps F]

/-- 64 rows of zeros. -/
def zrow : FVec F S64x128 .f32 := broadcast S64x128 (Scalar.ofBits .f32 0x00000000#32)

/-- The values a chunk writes into its state: `val − kc·S`. -/
def vnew (val : Vec F S64x128 .f32) (kc : Vec F S64x128 .bf16) (s : FVec F S128x128 .f32) : FVec F S64x128 .f32 :=
  subf val (matmul dot_S64x128_S128x128_S64x128_1_0_0_1_n_n none (extf .f32 kc bitsLt_bf16_f32) s (constant S64x128 .f32 0x00000000#32))

/-- A chunk's 64 rows at their place in a block of 256 rows, zeros elsewhere. -/
def vpad (c : Fin 4) (v : FVec F S64x128 .f32) : FVec F S256x128 .f32 :=
  match c with
  | 0 => concatenate S256x128 0 [⟨S64x128, v⟩, ⟨S64x128, zrow⟩, ⟨S64x128, zrow⟩, ⟨S64x128, zrow⟩] concatenates_S64x128_S64x128_S64x128_S64x128_S256x128_d0
  | 1 => concatenate S256x128 0 [⟨S64x128, zrow⟩, ⟨S64x128, v⟩, ⟨S64x128, zrow⟩, ⟨S64x128, zrow⟩] concatenates_S64x128_S64x128_S64x128_S64x128_S256x128_d0
  | 2 => concatenate S256x128 0 [⟨S64x128, zrow⟩, ⟨S64x128, zrow⟩, ⟨S64x128, v⟩, ⟨S64x128, zrow⟩] concatenates_S64x128_S64x128_S64x128_S64x128_S256x128_d0
  | 3 => concatenate S256x128 0 [⟨S64x128, zrow⟩, ⟨S64x128, zrow⟩, ⟨S64x128, zrow⟩, ⟨S64x128, v⟩] concatenates_S64x128_S64x128_S64x128_S64x128_S256x128_d0

/-- A chunk's output: `qd·S + at·v`. -/
def outc (c : Fin 4) (at' : Vec F S64x256 .bf16) (qd : Vec F S64x128 .bf16) (s : FVec F S128x128 .f32) (v : FVec F S64x128 .f32) : FVec F S64x128 .f32 :=
  addf (matmul dot_S64x128_S128x128_S64x128_1_0_0_1_n_n none (extf .f32 qd bitsLt_bf16_f32) s (constant S64x128 .f32 0x00000000#32))
    (matmul dot_S64x256_S256x128_S64x128_1_0_0_1_n_n none (extf .f32 at' bitsLt_bf16_f32) (vpad c v) (constant S64x128 .f32 0x00000000#32))

/-- A chunk's decay: the exponential of the gate's sum over its rows, one number per column. -/
def dec (gb : Vec F S64x128 .f32) : FVec F S1x128 .f32 :=
  exp (shapeCast S1x128 (multiReduction .add [0] S128 gb 0x00000000#32 reduces_S64x128_S128 (.inl rfl) rfl) shapeCasts_S128_S1x128)

/-- The state a chunk leaves: `S·dec + kdᵀ·v`. -/
def next (kd : Vec F S64x128 .bf16) (gb : Vec F S64x128 .f32) (s : FVec F S128x128 .f32) (v : FVec F S64x128 .f32) : FVec F S128x128 .f32 :=
  addf (mulf s (broadcastTo S128x128 (dec gb) broadcasts_S1x128_S128x128))
    (matmul dot_S64x128_S64x128_S128x128_0_0_1_1_n_n none (extf .f32 kd bitsLt_bf16_f32) v (constant S128x128 .f32 0x00000000#32))

/-! The gradient of one chunk: `s` the state before it, `g` the gradient of the state after it, `o` the gradient of its output. -/

/-- The transposed product of the triangular rows with the output's gradient, all 256 rows. -/
def wideT (at' : Vec F S64x256 .bf16) (o : FVec F S64x128 .f32) : FVec F S256x128 .f32 :=
  transpose S256x128 [1, 0] (matmul dot_S64x128_S64x256_S128x256_0_0_1_1_n_n none o (extf .f32 at' bitsLt_bf16_f32) (constant S128x256 .f32 0x00000000#32)) transposes_S128x256_p1_0_S256x128
/-- The gradient of the values written, `g·kd` and `atᵀ·o`: it is the gradient of `val`. -/
def dval (c : Fin 4) (at' : Vec F S64x256 .bf16) (kd : Vec F S64x128 .bf16) (o : FVec F S64x128 .f32) (g : FVec F S128x128 .f32) : FVec F S64x128 .f32 :=
  addf (transpose S64x128 [1, 0] (matmul dot_S128x128_S64x128_S128x64_0_1_1_0_n_n none g (extf .f32 kd bitsLt_bf16_f32) (constant S128x64 .f32 0x00000000#32)) transposes_S128x64_p1_0_S64x128)
    (match c with
      | 0 => extractStridedSlice S64x128 ![0, 0] (wideT at' o) slices_S256x128_o0_0_S64x128
      | 1 => extractStridedSlice S64x128 ![64, 0] (wideT at' o) slices_S256x128_o64_0_S64x128
      | 2 => extractStridedSlice S64x128 ![128, 0] (wideT at' o) slices_S256x128_o128_0_S64x128
      | 3 => extractStridedSlice S64x128 ![192, 0] (wideT at' o) slices_S256x128_o192_0_S64x128)
/-- The values' gradient with its sign changed. -/
def neg (x : FVec F S64x128 .f32) : FVec F S64x128 .f32 := subf zrow x
/-- The gradient of `kc`, from the negated gradient of the values. -/
def dkc (s : FVec F S128x128 .f32) (n : FVec F S64x128 .f32) : FVec F S64x128 .f32 :=
  matmul dot_S64x128_S128x128_S64x128_1_1_0_0_n_n none n s (constant S64x128 .f32 0x00000000#32)
/-- The gradient of `at`. -/
def dat (c : Fin 4) (v o : FVec F S64x128 .f32) : FVec F S64x256 .f32 :=
  matmul dot_S64x128_S256x128_S64x256_1_1_0_0_n_n none o (vpad c v) (constant S64x256 .f32 0x00000000#32)
/-- The gradient of `qd`. -/
def dqd (s : FVec F S128x128 .f32) (o : FVec F S64x128 .f32) : FVec F S64x128 .f32 :=
  matmul dot_S64x128_S128x128_S64x128_1_1_0_0_n_n none o s (constant S64x128 .f32 0x00000000#32)
/-- The gradient of `kd`. -/
def dkd (v : FVec F S64x128 .f32) (g : FVec F S128x128 .f32) : FVec F S64x128 .f32 :=
  transpose S64x128 [1, 0] (matmul dot_S128x128_S64x128_S128x64_1_1_0_0_n_n none g v (constant S128x64 .f32 0x00000000#32)) transposes_S128x64_p1_0_S64x128
/-- The gradient of the gate: one number per column, the same for every row of the chunk. -/
def dgb (gb : Vec F S64x128 .f32) (s g : FVec F S128x128 .f32) : FVec F S64x128 .f32 :=
  broadcastTo S64x128 (shapeCast S1x128 (multiReduction .add [0] S128
    (mulf (shapeCast S1x128 (multiReduction .add [0] S128 (mulf s g) 0x00000000#32 reduces_S128x128_S128 (.inl rfl) rfl) shapeCasts_S128_S1x128) (dec gb))
    0x00000000#32 reduces_S1x128_S128 (.inl rfl) rfl) shapeCasts_S128_S1x128) broadcasts_S1x128_S64x128
/-- The gradient of the state before the chunk. -/
def prev (kc qd : Vec F S64x128 .bf16) (gb : Vec F S64x128 .f32) (o n : FVec F S64x128 .f32) (g : FVec F S128x128 .f32) : FVec F S128x128 .f32 :=
  addf (addf (mulf g (broadcastTo S128x128 (dec gb) broadcasts_S1x128_S128x128))
      (transpose S128x128 [1, 0] (matmul dot_S64x128_S64x128_S128x128_0_0_1_1_n_n none o (extf .f32 qd bitsLt_bf16_f32) (constant S128x128 .f32 0x00000000#32)) transposes_S128x128_p1_0_S128x128))
    (transpose S128x128 [1, 0] (matmul dot_S64x128_S64x128_S128x128_0_0_1_1_n_n none n (extf .f32 kc bitsLt_bf16_f32) (constant S128x128 .f32 0x00000000#32)) transposes_S128x128_p1_0_S128x128)

end Cert.KernelIdeal.Chunk

end
-- ==== Proof.Places.lean ====
module

public import proofs.«01_k».proof.Proof.Gen.KernelIdeal.Skeleton
public import Idealize.ShloMosaic.Lib.WholeRead

@[expose] public section

set_option maxRecDepth 16384

noncomputable section

/-! ## Where the pieces of a block lie

A block of 256 rows holds 4 chunks of 64 rows; its columns hold 8 heads of 128 columns (256 for the triangular array).
The saved states of a block are 32 squares, ordered by head and then by chunk. -/

namespace Cert.KernelIdeal.Places

open Idealize.ShloMosaic Idealize.ShloMosaic.TcCoe Idealize.ShloMosaic.Tactic
open Cert.KernelIdeal.Gen

variable {F : FTy → Type} [FloatOps F]

theorem inb_piece : ∀ (c : Fin 4) (h : Fin 8), ∀ a, (![64 * c.val, 128 * h.val] : Fin 2 → Nat) a + S64x128.size a ≤ S256x1024.size a := by decide
theorem inb_wide : ∀ (c : Fin 4) (h : Fin 8), ∀ a, (![64 * c.val, 256 * h.val] : Fin 2 → Nat) a + S64x256.size a ≤ S256x2048.size a := by decide
theorem inb_snap : ∀ (c : Fin 4) (h : Fin 8), ∀ a, (![128 * (4 * h.val + c.val), 0] : Fin 2 → Nat) a + S128x128.size a ≤ S4096x128.size a := by decide
theorem inb_lay : ∀ (h : Fin 8), ∀ a, (![h.val, 0, 0] : Fin 3 → Nat) a + S1x128x128.size a ≤ S8x128x128.size a := by decide

/-- Chunk `c` of head `h` in a block. -/
abbrev piece (c : Fin 4) (h : Fin 8) : Rect S256x1024 := Rect.unit ![64 * c.val, 128 * h.val] S64x128.size (inb_piece c h)
/-- Chunk `c` of head `h` in a block of the triangular array. -/
abbrev wide (c : Fin 4) (h : Fin 8) : Rect S256x2048 := Rect.unit ![64 * c.val, 256 * h.val] S64x256.size (inb_wide c h)
/-- The state of head `h` before chunk `c` among a block's saved states. -/
abbrev snap (c : Fin 4) (h : Fin 8) : Rect S4096x128 := Rect.unit ![128 * (4 * h.val + c.val), 0] S128x128.size (inb_snap c h)
/-- Head `h` of the carried state. -/
abbrev lay (h : Fin 8) : Rect S8x128x128 := Rect.unit ![h.val, 0, 0] S1x128x128.size (inb_lay h)

/-- The heads, last first. -/
def heads : List (Fin 8) := [7, 6, 5, 4, 3, 2, 1, 0]
/-- The chunks and heads in the order the forward body stores them, last first. -/
def order : List (Fin 4 × Fin 8) :=
  [(3, 7), (3, 6), (3, 5), (3, 4), (3, 3), (3, 2), (3, 1), (3, 0), (2, 7), (2, 6), (2, 5), (2, 4), (2, 3), (2, 2), (2, 1), (2, 0),
   (1, 7), (1, 6), (1, 5), (1, 4), (1, 3), (1, 2), (1, 1), (1, 0), (0, 7), (0, 6), (0, 5), (0, 4), (0, 3), (0, 2), (0, 1), (0, 0)]
/-- The chunks and heads in the order the backward body stores them, last first. -/
def redro : List (Fin 4 × Fin 8) :=
  [(0, 7), (0, 6), (0, 5), (0, 4), (0, 3), (0, 2), (0, 1), (0, 0), (1, 7), (1, 6), (1, 5), (1, 4), (1, 3), (1, 2), (1, 1), (1, 0),
   (2, 7), (2, 6), (2, 5), (2, 4), (2, 3), (2, 2), (2, 1), (2, 0), (3, 7), (3, 6), (3, 5), (3, 4), (3, 3), (3, 2), (3, 1), (3, 0)]

/-- The piece of a block that a load of chunk `c`, head `h` reads. -/
def rd {e : EltTy} (m : Memref sig .tc .vmem S256x1024 e) (hm : m.IsWhole) (x : Vec F S256x1024 e) (c : Fin 4) (h : Fin 8) : Vec F S64x128 e :=
  View.readAt (Elt F) m.view (piece c h).toLoadRect (hm.unread x)
/-- The same of the triangular array. -/
def rdw {e : EltTy} (m : Memref sig .tc .vmem S256x2048 e) (hm : m.IsWhole) (x : Vec F S256x2048 e) (c : Fin 4) (h : Fin 8) : Vec F S64x256 e :=
  View.readAt (Elt F) m.view (wide c h).toLoadRect (hm.unread x)
/-- The same of the saved states. -/
def rdn {e : EltTy} (m : Memref sig .tc .vmem S4096x128 e) (hm : m.IsWhole) (x : Vec F S4096x128 e) (c : Fin 4) (h : Fin 8) : Vec F S128x128 e :=
  View.readAt (Elt F) m.view (snap c h).toLoadRect (hm.unread x)
/-- The same of the carried state. -/
def rds {e : EltTy} (m : Memref sig .tc .vmem S8x128x128 e) (hm : m.IsWhole) (x : Vec F S8x128x128 e) (h : Fin 8) : Vec F S1x128x128 e :=
  View.readAt (Elt F) m.view (lay h).toLoadRect (hm.unread x)

end Cert.KernelIdeal.Places

end
-- ==== Proof.Fwd.Lists.lean ====
module

public import proofs.«01_k».proof.Proof.Fwd.RunA
public import proofs.«01_k».proof.Proof.Fwd.RunB
public import proofs.«01_k».proof.Proof.Chunk
public import proofs.«01_k».proof.Proof.Places

@[expose] public section

set_option maxRecDepth 16384

noncomputable section

/-! ## The forward body's stores as lists over heads and chunks -/

namespace Cert.KernelIdeal.Fwd

open Idealize.ShloMosaic Idealize.ShloMosaic.TcCoe Idealize.ShloMosaic.Tactic
open Cert.KernelIdeal.Gen Cert.KernelIdeal.Places

variable {F : FTy → Type} [FloatOps F]

/-- The store that resets the carried state. -/
def zeroPiece : View.Piece (Elt F) S8x128x128 .f32 :=
  ⟨Rect.unit ![0, 0, 0] S8x128x128.size inb_S8x128x128_S8x128x128_0_0_0, k0_pay5⟩

section States
variable (val : Fin 4 → Fin 8 → Vec F S64x128 .f32) (kc : Fin 4 → Fin 8 → Vec F S64x128 .bf16)
  (at' : Fin 4 → Fin 8 → Vec F S64x256 .bf16) (qd kd : Fin 4 → Fin 8 → Vec F S64x128 .bf16)
  (gb : Fin 4 → Fin 8 → Vec F S64x128 .f32) (s : Fin 8 → Vec F S1x128x128 .f32)

/-- A head's state at a block's entry. -/
def st0 (h : Fin 8) : FVec F S128x128 .f32 := shapeCast S128x128 (s h) shapeCasts_S1x128x128_S128x128
/-- One chunk's step of a head's state. -/
def stepAt (c : Fin 4) (h : Fin 8) (x : FVec F S128x128 .f32) : FVec F S128x128 .f32 :=
  Chunk.next (kd c h) (gb c h) x (Chunk.vnew (val c h) (kc c h) x)
/-- A head's state before chunk `c`. -/
def st (c : Fin 4) (h : Fin 8) : FVec F S128x128 .f32 :=
  match c with
  | 0 => st0 s h
  | 1 => stepAt val kc kd gb 0 h (st0 s h)
  | 2 => stepAt val kc kd gb 1 h (stepAt val kc kd gb 0 h (st0 s h))
  | 3 => stepAt val kc kd gb 2 h (stepAt val kc kd gb 1 h (stepAt val kc kd gb 0 h (st0 s h)))
/-- A head's state after the block. -/
def stEnd (h : Fin 8) : FVec F S128x128 .f32 := stepAt val kc kd gb 3 h (st val kc kd gb s 3 h)
/-- A chunk's output. -/
def outAt (c : Fin 4) (h : Fin 8) : FVec F S64x128 .f32 :=
  Chunk.outc c (at' c h) (qd c h) (st val kc kd gb s c h) (Chunk.vnew (val c h) (kc c h) (st val kc kd gb s c h))

/-- The stores of the outputs, last first. -/
def L6 : List (View.Piece (Elt F) S256x1024 .f32) :=
  order.map fun p => ⟨piece p.1 p.2, outAt val kc at' qd kd gb s p.1 p.2⟩
/-- The stores of the states, last first. -/
def L7 : List (View.Piece (Elt F) S4096x128 .f32) :=
  order.map fun p => ⟨snap p.1 p.2, st val kc kd gb s p.1 p.2⟩
/-- The stores of the carried state, last first. -/
def LS : List (View.Piece (Elt F) S8x128x128 .f32) :=
  heads.map fun h => ⟨lay h, shapeCast S1x128x128 (stEnd val kc kd gb s h) shapeCasts_S128x128_S1x128x128⟩
/-- The same at a reset point: the reset is the first store. -/
def LSA : List (View.Piece (Elt F) S8x128x128 .f32) := (LS val kc kd gb s) ++ [zeroPiece]
end States

/-- The carried state as a reset leaves it, as a load reads it. -/
def zeroed (arg11 : Memref sig .tc .vmem S8x128x128 .f32) (h : Fin 8) : Vec F S1x128x128 .f32 :=
  arg11.view.readCov [zeroPiece] (lay h).toLoadRect

section B
variable (c : Dev nD) (i : grid0.Coords) (arg3 : Memref sig .tc .vmem S256x1024 .f32) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S4096x128 .f32) (harg10 : arg10.IsWhole) (arg11 : Memref sig .tc .vmem S8x128x128 .f32) (harg11 : arg11.IsWhole)
  (x0 : Vec F S256x1024 .f32) (x1 : Vec F S256x1024 .bf16) (x2 : Vec F S256x2048 .bf16) (x3 : Vec F S256x1024 .bf16) (x4 : Vec F S256x1024 .bf16) (x5 : Vec F S256x1024 .f32) (xs0 : Vec F S8x128x128 .f32)

/-- What the body stores as output at a reset point. -/
theorem runA_6 (hc0 : cond0_0 i) : (kernelRun0_A c i arg3 harg3 arg4 harg4 arg5 harg5 arg6 harg6 arg7 harg7 arg8 harg8 arg9 harg9 arg10 harg10 arg11 harg11 hc0 x0 x1 x2 x3 x4 x5).1
    = L6 (rd arg3 harg3 x0) (rd arg4 harg4 x1) (rdw arg5 harg5 x2) (rd arg6 harg6 x3) (rd arg7 harg7 x4) (rd arg8 harg8 x5) (zeroed arg11) := by
  sl_kernel_rfl

/-- What the body stores as states at a reset point. -/
theorem runA_7 (hc0 : cond0_0 i) : (kernelRun0_A c i arg3 harg3 arg4 harg4 arg5 harg5 arg6 harg6 arg7 harg7 arg8 harg8 arg9 harg9 arg10 harg10 arg11 harg11 hc0 x0 x1 x2 x3 x4 x5).2.1
    = L7 (rd arg3 harg3 x0) (rd arg4 harg4 x1) (rd arg7 harg7 x4) (rd arg8 harg8 x5) (zeroed arg11) := by
  sl_kernel_rfl

/-- What the body leaves in the carried state at a reset point. -/
theorem runA_S (hc0 : cond0_0 i) : (kernelRun0_A c i arg3 harg3 arg4 harg4 arg5 harg5 arg6 harg6 arg7 harg7 arg8 harg8 arg9 harg9 arg10 harg10 arg11 harg11 hc0 x0 x1 x2 x3 x4 x5).2.2.1
    = LSA (rd arg3 harg3 x0) (rd arg4 harg4 x1) (rd arg7 harg7 x4) (rd arg8 harg8 x5) (zeroed arg11) := by
  sl_kernel_rfl

/-- What the body stores as output at a point that carries on. -/
theorem runB_6 (hc0 : ¬cond0_0 i) : (kernelRun0_B c i arg3 harg3 arg4 harg4 arg5 harg5 arg6 harg6 arg7 harg7 arg8 harg8 arg9 harg9 arg10 harg10 arg11 harg11 hc0 x0 x1 x2 x3 x4 x5 xs0).1
    = L6 (rd arg3 harg3 x0) (rd arg4 harg4 x1) (rdw arg5 harg5 x2) (rd arg6 harg6 x3) (rd arg7 harg7 x4) (rd arg8 harg8 x5) (rds arg11 harg11 xs0) := by
  sl_kernel_rfl

/-- What the body stores as states at a point that carries on. -/
theorem runB_7 (hc0 : ¬cond0_0 i) : (kernelRun0_B c i arg3 harg3 arg4 harg4 arg5 harg5 arg6 harg6 arg7 harg7 arg8 harg8 arg9 harg9 arg10 harg10 arg11 harg11 hc0 x0 x1 x2 x3 x4 x5 xs0).2.1
    = L7 (rd arg3 harg3 x0) (rd arg4 harg4 x1) (rd arg7 harg7 x4) (rd arg8 harg8 x5) (rds arg11 harg11 xs0) := by
  sl_kernel_rfl

/-- What the body leaves in the carried state at a point that carries on. -/
theorem runB_S (hc0 : ¬cond0_0 i) : (kernelRun0_B c i arg3 harg3 arg4 harg4 arg5 harg5 arg6 harg6 arg7 harg7 arg8 harg8 arg9 harg9 arg10 harg10 arg11 harg11 hc0 x0 x1 x2 x3 x4 x5 xs0).2.2.1
    = LS (rd arg3 harg3 x0) (rd arg4 harg4 x1) (rd arg7 harg7 x4) (rd arg8 harg8 x5) (rds arg11 harg11 xs0) := by
  sl_kernel_rfl

end B

end Cert.KernelIdeal.Fwd

end
-- ==== Proof.ChunkIdeal.lean ====
module

public import proofs.«01_k».proof.Proof.Chunk
public import Idealize.ShloMosaic.Lib.Pointwise

@[expose] public section

set_option maxRecDepth 16384

noncomputable section

/-! ## One chunk of one head over the extended reals, element by element -/

namespace Cert.KernelIdeal.Chunk

open Idealize.ShloMosaic Idealize.ShloMosaic.TcCoe Idealize.ShloMosaic.Tactic
open Cert.KernelIdeal.Gen

/-- Row `r` of chunk `c` in a block of 256 rows. -/
abbrev row (c : Fin 4) (r : Fin 64) : Fin 256 := ⟨64 * c.val + r.val, by omega⟩

/-- A sum over a block's 256 rows whose terms vanish outside chunk `c` is the sum over that chunk's rows. -/
theorem sum_row (c : Fin 4) (f : Fin 256 → EReal) (hf : ∀ q : Fin 256, q.val / 64 ≠ c.val → f q = 0) :
    ∑ q : Fin 256, f q = ∑ j : Fin 64, f (row c j) := by
  symm
  refine Finset.sum_of_injOn (row c) ?_ ?_ ?_ ?_
  · intro a _ b _ h
    have := congrArg Fin.val h
    apply Fin.ext
    simpa using this
  · intro _ _; exact Finset.mem_univ _
  · intro q _ hq
    apply hf
    intro hc
    apply hq
    refine ⟨⟨q.val % 64, by omega⟩, by simp, ?_⟩
    apply Fin.ext
    show 64 * c.val + q.val % 64 = q.val
    omega
  · intro _ _; rfl

variable (val gb : Vec Ideal S64x128 .f32) (kc qd kd : Vec Ideal S64x128 .bf16) (at' : Vec Ideal S64x256 .bf16)
  (s g : FVec Ideal S128x128 .f32) (v o n : FVec Ideal S64x128 .f32) (c : Fin 4)

theorem vnew_apply (r : Fin 64) (e : Fin 128) :
    vnew val kc s (ix2 r e) = val (ix2 r e) - ∑ k : Fin 128, kc (ix2 r k) * s (ix2 k e) := by
  pointwise [vnew]

theorem dec_apply (e : Fin 128) : dec gb (ix2 0 e) = Ideal.exp (∑ r : Fin 64, gb (ix2 r e)) := by
  pointwise [dec]

theorem next_apply (d e : Fin 128) :
    next kd gb s v (ix2 d e) = s (ix2 d e) * dec gb (ix2 0 e) + ∑ r : Fin 64, kd (ix2 r d) * v (ix2 r e) := by
  pointwise [next]

theorem zrow_apply (r : Fin 64) (e : Fin 128) : (zrow (F := Ideal)) (ix2 r e) = 0 := by
  pointwise [zrow]

/-- Four pieces of 64 laid end to end, read at position `q`: the piece `q / 64` at `q % 64`. -/
private theorem ladder (w0 w1 w2 w3 : (n : Nat) → n < 64 → EReal) (q : Nat) (hq : q < 256) (h3 : ¬ q < 64 → ¬ q - 64 < 64 → ¬ q - 64 - 64 < 64 → q - 64 - 64 - 64 < 64) :
    (if h : q < 64 then w0 q h else if h' : q - 64 < 64 then w1 (q - 64) h' else if h'' : q - 64 - 64 < 64 then w2 (q - 64 - 64) h''
      else w3 (q - 64 - 64 - 64) (h3 h h' h'')) =
    if q / 64 = 0 then w0 (q % 64) (by omega) else if q / 64 = 1 then w1 (q % 64) (by omega) else if q / 64 = 2 then w2 (q % 64) (by omega)
      else w3 (q % 64) (by omega) := by
  have cg : ∀ (w : (n : Nat) → n < 64 → EReal) (a b : Nat) (ha : a < 64) (hb : b < 64), a = b → w a ha = w b hb := by
    intro w a b ha hb h
    subst h
    rfl
  by_cases a : q < 64
  · rw [dif_pos a, if_pos (by omega)]
    exact cg _ _ _ _ _ (by omega)
  · rw [dif_neg a, if_neg (by omega)]
    by_cases b : q - 64 < 64
    · rw [dif_pos b, if_pos (by omega)]
      exact cg _ _ _ _ _ (by omega)
    · rw [dif_neg b, if_neg (by omega)]
      by_cases d : q - 64 - 64 < 64
      · rw [dif_pos d, if_pos (by omega)]
        exact cg _ _ _ _ _ (by omega)
      · rw [dif_neg d, if_neg (by omega)]
        exact cg _ _ _ _ _ (by omega)

private theorem vpad_apply0 (q : Fin 256) (e : Fin 128) :
    vpad 0 v (ix2 q e) = if q.val / 64 = 0 then v (ix2 ⟨q.val % 64, by omega⟩ e) else 0 := by
  have hq := q.isLt
  pointwise [vpad]
  refine (ladder (fun n h => v (ix2 ⟨n, h⟩ e)) (fun n h => zrow (F := Ideal) (ix2 ⟨n, h⟩ e)) (fun n h => zrow (F := Ideal) (ix2 ⟨n, h⟩ e)) (fun n h => zrow (F := Ideal) (ix2 ⟨n, h⟩ e)) q.val hq (fun _ _ _ => by omega)).trans ?_
  simp only [zrow_apply]
  by_cases h0 : q.val / 64 = 0
  · simp [h0]
  · by_cases h1 : q.val / 64 = 1
    · simp [h1]
    · by_cases h2 : q.val / 64 = 2
      · simp [h2]
      · have h3 : q.val / 64 = 3 := by omega
        simp [h3]

private theorem vpad_apply1 (q : Fin 256) (e : Fin 128) :
    vpad 1 v (ix2 q e) = if q.val / 64 = 1 then v (ix2 ⟨q.val % 64, by omega⟩ e) else 0 := by
  have hq := q.isLt
  pointwise [vpad]
  refine (ladder (fun n h => zrow (F := Ideal) (ix2 ⟨n, h⟩ e)) (fun n h => v (ix2 ⟨n, h⟩ e)) (fun n h => zrow (F := Ideal) (ix2 ⟨n, h⟩ e)) (fun n h => zrow (F := Ideal) (ix2 ⟨n, h⟩ e)) q.val hq (fun _ _ _ => by omega)).trans ?_
  simp only [zrow_apply]
  by_cases h0 : q.val / 64 = 0
  · simp [h0]
  · by_cases h1 : q.val / 64 = 1
    · simp [h1]
    · by_cases h2 : q.val / 64 = 2
      · simp [h2]
      · have h3 : q.val / 64 = 3 := by omega
        simp [h3]

private theorem vpad_apply2 (q : Fin 256) (e : Fin 128) :
    vpad 2 v (ix2 q e) = if q.val / 64 = 2 then v (ix2 ⟨q.val % 64, by omega⟩ e) else 0 := by
  have hq := q.isLt
  pointwise [vpad]
  refine (ladder (fun n h => zrow (F := Ideal) (ix2 ⟨n, h⟩ e)) (fun n h => zrow (F := Ideal) (ix2 ⟨n, h⟩ e)) (fun n h => v (ix2 ⟨n, h⟩ e)) (fun n h => zrow (F := Ideal) (ix2 ⟨n, h⟩ e)) q.val hq (fun _ _ _ => by omega)).trans ?_
  simp only [zrow_apply]
  by_cases h0 : q.val / 64 = 0
  · simp [h0]
  · by_cases h1 : q.val / 64 = 1
    · simp [h1]
    · by_cases h2 : q.val / 64 = 2
      · simp [h2]
      · have h3 : q.val / 64 = 3 := by omega
        simp [h3]

private theorem vpad_apply3 (q : Fin 256) (e : Fin 128) :
    vpad 3 v (ix2 q e) = if q.val / 64 = 3 then v (ix2 ⟨q.val % 64, by omega⟩ e) else 0 := by
  have hq := q.isLt
  pointwise [vpad]
  refine (ladder (fun n h => zrow (F := Ideal) (ix2 ⟨n, h⟩ e)) (fun n h => zrow (F := Ideal) (ix2 ⟨n, h⟩ e)) (fun n h => zrow (F := Ideal) (ix2 ⟨n, h⟩ e)) (fun n h => v (ix2 ⟨n, h⟩ e)) q.val hq (fun _ _ _ => by omega)).trans ?_
  simp only [zrow_apply]
  by_cases h0 : q.val / 64 = 0
  · simp [h0]
  · by_cases h1 : q.val / 64 = 1
    · simp [h1]
    · by_cases h2 : q.val / 64 = 2
      · simp [h2]
      · have h3 : q.val / 64 = 3 := by omega
        simp [h3]

theorem vpad_apply (q : Fin 256) (e : Fin 128) :
    vpad c v (ix2 q e) = if q.val / 64 = c.val then v (ix2 ⟨q.val % 64, by omega⟩ e) else 0 := by
  match c with
  | 0 => exact vpad_apply0 v q e
  | 1 => exact vpad_apply1 v q e
  | 2 => exact vpad_apply2 v q e
  | 3 => exact vpad_apply3 v q e

theorem vpad_row (j : Fin 64) (e : Fin 128) : vpad c v (ix2 (row c j) e) = v (ix2 j e) := by
  rw [vpad_apply, if_pos (by show (64 * c.val + j.val) / 64 = c.val; omega)]
  congr 2
  apply Fin.ext
  show (64 * c.val + j.val) % 64 = j.val
  omega

theorem outc_apply (r : Fin 64) (e : Fin 128) :
    outc c at' qd s v (ix2 r e) = (∑ k : Fin 128, qd (ix2 r k) * s (ix2 k e)) + ∑ j : Fin 64, at' (ix2 r (row c j)) * v (ix2 j e) := by
  pointwise [outc]
  refine congrArg _ ((sum_row c _ fun q hq => ?_).trans (Finset.sum_congr rfl fun j _ => ?_))
  · rw [vpad_apply, if_neg hq, mul_zero]
  · rw [vpad_row]

theorem neg_apply (r : Fin 64) (e : Fin 128) : neg n (ix2 r e) = - n (ix2 r e) := by
  pointwise [neg, zrow]
  exact zero_sub _

theorem dval_apply (r : Fin 64) (e : Fin 128) :
    dval c at' kd o g (ix2 r e) = (∑ k : Fin 128, g (ix2 k e) * kd (ix2 r k)) + ∑ j : Fin 64, o (ix2 j e) * at' (ix2 j (row c r)) := by
  have hr : ∀ (k : Fin 4) (h : 64 * k.val + r.val < 256), (⟨64 * k.val + r.val, h⟩ : Fin 256) = row k r := fun _ _ => rfl
  fin_cases c
  · pointwise [dval, wideT]
    rw [← hr 0 (by omega)]
    simp
  all_goals (pointwise [dval, wideT]; rfl)

theorem dkc_apply (r : Fin 64) (d : Fin 128) : dkc s n (ix2 r d) = ∑ e : Fin 128, n (ix2 r e) * s (ix2 d e) := by
  pointwise [dkc]

theorem dqd_apply (r : Fin 64) (d : Fin 128) : dqd s o (ix2 r d) = ∑ e : Fin 128, o (ix2 r e) * s (ix2 d e) := by
  pointwise [dqd]

theorem dkd_apply (r : Fin 64) (d : Fin 128) : dkd v g (ix2 r d) = ∑ e : Fin 128, g (ix2 d e) * v (ix2 r e) := by
  pointwise [dkd]

theorem dat_apply (r : Fin 64) (q : Fin 256) :
    dat c v o (ix2 r q) = if q.val / 64 = c.val then ∑ e : Fin 128, o (ix2 r e) * v (ix2 ⟨q.val % 64, by omega⟩ e) else 0 := by
  pointwise [dat]
  simp only [vpad_apply]
  split_ifs with h
  · rfl
  · exact Finset.sum_eq_zero fun e _ => mul_zero _

theorem dgb_apply (r : Fin 64) (e : Fin 128) :
    dgb gb s g (ix2 r e) = (∑ d : Fin 128, s (ix2 d e) * g (ix2 d e)) * dec gb (ix2 0 e) := by
  pointwise [dgb]
  exact Fin.sum_univ_one _

theorem prev_apply (d e : Fin 128) :
    prev kc qd gb o n g (ix2 d e) = g (ix2 d e) * dec gb (ix2 0 e) + (∑ r : Fin 64, o (ix2 r e) * qd (ix2 r d)) + ∑ r : Fin 64, n (ix2 r e) * kc (ix2 r d) := by
  pointwise [prev]

end Cert.KernelIdeal.Chunk

end
-- ==== Proof.Spec.lean ====
module

public import Idealize.ShloMosaic.Lib.Pointwise

@[expose] public section

noncomputable section

/-! ## The recurrence and its gradient, over the extended reals

Two sequences of 2048 rows, each cut into 32 chunks of 64 rows; 8 heads of 128 columns. A chunk's square of the triangular
array lies in the columns of its place among four neighbours. The state runs forward over the chunks, its gradient
backward. Chunks are numbered by naturals, read modulo 32. -/

namespace Cert.Spec

open Idealize.ShloMosaic

/-- Row `r` of chunk `n` of sequence `b`. -/
def row (b : Fin 2) (n : ℕ) (r : Fin 64) : Fin 4096 := ⟨2048 * b.val + 64 * (n % 32) + r.val, by omega⟩
/-- Column `e` of head `h`. -/
def col (h : Fin 8) (e : Fin 128) : Fin 1024 := ⟨128 * h.val + e.val, by omega⟩
/-- Column `q` of head `h` in the triangular array. -/
def wcol (h : Fin 8) (q : Fin 256) : Fin 2048 := ⟨256 * h.val + q.val, by omega⟩
/-- Column `j` of chunk `n`'s own square. -/
def tri (n : ℕ) (j : Fin 64) : Fin 256 := ⟨64 * (n % 4) + j.val, by omega⟩

/-- The seven arguments: values, keys, triangular squares, queries, decayed keys, gates, and the gradient of the output. -/
structure Args where
  val : Fin 4096 → Fin 1024 → EReal
  kc : Fin 4096 → Fin 1024 → EReal
  att : Fin 4096 → Fin 2048 → EReal
  qd : Fin 4096 → Fin 1024 → EReal
  kd : Fin 4096 → Fin 1024 → EReal
  gb : Fin 4096 → Fin 1024 → EReal
  go : Fin 4096 → Fin 1024 → EReal

variable (A : Args) (b : Fin 2) (h : Fin 8)

/-- A chunk's decay in column `e`. -/
def dec (n : ℕ) (e : Fin 128) : EReal := Ideal.exp (∑ r : Fin 64, A.gb (row b n r) (col h e))
/-- What chunk `n` writes into the state `S`. -/
def vnew (S : Fin 128 → Fin 128 → EReal) (n : ℕ) (r : Fin 64) (e : Fin 128) : EReal :=
  A.val (row b n r) (col h e) - ∑ k : Fin 128, A.kc (row b n r) (col h k) * S k e
/-- The state before chunk `n`. -/
def state : ℕ → Fin 128 → Fin 128 → EReal
  | 0 => fun _ _ => 0
  | n + 1 => fun d e => state n d e * dec A b h n e + ∑ r : Fin 64, A.kd (row b n r) (col h d) * vnew A b h (state n) n r e
/-- The output. -/
def out (n : ℕ) (r : Fin 64) (e : Fin 128) : EReal :=
  (∑ k : Fin 128, A.qd (row b n r) (col h k) * state A b h n k e)
    + ∑ j : Fin 64, A.att (row b n r) (wcol h (tri n j)) * vnew A b h (state A b h n) n j e

/-- The gradient of what chunk `n` wrote, from the gradient `G` of the state after it. -/
def gv (G : Fin 128 → Fin 128 → EReal) (n : ℕ) (r : Fin 64) (e : Fin 128) : EReal :=
  (∑ k : Fin 128, G k e * A.kd (row b n r) (col h k)) + ∑ j : Fin 64, A.go (row b n j) (col h e) * A.att (row b n j) (wcol h (tri n r))
/-- The gradient of the state before chunk `n`, from the gradient `G` of the state after it. -/
def back (G : Fin 128 → Fin 128 → EReal) (n : ℕ) (d e : Fin 128) : EReal :=
  G d e * dec A b h n e + (∑ r : Fin 64, A.go (row b n r) (col h e) * A.qd (row b n r) (col h d))
    + ∑ r : Fin 64, -(gv A b h G n r e) * A.kc (row b n r) (col h d)
/-- The gradient of the state after the last `k` chunks were taken back. -/
def grad : ℕ → Fin 128 → Fin 128 → EReal
  | 0 => fun _ _ => 0
  | k + 1 => back A b h (grad k) (31 - k)
/-- The gradient of the state after chunk `n`. -/
def after (n : ℕ) : Fin 128 → Fin 128 → EReal := grad A b h (31 - n)

/-- The gradient of the values. -/
def dval (n : ℕ) (r : Fin 64) (e : Fin 128) : EReal := gv A b h (after A b h n) n r e
/-- The gradient of the keys. -/
def dkc (n : ℕ) (r : Fin 64) (d : Fin 128) : EReal := ∑ e : Fin 128, -(gv A b h (after A b h n) n r e) * state A b h n d e
/-- The gradient of the triangular square. -/
def dat (n : ℕ) (r j : Fin 64) : EReal := ∑ e : Fin 128, A.go (row b n r) (col h e) * vnew A b h (state A b h n) n j e
/-- The same as a row of the four neighbours' columns. -/
def datw (n : ℕ) (r : Fin 64) (q : Fin 256) : EReal := if q.val / 64 = n % 4 then dat A b h n r ⟨q.val % 64, by omega⟩ else 0
/-- The gradient of the queries. -/
def dqd (n : ℕ) (r : Fin 64) (d : Fin 128) : EReal := ∑ e : Fin 128, A.go (row b n r) (col h e) * state A b h n d e
/-- The gradient of the decayed keys. -/
def dkd (n : ℕ) (r : Fin 64) (d : Fin 128) : EReal := ∑ e : Fin 128, after A b h n d e * vnew A b h (state A b h n) n r e
/-- The gradient of the gates, the same in every row of the chunk. -/
def dgb (n : ℕ) (_r : Fin 64) (e : Fin 128) : EReal := (∑ d : Fin 128, state A b h n d e * after A b h n d e) * dec A b h n e

/-- One step of the gradient back over chunk `n`. -/
theorem back_after (n : ℕ) (hn : n < 31) : back A b h (after A b h (n + 1)) (n + 1) = after A b h n := by
  unfold after
  obtain ⟨k, rfl⟩ : ∃ k, n = 30 - k := ⟨30 - n, by omega⟩
  rw [show 31 - (30 - k) = (31 - (30 - k + 1)) + 1 by omega, grad, show 31 - (31 - (30 - k + 1)) = 30 - k + 1 by omega]

theorem after_last : after A b h 31 = fun _ _ => 0 := rfl

/-- Every row is a row of a chunk of a sequence. -/
theorem row_surj (i : Fin 4096) : ∃ (b : Fin 2) (n : ℕ) (r : Fin 64), n < 32 ∧ i = row b n r :=
  ⟨⟨i.val / 2048, by omega⟩, i.val / 64 % 32, ⟨i.val % 64, by omega⟩, by omega, Fin.ext (by show i.val = 2048 * (i.val / 2048) + 64 * (i.val / 64 % 32 % 32) + i.val % 64; omega)⟩
/-- Every column is a column of a head. -/
theorem col_surj (j : Fin 1024) : ∃ (h : Fin 8) (e : Fin 128), j = col h e :=
  ⟨⟨j.val / 128, by omega⟩, ⟨j.val % 128, by omega⟩, Fin.ext (by show j.val = 128 * (j.val / 128) + j.val % 128; omega)⟩
/-- Every column of the triangular array is a column of a head. -/
theorem wcol_surj (j : Fin 2048) : ∃ (h : Fin 8) (q : Fin 256), j = wcol h q :=
  ⟨⟨j.val / 256, by omega⟩, ⟨j.val % 256, by omega⟩, Fin.ext (by show j.val = 256 * (j.val / 256) + j.val % 256; omega)⟩

end Cert.Spec

end
-- ==== Proof.Fwd.Block.lean ====
module

public import proofs.«01_k».proof.Proof.Fwd.Lists
public import proofs.«01_k».proof.Proof.ChunkIdeal
public import proofs.«01_k».proof.Proof.Spec

@[expose] public section

set_option maxRecDepth 16384

noncomputable section

/-! ## What the forward body computes for block `k` of sequence `b` -/

namespace Cert.KernelIdeal.Fwd

open Idealize.ShloMosaic Idealize.ShloMosaic.TcCoe Idealize.ShloMosaic.Tactic
open Cert.KernelIdeal.Gen

/-- The pieces a forward point loads are those of block `k` of sequence `b`. -/
structure Holds (A : Spec.Args) (b : Fin 2) (k : ℕ) (val : Fin 4 → Fin 8 → Vec Ideal S64x128 .f32) (kc : Fin 4 → Fin 8 → Vec Ideal S64x128 .bf16)
    (at' : Fin 4 → Fin 8 → Vec Ideal S64x256 .bf16) (qd kd : Fin 4 → Fin 8 → Vec Ideal S64x128 .bf16) (gb : Fin 4 → Fin 8 → Vec Ideal S64x128 .f32) : Prop where
  val : ∀ c h r e, val c h (ix2 r e) = A.val (Spec.row b (4 * k + c.val) r) (Spec.col h e)
  kc : ∀ c h r e, kc c h (ix2 r e) = A.kc (Spec.row b (4 * k + c.val) r) (Spec.col h e)
  att : ∀ c h r q, at' c h (ix2 r q) = A.att (Spec.row b (4 * k + c.val) r) (Spec.wcol h q)
  qd : ∀ c h r e, qd c h (ix2 r e) = A.qd (Spec.row b (4 * k + c.val) r) (Spec.col h e)
  kd : ∀ c h r e, kd c h (ix2 r e) = A.kd (Spec.row b (4 * k + c.val) r) (Spec.col h e)
  gb : ∀ c h r e, gb c h (ix2 r e) = A.gb (Spec.row b (4 * k + c.val) r) (Spec.col h e)

section
variable {A : Spec.Args} {b : Fin 2} {k : ℕ} {val : Fin 4 → Fin 8 → Vec Ideal S64x128 .f32} {kc : Fin 4 → Fin 8 → Vec Ideal S64x128 .bf16}
  {at' : Fin 4 → Fin 8 → Vec Ideal S64x256 .bf16} {qd kd : Fin 4 → Fin 8 → Vec Ideal S64x128 .bf16} {gb : Fin 4 → Fin 8 → Vec Ideal S64x128 .f32}
  (H : Holds A b k val kc at' qd kd gb)
include H

theorem Holds.dec (c : Fin 4) (h : Fin 8) (e : Fin 128) : Chunk.dec (gb c h) (ix2 0 e) = Spec.dec A b h (4 * k + c.val) e := by
  rw [Chunk.dec_apply]
  simp only [H.gb]
  rfl

theorem Holds.vnew {c : Fin 4} {h : Fin 8} {s : FVec Ideal S128x128 .f32} {S : Fin 128 → Fin 128 → EReal} (hs : ∀ d e, s (ix2 d e) = S d e)
    (r : Fin 64) (e : Fin 128) : Chunk.vnew (val c h) (kc c h) s (ix2 r e) = Spec.vnew A b h S (4 * k + c.val) r e := by
  rw [Chunk.vnew_apply]
  simp only [H.val, H.kc, hs]
  rfl

theorem Holds.step {c : Fin 4} {h : Fin 8} {s : FVec Ideal S128x128 .f32} (hs : ∀ d e, s (ix2 d e) = Spec.state A b h (4 * k + c.val) d e)
    (d e : Fin 128) : stepAt val kc kd gb c h s (ix2 d e) = Spec.state A b h (4 * k + c.val + 1) d e := by
  unfold stepAt
  rw [Chunk.next_apply, hs, H.dec]
  simp only [H.kd, H.vnew hs]
  rfl

variable {s : Fin 8 → Vec Ideal S1x128x128 .f32} (hs : ∀ h d e, s h (ix3 0 d e) = Spec.state A b h (4 * k) d e)
include hs

/-- The states before the block's chunks. -/
theorem Holds.st (c : Fin 4) (h : Fin 8) (d e : Fin 128) : st val kc kd gb s c h (ix2 d e) = Spec.state A b h (4 * k + c.val) d e := by
  have h0 : ∀ d e, st0 s h (ix2 d e) = Spec.state A b h (4 * k) d e := fun d e => by
    rw [← hs]
    pointwise [st0]
  have h1 := H.step (c := 0) (h := h) (s := st0 s h) h0
  have h2 := H.step (c := 1) (h := h) h1
  have h3 := H.step (c := 2) (h := h) h2
  match c with
  | 0 => exact h0 d e
  | 1 => exact h1 d e
  | 2 => exact h2 d e
  | 3 => exact h3 d e

/-- The state after the block. -/
theorem Holds.stEnd (h : Fin 8) (d e : Fin 128) : stEnd val kc kd gb s h (ix2 d e) = Spec.state A b h (4 * (k + 1)) d e :=
  H.step (c := 3) (h := h) (fun d e => H.st hs 3 h d e) d e

/-- The outputs. -/
theorem Holds.outAt (c : Fin 4) (h : Fin 8) (r : Fin 64) (e : Fin 128) :
    outAt val kc at' qd kd gb s c h (ix2 r e) = Spec.out A b h (4 * k + c.val) r e := by
  have hr : ∀ j : Fin 64, Chunk.row c j = Spec.tri (4 * k + c.val) j := fun j => Fin.ext (by
    show 64 * c.val + j.val = 64 * ((4 * k + c.val) % 4) + j.val
    omega)
  unfold Fwd.outAt
  rw [Chunk.outc_apply]
  simp only [H.qd, H.att, H.st hs, H.vnew (fun d e => H.st hs c h d e), hr]
  rfl
end

end Cert.KernelIdeal.Fwd

end
-- ==== Proof.Reads.lean ====
module

public import proofs.«01_k».proof.Proof.Places
public import Idealize.ShloMosaic.Lib.Pointwise
public import Idealize.ShloMosaic.Lib.Writes
public import Idealize.ShloMosaic.Lib.Pipeline.ValueKit.Geometry

@[expose] public section

set_option maxRecDepth 16384

noncomputable section

/-! ## Reading what the stores at the places left, and loading at the places -/

namespace Cert.KernelIdeal.Places

open Idealize.ShloMosaic Idealize.ShloMosaic.TcCoe Idealize.ShloMosaic.Tactic
open Cert.KernelIdeal.Gen

/-- Row `r` of chunk `c` of a block. -/
abbrev prow (c : Fin 4) (r : Fin 64) : Fin 256 := ⟨64 * c.val + r.val, by omega⟩
/-- Column `e` of head `h`. -/
abbrev pcol (h : Fin 8) (e : Fin 128) : Fin 1024 := ⟨128 * h.val + e.val, by omega⟩
/-- Column `q` of head `h` of the triangular array. -/
abbrev pwcol (h : Fin 8) (q : Fin 256) : Fin 2048 := ⟨256 * h.val + q.val, by omega⟩
/-- Row `d` of the saved state of head `h`, chunk `c`. -/
abbrev psnap (c : Fin 4) (h : Fin 8) (d : Fin 128) : Fin 4096 := ⟨128 * (4 * h.val + c.val) + d.val, by omega⟩

theorem piece_emb (c : Fin 4) (h : Fin 8) (r : Fin 64) (e : Fin 128) : (piece c h).emb (ix2 r e) = ix2 (prow c r) (pcol h e) := by
  funext a
  apply Fin.ext
  rw [ValueKit.rect_emb_unit_val]
  match a with
  | ⟨0, _⟩ => rfl
  | ⟨1, _⟩ => rfl
theorem wide_emb (c : Fin 4) (h : Fin 8) (r : Fin 64) (q : Fin 256) : (wide c h).emb (ix2 r q) = ix2 (prow c r) (pwcol h q) := by
  funext a
  apply Fin.ext
  rw [ValueKit.rect_emb_unit_val]
  match a with
  | ⟨0, _⟩ => rfl
  | ⟨1, _⟩ => rfl
theorem snap_emb (c : Fin 4) (h : Fin 8) (d e : Fin 128) : (snap c h).emb (ix2 d e) = ix2 (psnap c h d) e := by
  funext a
  apply Fin.ext
  rw [ValueKit.rect_emb_unit_val]
  match a with
  | ⟨0, _⟩ => rfl
  | ⟨1, _⟩ => exact Nat.zero_add _
theorem lay_emb (h : Fin 8) (z : Fin 1) (d e : Fin 128) : (lay h).emb (ix3 z d e) = ix3 h d e := by
  funext a
  apply Fin.ext
  rw [ValueKit.rect_emb_unit_val]
  match a with
  | ⟨0, _⟩ => show h.val + z.val = h.val; omega
  | ⟨1, _⟩ => exact Nat.zero_add _
  | ⟨2, _⟩ => exact Nat.zero_add _

section Load
variable {F : FTy → Type} [FloatOps F] {e : EltTy}

theorem rd_apply (m : Memref sig .tc .vmem S256x1024 e) (hm : m.IsWhole) (x : Vec F S256x1024 e) (c : Fin 4) (h : Fin 8) (r : Fin 64) (j : Fin 128) :
    rd m hm x c h (ix2 r j) = x (ix2 (prow c r) (pcol h j)) :=
  (hm.readAt_unread x _ _).trans (congrArg x (piece_emb c h r j))
theorem rdw_apply (m : Memref sig .tc .vmem S256x2048 e) (hm : m.IsWhole) (x : Vec F S256x2048 e) (c : Fin 4) (h : Fin 8) (r : Fin 64) (j : Fin 256) :
    rdw m hm x c h (ix2 r j) = x (ix2 (prow c r) (pwcol h j)) :=
  (hm.readAt_unread x _ _).trans (congrArg x (wide_emb c h r j))
theorem rdn_apply (m : Memref sig .tc .vmem S4096x128 e) (hm : m.IsWhole) (x : Vec F S4096x128 e) (c : Fin 4) (h : Fin 8) (d j : Fin 128) :
    rdn m hm x c h (ix2 d j) = x (ix2 (psnap c h d) j) :=
  (hm.readAt_unread x _ _).trans (congrArg x (snap_emb c h d j))
theorem rds_apply (m : Memref sig .tc .vmem S8x128x128 e) (hm : m.IsWhole) (x : Vec F S8x128x128 e) (h : Fin 8) (z : Fin 1) (d j : Fin 128) :
    rds m hm x h (ix3 z d j) = x (ix3 h d j) :=
  (hm.readAt_unread x _ _).trans (congrArg x (lay_emb h z d j))
end Load

section Store
variable {Val : EltTy → Type} {e : EltTy} {sp : Space} {l : List (Fin 4 × Fin 8)} (hl : ∀ p, p ∈ l)
include hl

/-- Stores of the pieces, read back at a place. -/
theorem read_pieces (v : View sig .tc sp S256x1024 e) (f) (g : Fin 4 → Fin 8 → S64x128.Idx → Val e) (c : Fin 4) (h : Fin 8) (r : Fin 64) (j : Fin 128) :
    v.read Val (v.writes Val f (l.map fun p => ⟨piece p.1 p.2, g p.1 p.2⟩)) (ix2 (prow c r) (pcol h j)) = g c h (ix2 r j) := by
  let G : S256x1024.Idx → Val e := fun y => g ⟨(y 0).val / 64, by have := (y 0).isLt; change _ < 256 at this; omega⟩ ⟨(y 1).val / 128, by have := (y 1).isLt; change _ < 1024 at this; omega⟩
    (ix2 ⟨(y 0).val % 64, by omega⟩ ⟨(y 1).val % 128, by omega⟩)
  have hG : ∀ (c : Fin 4) (h : Fin 8) (r : Fin 64) (j : Fin 128), G (ix2 (prow c r) (pcol h j)) = g c h (ix2 r j) := by
    intro c h r j
    have e1 : (⟨(64 * c.val + r.val) / 64, by omega⟩ : Fin 4) = c := Fin.ext (by show (64 * c.val + r.val) / 64 = c.val; omega)
    have e2 : (⟨(128 * h.val + j.val) / 128, by omega⟩ : Fin 8) = h := Fin.ext (by show (128 * h.val + j.val) / 128 = h.val; omega)
    have e3 : (⟨(64 * c.val + r.val) % 64, by omega⟩ : Fin 64) = r := Fin.ext (by show (64 * c.val + r.val) % 64 = r.val; omega)
    have e4 : (⟨(128 * h.val + j.val) % 128, by omega⟩ : Fin 128) = j := Fin.ext (by show (128 * h.val + j.val) % 128 = j.val; omega)
    show g ⟨(64 * c.val + r.val) / 64, _⟩ ⟨(128 * h.val + j.val) / 128, _⟩ (ix2 ⟨(64 * c.val + r.val) % 64, _⟩ ⟨(128 * h.val + j.val) % 128, _⟩) = _
    rw [e1, e2, e3, e4]
  refine (View.read_writes_apply_of_pieces v f G _ ?_ _ ?_).trans (hG c h r j)
  · intro p hp x
    obtain ⟨⟨c', h'⟩, -, rfl⟩ := List.mem_map.mp hp
    change S64x128.Idx at x
    obtain ⟨r', j', rfl⟩ : ∃ r' j', x = ix2 r' j' := ⟨x 0, x 1, by funext a; match a with | ⟨0, _⟩ => rfl | ⟨1, _⟩ => rfl⟩
    exact ((congrArg G (piece_emb c' h' r' j')).trans (hG c' h' r' j')).symm
  · refine ⟨_, List.mem_map.mpr ⟨(c, h), hl _, rfl⟩, ?_⟩
    rw [← piece_emb, ← Rect.map_emb_univ]
    exact Finset.mem_map_of_mem _ (Finset.mem_univ _)

/-- The same of the triangular array. -/
theorem read_wides (v : View sig .tc sp S256x2048 e) (f) (g : Fin 4 → Fin 8 → S64x256.Idx → Val e) (c : Fin 4) (h : Fin 8) (r : Fin 64) (j : Fin 256) :
    v.read Val (v.writes Val f (l.map fun p => ⟨wide p.1 p.2, g p.1 p.2⟩)) (ix2 (prow c r) (pwcol h j)) = g c h (ix2 r j) := by
  let G : S256x2048.Idx → Val e := fun y => g ⟨(y 0).val / 64, by have := (y 0).isLt; change _ < 256 at this; omega⟩ ⟨(y 1).val / 256, by have := (y 1).isLt; change _ < 2048 at this; omega⟩
    (ix2 ⟨(y 0).val % 64, by omega⟩ ⟨(y 1).val % 256, by omega⟩)
  have hG : ∀ (c : Fin 4) (h : Fin 8) (r : Fin 64) (j : Fin 256), G (ix2 (prow c r) (pwcol h j)) = g c h (ix2 r j) := by
    intro c h r j
    have e1 : (⟨(64 * c.val + r.val) / 64, by omega⟩ : Fin 4) = c := Fin.ext (by show (64 * c.val + r.val) / 64 = c.val; omega)
    have e2 : (⟨(256 * h.val + j.val) / 256, by omega⟩ : Fin 8) = h := Fin.ext (by show (256 * h.val + j.val) / 256 = h.val; omega)
    have e3 : (⟨(64 * c.val + r.val) % 64, by omega⟩ : Fin 64) = r := Fin.ext (by show (64 * c.val + r.val) % 64 = r.val; omega)
    have e4 : (⟨(256 * h.val + j.val) % 256, by omega⟩ : Fin 256) = j := Fin.ext (by show (256 * h.val + j.val) % 256 = j.val; omega)
    show g ⟨(64 * c.val + r.val) / 64, _⟩ ⟨(256 * h.val + j.val) / 256, _⟩ (ix2 ⟨(64 * c.val + r.val) % 64, _⟩ ⟨(256 * h.val + j.val) % 256, _⟩) = _
    rw [e1, e2, e3, e4]
  refine (View.read_writes_apply_of_pieces v f G _ ?_ _ ?_).trans (hG c h r j)
  · intro p hp x
    obtain ⟨⟨c', h'⟩, -, rfl⟩ := List.mem_map.mp hp
    change S64x256.Idx at x
    obtain ⟨r', j', rfl⟩ : ∃ r' j', x = ix2 r' j' := ⟨x 0, x 1, by funext a; match a with | ⟨0, _⟩ => rfl | ⟨1, _⟩ => rfl⟩
    exact ((congrArg G (wide_emb c' h' r' j')).trans (hG c' h' r' j')).symm
  · refine ⟨_, List.mem_map.mpr ⟨(c, h), hl _, rfl⟩, ?_⟩
    rw [← wide_emb, ← Rect.map_emb_univ]
    exact Finset.mem_map_of_mem _ (Finset.mem_univ _)

/-- The same of the saved states. -/
theorem read_snaps (v : View sig .tc sp S4096x128 e) (f) (g : Fin 4 → Fin 8 → S128x128.Idx → Val e) (c : Fin 4) (h : Fin 8) (d j : Fin 128) :
    v.read Val (v.writes Val f (l.map fun p => ⟨snap p.1 p.2, g p.1 p.2⟩)) (ix2 (psnap c h d) j) = g c h (ix2 d j) := by
  let G : S4096x128.Idx → Val e := fun y => g ⟨(y 0).val / 128 % 4, by omega⟩ ⟨(y 0).val / 512, by have := (y 0).isLt; change _ < 4096 at this; omega⟩ (ix2 ⟨(y 0).val % 128, by omega⟩ (y 1))
  have hG : ∀ (c : Fin 4) (h : Fin 8) (d j : Fin 128), G (ix2 (psnap c h d) j) = g c h (ix2 d j) := by
    intro c h d j
    have e1 : (⟨(128 * (4 * h.val + c.val) + d.val) / 128 % 4, by omega⟩ : Fin 4) = c := Fin.ext (by show (128 * (4 * h.val + c.val) + d.val) / 128 % 4 = c.val; omega)
    have e2 : (⟨(128 * (4 * h.val + c.val) + d.val) / 512, by omega⟩ : Fin 8) = h := Fin.ext (by show (128 * (4 * h.val + c.val) + d.val) / 512 = h.val; omega)
    have e3 : (⟨(128 * (4 * h.val + c.val) + d.val) % 128, by omega⟩ : Fin 128) = d := Fin.ext (by show (128 * (4 * h.val + c.val) + d.val) % 128 = d.val; omega)
    show g ⟨(128 * (4 * h.val + c.val) + d.val) / 128 % 4, _⟩ ⟨(128 * (4 * h.val + c.val) + d.val) / 512, _⟩ (ix2 ⟨(128 * (4 * h.val + c.val) + d.val) % 128, _⟩ j) = _
    rw [e1, e2, e3]
  refine (View.read_writes_apply_of_pieces v f G _ ?_ _ ?_).trans (hG c h d j)
  · intro p hp x
    obtain ⟨⟨c', h'⟩, -, rfl⟩ := List.mem_map.mp hp
    change S128x128.Idx at x
    obtain ⟨r', j', rfl⟩ : ∃ r' j', x = ix2 r' j' := ⟨x 0, x 1, by funext a; match a with | ⟨0, _⟩ => rfl | ⟨1, _⟩ => rfl⟩
    exact ((congrArg G (snap_emb c' h' r' j')).trans (hG c' h' r' j')).symm
  · refine ⟨_, List.mem_map.mpr ⟨(c, h), hl _, rfl⟩, ?_⟩
    rw [← snap_emb, ← Rect.map_emb_univ]
    exact Finset.mem_map_of_mem _ (Finset.mem_univ _)
end Store

/-- Stores of the eight heads of the carried state over anything before them, read back. -/
theorem read_lays {Val : EltTy → Type} {e : EltTy} {sp : Space} (v : View sig .tc sp S8x128x128 e) (f) (L : List (View.Piece Val S8x128x128 e))
    (g : Fin 8 → S1x128x128.Idx → Val e) (h : Fin 8) (d j : Fin 128) :
    v.read Val (v.writes Val f ((heads.map fun h => ⟨lay h, g h⟩) ++ L)) (ix3 h d j) = g h (ix3 0 d j) := by
  rw [View.writes_append]
  let G : S8x128x128.Idx → Val e := fun y => g (y 0) (ix3 0 (y 1) (y 2))
  refine View.read_writes_apply_of_pieces v _ G _ ?_ _ ?_
  · intro p hp x
    obtain ⟨h', -, rfl⟩ := List.mem_map.mp hp
    change S1x128x128.Idx at x
    obtain ⟨z, d', j', rfl⟩ : ∃ (z : Fin 1) (d' j' : Fin 128), x = ix3 z d' j' := ⟨x 0, x 1, x 2, by funext a; match a with | ⟨0, _⟩ => rfl | ⟨1, _⟩ => rfl | ⟨2, _⟩ => rfl⟩
    obtain rfl : z = 0 := Subsingleton.elim _ _
    exact (congrArg G (lay_emb h' 0 d' j')).symm
  · refine ⟨_, List.mem_map.mpr ⟨h, by fin_cases h <;> decide, rfl⟩, ?_⟩
    rw [← lay_emb h 0, ← Rect.map_emb_univ]
    exact Finset.mem_map_of_mem _ (Finset.mem_univ _)

/-- A carried state that one store covered, loaded at a head. -/
theorem readCov_lay {Val : EltTy → Type} [∀ e, Nonempty (Val e)] {e : EltTy} {sp : Space} (v : View sig .tc sp S8x128x128 e) (inb) (x : S8x128x128.Idx → Val e) (h : Fin 8) (z : Fin 1) (d j : Fin 128) :
    v.readCov [⟨Rect.unit ![0, 0, 0] S8x128x128.size inb, x⟩] (lay h).toLoadRect (ix3 z d j) = x (ix3 h d j) := by
  show v.read Val (v.writes Val v.junk _) ((lay h).emb (ix3 z d j)) = _
  rw [lay_emb]
  have hz : ∀ y : S8x128x128.Idx, (Rect.unit (s := S8x128x128) ![0, 0, 0] S8x128x128.size inb).emb y = y := fun y => by
    funext a
    apply Fin.ext
    rw [ValueKit.rect_emb_unit_val]
    match a with
    | ⟨0, _⟩ => exact Nat.zero_add _
    | ⟨1, _⟩ => exact Nat.zero_add _
    | ⟨2, _⟩ => exact Nat.zero_add _
  refine View.read_writes_apply_of_pieces v _ x _ ?_ _ ?_
  · intro p hp y
    obtain rfl := List.mem_singleton.mp hp
    exact congrArg x (hz y).symm
  · refine ⟨_, List.mem_singleton.mpr rfl, ?_⟩
    rw [← hz (ix3 h d j), ← Rect.map_emb_univ]
    exact Finset.mem_map_of_mem _ (Finset.mem_univ _)

theorem mem_order : ∀ p : Fin 4 × Fin 8, p ∈ order := by decide
theorem mem_redro : ∀ p : Fin 4 × Fin 8, p ∈ redro := by decide

end Cert.KernelIdeal.Places

end
-- ==== Proof.Fwd.Values.lean ====
module

public import proofs.«01_k».proof.Proof.Fwd.Region
public import proofs.«01_k».proof.Proof.Fwd.Block
public import proofs.«01_k».proof.Proof.Reads

@[expose] public section

set_option maxRecDepth 16384

noncomputable section

/-! ## What the forward call leaves in its two arrays -/

namespace Cert.KernelIdeal.Fwd

open Idealize.ShloMosaic Idealize.ShloMosaic.TcCoe Idealize.ShloMosaic.Tactic
open Idealize.ShloMosaic.Pipeline (Dat Cfg Window)
open Cert.KernelIdeal.Gen Cert.KernelIdeal.Places

variable (V : (c : Dev nD) → (b : Ref sig .tc) → Buf (Elt Ideal) ((c : Thread nD τ).loc b)) (c : Dev nD)

/-- The arguments as the call finds them. -/
def args : Spec.Args where
  val i j := V c main_arg0 (ix2 i j)
  kc i j := V c main_arg1 (ix2 i j)
  att i j := V c main_arg2 (ix2 i j)
  qd i j := V c main_arg3 (ix2 i j)
  kd i j := V c main_arg4 (ix2 i j)
  gb i j := V c main_arg5 (ix2 i j)
  go i j := V c main_arg6 (ix2 i j)

theorem N16 (t : Fin cfg0.N) : t.val < 16 := t.isLt
/-- A point's sequence. -/
def sq (t : Fin cfg0.N) : Fin 2 := ⟨t.val / 8, by have := N16 t; omega⟩
/-- Row `p` of a point's block. -/
def grow (t : Fin cfg0.N) (p : Fin 256) : Fin 4096 := ⟨256 * t.val + p.val, by have := N16 t; omega⟩
/-- Row `p` of a point's block of saved states. -/
def gsnap (t : Fin cfg0.N) (p : Fin 4096) : Fin 65536 := ⟨4096 * t.val + p.val, by have := N16 t; omega⟩

theorem grow_prow (t : Fin cfg0.N) (k : Fin 4) (r : Fin 64) : grow t (prow k r) = Spec.row (sq t) (4 * (t.val % 8) + k.val) r := Fin.ext (by
  have := N16 t
  show 256 * t.val + (64 * k.val + r.val) = 2048 * (t.val / 8) + 64 * ((4 * (t.val % 8) + k.val) % 32) + r.val
  omega)

/-! ### The blocks' places in the arrays -/

/-- An element of a block of rows, by the block and the place in it. -/
theorem at_row {C i k : ℕ} {t : Fin cfg0.N} {p : Fin 256} {q : Fin C} (hi : i = t.val ∧ k = 0) {y : Shape.Idx ⟨2, ![4096, C]⟩}
    (h0 : (y 0).val = i * 256 + 1 * p.val) (h1 : (y 1).val = k * C + 1 * q.val) : y = ix2 (grow t p) q := by
  obtain ⟨rfl, rfl⟩ := hi
  funext a
  apply Fin.ext
  match a with
  | ⟨0, _⟩ => rw [show (y ⟨0, _⟩).val = _ from h0]; show _ = 256 * t.val + p.val; omega
  | ⟨1, _⟩ => rw [show (y ⟨1, _⟩).val = _ from h1]; show _ = q.val; omega
theorem idx0 : ∀ t : Fin cfg0.N, win0_0.index t (0 : Fin 2) = t.val ∧ win0_0.index t (1 : Fin 2) = 0 :=
  (by decide +kernel : ∀ t : Fin grid0.N, _)
theorem emb0 (t : Fin cfg0.N) (p : Fin 256) (q : Fin 1024) : ((cfg0.win 0).blk t).view.emb (ix2 p q) = ix2 (grow t p) q := at_row (idx0 t) rfl rfl
theorem iblk0 (t : Fin cfg0.N) (p : Fin 256) (q : Fin 1024) : iblk V c 0 t (ix2 p q) = V c main_arg0 (ix2 (grow t p) q) :=
  congrArg (V c main_arg0) (emb0 t p q)
theorem idx1 : ∀ t : Fin cfg0.N, win0_1.index t (0 : Fin 2) = t.val ∧ win0_1.index t (1 : Fin 2) = 0 :=
  (by decide +kernel : ∀ t : Fin grid0.N, _)
theorem emb1 (t : Fin cfg0.N) (p : Fin 256) (q : Fin 1024) : ((cfg0.win 1).blk t).view.emb (ix2 p q) = ix2 (grow t p) q := at_row (idx1 t) rfl rfl
theorem iblk1 (t : Fin cfg0.N) (p : Fin 256) (q : Fin 1024) : iblk V c 1 t (ix2 p q) = V c main_arg1 (ix2 (grow t p) q) :=
  congrArg (V c main_arg1) (emb1 t p q)
theorem idx2 : ∀ t : Fin cfg0.N, win0_2.index t (0 : Fin 2) = t.val ∧ win0_2.index t (1 : Fin 2) = 0 :=
  (by decide +kernel : ∀ t : Fin grid0.N, _)
theorem emb2 (t : Fin cfg0.N) (p : Fin 256) (q : Fin 2048) : ((cfg0.win 2).blk t).view.emb (ix2 p q) = ix2 (grow t p) q := at_row (idx2 t) rfl rfl
theorem iblk2 (t : Fin cfg0.N) (p : Fin 256) (q : Fin 2048) : iblk V c 2 t (ix2 p q) = V c main_arg2 (ix2 (grow t p) q) :=
  congrArg (V c main_arg2) (emb2 t p q)
theorem idx3 : ∀ t : Fin cfg0.N, win0_3.index t (0 : Fin 2) = t.val ∧ win0_3.index t (1 : Fin 2) = 0 :=
  (by decide +kernel : ∀ t : Fin grid0.N, _)
theorem emb3 (t : Fin cfg0.N) (p : Fin 256) (q : Fin 1024) : ((cfg0.win 3).blk t).view.emb (ix2 p q) = ix2 (grow t p) q := at_row (idx3 t) rfl rfl
theorem iblk3 (t : Fin cfg0.N) (p : Fin 256) (q : Fin 1024) : iblk V c 3 t (ix2 p q) = V c main_arg3 (ix2 (grow t p) q) :=
  congrArg (V c main_arg3) (emb3 t p q)
theorem idx4 : ∀ t : Fin cfg0.N, win0_4.index t (0 : Fin 2) = t.val ∧ win0_4.index t (1 : Fin 2) = 0 :=
  (by decide +kernel : ∀ t : Fin grid0.N, _)
theorem emb4 (t : Fin cfg0.N) (p : Fin 256) (q : Fin 1024) : ((cfg0.win 4).blk t).view.emb (ix2 p q) = ix2 (grow t p) q := at_row (idx4 t) rfl rfl
theorem iblk4 (t : Fin cfg0.N) (p : Fin 256) (q : Fin 1024) : iblk V c 4 t (ix2 p q) = V c main_arg4 (ix2 (grow t p) q) :=
  congrArg (V c main_arg4) (emb4 t p q)
theorem idx5 : ∀ t : Fin cfg0.N, win0_5.index t (0 : Fin 2) = t.val ∧ win0_5.index t (1 : Fin 2) = 0 :=
  (by decide +kernel : ∀ t : Fin grid0.N, _)
theorem emb5 (t : Fin cfg0.N) (p : Fin 256) (q : Fin 1024) : ((cfg0.win 5).blk t).view.emb (ix2 p q) = ix2 (grow t p) q := at_row (idx5 t) rfl rfl
theorem iblk5 (t : Fin cfg0.N) (p : Fin 256) (q : Fin 1024) : iblk V c 5 t (ix2 p q) = V c main_arg5 (ix2 (grow t p) q) :=
  congrArg (V c main_arg5) (emb5 t p q)
theorem idx6 : ∀ t : Fin cfg0.N, win0_6.index t (0 : Fin 2) = t.val ∧ win0_6.index t (1 : Fin 2) = 0 :=
  (by decide +kernel : ∀ t : Fin grid0.N, _)
theorem emb6 (t : Fin cfg0.N) (p : Fin 256) (q : Fin 1024) : ((cfg0.win 6).blk t).view.emb (ix2 p q) = ix2 (grow t p) q := at_row (idx6 t) rfl rfl
theorem idx7 : ∀ t : Fin cfg0.N, win0_7.index t (0 : Fin 2) = t.val ∧ win0_7.index t (1 : Fin 2) = 0 :=
  (by decide +kernel : ∀ t : Fin grid0.N, _)
theorem emb7 (t : Fin cfg0.N) (p : Fin 4096) (q : Fin 128) : ((cfg0.win 7).blk t).view.emb (ix2 p q) = ix2 (gsnap t p) q := by
  obtain ⟨e0, e1⟩ := idx7 t
  funext a
  apply Fin.ext
  match a with
  | ⟨0, _⟩ => show win0_7.index t (0 : Fin 2) * 4096 + 1 * p.val = 4096 * t.val + p.val; omega
  | ⟨1, _⟩ => show win0_7.index t (1 : Fin 2) * 128 + 1 * q.val = q.val; omega

/-- The pieces a point loads are those of its block. -/
theorem holds (t : Fin cfg0.N) : Holds (args V c) (sq t) (t.val % 8) (rd (ms0_0 t) (hs0_0 t) (iblk V c 0 t)) (rd (ms0_1 t) (hs0_1 t) (iblk V c 1 t))
    (rdw (ms0_2 t) (hs0_2 t) (iblk V c 2 t)) (rd (ms0_3 t) (hs0_3 t) (iblk V c 3 t)) (rd (ms0_4 t) (hs0_4 t) (iblk V c 4 t)) (rd (ms0_5 t) (hs0_5 t) (iblk V c 5 t)) where
  val k h r e := by
    rw [rd_apply, iblk0, grow_prow]
    rfl
  kc k h r e := by
    rw [rd_apply, iblk1, grow_prow]
    rfl
  att k h r e := by
    rw [rdw_apply, iblk2, grow_prow]
    rfl
  qd k h r e := by
    rw [rd_apply, iblk3, grow_prow]
    rfl
  kd k h r e := by
    rw [rd_apply, iblk4, grow_prow]
    rfl
  gb k h r e := by
    rw [rd_apply, iblk5, grow_prow]
    rfl

theorem zero_apply (h : Fin 8) (d e : Fin 128) : (k0_pay5 (F := Ideal)) (ix3 h d e) = 0 := by
  pointwise [k0_pay5]

/-- What a point leaves: its outputs, its saved states, and the state it carries on. -/
structure Left (t : Fin cfg0.N) : Prop where
  out : ∀ k h r e, (outsAt0 V c t.val t.isLt).1 (ix2 (prow k r) (pcol h e)) = Spec.out (args V c) (sq t) h (4 * (t.val % 8) + k.val) r e
  snap : ∀ k h d e, (outsAt0 V c t.val t.isLt).2.1 (ix2 (psnap k h d) e) = Spec.state (args V c) (sq t) h (4 * (t.val % 8) + k.val) d e
  carry : ∀ h d e, (outsAt0 V c t.val t.isLt).2.2 (ix3 h d e) = Spec.state (args V c) (sq t) h (4 * (t.val % 8 + 1)) d e

theorem carry_apply {val : Fin 4 → Fin 8 → Vec Ideal S64x128 .f32} {kc : Fin 4 → Fin 8 → Vec Ideal S64x128 .bf16}
    {kd : Fin 4 → Fin 8 → Vec Ideal S64x128 .bf16} {gb : Fin 4 → Fin 8 → Vec Ideal S64x128 .f32} {s : Fin 8 → Vec Ideal S1x128x128 .f32} (h : Fin 8) (d e : Fin 128) :
    shapeCast S1x128x128 (stEnd val kc kd gb s h) shapeCasts_S128x128_S1x128x128 (ix3 0 d e) = stEnd val kc kd gb s h (ix2 d e) := by
  generalize stEnd val kc kd gb s h = x
  pointwise []

theorem left_A (t : Fin cfg0.N) (h0 : t.val % 8 = 0) : Left V c t := by
  have H := holds V c t
  have hs : ∀ h d e, zeroed (F := Ideal) scM0_0 h (ix3 0 d e) = Spec.state (args V c) (sq t) h (4 * (t.val % 8)) d e := fun h d e => by
    rw [h0]
    exact (readCov_lay _ _ _ h 0 d e).trans (zero_apply h d e)
  have E := outsAt0_A V c t h0
  dsimp only [atA, outsA] at E
  constructor
  · intro k h r e
    rw [E]; dsimp only; rw [out0_A_6, runA_6]
    exact (read_pieces mem_order _ _ _ k h r e).trans (H.outAt hs k h r e)
  · intro k h d e
    rw [E]; dsimp only; rw [out0_A_7, runA_7]
    exact (read_snaps mem_order _ _ _ k h d e).trans (H.st hs k h d e)
  · intro h d e
    rw [E]; dsimp only; rw [sout0_A_0, runA_S]
    exact (read_lays _ _ _ _ h d e).trans ((carry_apply h d e).trans (H.stEnd hs h d e))

theorem left_B (t : Fin cfg0.N) (h0 : ¬t.val % 8 = 0)
    (hp : ∀ h d e, (outsAt0 V c (t.val - 1) (Nat.lt_of_le_of_lt (Nat.sub_le _ _) t.isLt)).2.2 (ix3 h d e) = Spec.state (args V c) (sq t) h (4 * (t.val % 8)) d e) : Left V c t := by
  have H := holds V c t
  have hs : ∀ h d e, rds scM0_0 (Memref.isWhole_whole _) (outsAt0 V c (t.val - 1) (Nat.lt_of_le_of_lt (Nat.sub_le _ _) t.isLt)).2.2 h (ix3 0 d e)
      = Spec.state (args V c) (sq t) h (4 * (t.val % 8)) d e := fun h d e => (rds_apply _ _ _ h 0 d e).trans (hp h d e)
  have E := outsAt0_B V c t h0
  dsimp only [atB, outsB] at E
  constructor
  · intro k h r e
    rw [E]; dsimp only; rw [out0_B_6, runB_6]
    exact (read_pieces mem_order _ _ _ k h r e).trans (H.outAt hs k h r e)
  · intro k h d e
    rw [E]; dsimp only; rw [out0_B_7, runB_7]
    exact (read_snaps mem_order _ _ _ k h d e).trans (H.st hs k h d e)
  · intro h d e
    rw [E]; dsimp only; rw [sout0_B_0, runB_S]
    unfold LS
    rw [← List.append_nil (List.map _ heads)]
    exact (read_lays _ _ [] _ h d e).trans ((carry_apply h d e).trans (H.stEnd hs h d e))

/-- Every point leaves what the recurrence says. -/
theorem left : ∀ (n : ℕ) (hn : n < cfg0.N), Left V c ⟨n, hn⟩
  | 0, hn => left_A V c ⟨0, hn⟩ rfl
  | n + 1, hn => by
    by_cases h0 : (n + 1) % 8 = 0
    · exact left_A V c ⟨n + 1, hn⟩ h0
    · refine left_B V c ⟨n + 1, hn⟩ h0 fun h d e => ?_
      have := (left n (Nat.lt_of_succ_lt hn)).carry h d e
      rw [show sq ⟨n, Nat.lt_of_succ_lt hn⟩ = sq ⟨n + 1, hn⟩ from Fin.ext (by show n / 8 = (n + 1) / 8; omega)] at this
      rw [show (⟨n + 1, hn⟩ : Fin cfg0.N).val % 8 = n % 8 + 1 by show (n + 1) % 8 = n % 8 + 1; omega]
      exact this

/-! ### The final arrays -/

theorem flush6 : ∀ t : Fin cfg0.N, (cfg0.win 6).flush t = true := (by decide +kernel : ∀ t : Fin grid0.N, win0_6.flush t = true)
theorem flush7 : ∀ t : Fin cfg0.N, (cfg0.win 7).flush t = true := (by decide +kernel : ∀ t : Fin grid0.N, win0_7.flush t = true)

theorem apart6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext (by
    have := congrFun h (0 : Fin 2)
    exact (idx6 t).1.symm.trans (this.trans (idx6 t').1)))
theorem apart7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (Fin.ext (by
    have := congrFun h (0 : Fin 2)
    exact (idx7 t).1.symm.trans (this.trans (idx7 t').1)))

theorem final6 (t : Fin cfg0.N) (p : Fin 256) (q : Fin 1024) : (dat V c).arrAt 6 cfg0.N (ix2 (grow t p) q) = (outsAt0 V c t.val t.isLt).1 (ix2 p q) := by
  have h := congrFun ((dat V c).read_blk_arrAt_eq_flushed 6 apart6 cfg0.N t t.isLt (flush6 t)) (ix2 p q)
  rw [← emb6 t p q]
  exact h.trans (congrFun (after0_6 V c t) (ix2 p q))
theorem final7 (t : Fin cfg0.N) (p : Fin 4096) (q : Fin 128) : (dat V c).arrAt 7 cfg0.N (ix2 (gsnap t p) q) = (outsAt0 V c t.val t.isLt).2.1 (ix2 p q) := by
  have h := congrFun ((dat V c).read_blk_arrAt_eq_flushed 7 apart7 cfg0.N t t.isLt (flush7 t)) (ix2 p q)
  rw [← emb7 t p q]
  exact h.trans (congrFun (after0_7 V c t) (ix2 p q))

/-- The output, element by element. -/
theorem out_apply (b : Fin 2) (h : Fin 8) (n : ℕ) (hn : n < 32) (r : Fin 64) (e : Fin 128) :
    (dat V c).arrAt 6 cfg0.N (ix2 (Spec.row b n r) (Spec.col h e)) = Spec.out (args V c) b h n r e := by
  have ht : 8 * b.val + n / 4 < cfg0.N := by show _ < 16; omega
  have e1 := grow_prow ⟨8 * b.val + n / 4, ht⟩ ⟨n % 4, by omega⟩ r
  have e2 : sq ⟨8 * b.val + n / 4, ht⟩ = b := Fin.ext (by show (8 * b.val + n / 4) / 8 = b.val; omega)
  have e3 : 4 * ((8 * b.val + n / 4) % 8) + n % 4 = n := by omega
  have := (left V c _ ht).out ⟨n % 4, by omega⟩ h r e
  rw [← final6, e1] at this
  dsimp only at this
  rw [e2, e3] at this
  exact this

/-- The saved states, element by element: `t` is the block's number. -/
theorem snap_apply (t : Fin cfg0.N) (k : Fin 4) (h : Fin 8) (d e : Fin 128) :
    (dat V c).arrAt 7 cfg0.N (ix2 (gsnap t (psnap k h d)) e) = Spec.state (args V c) (sq t) h (4 * (t.val % 8) + k.val) d e :=
  (final7 V c t _ _).trans ((left V c t.val t.isLt).snap k h d e)

end Cert.KernelIdeal.Fwd

end
-- ==== Proof.Bwd.Lists.lean ====
module

public import proofs.«01_k».proof.Proof.Bwd.RunA
public import proofs.«01_k».proof.Proof.Bwd.RunB
public import proofs.«01_k».proof.Proof.Chunk
public import proofs.«01_k».proof.Proof.Places

@[expose] public section

set_option maxRecDepth 16384

noncomputable section

/-! ## The backward body's stores as lists over heads and chunks -/

namespace Cert.KernelIdeal.Bwd

open Idealize.ShloMosaic Idealize.ShloMosaic.TcCoe Idealize.ShloMosaic.Tactic
open Cert.KernelIdeal.Gen Cert.KernelIdeal.Places

variable {F : FTy → Type} [FloatOps F]

/-- The store that resets the carried state. -/
def zeroPiece : View.Piece (Elt F) S8x128x128 .f32 :=
  ⟨Rect.unit ![0, 0, 0] S8x128x128.size inb_S8x128x128_S8x128x128_0_0_0, k1_pay2⟩

section States
variable (val : Fin 4 → Fin 8 → Vec F S64x128 .f32) (kc : Fin 4 → Fin 8 → Vec F S64x128 .bf16)
  (at' : Fin 4 → Fin 8 → Vec F S64x256 .bf16) (qd kd : Fin 4 → Fin 8 → Vec F S64x128 .bf16)
  (gb : Fin 4 → Fin 8 → Vec F S64x128 .f32) (sn : Fin 4 → Fin 8 → Vec F S128x128 .f32) (o : Fin 4 → Fin 8 → Vec F S64x128 .f32)
  (s : Fin 8 → Vec F S1x128x128 .f32)

/-- The state before chunk `c` of head `h`, as the forward call saved it. -/
def sv (c : Fin 4) (h : Fin 8) : FVec F S128x128 .f32 := shapeCast S128x128 (sn c h) shapeCasts_S128x128_S128x128
/-- The gradient of a chunk's output. -/
def og (c : Fin 4) (h : Fin 8) : FVec F S64x128 .f32 := shapeCast S64x128 (o c h) shapeCasts_S64x128_S64x128
/-- The gradient of a head's state at a block's end. -/
def ds3 (h : Fin 8) : FVec F S128x128 .f32 :=
  shapeCast S128x128 (shapeCast S128x128 (s h) shapeCasts_S1x128x128_S128x128) shapeCasts_S128x128_S128x128
/-- The values a chunk wrote. -/
def vn (c : Fin 4) (h : Fin 8) : FVec F S64x128 .f32 := Chunk.vnew (val c h) (kc c h) (sv sn c h)
/-- The gradient of the values a chunk wrote, given the gradient of the state after it. -/
def dv (c : Fin 4) (h : Fin 8) (x : FVec F S128x128 .f32) : FVec F S64x128 .f32 := Chunk.dval c (at' c h) (kd c h) (og o c h) x
/-- One chunk's step of the gradient of a head's state. -/
def back (c : Fin 4) (h : Fin 8) (x : FVec F S128x128 .f32) : FVec F S128x128 .f32 :=
  Chunk.prev (kc c h) (qd c h) (gb c h) (og o c h) (Chunk.neg (dv at' kd o c h x)) x
/-- The gradient of a head's state after chunk `c`. -/
def ds (c : Fin 4) (h : Fin 8) : FVec F S128x128 .f32 :=
  match c with
  | 3 => ds3 s h
  | 2 => back kc at' qd kd gb o 3 h (ds3 s h)
  | 1 => back kc at' qd kd gb o 2 h (back kc at' qd kd gb o 3 h (ds3 s h))
  | 0 => back kc at' qd kd gb o 1 h (back kc at' qd kd gb o 2 h (back kc at' qd kd gb o 3 h (ds3 s h)))
/-- The gradient of a head's state before the block. -/
def dsEnd (h : Fin 8) : FVec F S128x128 .f32 := back kc at' qd kd gb o 0 h (ds kc at' qd kd gb o s 0 h)

/-- The gradient of `val`. -/
def gval (c : Fin 4) (h : Fin 8) : FVec F S64x128 .f32 := dv at' kd o c h (ds kc at' qd kd gb o s c h)
/-- Its stores, last first. -/
def L8 : List (View.Piece (Elt F) S256x1024 .f32) := redro.map fun p => ⟨piece p.1 p.2, gval kc at' qd kd gb o s p.1 p.2⟩
/-- The gradient of `kc`. -/
def gkc (c : Fin 4) (h : Fin 8) : FVec F S64x128 .f32 := Chunk.dkc (sv sn c h) (Chunk.neg (dv at' kd o c h (ds kc at' qd kd gb o s c h)))
/-- Its stores, last first. -/
def L9 : List (View.Piece (Elt F) S256x1024 .f32) := redro.map fun p => ⟨piece p.1 p.2, gkc kc at' qd kd gb sn o s p.1 p.2⟩
/-- The gradient of `at`. -/
def gat (c : Fin 4) (h : Fin 8) : FVec F S64x256 .f32 := Chunk.dat c (vn val kc sn c h) (og o c h)
/-- Its stores, last first. -/
def L10 : List (View.Piece (Elt F) S256x2048 .f32) := redro.map fun p => ⟨wide p.1 p.2, gat val kc sn o p.1 p.2⟩
/-- The gradient of `qd`. -/
def gqd (c : Fin 4) (h : Fin 8) : FVec F S64x128 .f32 := Chunk.dqd (sv sn c h) (og o c h)
/-- Its stores, last first. -/
def L11 : List (View.Piece (Elt F) S256x1024 .f32) := redro.map fun p => ⟨piece p.1 p.2, gqd sn o p.1 p.2⟩
/-- The gradient of `kd`. -/
def gkd (c : Fin 4) (h : Fin 8) : FVec F S64x128 .f32 := Chunk.dkd (vn val kc sn c h) (ds kc at' qd kd gb o s c h)
/-- Its stores, last first. -/
def L12 : List (View.Piece (Elt F) S256x1024 .f32) := redro.map fun p => ⟨piece p.1 p.2, gkd val kc at' qd kd gb sn o s p.1 p.2⟩
/-- The gradient of `gb`. -/
def ggb (c : Fin 4) (h : Fin 8) : FVec F S64x128 .f32 := Chunk.dgb (gb c h) (sv sn c h) (ds kc at' qd kd gb o s c h)
/-- Its stores, last first. -/
def L13 : List (View.Piece (Elt F) S256x1024 .f32) := redro.map fun p => ⟨piece p.1 p.2, ggb kc at' qd kd gb sn o s p.1 p.2⟩
/-- The stores of the carried gradient, last first. -/
def LS : List (View.Piece (Elt F) S8x128x128 .f32) :=
  heads.map fun h => ⟨lay h, shapeCast S1x128x128 (dsEnd kc at' qd kd gb o s h) shapeCasts_S128x128_S1x128x128⟩
/-- The same at a reset point: the reset is the first store. -/
def LSA : List (View.Piece (Elt F) S8x128x128 .f32) := (LS kc at' qd kd gb o s) ++ [zeroPiece]
end States

/-- The carried gradient as a reset leaves it, as a load reads it. -/
def zeroed (arg17 : Memref sig .tc .vmem S8x128x128 .f32) (h : Fin 8) : Vec F S1x128x128 .f32 :=
  arg17.view.readCov [zeroPiece] (lay h).toLoadRect

section B
variable (c : Dev nD) (i : grid1.Coords) (arg3 : Memref sig .tc .vmem S256x1024 .f32) (harg3 : arg3.IsWhole) (arg4 : Memref sig .tc .vmem S256x1024 .bf16) (harg4 : arg4.IsWhole) (arg5 : Memref sig .tc .vmem S256x2048 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S4096x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x2048 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .f32) (harg16 : arg16.IsWhole) (arg17 : Memref sig .tc .vmem S8x128x128 .f32) (harg17 : arg17.IsWhole)
  (x0 : Vec F S256x1024 .f32) (x1 : Vec F S256x1024 .bf16) (x2 : Vec F S256x2048 .bf16) (x3 : Vec F S256x1024 .bf16) (x4 : Vec F S256x1024 .bf16) (x5 : Vec F S256x1024 .f32) (x6 : Vec F S4096x128 .f32) (x7 : Vec F S256x1024 .f32) (xs0 : Vec F S8x128x128 .f32)

/-- The gradient of `val`, at a reset point. -/
theorem runA_8 (hc0 : cond1_0 i) : (kernelRun1_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).1
    = L8 (rd arg4 harg4 x1) (rdw arg5 harg5 x2) (rd arg6 harg6 x3) (rd arg7 harg7 x4) (rd arg8 harg8 x5) (rd arg10 harg10 x7) (zeroed arg17) := by
  sl_kernel_rfl

/-- The gradient of `kc`, at a reset point. -/
theorem runA_9 (hc0 : cond1_0 i) : (kernelRun1_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.1
    = L9 (rd arg4 harg4 x1) (rdw arg5 harg5 x2) (rd arg6 harg6 x3) (rd arg7 harg7 x4) (rd arg8 harg8 x5) (rdn arg9 harg9 x6) (rd arg10 harg10 x7) (zeroed arg17) := by
  sl_kernel_rfl

/-- The gradient of `at`, at a reset point. -/
theorem runA_10 (hc0 : cond1_0 i) : (kernelRun1_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.1
    = L10 (rd arg3 harg3 x0) (rd arg4 harg4 x1) (rdn arg9 harg9 x6) (rd arg10 harg10 x7) := by
  sl_kernel_rfl

/-- The gradient of `qd`, at a reset point. -/
theorem runA_11 (hc0 : cond1_0 i) : (kernelRun1_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.1
    = L11 (rdn arg9 harg9 x6) (rd arg10 harg10 x7) := by
  sl_kernel_rfl

/-- The gradient of `kd`, at a reset point. -/
theorem runA_12 (hc0 : cond1_0 i) : (kernelRun1_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.1
    = L12 (rd arg3 harg3 x0) (rd arg4 harg4 x1) (rdw arg5 harg5 x2) (rd arg6 harg6 x3) (rd arg7 harg7 x4) (rd arg8 harg8 x5) (rdn arg9 harg9 x6) (rd arg10 harg10 x7) (zeroed arg17) := by
  sl_kernel_rfl

/-- The gradient of `gb`, at a reset point. -/
theorem runA_13 (hc0 : cond1_0 i) : (kernelRun1_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.1
    = L13 (rd arg4 harg4 x1) (rdw arg5 harg5 x2) (rd arg6 harg6 x3) (rd arg7 harg7 x4) (rd arg8 harg8 x5) (rdn arg9 harg9 x6) (rd arg10 harg10 x7) (zeroed arg17) := by
  sl_kernel_rfl

/-- The carried gradient, at a reset point. -/
theorem runA_S (hc0 : cond1_0 i) : (kernelRun1_A c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7).2.2.2.2.2.2.1
    = LSA (rd arg4 harg4 x1) (rdw arg5 harg5 x2) (rd arg6 harg6 x3) (rd arg7 harg7 x4) (rd arg8 harg8 x5) (rd arg10 harg10 x7) (zeroed arg17) := by
  sl_kernel_rfl

/-- The gradient of `val`, at a point that carries on. -/
theorem runB_8 (hc0 : ¬cond1_0 i) : (kernelRun1_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).1
    = L8 (rd arg4 harg4 x1) (rdw arg5 harg5 x2) (rd arg6 harg6 x3) (rd arg7 harg7 x4) (rd arg8 harg8 x5) (rd arg10 harg10 x7) (rds arg17 harg17 xs0) := by
  sl_kernel_rfl

/-- The gradient of `kc`, at a point that carries on. -/
theorem runB_9 (hc0 : ¬cond1_0 i) : (kernelRun1_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).2.1
    = L9 (rd arg4 harg4 x1) (rdw arg5 harg5 x2) (rd arg6 harg6 x3) (rd arg7 harg7 x4) (rd arg8 harg8 x5) (rdn arg9 harg9 x6) (rd arg10 harg10 x7) (rds arg17 harg17 xs0) := by
  sl_kernel_rfl

/-- The gradient of `at`, at a point that carries on. -/
theorem runB_10 (hc0 : ¬cond1_0 i) : (kernelRun1_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).2.2.1
    = L10 (rd arg3 harg3 x0) (rd arg4 harg4 x1) (rdn arg9 harg9 x6) (rd arg10 harg10 x7) := by
  sl_kernel_rfl

/-- The gradient of `qd`, at a point that carries on. -/
theorem runB_11 (hc0 : ¬cond1_0 i) : (kernelRun1_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).2.2.2.1
    = L11 (rdn arg9 harg9 x6) (rd arg10 harg10 x7) := by
  sl_kernel_rfl

/-- The gradient of `kd`, at a point that carries on. -/
theorem runB_12 (hc0 : ¬cond1_0 i) : (kernelRun1_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).2.2.2.2.1
    = L12 (rd arg3 harg3 x0) (rd arg4 harg4 x1) (rdw arg5 harg5 x2) (rd arg6 harg6 x3) (rd arg7 harg7 x4) (rd arg8 harg8 x5) (rdn arg9 harg9 x6) (rd arg10 harg10 x7) (rds arg17 harg17 xs0) := by
  sl_kernel_rfl

/-- The gradient of `gb`, at a point that carries on. -/
theorem runB_13 (hc0 : ¬cond1_0 i) : (kernelRun1_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).2.2.2.2.2.1
    = L13 (rd arg4 harg4 x1) (rdw arg5 harg5 x2) (rd arg6 harg6 x3) (rd arg7 harg7 x4) (rd arg8 harg8 x5) (rdn arg9 harg9 x6) (rd arg10 harg10 x7) (rds arg17 harg17 xs0) := by
  sl_kernel_rfl

/-- The carried gradient, at a point that carries on. -/
theorem runB_S (hc0 : ¬cond1_0 i) : (kernelRun1_B c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs0).2.2.2.2.2.2.1
    = LS (rd arg4 harg4 x1) (rdw arg5 harg5 x2) (rd arg6 harg6 x3) (rd arg7 harg7 x4) (rd arg8 harg8 x5) (rd arg10 harg10 x7) (rds arg17 harg17 xs0) := by
  sl_kernel_rfl

end B

end Cert.KernelIdeal.Bwd

end
-- ==== Proof.Bwd.Block.lean ====
module

public import proofs.«01_k».proof.Proof.Bwd.Lists
public import proofs.«01_k».proof.Proof.Fwd.Block

@[expose] public section

set_option maxRecDepth 16384

noncomputable section

/-! ## What the backward body computes for block `k` of sequence `b` -/

namespace Cert.KernelIdeal.Bwd

open Idealize.ShloMosaic Idealize.ShloMosaic.TcCoe Idealize.ShloMosaic.Tactic
open Cert.KernelIdeal.Gen

section
variable {A : Spec.Args} {b : Fin 2} {k : ℕ} {val : Fin 4 → Fin 8 → Vec Ideal S64x128 .f32} {kc : Fin 4 → Fin 8 → Vec Ideal S64x128 .bf16}
  {at' : Fin 4 → Fin 8 → Vec Ideal S64x256 .bf16} {qd kd : Fin 4 → Fin 8 → Vec Ideal S64x128 .bf16} {gb : Fin 4 → Fin 8 → Vec Ideal S64x128 .f32}
  (H : Fwd.Holds A b k val kc at' qd kd gb)
  {o : Fin 4 → Fin 8 → Vec Ideal S64x128 .f32} (ho : ∀ c h r e, o c h (ix2 r e) = A.go (Spec.row b (4 * k + c.val) r) (Spec.col h e))
  {sn : Fin 4 → Fin 8 → Vec Ideal S128x128 .f32} (hn : ∀ c h d e, sn c h (ix2 d e) = Spec.state A b h (4 * k + c.val) d e)

include ho in
theorem og_apply (c : Fin 4) (h : Fin 8) (r : Fin 64) (e : Fin 128) : og o c h (ix2 r e) = A.go (Spec.row b (4 * k + c.val) r) (Spec.col h e) := by
  rw [← ho]
  pointwise [og]

include hn in
theorem sv_apply (c : Fin 4) (h : Fin 8) (d e : Fin 128) : sv sn c h (ix2 d e) = Spec.state A b h (4 * k + c.val) d e := by
  rw [← hn]
  pointwise [sv]

theorem row_tri (c : Fin 4) (j : Fin 64) : Chunk.row c j = Spec.tri (4 * k + c.val) j := Fin.ext (by
  show 64 * c.val + j.val = 64 * ((4 * k + c.val) % 4) + j.val
  omega)

include H hn in
theorem vn_apply (c : Fin 4) (h : Fin 8) (r : Fin 64) (e : Fin 128) :
    vn val kc sn c h (ix2 r e) = Spec.vnew A b h (Spec.state A b h (4 * k + c.val)) (4 * k + c.val) r e :=
  H.vnew (fun d e => sv_apply hn c h d e) r e

include H ho in
theorem dv_apply {c : Fin 4} {h : Fin 8} {x : FVec Ideal S128x128 .f32} {G : Fin 128 → Fin 128 → EReal} (hx : ∀ d e, x (ix2 d e) = G d e)
    (r : Fin 64) (e : Fin 128) : dv at' kd o c h x (ix2 r e) = Spec.gv A b h G (4 * k + c.val) r e := by
  unfold dv
  rw [Chunk.dval_apply]
  simp only [hx, H.kd, H.att, og_apply ho, row_tri (k := k)]
  rfl

include H ho in
theorem back_apply {c : Fin 4} {h : Fin 8} {x : FVec Ideal S128x128 .f32} {G : Fin 128 → Fin 128 → EReal} (hx : ∀ d e, x (ix2 d e) = G d e)
    (d e : Fin 128) : back kc at' qd kd gb o c h x (ix2 d e) = Spec.back A b h G (4 * k + c.val) d e := by
  unfold back
  rw [Chunk.prev_apply]
  simp only [hx, H.dec, og_apply ho, H.qd, H.kc, Chunk.neg_apply, dv_apply H ho hx]
  rfl

variable (hk : k < 8) {s : Fin 8 → Vec Ideal S1x128x128 .f32} (hs : ∀ h d e, s h (ix3 0 d e) = Spec.after A b h (4 * k + 3) d e)

include H ho hs hk in
/-- The gradients of the states after the block's chunks. -/
theorem ds_apply (c : Fin 4) (h : Fin 8) (d e : Fin 128) : ds kc at' qd kd gb o s c h (ix2 d e) = Spec.after A b h (4 * k + c.val) d e := by
  have h3 : ∀ d e, ds3 s h (ix2 d e) = Spec.after A b h (4 * k + 3) d e := fun d e => by
    rw [← hs]
    pointwise [ds3]
  have h2 : ∀ d e, back kc at' qd kd gb o 3 h (ds3 s h) (ix2 d e) = Spec.after A b h (4 * k + 2) d e := fun d e => by
    rw [back_apply H ho h3, ← Spec.back_after A b h (4 * k + 2) (by omega)]
    rfl
  have h1 : ∀ d e, back kc at' qd kd gb o 2 h (back kc at' qd kd gb o 3 h (ds3 s h)) (ix2 d e) = Spec.after A b h (4 * k + 1) d e := fun d e => by
    rw [back_apply H ho h2, ← Spec.back_after A b h (4 * k + 1) (by omega)]
    rfl
  have h0 : ∀ d e, back kc at' qd kd gb o 1 h (back kc at' qd kd gb o 2 h (back kc at' qd kd gb o 3 h (ds3 s h))) (ix2 d e) = Spec.after A b h (4 * k) d e := fun d e => by
    rw [back_apply H ho h1, ← Spec.back_after A b h (4 * k) (by omega)]
    rfl
  match c with
  | 0 => exact h0 d e
  | 1 => exact h1 d e
  | 2 => exact h2 d e
  | 3 => exact h3 d e

include H ho hs hk in
/-- The gradient of the state before the block, where a block precedes it. -/
theorem dsEnd_apply (h : Fin 8) (d e : Fin 128) (k' : ℕ) (hk' : k = k' + 1) : dsEnd kc at' qd kd gb o s h (ix2 d e) = Spec.after A b h (4 * k' + 3) d e := by
  unfold dsEnd
  rw [back_apply H ho (fun d e => ds_apply H ho hk hs 0 h d e), ← Spec.back_after A b h (4 * k' + 3) (by omega)]
  subst hk'
  rfl

include H ho hs hk in
theorem gval_apply (c : Fin 4) (h : Fin 8) (r : Fin 64) (e : Fin 128) : gval kc at' qd kd gb o s c h (ix2 r e) = Spec.dval A b h (4 * k + c.val) r e :=
  dv_apply H ho (fun d e => ds_apply H ho hk hs c h d e) r e

include H ho hs hk hn in
theorem gkc_apply (c : Fin 4) (h : Fin 8) (r : Fin 64) (e : Fin 128) : gkc kc at' qd kd gb sn o s c h (ix2 r e) = Spec.dkc A b h (4 * k + c.val) r e := by
  unfold gkc
  rw [Chunk.dkc_apply]
  simp only [Chunk.neg_apply, dv_apply H ho (fun d e => ds_apply H ho hk hs c h d e), sv_apply hn]
  rfl

include H ho hn in
theorem gat_apply (c : Fin 4) (h : Fin 8) (r : Fin 64) (q : Fin 256) : gat val kc sn o c h (ix2 r q) = Spec.datw A b h (4 * k + c.val) r q := by
  unfold gat
  rw [Chunk.dat_apply, Spec.datw, show (4 * k + c.val) % 4 = c.val by omega]
  simp only [og_apply ho, vn_apply H hn]
  rfl

include ho hn in
theorem gqd_apply (c : Fin 4) (h : Fin 8) (r : Fin 64) (e : Fin 128) : gqd sn o c h (ix2 r e) = Spec.dqd A b h (4 * k + c.val) r e := by
  unfold gqd
  rw [Chunk.dqd_apply]
  simp only [og_apply ho, sv_apply hn]
  rfl

include H ho hs hk hn in
theorem gkd_apply (c : Fin 4) (h : Fin 8) (r : Fin 64) (e : Fin 128) : gkd val kc at' qd kd gb sn o s c h (ix2 r e) = Spec.dkd A b h (4 * k + c.val) r e := by
  unfold gkd
  rw [Chunk.dkd_apply]
  simp only [vn_apply H hn, ds_apply H ho hk hs]
  rfl

include H ho hs hk hn in
theorem ggb_apply (c : Fin 4) (h : Fin 8) (r : Fin 64) (e : Fin 128) : ggb kc at' qd kd gb sn o s c h (ix2 r e) = Spec.dgb A b h (4 * k + c.val) r e := by
  unfold ggb
  rw [Chunk.dgb_apply]
  simp only [H.dec, sv_apply hn, ds_apply H ho hk hs]
  rfl
end

end Cert.KernelIdeal.Bwd

end
-- ==== Proof.Bwd.Values.lean ====
module

public import proofs.«01_k».proof.Proof.Bwd.Region
public import proofs.«01_k».proof.Proof.Bwd.Block
public import proofs.«01_k».proof.Proof.Reads

@[expose] public section

set_option maxRecDepth 16384

noncomputable section

/-! ## What the backward call leaves in its six arrays

Its points run through each sequence's blocks from the last to the first. -/

namespace Cert.KernelIdeal.Bwd

open Idealize.ShloMosaic Idealize.ShloMosaic.TcCoe Idealize.ShloMosaic.Tactic
open Idealize.ShloMosaic.Pipeline (Dat Cfg Window)
open Cert.KernelIdeal.Gen Cert.KernelIdeal.Places

variable (V : (c : Dev nD) → (b : Ref sig .tc) → Buf (Elt Ideal) ((c : Thread nD τ).loc b)) (c : Dev nD)

/-- The arguments as the call finds them. -/
def args : Spec.Args where
  val i j := V c main_arg0 (ix2 i j)
  kc i j := V c main_arg1 (ix2 i j)
  att i j := V c main_arg2 (ix2 i j)
  qd i j := V c main_arg3 (ix2 i j)
  kd i j := V c main_arg4 (ix2 i j)
  gb i j := V c main_arg5 (ix2 i j)
  go i j := V c main_arg6 (ix2 i j)

theorem N16 (t : Fin cfg1.N) : t.val < 16 := t.isLt
/-- A point's sequence. -/
def sq (t : Fin cfg1.N) : Fin 2 := ⟨t.val / 8, by have := N16 t; omega⟩
/-- A point's block in its sequence. -/
def bk (t : Fin cfg1.N) : ℕ := 7 - t.val % 8
theorem bk_lt (t : Fin cfg1.N) : bk t < 8 := by unfold bk; omega
/-- Row `p` of a point's block. -/
def grow (t : Fin cfg1.N) (p : Fin 256) : Fin 4096 := ⟨256 * (8 * (t.val / 8) + (7 - t.val % 8)) + p.val, by have := N16 t; omega⟩
/-- Row `p` of a block of saved states: block `j` of sequence `b`. -/
def gsnap (b : Fin 2) (j : ℕ) (hj : j < 8) (p : Fin 4096) : Fin 65536 := ⟨4096 * (8 * b.val + j) + p.val, by omega⟩

theorem grow_prow (t : Fin cfg1.N) (k : Fin 4) (r : Fin 64) : grow t (prow k r) = Spec.row (sq t) (4 * bk t + k.val) r := Fin.ext (by
  have := N16 t
  show 256 * (8 * (t.val / 8) + (7 - t.val % 8)) + (64 * k.val + r.val) = 2048 * (t.val / 8) + 64 * ((4 * (7 - t.val % 8) + k.val) % 32) + r.val
  omega)

/-! ### The blocks' places in the arrays -/

/-- An element of a block of rows, by the block and the place in it. -/
theorem at_row {C i k : ℕ} {t : Fin cfg1.N} {p : Fin 256} {q : Fin C} (hi : i = 8 * (t.val / 8) + (7 - t.val % 8) ∧ k = 0) {y : Shape.Idx ⟨2, ![4096, C]⟩}
    (h0 : (y 0).val = i * 256 + 1 * p.val) (h1 : (y 1).val = k * C + 1 * q.val) : y = ix2 (grow t p) q := by
  obtain ⟨rfl, rfl⟩ := hi
  funext a
  apply Fin.ext
  match a with
  | ⟨0, _⟩ => rw [show (y ⟨0, _⟩).val = _ from h0]; show _ = 256 * (8 * (t.val / 8) + (7 - t.val % 8)) + p.val; omega
  | ⟨1, _⟩ => rw [show (y ⟨1, _⟩).val = _ from h1]; show _ = q.val; omega
theorem idx0 : ∀ t : Fin cfg1.N, win1_0.index t (0 : Fin 2) = 8 * (t.val / 8) + (7 - t.val % 8) ∧ win1_0.index t (1 : Fin 2) = 0 :=
  (by decide +kernel : ∀ t : Fin grid1.N, _)
theorem emb0 (t : Fin cfg1.N) (p : Fin 256) (q : Fin 1024) : ((cfg1.win 0).blk t).view.emb (ix2 p q) = ix2 (grow t p) q := at_row (idx0 t) rfl rfl
theorem iblk0 (t : Fin cfg1.N) (p : Fin 256) (q : Fin 1024) : iblk V c 0 t (ix2 p q) = V c main_arg0 (ix2 (grow t p) q) :=
  congrArg (V c main_arg0) (emb0 t p q)
theorem idx1 : ∀ t : Fin cfg1.N, win1_1.index t (0 : Fin 2) = 8 * (t.val / 8) + (7 - t.val % 8) ∧ win1_1.index t (1 : Fin 2) = 0 :=
  (by decide +kernel : ∀ t : Fin grid1.N, _)
theorem emb1 (t : Fin cfg1.N) (p : Fin 256) (q : Fin 1024) : ((cfg1.win 1).blk t).view.emb (ix2 p q) = ix2 (grow t p) q := at_row (idx1 t) rfl rfl
theorem iblk1 (t : Fin cfg1.N) (p : Fin 256) (q : Fin 1024) : iblk V c 1 t (ix2 p q) = V c main_arg1 (ix2 (grow t p) q) :=
  congrArg (V c main_arg1) (emb1 t p q)
theorem idx2 : ∀ t : Fin cfg1.N, win1_2.index t (0 : Fin 2) = 8 * (t.val / 8) + (7 - t.val % 8) ∧ win1_2.index t (1 : Fin 2) = 0 :=
  (by decide +kernel : ∀ t : Fin grid1.N, _)
theorem emb2 (t : Fin cfg1.N) (p : Fin 256) (q : Fin 2048) : ((cfg1.win 2).blk t).view.emb (ix2 p q) = ix2 (grow t p) q := at_row (idx2 t) rfl rfl
theorem iblk2 (t : Fin cfg1.N) (p : Fin 256) (q : Fin 2048) : iblk V c 2 t (ix2 p q) = V c main_arg2 (ix2 (grow t p) q) :=
  congrArg (V c main_arg2) (emb2 t p q)
theorem idx3 : ∀ t : Fin cfg1.N, win1_3.index t (0 : Fin 2) = 8 * (t.val / 8) + (7 - t.val % 8) ∧ win1_3.index t (1 : Fin 2) = 0 :=
  (by decide +kernel : ∀ t : Fin grid1.N, _)
theorem emb3 (t : Fin cfg1.N) (p : Fin 256) (q : Fin 1024) : ((cfg1.win 3).blk t).view.emb (ix2 p q) = ix2 (grow t p) q := at_row (idx3 t) rfl rfl
theorem iblk3 (t : Fin cfg1.N) (p : Fin 256) (q : Fin 1024) : iblk V c 3 t (ix2 p q) = V c main_arg3 (ix2 (grow t p) q) :=
  congrArg (V c main_arg3) (emb3 t p q)
theorem idx4 : ∀ t : Fin cfg1.N, win1_4.index t (0 : Fin 2) = 8 * (t.val / 8) + (7 - t.val % 8) ∧ win1_4.index t (1 : Fin 2) = 0 :=
  (by decide +kernel : ∀ t : Fin grid1.N, _)
theorem emb4 (t : Fin cfg1.N) (p : Fin 256) (q : Fin 1024) : ((cfg1.win 4).blk t).view.emb (ix2 p q) = ix2 (grow t p) q := at_row (idx4 t) rfl rfl
theorem iblk4 (t : Fin cfg1.N) (p : Fin 256) (q : Fin 1024) : iblk V c 4 t (ix2 p q) = V c main_arg4 (ix2 (grow t p) q) :=
  congrArg (V c main_arg4) (emb4 t p q)
theorem idx5 : ∀ t : Fin cfg1.N, win1_5.index t (0 : Fin 2) = 8 * (t.val / 8) + (7 - t.val % 8) ∧ win1_5.index t (1 : Fin 2) = 0 :=
  (by decide +kernel : ∀ t : Fin grid1.N, _)
theorem emb5 (t : Fin cfg1.N) (p : Fin 256) (q : Fin 1024) : ((cfg1.win 5).blk t).view.emb (ix2 p q) = ix2 (grow t p) q := at_row (idx5 t) rfl rfl
theorem iblk5 (t : Fin cfg1.N) (p : Fin 256) (q : Fin 1024) : iblk V c 5 t (ix2 p q) = V c main_arg5 (ix2 (grow t p) q) :=
  congrArg (V c main_arg5) (emb5 t p q)
theorem idx7 : ∀ t : Fin cfg1.N, win1_7.index t (0 : Fin 2) = 8 * (t.val / 8) + (7 - t.val % 8) ∧ win1_7.index t (1 : Fin 2) = 0 :=
  (by decide +kernel : ∀ t : Fin grid1.N, _)
theorem emb7 (t : Fin cfg1.N) (p : Fin 256) (q : Fin 1024) : ((cfg1.win 7).blk t).view.emb (ix2 p q) = ix2 (grow t p) q := at_row (idx7 t) rfl rfl
theorem iblk7 (t : Fin cfg1.N) (p : Fin 256) (q : Fin 1024) : iblk V c 7 t (ix2 p q) = V c main_arg6 (ix2 (grow t p) q) :=
  congrArg (V c main_arg6) (emb7 t p q)
theorem idx8 : ∀ t : Fin cfg1.N, win1_8.index t (0 : Fin 2) = 8 * (t.val / 8) + (7 - t.val % 8) ∧ win1_8.index t (1 : Fin 2) = 0 :=
  (by decide +kernel : ∀ t : Fin grid1.N, _)
theorem emb8 (t : Fin cfg1.N) (p : Fin 256) (q : Fin 1024) : ((cfg1.win 8).blk t).view.emb (ix2 p q) = ix2 (grow t p) q := at_row (idx8 t) rfl rfl
theorem idx9 : ∀ t : Fin cfg1.N, win1_9.index t (0 : Fin 2) = 8 * (t.val / 8) + (7 - t.val % 8) ∧ win1_9.index t (1 : Fin 2) = 0 :=
  (by decide +kernel : ∀ t : Fin grid1.N, _)
theorem emb9 (t : Fin cfg1.N) (p : Fin 256) (q : Fin 1024) : ((cfg1.win 9).blk t).view.emb (ix2 p q) = ix2 (grow t p) q := at_row (idx9 t) rfl rfl
theorem idx10 : ∀ t : Fin cfg1.N, win1_10.index t (0 : Fin 2) = 8 * (t.val / 8) + (7 - t.val % 8) ∧ win1_10.index t (1 : Fin 2) = 0 :=
  (by decide +kernel : ∀ t : Fin grid1.N, _)
theorem emb10 (t : Fin cfg1.N) (p : Fin 256) (q : Fin 2048) : ((cfg1.win 10).blk t).view.emb (ix2 p q) = ix2 (grow t p) q := at_row (idx10 t) rfl rfl
theorem idx11 : ∀ t : Fin cfg1.N, win1_11.index t (0 : Fin 2) = 8 * (t.val / 8) + (7 - t.val % 8) ∧ win1_11.index t (1 : Fin 2) = 0 :=
  (by decide +kernel : ∀ t : Fin grid1.N, _)
theorem emb11 (t : Fin cfg1.N) (p : Fin 256) (q : Fin 1024) : ((cfg1.win 11).blk t).view.emb (ix2 p q) = ix2 (grow t p) q := at_row (idx11 t) rfl rfl
theorem idx12 : ∀ t : Fin cfg1.N, win1_12.index t (0 : Fin 2) = 8 * (t.val / 8) + (7 - t.val % 8) ∧ win1_12.index t (1 : Fin 2) = 0 :=
  (by decide +kernel : ∀ t : Fin grid1.N, _)
theorem emb12 (t : Fin cfg1.N) (p : Fin 256) (q : Fin 1024) : ((cfg1.win 12).blk t).view.emb (ix2 p q) = ix2 (grow t p) q := at_row (idx12 t) rfl rfl
theorem idx13 : ∀ t : Fin cfg1.N, win1_13.index t (0 : Fin 2) = 8 * (t.val / 8) + (7 - t.val % 8) ∧ win1_13.index t (1 : Fin 2) = 0 :=
  (by decide +kernel : ∀ t : Fin grid1.N, _)
theorem emb13 (t : Fin cfg1.N) (p : Fin 256) (q : Fin 1024) : ((cfg1.win 13).blk t).view.emb (ix2 p q) = ix2 (grow t p) q := at_row (idx13 t) rfl rfl
theorem idx6 : ∀ t : Fin cfg1.N, win1_6.index t (0 : Fin 2) = 8 * (t.val / 8) + (7 - t.val % 8) ∧ win1_6.index t (1 : Fin 2) = 0 :=
  (by decide +kernel : ∀ t : Fin grid1.N, _)
theorem emb6 (t : Fin cfg1.N) (p : Fin 4096) (q : Fin 128) : ((cfg1.win 6).blk t).view.emb (ix2 p q) = ix2 (gsnap (sq t) (bk t) (bk_lt t) p) q := by
  obtain ⟨e0, e1⟩ := idx6 t
  funext a
  apply Fin.ext
  match a with
  | ⟨0, _⟩ => show win1_6.index t (0 : Fin 2) * 4096 + 1 * p.val = 4096 * (8 * (t.val / 8) + (7 - t.val % 8)) + p.val; omega
  | ⟨1, _⟩ => show win1_6.index t (1 : Fin 2) * 128 + 1 * q.val = q.val; omega
theorem iblk6 (t : Fin cfg1.N) (p : Fin 4096) (q : Fin 128) : iblk V c 6 t (ix2 p q) = V c main_v0_1 (ix2 (gsnap (sq t) (bk t) (bk_lt t) p) q) :=
  congrArg (V c main_v0_1) (emb6 t p q)

/-- The pieces a point loads are those of its block. -/
theorem holds (t : Fin cfg1.N) : Fwd.Holds (args V c) (sq t) (bk t) (rd (ms1_0 t) (hs1_0 t) (iblk V c 0 t)) (rd (ms1_1 t) (hs1_1 t) (iblk V c 1 t))
    (rdw (ms1_2 t) (hs1_2 t) (iblk V c 2 t)) (rd (ms1_3 t) (hs1_3 t) (iblk V c 3 t)) (rd (ms1_4 t) (hs1_4 t) (iblk V c 4 t)) (rd (ms1_5 t) (hs1_5 t) (iblk V c 5 t)) where
  val k h r e := by
    rw [rd_apply, iblk0, grow_prow]
    rfl
  kc k h r e := by
    rw [rd_apply, iblk1, grow_prow]
    rfl
  att k h r e := by
    rw [rdw_apply, iblk2, grow_prow]
    rfl
  qd k h r e := by
    rw [rd_apply, iblk3, grow_prow]
    rfl
  kd k h r e := by
    rw [rd_apply, iblk4, grow_prow]
    rfl
  gb k h r e := by
    rw [rd_apply, iblk5, grow_prow]
    rfl

theorem holds_go (t : Fin cfg1.N) : ∀ k h r e, rd (ms1_7 t) (hs1_7 t) (iblk V c 7 t) k h (ix2 r e) = (args V c).go (Spec.row (sq t) (4 * bk t + k.val) r) (Spec.col h e) := fun k h r e => by
  rw [rd_apply, iblk7, grow_prow]
  rfl

theorem zero_apply (h : Fin 8) (d e : Fin 128) : (k1_pay2 (F := Ideal)) (ix3 h d e) = 0 := by
  pointwise [k1_pay2]

/-- What a point leaves: its six blocks of gradients, and the gradient it carries on to the block before. -/
structure Left (t : Fin cfg1.N) : Prop where
  dval : ∀ k h r e, (outsAt1 V c t.val t.isLt).1 (ix2 (prow k r) (pcol h e)) = Spec.dval (args V c) (sq t) h (4 * bk t + k.val) r e
  dkc : ∀ k h r e, (outsAt1 V c t.val t.isLt).2.1 (ix2 (prow k r) (pcol h e)) = Spec.dkc (args V c) (sq t) h (4 * bk t + k.val) r e
  datw : ∀ k h r e, (outsAt1 V c t.val t.isLt).2.2.1 (ix2 (prow k r) (pwcol h e)) = Spec.datw (args V c) (sq t) h (4 * bk t + k.val) r e
  dqd : ∀ k h r e, (outsAt1 V c t.val t.isLt).2.2.2.1 (ix2 (prow k r) (pcol h e)) = Spec.dqd (args V c) (sq t) h (4 * bk t + k.val) r e
  dkd : ∀ k h r e, (outsAt1 V c t.val t.isLt).2.2.2.2.1 (ix2 (prow k r) (pcol h e)) = Spec.dkd (args V c) (sq t) h (4 * bk t + k.val) r e
  dgb : ∀ k h r e, (outsAt1 V c t.val t.isLt).2.2.2.2.2.1 (ix2 (prow k r) (pcol h e)) = Spec.dgb (args V c) (sq t) h (4 * bk t + k.val) r e
  carry : ∀ h d e j, bk t = j + 1 → (outsAt1 V c t.val t.isLt).2.2.2.2.2.2 (ix3 h d e) = Spec.after (args V c) (sq t) h (4 * j + 3) d e

theorem carry_apply {kc : Fin 4 → Fin 8 → Vec Ideal S64x128 .bf16} {at' : Fin 4 → Fin 8 → Vec Ideal S64x256 .bf16}
    {qd kd : Fin 4 → Fin 8 → Vec Ideal S64x128 .bf16} {gb o : Fin 4 → Fin 8 → Vec Ideal S64x128 .f32} {s : Fin 8 → Vec Ideal S1x128x128 .f32} (h : Fin 8) (d e : Fin 128) :
    shapeCast S1x128x128 (dsEnd kc at' qd kd gb o s h) shapeCasts_S128x128_S1x128x128 (ix3 0 d e) = dsEnd kc at' qd kd gb o s h (ix2 d e) := by
  generalize dsEnd kc at' qd kd gb o s h = x
  pointwise []

/-- The forward call's saved states are in place. -/
def Saved : Prop := ∀ (b : Fin 2) (j : ℕ) (hj : j < 8) (k : Fin 4) (h : Fin 8) (d e : Fin 128),
  V c main_v0_1 (ix2 (gsnap b j hj (psnap k h d)) e) = Spec.state (args V c) b h (4 * j + k.val) d e

variable (hV : Saved V c)
include hV

theorem holds_snap (t : Fin cfg1.N) : ∀ k h d e, rdn (ms1_6 t) (hs1_6 t) (iblk V c 6 t) k h (ix2 d e) = Spec.state (args V c) (sq t) h (4 * bk t + k.val) d e := fun k h d e => by
  rw [rdn_apply, iblk6]
  exact hV _ _ _ k h d e

theorem left_A (t : Fin cfg1.N) (h0 : t.val % 8 = 0) : Left V c t := by
  have H := holds V c t
  have ho := holds_go V c t
  have hn := holds_snap V c hV t
  have hk := bk_lt t
  have hs : ∀ h d e, zeroed (F := Ideal) scM1_0 h (ix3 0 d e) = Spec.after (args V c) (sq t) h (4 * bk t + 3) d e := fun h d e => by
    rw [show 4 * bk t + 3 = 31 by unfold bk; omega]
    exact (readCov_lay _ _ _ h 0 d e).trans (zero_apply h d e)
  have E := outsAt0_A V c t h0
  dsimp only [atA, outsA] at E
  constructor
  · intro k h r e
    rw [E]; dsimp only; rw [out1_A_8, runA_8]
    exact (read_pieces mem_redro _ _ _ k h r e).trans (gval_apply H ho hk hs k h r e)
  · intro k h r e
    rw [E]; dsimp only; rw [out1_A_9, runA_9]
    exact (read_pieces mem_redro _ _ _ k h r e).trans (gkc_apply H ho hn hk hs k h r e)
  · intro k h r e
    rw [E]; dsimp only; rw [out1_A_10, runA_10]
    exact (read_wides mem_redro _ _ _ k h r e).trans (gat_apply H ho hn k h r e)
  · intro k h r e
    rw [E]; dsimp only; rw [out1_A_11, runA_11]
    exact (read_pieces mem_redro _ _ _ k h r e).trans (gqd_apply ho hn k h r e)
  · intro k h r e
    rw [E]; dsimp only; rw [out1_A_12, runA_12]
    exact (read_pieces mem_redro _ _ _ k h r e).trans (gkd_apply H ho hn hk hs k h r e)
  · intro k h r e
    rw [E]; dsimp only; rw [out1_A_13, runA_13]
    exact (read_pieces mem_redro _ _ _ k h r e).trans (ggb_apply H ho hn hk hs k h r e)
  · intro h d e j hj
    rw [E]; dsimp only; rw [sout1_A_0, runA_S]
    exact (read_lays _ _ _ _ h d e).trans ((carry_apply h d e).trans (dsEnd_apply H ho hk hs h d e j hj))

theorem left_B (t : Fin cfg1.N) (h0 : ¬t.val % 8 = 0)
    (hp : ∀ h d e, (outsAt1 V c (t.val - 1) (Nat.lt_of_le_of_lt (Nat.sub_le _ _) t.isLt)).2.2.2.2.2.2 (ix3 h d e) = Spec.after (args V c) (sq t) h (4 * bk t + 3) d e) : Left V c t := by
  have H := holds V c t
  have ho := holds_go V c t
  have hn := holds_snap V c hV t
  have hk := bk_lt t
  have hs : ∀ h d e, rds scM1_0 (Memref.isWhole_whole _) (outsAt1 V c (t.val - 1) (Nat.lt_of_le_of_lt (Nat.sub_le _ _) t.isLt)).2.2.2.2.2.2 h (ix3 0 d e)
      = Spec.after (args V c) (sq t) h (4 * bk t + 3) d e := fun h d e => (rds_apply _ _ _ h 0 d e).trans (hp h d e)
  have E := outsAt0_B V c t h0
  dsimp only [atB, outsB] at E
  constructor
  · intro k h r e
    rw [E]; dsimp only; rw [out1_B_8, runB_8]
    exact (read_pieces mem_redro _ _ _ k h r e).trans (gval_apply H ho hk hs k h r e)
  · intro k h r e
    rw [E]; dsimp only; rw [out1_B_9, runB_9]
    exact (read_pieces mem_redro _ _ _ k h r e).trans (gkc_apply H ho hn hk hs k h r e)
  · intro k h r e
    rw [E]; dsimp only; rw [out1_B_10, runB_10]
    exact (read_wides mem_redro _ _ _ k h r e).trans (gat_apply H ho hn k h r e)
  · intro k h r e
    rw [E]; dsimp only; rw [out1_B_11, runB_11]
    exact (read_pieces mem_redro _ _ _ k h r e).trans (gqd_apply ho hn k h r e)
  · intro k h r e
    rw [E]; dsimp only; rw [out1_B_12, runB_12]
    exact (read_pieces mem_redro _ _ _ k h r e).trans (gkd_apply H ho hn hk hs k h r e)
  · intro k h r e
    rw [E]; dsimp only; rw [out1_B_13, runB_13]
    exact (read_pieces mem_redro _ _ _ k h r e).trans (ggb_apply H ho hn hk hs k h r e)
  · intro h d e j hj
    rw [E]; dsimp only; rw [sout1_B_0, runB_S]
    unfold LS
    rw [← List.append_nil (List.map _ heads)]
    exact (read_lays _ _ [] _ h d e).trans ((carry_apply h d e).trans (dsEnd_apply H ho hk hs h d e j hj))

/-- Every point leaves what the reversed recurrence says. -/
theorem left : ∀ (n : ℕ) (hn : n < cfg1.N), Left V c ⟨n, hn⟩
  | 0, hn => left_A V c hV ⟨0, hn⟩ rfl
  | n + 1, hn => by
    by_cases h0 : (n + 1) % 8 = 0
    · exact left_A V c hV ⟨n + 1, hn⟩ h0
    · refine left_B V c hV ⟨n + 1, hn⟩ h0 fun h d e => ?_
      have := (left n (Nat.lt_of_succ_lt hn)).carry h d e (bk ⟨n + 1, hn⟩) (by show 7 - n % 8 = 7 - (n + 1) % 8 + 1; omega)
      rw [show sq ⟨n, Nat.lt_of_succ_lt hn⟩ = sq ⟨n + 1, hn⟩ from Fin.ext (by show n / 8 = (n + 1) / 8; omega)] at this
      exact this

/-! ### The final arrays -/

omit hV
/-- Two points do not share a block of rows. -/
theorem place_inj {t t' : Fin cfg1.N} (h : 8 * (t.val / 8) + (7 - t.val % 8) = 8 * (t'.val / 8) + (7 - t'.val % 8)) : t = t' :=
  Fin.ext (by have := N16 t; have := N16 t'; omega)
theorem flush8 : ∀ t : Fin cfg1.N, (cfg1.win 8).flush t = true := (by decide +kernel : ∀ t : Fin grid1.N, win1_8.flush t = true)
theorem apart8 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (place_inj ((idx8 t).1.symm.trans ((congrFun h (0 : Fin 2)).trans (idx8 t').1)))
theorem final8 (t : Fin cfg1.N) (p : Fin 256) (q : Fin 1024) : (dat V c).arrAt 8 cfg1.N (ix2 (grow t p) q) = (outsAt1 V c t.val t.isLt).1 (ix2 p q) := by
  have h := congrFun ((dat V c).read_blk_arrAt_eq_flushed 8 apart8 cfg1.N t t.isLt (flush8 t)) (ix2 p q)
  rw [← emb8 t p q]
  exact h.trans (congrFun (after1_8 V c t) (ix2 p q))
theorem flush9 : ∀ t : Fin cfg1.N, (cfg1.win 9).flush t = true := (by decide +kernel : ∀ t : Fin grid1.N, win1_9.flush t = true)
theorem apart9 : ∀ t t' : Fin cfg1.N, (cfg1.win 9).flush t = true → (cfg1.win 9).flush t' = true → t ≠ t' →
    Disjoint ((cfg1.win 9).blk t).view.set ((cfg1.win 9).blk t').view.set :=
  fun t t' _ _ hne => (cfg1.win 9).disjoint_blk fun h => hne (place_inj ((idx9 t).1.symm.trans ((congrFun h (0 : Fin 2)).trans (idx9 t').1)))
theorem final9 (t : Fin cfg1.N) (p : Fin 256) (q : Fin 1024) : (dat V c).arrAt 9 cfg1.N (ix2 (grow t p) q) = (outsAt1 V c t.val t.isLt).2.1 (ix2 p q) := by
  have h := congrFun ((dat V c).read_blk_arrAt_eq_flushed 9 apart9 cfg1.N t t.isLt (flush9 t)) (ix2 p q)
  rw [← emb9 t p q]
  exact h.trans (congrFun (after1_9 V c t) (ix2 p q))
theorem flush10 : ∀ t : Fin cfg1.N, (cfg1.win 10).flush t = true := (by decide +kernel : ∀ t : Fin grid1.N, win1_10.flush t = true)
theorem apart10 : ∀ t t' : Fin cfg1.N, (cfg1.win 10).flush t = true → (cfg1.win 10).flush t' = true → t ≠ t' →
    Disjoint ((cfg1.win 10).blk t).view.set ((cfg1.win 10).blk t').view.set :=
  fun t t' _ _ hne => (cfg1.win 10).disjoint_blk fun h => hne (place_inj ((idx10 t).1.symm.trans ((congrFun h (0 : Fin 2)).trans (idx10 t').1)))
theorem final10 (t : Fin cfg1.N) (p : Fin 256) (q : Fin 2048) : (dat V c).arrAt 10 cfg1.N (ix2 (grow t p) q) = (outsAt1 V c t.val t.isLt).2.2.1 (ix2 p q) := by
  have h := congrFun ((dat V c).read_blk_arrAt_eq_flushed 10 apart10 cfg1.N t t.isLt (flush10 t)) (ix2 p q)
  rw [← emb10 t p q]
  exact h.trans (congrFun (after1_10 V c t) (ix2 p q))
theorem flush11 : ∀ t : Fin cfg1.N, (cfg1.win 11).flush t = true := (by decide +kernel : ∀ t : Fin grid1.N, win1_11.flush t = true)
theorem apart11 : ∀ t t' : Fin cfg1.N, (cfg1.win 11).flush t = true → (cfg1.win 11).flush t' = true → t ≠ t' →
    Disjoint ((cfg1.win 11).blk t).view.set ((cfg1.win 11).blk t').view.set :=
  fun t t' _ _ hne => (cfg1.win 11).disjoint_blk fun h => hne (place_inj ((idx11 t).1.symm.trans ((congrFun h (0 : Fin 2)).trans (idx11 t').1)))
theorem final11 (t : Fin cfg1.N) (p : Fin 256) (q : Fin 1024) : (dat V c).arrAt 11 cfg1.N (ix2 (grow t p) q) = (outsAt1 V c t.val t.isLt).2.2.2.1 (ix2 p q) := by
  have h := congrFun ((dat V c).read_blk_arrAt_eq_flushed 11 apart11 cfg1.N t t.isLt (flush11 t)) (ix2 p q)
  rw [← emb11 t p q]
  exact h.trans (congrFun (after1_11 V c t) (ix2 p q))
theorem flush12 : ∀ t : Fin cfg1.N, (cfg1.win 12).flush t = true := (by decide +kernel : ∀ t : Fin grid1.N, win1_12.flush t = true)
theorem apart12 : ∀ t t' : Fin cfg1.N, (cfg1.win 12).flush t = true → (cfg1.win 12).flush t' = true → t ≠ t' →
    Disjoint ((cfg1.win 12).blk t).view.set ((cfg1.win 12).blk t').view.set :=
  fun t t' _ _ hne => (cfg1.win 12).disjoint_blk fun h => hne (place_inj ((idx12 t).1.symm.trans ((congrFun h (0 : Fin 2)).trans (idx12 t').1)))
theorem final12 (t : Fin cfg1.N) (p : Fin 256) (q : Fin 1024) : (dat V c).arrAt 12 cfg1.N (ix2 (grow t p) q) = (outsAt1 V c t.val t.isLt).2.2.2.2.1 (ix2 p q) := by
  have h := congrFun ((dat V c).read_blk_arrAt_eq_flushed 12 apart12 cfg1.N t t.isLt (flush12 t)) (ix2 p q)
  rw [← emb12 t p q]
  exact h.trans (congrFun (after1_12 V c t) (ix2 p q))
theorem flush13 : ∀ t : Fin cfg1.N, (cfg1.win 13).flush t = true := (by decide +kernel : ∀ t : Fin grid1.N, win1_13.flush t = true)
theorem apart13 : ∀ t t' : Fin cfg1.N, (cfg1.win 13).flush t = true → (cfg1.win 13).flush t' = true → t ≠ t' →
    Disjoint ((cfg1.win 13).blk t).view.set ((cfg1.win 13).blk t').view.set :=
  fun t t' _ _ hne => (cfg1.win 13).disjoint_blk fun h => hne (place_inj ((idx13 t).1.symm.trans ((congrFun h (0 : Fin 2)).trans (idx13 t').1)))
theorem final13 (t : Fin cfg1.N) (p : Fin 256) (q : Fin 1024) : (dat V c).arrAt 13 cfg1.N (ix2 (grow t p) q) = (outsAt1 V c t.val t.isLt).2.2.2.2.2.1 (ix2 p q) := by
  have h := congrFun ((dat V c).read_blk_arrAt_eq_flushed 13 apart13 cfg1.N t t.isLt (flush13 t)) (ix2 p q)
  rw [← emb13 t p q]
  exact h.trans (congrFun (after1_13 V c t) (ix2 p q))

/-- The point that holds chunk `n` of sequence `b`. -/
theorem pt_lt (b : Fin 2) (n : ℕ) (hn : n < 32) : 8 * b.val + (7 - n / 4) < cfg1.N := by show _ < 16; omega
theorem pt_row (b : Fin 2) (n : ℕ) (hn : n < 32) (r : Fin 64) : grow ⟨8 * b.val + (7 - n / 4), pt_lt b n hn⟩ (prow ⟨n % 4, by omega⟩ r) = Spec.row b n r := Fin.ext (by
  show 256 * (8 * ((8 * b.val + (7 - n / 4)) / 8) + (7 - (8 * b.val + (7 - n / 4)) % 8)) + (64 * (n % 4) + r.val) = 2048 * b.val + 64 * (n % 32) + r.val
  omega)
theorem pt_sq (b : Fin 2) (n : ℕ) (hn : n < 32) : sq ⟨8 * b.val + (7 - n / 4), pt_lt b n hn⟩ = b := Fin.ext (by show (8 * b.val + (7 - n / 4)) / 8 = b.val; omega)
theorem pt_bk (b : Fin 2) (n : ℕ) (hn : n < 32) : 4 * bk ⟨8 * b.val + (7 - n / 4), pt_lt b n hn⟩ + (⟨n % 4, by omega⟩ : Fin 4).val = n := by
  show 4 * (7 - (8 * b.val + (7 - n / 4)) % 8) + n % 4 = n
  omega

include hV
theorem dval_apply (b : Fin 2) (h : Fin 8) (n : ℕ) (hn : n < 32) (r : Fin 64) (e : Fin 128) :
    (dat V c).arrAt 8 cfg1.N (ix2 (Spec.row b n r) (Spec.col h e)) = Spec.dval (args V c) b h n r e := by
  have := (left V c hV _ (pt_lt b n hn)).dval ⟨n % 4, by omega⟩ h r e
  rw [← final8, pt_row b n hn, pt_sq b n hn, pt_bk b n hn] at this
  exact this
theorem dkc_apply (b : Fin 2) (h : Fin 8) (n : ℕ) (hn : n < 32) (r : Fin 64) (e : Fin 128) :
    (dat V c).arrAt 9 cfg1.N (ix2 (Spec.row b n r) (Spec.col h e)) = Spec.dkc (args V c) b h n r e := by
  have := (left V c hV _ (pt_lt b n hn)).dkc ⟨n % 4, by omega⟩ h r e
  rw [← final9, pt_row b n hn, pt_sq b n hn, pt_bk b n hn] at this
  exact this
theorem datw_apply (b : Fin 2) (h : Fin 8) (n : ℕ) (hn : n < 32) (r : Fin 64) (e : Fin 256) :
    (dat V c).arrAt 10 cfg1.N (ix2 (Spec.row b n r) (Spec.wcol h e)) = Spec.datw (args V c) b h n r e := by
  have := (left V c hV _ (pt_lt b n hn)).datw ⟨n % 4, by omega⟩ h r e
  rw [← final10, pt_row b n hn, pt_sq b n hn, pt_bk b n hn] at this
  exact this
theorem dqd_apply (b : Fin 2) (h : Fin 8) (n : ℕ) (hn : n < 32) (r : Fin 64) (e : Fin 128) :
    (dat V c).arrAt 11 cfg1.N (ix2 (Spec.row b n r) (Spec.col h e)) = Spec.dqd (args V c) b h n r e := by
  have := (left V c hV _ (pt_lt b n hn)).dqd ⟨n % 4, by omega⟩ h r e
  rw [← final11, pt_row b n hn, pt_sq b n hn, pt_bk b n hn] at this
  exact this
theorem dkd_apply (b : Fin 2) (h : Fin 8) (n : ℕ) (hn : n < 32) (r : Fin 64) (e : Fin 128) :
    (dat V c).arrAt 12 cfg1.N (ix2 (Spec.row b n r) (Spec.col h e)) = Spec.dkd (args V c) b h n r e := by
  have := (left V c hV _ (pt_lt b n hn)).dkd ⟨n % 4, by omega⟩ h r e
  rw [← final12, pt_row b n hn, pt_sq b n hn, pt_bk b n hn] at this
  exact this
theorem dgb_apply (b : Fin 2) (h : Fin 8) (n : ℕ) (hn : n < 32) (r : Fin 64) (e : Fin 128) :
    (dat V c).arrAt 13 cfg1.N (ix2 (Spec.row b n r) (Spec.col h e)) = Spec.dgb (args V c) b h n r e := by
  have := (left V c hV _ (pt_lt b n hn)).dgb ⟨n % 4, by omega⟩ h r e
  rw [← final13, pt_row b n hn, pt_sq b n hn, pt_bk b n hn] at this
  exact this

end Cert.KernelIdeal.Bwd

end
-- ==== Proof.Two.Values.lean ====
module

public import proofs.«01_k».proof.Proof.Two.Run
public import proofs.«01_k».proof.Proof.Fwd.Values
public import proofs.«01_k».proof.Proof.Bwd.Values

@[expose] public section

noncomputable section

/-! ## What both calls leave, from the launch memory -/

namespace Cert.KernelIdeal.Two

open Idealize.ShloMosaic Idealize.ShloMosaic.TcCoe Idealize.SL.Sem
open Cert.KernelIdeal.Gen Cert.KernelIdeal.Places

variable (m : (ℓ : Loc nD τ sig) → Buf (Elt Ideal) ℓ) (ρ : Dev nD → PrngReg) (c : Dev nD)

/-- The seven arguments at launch. -/
def args : Spec.Args where
  val i j := m ((c : Thread nD τ).loc main_arg0) (ix2 i j)
  kc i j := m ((c : Thread nD τ).loc main_arg1) (ix2 i j)
  att i j := m ((c : Thread nD τ).loc main_arg2) (ix2 i j)
  qd i j := m ((c : Thread nD τ).loc main_arg3) (ix2 i j)
  kd i j := m ((c : Thread nD τ).loc main_arg4) (ix2 i j)
  gb i j := m ((c : Thread nD τ).loc main_arg5) (ix2 i j)
  go i j := m ((c : Thread nD τ).loc main_arg6) (ix2 i j)

theorem args_bwd : Bwd.args (V1 m ρ) c = args m c := by
  have h : ∀ a ∈ argRefs, V1 m ρ c a = m ((c : Thread nD τ).loc a) := W1_args m ρ c
  unfold Bwd.args args
  rw [h main_arg0 (by decide), h main_arg1 (by decide), h main_arg2 (by decide), h main_arg3 (by decide), h main_arg4 (by decide),
    h main_arg5 (by decide), h main_arg6 (by decide)]

/-- The forward call reads no gradient of the output, so its arguments serve with any. -/
theorem state_fwd (b : Fin 2) (h : Fin 8) : ∀ n, Spec.state (Fwd.args (V0 m ρ) c) b h n = Spec.state (args m c) b h n
  | 0 => rfl
  | n + 1 => by
    funext d e
    unfold Spec.state
    rw [state_fwd b h n]
    rfl
theorem out_fwd (b : Fin 2) (h : Fin 8) (n : ℕ) (r : Fin 64) (e : Fin 128) : Spec.out (Fwd.args (V0 m ρ) c) b h n r e = Spec.out (args m c) b h n r e := by
  unfold Spec.out
  rw [state_fwd m ρ c b h n]
  rfl

/-- The backward call finds the states the forward call saved. -/
theorem saved : Bwd.Saved (V1 m ρ) c := fun b j hj k h d e => by
  rw [args_bwd]
  have hs := Fwd.snap_apply (V0 m ρ) c ⟨8 * b.val + j, by show _ < 16; omega⟩ k h d e
  rw [state_fwd, ← W1_arr m ρ c 7] at hs
  have e1 : Fwd.sq ⟨8 * b.val + j, by show _ < 16; omega⟩ = b := Fin.ext (by show (8 * b.val + j) / 8 = b.val; omega)
  rw [e1, show (8 * b.val + j) % 8 = j by omega] at hs
  exact hs

/-- The output. -/
theorem out_apply (b : Fin 2) (h : Fin 8) (n : ℕ) (hn : n < 32) (r : Fin 64) (e : Fin 128) :
    V2 m ρ c main_v0_0 (ix2 (Spec.row b n r) (Spec.col h e)) = Spec.out (args m c) b h n r e := by
  have h0 := Fwd.out_apply (V0 m ρ) c b h n hn r e
  rw [out_fwd, ← W1_arr m ρ c 6] at h0
  exact (congrFun (W2_of m ρ c main_v0_0 (by decide +kernel)) _).trans h0
theorem dval_apply (b : Fin 2) (h : Fin 8) (n : ℕ) (hn : n < 32) (r : Fin 64) (e : Fin 128) :
    V2 m ρ c main_v1_0 (ix2 (Spec.row b n r) (Spec.col h e)) = Spec.dval (args m c) b h n r e := by
  have h1 := Bwd.dval_apply (V1 m ρ) c (saved m ρ c) b h n hn r e
  rw [args_bwd, ← W2_arr m ρ c 8] at h1
  exact h1
theorem dkc_apply (b : Fin 2) (h : Fin 8) (n : ℕ) (hn : n < 32) (r : Fin 64) (e : Fin 128) :
    V2 m ρ c main_v1_1 (ix2 (Spec.row b n r) (Spec.col h e)) = Spec.dkc (args m c) b h n r e := by
  have h1 := Bwd.dkc_apply (V1 m ρ) c (saved m ρ c) b h n hn r e
  rw [args_bwd, ← W2_arr m ρ c 9] at h1
  exact h1
theorem datw_apply (b : Fin 2) (h : Fin 8) (n : ℕ) (hn : n < 32) (r : Fin 64) (e : Fin 256) :
    V2 m ρ c main_v1_2 (ix2 (Spec.row b n r) (Spec.wcol h e)) = Spec.datw (args m c) b h n r e := by
  have h1 := Bwd.datw_apply (V1 m ρ) c (saved m ρ c) b h n hn r e
  rw [args_bwd, ← W2_arr m ρ c 10] at h1
  exact h1
theorem dqd_apply (b : Fin 2) (h : Fin 8) (n : ℕ) (hn : n < 32) (r : Fin 64) (e : Fin 128) :
    V2 m ρ c main_v1_3 (ix2 (Spec.row b n r) (Spec.col h e)) = Spec.dqd (args m c) b h n r e := by
  have h1 := Bwd.dqd_apply (V1 m ρ) c (saved m ρ c) b h n hn r e
  rw [args_bwd, ← W2_arr m ρ c 11] at h1
  exact h1
theorem dkd_apply (b : Fin 2) (h : Fin 8) (n : ℕ) (hn : n < 32) (r : Fin 64) (e : Fin 128) :
    V2 m ρ c main_v1_4 (ix2 (Spec.row b n r) (Spec.col h e)) = Spec.dkd (args m c) b h n r e := by
  have h1 := Bwd.dkd_apply (V1 m ρ) c (saved m ρ c) b h n hn r e
  rw [args_bwd, ← W2_arr m ρ c 12] at h1
  exact h1
theorem dgb_apply (b : Fin 2) (h : Fin 8) (n : ℕ) (hn : n < 32) (r : Fin 64) (e : Fin 128) :
    V2 m ρ c main_v1_5 (ix2 (Spec.row b n r) (Spec.col h e)) = Spec.dgb (args m c) b h n r e := by
  have h1 := Bwd.dgb_apply (V1 m ρ) c (saved m ρ c) b h n hn r e
  rw [args_bwd, ← W2_arr m ρ c 13] at h1
  exact h1

end Cert.KernelIdeal.Two

end
-- ==== Proof.Ref.Layout.lean ====
module

public import proofs.«01_k».proof.Proof.Ref.Run
public import proofs.«01_k».proof.Proof.Spec
public import Idealize.ShloMosaic.Lib.Pointwise
public import Idealize.ShloMosaic.Lib.Tactic

@[expose] public section

set_option maxRecDepth 16384

noncomputable section

/-! ## The reference's chunks: cutting the arguments, and laying the results out -/

namespace Cert.ReferenceIdeal.Loops

open Cert.ReferenceIdeal Cert.ReferenceIdeal.Gen
open Idealize.ShloMosaic Idealize.ShloMosaic.TcCoe Idealize.ShloMosaic.Tactic

variable {F : FTy → Type} [FloatOps F]

/-- An array cut into chunks and heads. -/
def cut (x : A F S4096x1024) : A F S32x2x8x64x128 :=
  transpose S32x2x8x64x128 [1, 0, 3, 2, 4] (shapeCast S2x32x64x8x128 x shapeCasts_S4096x1024_S2x32x64x8x128) transposes_S2x32x64x8x128_S32x2x8x64x128_1_0_3_2_4
/-- The chunks laid out as an array. -/
def lay (y : A F S32x2x8x64x128) : A F S4096x1024 :=
  shapeCast S4096x1024 (transpose S2x32x64x8x128 [1, 0, 3, 2, 4] y transposes_S32x2x8x64x128_S2x32x64x8x128_1_0_3_2_4) shapeCasts_S2x32x64x8x128_S4096x1024

/-- The triangular array as blocks of four rows of chunks by four columns of squares. -/
def fours (x : A F S4096x2048) : A F S2x8x4x64x8x4x64 := shapeCast S2x8x4x64x8x4x64 x shapeCasts_S4096x2048_S2x8x4x64x8x4x64
abbrev piece (x : A F S2x8x1x64x8x1x64) : A F S2x8x1x64x8x64 :=
  broadcastInDim S2x8x1x64x8x64 ![0, 1, 3, 4, 5] bcast_S2x8x64x8x64_S2x8x1x64x8x64_0_1_3_4_5 (shapeCast S2x8x64x8x64 x shapeCasts_S2x8x1x64x8x1x64_S2x8x64x8x64)
/-- The squares on the diagonals of the triangular array. -/
def diag (x : A F S4096x2048) : A F S32x2x8x64x64 :=
  transpose S32x2x8x64x64 [1, 0, 3, 2, 4] (shapeCast S2x32x64x8x64
    (concatenate S2x8x4x64x8x64 2
      [⟨S2x8x1x64x8x64, piece (extractStridedSlice S2x8x1x64x8x1x64 ![0, 0, 0, 0, 0, 0, 0] (fours x) slices_S2x8x4x64x8x4x64_S2x8x1x64x8x1x64_0_0_0_0_0_0_0)⟩,
       ⟨S2x8x1x64x8x64, piece (extractStridedSlice S2x8x1x64x8x1x64 ![0, 0, 1, 0, 0, 1, 0] (fours x) slices_S2x8x4x64x8x4x64_S2x8x1x64x8x1x64_0_0_1_0_0_1_0)⟩,
       ⟨S2x8x1x64x8x64, piece (extractStridedSlice S2x8x1x64x8x1x64 ![0, 0, 2, 0, 0, 2, 0] (fours x) slices_S2x8x4x64x8x4x64_S2x8x1x64x8x1x64_0_0_2_0_0_2_0)⟩,
       ⟨S2x8x1x64x8x64, piece (extractStridedSlice S2x8x1x64x8x1x64 ![0, 0, 3, 0, 0, 3, 0] (fours x) slices_S2x8x4x64x8x4x64_S2x8x1x64x8x1x64_0_0_3_0_0_3_0)⟩]
      concatenates_S2x8x1x64x8x64_S2x8x1x64x8x64_S2x8x1x64x8x64_S2x8x1x64x8x64_S2x8x4x64x8x64_d2) shapeCasts_S2x8x4x64x8x64_S2x32x64x8x64)
    transposes_S2x32x64x8x64_S32x2x8x64x64_1_0_3_2_4

variable (b : Fin 2) (h : Fin 8) (n : Fin 32) (r : Fin 64)

theorem cut_apply (x : A F S4096x1024) (e : Fin 128) : cut x (ix5 n b h r e) = x (ix2 (Spec.row b n r) (Spec.col h e)) := by
  pointwise [cut]
  refine congrArg x (congrArg₂ ix2 (Fin.ext ?_) (Fin.ext ?_))
  · simp only [Spec.row]; omega
  · simp only [Spec.col]; omega
theorem lay_apply (y : A F S32x2x8x64x128) (e : Fin 128) : lay y (ix2 (Spec.row b n r) (Spec.col h e)) = y (ix5 n b h r e) := by
  pointwise [lay]
  refine congrArg y ?_
  have hn := n.isLt; have hb := b.isLt; have hr := r.isLt; have hh := h.isLt; have he := e.isLt
  congr 1 <;> refine Fin.ext ?_ <;> simp only [Spec.row, Spec.col] <;> omega
theorem diag_apply (x : A F S4096x2048) (j : Fin 64) : diag x (ix5 n b h r j) = x (ix2 (Spec.row b n r) (Spec.wcol h (Spec.tri n j))) := by
  pointwise [diag, fours]
  split_ifs <;> refine congrArg x (congrArg₂ ix2 (Fin.ext ?_) (Fin.ext ?_)) <;> simp only [Spec.row, Spec.wcol, Spec.tri] <;> omega

end Cert.ReferenceIdeal.Loops

end
-- ==== Proof.Ref.Spread.lean ====
module

public import proofs.«01_k».proof.Proof.Ref.Run
public import proofs.«01_k».proof.Proof.Spec
public import Idealize.ShloMosaic.Lib.Pointwise
public import Idealize.ShloMosaic.Lib.Tactic

@[expose] public section

set_option maxRecDepth 16384

noncomputable section

/-! ## The reference's triangular gradient: the chunks' squares laid on the diagonals -/

namespace Cert.ReferenceIdeal.Loops

open Cert.ReferenceIdeal Cert.ReferenceIdeal.Gen
open Idealize.ShloMosaic Idealize.ShloMosaic.TcCoe Idealize.ShloMosaic.Tactic

variable {F : FTy → Type} [FloatOps F]

/-- One of four rows of the chunks' squares. -/
abbrev quarter (x : A F S2x8x1x64x8x64) : A F S2x8x1x64x8x1x64 :=
  broadcastInDim S2x8x1x64x8x1x64 ![0, 1, 3, 4, 6] bcast_S2x8x64x8x64_S2x8x1x64x8x1x64_0_1_3_4_6 (shapeCast S2x8x64x8x64 x shapeCasts_S2x8x1x64x8x64_S2x8x64x8x64)
/-- The squares, four rows of chunks at a time. -/
def quads (y : A F S32x2x8x64x64) : A F S2x8x4x64x8x64 :=
  shapeCast S2x8x4x64x8x64 (transpose S2x32x64x8x64 [1, 0, 3, 2, 4] y transposes_S32x2x8x64x64_S2x32x64x8x64_1_0_3_2_4) shapeCasts_S2x32x64x8x64_S2x8x4x64x8x64
def spread3 (y : A F S32x2x8x64x64) : A F S4096x2048 :=
  shapeCast S4096x2048 (pad S2x8x4x64x8x4x64 ![0, 0, 3, 0, 0, 3, 0] ![0, 0, 0, 0, 0, 0, 0] ![0, 0, 0, 0, 0, 0, 0]
    (quarter (extractStridedSlice S2x8x1x64x8x64 ![0, 0, 3, 0, 0, 0] (quads y) slices_S2x8x4x64x8x64_S2x8x1x64x8x64_0_0_3_0_0_0))
    (constant S_ .f32 0x00000000#32) pads_S2x8x1x64x8x1x64_S2x8x4x64x8x4x64_000_000_300_000_000_300_000 h_S_) shapeCasts_S2x8x4x64x8x4x64_S4096x2048
def spread2 (y : A F S32x2x8x64x64) : A F S4096x2048 :=
  shapeCast S4096x2048 (pad S2x8x4x64x8x4x64 ![0, 0, 2, 0, 0, 2, 0] ![0, 0, 1, 0, 0, 1, 0] ![0, 0, 0, 0, 0, 0, 0]
    (quarter (extractStridedSlice S2x8x1x64x8x64 ![0, 0, 2, 0, 0, 0] (quads y) slices_S2x8x4x64x8x64_S2x8x1x64x8x64_0_0_2_0_0_0))
    (constant S_ .f32 0x00000000#32) pads_S2x8x1x64x8x1x64_S2x8x4x64x8x4x64_000_000_210_000_000_210_000 h_S_) shapeCasts_S2x8x4x64x8x4x64_S4096x2048
def spread1 (y : A F S32x2x8x64x64) : A F S4096x2048 :=
  shapeCast S4096x2048 (pad S2x8x4x64x8x4x64 ![0, 0, 1, 0, 0, 1, 0] ![0, 0, 2, 0, 0, 2, 0] ![0, 0, 0, 0, 0, 0, 0]
    (quarter (extractStridedSlice S2x8x1x64x8x64 ![0, 0, 1, 0, 0, 0] (quads y) slices_S2x8x4x64x8x64_S2x8x1x64x8x64_0_0_1_0_0_0))
    (constant S_ .f32 0x00000000#32) pads_S2x8x1x64x8x1x64_S2x8x4x64x8x4x64_000_000_120_000_000_120_000 h_S_) shapeCasts_S2x8x4x64x8x4x64_S4096x2048
def spread0 (y : A F S32x2x8x64x64) : A F S4096x2048 :=
  shapeCast S4096x2048 (pad S2x8x4x64x8x4x64 ![0, 0, 0, 0, 0, 0, 0] ![0, 0, 3, 0, 0, 3, 0] ![0, 0, 0, 0, 0, 0, 0]
    (quarter (extractStridedSlice S2x8x1x64x8x64 ![0, 0, 0, 0, 0, 0] (quads y) slices_S2x8x4x64x8x64_S2x8x1x64x8x64_0_0_0_0_0_0))
    (constant S_ .f32 0x00000000#32) pads_S2x8x1x64x8x1x64_S2x8x4x64x8x4x64_000_000_030_000_000_030_000 h_S_) shapeCasts_S2x8x4x64x8x4x64_S4096x2048
/-- The squares laid on the diagonals of the triangular array. -/
def spread (y : A F S32x2x8x64x64) : A F S4096x2048 := addf (addf (addf (spread3 y) (spread2 y)) (spread1 y)) (spread0 y)

theorem quads_apply (y : A F S32x2x8x64x64) (b : Fin 2) (g : Fin 8) (q : Fin 4) (r : Fin 64) (h : Fin 8) (j : Fin 64) :
    quads y (ix6 b g q r h j) = y (ix5 ⟨4 * g.val + q.val, by omega⟩ b h r j) := by
  pointwise [quads]
  exact congrArg y (congrArg (ix5 · b h r j) (Fin.ext (by show g.val * 4 + q.val = 4 * g.val + q.val; omega)))

/-- The square's entry that row `R` and column `C` of the triangular array hold. -/
abbrev from5 (y : A Ideal S32x2x8x64x64) (R : Fin 4096) (C : Fin 2048) : EReal :=
  y (ix5 ⟨R.val / 64 % 32, by omega⟩ ⟨R.val / 2048, by omega⟩ ⟨C.val / 256, by omega⟩ ⟨R.val % 64, by omega⟩ ⟨C.val % 64, by omega⟩)

theorem spread3_in (y : A Ideal S32x2x8x64x64) (R : Fin 4096) (C : Fin 2048) (h1 : R.val / 64 % 4 = 3) (h2 : C.val / 64 % 4 = 3) :
    spread3 y (ix2 R C) = from5 y R C := by
  pointwise [spread3, forall_fin7]
  refine (dif_pos ⟨by omega, by omega, ⟨by omega, by omega⟩, by omega, by omega, ⟨by omega, by omega⟩, by omega⟩).trans ?_
  rw [quads_apply]
  exact congrArg y (congrArg (ix5 · _ _ _ _) (Fin.ext (by show 4 * (R.val / 256 % 8) + 3 = R.val / 64 % 32; omega)))
theorem spread3_out (y : A Ideal S32x2x8x64x64) (R : Fin 4096) (C : Fin 2048) (H : ¬ (R.val / 64 % 4 = 3 ∧ C.val / 64 % 4 = 3)) :
    spread3 y (ix2 R C) = (0 : EReal) := by
  pointwise [spread3, forall_fin7]
  refine dif_neg fun hh => H ⟨?_, ?_⟩
  · have := hh.2.2.1; omega
  · have := hh.2.2.2.2.2.1; omega
theorem spread2_in (y : A Ideal S32x2x8x64x64) (R : Fin 4096) (C : Fin 2048) (h1 : R.val / 64 % 4 = 2) (h2 : C.val / 64 % 4 = 2) :
    spread2 y (ix2 R C) = from5 y R C := by
  pointwise [spread2, forall_fin7]
  refine (dif_pos ⟨by omega, by omega, ⟨by omega, by omega⟩, by omega, by omega, ⟨by omega, by omega⟩, by omega⟩).trans ?_
  rw [quads_apply]
  exact congrArg y (congrArg (ix5 · _ _ _ _) (Fin.ext (by show 4 * (R.val / 256 % 8) + 2 = R.val / 64 % 32; omega)))
theorem spread2_out (y : A Ideal S32x2x8x64x64) (R : Fin 4096) (C : Fin 2048) (H : ¬ (R.val / 64 % 4 = 2 ∧ C.val / 64 % 4 = 2)) :
    spread2 y (ix2 R C) = (0 : EReal) := by
  pointwise [spread2, forall_fin7]
  refine dif_neg fun hh => H ⟨?_, ?_⟩
  · have := hh.2.2.1; omega
  · have := hh.2.2.2.2.2.1; omega
theorem spread1_in (y : A Ideal S32x2x8x64x64) (R : Fin 4096) (C : Fin 2048) (h1 : R.val / 64 % 4 = 1) (h2 : C.val / 64 % 4 = 1) :
    spread1 y (ix2 R C) = from5 y R C := by
  pointwise [spread1, forall_fin7]
  refine (dif_pos ⟨by omega, by omega, ⟨by omega, by omega⟩, by omega, by omega, ⟨by omega, by omega⟩, by omega⟩).trans ?_
  rw [quads_apply]
  exact congrArg y (congrArg (ix5 · _ _ _ _) (Fin.ext (by show 4 * (R.val / 256 % 8) + 1 = R.val / 64 % 32; omega)))
theorem spread1_out (y : A Ideal S32x2x8x64x64) (R : Fin 4096) (C : Fin 2048) (H : ¬ (R.val / 64 % 4 = 1 ∧ C.val / 64 % 4 = 1)) :
    spread1 y (ix2 R C) = (0 : EReal) := by
  pointwise [spread1, forall_fin7]
  refine dif_neg fun hh => H ⟨?_, ?_⟩
  · have := hh.2.2.1; omega
  · have := hh.2.2.2.2.2.1; omega
theorem spread0_in (y : A Ideal S32x2x8x64x64) (R : Fin 4096) (C : Fin 2048) (h1 : R.val / 64 % 4 = 0) (h2 : C.val / 64 % 4 = 0) :
    spread0 y (ix2 R C) = from5 y R C := by
  pointwise [spread0, forall_fin7]
  refine (dif_pos ⟨by omega, by omega, by omega, by omega, by omega, by omega, by omega⟩).trans ?_
  rw [quads_apply]
  exact congrArg y (congrArg (ix5 · _ _ _ _) (Fin.ext (by show 4 * (R.val / 256 % 8) + 0 = R.val / 64 % 32; omega)))
theorem spread0_out (y : A Ideal S32x2x8x64x64) (R : Fin 4096) (C : Fin 2048) (H : ¬ (R.val / 64 % 4 = 0 ∧ C.val / 64 % 4 = 0)) :
    spread0 y (ix2 R C) = (0 : EReal) := by
  pointwise [spread0, forall_fin7]
  refine dif_neg fun hh => H ⟨?_, ?_⟩
  · have := hh.2.2.1; omega
  · have := hh.2.2.2.2.2.1; omega

theorem spread_in (y : A Ideal S32x2x8x64x64) (R : Fin 4096) (C : Fin 2048) (H : R.val / 64 % 4 = C.val / 64 % 4) :
    spread y (ix2 R C) = from5 y R C := by
  show (spread3 y _ + spread2 y _ + spread1 y _ + spread0 y _ : EReal) = _
  obtain h0 | h0 | h0 | h0 : R.val / 64 % 4 = 0 ∨ R.val / 64 % 4 = 1 ∨ R.val / 64 % 4 = 2 ∨ R.val / 64 % 4 = 3 := by omega
  · rw [spread3_out y R C (by omega), spread2_out y R C (by omega), spread1_out y R C (by omega), spread0_in y R C (by omega) (by omega)]; simp only [add_zero, zero_add]
  · rw [spread3_out y R C (by omega), spread2_out y R C (by omega), spread1_in y R C (by omega) (by omega), spread0_out y R C (by omega)]; simp only [add_zero, zero_add]
  · rw [spread3_out y R C (by omega), spread2_in y R C (by omega) (by omega), spread1_out y R C (by omega), spread0_out y R C (by omega)]; simp only [add_zero, zero_add]
  · rw [spread3_in y R C (by omega) (by omega), spread2_out y R C (by omega), spread1_out y R C (by omega), spread0_out y R C (by omega)]; simp only [add_zero, zero_add]
theorem spread_out (y : A Ideal S32x2x8x64x64) (R : Fin 4096) (C : Fin 2048) (H : ¬ R.val / 64 % 4 = C.val / 64 % 4) :
    spread y (ix2 R C) = (0 : EReal) := by
  show (spread3 y _ + spread2 y _ + spread1 y _ + spread0 y _ : EReal) = _
  rw [spread3_out y R C (by omega), spread2_out y R C (by omega), spread1_out y R C (by omega), spread0_out y R C (by omega)]; simp only [add_zero]

/-- The gradient of the squares, at a row and a column of the four neighbours. -/
theorem spread_datw (P : Spec.Args) (y : A Ideal S32x2x8x64x64) (H : ∀ (n : Fin 32) b h r j, y (ix5 n b h r j) = (Spec.dat P b h n r j : EReal))
    (b : Fin 2) (h : Fin 8) (n : Fin 32) (r : Fin 64) (q : Fin 256) : spread y (ix2 (Spec.row b n r) (Spec.wcol h q)) = Spec.datw P b h n r q := by
  have hn := n.isLt; have hb := b.isLt; have hr := r.isLt; have hh := h.isLt; have hq := q.isLt
  have e1 : (Spec.row b n.val r).val / 64 % 4 = n.val % 4 := by simp only [Spec.row]; omega
  have e2 : (Spec.wcol h q).val / 64 % 4 = q.val / 64 := by simp only [Spec.wcol]; omega
  unfold Spec.datw
  by_cases G : q.val / 64 = n.val % 4
  · rw [spread_in y _ _ (by rw [e1, e2, G]), if_pos G]
    refine Eq.trans (congrArg y ?_) (H n b h r ⟨q.val % 64, by omega⟩)
    congr 1 <;> refine Fin.ext ?_ <;> simp only [Spec.row, Spec.wcol] <;> omega
  · rw [spread_out y _ _ (by rw [e1, e2]; exact fun h => G h.symm), if_neg G]

end Cert.ReferenceIdeal.Loops

end
-- ==== Proof.Ref.Stack.lean ====
module

public import proofs.«01_k».proof.Proof.Ref.Run
public import Idealize.ShloMosaic.Lib.Pointwise
public import Idealize.ShloMosaic.Lib.Tactic

@[expose] public section

set_option maxRecDepth 100000

noncomputable section

/-! ## Taking a chunk from a stack, and putting one in -/

namespace Cert.ReferenceIdeal.Loops

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- A word the loops count with. -/
abbrev Word (F : FTy → Type) : Type := (⟨S_, .i32⟩ : BufTy).Contents (Elt F)
/-- The index operands of a step at chunk `i`: the chunk, then zeros. -/
abbrev at5 (i : Word F) : Fin 5 → ℤ := fun k =>
  ((![i, constantI S_ 32 0#32, constantI S_ 32 0#32, constantI S_ 32 0#32, constantI S_ 32 0#32] : Fin 5 → Word F) k (Shape.Idx.first h_S_)).toInt
abbrev at4 (i : Word F) : Fin 4 → ℤ := fun k =>
  ((![i, constantI S_ 32 0#32, constantI S_ 32 0#32, constantI S_ 32 0#32] : Fin 4 → Word F) k (Shape.Idx.first h_S_)).toInt

/-- Chunk `i` of a stack of chunks. -/
def take (x : A F S32x2x8x64x128) (i : Word F) : A F S2x8x64x128 :=
  shapeCast S2x8x64x128 (Host.dynamicSlice S1x2x8x64x128 x (at5 i) sliceFits_S32x2x8x64x128_S1x2x8x64x128) shapeCasts_S1x2x8x64x128_S2x8x64x128
def takeT (x : A F S32x2x8x64x64) (i : Word F) : A F S2x8x64x64 :=
  shapeCast S2x8x64x64 (Host.dynamicSlice S1x2x8x64x64 x (at5 i) sliceFits_S32x2x8x64x64_S1x2x8x64x64) shapeCasts_S1x2x8x64x64_S2x8x64x64
def takeD (x : A F S32x2x8x128) (i : Word F) : A F S2x8x128 :=
  shapeCast S2x8x128 (Host.dynamicSlice S1x2x8x128 x (at4 i) sliceFits_S32x2x8x128_S1x2x8x128) shapeCasts_S1x2x8x128_S2x8x128

def takeS (x : A F S32x2x8x128x128) (i : Word F) : A F S2x8x128x128 :=
  shapeCast S2x8x128x128 (Host.dynamicSlice S1x2x8x128x128 x (at5 i) sliceFits_S32x2x8x128x128_S1x2x8x128x128) shapeCasts_S1x2x8x128x128_S2x8x128x128
def takeE (x : A F S32x2x8x1x128) (i : Word F) : A F S2x8x1x128 :=
  shapeCast S2x8x1x128 (Host.dynamicSlice S1x2x8x1x128 x (at5 i) sliceFits_S32x2x8x1x128_S1x2x8x1x128) shapeCasts_S1x2x8x1x128_S2x8x1x128

/-- A stack of chunks with chunk `i` replaced. -/
def put (x : A F S32x2x8x64x128) (u : A F S2x8x64x128) (i : Word F) : A F S32x2x8x64x128 :=
  Host.dynamicUpdateSlice x (broadcastInDim S1x2x8x64x128 ![1, 2, 3, 4] bcast_S2x8x64x128_S1x2x8x64x128_1_2_3_4 u) (at5 i) updateFits_S32x2x8x64x128_S1x2x8x64x128
def putT (x : A F S32x2x8x64x64) (u : A F S2x8x64x64) (i : Word F) : A F S32x2x8x64x64 :=
  Host.dynamicUpdateSlice x (broadcastInDim S1x2x8x64x64 ![1, 2, 3, 4] bcast_S2x8x64x64_S1x2x8x64x64_1_2_3_4 u) (at5 i) updateFits_S32x2x8x64x64_S1x2x8x64x64
def putS (x : A F S32x2x8x128x128) (u : A F S2x8x128x128) (i : Word F) : A F S32x2x8x128x128 :=
  Host.dynamicUpdateSlice x (broadcastInDim S1x2x8x128x128 ![1, 2, 3, 4] bcast_S2x8x128x128_S1x2x8x128x128_1_2_3_4 u) (at5 i) updateFits_S32x2x8x128x128_S1x2x8x128x128
def putE (x : A F S32x2x8x1x128) (u : A F S2x8x1x128) (i : Word F) : A F S32x2x8x1x128 :=
  Host.dynamicUpdateSlice x (broadcastInDim S1x2x8x1x128 ![1, 2, 3, 4] bcast_S2x8x1x128_S1x2x8x1x128_1_2_3_4 u) (at5 i) updateFits_S32x2x8x1x128_S1x2x8x1x128
def putD (x : A F S32x2x8x128) (u : A F S2x8x128) (i : Word F) : A F S32x2x8x128 :=
  Host.dynamicUpdateSlice x (broadcastInDim S1x2x8x128 ![1, 2, 3] bcast_S2x8x128_S1x2x8x128_1_2_3 u) (at4 i) updateFits_S32x2x8x128_S1x2x8x128

section
variable (i : Word F) (k : Fin 32) (hi : (i (Shape.Idx.first h_S_)).toInt = (k.val : ℤ)) (b : Fin 2) (h : Fin 8)
include hi

/-! The counter never leaves the stack, so no start is clamped; the other starts are zero. -/

theorem take_apply (x : A F S32x2x8x64x128) (r : Fin 64) (e : Fin 128) : take x i (ix4 b h r e) = x (ix5 k b h r e) := by
  have c0 : Host.clampedStart S32x2x8x64x128 S1x2x8x64x128 rfl (at5 i) 0 = k.val := by
    unfold Host.clampedStart
    rw [show at5 i 0 = (k.val : ℤ) from hi]
    show (min (max (k.val : ℤ) 0) ((31 : ℕ) : ℤ)).toNat = k.val
    omega
  have c1 : Host.clampedStart S32x2x8x64x128 S1x2x8x64x128 rfl (at5 i) 1 = 0 := rfl
  have c2 : Host.clampedStart S32x2x8x64x128 S1x2x8x64x128 rfl (at5 i) 2 = 0 := rfl
  have c3 : Host.clampedStart S32x2x8x64x128 S1x2x8x64x128 rfl (at5 i) 3 = 0 := rfl
  have c4 : Host.clampedStart S32x2x8x64x128 S1x2x8x64x128 rfl (at5 i) 4 = 0 := rfl
  pointwise [take]
  simp only [c0, c1, c2, c3, c4, Nat.zero_add, Fin.eta]
theorem put_apply (x : A F S32x2x8x64x128) (u : A F S2x8x64x128) (n : Fin 32) (r : Fin 64) (e : Fin 128) :
    put x u i (ix5 n b h r e) = if n = k then u (ix4 b h r e) else x (ix5 n b h r e) := by
  have c0 : Host.clampedStart S32x2x8x64x128 S1x2x8x64x128 rfl (at5 i) 0 = k.val := by
    unfold Host.clampedStart
    rw [show at5 i 0 = (k.val : ℤ) from hi]
    show (min (max (k.val : ℤ) 0) ((31 : ℕ) : ℤ)).toNat = k.val
    omega
  have c1 : Host.clampedStart S32x2x8x64x128 S1x2x8x64x128 rfl (at5 i) 1 = 0 := rfl
  have c2 : Host.clampedStart S32x2x8x64x128 S1x2x8x64x128 rfl (at5 i) 2 = 0 := rfl
  have c3 : Host.clampedStart S32x2x8x64x128 S1x2x8x64x128 rfl (at5 i) 3 = 0 := rfl
  have c4 : Host.clampedStart S32x2x8x64x128 S1x2x8x64x128 rfl (at5 i) 4 = 0 := rfl
  pointwise [put]
  simp only [c0, c1, c2, c3, c4, Nat.zero_le, Nat.zero_add, Nat.zero_lt_one, and_true, Nat.sub_zero, Fin.eta, dite_eq_ite]
  by_cases hn : n = k
  · rw [if_pos hn, if_pos (by omega)]
  · rw [if_neg hn, if_neg fun hh => hn (Fin.ext (by omega))]

theorem takeT_apply (x : A F S32x2x8x64x64) (r : Fin 64) (e : Fin 64) : takeT x i (ix4 b h r e) = x (ix5 k b h r e) := by
  have c0 : Host.clampedStart S32x2x8x64x64 S1x2x8x64x64 rfl (at5 i) 0 = k.val := by
    unfold Host.clampedStart
    rw [show at5 i 0 = (k.val : ℤ) from hi]
    show (min (max (k.val : ℤ) 0) ((31 : ℕ) : ℤ)).toNat = k.val
    omega
  have c1 : Host.clampedStart S32x2x8x64x64 S1x2x8x64x64 rfl (at5 i) 1 = 0 := rfl
  have c2 : Host.clampedStart S32x2x8x64x64 S1x2x8x64x64 rfl (at5 i) 2 = 0 := rfl
  have c3 : Host.clampedStart S32x2x8x64x64 S1x2x8x64x64 rfl (at5 i) 3 = 0 := rfl
  have c4 : Host.clampedStart S32x2x8x64x64 S1x2x8x64x64 rfl (at5 i) 4 = 0 := rfl
  pointwise [takeT]
  simp only [c0, c1, c2, c3, c4, Nat.zero_add, Fin.eta]
theorem putT_apply (x : A F S32x2x8x64x64) (u : A F S2x8x64x64) (n : Fin 32) (r : Fin 64) (e : Fin 64) :
    putT x u i (ix5 n b h r e) = if n = k then u (ix4 b h r e) else x (ix5 n b h r e) := by
  have c0 : Host.clampedStart S32x2x8x64x64 S1x2x8x64x64 rfl (at5 i) 0 = k.val := by
    unfold Host.clampedStart
    rw [show at5 i 0 = (k.val : ℤ) from hi]
    show (min (max (k.val : ℤ) 0) ((31 : ℕ) : ℤ)).toNat = k.val
    omega
  have c1 : Host.clampedStart S32x2x8x64x64 S1x2x8x64x64 rfl (at5 i) 1 = 0 := rfl
  have c2 : Host.clampedStart S32x2x8x64x64 S1x2x8x64x64 rfl (at5 i) 2 = 0 := rfl
  have c3 : Host.clampedStart S32x2x8x64x64 S1x2x8x64x64 rfl (at5 i) 3 = 0 := rfl
  have c4 : Host.clampedStart S32x2x8x64x64 S1x2x8x64x64 rfl (at5 i) 4 = 0 := rfl
  pointwise [putT]
  simp only [c0, c1, c2, c3, c4, Nat.zero_le, Nat.zero_add, Nat.zero_lt_one, and_true, Nat.sub_zero, Fin.eta, dite_eq_ite]
  by_cases hn : n = k
  · rw [if_pos hn, if_pos (by omega)]
  · rw [if_neg hn, if_neg fun hh => hn (Fin.ext (by omega))]

theorem takeS_apply (x : A F S32x2x8x128x128) (r : Fin 128) (e : Fin 128) : takeS x i (ix4 b h r e) = x (ix5 k b h r e) := by
  have c0 : Host.clampedStart S32x2x8x128x128 S1x2x8x128x128 rfl (at5 i) 0 = k.val := by
    unfold Host.clampedStart
    rw [show at5 i 0 = (k.val : ℤ) from hi]
    show (min (max (k.val : ℤ) 0) ((31 : ℕ) : ℤ)).toNat = k.val
    omega
  have c1 : Host.clampedStart S32x2x8x128x128 S1x2x8x128x128 rfl (at5 i) 1 = 0 := rfl
  have c2 : Host.clampedStart S32x2x8x128x128 S1x2x8x128x128 rfl (at5 i) 2 = 0 := rfl
  have c3 : Host.clampedStart S32x2x8x128x128 S1x2x8x128x128 rfl (at5 i) 3 = 0 := rfl
  have c4 : Host.clampedStart S32x2x8x128x128 S1x2x8x128x128 rfl (at5 i) 4 = 0 := rfl
  pointwise [takeS]
  simp only [c0, c1, c2, c3, c4, Nat.zero_add, Fin.eta]
theorem putS_apply (x : A F S32x2x8x128x128) (u : A F S2x8x128x128) (n : Fin 32) (r : Fin 128) (e : Fin 128) :
    putS x u i (ix5 n b h r e) = if n = k then u (ix4 b h r e) else x (ix5 n b h r e) := by
  have c0 : Host.clampedStart S32x2x8x128x128 S1x2x8x128x128 rfl (at5 i) 0 = k.val := by
    unfold Host.clampedStart
    rw [show at5 i 0 = (k.val : ℤ) from hi]
    show (min (max (k.val : ℤ) 0) ((31 : ℕ) : ℤ)).toNat = k.val
    omega
  have c1 : Host.clampedStart S32x2x8x128x128 S1x2x8x128x128 rfl (at5 i) 1 = 0 := rfl
  have c2 : Host.clampedStart S32x2x8x128x128 S1x2x8x128x128 rfl (at5 i) 2 = 0 := rfl
  have c3 : Host.clampedStart S32x2x8x128x128 S1x2x8x128x128 rfl (at5 i) 3 = 0 := rfl
  have c4 : Host.clampedStart S32x2x8x128x128 S1x2x8x128x128 rfl (at5 i) 4 = 0 := rfl
  pointwise [putS]
  simp only [c0, c1, c2, c3, c4, Nat.zero_le, Nat.zero_add, Nat.zero_lt_one, and_true, Nat.sub_zero, Fin.eta, dite_eq_ite]
  by_cases hn : n = k
  · rw [if_pos hn, if_pos (by omega)]
  · rw [if_neg hn, if_neg fun hh => hn (Fin.ext (by omega))]

theorem takeE_apply (x : A F S32x2x8x1x128) (e : Fin 128) : takeE x i (ix4 b h 0 e) = x (ix5 k b h 0 e) := by
  have c0 : Host.clampedStart S32x2x8x1x128 S1x2x8x1x128 rfl (at5 i) 0 = k.val := by
    unfold Host.clampedStart
    rw [show at5 i 0 = (k.val : ℤ) from hi]
    show (min (max (k.val : ℤ) 0) ((31 : ℕ) : ℤ)).toNat = k.val
    omega
  have c1 : Host.clampedStart S32x2x8x1x128 S1x2x8x1x128 rfl (at5 i) 1 = 0 := rfl
  have c2 : Host.clampedStart S32x2x8x1x128 S1x2x8x1x128 rfl (at5 i) 2 = 0 := rfl
  have c3 : Host.clampedStart S32x2x8x1x128 S1x2x8x1x128 rfl (at5 i) 3 = 0 := rfl
  have c4 : Host.clampedStart S32x2x8x1x128 S1x2x8x1x128 rfl (at5 i) 4 = 0 := rfl
  pointwise [takeE]
  simp only [c0, c1, c2, c3, c4, Nat.zero_add, Fin.eta]
  rfl
theorem putE_apply (x : A F S32x2x8x1x128) (u : A F S2x8x1x128) (n : Fin 32) (e : Fin 128) :
    putE x u i (ix5 n b h 0 e) = if n = k then u (ix4 b h 0 e) else x (ix5 n b h 0 e) := by
  have c0 : Host.clampedStart S32x2x8x1x128 S1x2x8x1x128 rfl (at5 i) 0 = k.val := by
    unfold Host.clampedStart
    rw [show at5 i 0 = (k.val : ℤ) from hi]
    show (min (max (k.val : ℤ) 0) ((31 : ℕ) : ℤ)).toNat = k.val
    omega
  have c1 : Host.clampedStart S32x2x8x1x128 S1x2x8x1x128 rfl (at5 i) 1 = 0 := rfl
  have c2 : Host.clampedStart S32x2x8x1x128 S1x2x8x1x128 rfl (at5 i) 2 = 0 := rfl
  have c3 : Host.clampedStart S32x2x8x1x128 S1x2x8x1x128 rfl (at5 i) 3 = 0 := rfl
  have c4 : Host.clampedStart S32x2x8x1x128 S1x2x8x1x128 rfl (at5 i) 4 = 0 := rfl
  pointwise [putE]
  simp only [c0, c1, c2, c3, c4, Nat.zero_le, Nat.zero_add, Nat.zero_lt_one, and_true, Nat.sub_zero, Fin.eta, dite_eq_ite]
  by_cases hn : n = k
  · rw [if_pos hn, if_pos (by omega)]
  · rw [if_neg hn, if_neg fun hh => hn (Fin.ext (by omega))]

theorem takeD_apply (x : A F S32x2x8x128) (e : Fin 128) : takeD x i (ix3 b h e) = x (ix4 k b h e) := by
  have c0 : Host.clampedStart S32x2x8x128 S1x2x8x128 rfl (at4 i) 0 = k.val := by
    unfold Host.clampedStart
    rw [show at4 i 0 = (k.val : ℤ) from hi]
    show (min (max (k.val : ℤ) 0) ((31 : ℕ) : ℤ)).toNat = k.val
    omega
  have c1 : Host.clampedStart S32x2x8x128 S1x2x8x128 rfl (at4 i) 1 = 0 := rfl
  have c2 : Host.clampedStart S32x2x8x128 S1x2x8x128 rfl (at4 i) 2 = 0 := rfl
  have c3 : Host.clampedStart S32x2x8x128 S1x2x8x128 rfl (at4 i) 3 = 0 := rfl
  pointwise [takeD]
  simp only [c0, c1, c2, c3, Nat.zero_add, Fin.eta]
theorem putD_apply (x : A F S32x2x8x128) (u : A F S2x8x128) (n : Fin 32) (e : Fin 128) :
    putD x u i (ix4 n b h e) = if n = k then u (ix3 b h e) else x (ix4 n b h e) := by
  have c0 : Host.clampedStart S32x2x8x128 S1x2x8x128 rfl (at4 i) 0 = k.val := by
    unfold Host.clampedStart
    rw [show at4 i 0 = (k.val : ℤ) from hi]
    show (min (max (k.val : ℤ) 0) ((31 : ℕ) : ℤ)).toNat = k.val
    omega
  have c1 : Host.clampedStart S32x2x8x128 S1x2x8x128 rfl (at4 i) 1 = 0 := rfl
  have c2 : Host.clampedStart S32x2x8x128 S1x2x8x128 rfl (at4 i) 2 = 0 := rfl
  have c3 : Host.clampedStart S32x2x8x128 S1x2x8x128 rfl (at4 i) 3 = 0 := rfl
  pointwise [putD]
  simp only [c0, c1, c2, c3, Nat.zero_le, Nat.zero_add, Nat.zero_lt_one, and_true, Nat.sub_zero, Fin.eta, dite_eq_ite]
  by_cases hn : n = k
  · rw [if_pos hn, if_pos (by omega)]
  · rw [if_neg hn, if_neg fun hh => hn (Fin.ext (by omega))]

end

end Cert.ReferenceIdeal.Loops

end
-- ==== Proof.Ref.Trip0.lean ====
module

public import proofs.«01_k».proof.Proof.Ref.Stack

@[expose] public section

set_option maxRecDepth 100000
set_option maxHeartbeats 4000000

noncomputable section

/-! ## One trip of the scan

What a trip leaves in each array it carries, from any contents. -/

namespace Cert.ReferenceIdeal.Loops

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- What a chunk writes into the state `S`. -/
def newV (val kc : A F S2x8x64x128) (S : A F S2x8x128x128) : A F S2x8x64x128 :=
  subf val (Host.dotGeneral dot_S2x8x64x128_S2x8x128x128_S2x8x64x128_3_2_2_3_01_01 none kc S)
/-- The chunk's output. -/
def newO (qd : A F S2x8x64x128) (at' : A F S2x8x64x64) (S : A F S2x8x128x128) (v : A F S2x8x64x128) : A F S2x8x64x128 :=
  addf (Host.dotGeneral dot_S2x8x64x128_S2x8x128x128_S2x8x64x128_3_2_2_3_01_01 none qd S)
    (Host.dotGeneral dot_S2x8x64x64_S2x8x64x128_S2x8x64x128_3_2_2_3_01_01 none at' v)
/-- The chunk's decay as a row. -/
def rowD (d : A F S2x8x128) : A F S2x8x1x128 := broadcastInDim S2x8x1x128 ![0, 1, 3] bcast_S2x8x128_S2x8x1x128_0_1_3 d
/-- The state after the chunk. -/
def newS (S : A F S2x8x128x128) (d : A F S2x8x1x128) (kd v : A F S2x8x64x128) : A F S2x8x128x128 :=
  addf (mulf S (broadcastInDim S2x8x128x128 ![0, 1, 2, 3] bcast_S2x8x1x128_S2x8x128x128_0_1_2_3 d))
    (Host.dotGeneral dot_S2x8x64x128_S2x8x64x128_S2x8x128x128_2_2_3_3_01_01 none kd v)

variable (V : Valuation τ sig (Elt F))

/-- The trip's counter. -/
abbrev n0 : Word F := V (Proc.devRef .tc main_v40_6)
/-- What the trip's chunk writes into the state. -/
abbrev v0 : A F S2x8x64x128 :=
  newV (take (V (Proc.devRef .tc main_v40_0)) (n0 V)) (take (V (Proc.devRef .tc main_v40_1)) (n0 V)) (V (Proc.devRef .tc main_v40_7))

theorem trip0_7 : afterL body0 V (Proc.devRef .tc main_v40_7)
    = newS (V (Proc.devRef .tc main_v40_7)) (rowD (takeD (V (Proc.devRef .tc main_v40_5)) (n0 V))) (take (V (Proc.devRef .tc main_v40_4)) (n0 V)) (v0 V) := by
  unfold newS rowD v0 newV take takeD
  simp only [body0, afterL_cons, afterL_nil]
  after_results_entrywise [cast_eq]
theorem trip0_8 : afterL body0 V (Proc.devRef .tc main_v40_8)
    = put (V (Proc.devRef .tc main_v40_8)) (newO (take (V (Proc.devRef .tc main_v40_3)) (n0 V)) (takeT (V (Proc.devRef .tc main_v40_2)) (n0 V)) (V (Proc.devRef .tc main_v40_7)) (v0 V)) (n0 V) := by
  unfold put newO v0 newV take takeT
  simp only [body0, afterL_cons, afterL_nil]
  after_results_entrywise [cast_eq]
theorem trip0_9 : afterL body0 V (Proc.devRef .tc main_v40_9) = putS (V (Proc.devRef .tc main_v40_9)) (V (Proc.devRef .tc main_v40_7)) (n0 V) := by
  unfold putS
  simp only [body0, afterL_cons, afterL_nil]
  after_results_entrywise [cast_eq]
theorem trip0_10 : afterL body0 V (Proc.devRef .tc main_v40_10) = put (V (Proc.devRef .tc main_v40_10)) (v0 V) (n0 V) := by
  unfold put v0 newV take
  simp only [body0, afterL_cons, afterL_nil]
  after_results_entrywise [cast_eq]
theorem trip0_11 : afterL body0 V (Proc.devRef .tc main_v40_11)
    = putE (V (Proc.devRef .tc main_v40_11)) (rowD (takeD (V (Proc.devRef .tc main_v40_5)) (n0 V))) (n0 V) := by
  unfold putE rowD takeD
  simp only [body0, afterL_cons, afterL_nil]
  after_results_entrywise [cast_eq]

end Cert.ReferenceIdeal.Loops

end
-- ==== Proof.Ref.Trip1.lean ====
module

public import proofs.«01_k».proof.Proof.Ref.Stack

@[expose] public section

set_option maxRecDepth 100000
set_option maxHeartbeats 4000000

noncomputable section

/-! ## One trip of the transposed scan

It takes the chunks from the last to the first: at counter `k` it works on chunk `32 - k - 1`. -/

namespace Cert.ReferenceIdeal.Loops

open Cert.ReferenceIdeal Cert.ReferenceIdeal.Gen
open Idealize.ShloMosaic Idealize.ShloMosaic.TcCoe Idealize.ShloMosaic.Tactic
open Idealize.ShloMosaic.StableHlo

variable {F : FTy → Type} [FloatOps F]

abbrev flip64 (x : A F S2x8x128x64) : A F S2x8x64x128 := transpose S2x8x64x128 [0, 1, 3, 2] x transposes_S2x8x128x64_S2x8x64x128_0_1_3_2
abbrev flip128 (x : A F S2x8x128x128) : A F S2x8x128x128 := transpose S2x8x128x128 [0, 1, 3, 2] x transposes_S2x8x128x128_S2x8x128x128_0_1_3_2

/-- The gradient of what a chunk wrote, from the gradient `G` of the state after it. -/
def backV (G : A F S2x8x128x128) (kd go : A F S2x8x64x128) (at' : A F S2x8x64x64) : A F S2x8x64x128 :=
  addf (flip64 (Host.dotGeneral dot_S2x8x128x128_S2x8x64x128_S2x8x128x64_2_3_3_2_01_01 none G kd))
    (flip64 (Host.dotGeneral dot_S2x8x64x128_S2x8x64x64_S2x8x128x64_2_2_3_3_01_01 none go at'))
/-- The gradient of the state before the chunk. -/
def backS (G : A F S2x8x128x128) (d : A F S2x8x1x128) (go qd kc v : A F S2x8x64x128) : A F S2x8x128x128 :=
  addf (addf (mulf G (broadcastInDim S2x8x128x128 ![0, 1, 2, 3] bcast_S2x8x1x128_S2x8x128x128_0_1_2_3 d))
      (flip128 (Host.dotGeneral dot_S2x8x64x128_S2x8x64x128_S2x8x128x128_2_2_3_3_01_01 none go qd)))
    (flip128 (Host.dotGeneral dot_S2x8x64x128_S2x8x64x128_S2x8x128x128_2_2_3_3_01_01 none (Host.negf v) kc))
/-- The gradient of the keys, and (of `go`) of the queries. -/
def backK (v : A F S2x8x64x128) (S : A F S2x8x128x128) : A F S2x8x64x128 :=
  Host.dotGeneral dot_S2x8x64x128_S2x8x128x128_S2x8x64x128_3_3_2_2_01_01 none v S
/-- The gradient of the triangular square. -/
def backT (go vn : A F S2x8x64x128) : A F S2x8x64x64 :=
  Host.dotGeneral dot_S2x8x64x128_S2x8x64x128_S2x8x64x64_3_3_2_2_01_01 none go vn
/-- The gradient of the decayed keys. -/
def backN (G : A F S2x8x128x128) (vn : A F S2x8x64x128) : A F S2x8x64x128 :=
  flip64 (Host.dotGeneral dot_S2x8x128x128_S2x8x64x128_S2x8x128x64_3_3_2_2_01_01 none G vn)
/-- The gradient of the decay. -/
def backD (S G : A F S2x8x128x128) : A F S2x8x128 :=
  Host.reduceAdd (shapeCast S2x8x1x128 (Host.reduceAdd (mulf S G) (constant S_ .f32 0x00000000#32 : A F S_) reducesTo_S2x8x128x128_S2x8x128_d2 h_S_ : A F S2x8x128) shapeCasts_S2x8x128_S2x8x1x128 : A F S2x8x1x128)
    (constant S_ .f32 0x00000000#32 : A F S_) reducesTo_S2x8x1x128_S2x8x128_d2 h_S_

variable (V : Valuation τ sig (Elt F))

/-- The chunk the trip works on. -/
abbrev n1 : Word F := subi (subi (constantI S_ 32 32#32 : Word F) (V (Proc.devRef .tc main_v53_8))) (constantI S_ 32 1#32)
/-- The gradient of what the trip's chunk wrote. -/
abbrev v1 : A F S2x8x64x128 :=
  backV (V (Proc.devRef .tc main_v53_9)) (take (V (Proc.devRef .tc main_v53_7)) (n1 V)) (take (V (Proc.devRef .tc main_v53_0)) (n1 V)) (takeT (V (Proc.devRef .tc main_v53_5)) (n1 V))

theorem trip1_9 : afterL body1 V (Proc.devRef .tc main_v53_9)
    = backS (V (Proc.devRef .tc main_v53_9)) (takeE (V (Proc.devRef .tc main_v53_6)) (n1 V)) (take (V (Proc.devRef .tc main_v53_0)) (n1 V))
        (take (V (Proc.devRef .tc main_v53_3)) (n1 V)) (take (V (Proc.devRef .tc main_v53_2)) (n1 V)) (v1 V) := by
  unfold backS v1 backV take takeT takeE n1
  simp only [body1, afterL_cons, afterL_nil]
  after_results_entrywise [cast_eq]
theorem trip1_10 : afterL body1 V (Proc.devRef .tc main_v53_10) = put (V (Proc.devRef .tc main_v53_10)) (v1 V) (n1 V) := by
  unfold put v1 backV take takeT n1
  simp only [body1, afterL_cons, afterL_nil]
  after_results_entrywise [cast_eq]
theorem trip1_11 : afterL body1 V (Proc.devRef .tc main_v53_11)
    = put (V (Proc.devRef .tc main_v53_11)) (backK (Host.negf (v1 V)) (takeS (V (Proc.devRef .tc main_v53_1)) (n1 V))) (n1 V) := by
  unfold put backK v1 backV take takeT takeS n1
  simp only [body1, afterL_cons, afterL_nil]
  after_results_entrywise [cast_eq]
theorem trip1_12 : afterL body1 V (Proc.devRef .tc main_v53_12)
    = putT (V (Proc.devRef .tc main_v53_12)) (backT (take (V (Proc.devRef .tc main_v53_0)) (n1 V)) (take (V (Proc.devRef .tc main_v53_4)) (n1 V))) (n1 V) := by
  unfold putT backT take n1
  simp only [body1, afterL_cons, afterL_nil]
  after_results_entrywise [cast_eq]
theorem trip1_13 : afterL body1 V (Proc.devRef .tc main_v53_13)
    = put (V (Proc.devRef .tc main_v53_13)) (backK (take (V (Proc.devRef .tc main_v53_0)) (n1 V)) (takeS (V (Proc.devRef .tc main_v53_1)) (n1 V))) (n1 V) := by
  unfold put backK take takeS n1
  simp only [body1, afterL_cons, afterL_nil]
  after_results_entrywise [cast_eq]
theorem trip1_14 : afterL body1 V (Proc.devRef .tc main_v53_14)
    = put (V (Proc.devRef .tc main_v53_14)) (backN (V (Proc.devRef .tc main_v53_9)) (take (V (Proc.devRef .tc main_v53_4)) (n1 V))) (n1 V) := by
  unfold put backN take n1
  simp only [body1, afterL_cons, afterL_nil]
  after_results_entrywise [cast_eq]
theorem trip1_15 : afterL body1 V (Proc.devRef .tc main_v53_15)
    = putD (V (Proc.devRef .tc main_v53_15)) (backD (takeS (V (Proc.devRef .tc main_v53_1)) (n1 V)) (V (Proc.devRef .tc main_v53_9))) (n1 V) := by
  unfold putD backD takeS n1
  simp only [body1, afterL_cons, afterL_nil]
  after_results_entrywise [cast_eq]

end Cert.ReferenceIdeal.Loops

end
-- ==== Proof.Ref.Steps.lean ====
module

public import proofs.«01_k».proof.Proof.Ref.Trip0
public import proofs.«01_k».proof.Proof.Ref.Trip1

@[expose] public section

set_option maxRecDepth 16384

noncomputable section

/-! ## A trip's arrays, entry by entry -/

namespace Cert.ReferenceIdeal.Loops

open Cert.ReferenceIdeal Cert.ReferenceIdeal.Gen
open Idealize.ShloMosaic Idealize.ShloMosaic.TcCoe Idealize.ShloMosaic.Tactic

variable (b : Fin 2) (h : Fin 8)

theorem newV_apply (val kc : A Ideal S2x8x64x128) (S : A Ideal S2x8x128x128) (r : Fin 64) (e : Fin 128) :
    newV val kc S (ix4 b h r e) = val (ix4 b h r e) - ∑ k : Fin 128, kc (ix4 b h r k) * S (ix4 b h k e) := by
  pointwise [newV]
theorem newO_apply (qd : A Ideal S2x8x64x128) (at' : A Ideal S2x8x64x64) (S : A Ideal S2x8x128x128) (v : A Ideal S2x8x64x128) (r : Fin 64) (e : Fin 128) :
    newO qd at' S v (ix4 b h r e) = (∑ k : Fin 128, qd (ix4 b h r k) * S (ix4 b h k e)) + ∑ j : Fin 64, at' (ix4 b h r j) * v (ix4 b h j e) := by
  pointwise [newO]
theorem rowD_apply (d : A Ideal S2x8x128) (e : Fin 128) : rowD d (ix4 b h 0 e) = d (ix3 b h e) := by
  pointwise [rowD]
theorem newS_apply (S : A Ideal S2x8x128x128) (d : A Ideal S2x8x1x128) (kd v : A Ideal S2x8x64x128) (i e : Fin 128) :
    newS S d kd v (ix4 b h i e) = S (ix4 b h i e) * d (ix4 b h 0 e) + ∑ r : Fin 64, kd (ix4 b h r i) * v (ix4 b h r e) := by
  pointwise [newS]

theorem backV_apply (G : A Ideal S2x8x128x128) (kd go : A Ideal S2x8x64x128) (at' : A Ideal S2x8x64x64) (r : Fin 64) (e : Fin 128) :
    backV G kd go at' (ix4 b h r e) = (∑ k : Fin 128, G (ix4 b h k e) * kd (ix4 b h r k)) + ∑ j : Fin 64, go (ix4 b h j e) * at' (ix4 b h j r) := by
  pointwise [backV]
theorem backS_apply (G : A Ideal S2x8x128x128) (d : A Ideal S2x8x1x128) (go qd kc v : A Ideal S2x8x64x128) (i e : Fin 128) :
    backS G d go qd kc v (ix4 b h i e) = G (ix4 b h i e) * d (ix4 b h 0 e) + (∑ r : Fin 64, go (ix4 b h r e) * qd (ix4 b h r i))
      + ∑ r : Fin 64, -(v (ix4 b h r e)) * kc (ix4 b h r i) := by
  pointwise [backS]
theorem backK_apply (v : A Ideal S2x8x64x128) (S : A Ideal S2x8x128x128) (r : Fin 64) (d : Fin 128) :
    backK v S (ix4 b h r d) = ∑ e : Fin 128, v (ix4 b h r e) * S (ix4 b h d e) := by
  pointwise [backK]
theorem backK_neg_apply (v : A Ideal S2x8x64x128) (S : A Ideal S2x8x128x128) (r : Fin 64) (d : Fin 128) :
    backK (Host.negf v) S (ix4 b h r d) = ∑ e : Fin 128, -(v (ix4 b h r e)) * S (ix4 b h d e) := by
  pointwise [backK]
theorem backT_apply (go vn : A Ideal S2x8x64x128) (r j : Fin 64) :
    backT go vn (ix4 b h r j) = ∑ e : Fin 128, go (ix4 b h r e) * vn (ix4 b h j e) := by
  pointwise [backT]
theorem backN_apply (G : A Ideal S2x8x128x128) (vn : A Ideal S2x8x64x128) (r : Fin 64) (d : Fin 128) :
    backN G vn (ix4 b h r d) = ∑ e : Fin 128, G (ix4 b h d e) * vn (ix4 b h r e) := by
  pointwise [backN]
theorem backD_apply (S G : A Ideal S2x8x128x128) (e : Fin 128) :
    backD S G (ix3 b h e) = ∑ d : Fin 128, S (ix4 b h d e) * G (ix4 b h d e) := by
  pointwise [backD]
  exact Fin.sum_univ_one _

end Cert.ReferenceIdeal.Loops

end
-- ==== Proof.Ref.Scan0.lean ====
module

public import proofs.«01_k».proof.Proof.Ref.Steps
public import proofs.«01_k».proof.Proof.Spec

@[expose] public section

set_option maxRecDepth 16384

noncomputable section

/-! ## The scan computes the recurrence -/

namespace Cert.ReferenceIdeal.Loops

open Cert.ReferenceIdeal Cert.ReferenceIdeal.Gen
open Idealize.ShloMosaic Idealize.ShloMosaic.TcCoe Idealize.ShloMosaic.Tactic
open Idealize.ShloMosaic.StableHlo

theorem cond0_keep {F : FTy → Type} [FloatOps F] (V : Valuation τ sig (Elt F)) (r : Ref sig .tc) (h : r ∉ cond0_W) :
    after cond0 V (Proc.devRef .tc r) = V (Proc.devRef .tc r) := after_of_writes_sub cond0 V cond0_writes h
theorem body0_keep {F : FTy → Type} [FloatOps F] (V : Valuation τ sig (Elt F)) (r : Ref sig .tc) (h : ∀ W ∈ body0W, r ∉ W) :
    afterL body0 V (Proc.devRef .tc r) = V (Proc.devRef .tc r) :=
  afterL_of_untouched r (fun l hl => by
    obtain ⟨W, hW, hl'⟩ := body0_writes l hl
    exact ⟨W, hl', h W hW⟩) V

variable (P : Spec.Args)

/-- The arrays a scan's trip reads one chunk of, entry by entry. -/
structure In0 (V : Valuation τ sig (Elt Ideal)) : Prop where
  val : ∀ (n : Fin 32) b h r e, (V (Proc.devRef .tc main_v40_0) : A Ideal S32x2x8x64x128) (ix5 n b h r e) = P.val (Spec.row b n r) (Spec.col h e)
  kc : ∀ (n : Fin 32) b h r e, (V (Proc.devRef .tc main_v40_1) : A Ideal S32x2x8x64x128) (ix5 n b h r e) = P.kc (Spec.row b n r) (Spec.col h e)
  att : ∀ (n : Fin 32) b h r j, (V (Proc.devRef .tc main_v40_2) : A Ideal S32x2x8x64x64) (ix5 n b h r j) = P.att (Spec.row b n r) (Spec.wcol h (Spec.tri n j))
  qd : ∀ (n : Fin 32) b h r e, (V (Proc.devRef .tc main_v40_3) : A Ideal S32x2x8x64x128) (ix5 n b h r e) = P.qd (Spec.row b n r) (Spec.col h e)
  kd : ∀ (n : Fin 32) b h r e, (V (Proc.devRef .tc main_v40_4) : A Ideal S32x2x8x64x128) (ix5 n b h r e) = P.kd (Spec.row b n r) (Spec.col h e)
  dec : ∀ (n : Fin 32) b h e, (V (Proc.devRef .tc main_v40_5) : A Ideal S32x2x8x128) (ix4 n b h e) = Spec.dec P b h n e

/-- What the scan has done before trip `k`: the state, and the first `k` chunks of the arrays it fills. -/
structure Done0 (k : ℕ) (V : Valuation τ sig (Elt Ideal)) : Prop where
  S : ∀ b h d e, (V (Proc.devRef .tc main_v40_7) : A Ideal S2x8x128x128) (ix4 b h d e) = Spec.state P b h k d e
  o : ∀ (n : Fin 32), n.val < k → ∀ b h r e, (V (Proc.devRef .tc main_v40_8) : A Ideal S32x2x8x64x128) (ix5 n b h r e) = Spec.out P b h n r e
  st : ∀ (n : Fin 32), n.val < k → ∀ b h d e, (V (Proc.devRef .tc main_v40_9) : A Ideal S32x2x8x128x128) (ix5 n b h d e) = Spec.state P b h n d e
  v : ∀ (n : Fin 32), n.val < k → ∀ b h r e, (V (Proc.devRef .tc main_v40_10) : A Ideal S32x2x8x64x128) (ix5 n b h r e) = Spec.vnew P b h (Spec.state P b h n) n r e
  d : ∀ (n : Fin 32), n.val < k → ∀ b h e, (V (Proc.devRef .tc main_v40_11) : A Ideal S32x2x8x1x128) (ix5 n b h 0 e) = Spec.dec P b h n e

variable {P}

theorem In0.of_eq {V W : Valuation τ sig (Elt Ideal)} (H : In0 P V)
    (e0 : W (Proc.devRef .tc main_v40_0) = V (Proc.devRef .tc main_v40_0)) (e1 : W (Proc.devRef .tc main_v40_1) = V (Proc.devRef .tc main_v40_1))
    (e2 : W (Proc.devRef .tc main_v40_2) = V (Proc.devRef .tc main_v40_2)) (e3 : W (Proc.devRef .tc main_v40_3) = V (Proc.devRef .tc main_v40_3))
    (e4 : W (Proc.devRef .tc main_v40_4) = V (Proc.devRef .tc main_v40_4)) (e5 : W (Proc.devRef .tc main_v40_5) = V (Proc.devRef .tc main_v40_5)) : In0 P W where
  val := by rw [e0]; exact H.val
  kc := by rw [e1]; exact H.kc
  att := by rw [e2]; exact H.att
  qd := by rw [e3]; exact H.qd
  kd := by rw [e4]; exact H.kd
  dec := by rw [e5]; exact H.dec

theorem In0.cond {V : Valuation τ sig (Elt Ideal)} (H : In0 P V) : In0 P (after cond0 V) :=
  H.of_eq (cond0_keep V _ (by decide +kernel)) (cond0_keep V _ (by decide +kernel)) (cond0_keep V _ (by decide +kernel))
    (cond0_keep V _ (by decide +kernel)) (cond0_keep V _ (by decide +kernel)) (cond0_keep V _ (by decide +kernel))
theorem In0.body {V : Valuation τ sig (Elt Ideal)} (H : In0 P V) : In0 P (afterL body0 V) :=
  H.of_eq (body0_keep V _ (by decide +kernel)) (body0_keep V _ (by decide +kernel)) (body0_keep V _ (by decide +kernel))
    (body0_keep V _ (by decide +kernel)) (body0_keep V _ (by decide +kernel)) (body0_keep V _ (by decide +kernel))

theorem Done0.cond {k : ℕ} {V : Valuation τ sig (Elt Ideal)} (D : Done0 P k V) : Done0 P k (after cond0 V) where
  S := by rw [cond0_keep V main_v40_7 (by decide +kernel)]; exact D.S
  o := by rw [cond0_keep V main_v40_8 (by decide +kernel)]; exact D.o
  st := by rw [cond0_keep V main_v40_9 (by decide +kernel)]; exact D.st
  v := by rw [cond0_keep V main_v40_10 (by decide +kernel)]; exact D.v
  d := by rw [cond0_keep V main_v40_11 (by decide +kernel)]; exact D.d

theorem count_up : ∀ k : Fin 32, (Scf.iv 0#32 1#32 k.val).toInt = (k.val : ℤ) := by decide +kernel

section
variable {V : Valuation τ sig (Elt Ideal)} (H : In0 P V) (k : Fin 32) (hc : (n0 V (Shape.Idx.first h_S_)).toInt = (k.val : ℤ)) (D : Done0 P k.val V)
include H hc D

theorem v0_apply (b : Fin 2) (h : Fin 8) (r : Fin 64) (e : Fin 128) : v0 V (ix4 b h r e) = Spec.vnew P b h (Spec.state P b h k.val) k.val r e := by
  unfold v0 Spec.vnew
  rw [newV_apply, take_apply _ k hc, H.val]
  refine congrArg _ (Finset.sum_congr rfl fun x _ => ?_)
  rw [take_apply _ k hc, H.kc, D.S]

/-- One trip takes one chunk. -/
theorem Done0.body : Done0 P (k.val + 1) (afterL body0 V) where
  S b h d e := by
    rw [trip0_7, newS_apply, D.S, rowD_apply, takeD_apply _ k hc, H.dec, Spec.state]
    refine congrArg _ (Finset.sum_congr rfl fun x _ => ?_)
    rw [take_apply _ k hc, H.kd, v0_apply H k hc D]
  o n hn b h r e := by
    rw [trip0_8, put_apply _ k hc]
    by_cases hk : n = k
    · subst hk
      rw [if_pos rfl, newO_apply, Spec.out]
      refine congrArg₂ _ (Finset.sum_congr rfl fun x _ => ?_) (Finset.sum_congr rfl fun x _ => ?_)
      · rw [take_apply _ n hc, H.qd, D.S]
      · rw [takeT_apply _ n hc, H.att, v0_apply H n hc D]
    · rw [if_neg hk]
      exact D.o n (by omega) b h r e
  st n hn b h d e := by
    rw [trip0_9, putS_apply _ k hc]
    by_cases hk : n = k
    · subst hk
      rw [if_pos rfl, D.S]
    · rw [if_neg hk]
      exact D.st n (by omega) b h d e
  v n hn b h r e := by
    rw [trip0_10, put_apply _ k hc]
    by_cases hk : n = k
    · subst hk
      rw [if_pos rfl, v0_apply H n hc D]
    · rw [if_neg hk]
      exact D.v n (by omega) b h r e
  d n hn b h e := by
    rw [trip0_11, putE_apply _ k hc]
    by_cases hk : n = k
    · subst hk
      rw [if_pos rfl, rowD_apply, takeD_apply _ n hc, H.dec]
    · rw [if_neg hk]
      exact D.d n (by omega) b h e
end

variable (m : (ℓ : Loc nD τ sig) → Buf (Elt Ideal) ℓ) (c : Dev nD)

/-- After `k` trips the scan has taken `k` chunks. -/
theorem scan0 (H : In0 P (E0 m c)) (hS : ∀ b h d e, (E0 m c (Proc.devRef .tc main_v40_7) : A Ideal S2x8x128x128) (ix4 b h d e) = (0 : EReal)) :
    ∀ k, k ≤ 32 → In0 P (at0 m k c) ∧ Done0 P k (at0 m k c)
  | 0, _ => ⟨H, hS, fun n hn => absurd hn (Nat.not_lt_zero _), fun n hn => absurd hn (Nat.not_lt_zero _),
      fun n hn => absurd hn (Nat.not_lt_zero _), fun n hn => absurd hn (Nat.not_lt_zero _)⟩
  | k + 1, hk => by
    obtain ⟨H', D'⟩ := scan0 H hS k (Nat.le_of_succ_le hk)
    have hctr : (n0 (after cond0 (at0 m k c)) (Shape.Idx.first h_S_)).toInt = ((⟨k, hk⟩ : Fin 32).val : ℤ) := by
      unfold n0
      rw [kept cond0_writes (by decide +kernel), at0_ctr m c k]
      exact count_up ⟨k, hk⟩
    exact ⟨H'.cond.body, Done0.body H'.cond ⟨k, hk⟩ hctr D'.cond⟩

end Cert.ReferenceIdeal.Loops

end
-- ==== Proof.Ref.Scan1.lean ====
module

public import proofs.«01_k».proof.Proof.Ref.Scan0

@[expose] public section

set_option maxRecDepth 16384

noncomputable section

/-! ## The transposed scan computes the gradient -/

namespace Cert.ReferenceIdeal.Loops

open Cert.ReferenceIdeal Cert.ReferenceIdeal.Gen
open Idealize.ShloMosaic Idealize.ShloMosaic.TcCoe Idealize.ShloMosaic.Tactic
open Idealize.ShloMosaic.StableHlo

theorem cond1_keep {F : FTy → Type} [FloatOps F] (V : Valuation τ sig (Elt F)) (r : Ref sig .tc) (h : r ∉ cond1_W) :
    after cond1 V (Proc.devRef .tc r) = V (Proc.devRef .tc r) := after_of_writes_sub cond1 V cond1_writes h
theorem body1_keep {F : FTy → Type} [FloatOps F] (V : Valuation τ sig (Elt F)) (r : Ref sig .tc) (h : ∀ W ∈ body1W, r ∉ W) :
    afterL body1 V (Proc.devRef .tc r) = V (Proc.devRef .tc r) :=
  afterL_of_untouched r (fun l hl => by
    obtain ⟨W, hW, hl'⟩ := body1_writes l hl
    exact ⟨W, hl', h W hW⟩) V

variable (P : Spec.Args)

/-- The arrays a transposed trip reads one chunk of, entry by entry. -/
structure In1 (V : Valuation τ sig (Elt Ideal)) : Prop where
  go : ∀ (n : Fin 32) b h r e, (V (Proc.devRef .tc main_v53_0) : A Ideal S32x2x8x64x128) (ix5 n b h r e) = P.go (Spec.row b n r) (Spec.col h e)
  st : ∀ (n : Fin 32) b h d e, (V (Proc.devRef .tc main_v53_1) : A Ideal S32x2x8x128x128) (ix5 n b h d e) = Spec.state P b h n d e
  kc : ∀ (n : Fin 32) b h r e, (V (Proc.devRef .tc main_v53_2) : A Ideal S32x2x8x64x128) (ix5 n b h r e) = P.kc (Spec.row b n r) (Spec.col h e)
  qd : ∀ (n : Fin 32) b h r e, (V (Proc.devRef .tc main_v53_3) : A Ideal S32x2x8x64x128) (ix5 n b h r e) = P.qd (Spec.row b n r) (Spec.col h e)
  v : ∀ (n : Fin 32) b h r e, (V (Proc.devRef .tc main_v53_4) : A Ideal S32x2x8x64x128) (ix5 n b h r e) = Spec.vnew P b h (Spec.state P b h n) n r e
  att : ∀ (n : Fin 32) b h r j, (V (Proc.devRef .tc main_v53_5) : A Ideal S32x2x8x64x64) (ix5 n b h r j) = P.att (Spec.row b n r) (Spec.wcol h (Spec.tri n j))
  dec : ∀ (n : Fin 32) b h e, (V (Proc.devRef .tc main_v53_6) : A Ideal S32x2x8x1x128) (ix5 n b h 0 e) = Spec.dec P b h n e
  kd : ∀ (n : Fin 32) b h r e, (V (Proc.devRef .tc main_v53_7) : A Ideal S32x2x8x64x128) (ix5 n b h r e) = P.kd (Spec.row b n r) (Spec.col h e)

/-- What the transposed scan has done before trip `k`: the state's gradient, and the last `k` chunks of the arrays it fills. -/
structure Done1 (k : ℕ) (V : Valuation τ sig (Elt Ideal)) : Prop where
  G : ∀ b h d e, (V (Proc.devRef .tc main_v53_9) : A Ideal S2x8x128x128) (ix4 b h d e) = Spec.grad P b h k d e
  dval : ∀ (n : Fin 32), 32 ≤ n.val + k → ∀ b h r e, (V (Proc.devRef .tc main_v53_10) : A Ideal S32x2x8x64x128) (ix5 n b h r e) = (Spec.dval P b h n r e : EReal)
  dkc : ∀ (n : Fin 32), 32 ≤ n.val + k → ∀ b h r d, (V (Proc.devRef .tc main_v53_11) : A Ideal S32x2x8x64x128) (ix5 n b h r d) = (Spec.dkc P b h n r d : EReal)
  dat : ∀ (n : Fin 32), 32 ≤ n.val + k → ∀ b h r j, (V (Proc.devRef .tc main_v53_12) : A Ideal S32x2x8x64x64) (ix5 n b h r j) = (Spec.dat P b h n r j : EReal)
  dqd : ∀ (n : Fin 32), 32 ≤ n.val + k → ∀ b h r d, (V (Proc.devRef .tc main_v53_13) : A Ideal S32x2x8x64x128) (ix5 n b h r d) = (Spec.dqd P b h n r d : EReal)
  dkd : ∀ (n : Fin 32), 32 ≤ n.val + k → ∀ b h r d, (V (Proc.devRef .tc main_v53_14) : A Ideal S32x2x8x64x128) (ix5 n b h r d) = (Spec.dkd P b h n r d : EReal)
  dd : ∀ (n : Fin 32), 32 ≤ n.val + k → ∀ b h e, (V (Proc.devRef .tc main_v53_15) : A Ideal S32x2x8x128) (ix4 n b h e) = (∑ d : Fin 128, Spec.state P b h n d e * Spec.after P b h n d e : EReal)

variable {P}

theorem In1.of_eq {V W : Valuation τ sig (Elt Ideal)} (H : In1 P V)
    (e0 : W (Proc.devRef .tc main_v53_0) = V (Proc.devRef .tc main_v53_0))
    (e1 : W (Proc.devRef .tc main_v53_1) = V (Proc.devRef .tc main_v53_1))
    (e2 : W (Proc.devRef .tc main_v53_2) = V (Proc.devRef .tc main_v53_2))
    (e3 : W (Proc.devRef .tc main_v53_3) = V (Proc.devRef .tc main_v53_3))
    (e4 : W (Proc.devRef .tc main_v53_4) = V (Proc.devRef .tc main_v53_4))
    (e5 : W (Proc.devRef .tc main_v53_5) = V (Proc.devRef .tc main_v53_5))
    (e6 : W (Proc.devRef .tc main_v53_6) = V (Proc.devRef .tc main_v53_6))
    (e7 : W (Proc.devRef .tc main_v53_7) = V (Proc.devRef .tc main_v53_7)) : In1 P W where
  go := by rw [e0]; exact H.go
  st := by rw [e1]; exact H.st
  kc := by rw [e2]; exact H.kc
  qd := by rw [e3]; exact H.qd
  v := by rw [e4]; exact H.v
  att := by rw [e5]; exact H.att
  dec := by rw [e6]; exact H.dec
  kd := by rw [e7]; exact H.kd

theorem In1.cond {V : Valuation τ sig (Elt Ideal)} (H : In1 P V) : In1 P (after cond1 V) :=
  H.of_eq (cond1_keep V _ (by decide +kernel)) (cond1_keep V _ (by decide +kernel)) (cond1_keep V _ (by decide +kernel)) (cond1_keep V _ (by decide +kernel)) (cond1_keep V _ (by decide +kernel)) (cond1_keep V _ (by decide +kernel)) (cond1_keep V _ (by decide +kernel)) (cond1_keep V _ (by decide +kernel))

theorem In1.body {V : Valuation τ sig (Elt Ideal)} (H : In1 P V) : In1 P (afterL body1 V) :=
  H.of_eq (body1_keep V _ (by decide +kernel)) (body1_keep V _ (by decide +kernel)) (body1_keep V _ (by decide +kernel)) (body1_keep V _ (by decide +kernel)) (body1_keep V _ (by decide +kernel)) (body1_keep V _ (by decide +kernel)) (body1_keep V _ (by decide +kernel)) (body1_keep V _ (by decide +kernel))

theorem Done1.cond {k : ℕ} {V : Valuation τ sig (Elt Ideal)} (D : Done1 P k V) : Done1 P k (after cond1 V) where
  G := by rw [cond1_keep V main_v53_9 (by decide +kernel)]; exact D.G
  dval := by rw [cond1_keep V main_v53_10 (by decide +kernel)]; exact D.dval
  dkc := by rw [cond1_keep V main_v53_11 (by decide +kernel)]; exact D.dkc
  dat := by rw [cond1_keep V main_v53_12 (by decide +kernel)]; exact D.dat
  dqd := by rw [cond1_keep V main_v53_13 (by decide +kernel)]; exact D.dqd
  dkd := by rw [cond1_keep V main_v53_14 (by decide +kernel)]; exact D.dkd
  dd := by rw [cond1_keep V main_v53_15 (by decide +kernel)]; exact D.dd

theorem count_down : ∀ k : Fin 32, (32#32 - Scf.iv 0#32 1#32 k.val - 1#32).toInt = ((31 - k.val : ℕ) : ℤ) := by decide +kernel

section
variable {V : Valuation τ sig (Elt Ideal)} (H : In1 P V) (n : Fin 32) (k : ℕ) (hn : n.val = 31 - k) (hk : k < 32)
  (hc : (n1 V (Shape.Idx.first h_S_)).toInt = (n.val : ℤ)) (D : Done1 P k V)

include hn hk D in
theorem Done1.after (b : Fin 2) (h : Fin 8) (d e : Fin 128) :
    (V (Proc.devRef .tc main_v53_9) : A Ideal S2x8x128x128) (ix4 b h d e) = Spec.after P b h n.val d e := by
  rw [D.G]
  unfold Spec.after
  rw [show 31 - n.val = k by omega]

include H hn hk hc D

theorem v1_apply (b : Fin 2) (h : Fin 8) (r : Fin 64) (e : Fin 128) : v1 V (ix4 b h r e) = Spec.gv P b h (Spec.after P b h n.val) n.val r e := by
  unfold v1 Spec.gv
  rw [backV_apply]
  refine congrArg₂ _ (Finset.sum_congr rfl fun x _ => ?_) (Finset.sum_congr rfl fun x _ => ?_)
  · rw [D.after n k hn hk, take_apply _ n hc, H.kd]
  · rw [take_apply _ n hc, H.go, takeT_apply _ n hc, H.att]

/-- One trip takes one chunk back. -/
theorem Done1.body : Done1 P (k + 1) (afterL body1 V) where
  G b h d e := by
    rw [trip1_9, backS_apply, D.after n k hn hk, takeE_apply _ n hc, H.dec, Spec.grad, ← hn]
    unfold Spec.back
    rw [show Spec.grad P b h k = Spec.after P b h n.val by unfold Spec.after; rw [show 31 - n.val = k by omega]]
    refine congrArg₂ _ (congrArg _ (Finset.sum_congr rfl fun x _ => ?_)) (Finset.sum_congr rfl fun x _ => ?_)
    · rw [take_apply _ n hc, H.go, take_apply _ n hc, H.qd]
    · rw [v1_apply H n k hn hk hc D, take_apply _ n hc, H.kc]
  dval n' hn' b h r e := by
    rw [trip1_10, put_apply _ n hc]
    by_cases hq : n' = n
    · subst hq
      rw [if_pos rfl, v1_apply H n' k hn hk hc D, Spec.dval]
    · rw [if_neg hq]
      exact D.dval n' (by omega) b h r e
  dkc n' hn' b h r d := by
    rw [trip1_11, put_apply _ n hc]
    by_cases hq : n' = n
    · subst hq
      rw [if_pos rfl, backK_neg_apply, Spec.dkc]
      show (_ : EReal) = _
      refine Finset.sum_congr rfl fun x _ => ?_
      rw [v1_apply H n' k hn hk hc D, takeS_apply _ n' hc, H.st]
    · rw [if_neg hq]
      exact D.dkc n' (by omega) b h r d
  dat n' hn' b h r j := by
    rw [trip1_12, putT_apply _ n hc]
    by_cases hq : n' = n
    · subst hq
      rw [if_pos rfl, backT_apply, Spec.dat]
      show (_ : EReal) = _
      refine Finset.sum_congr rfl fun x _ => ?_
      rw [take_apply _ n' hc, H.go, take_apply _ n' hc, H.v]
    · rw [if_neg hq]
      exact D.dat n' (by omega) b h r j
  dqd n' hn' b h r d := by
    rw [trip1_13, put_apply _ n hc]
    by_cases hq : n' = n
    · subst hq
      rw [if_pos rfl, backK_apply, Spec.dqd]
      show (_ : EReal) = _
      refine Finset.sum_congr rfl fun x _ => ?_
      rw [take_apply _ n' hc, H.go, takeS_apply _ n' hc, H.st]
    · rw [if_neg hq]
      exact D.dqd n' (by omega) b h r d
  dkd n' hn' b h r d := by
    rw [trip1_14, put_apply _ n hc]
    by_cases hq : n' = n
    · subst hq
      rw [if_pos rfl, backN_apply, Spec.dkd]
      show (_ : EReal) = _
      refine Finset.sum_congr rfl fun x _ => ?_
      rw [D.after n' k hn hk, take_apply _ n' hc, H.v]
    · rw [if_neg hq]
      exact D.dkd n' (by omega) b h r d
  dd n' hn' b h e := by
    rw [trip1_15, putD_apply _ n hc]
    by_cases hq : n' = n
    · subst hq
      rw [if_pos rfl, backD_apply]
      show (_ : EReal) = _
      refine Finset.sum_congr rfl fun x _ => ?_
      rw [D.after n' k hn hk, takeS_apply _ n' hc, H.st]
    · rw [if_neg hq]
      exact D.dd n' (by omega) b h e
end

variable (m : (ℓ : Loc nD τ sig) → Buf (Elt Ideal) ℓ) (c : Dev nD)

/-- After `k` trips the transposed scan has taken the last `k` chunks back. -/
theorem scan1 (H : In1 P (E1 m c)) (hG : ∀ b h d e, (E1 m c (Proc.devRef .tc main_v53_9) : A Ideal S2x8x128x128) (ix4 b h d e) = (0 : EReal)) :
    ∀ k, k ≤ 32 → In1 P (at1 m k c) ∧ Done1 P k (at1 m k c)
  | 0, _ => ⟨H, hG, fun n hn => absurd hn (by omega), fun n hn => absurd hn (by omega), fun n hn => absurd hn (by omega),
      fun n hn => absurd hn (by omega), fun n hn => absurd hn (by omega), fun n hn => absurd hn (by omega)⟩
  | k + 1, hk => by
    obtain ⟨H', D'⟩ := scan1 H hG k (Nat.le_of_succ_le hk)
    have hctr : (n1 (after cond1 (at1 m k c)) (Shape.Idx.first h_S_)).toInt = ((⟨31 - k, by omega⟩ : Fin 32).val : ℤ) := by
      unfold n1
      rw [kept cond1_writes (by decide +kernel), at1_ctr m c k]
      exact count_down ⟨k, hk⟩
    exact ⟨H'.cond.body, Done1.body H'.cond ⟨31 - k, by omega⟩ k rfl hk hctr D'.cond⟩

end Cert.ReferenceIdeal.Loops

end
-- ==== Proof.Ref.Ends.lean ====
module

public import proofs.«01_k».proof.Proof.Ref.Layout
public import proofs.«01_k».proof.Proof.Ref.Spread
public import proofs.«01_k».proof.Proof.Ref.Scan1

@[expose] public section

set_option maxRecDepth 100000
set_option maxHeartbeats 4000000

noncomputable section

/-! ## The reference's host lines before, between and after the scans -/

namespace Cert.ReferenceIdeal.Loops

open Cert.ReferenceIdeal Cert.ReferenceIdeal.Gen
open Idealize.ShloMosaic Idealize.ShloMosaic.TcCoe Idealize.ShloMosaic.Tactic
open Idealize.ShloMosaic.StableHlo

variable {F : FTy → Type} [FloatOps F] (V : Valuation τ sig (Elt F))

/-- The chunk's decay, one row for each head. -/
def decay (x : A F S4096x1024) : A F S32x2x8x128 :=
  Host.exp (Host.reduceAdd (cut x) (constant S_ .f32 0x00000000#32) reducesTo_S32x2x8x64x128_S32x2x8x128_d3 h_S_)
/-- The gates' gradient from the scan's rows and the decay. -/
def gates (x d : A F S32x2x8x128) : A F S4096x1024 :=
  lay (broadcastInDim S32x2x8x64x128 ![0, 1, 2, 4] bcast_S32x2x8x128_S32x2x8x64x128_0_1_2_4 (mulf x d))

abbrev B16 (F : FTy → Type) [FloatOps F] (s : Shape) := (⟨s, .bf16⟩ : BufTy).Contents (Elt F)

theorem pre_val : after hostOps0 V (Proc.devRef .tc main_v40_0) = cut (V (Proc.devRef .tc main_arg0) : A F S4096x1024) := by
  unfold cut; after_reads_simp; rfl
theorem pre_kc : after hostOps0 V (Proc.devRef .tc main_v40_1) = cut (extf .f32 (V (Proc.devRef .tc main_arg1) : B16 F S4096x1024) bitsLt_bf16_f32) := by
  unfold cut; after_reads_simp; rfl
theorem pre_kc' : after hostOps0 V (Proc.devRef .tc main_v31) = cut (extf .f32 (V (Proc.devRef .tc main_arg1) : B16 F S4096x1024) bitsLt_bf16_f32) := by
  unfold cut; after_reads_simp; rfl
theorem pre_qd : after hostOps0 V (Proc.devRef .tc main_v40_3) = cut (extf .f32 (V (Proc.devRef .tc main_arg3) : B16 F S4096x1024) bitsLt_bf16_f32) := by
  unfold cut; after_reads_simp; rfl
theorem pre_qd' : after hostOps0 V (Proc.devRef .tc main_v33) = cut (extf .f32 (V (Proc.devRef .tc main_arg3) : B16 F S4096x1024) bitsLt_bf16_f32) := by
  unfold cut; after_reads_simp; rfl
theorem pre_kd : after hostOps0 V (Proc.devRef .tc main_v40_4) = cut (extf .f32 (V (Proc.devRef .tc main_arg4) : B16 F S4096x1024) bitsLt_bf16_f32) := by
  unfold cut; after_reads_simp; rfl
theorem pre_kd' : after hostOps0 V (Proc.devRef .tc main_v35) = cut (extf .f32 (V (Proc.devRef .tc main_arg4) : B16 F S4096x1024) bitsLt_bf16_f32) := by
  unfold cut; after_reads_simp; rfl
theorem pre_att : after hostOps0 V (Proc.devRef .tc main_v40_2) = diag (extf .f32 (V (Proc.devRef .tc main_arg2) : B16 F S4096x2048) bitsLt_bf16_f32) := by
  unfold diag piece fours; after_reads_simp; rfl
theorem pre_att' : after hostOps0 V (Proc.devRef .tc main_v22) = diag (extf .f32 (V (Proc.devRef .tc main_arg2) : B16 F S4096x2048) bitsLt_bf16_f32) := by
  unfold diag piece fours; after_reads_simp; rfl
theorem pre_dec : after hostOps0 V (Proc.devRef .tc main_v40_5) = decay (V (Proc.devRef .tc main_arg5) : A F S4096x1024) := by
  unfold decay cut; after_reads_simp; rfl
theorem pre_dec' : after hostOps0 V (Proc.devRef .tc main_v26) = decay (V (Proc.devRef .tc main_arg5) : A F S4096x1024) := by
  unfold decay cut; after_reads_simp; rfl
theorem pre_zero : after hostOps0 V (Proc.devRef .tc main_v40_7) = broadcastInDim S2x8x128x128 ![] bcast_S_S2x8x128x128 (constant S_ .f32 0x00000000#32 : A F S_) := by
  after_reads_simp; rfl
theorem mid_o : after hostOps0_1 V (Proc.devRef .tc main_v42) = lay (V (Proc.devRef .tc main_v40_8) : A F S32x2x8x64x128) := by
  unfold lay; after_reads_simp; rfl
theorem mid_go : after hostOps0_1 V (Proc.devRef .tc main_v53_0) = cut (V (Proc.devRef .tc main_arg6) : A F S4096x1024) := by
  unfold cut; after_reads_simp; rfl
theorem mid_zero : after hostOps0_1 V (Proc.devRef .tc main_v53_9) = broadcastInDim S2x8x128x128 ![] bcast_S_S2x8x128x128 (constant S_ .f32 0x00000000#32 : A F S_) := by
  after_reads_simp; rfl
theorem mid_st : after hostOps0_1 V (Proc.devRef .tc main_v53_1) = V (Proc.devRef .tc main_v40_9) := by
  after_reads_simp; rfl
theorem mid_kc : after hostOps0_1 V (Proc.devRef .tc main_v53_2) = V (Proc.devRef .tc main_v31) := by
  after_reads_simp; rfl
theorem mid_qd : after hostOps0_1 V (Proc.devRef .tc main_v53_3) = V (Proc.devRef .tc main_v33) := by
  after_reads_simp; rfl
theorem mid_v : after hostOps0_1 V (Proc.devRef .tc main_v53_4) = V (Proc.devRef .tc main_v40_10) := by
  after_reads_simp; rfl
theorem mid_att : after hostOps0_1 V (Proc.devRef .tc main_v53_5) = V (Proc.devRef .tc main_v22) := by
  after_reads_simp; rfl
theorem mid_dec : after hostOps0_1 V (Proc.devRef .tc main_v53_6) = V (Proc.devRef .tc main_v40_11) := by
  after_reads_simp; rfl
theorem mid_kd : after hostOps0_1 V (Proc.devRef .tc main_v53_7) = V (Proc.devRef .tc main_v35) := by
  after_reads_simp; rfl
theorem post_dval : after hostOps0_2 V (Proc.devRef .tc main_v61) = lay (V (Proc.devRef .tc main_v53_10) : A F S32x2x8x64x128) := by
  unfold lay; after_reads_simp; rfl
theorem post_dkc : after hostOps0_2 V (Proc.devRef .tc main_v59) = lay (V (Proc.devRef .tc main_v53_11) : A F S32x2x8x64x128) := by
  unfold lay; after_reads_simp; rfl
theorem post_dqd : after hostOps0_2 V (Proc.devRef .tc main_v57) = lay (V (Proc.devRef .tc main_v53_13) : A F S32x2x8x64x128) := by
  unfold lay; after_reads_simp; rfl
theorem post_dkd : after hostOps0_2 V (Proc.devRef .tc main_v55) = lay (V (Proc.devRef .tc main_v53_14) : A F S32x2x8x64x128) := by
  unfold lay; after_reads_simp; rfl
theorem post_dgb : after hostOps0_2 V (Proc.devRef .tc main_v65) = gates (V (Proc.devRef .tc main_v53_15) : A F S32x2x8x128) (V (Proc.devRef .tc main_v26) : A F S32x2x8x128) := by
  unfold gates lay; after_reads_simp; rfl
theorem post_dat : after hostOps0_2 V (Proc.devRef .tc main_v90) = spread (V (Proc.devRef .tc main_v53_12) : A F S32x2x8x64x64) := by
  unfold spread spread3 spread2 spread1 spread0 quarter quads; after_reads_simp; rfl

theorem decay_apply (x : A Ideal S4096x1024) (n : Fin 32) (b : Fin 2) (h : Fin 8) (e : Fin 128) :
    decay x (ix4 n b h e) = (Ideal.exp (∑ r : Fin 64, (x (ix2 (Spec.row b n r) (Spec.col h e)) : EReal)) : EReal) := by
  pointwise [decay]
  exact congrArg Ideal.exp (Finset.sum_congr rfl fun r _ => cut_apply b h n r x e)
theorem gates_apply (x d : A Ideal S32x2x8x128) (n : Fin 32) (b : Fin 2) (h : Fin 8) (r : Fin 64) (e : Fin 128) :
    gates x d (ix2 (Spec.row b n r) (Spec.col h e)) = (x (ix4 n b h e) * d (ix4 n b h e) : EReal) := by
  unfold gates; rw [lay_apply]; pointwise

end Cert.ReferenceIdeal.Loops

end
-- ==== Proof.Ref.Values.lean ====
module

public import proofs.«01_k».proof.Proof.Ref.Ends

@[expose] public section

set_option maxRecDepth 16384

noncomputable section

/-! ## What the reference leaves in its results -/

namespace Cert.ReferenceIdeal.Loops

open Cert.ReferenceIdeal Cert.ReferenceIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

theorem zeros_apply (b : Fin 2) (h : Fin 8) (d e : Fin 128) :
    (broadcastInDim S2x8x128x128 ![] bcast_S_S2x8x128x128 (constant (F := Ideal) S_ .f32 0x00000000#32) : A Ideal S2x8x128x128) (ix4 b h d e) = (0 : EReal) := by
  pointwise

/-- The arguments as the recurrence's arrays. -/
def args : Spec.Args where
  val i j := m ((c.tc : Thread nD τ).loc main_arg0) (ix2 i j)
  kc i j := m ((c.tc : Thread nD τ).loc main_arg1) (ix2 i j)
  att i j := m ((c.tc : Thread nD τ).loc main_arg2) (ix2 i j)
  qd i j := m ((c.tc : Thread nD τ).loc main_arg3) (ix2 i j)
  kd i j := m ((c.tc : Thread nD τ).loc main_arg4) (ix2 i j)
  gb i j := m ((c.tc : Thread nD τ).loc main_arg5) (ix2 i j)
  go i j := m ((c.tc : Thread nD τ).loc main_arg6) (ix2 i j)

theorem pre_args : In0 (args m c) (E0 m c) where
  val n b h r e := (congrFun (pre_val (launchContents m c)) _).trans (cut_apply b h n r _ e)
  kc n b h r e := (congrFun (pre_kc (launchContents m c)) _).trans (cut_apply b h n r _ e)
  att n b h r j := (congrFun (pre_att (launchContents m c)) _).trans (diag_apply b h n r _ j)
  qd n b h r e := (congrFun (pre_qd (launchContents m c)) _).trans (cut_apply b h n r _ e)
  kd n b h r e := (congrFun (pre_kd (launchContents m c)) _).trans (cut_apply b h n r _ e)
  dec n b h e := (congrFun (pre_dec (launchContents m c)) _).trans (decay_apply _ n b h e)

/-- The first scan's end. -/
theorem end0 : In0 (args m c) (at0 m 32 c) ∧ Done0 (args m c) 32 (at0 m 32 c) :=
  scan0 m c (pre_args m c) (fun b h d e => (congrFun (pre_zero (launchContents m c)) _).trans (zeros_apply b h d e)) 32 le_rfl

/-- The first scan leaves a buffer it does not write as the lines before it left it. -/
theorem keep0 (r : Ref sig .tc) (h : r ∉ cond0_W) (h' : ∀ W ∈ body0W, r ∉ W) :
    after cond0 (at0 m 32 c) (Proc.devRef .tc r) = after hostOps0 (launchContents m c) (Proc.devRef .tc r) :=
  (cond0_keep _ r h).trans (atTrip_of_untouched r (fun V => cond0_keep V r h) (fun V => body0_keep V r h') c 32)
/-- The second scan leaves a buffer it does not write as the lines before it left it. -/
theorem keep1 (r : Ref sig .tc) (h : r ∉ cond1_W) (h' : ∀ W ∈ body1W, r ∉ W) :
    after cond1 (at1 m 32 c) (Proc.devRef .tc r) = E1 m c (Proc.devRef .tc r) :=
  (cond1_keep _ r h).trans (atTrip_of_untouched r (fun V => cond1_keep V r h) (fun V => body1_keep V r h') c 32)

theorem mid_args : In1 (args m c) (E1 m c) where
  go n b h r e := by
    refine (congrFun (mid_go (after cond0 (at0 m 32 c))) _).trans ((cut_apply b h n r _ e).trans ?_)
    rw [keep0 m c main_arg6 (by decide +kernel) (by decide +kernel), after_of_writes_sub hostOps0 _ hostOps0_writes (by decide +kernel : main_arg6 ∉ hostOps0_W)]
    rfl
  st n b h d e := (congrFun ((mid_st (after cond0 (at0 m 32 c))).trans (cond0_keep _ main_v40_9 (by decide +kernel))) _).trans ((end0 m c).2.st n n.isLt b h d e)
  kc n b h r e := (congrFun (((mid_kc (after cond0 (at0 m 32 c))).trans (keep0 m c main_v31 (by decide +kernel) (by decide +kernel))).trans (pre_kc' (launchContents m c))) _).trans (cut_apply b h n r _ e)
  qd n b h r e := (congrFun (((mid_qd (after cond0 (at0 m 32 c))).trans (keep0 m c main_v33 (by decide +kernel) (by decide +kernel))).trans (pre_qd' (launchContents m c))) _).trans (cut_apply b h n r _ e)
  v n b h r e := (congrFun ((mid_v (after cond0 (at0 m 32 c))).trans (cond0_keep _ main_v40_10 (by decide +kernel))) _).trans ((end0 m c).2.v n n.isLt b h r e)
  att n b h r j := (congrFun (((mid_att (after cond0 (at0 m 32 c))).trans (keep0 m c main_v22 (by decide +kernel) (by decide +kernel))).trans (pre_att' (launchContents m c))) _).trans (diag_apply b h n r _ j)
  dec n b h e := (congrFun ((mid_dec (after cond0 (at0 m 32 c))).trans (cond0_keep _ main_v40_11 (by decide +kernel))) _).trans ((end0 m c).2.d n n.isLt b h e)
  kd n b h r e := (congrFun (((mid_kd (after cond0 (at0 m 32 c))).trans (keep0 m c main_v35 (by decide +kernel) (by decide +kernel))).trans (pre_kd' (launchContents m c))) _).trans (cut_apply b h n r _ e)

/-- The second scan's end. -/
theorem end1 : In1 (args m c) (at1 m 32 c) ∧ Done1 (args m c) 32 (at1 m 32 c) :=
  scan1 m c (mid_args m c) (fun b h d e => (congrFun (mid_zero (after cond0 (at0 m 32 c))) _).trans (zeros_apply b h d e)) 32 le_rfl

variable (b : Fin 2) (h : Fin 8) (n : Fin 32) (r : Fin 64)

/-- The output. -/
theorem out_apply (e : Fin 128) : (last m c (Proc.devRef .tc main_v42) : A Ideal S4096x1024) (ix2 (Spec.row b n r) (Spec.col h e)) = (Spec.out (args m c) b h n r e : EReal) := by
  have e1 : last m c (Proc.devRef .tc main_v42) = E1 m c (Proc.devRef .tc main_v42) :=
    (after_of_writes_sub hostOps0_2 _ hostOps0_2_writes (by decide +kernel)).trans (keep1 m c main_v42 (by decide +kernel) (by decide +kernel))
  refine (congrFun (e1.trans (mid_o (after cond0 (at0 m 32 c)))) _).trans ((lay_apply b h n r _ e).trans ?_)
  rw [cond0_keep _ main_v40_8 (by decide +kernel)]
  exact (end0 m c).2.o n n.isLt b h r e
theorem dval_apply (e : Fin 128) : (last m c (Proc.devRef .tc main_v61) : A Ideal S4096x1024) (ix2 (Spec.row b n r) (Spec.col h e)) = (Spec.dval (args m c) b h n r e : EReal) := by
  refine (congrFun (post_dval (after cond1 (at1 m 32 c))) _).trans ((lay_apply b h n r _ e).trans ?_)
  rw [cond1_keep _ main_v53_10 (by decide +kernel)]
  exact (end1 m c).2.dval n (by omega) b h r e
theorem dkc_apply (e : Fin 128) : (last m c (Proc.devRef .tc main_v59) : A Ideal S4096x1024) (ix2 (Spec.row b n r) (Spec.col h e)) = (Spec.dkc (args m c) b h n r e : EReal) := by
  refine (congrFun (post_dkc (after cond1 (at1 m 32 c))) _).trans ((lay_apply b h n r _ e).trans ?_)
  rw [cond1_keep _ main_v53_11 (by decide +kernel)]
  exact (end1 m c).2.dkc n (by omega) b h r e
theorem dqd_apply (e : Fin 128) : (last m c (Proc.devRef .tc main_v57) : A Ideal S4096x1024) (ix2 (Spec.row b n r) (Spec.col h e)) = (Spec.dqd (args m c) b h n r e : EReal) := by
  refine (congrFun (post_dqd (after cond1 (at1 m 32 c))) _).trans ((lay_apply b h n r _ e).trans ?_)
  rw [cond1_keep _ main_v53_13 (by decide +kernel)]
  exact (end1 m c).2.dqd n (by omega) b h r e
theorem dkd_apply (e : Fin 128) : (last m c (Proc.devRef .tc main_v55) : A Ideal S4096x1024) (ix2 (Spec.row b n r) (Spec.col h e)) = (Spec.dkd (args m c) b h n r e : EReal) := by
  refine (congrFun (post_dkd (after cond1 (at1 m 32 c))) _).trans ((lay_apply b h n r _ e).trans ?_)
  rw [cond1_keep _ main_v53_14 (by decide +kernel)]
  exact (end1 m c).2.dkd n (by omega) b h r e
theorem datw_apply (q : Fin 256) : (last m c (Proc.devRef .tc main_v90) : A Ideal S4096x2048) (ix2 (Spec.row b n r) (Spec.wcol h q)) = (Spec.datw (args m c) b h n r q : EReal) := by
  refine (congrFun (post_dat (after cond1 (at1 m 32 c))) _).trans (spread_datw (args m c) _ (fun n b h r j => ?_) b h n r q)
  rw [cond1_keep _ main_v53_12 (by decide +kernel)]
  exact (end1 m c).2.dat n (by omega) b h r j
theorem dgb_apply (e : Fin 128) : (last m c (Proc.devRef .tc main_v65) : A Ideal S4096x1024) (ix2 (Spec.row b n r) (Spec.col h e)) = (Spec.dgb (args m c) b h n r e : EReal) := by
  refine (congrFun (post_dgb (after cond1 (at1 m 32 c))) _).trans ((gates_apply _ _ n b h r e).trans ?_)
  rw [cond1_keep _ main_v53_15 (by decide +kernel), (keep1 m c main_v26 (by decide +kernel) (by decide +kernel)).trans ((after_of_writes_sub hostOps0_1 _ hostOps0_1_writes (by decide +kernel)).trans
    ((keep0 m c main_v26 (by decide +kernel) (by decide +kernel)).trans (pre_dec' (launchContents m c)))), decay_apply, (end1 m c).2.dd n (by omega) b h e]
  rfl

end Cert.ReferenceIdeal.Loops

end
-- ==== Proof.Algebraic.lean ====
module

public import proofs.«01_k».proof.Proof.Frames
public import proofs.«01_k».proof.Proof.Two.Values
public import proofs.«01_k».proof.Proof.Ref.Values

@[expose] public section

noncomputable section

/-! ## Kernel and reference leave the same seven results

Both leave the recurrence's output and its six gradients over the extended reals. -/

namespace Cert.Proof

open Idealize.ShloMosaic Idealize.SL.Sem

/-- An array of the chunks' shape is known from its entries. -/
theorem ext1024 {x y : FVec Ideal Cert.KernelIdeal.S4096x1024 .f32} {z : Fin 2 → Fin 8 → ℕ → Fin 64 → Fin 128 → EReal}
    (hx : ∀ b h n r e, n < 32 → x (ix2 (Spec.row b n r) (Spec.col h e)) = z b h n r e)
    (hy : ∀ b h n r e, n < 32 → y (ix2 (Spec.row b n r) (Spec.col h e)) = z b h n r e) : x = y := by
  funext j
  obtain ⟨i, k, rfl⟩ : ∃ i k, j = ix2 i k := ⟨_, _, eq_ix2 j⟩
  obtain ⟨b, n, r, hn, rfl⟩ := Spec.row_surj i
  obtain ⟨h, e, rfl⟩ := Spec.col_surj k
  exact (hx b h n r e hn).trans (hy b h n r e hn).symm
/-- An array of the triangular shape is known from its entries. -/
theorem ext2048 {x y : FVec Ideal Cert.KernelIdeal.S4096x2048 .f32} {z : Fin 2 → Fin 8 → ℕ → Fin 64 → Fin 256 → EReal}
    (hx : ∀ b h n r q, n < 32 → x (ix2 (Spec.row b n r) (Spec.wcol h q)) = z b h n r q)
    (hy : ∀ b h n r q, n < 32 → y (ix2 (Spec.row b n r) (Spec.wcol h q)) = z b h n r q) : x = y := by
  funext j
  obtain ⟨i, k, rfl⟩ : ∃ i k, j = ix2 i k := ⟨_, _, eq_ix2 j⟩
  obtain ⟨b, n, r, hn, rfl⟩ := Spec.row_surj i
  obtain ⟨h, q, rfl⟩ := Spec.wcol_surj k
  exact (hx b h n r q hn).trans (hy b h n r q hn).symm

section
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (E : Cert.ReferenceIdeal.Loops.args m' c = Cert.KernelIdeal.Two.args m c)
include E

theorem eq_out : Cert.ReferenceIdeal.Loops.last m' c (Proc.devRef .tc Cert.ReferenceIdeal.main_v42) = Cert.KernelIdeal.Two.V2 m g c Cert.KernelIdeal.main_v0_0 :=
  ext1024 (fun b h n r e hn => (Cert.ReferenceIdeal.Loops.out_apply m' c b h ⟨n, hn⟩ r e).trans (by rw [E])) (fun b h n r e hn => Cert.KernelIdeal.Two.out_apply m g c b h n hn r e)
theorem eq_dval : Cert.ReferenceIdeal.Loops.last m' c (Proc.devRef .tc Cert.ReferenceIdeal.main_v61) = Cert.KernelIdeal.Two.V2 m g c Cert.KernelIdeal.main_v1_0 :=
  ext1024 (fun b h n r e hn => (Cert.ReferenceIdeal.Loops.dval_apply m' c b h ⟨n, hn⟩ r e).trans (by rw [E])) (fun b h n r e hn => Cert.KernelIdeal.Two.dval_apply m g c b h n hn r e)
theorem eq_dkc : Cert.ReferenceIdeal.Loops.last m' c (Proc.devRef .tc Cert.ReferenceIdeal.main_v59) = Cert.KernelIdeal.Two.V2 m g c Cert.KernelIdeal.main_v1_1 :=
  ext1024 (fun b h n r e hn => (Cert.ReferenceIdeal.Loops.dkc_apply m' c b h ⟨n, hn⟩ r e).trans (by rw [E])) (fun b h n r e hn => Cert.KernelIdeal.Two.dkc_apply m g c b h n hn r e)
theorem eq_datw : Cert.ReferenceIdeal.Loops.last m' c (Proc.devRef .tc Cert.ReferenceIdeal.main_v90) = Cert.KernelIdeal.Two.V2 m g c Cert.KernelIdeal.main_v1_2 :=
  ext2048 (fun b h n r e hn => (Cert.ReferenceIdeal.Loops.datw_apply m' c b h ⟨n, hn⟩ r e).trans (by rw [E])) (fun b h n r e hn => Cert.KernelIdeal.Two.datw_apply m g c b h n hn r e)
theorem eq_dqd : Cert.ReferenceIdeal.Loops.last m' c (Proc.devRef .tc Cert.ReferenceIdeal.main_v57) = Cert.KernelIdeal.Two.V2 m g c Cert.KernelIdeal.main_v1_3 :=
  ext1024 (fun b h n r e hn => (Cert.ReferenceIdeal.Loops.dqd_apply m' c b h ⟨n, hn⟩ r e).trans (by rw [E])) (fun b h n r e hn => Cert.KernelIdeal.Two.dqd_apply m g c b h n hn r e)
theorem eq_dkd : Cert.ReferenceIdeal.Loops.last m' c (Proc.devRef .tc Cert.ReferenceIdeal.main_v55) = Cert.KernelIdeal.Two.V2 m g c Cert.KernelIdeal.main_v1_4 :=
  ext1024 (fun b h n r e hn => (Cert.ReferenceIdeal.Loops.dkd_apply m' c b h ⟨n, hn⟩ r e).trans (by rw [E])) (fun b h n r e hn => Cert.KernelIdeal.Two.dkd_apply m g c b h n hn r e)
theorem eq_dgb : Cert.ReferenceIdeal.Loops.last m' c (Proc.devRef .tc Cert.ReferenceIdeal.main_v65) = Cert.KernelIdeal.Two.V2 m g c Cert.KernelIdeal.main_v1_5 :=
  ext1024 (fun b h n r e hn => (Cert.ReferenceIdeal.Loops.dgb_apply m' c b h ⟨n, hn⟩ r e).trans (by rw [E])) (fun b h n r e hn => Cert.KernelIdeal.Two.dgb_apply m g c b h n hn r e)
end

theorem algebraic : Cert.algebraic_KernelIdeal_ReferenceIdeal := by
  intro m g m' g' _ hargs
  have E (c : Dev Cert.KernelIdeal.nD) : Cert.ReferenceIdeal.Loops.args m' c = Cert.KernelIdeal.Two.args m c := by
    obtain ⟨h0, h1, h2, h3, h4, h5, h6⟩ := hargs c
    unfold Cert.ReferenceIdeal.Loops.args
    rw [h0, h1, h2, h3, h4, h5, h6]
    rfl
  refine ⟨fun c => Cert.KernelIdeal.Two.V2 m g c Cert.KernelIdeal.main_v0_0, fun c => Cert.KernelIdeal.Two.V2 m g c Cert.KernelIdeal.main_v1_0, fun c => Cert.KernelIdeal.Two.V2 m g c Cert.KernelIdeal.main_v1_1, fun c => Cert.KernelIdeal.Two.V2 m g c Cert.KernelIdeal.main_v1_2, fun c => Cert.KernelIdeal.Two.V2 m g c Cert.KernelIdeal.main_v1_3, fun c => Cert.KernelIdeal.Two.V2 m g c Cert.KernelIdeal.main_v1_4, fun c => Cert.KernelIdeal.Two.V2 m g c Cert.KernelIdeal.main_v1_5, ?_, ?_⟩
  · refine (θ_run (Cert.KernelIdeal.defs (F := Ideal)) _ _).mono (fun r h c => ⟨h.1 c _ (Cert.KernelIdeal.Two.mem_uc Cert.KernelIdeal.main_v0_0 (by decide)), h.1 c _ (Cert.KernelIdeal.Two.mem_uc Cert.KernelIdeal.main_v1_0 (by decide)), h.1 c _ (Cert.KernelIdeal.Two.mem_uc Cert.KernelIdeal.main_v1_1 (by decide)), h.1 c _ (Cert.KernelIdeal.Two.mem_uc Cert.KernelIdeal.main_v1_2 (by decide)), h.1 c _ (Cert.KernelIdeal.Two.mem_uc Cert.KernelIdeal.main_v1_3 (by decide)), h.1 c _ (Cert.KernelIdeal.Two.mem_uc Cert.KernelIdeal.main_v1_4 (by decide)), h.1 c _ (Cert.KernelIdeal.Two.mem_uc Cert.KernelIdeal.main_v1_5 (by decide)),
      (h.1 c _ (Cert.KernelIdeal.Two.mem_uc Cert.KernelIdeal.main_arg0 (by decide))).trans (Cert.KernelIdeal.Two.W2_args m g c Cert.KernelIdeal.main_arg0 (by decide)), (h.1 c _ (Cert.KernelIdeal.Two.mem_uc Cert.KernelIdeal.main_arg1 (by decide))).trans (Cert.KernelIdeal.Two.W2_args m g c Cert.KernelIdeal.main_arg1 (by decide)), (h.1 c _ (Cert.KernelIdeal.Two.mem_uc Cert.KernelIdeal.main_arg2 (by decide))).trans (Cert.KernelIdeal.Two.W2_args m g c Cert.KernelIdeal.main_arg2 (by decide)), (h.1 c _ (Cert.KernelIdeal.Two.mem_uc Cert.KernelIdeal.main_arg3 (by decide))).trans (Cert.KernelIdeal.Two.W2_args m g c Cert.KernelIdeal.main_arg3 (by decide)), (h.1 c _ (Cert.KernelIdeal.Two.mem_uc Cert.KernelIdeal.main_arg4 (by decide))).trans (Cert.KernelIdeal.Two.W2_args m g c Cert.KernelIdeal.main_arg4 (by decide)), (h.1 c _ (Cert.KernelIdeal.Two.mem_uc Cert.KernelIdeal.main_arg5 (by decide))).trans (Cert.KernelIdeal.Two.W2_args m g c Cert.KernelIdeal.main_arg5 (by decide)), (h.1 c _ (Cert.KernelIdeal.Two.mem_uc Cert.KernelIdeal.main_arg6 (by decide))).trans (Cert.KernelIdeal.Two.W2_args m g c Cert.KernelIdeal.main_arg6 (by decide))⟩) (Cert.KernelIdeal.Two.run m g)
  · refine (θ_run (Cert.ReferenceIdeal.defs (F := Ideal)) _ _).mono (fun r h c => ⟨(h.1 c Cert.ReferenceIdeal.main_v42 (by decide)).trans (eq_out m g m' c (E c)), (h.1 c Cert.ReferenceIdeal.main_v61 (by decide)).trans (eq_dval m g m' c (E c)), (h.1 c Cert.ReferenceIdeal.main_v59 (by decide)).trans (eq_dkc m g m' c (E c)), (h.1 c Cert.ReferenceIdeal.main_v90 (by decide)).trans (eq_datw m g m' c (E c)), (h.1 c Cert.ReferenceIdeal.main_v57 (by decide)).trans (eq_dqd m g m' c (E c)), (h.1 c Cert.ReferenceIdeal.main_v55 (by decide)).trans (eq_dkd m g m' c (E c)), (h.1 c Cert.ReferenceIdeal.main_v65 (by decide)).trans (eq_dgb m g m' c (E c)),
      (h.1 c Cert.ReferenceIdeal.main_arg0 (by decide)).trans (Cert.ReferenceIdeal.Loops.last_arg m' c Cert.ReferenceIdeal.main_arg0 (by decide +kernel) (by decide +kernel) (by decide +kernel) (by decide +kernel) (by decide +kernel) (by decide +kernel) (by decide +kernel)), (h.1 c Cert.ReferenceIdeal.main_arg1 (by decide)).trans (Cert.ReferenceIdeal.Loops.last_arg m' c Cert.ReferenceIdeal.main_arg1 (by decide +kernel) (by decide +kernel) (by decide +kernel) (by decide +kernel) (by decide +kernel) (by decide +kernel) (by decide +kernel)), (h.1 c Cert.ReferenceIdeal.main_arg2 (by decide)).trans (Cert.ReferenceIdeal.Loops.last_arg m' c Cert.ReferenceIdeal.main_arg2 (by decide +kernel) (by decide +kernel) (by decide +kernel) (by decide +kernel) (by decide +kernel) (by decide +kernel) (by decide +kernel)), (h.1 c Cert.ReferenceIdeal.main_arg3 (by decide)).trans (Cert.ReferenceIdeal.Loops.last_arg m' c Cert.ReferenceIdeal.main_arg3 (by decide +kernel) (by decide +kernel) (by decide +kernel) (by decide +kernel) (by decide +kernel) (by decide +kernel) (by decide +kernel)), (h.1 c Cert.ReferenceIdeal.main_arg4 (by decide)).trans (Cert.ReferenceIdeal.Loops.last_arg m' c Cert.ReferenceIdeal.main_arg4 (by decide +kernel) (by decide +kernel) (by decide +kernel) (by decide +kernel) (by decide +kernel) (by decide +kernel) (by decide +kernel)), (h.1 c Cert.ReferenceIdeal.main_arg5 (by decide)).trans (Cert.ReferenceIdeal.Loops.last_arg m' c Cert.ReferenceIdeal.main_arg5 (by decide +kernel) (by decide +kernel) (by decide +kernel) (by decide +kernel) (by decide +kernel) (by decide +kernel) (by decide +kernel)), (h.1 c Cert.ReferenceIdeal.main_arg6 (by decide)).trans (Cert.ReferenceIdeal.Loops.last_arg m' c Cert.ReferenceIdeal.main_arg6 (by decide +kernel) (by decide +kernel) (by decide +kernel) (by decide +kernel) (by decide +kernel) (by decide +kernel) (by decide +kernel))⟩) (Cert.ReferenceIdeal.Loops.run_last m' g')

end Cert.Proof

end
-- ==== Proof.Mm.Sums.lean ====
module

public import proofs.«01_k».proof.Defs
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.StableHlo.RunHlo

@[expose] public section

/-! ## Sums over all the products' terms, in the pieces the grid takes them in -/

namespace Cert

theorem sum2_4096 (f : Fin 4096 → EReal) :
    ∑ k, f k = (∑ x : Fin 2048, f ⟨x.val, by omega⟩) + ∑ x : Fin 2048, f ⟨2048 + x.val, by omega⟩ :=
  Fin.sum_univ_add (a := 2048) (b := 2048) f

theorem sum3_4608 (f : Fin 4608 → EReal) :
    ∑ k, f k = ((∑ x : Fin 1536, f ⟨x.val, by omega⟩) + ∑ x : Fin 1536, f ⟨1536 + x.val, by omega⟩)
      + ∑ x : Fin 1536, f ⟨3072 + x.val, by omega⟩ :=
  (Fin.sum_univ_add (a := 3072) (b := 1536) f).trans (congrArg (· + _) (Fin.sum_univ_add (a := 1536) (b := 1536) _))

theorem sum4_4096 (f : Fin 4096 → EReal) :
    ∑ k, f k = (((∑ x : Fin 1024, f ⟨x.val, by omega⟩) + ∑ x : Fin 1024, f ⟨1024 + x.val, by omega⟩)
      + ∑ x : Fin 1024, f ⟨2048 + x.val, by omega⟩) + ∑ x : Fin 1024, f ⟨3072 + x.val, by omega⟩ :=
  (Fin.sum_univ_add (a := 3072) (b := 1024) f).trans (congrArg (· + _)
    ((Fin.sum_univ_add (a := 2048) (b := 1024) _).trans (congrArg (· + _) (Fin.sum_univ_add (a := 1024) (b := 1024) _))))

end Cert
-- ==== Proof.Mm.DwMain.lean ====
module

public import proofs.«01_k».proof.Proof.Gen.DwMain
public import proofs.«01_k».proof.Proof.Gen.DwMainIdeal.Value
public import proofs.«01_k».proof.Proof.Gen.DwMainReferenceIdeal.Run
public import proofs.«01_k».proof.Proof.Mm.Sums

@[expose] public section

set_option maxRecDepth 16384

noncomputable section

/-! ## The gradient of the combined projection's weight -/

namespace Cert.DwMainIdeal.Value

open Cert.DwMainIdeal Cert.DwMainIdeal.Gen Idealize.ShloMosaic Idealize.ShloMosaic.TcCoe Idealize.SL.Sem

/-- The array the call is to leave, entry by entry. -/
def prod (u : Vec Ideal S4096x1024 .bf16) (d : Vec Ideal S4096x9216 .bf16) : Vec Ideal S9216x1024 .f32 := fun i =>
  ∑ k : Fin 4096, (d (ix2 k (i 0)) : EReal) * (u (ix2 k (i 1)) : EReal)

variable (m : (ℓ : Loc nD τ sig) → Buf (Elt Ideal) ℓ) (c : Dev nD)

/-- Which blocks the grid point reads and writes. -/
theorem idx : ∀ t : Fin cfg0.N, win0_0.index t = ![t.val % 2, t.val / 2] ∧ win0_1.index t = ![t.val % 2, 0] ∧ win0_2.index t = ![t.val / 2, 0] := by decide +kernel

/-- The array after the call: every entry is summed over the 2 grid points of its block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  blk_simp
  rw [after0_2, outsAt0_B m c t (by omega) h1]
  frame_out
  have e1 := outsAt0_A m c ⟨t.val - 1, (Nat.lt_of_le_of_lt (Nat.sub_le _ _) t.isLt)⟩ (by show (t.val - 1) % 2 = 0; omega) (by show ¬ (t.val - 1) % 2 = 1; omega)
  dsimp only at e1
  rw [e1]
  frame_out
  simp only [read_unread_whole]
  idx_vars y
  pointwise [k0_pay2, k0_pay1]
  simp only [prod, sum2_4096]
  show (_ : EReal) = _
  refine (congrArg₂ (· + ·) (Finset.sum_congr rfl fun x _ => congrArg₂ (· * ·) ?_ ?_) (Finset.sum_congr rfl fun x _ => congrArg₂ (· * ·) ?_ ?_))
  all_goals blk_ext [iblk, V, (idx _).1, (idx _).2.1, (idx _).2.2]

end Cert.DwMainIdeal.Value

namespace Cert.DwMainReferenceIdeal.Value

open Cert.DwMainReferenceIdeal Cert.DwMainReferenceIdeal.Gen Idealize.ShloMosaic Idealize.ShloMosaic.TcCoe Idealize.SL.Sem

/-- The reference's array is the same. -/
theorem ref (u : Vec Ideal S4096x1024 .bf16) (d : Vec Ideal S4096x9216 .bf16) :
    (transpose S9216x1024 [1, 0] (transpose S1024x9216 [1, 0] (Host.dotGeneral dot_S4096x9216_S4096x1024_S9216x1024_0_0_1_1_n_n none (extf .f32 d bitsLt_bf16_f32) (extf .f32 u bitsLt_bf16_f32)) transposes_S9216x1024_S1024x9216_1_0) transposes_S1024x9216_S9216x1024_1_0 : FVec Ideal S9216x1024 .f32)
      = Cert.DwMainIdeal.Value.prod u d := by
  funext i
  rw [eq_ix2 i]
  pointwise
  rfl

end Cert.DwMainReferenceIdeal.Value

namespace Cert.Proof.DwMain

open Idealize.ShloMosaic Idealize.SL.Sem
open Cert.DwMainIdeal (nD τ sig main_arg0 main_arg1)

theorem frame_ideal : Cert.quiescent_DwMainIdeal := fun m ρ _ => DwMainIdeal.Gen.frame m ρ

/-- The statement of the kernel's frame with the names of its ideal reading. -/
def ReadAsIdeal [hDwMain : DwMainIdeal.Facts] : Prop :=
  ∀ (m : (ℓ : Loc nD τ sig) → Buf (Elt Bits) ℓ) (g : Dev nD → PrngReg), Cert.Pre_DwMain m →
    θ_run (DwMainIdeal.defs (F := Bits)) (onTc (τ := τ) (DwMainIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_DwMain = ReadAsIdeal := by sl_kernel_rfl

theorem frame_kernel : Cert.quiescent_DwMain := same.mpr fun m ρ _ => DwMainIdeal.Gen.frame m ρ

/-- The reference has no semaphore. -/
theorem no_semaphore : ∀ _ : SemLoc DwMainReferenceIdeal.sig, False := by decide

theorem frame_reference : Cert.quiescent_DwMainReferenceIdeal := fun m ρ _ =>
  (θ_run _ _ _).mono (fun _ h => ⟨fun c => (h c).2, funext fun s => (no_semaphore s.2).elim⟩) (DwMainReferenceIdeal.Value.run m ρ)

theorem algebraic : Cert.algebraic_DwMainIdeal_DwMainReferenceIdeal := by
  intro m g m' g' _ hag
  refine ⟨fun c => DwMainIdeal.Value.prod (m ((c.tc : Thread nD τ).loc main_arg0)) (m ((c.tc : Thread nD τ).loc main_arg1)), ?_, ?_⟩
  · exact (θ_run _ _ _).mono (fun r h c => ⟨(h c).1.trans (DwMainIdeal.Value.arr m c), (h c).2⟩) (DwMainIdeal.Value.run_blocks m g)
  · refine (θ_run _ _ _).mono (fun r h c => ⟨(h c).1.trans ?_, (h c).2⟩) (DwMainReferenceIdeal.Value.run m' g')
    obtain ⟨e0, e1⟩ := hag c
    rw [e0, e1]
    exact DwMainReferenceIdeal.Value.ref _ _

end Cert.Proof.DwMain

end
-- ==== Proof.Mm.InMain.lean ====
module

public import proofs.«01_k».proof.Proof.Gen.InMain
public import proofs.«01_k».proof.Proof.Gen.InMainIdeal.Value
public import proofs.«01_k».proof.Proof.Gen.InMainReferenceIdeal.Run
public import proofs.«01_k».proof.Proof.Mm.Sums

@[expose] public section

set_option maxRecDepth 16384

noncomputable section

/-! ## The combined projection -/

namespace Cert.InMainIdeal.Value

open Cert.InMainIdeal Cert.InMainIdeal.Gen Idealize.ShloMosaic Idealize.ShloMosaic.TcCoe Idealize.SL.Sem

/-- The array the call is to leave, entry by entry. -/
def prod (u : Vec Ideal S4096x1024 .bf16) (w : Vec Ideal S9216x1024 .bf16) : Vec Ideal S4096x9216 .bf16 := fun i =>
  ∑ k : Fin 1024, (u (ix2 (i 0) k) : EReal) * (w (ix2 (i 1) k) : EReal)

variable (m : (ℓ : Loc nD τ sig) → Buf (Elt Ideal) ℓ) (c : Dev nD)

/-- Which blocks the grid point reads and writes. -/
theorem idx : ∀ t : Fin cfg0.N, win0_0.index t = ![t.val / 9, 0] ∧ win0_1.index t = ![t.val % 9, 0] ∧ win0_2.index t = ![t.val / 9, t.val % 9] := by decide +kernel

/-- The array after the call, block by block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay1]
  simp only [prod]
  show (_ : EReal) = _
  refine (Finset.sum_congr rfl fun x _ => congrArg₂ (· * ·) ?_ ?_)
  all_goals blk_ext [iblk, V, (idx _).1, (idx _).2.1, (idx _).2.2]

end Cert.InMainIdeal.Value

namespace Cert.InMainReferenceIdeal.Value

open Cert.InMainReferenceIdeal Cert.InMainReferenceIdeal.Gen Idealize.ShloMosaic Idealize.ShloMosaic.TcCoe Idealize.SL.Sem

/-- The reference's array is the same. -/
theorem ref (u : Vec Ideal S4096x1024 .bf16) (w : Vec Ideal S9216x1024 .bf16) :
    (truncf .bf16 (Host.dotGeneral dot_S4096x1024_S1024x9216_S4096x9216_1_0_0_1_n_n none (extf .f32 u bitsLt_bf16_f32) (transpose S1024x9216 [1, 0] (extf .f32 w bitsLt_bf16_f32) transposes_S9216x1024_S1024x9216_1_0)) bitsLt_bf16_f32 : FVec Ideal S4096x9216 .bf16)
      = Cert.InMainIdeal.Value.prod u w := by
  funext i
  rw [eq_ix2 i]
  pointwise
  rfl

end Cert.InMainReferenceIdeal.Value

namespace Cert.Proof.InMain

open Idealize.ShloMosaic Idealize.SL.Sem
open Cert.InMainIdeal (nD τ sig main_arg0 main_arg1)

theorem frame_ideal : Cert.quiescent_InMainIdeal := fun m ρ _ => InMainIdeal.Gen.frame m ρ

/-- The statement of the kernel's frame with the names of its ideal reading. -/
def ReadAsIdeal [hInMain : InMainIdeal.Facts] : Prop :=
  ∀ (m : (ℓ : Loc nD τ sig) → Buf (Elt Bits) ℓ) (g : Dev nD → PrngReg), Cert.Pre_InMain m →
    θ_run (InMainIdeal.defs (F := Bits)) (onTc (τ := τ) (InMainIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_InMain = ReadAsIdeal := by sl_kernel_rfl

theorem frame_kernel : Cert.quiescent_InMain := same.mpr fun m ρ _ => InMainIdeal.Gen.frame m ρ

/-- The reference has no semaphore. -/
theorem no_semaphore : ∀ _ : SemLoc InMainReferenceIdeal.sig, False := by decide

theorem frame_reference : Cert.quiescent_InMainReferenceIdeal := fun m ρ _ =>
  (θ_run _ _ _).mono (fun _ h => ⟨fun c => (h c).2, funext fun s => (no_semaphore s.2).elim⟩) (InMainReferenceIdeal.Value.run m ρ)

theorem algebraic : Cert.algebraic_InMainIdeal_InMainReferenceIdeal := by
  intro m g m' g' _ hag
  refine ⟨fun c => InMainIdeal.Value.prod (m ((c.tc : Thread nD τ).loc main_arg0)) (m ((c.tc : Thread nD τ).loc main_arg1)), ?_, ?_⟩
  · exact (θ_run _ _ _).mono (fun r h c => ⟨(h c).1.trans (InMainIdeal.Value.arr m c), (h c).2⟩) (InMainIdeal.Value.run_blocks m g)
  · refine (θ_run _ _ _).mono (fun r h c => ⟨(h c).1.trans ?_, (h c).2⟩) (InMainReferenceIdeal.Value.run m' g')
    obtain ⟨e0, e1⟩ := hag c
    rw [e0, e1]
    exact InMainReferenceIdeal.Value.ref _ _

end Cert.Proof.InMain

end
-- ==== Proof.Mm.InSmall.lean ====
module

public import proofs.«01_k».proof.Proof.Gen.InSmall
public import proofs.«01_k».proof.Proof.Gen.InSmallIdeal.Value
public import proofs.«01_k».proof.Proof.Gen.InSmallReferenceIdeal.Run
public import proofs.«01_k».proof.Proof.Mm.Sums

@[expose] public section

set_option maxRecDepth 16384

noncomputable section

/-! ## The projection to the gates -/

namespace Cert.InSmallIdeal.Value

open Cert.InSmallIdeal Cert.InSmallIdeal.Gen Idealize.ShloMosaic Idealize.ShloMosaic.TcCoe Idealize.SL.Sem

/-- The array the call is to leave, entry by entry. -/
def prod (u : Vec Ideal S4096x1024 .bf16) (w : Vec Ideal S128x1024 .bf16) : Vec Ideal S4096x128 .f32 := fun i =>
  ∑ k : Fin 1024, (u (ix2 (i 0) k) : EReal) * (w (ix2 (i 1) k) : EReal)

variable (m : (ℓ : Loc nD τ sig) → Buf (Elt Ideal) ℓ) (c : Dev nD)

/-- Which blocks the grid point reads and writes. -/
theorem idx : ∀ t : Fin cfg0.N, win0_0.index t = ![t.val, 0] ∧ win0_1.index t = ![0, 0] ∧ win0_2.index t = ![t.val, 0] := by decide +kernel

/-- The array after the call, block by block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay1]
  simp only [prod]
  show (_ : EReal) = _
  refine (Finset.sum_congr rfl fun x _ => congrArg₂ (· * ·) ?_ ?_)
  all_goals blk_ext [iblk, V, (idx _).1, (idx _).2.1, (idx _).2.2]

end Cert.InSmallIdeal.Value

namespace Cert.InSmallReferenceIdeal.Value

open Cert.InSmallReferenceIdeal Cert.InSmallReferenceIdeal.Gen Idealize.ShloMosaic Idealize.ShloMosaic.TcCoe Idealize.SL.Sem

/-- The reference's array is the same. -/
theorem ref (u : Vec Ideal S4096x1024 .bf16) (w : Vec Ideal S128x1024 .bf16) :
    (Host.dotGeneral dot_S4096x1024_S1024x128_S4096x128_1_0_0_1_n_n none (extf .f32 u bitsLt_bf16_f32) (transpose S1024x128 [1, 0] (extf .f32 w bitsLt_bf16_f32) transposes_S128x1024_S1024x128_1_0) : FVec Ideal S4096x128 .f32)
      = Cert.InSmallIdeal.Value.prod u w := by
  funext i
  rw [eq_ix2 i]
  pointwise
  rfl

end Cert.InSmallReferenceIdeal.Value

namespace Cert.Proof.InSmall

open Idealize.ShloMosaic Idealize.SL.Sem
open Cert.InSmallIdeal (nD τ sig main_arg0 main_arg1)

theorem frame_ideal : Cert.quiescent_InSmallIdeal := fun m ρ _ => InSmallIdeal.Gen.frame m ρ

/-- The statement of the kernel's frame with the names of its ideal reading. -/
def ReadAsIdeal [hInSmall : InSmallIdeal.Facts] : Prop :=
  ∀ (m : (ℓ : Loc nD τ sig) → Buf (Elt Bits) ℓ) (g : Dev nD → PrngReg), Cert.Pre_InSmall m →
    θ_run (InSmallIdeal.defs (F := Bits)) (onTc (τ := τ) (InSmallIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_InSmall = ReadAsIdeal := by sl_kernel_rfl

theorem frame_kernel : Cert.quiescent_InSmall := same.mpr fun m ρ _ => InSmallIdeal.Gen.frame m ρ

/-- The reference has no semaphore. -/
theorem no_semaphore : ∀ _ : SemLoc InSmallReferenceIdeal.sig, False := by decide

theorem frame_reference : Cert.quiescent_InSmallReferenceIdeal := fun m ρ _ =>
  (θ_run _ _ _).mono (fun _ h => ⟨fun c => (h c).2, funext fun s => (no_semaphore s.2).elim⟩) (InSmallReferenceIdeal.Value.run m ρ)

theorem algebraic : Cert.algebraic_InSmallIdeal_InSmallReferenceIdeal := by
  intro m g m' g' _ hag
  refine ⟨fun c => InSmallIdeal.Value.prod (m ((c.tc : Thread nD τ).loc main_arg0)) (m ((c.tc : Thread nD τ).loc main_arg1)), ?_, ?_⟩
  · exact (θ_run _ _ _).mono (fun r h c => ⟨(h c).1.trans (InSmallIdeal.Value.arr m c), (h c).2⟩) (InSmallIdeal.Value.run_blocks m g)
  · refine (θ_run _ _ _).mono (fun r h c => ⟨(h c).1.trans ?_, (h c).2⟩) (InSmallReferenceIdeal.Value.run m' g')
    obtain ⟨e0, e1⟩ := hag c
    rw [e0, e1]
    exact InSmallReferenceIdeal.Value.ref _ _

end Cert.Proof.InSmall

end
-- ==== Proof.Mm.Pa.lean ====
module

public import proofs.«01_k».proof.Proof.Gen.Pa
public import proofs.«01_k».proof.Proof.Gen.PaIdeal.Value
public import proofs.«01_k».proof.Proof.Gen.PaReferenceIdeal.Run
public import proofs.«01_k».proof.Proof.Mm.Sums

@[expose] public section

set_option maxRecDepth 16384

noncomputable section

/-! ## The output product of a branch -/

namespace Cert.PaIdeal.Value

open Cert.PaIdeal Cert.PaIdeal.Gen Idealize.ShloMosaic Idealize.ShloMosaic.TcCoe Idealize.SL.Sem

/-- The array the call is to leave, entry by entry. -/
def prod (x : Vec Ideal S4096x1024 .bf16) (w : Vec Ideal S1024x1024 .bf16) : Vec Ideal S4096x1024 .f32 := fun i =>
  ∑ k : Fin 1024, (x (ix2 (i 0) k) : EReal) * (w (ix2 k (i 1)) : EReal)

variable (m : (ℓ : Loc nD τ sig) → Buf (Elt Ideal) ℓ) (c : Dev nD)

/-- Which blocks the grid point reads and writes. -/
theorem idx : ∀ t : Fin cfg0.N, win0_0.index t = ![t.val, 0] ∧ win0_1.index t = ![0, 0] ∧ win0_2.index t = ![t.val, 0] := by decide +kernel

/-- The array after the call, block by block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay1]
  simp only [prod]
  show (_ : EReal) = _
  refine (Finset.sum_congr rfl fun x _ => congrArg₂ (· * ·) ?_ ?_)
  all_goals blk_ext [iblk, V, (idx _).1, (idx _).2.1, (idx _).2.2]

end Cert.PaIdeal.Value

namespace Cert.PaReferenceIdeal.Value

open Cert.PaReferenceIdeal Cert.PaReferenceIdeal.Gen Idealize.ShloMosaic Idealize.ShloMosaic.TcCoe Idealize.SL.Sem

/-- The reference's array is the same. -/
theorem ref (x : Vec Ideal S4096x1024 .bf16) (w : Vec Ideal S1024x1024 .bf16) :
    (Host.dotGeneral dot_S4096x1024_S1024x1024_S4096x1024_1_0_0_1_n_n none (extf .f32 x bitsLt_bf16_f32) (extf .f32 w bitsLt_bf16_f32) : FVec Ideal S4096x1024 .f32)
      = Cert.PaIdeal.Value.prod x w := by
  funext i
  rw [eq_ix2 i]
  pointwise
  rfl

end Cert.PaReferenceIdeal.Value

namespace Cert.Proof.Pa

open Idealize.ShloMosaic Idealize.SL.Sem
open Cert.PaIdeal (nD τ sig main_arg0 main_arg1)

theorem frame_ideal : Cert.quiescent_PaIdeal := fun m ρ _ => PaIdeal.Gen.frame m ρ

/-- The statement of the kernel's frame with the names of its ideal reading. -/
def ReadAsIdeal [hPa : PaIdeal.Facts] : Prop :=
  ∀ (m : (ℓ : Loc nD τ sig) → Buf (Elt Bits) ℓ) (g : Dev nD → PrngReg), Cert.Pre_Pa m →
    θ_run (PaIdeal.defs (F := Bits)) (onTc (τ := τ) (PaIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_Pa = ReadAsIdeal := by sl_kernel_rfl

theorem frame_kernel : Cert.quiescent_Pa := same.mpr fun m ρ _ => PaIdeal.Gen.frame m ρ

/-- The reference has no semaphore. -/
theorem no_semaphore : ∀ _ : SemLoc PaReferenceIdeal.sig, False := by decide

theorem frame_reference : Cert.quiescent_PaReferenceIdeal := fun m ρ _ =>
  (θ_run _ _ _).mono (fun _ h => ⟨fun c => (h c).2, funext fun s => (no_semaphore s.2).elim⟩) (PaReferenceIdeal.Value.run m ρ)

theorem algebraic : Cert.algebraic_PaIdeal_PaReferenceIdeal := by
  intro m g m' g' _ hag
  refine ⟨fun c => PaIdeal.Value.prod (m ((c.tc : Thread nD τ).loc main_arg0)) (m ((c.tc : Thread nD τ).loc main_arg1)), ?_, ?_⟩
  · exact (θ_run _ _ _).mono (fun r h c => ⟨(h c).1.trans (PaIdeal.Value.arr m c), (h c).2⟩) (PaIdeal.Value.run_blocks m g)
  · refine (θ_run _ _ _).mono (fun r h c => ⟨(h c).1.trans ?_, (h c).2⟩) (PaReferenceIdeal.Value.run m' g')
    obtain ⟨e0, e1⟩ := hag c
    rw [e0, e1]
    exact PaReferenceIdeal.Value.ref _ _

end Cert.Proof.Pa

end
-- ==== Proof.Mm.Pb.lean ====
module

public import proofs.«01_k».proof.Proof.Gen.Pb
public import proofs.«01_k».proof.Proof.Gen.PbIdeal
public import proofs.«01_k».proof.Proof.Gen.PbReferenceIdeal
public import proofs.«01_k».proof.Proof.Mm.Pa

@[expose] public section

set_option maxRecDepth 16384

noncomputable section

/-! ## A product of the same shapes as `Pa`: the programs are the same but for their names, and so are the statements -/

namespace Cert.Proof.Pb

theorem same_kernel : Cert.quiescent_Pb = Cert.quiescent_Pa := by sl_kernel_rfl

theorem same_ideal : Cert.quiescent_PbIdeal = Cert.quiescent_PaIdeal := by sl_kernel_rfl

theorem same_reference : Cert.quiescent_PbReferenceIdeal = Cert.quiescent_PaReferenceIdeal := by sl_kernel_rfl

theorem same_algebraic : Cert.algebraic_PbIdeal_PbReferenceIdeal = Cert.algebraic_PaIdeal_PaReferenceIdeal := by sl_kernel_rfl

theorem frame_kernel : Cert.quiescent_Pb := same_kernel.mpr Pa.frame_kernel

theorem frame_ideal : Cert.quiescent_PbIdeal := same_ideal.mpr Pa.frame_ideal

theorem frame_reference : Cert.quiescent_PbReferenceIdeal := same_reference.mpr Pa.frame_reference

theorem algebraic : Cert.algebraic_PbIdeal_PbReferenceIdeal := same_algebraic.mpr Pa.algebraic

end Cert.Proof.Pb

end
-- ==== Proof.Mm.Out.lean ====
module

public import proofs.«01_k».proof.Proof.Gen.Out
public import proofs.«01_k».proof.Proof.Gen.OutIdeal.Value
public import proofs.«01_k».proof.Proof.Gen.OutReferenceIdeal.Run
public import proofs.«01_k».proof.Proof.Mm.Sums

@[expose] public section

set_option maxRecDepth 16384

noncomputable section

/-! ## The output product with its residual -/

namespace Cert.OutIdeal.Value

open Cert.OutIdeal Cert.OutIdeal.Gen Idealize.ShloMosaic Idealize.ShloMosaic.TcCoe Idealize.SL.Sem

/-- The array the call is to leave, entry by entry. -/
def prod (x : Vec Ideal S4096x1024 .bf16) (w : Vec Ideal S1024x1024 .bf16) (r : Vec Ideal S4096x1024 .f32) : Vec Ideal S4096x1024 .f32 := fun i =>
  (r i : EReal) + ∑ k : Fin 1024, (x (ix2 (i 0) k) : EReal) * (w (ix2 k (i 1)) : EReal)

variable (m : (ℓ : Loc nD τ sig) → Buf (Elt Ideal) ℓ) (c : Dev nD)

/-- Which blocks the grid point reads and writes. -/
theorem idx : ∀ t : Fin cfg0.N, win0_0.index t = ![t.val, 0] ∧ win0_1.index t = ![0, 0] ∧ win0_2.index t = ![t.val, 0] ∧ win0_3.index t = ![t.val, 0] := by decide +kernel

/-- The array after the call, block by block. -/
theorem arr : (dats m 0 c).arrAt 3 cfg0.N = prod (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  idx_vars y
  pointwise [k0_pay1]
  simp only [prod]
  show (_ : EReal) = _
  refine ((add_comm _ _).trans (congrArg₂ (· + ·) ?_ (Finset.sum_congr rfl fun x _ => congrArg₂ (· * ·) ?_ ?_)))
  all_goals blk_ext [iblk, V, (idx _).1, (idx _).2.1, (idx _).2.2.1, (idx _).2.2.2]

end Cert.OutIdeal.Value

namespace Cert.OutReferenceIdeal.Value

open Cert.OutReferenceIdeal Cert.OutReferenceIdeal.Gen Idealize.ShloMosaic Idealize.ShloMosaic.TcCoe Idealize.SL.Sem

/-- The reference's array is the same. -/
theorem ref (x : Vec Ideal S4096x1024 .bf16) (w : Vec Ideal S1024x1024 .bf16) (r : Vec Ideal S4096x1024 .f32) :
    (addf r (Host.dotGeneral dot_S4096x1024_S1024x1024_S4096x1024_1_0_0_1_n_n none (extf .f32 x bitsLt_bf16_f32) (extf .f32 w bitsLt_bf16_f32)) : FVec Ideal S4096x1024 .f32)
      = Cert.OutIdeal.Value.prod x w r := by
  funext i
  rw [eq_ix2 i]
  pointwise
  rfl

end Cert.OutReferenceIdeal.Value

namespace Cert.Proof.Out

open Idealize.ShloMosaic Idealize.SL.Sem
open Cert.OutIdeal (nD τ sig main_arg0 main_arg1 main_arg2)

theorem frame_ideal : Cert.quiescent_OutIdeal := fun m ρ _ => OutIdeal.Gen.frame m ρ

/-- The statement of the kernel's frame with the names of its ideal reading. -/
def ReadAsIdeal [hOut : OutIdeal.Facts] : Prop :=
  ∀ (m : (ℓ : Loc nD τ sig) → Buf (Elt Bits) ℓ) (g : Dev nD → PrngReg), Cert.Pre_Out m →
    θ_run (OutIdeal.defs (F := Bits)) (onTc (τ := τ) (OutIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem same : Cert.quiescent_Out = ReadAsIdeal := by sl_kernel_rfl

theorem frame_kernel : Cert.quiescent_Out := same.mpr fun m ρ _ => OutIdeal.Gen.frame m ρ

/-- The reference has no semaphore. -/
theorem no_semaphore : ∀ _ : SemLoc OutReferenceIdeal.sig, False := by decide

theorem frame_reference : Cert.quiescent_OutReferenceIdeal := fun m ρ _ =>
  (θ_run _ _ _).mono (fun _ h => ⟨fun c => (h c).2, funext fun s => (no_semaphore s.2).elim⟩) (OutReferenceIdeal.Value.run m ρ)

theorem algebraic : Cert.algebraic_OutIdeal_OutReferenceIdeal := by
  intro m g m' g' _ hag
  refine ⟨fun c => OutIdeal.Value.prod (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (OutIdeal.Value.arr m c), (h c).2⟩) (OutIdeal.Value.run_blocks m g)
  · refine (θ_run _ _ _).mono (fun r h c => ⟨(h c).1.trans ?_, (h c).2⟩) (OutReferenceIdeal.Value.run m' g')
    obtain ⟨e0, e1, e2⟩ := hag c
    rw [e0, e1, e2]
    exact OutReferenceIdeal.Value.ref _ _ _

end Cert.Proof.Out

end
-- ==== Proof.Mm.Up.lean ====
module

public import proofs.«01_k».proof.Proof.Gen.Up
public import proofs.«01_k».proof.Proof.Gen.UpIdeal.Value
public import proofs.«01_k».proof.Proof.Gen.UpReferenceIdeal.Run
public import proofs.«01_k».proof.Proof.Mm.Sums

@[expose] public section

set_option maxRecDepth 16384

noncomputable section

/-! ## The MLP's first product and the squared ReLU -/

namespace Cert.UpIdeal.Value

open Cert.UpIdeal Cert.UpIdeal.Gen Idealize.ShloMosaic Idealize.ShloMosaic.TcCoe Idealize.SL.Sem

/-- The array the call is to leave, entry by entry. -/
def prod (x : Vec Ideal S4096x1024 .bf16) (w : Vec Ideal S4x1024x1024 .bf16) : Vec Ideal S4096x4096 .f32 := fun i =>
  ∑ k : Fin 1024, (x (ix2 (i 0) k) : EReal) * (w (ix3 ⟨(i 1).val / 1024, by idx_bounds i; omega⟩ k ⟨(i 1).val % 1024, by omega⟩) : EReal)

/-- The square of the positive part of that, entry by entry. -/
def relu2 (x : Vec Ideal S4096x1024 .bf16) (w : Vec Ideal S4x1024x1024 .bf16) : Vec Ideal S4096x4096 .bf16 := fun i =>
  max (prod x w i : EReal) 0 * max (prod x w i : EReal) 0

variable (m : (ℓ : Loc nD τ sig) → Buf (Elt Ideal) ℓ) (c : Dev nD)

/-- Which blocks the grid point reads and writes. -/
theorem idx : ∀ t : Fin cfg0.N, win0_0.index t = ![t.val / 4, 0] ∧ win0_1.index t = ![t.val % 4, 0, 0] ∧ win0_2.index t = ![t.val / 4, t.val % 4] ∧ win0_3.index t = ![t.val / 4, t.val % 4] := by decide +kernel

/-- The array after the call, block by block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay2, k0_pay1]
  simp only [prod]
  show (_ : EReal) = _
  refine (Finset.sum_congr rfl fun x _ => congrArg₂ (· * ·) ?_ ?_)
  all_goals blk_ext [iblk, V, (idx _).1, (idx _).2.1, (idx _).2.2.1]

/-- The second array after the call, block by block. -/
theorem arr2 : (dats m 0 c).arrAt 3 cfg0.N = relu2 (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  idx_vars y
  pointwise [k0_pay2, k0_pay1]
  simp only [relu2, prod]
  show (_ : EReal) = _
  refine congrArg (fun e : EReal => max e 0 * max e 0) (Finset.sum_congr rfl fun x _ => congrArg₂ (· * ·) ?_ ?_)
  all_goals blk_ext [iblk, V, (idx _).1, (idx _).2.1, (idx _).2.2.2]

end Cert.UpIdeal.Value

namespace Cert.UpReferenceIdeal.Value

open Cert.UpReferenceIdeal Cert.UpReferenceIdeal.Gen Idealize.ShloMosaic Idealize.ShloMosaic.TcCoe Idealize.SL.Sem

/-- The reference's array is the same. -/
theorem ref (x : Vec Ideal S4096x1024 .bf16) (w : Vec Ideal S4x1024x1024 .bf16) :
    (Host.dotGeneral dot_S4096x1024_S1024x4096_S4096x4096_1_0_0_1_n_n none (extf .f32 x bitsLt_bf16_f32) (shapeCast _ (transpose S1024x4x1024 [1, 0, 2] (extf .f32 w bitsLt_bf16_f32) transposes_S4x1024x1024_S1024x4x1024_1_0_2) shapeCasts_S1024x4x1024_S1024x4096) : FVec Ideal S4096x4096 .f32)
      = Cert.UpIdeal.Value.prod x w := by
  funext i
  rw [eq_ix2 i]
  pointwise
  rfl

theorem ref2 (x : Vec Ideal S4096x1024 .bf16) (w : Vec Ideal S4x1024x1024 .bf16) :
    (truncf .bf16 (mulf (maximumf (Host.dotGeneral dot_S4096x1024_S1024x4096_S4096x4096_1_0_0_1_n_n none (extf .f32 x bitsLt_bf16_f32) (shapeCast _ (transpose S1024x4x1024 [1, 0, 2] (extf .f32 w bitsLt_bf16_f32) transposes_S4x1024x1024_S1024x4x1024_1_0_2) shapeCasts_S1024x4x1024_S1024x4096)) (broadcastInDim S4096x4096 ![] bcast_S_S4096x4096 (constant S_ .f32 0x00000000#32))) (maximumf (Host.dotGeneral dot_S4096x1024_S1024x4096_S4096x4096_1_0_0_1_n_n none (extf .f32 x bitsLt_bf16_f32) (shapeCast _ (transpose S1024x4x1024 [1, 0, 2] (extf .f32 w bitsLt_bf16_f32) transposes_S4x1024x1024_S1024x4x1024_1_0_2) shapeCasts_S1024x4x1024_S1024x4096)) (broadcastInDim S4096x4096 ![] bcast_S_S4096x4096 (constant S_ .f32 0x00000000#32)))) bitsLt_bf16_f32 : FVec Ideal S4096x4096 .bf16)
      = Cert.UpIdeal.Value.relu2 x w := by
  funext i
  rw [eq_ix2 i]
  pointwise

  rfl

end Cert.UpReferenceIdeal.Value

namespace Cert.Proof.Up

open Idealize.ShloMosaic Idealize.SL.Sem
open Cert.UpIdeal (nD τ sig main_arg0 main_arg1)

theorem frame_ideal : Cert.quiescent_UpIdeal := fun m ρ _ => UpIdeal.Gen.frame m ρ

/-- The statement of the kernel's frame with the names of its ideal reading. -/
def ReadAsIdeal [hUp : UpIdeal.Facts] : Prop :=
  ∀ (m : (ℓ : Loc nD τ sig) → Buf (Elt Bits) ℓ) (g : Dev nD → PrngReg), Cert.Pre_Up m →
    θ_run (UpIdeal.defs (F := Bits)) (onTc (τ := τ) (UpIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_Up = ReadAsIdeal := by sl_kernel_rfl

theorem frame_kernel : Cert.quiescent_Up := same.mpr fun m ρ _ => UpIdeal.Gen.frame m ρ

/-- The reference has no semaphore. -/
theorem no_semaphore : ∀ _ : SemLoc UpReferenceIdeal.sig, False := by decide

theorem frame_reference : Cert.quiescent_UpReferenceIdeal := fun m ρ _ =>
  (θ_run _ _ _).mono (fun _ h => ⟨fun c => (h c).2.2, funext fun s => (no_semaphore s.2).elim⟩) (UpReferenceIdeal.Value.run m ρ)

theorem algebraic : Cert.algebraic_UpIdeal_UpReferenceIdeal := by
  intro m g m' g' _ hag
  refine ⟨fun c => UpIdeal.Value.prod (m ((c.tc : Thread nD τ).loc main_arg0)) (m ((c.tc : Thread nD τ).loc main_arg1)),
    fun c => UpIdeal.Value.relu2 (m ((c.tc : Thread nD τ).loc main_arg0)) (m ((c.tc : Thread nD τ).loc main_arg1)), ?_, ?_⟩
  · exact (θ_run _ _ _).mono (fun r h c => ⟨(h c).1.trans (UpIdeal.Value.arr m c), (h c).2.1.trans (UpIdeal.Value.arr2 m c), (h c).2.2⟩) (UpIdeal.Value.run_blocks m g)
  · refine (θ_run _ _ _).mono (fun r h c => ⟨(h c).1.trans ?_, (h c).2.1.trans ?_, (h c).2.2⟩) (UpReferenceIdeal.Value.run m' g')
    · obtain ⟨e0, e1⟩ := hag c
      rw [e0, e1]
      exact UpReferenceIdeal.Value.ref _ _
    · obtain ⟨e0, e1⟩ := hag c
      rw [e0, e1]
      exact UpReferenceIdeal.Value.ref2 _ _

end Cert.Proof.Up

end
-- ==== Proof.Mm.DAct.lean ====
module

public import proofs.«01_k».proof.Proof.Gen.DAct
public import proofs.«01_k».proof.Proof.Gen.DActIdeal.Value
public import proofs.«01_k».proof.Proof.Gen.DActReferenceIdeal.Run
public import proofs.«01_k».proof.Proof.Mm.Sums

@[expose] public section

set_option maxRecDepth 16384

noncomputable section

/-! ## The gradient of the MLP's first product -/

namespace Cert.DActIdeal.Value

open Cert.DActIdeal Cert.DActIdeal.Gen Idealize.ShloMosaic Idealize.ShloMosaic.TcCoe Idealize.SL.Sem

/-- The array the call is to leave, entry by entry. -/
def prod (d : Vec Ideal S4096x1024 .bf16) (w : Vec Ideal S4096x1024 .bf16) (a : Vec Ideal S4096x4096 .f32) : Vec Ideal S4096x4096 .bf16 := fun i =>
  (Ideal.ofBits .f32 0x40000000#32 : EReal) * max (a i : EReal) 0 * ∑ k : Fin 1024, (d (ix2 (i 0) k) : EReal) * (w (ix2 (i 1) k) : EReal)

variable (m : (ℓ : Loc nD τ sig) → Buf (Elt Ideal) ℓ) (c : Dev nD)

/-- Which blocks the grid point reads and writes. -/
theorem idx : ∀ t : Fin cfg0.N, win0_0.index t = ![t.val / 4, 0] ∧ win0_1.index t = ![t.val % 4, 0] ∧ win0_2.index t = ![t.val / 4, t.val % 4] ∧ win0_3.index t = ![t.val / 4, t.val % 4] := by decide +kernel

/-- The array after the call, block by block. -/
theorem arr : (dats m 0 c).arrAt 3 cfg0.N = prod (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  idx_vars y
  pointwise [k0_pay1]
  simp only [prod]
  show (_ : EReal) = _
  refine congrArg₂ (· * ·) (congrArg (fun e : EReal => Ideal.ofBits .f32 0x40000000#32 * max e 0) ?_) (Finset.sum_congr rfl fun x _ => congrArg₂ (· * ·) ?_ ?_)
  all_goals blk_ext [iblk, V, (idx _).1, (idx _).2.1, (idx _).2.2.1, (idx _).2.2.2]

end Cert.DActIdeal.Value

namespace Cert.DActReferenceIdeal.Value

open Cert.DActReferenceIdeal Cert.DActReferenceIdeal.Gen Idealize.ShloMosaic Idealize.ShloMosaic.TcCoe Idealize.SL.Sem

/-- The reference's array is the same. -/
theorem ref (d : Vec Ideal S4096x1024 .bf16) (w : Vec Ideal S4096x1024 .bf16) (a : FVec Ideal S4096x4096 .f32) :
    (truncf .bf16 (select (cmpf .ogt a (broadcastInDim S4096x4096 ![] bcast_S_S4096x4096 (constant S_ .f32 0x00000000#32))) (mulf (Host.dotGeneral dot_S4096x1024_S4096x1024_S4096x4096_1_1_0_0_n_n none (extf .f32 d bitsLt_bf16_f32) (extf .f32 w bitsLt_bf16_f32)) (mulf (broadcastInDim S4096x4096 ![] bcast_S_S4096x4096 (constant S_ .f32 0x40000000#32)) (maximumf a (broadcastInDim S4096x4096 ![] bcast_S_S4096x4096 (constant S_ .f32 0x00000000#32))))) (broadcastInDim S4096x4096 ![] bcast_S_S4096x4096 (constant S_ .f32 0x00000000#32))) bitsLt_bf16_f32 : FVec Ideal S4096x4096 .bf16)
      = Cert.DActIdeal.Value.prod d w a := by
  funext i
  rw [eq_ix2 i]
  pointwise
  show (if 0 < (a i : EReal) then _ else 0) = (_ : EReal)
  split
  · exact mul_comm _ _
  · rename_i h
    simp only [Cert.DActIdeal.Value.prod]
    rw [max_eq_right (not_lt.mp h), mul_zero, zero_mul]

end Cert.DActReferenceIdeal.Value

namespace Cert.Proof.DAct

open Idealize.ShloMosaic Idealize.SL.Sem
open Cert.DActIdeal (nD τ sig main_arg0 main_arg1 main_arg2)

theorem frame_ideal : Cert.quiescent_DActIdeal := fun m ρ _ => DActIdeal.Gen.frame m ρ

/-- The statement of the kernel's frame with the names of its ideal reading. -/
def ReadAsIdeal [hDAct : DActIdeal.Facts] : Prop :=
  ∀ (m : (ℓ : Loc nD τ sig) → Buf (Elt Bits) ℓ) (g : Dev nD → PrngReg), Cert.Pre_DAct m →
    θ_run (DActIdeal.defs (F := Bits)) (onTc (τ := τ) (DActIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem same : Cert.quiescent_DAct = ReadAsIdeal := by sl_kernel_rfl

theorem frame_kernel : Cert.quiescent_DAct := same.mpr fun m ρ _ => DActIdeal.Gen.frame m ρ

/-- The reference has no semaphore. -/
theorem no_semaphore : ∀ _ : SemLoc DActReferenceIdeal.sig, False := by decide

theorem frame_reference : Cert.quiescent_DActReferenceIdeal := fun m ρ _ =>
  (θ_run _ _ _).mono (fun _ h => ⟨fun c => (h c).2, funext fun s => (no_semaphore s.2).elim⟩) (DActReferenceIdeal.Value.run m ρ)

theorem algebraic : Cert.algebraic_DActIdeal_DActReferenceIdeal := by
  intro m g m' g' _ hag
  refine ⟨fun c => DActIdeal.Value.prod (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (DActIdeal.Value.arr m c), (h c).2⟩) (DActIdeal.Value.run_blocks m g)
  · refine (θ_run _ _ _).mono (fun r h c => ⟨(h c).1.trans ?_, (h c).2⟩) (DActReferenceIdeal.Value.run m' g')
    obtain ⟨e0, e1, e2⟩ := hag c
    rw [e0, e1, e2]
    exact DActReferenceIdeal.Value.ref _ _ _

end Cert.Proof.DAct

end
-- ==== Proof.Mm.DwDown.lean ====
module

public import proofs.«01_k».proof.Proof.Gen.DwDown
public import proofs.«01_k».proof.Proof.Gen.DwDownIdeal.Value
public import proofs.«01_k».proof.Proof.Gen.DwDownReferenceIdeal.Run
public import proofs.«01_k».proof.Proof.Mm.Sums

@[expose] public section

set_option maxRecDepth 16384

noncomputable section

/-! ## The gradient of the second MLP weight -/

namespace Cert.DwDownIdeal.Value

open Cert.DwDownIdeal Cert.DwDownIdeal.Gen Idealize.ShloMosaic Idealize.ShloMosaic.TcCoe Idealize.SL.Sem

/-- The array the call is to leave, entry by entry. -/
def prod (x : Vec Ideal S4096x4096 .bf16) (d : Vec Ideal S4096x1024 .bf16) : Vec Ideal S4096x1024 .f32 := fun i =>
  ∑ k : Fin 4096, (x (ix2 k (i 0)) : EReal) * (d (ix2 k (i 1)) : EReal)

variable (m : (ℓ : Loc nD τ sig) → Buf (Elt Ideal) ℓ) (c : Dev nD)

/-- Which blocks the grid point reads and writes. -/
theorem idx : ∀ t : Fin cfg0.N, win0_0.index t = ![t.val % 2, t.val / 2] ∧ win0_1.index t = ![t.val % 2, 0] ∧ win0_2.index t = ![t.val / 2, 0] := by decide +kernel

/-- The array after the call: every entry is summed over the 2 grid points of its block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  blk_simp
  rw [after0_2, outsAt0_B m c t (by omega) h1]
  frame_out
  have e1 := outsAt0_A m c ⟨t.val - 1, (Nat.lt_of_le_of_lt (Nat.sub_le _ _) t.isLt)⟩ (by show (t.val - 1) % 2 = 0; omega) (by show ¬ (t.val - 1) % 2 = 1; omega)
  dsimp only at e1
  rw [e1]
  frame_out
  simp only [read_unread_whole]
  idx_vars y
  pointwise [k0_pay2, k0_pay1]
  simp only [prod, sum2_4096]
  show (_ : EReal) = _
  refine (congrArg₂ (· + ·) (Finset.sum_congr rfl fun x _ => congrArg₂ (· * ·) ?_ ?_) (Finset.sum_congr rfl fun x _ => congrArg₂ (· * ·) ?_ ?_))
  all_goals blk_ext [iblk, V, (idx _).1, (idx _).2.1, (idx _).2.2]

end Cert.DwDownIdeal.Value

namespace Cert.DwDownReferenceIdeal.Value

open Cert.DwDownReferenceIdeal Cert.DwDownReferenceIdeal.Gen Idealize.ShloMosaic Idealize.ShloMosaic.TcCoe Idealize.SL.Sem

/-- The reference's array is the same. -/
theorem ref (x : Vec Ideal S4096x4096 .bf16) (d : Vec Ideal S4096x1024 .bf16) :
    (transpose S4096x1024 [1, 0] (Host.dotGeneral dot_S4096x1024_S4096x4096_S1024x4096_0_0_1_1_n_n none (extf .f32 d bitsLt_bf16_f32) (extf .f32 x bitsLt_bf16_f32)) transposes_S1024x4096_S4096x1024_1_0 : FVec Ideal S4096x1024 .f32)
      = Cert.DwDownIdeal.Value.prod x d := by
  funext i
  rw [eq_ix2 i]
  pointwise
  exact Finset.sum_congr rfl fun _ _ => mul_comm _ _

end Cert.DwDownReferenceIdeal.Value

namespace Cert.Proof.DwDown

open Idealize.ShloMosaic Idealize.SL.Sem
open Cert.DwDownIdeal (nD τ sig main_arg0 main_arg1)

theorem frame_ideal : Cert.quiescent_DwDownIdeal := fun m ρ _ => DwDownIdeal.Gen.frame m ρ

/-- The statement of the kernel's frame with the names of its ideal reading. -/
def ReadAsIdeal [hDwDown : DwDownIdeal.Facts] : Prop :=
  ∀ (m : (ℓ : Loc nD τ sig) → Buf (Elt Bits) ℓ) (g : Dev nD → PrngReg), Cert.Pre_DwDown m →
    θ_run (DwDownIdeal.defs (F := Bits)) (onTc (τ := τ) (DwDownIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_DwDown = ReadAsIdeal := by sl_kernel_rfl

theorem frame_kernel : Cert.quiescent_DwDown := same.mpr fun m ρ _ => DwDownIdeal.Gen.frame m ρ

/-- The reference has no semaphore. -/
theorem no_semaphore : ∀ _ : SemLoc DwDownReferenceIdeal.sig, False := by decide

theorem frame_reference : Cert.quiescent_DwDownReferenceIdeal := fun m ρ _ =>
  (θ_run _ _ _).mono (fun _ h => ⟨fun c => (h c).2, funext fun s => (no_semaphore s.2).elim⟩) (DwDownReferenceIdeal.Value.run m ρ)

theorem algebraic : Cert.algebraic_DwDownIdeal_DwDownReferenceIdeal := by
  intro m g m' g' _ hag
  refine ⟨fun c => DwDownIdeal.Value.prod (m ((c.tc : Thread nD τ).loc main_arg0)) (m ((c.tc : Thread nD τ).loc main_arg1)), ?_, ?_⟩
  · exact (θ_run _ _ _).mono (fun r h c => ⟨(h c).1.trans (DwDownIdeal.Value.arr m c), (h c).2⟩) (DwDownIdeal.Value.run_blocks m g)
  · refine (θ_run _ _ _).mono (fun r h c => ⟨(h c).1.trans ?_, (h c).2⟩) (DwDownReferenceIdeal.Value.run m' g')
    obtain ⟨e0, e1⟩ := hag c
    rw [e0, e1]
    exact DwDownReferenceIdeal.Value.ref _ _

end Cert.Proof.DwDown

end
-- ==== Proof.Mm.DwUp.lean ====
module

public import proofs.«01_k».proof.Proof.Gen.DwUp
public import proofs.«01_k».proof.Proof.Gen.DwUpIdeal.Value
public import proofs.«01_k».proof.Proof.Gen.DwUpReferenceIdeal.Run
public import proofs.«01_k».proof.Proof.Mm.Sums

@[expose] public section

set_option maxRecDepth 16384

noncomputable section

/-! ## The gradient of the first MLP weight, in its four blocks -/

namespace Cert.DwUpIdeal.Value

open Cert.DwUpIdeal Cert.DwUpIdeal.Gen Idealize.ShloMosaic Idealize.ShloMosaic.TcCoe Idealize.SL.Sem

/-- The array the call is to leave, entry by entry. -/
def prod (x : Vec Ideal S4096x1024 .bf16) (d : Vec Ideal S4096x4096 .bf16) : Vec Ideal S4x1024x1024 .f32 := fun i =>
  ∑ k : Fin 4096, (x (ix2 k (i 1)) : EReal) * (d (ix2 k ⟨(i 0).val * 1024 + (i 2).val, by idx_bounds i; omega⟩) : EReal)

variable (m : (ℓ : Loc nD τ sig) → Buf (Elt Ideal) ℓ) (c : Dev nD)

/-- Which blocks the grid point reads and writes. -/
theorem idx : ∀ t : Fin cfg0.N, win0_0.index t = ![t.val % 2, 0] ∧ win0_1.index t = ![t.val % 2, t.val / 2] ∧ win0_2.index t = ![t.val / 2, 0, 0] := by decide +kernel

/-- The array after the call: every entry is summed over the 2 grid points of its block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  blk_simp
  rw [after0_2, outsAt0_B m c t (by omega) h1]
  frame_out
  have e1 := outsAt0_A m c ⟨t.val - 1, (Nat.lt_of_le_of_lt (Nat.sub_le _ _) t.isLt)⟩ (by show (t.val - 1) % 2 = 0; omega) (by show ¬ (t.val - 1) % 2 = 1; omega)
  dsimp only at e1
  rw [e1]
  frame_out
  simp only [read_unread_whole]
  idx_vars y
  pointwise [k0_pay3, k0_pay2, k0_pay1]
  simp only [prod, sum2_4096]
  show (_ : EReal) = _
  refine (congrArg₂ (· + ·) (Finset.sum_congr rfl fun x _ => congrArg₂ (· * ·) ?_ ?_) (Finset.sum_congr rfl fun x _ => congrArg₂ (· * ·) ?_ ?_))
  all_goals blk_ext [iblk, V, (idx _).1, (idx _).2.1, (idx _).2.2]

end Cert.DwUpIdeal.Value

namespace Cert.DwUpReferenceIdeal.Value

open Cert.DwUpReferenceIdeal Cert.DwUpReferenceIdeal.Gen Idealize.ShloMosaic Idealize.ShloMosaic.TcCoe Idealize.SL.Sem

/-- The reference's array is the same. -/
theorem ref (x : Vec Ideal S4096x1024 .bf16) (d : Vec Ideal S4096x4096 .bf16) :
    (transpose S4x1024x1024 [1, 0, 2] (shapeCast _ (transpose S1024x4096 [1, 0] (Host.dotGeneral dot_S4096x4096_S4096x1024_S4096x1024_0_0_1_1_n_n none (extf .f32 d bitsLt_bf16_f32) (extf .f32 x bitsLt_bf16_f32)) transposes_S4096x1024_S1024x4096_1_0) shapeCasts_S1024x4096_S1024x4x1024) transposes_S1024x4x1024_S4x1024x1024_1_0_2 : FVec Ideal S4x1024x1024 .f32)
      = Cert.DwUpIdeal.Value.prod x d := by
  funext i
  rw [eq_ix3 i]
  pointwise
  exact Finset.sum_congr rfl fun _ _ => mul_comm _ _

end Cert.DwUpReferenceIdeal.Value

namespace Cert.Proof.DwUp

open Idealize.ShloMosaic Idealize.SL.Sem
open Cert.DwUpIdeal (nD τ sig main_arg0 main_arg1)

theorem frame_ideal : Cert.quiescent_DwUpIdeal := fun m ρ _ => DwUpIdeal.Gen.frame m ρ

/-- The statement of the kernel's frame with the names of its ideal reading. -/
def ReadAsIdeal [hDwUp : DwUpIdeal.Facts] : Prop :=
  ∀ (m : (ℓ : Loc nD τ sig) → Buf (Elt Bits) ℓ) (g : Dev nD → PrngReg), Cert.Pre_DwUp m →
    θ_run (DwUpIdeal.defs (F := Bits)) (onTc (τ := τ) (DwUpIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_DwUp = ReadAsIdeal := by sl_kernel_rfl

theorem frame_kernel : Cert.quiescent_DwUp := same.mpr fun m ρ _ => DwUpIdeal.Gen.frame m ρ

/-- The reference has no semaphore. -/
theorem no_semaphore : ∀ _ : SemLoc DwUpReferenceIdeal.sig, False := by decide

theorem frame_reference : Cert.quiescent_DwUpReferenceIdeal := fun m ρ _ =>
  (θ_run _ _ _).mono (fun _ h => ⟨fun c => (h c).2, funext fun s => (no_semaphore s.2).elim⟩) (DwUpReferenceIdeal.Value.run m ρ)

theorem algebraic : Cert.algebraic_DwUpIdeal_DwUpReferenceIdeal := by
  intro m g m' g' _ hag
  refine ⟨fun c => DwUpIdeal.Value.prod (m ((c.tc : Thread nD τ).loc main_arg0)) (m ((c.tc : Thread nD τ).loc main_arg1)), ?_, ?_⟩
  · exact (θ_run _ _ _).mono (fun r h c => ⟨(h c).1.trans (DwUpIdeal.Value.arr m c), (h c).2⟩) (DwUpIdeal.Value.run_blocks m g)
  · refine (θ_run _ _ _).mono (fun r h c => ⟨(h c).1.trans ?_, (h c).2⟩) (DwUpReferenceIdeal.Value.run m' g')
    obtain ⟨e0, e1⟩ := hag c
    rw [e0, e1]
    exact DwUpReferenceIdeal.Value.ref _ _

end Cert.Proof.DwUp

end
-- ==== Proof.Mm.DHn.lean ====
module

public import proofs.«01_k».proof.Proof.Gen.DHn
public import proofs.«01_k».proof.Proof.Gen.DHnIdeal.Value
public import proofs.«01_k».proof.Proof.Gen.DHnReferenceIdeal.Run
public import proofs.«01_k».proof.Proof.Mm.Sums

@[expose] public section

set_option maxRecDepth 16384

noncomputable section

/-! ## The gradient of the MLP's input -/

namespace Cert.DHnIdeal.Value

open Cert.DHnIdeal Cert.DHnIdeal.Gen Idealize.ShloMosaic Idealize.ShloMosaic.TcCoe Idealize.SL.Sem

/-- The array the call is to leave, entry by entry. -/
def prod (d : Vec Ideal S4096x4096 .bf16) (w : Vec Ideal S4x1024x1024 .bf16) : Vec Ideal S4096x1024 .f32 := fun i =>
  ∑ k : Fin 4096, (d (ix2 (i 0) k) : EReal) * (w (ix3 ⟨k.val / 1024, by omega⟩ (i 1) ⟨k.val % 1024, by omega⟩) : EReal)

variable (m : (ℓ : Loc nD τ sig) → Buf (Elt Ideal) ℓ) (c : Dev nD)

/-- Which blocks the grid point reads and writes. -/
theorem idx : ∀ t : Fin cfg0.N, win0_0.index t = ![t.val / 4, t.val % 4] ∧ win0_1.index t = ![t.val % 4, 0, 0] ∧ win0_2.index t = ![t.val / 4, 0] := by decide +kernel

/-- The array after the call: every entry is summed over the 4 grid points of its block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h1 : t.val % 4 = 3 := (flush0_2 t).mp hf
  blk_simp
  rw [after0_2, outsAt0_C m c t (by omega) h1]
  frame_out
  have e1 := outsAt0_B m c ⟨t.val - 1, (Nat.lt_of_le_of_lt (Nat.sub_le _ _) t.isLt)⟩ (by show ¬ (t.val - 1) % 4 = 0; omega) (by show ¬ (t.val - 1) % 4 = 3; omega)
  dsimp only at e1
  rw [e1]
  frame_out
  have e2 := outsAt0_B m c ⟨t.val - 1 - 1, (Nat.lt_of_le_of_lt (Nat.sub_le _ _) (Nat.lt_of_le_of_lt (Nat.sub_le _ _) t.isLt))⟩ (by show ¬ (t.val - 1 - 1) % 4 = 0; omega) (by show ¬ (t.val - 1 - 1) % 4 = 3; omega)
  dsimp only at e2
  rw [e2]
  frame_out
  have e3 := outsAt0_A m c ⟨t.val - 1 - 1 - 1, (Nat.lt_of_le_of_lt (Nat.sub_le _ _) (Nat.lt_of_le_of_lt (Nat.sub_le _ _) (Nat.lt_of_le_of_lt (Nat.sub_le _ _) t.isLt)))⟩ (by show (t.val - 1 - 1 - 1) % 4 = 0; omega) (by show ¬ (t.val - 1 - 1 - 1) % 4 = 3; omega)
  dsimp only at e3
  rw [e3]
  frame_out
  simp only [read_unread_whole]
  idx_vars y
  pointwise [k0_pay2, k0_pay1]
  simp only [prod, sum4_4096]
  show (_ : EReal) = _
  refine (congrArg₂ (· + ·) (congrArg₂ (· + ·) (congrArg₂ (· + ·) (Finset.sum_congr rfl fun x _ => congrArg₂ (· * ·) ?_ ?_) (Finset.sum_congr rfl fun x _ => congrArg₂ (· * ·) ?_ ?_)) (Finset.sum_congr rfl fun x _ => congrArg₂ (· * ·) ?_ ?_)) (Finset.sum_congr rfl fun x _ => congrArg₂ (· * ·) ?_ ?_))
  all_goals blk_ext [iblk, V, (idx _).1, (idx _).2.1, (idx _).2.2]

end Cert.DHnIdeal.Value

namespace Cert.DHnReferenceIdeal.Value

open Cert.DHnReferenceIdeal Cert.DHnReferenceIdeal.Gen Idealize.ShloMosaic Idealize.ShloMosaic.TcCoe Idealize.SL.Sem

/-- The reference's array is the same. -/
theorem ref (d : Vec Ideal S4096x4096 .bf16) (w : Vec Ideal S4x1024x1024 .bf16) :
    (Host.dotGeneral dot_S4096x4096_S1024x4096_S4096x1024_1_1_0_0_n_n none (extf .f32 d bitsLt_bf16_f32) (shapeCast _ (transpose S1024x4x1024 [1, 0, 2] (extf .f32 w bitsLt_bf16_f32) transposes_S4x1024x1024_S1024x4x1024_1_0_2) shapeCasts_S1024x4x1024_S1024x4096) : FVec Ideal S4096x1024 .f32)
      = Cert.DHnIdeal.Value.prod d w := by
  funext i
  rw [eq_ix2 i]
  pointwise
  rfl

end Cert.DHnReferenceIdeal.Value

namespace Cert.Proof.DHn

open Idealize.ShloMosaic Idealize.SL.Sem
open Cert.DHnIdeal (nD τ sig main_arg0 main_arg1)

theorem frame_ideal : Cert.quiescent_DHnIdeal := fun m ρ _ => DHnIdeal.Gen.frame m ρ

/-- The statement of the kernel's frame with the names of its ideal reading. -/
def ReadAsIdeal [hDHn : DHnIdeal.Facts] : Prop :=
  ∀ (m : (ℓ : Loc nD τ sig) → Buf (Elt Bits) ℓ) (g : Dev nD → PrngReg), Cert.Pre_DHn m →
    θ_run (DHnIdeal.defs (F := Bits)) (onTc (τ := τ) (DHnIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_DHn = ReadAsIdeal := by sl_kernel_rfl

theorem frame_kernel : Cert.quiescent_DHn := same.mpr fun m ρ _ => DHnIdeal.Gen.frame m ρ

/-- The reference has no semaphore. -/
theorem no_semaphore : ∀ _ : SemLoc DHnReferenceIdeal.sig, False := by decide

theorem frame_reference : Cert.quiescent_DHnReferenceIdeal := fun m ρ _ =>
  (θ_run _ _ _).mono (fun _ h => ⟨fun c => (h c).2, funext fun s => (no_semaphore s.2).elim⟩) (DHnReferenceIdeal.Value.run m ρ)

theorem algebraic : Cert.algebraic_DHnIdeal_DHnReferenceIdeal := by
  intro m g m' g' _ hag
  refine ⟨fun c => DHnIdeal.Value.prod (m ((c.tc : Thread nD τ).loc main_arg0)) (m ((c.tc : Thread nD τ).loc main_arg1)), ?_, ?_⟩
  · exact (θ_run _ _ _).mono (fun r h c => ⟨(h c).1.trans (DHnIdeal.Value.arr m c), (h c).2⟩) (DHnIdeal.Value.run_blocks m g)
  · refine (θ_run _ _ _).mono (fun r h c => ⟨(h c).1.trans ?_, (h c).2⟩) (DHnReferenceIdeal.Value.run m' g')
    obtain ⟨e0, e1⟩ := hag c
    rw [e0, e1]
    exact DHnReferenceIdeal.Value.ref _ _

end Cert.Proof.DHn

end
-- ==== Proof.Mm.DMerged.lean ====
module

public import proofs.«01_k».proof.Proof.Gen.DMerged
public import proofs.«01_k».proof.Proof.Gen.DMergedIdeal.Value
public import proofs.«01_k».proof.Proof.Gen.DMergedReferenceIdeal.Run
public import proofs.«01_k».proof.Proof.Mm.Sums

@[expose] public section

set_option maxRecDepth 16384

noncomputable section

/-! ## The gradient of a product's left side -/

namespace Cert.DMergedIdeal.Value

open Cert.DMergedIdeal Cert.DMergedIdeal.Gen Idealize.ShloMosaic Idealize.ShloMosaic.TcCoe Idealize.SL.Sem

/-- The array the call is to leave, entry by entry. -/
def prod (d : Vec Ideal S4096x1024 .bf16) (w : Vec Ideal S1024x1024 .bf16) : Vec Ideal S4096x1024 .f32 := fun i =>
  ∑ k : Fin 1024, (d (ix2 (i 0) k) : EReal) * (w (ix2 (i 1) k) : EReal)

variable (m : (ℓ : Loc nD τ sig) → Buf (Elt Ideal) ℓ) (c : Dev nD)

/-- Which blocks the grid point reads and writes. -/
theorem idx : ∀ t : Fin cfg0.N, win0_0.index t = ![t.val, 0] ∧ win0_1.index t = ![0, 0] ∧ win0_2.index t = ![t.val, 0] := by decide +kernel

/-- The array after the call, block by block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay1]
  simp only [prod]
  show (_ : EReal) = _
  refine (Finset.sum_congr rfl fun x _ => congrArg₂ (· * ·) ?_ ?_)
  all_goals blk_ext [iblk, V, (idx _).1, (idx _).2.1, (idx _).2.2]

end Cert.DMergedIdeal.Value

namespace Cert.DMergedReferenceIdeal.Value

open Cert.DMergedReferenceIdeal Cert.DMergedReferenceIdeal.Gen Idealize.ShloMosaic Idealize.ShloMosaic.TcCoe Idealize.SL.Sem

/-- The reference's array is the same. -/
theorem ref (d : Vec Ideal S4096x1024 .bf16) (w : Vec Ideal S1024x1024 .bf16) :
    (Host.dotGeneral dot_S4096x1024_S1024x1024_S4096x1024_1_1_0_0_n_n none (extf .f32 d bitsLt_bf16_f32) (extf .f32 w bitsLt_bf16_f32) : FVec Ideal S4096x1024 .f32)
      = Cert.DMergedIdeal.Value.prod d w := by
  funext i
  rw [eq_ix2 i]
  pointwise
  rfl

end Cert.DMergedReferenceIdeal.Value

namespace Cert.Proof.DMerged

open Idealize.ShloMosaic Idealize.SL.Sem
open Cert.DMergedIdeal (nD τ sig main_arg0 main_arg1)

theorem frame_ideal : Cert.quiescent_DMergedIdeal := fun m ρ _ => DMergedIdeal.Gen.frame m ρ

/-- The statement of the kernel's frame with the names of its ideal reading. -/
def ReadAsIdeal [hDMerged : DMergedIdeal.Facts] : Prop :=
  ∀ (m : (ℓ : Loc nD τ sig) → Buf (Elt Bits) ℓ) (g : Dev nD → PrngReg), Cert.Pre_DMerged m →
    θ_run (DMergedIdeal.defs (F := Bits)) (onTc (τ := τ) (DMergedIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_DMerged = ReadAsIdeal := by sl_kernel_rfl

theorem frame_kernel : Cert.quiescent_DMerged := same.mpr fun m ρ _ => DMergedIdeal.Gen.frame m ρ

/-- The reference has no semaphore. -/
theorem no_semaphore : ∀ _ : SemLoc DMergedReferenceIdeal.sig, False := by decide

theorem frame_reference : Cert.quiescent_DMergedReferenceIdeal := fun m ρ _ =>
  (θ_run _ _ _).mono (fun _ h => ⟨fun c => (h c).2, funext fun s => (no_semaphore s.2).elim⟩) (DMergedReferenceIdeal.Value.run m ρ)

theorem algebraic : Cert.algebraic_DMergedIdeal_DMergedReferenceIdeal := by
  intro m g m' g' _ hag
  refine ⟨fun c => DMergedIdeal.Value.prod (m ((c.tc : Thread nD τ).loc main_arg0)) (m ((c.tc : Thread nD τ).loc main_arg1)), ?_, ?_⟩
  · exact (θ_run _ _ _).mono (fun r h c => ⟨(h c).1.trans (DMergedIdeal.Value.arr m c), (h c).2⟩) (DMergedIdeal.Value.run_blocks m g)
  · refine (θ_run _ _ _).mono (fun r h c => ⟨(h c).1.trans ?_, (h c).2⟩) (DMergedReferenceIdeal.Value.run m' g')
    obtain ⟨e0, e1⟩ := hag c
    rw [e0, e1]
    exact DMergedReferenceIdeal.Value.ref _ _

end Cert.Proof.DMerged

end
-- ==== Proof.Mm.DYaIn.lean ====
module

public import proofs.«01_k».proof.Proof.Gen.DYaIn
public import proofs.«01_k».proof.Proof.Gen.DYaInIdeal
public import proofs.«01_k».proof.Proof.Gen.DYaInReferenceIdeal
public import proofs.«01_k».proof.Proof.Mm.DMerged

@[expose] public section

set_option maxRecDepth 16384

noncomputable section

/-! ## A product of the same shapes as `DMerged`: the programs are the same but for their names, and so are the statements -/

namespace Cert.Proof.DYaIn

theorem same_kernel : Cert.quiescent_DYaIn = Cert.quiescent_DMerged := by sl_kernel_rfl

theorem same_ideal : Cert.quiescent_DYaInIdeal = Cert.quiescent_DMergedIdeal := by sl_kernel_rfl

theorem same_reference : Cert.quiescent_DYaInReferenceIdeal = Cert.quiescent_DMergedReferenceIdeal := by sl_kernel_rfl

theorem same_algebraic : Cert.algebraic_DYaInIdeal_DYaInReferenceIdeal = Cert.algebraic_DMergedIdeal_DMergedReferenceIdeal := by sl_kernel_rfl

theorem frame_kernel : Cert.quiescent_DYaIn := same_kernel.mpr DMerged.frame_kernel

theorem frame_ideal : Cert.quiescent_DYaInIdeal := same_ideal.mpr DMerged.frame_ideal

theorem frame_reference : Cert.quiescent_DYaInReferenceIdeal := same_reference.mpr DMerged.frame_reference

theorem algebraic : Cert.algebraic_DYaInIdeal_DYaInReferenceIdeal := same_algebraic.mpr DMerged.algebraic

end Cert.Proof.DYaIn

end
-- ==== Proof.Mm.DOb.lean ====
module

public import proofs.«01_k».proof.Proof.Gen.DOb
public import proofs.«01_k».proof.Proof.Gen.DObIdeal
public import proofs.«01_k».proof.Proof.Gen.DObReferenceIdeal
public import proofs.«01_k».proof.Proof.Mm.DMerged

@[expose] public section

set_option maxRecDepth 16384

noncomputable section

/-! ## A product of the same shapes as `DMerged`: the programs are the same but for their names, and so are the statements -/

namespace Cert.Proof.DOb

theorem same_kernel : Cert.quiescent_DOb = Cert.quiescent_DMerged := by sl_kernel_rfl

theorem same_ideal : Cert.quiescent_DObIdeal = Cert.quiescent_DMergedIdeal := by sl_kernel_rfl

theorem same_reference : Cert.quiescent_DObReferenceIdeal = Cert.quiescent_DMergedReferenceIdeal := by sl_kernel_rfl

theorem same_algebraic : Cert.algebraic_DObIdeal_DObReferenceIdeal = Cert.algebraic_DMergedIdeal_DMergedReferenceIdeal := by sl_kernel_rfl

theorem frame_kernel : Cert.quiescent_DOb := same_kernel.mpr DMerged.frame_kernel

theorem frame_ideal : Cert.quiescent_DObIdeal := same_ideal.mpr DMerged.frame_ideal

theorem frame_reference : Cert.quiescent_DObReferenceIdeal := same_reference.mpr DMerged.frame_reference

theorem algebraic : Cert.algebraic_DObIdeal_DObReferenceIdeal := same_algebraic.mpr DMerged.algebraic

end Cert.Proof.DOb

end
-- ==== Proof.Mm.DwOut.lean ====
module

public import proofs.«01_k».proof.Proof.Gen.DwOut
public import proofs.«01_k».proof.Proof.Gen.DwOutIdeal.Value
public import proofs.«01_k».proof.Proof.Gen.DwOutReferenceIdeal.Run
public import proofs.«01_k».proof.Proof.Mm.Sums

@[expose] public section

set_option maxRecDepth 16384

noncomputable section

/-! ## The gradient of a product's weight -/

namespace Cert.DwOutIdeal.Value

open Cert.DwOutIdeal Cert.DwOutIdeal.Gen Idealize.ShloMosaic Idealize.ShloMosaic.TcCoe Idealize.SL.Sem

/-- The array the call is to leave, entry by entry. -/
def prod (x : Vec Ideal S4096x1024 .bf16) (d : Vec Ideal S4096x1024 .bf16) : Vec Ideal S1024x1024 .f32 := fun i =>
  ∑ k : Fin 4096, (x (ix2 k (i 0)) : EReal) * (d (ix2 k (i 1)) : EReal)

variable (m : (ℓ : Loc nD τ sig) → Buf (Elt Ideal) ℓ) (c : Dev nD)

/-- Which blocks the grid point reads and writes. -/
theorem idx : ∀ t : Fin cfg0.N, win0_0.index t = ![t.val % 2, 0] ∧ win0_1.index t = ![t.val % 2, 0] ∧ win0_2.index t = ![0, 0] := by decide +kernel

/-- The array after the call: every entry is summed over the 2 grid points of its block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  blk_simp
  rw [after0_2, outsAt0_B m c t (by omega) h1]
  frame_out
  have e1 := outsAt0_A m c ⟨t.val - 1, (Nat.lt_of_le_of_lt (Nat.sub_le _ _) t.isLt)⟩ (by show (t.val - 1) % 2 = 0; omega) (by show ¬ (t.val - 1) % 2 = 1; omega)
  dsimp only at e1
  rw [e1]
  frame_out
  simp only [read_unread_whole]
  idx_vars y
  pointwise [k0_pay2, k0_pay1]
  simp only [prod, sum2_4096]
  show (_ : EReal) = _
  refine (congrArg₂ (· + ·) (Finset.sum_congr rfl fun x _ => congrArg₂ (· * ·) ?_ ?_) (Finset.sum_congr rfl fun x _ => congrArg₂ (· * ·) ?_ ?_))
  all_goals blk_ext [iblk, V, (idx _).1, (idx _).2.1, (idx _).2.2]

end Cert.DwOutIdeal.Value

namespace Cert.DwOutReferenceIdeal.Value

open Cert.DwOutReferenceIdeal Cert.DwOutReferenceIdeal.Gen Idealize.ShloMosaic Idealize.ShloMosaic.TcCoe Idealize.SL.Sem

/-- The reference's array is the same. -/
theorem ref (x : Vec Ideal S4096x1024 .bf16) (d : Vec Ideal S4096x1024 .bf16) :
    (transpose S1024x1024 [1, 0] (Host.dotGeneral dot_S4096x1024_S4096x1024_S1024x1024_0_0_1_1_n_n none (extf .f32 d bitsLt_bf16_f32) (extf .f32 x bitsLt_bf16_f32)) transposes_S1024x1024_S1024x1024_1_0 : FVec Ideal S1024x1024 .f32)
      = Cert.DwOutIdeal.Value.prod x d := by
  funext i
  rw [eq_ix2 i]
  pointwise
  exact Finset.sum_congr rfl fun _ _ => mul_comm _ _

end Cert.DwOutReferenceIdeal.Value

namespace Cert.Proof.DwOut

open Idealize.ShloMosaic Idealize.SL.Sem
open Cert.DwOutIdeal (nD τ sig main_arg0 main_arg1)

theorem frame_ideal : Cert.quiescent_DwOutIdeal := fun m ρ _ => DwOutIdeal.Gen.frame m ρ

/-- The statement of the kernel's frame with the names of its ideal reading. -/
def ReadAsIdeal [hDwOut : DwOutIdeal.Facts] : Prop :=
  ∀ (m : (ℓ : Loc nD τ sig) → Buf (Elt Bits) ℓ) (g : Dev nD → PrngReg), Cert.Pre_DwOut m →
    θ_run (DwOutIdeal.defs (F := Bits)) (onTc (τ := τ) (DwOutIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_DwOut = ReadAsIdeal := by sl_kernel_rfl

theorem frame_kernel : Cert.quiescent_DwOut := same.mpr fun m ρ _ => DwOutIdeal.Gen.frame m ρ

/-- The reference has no semaphore. -/
theorem no_semaphore : ∀ _ : SemLoc DwOutReferenceIdeal.sig, False := by decide

theorem frame_reference : Cert.quiescent_DwOutReferenceIdeal := fun m ρ _ =>
  (θ_run _ _ _).mono (fun _ h => ⟨fun c => (h c).2, funext fun s => (no_semaphore s.2).elim⟩) (DwOutReferenceIdeal.Value.run m ρ)

theorem algebraic : Cert.algebraic_DwOutIdeal_DwOutReferenceIdeal := by
  intro m g m' g' _ hag
  refine ⟨fun c => DwOutIdeal.Value.prod (m ((c.tc : Thread nD τ).loc main_arg0)) (m ((c.tc : Thread nD τ).loc main_arg1)), ?_, ?_⟩
  · exact (θ_run _ _ _).mono (fun r h c => ⟨(h c).1.trans (DwOutIdeal.Value.arr m c), (h c).2⟩) (DwOutIdeal.Value.run_blocks m g)
  · refine (θ_run _ _ _).mono (fun r h c => ⟨(h c).1.trans ?_, (h c).2⟩) (DwOutReferenceIdeal.Value.run m' g')
    obtain ⟨e0, e1⟩ := hag c
    rw [e0, e1]
    exact DwOutReferenceIdeal.Value.ref _ _

end Cert.Proof.DwOut

end
-- ==== Proof.Mm.DpA.lean ====
module

public import proofs.«01_k».proof.Proof.Gen.DpA
public import proofs.«01_k».proof.Proof.Gen.DpAIdeal
public import proofs.«01_k».proof.Proof.Gen.DpAReferenceIdeal
public import proofs.«01_k».proof.Proof.Mm.DwOut

@[expose] public section

set_option maxRecDepth 16384

noncomputable section

/-! ## A product of the same shapes as `DwOut`: the programs are the same but for their names, and so are the statements -/

namespace Cert.Proof.DpA

theorem same_kernel : Cert.quiescent_DpA = Cert.quiescent_DwOut := by sl_kernel_rfl

theorem same_ideal : Cert.quiescent_DpAIdeal = Cert.quiescent_DwOutIdeal := by sl_kernel_rfl

theorem same_reference : Cert.quiescent_DpAReferenceIdeal = Cert.quiescent_DwOutReferenceIdeal := by sl_kernel_rfl

theorem same_algebraic : Cert.algebraic_DpAIdeal_DpAReferenceIdeal = Cert.algebraic_DwOutIdeal_DwOutReferenceIdeal := by sl_kernel_rfl

theorem frame_kernel : Cert.quiescent_DpA := same_kernel.mpr DwOut.frame_kernel

theorem frame_ideal : Cert.quiescent_DpAIdeal := same_ideal.mpr DwOut.frame_ideal

theorem frame_reference : Cert.quiescent_DpAReferenceIdeal := same_reference.mpr DwOut.frame_reference

theorem algebraic : Cert.algebraic_DpAIdeal_DpAReferenceIdeal := same_algebraic.mpr DwOut.algebraic

end Cert.Proof.DpA

end
-- ==== Proof.Mm.DpB.lean ====
module

public import proofs.«01_k».proof.Proof.Gen.DpB
public import proofs.«01_k».proof.Proof.Gen.DpBIdeal
public import proofs.«01_k».proof.Proof.Gen.DpBReferenceIdeal
public import proofs.«01_k».proof.Proof.Mm.DwOut

@[expose] public section

set_option maxRecDepth 16384

noncomputable section

/-! ## A product of the same shapes as `DwOut`: the programs are the same but for their names, and so are the statements -/

namespace Cert.Proof.DpB

theorem same_kernel : Cert.quiescent_DpB = Cert.quiescent_DwOut := by sl_kernel_rfl

theorem same_ideal : Cert.quiescent_DpBIdeal = Cert.quiescent_DwOutIdeal := by sl_kernel_rfl

theorem same_reference : Cert.quiescent_DpBReferenceIdeal = Cert.quiescent_DwOutReferenceIdeal := by sl_kernel_rfl

theorem same_algebraic : Cert.algebraic_DpBIdeal_DpBReferenceIdeal = Cert.algebraic_DwOutIdeal_DwOutReferenceIdeal := by sl_kernel_rfl

theorem frame_kernel : Cert.quiescent_DpB := same_kernel.mpr DwOut.frame_kernel

theorem frame_ideal : Cert.quiescent_DpBIdeal := same_ideal.mpr DwOut.frame_ideal

theorem frame_reference : Cert.quiescent_DpBReferenceIdeal := same_reference.mpr DwOut.frame_reference

theorem algebraic : Cert.algebraic_DpBIdeal_DpBReferenceIdeal := same_algebraic.mpr DwOut.algebraic

end Cert.Proof.DpB

end
-- ==== Proof.Mm.DwSmall.lean ====
module

public import proofs.«01_k».proof.Proof.Gen.DwSmall
public import proofs.«01_k».proof.Proof.Gen.DwSmallIdeal.Value
public import proofs.«01_k».proof.Proof.Gen.DwSmallReferenceIdeal.Run
public import proofs.«01_k».proof.Proof.Mm.Sums

@[expose] public section

set_option maxRecDepth 16384

noncomputable section

/-! ## The gradient of the small projection's weight -/

namespace Cert.DwSmallIdeal.Value

open Cert.DwSmallIdeal Cert.DwSmallIdeal.Gen Idealize.ShloMosaic Idealize.ShloMosaic.TcCoe Idealize.SL.Sem

/-- The array the call is to leave, entry by entry. -/
def prod (u : Vec Ideal S4096x1024 .bf16) (d : Vec Ideal S4096x128 .bf16) : Vec Ideal S128x1024 .f32 := fun i =>
  ∑ k : Fin 4096, (d (ix2 k (i 0)) : EReal) * (u (ix2 k (i 1)) : EReal)

variable (m : (ℓ : Loc nD τ sig) → Buf (Elt Ideal) ℓ) (c : Dev nD)

/-- Which blocks the grid point reads and writes. -/
theorem idx : ∀ t : Fin cfg0.N, win0_0.index t = ![t.val % 2, 0] ∧ win0_1.index t = ![t.val % 2, 0] ∧ win0_2.index t = ![0, 0] := by decide +kernel

/-- The array after the call: every entry is summed over the 2 grid points of its block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  have h1 : t.val % 2 = 1 := (flush0_2 t).mp hf
  blk_simp
  rw [after0_2, outsAt0_B m c t (by omega) h1]
  frame_out
  have e1 := outsAt0_A m c ⟨t.val - 1, (Nat.lt_of_le_of_lt (Nat.sub_le _ _) t.isLt)⟩ (by show (t.val - 1) % 2 = 0; omega) (by show ¬ (t.val - 1) % 2 = 1; omega)
  dsimp only at e1
  rw [e1]
  frame_out
  simp only [read_unread_whole]
  idx_vars y
  pointwise [k0_pay2, k0_pay1]
  simp only [prod, sum2_4096]
  show (_ : EReal) = _
  refine (congrArg₂ (· + ·) (Finset.sum_congr rfl fun x _ => congrArg₂ (· * ·) ?_ ?_) (Finset.sum_congr rfl fun x _ => congrArg₂ (· * ·) ?_ ?_))
  all_goals blk_ext [iblk, V, (idx _).1, (idx _).2.1, (idx _).2.2]

end Cert.DwSmallIdeal.Value

namespace Cert.DwSmallReferenceIdeal.Value

open Cert.DwSmallReferenceIdeal Cert.DwSmallReferenceIdeal.Gen Idealize.ShloMosaic Idealize.ShloMosaic.TcCoe Idealize.SL.Sem

/-- The reference's array is the same. -/
theorem ref (u : Vec Ideal S4096x1024 .bf16) (d : Vec Ideal S4096x128 .bf16) :
    (transpose S128x1024 [1, 0] (transpose S1024x128 [1, 0] (Host.dotGeneral dot_S4096x128_S4096x1024_S128x1024_0_0_1_1_n_n none (extf .f32 d bitsLt_bf16_f32) (extf .f32 u bitsLt_bf16_f32)) transposes_S128x1024_S1024x128_1_0) transposes_S1024x128_S128x1024_1_0 : FVec Ideal S128x1024 .f32)
      = Cert.DwSmallIdeal.Value.prod u d := by
  funext i
  rw [eq_ix2 i]
  pointwise
  rfl

end Cert.DwSmallReferenceIdeal.Value

namespace Cert.Proof.DwSmall

open Idealize.ShloMosaic Idealize.SL.Sem
open Cert.DwSmallIdeal (nD τ sig main_arg0 main_arg1)

theorem frame_ideal : Cert.quiescent_DwSmallIdeal := fun m ρ _ => DwSmallIdeal.Gen.frame m ρ

/-- The statement of the kernel's frame with the names of its ideal reading. -/
def ReadAsIdeal [hDwSmall : DwSmallIdeal.Facts] : Prop :=
  ∀ (m : (ℓ : Loc nD τ sig) → Buf (Elt Bits) ℓ) (g : Dev nD → PrngReg), Cert.Pre_DwSmall m →
    θ_run (DwSmallIdeal.defs (F := Bits)) (onTc (τ := τ) (DwSmallIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_DwSmall = ReadAsIdeal := by sl_kernel_rfl

theorem frame_kernel : Cert.quiescent_DwSmall := same.mpr fun m ρ _ => DwSmallIdeal.Gen.frame m ρ

/-- The reference has no semaphore. -/
theorem no_semaphore : ∀ _ : SemLoc DwSmallReferenceIdeal.sig, False := by decide

theorem frame_reference : Cert.quiescent_DwSmallReferenceIdeal := fun m ρ _ =>
  (θ_run _ _ _).mono (fun _ h => ⟨fun c => (h c).2, funext fun s => (no_semaphore s.2).elim⟩) (DwSmallReferenceIdeal.Value.run m ρ)

theorem algebraic : Cert.algebraic_DwSmallIdeal_DwSmallReferenceIdeal := by
  intro m g m' g' _ hag
  refine ⟨fun c => DwSmallIdeal.Value.prod (m ((c.tc : Thread nD τ).loc main_arg0)) (m ((c.tc : Thread nD τ).loc main_arg1)), ?_, ?_⟩
  · exact (θ_run _ _ _).mono (fun r h c => ⟨(h c).1.trans (DwSmallIdeal.Value.arr m c), (h c).2⟩) (DwSmallIdeal.Value.run_blocks m g)
  · refine (θ_run _ _ _).mono (fun r h c => ⟨(h c).1.trans ?_, (h c).2⟩) (DwSmallReferenceIdeal.Value.run m' g')
    obtain ⟨e0, e1⟩ := hag c
    rw [e0, e1]
    exact DwSmallReferenceIdeal.Value.ref _ _

end Cert.Proof.DwSmall

end
-- ==== Proof.Mm.DUSmall.lean ====
module

public import proofs.«01_k».proof.Proof.Gen.DUSmall
public import proofs.«01_k».proof.Proof.Gen.DUSmallIdeal.Value
public import proofs.«01_k».proof.Proof.Gen.DUSmallReferenceIdeal.Run
public import proofs.«01_k».proof.Proof.Mm.Sums

@[expose] public section

set_option maxRecDepth 16384

noncomputable section

/-! ## The gradient of the input through the small projection -/

namespace Cert.DUSmallIdeal.Value

open Cert.DUSmallIdeal Cert.DUSmallIdeal.Gen Idealize.ShloMosaic Idealize.ShloMosaic.TcCoe Idealize.SL.Sem

/-- The array the call is to leave, entry by entry. -/
def prod (d : Vec Ideal S4096x128 .bf16) (w : Vec Ideal S128x1024 .bf16) : Vec Ideal S4096x1024 .f32 := fun i =>
  ∑ k : Fin 128, (d (ix2 (i 0) k) : EReal) * (w (ix2 k (i 1)) : EReal)

variable (m : (ℓ : Loc nD τ sig) → Buf (Elt Ideal) ℓ) (c : Dev nD)

/-- Which blocks the grid point reads and writes. -/
theorem idx : ∀ t : Fin cfg0.N, win0_0.index t = ![t.val, 0] ∧ win0_1.index t = ![0, 0] ∧ win0_2.index t = ![t.val, 0] := by decide +kernel

/-- The array after the call, block by block. -/
theorem arr : (dats m 0 c).arrAt 2 cfg0.N = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay1]
  simp only [prod]
  show (_ : EReal) = _
  refine (Finset.sum_congr rfl fun x _ => congrArg₂ (· * ·) ?_ ?_)
  all_goals blk_ext [iblk, V, (idx _).1, (idx _).2.1, (idx _).2.2]

end Cert.DUSmallIdeal.Value

namespace Cert.DUSmallReferenceIdeal.Value

open Cert.DUSmallReferenceIdeal Cert.DUSmallReferenceIdeal.Gen Idealize.ShloMosaic Idealize.ShloMosaic.TcCoe Idealize.SL.Sem

/-- The reference's array is the same. -/
theorem ref (d : Vec Ideal S4096x128 .bf16) (w : Vec Ideal S128x1024 .bf16) :
    (Host.dotGeneral dot_S4096x128_S1024x128_S4096x1024_1_1_0_0_n_n none (extf .f32 d bitsLt_bf16_f32) (transpose S1024x128 [1, 0] (extf .f32 w bitsLt_bf16_f32) transposes_S128x1024_S1024x128_1_0) : FVec Ideal S4096x1024 .f32)
      = Cert.DUSmallIdeal.Value.prod d w := by
  funext i
  rw [eq_ix2 i]
  pointwise
  rfl

end Cert.DUSmallReferenceIdeal.Value

namespace Cert.Proof.DUSmall

open Idealize.ShloMosaic Idealize.SL.Sem
open Cert.DUSmallIdeal (nD τ sig main_arg0 main_arg1)

theorem frame_ideal : Cert.quiescent_DUSmallIdeal := fun m ρ _ => DUSmallIdeal.Gen.frame m ρ

/-- The statement of the kernel's frame with the names of its ideal reading. -/
def ReadAsIdeal [hDUSmall : DUSmallIdeal.Facts] : Prop :=
  ∀ (m : (ℓ : Loc nD τ sig) → Buf (Elt Bits) ℓ) (g : Dev nD → PrngReg), Cert.Pre_DUSmall m →
    θ_run (DUSmallIdeal.defs (F := Bits)) (onTc (τ := τ) (DUSmallIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_DUSmall = ReadAsIdeal := by sl_kernel_rfl

theorem frame_kernel : Cert.quiescent_DUSmall := same.mpr fun m ρ _ => DUSmallIdeal.Gen.frame m ρ

/-- The reference has no semaphore. -/
theorem no_semaphore : ∀ _ : SemLoc DUSmallReferenceIdeal.sig, False := by decide

theorem frame_reference : Cert.quiescent_DUSmallReferenceIdeal := fun m ρ _ =>
  (θ_run _ _ _).mono (fun _ h => ⟨fun c => (h c).2, funext fun s => (no_semaphore s.2).elim⟩) (DUSmallReferenceIdeal.Value.run m ρ)

theorem algebraic : Cert.algebraic_DUSmallIdeal_DUSmallReferenceIdeal := by
  intro m g m' g' _ hag
  refine ⟨fun c => DUSmallIdeal.Value.prod (m ((c.tc : Thread nD τ).loc main_arg0)) (m ((c.tc : Thread nD τ).loc main_arg1)), ?_, ?_⟩
  · exact (θ_run _ _ _).mono (fun r h c => ⟨(h c).1.trans (DUSmallIdeal.Value.arr m c), (h c).2⟩) (DUSmallIdeal.Value.run_blocks m g)
  · refine (θ_run _ _ _).mono (fun r h c => ⟨(h c).1.trans ?_, (h c).2⟩) (DUSmallReferenceIdeal.Value.run m' g')
    obtain ⟨e0, e1⟩ := hag c
    rw [e0, e1]
    exact DUSmallReferenceIdeal.Value.ref _ _

end Cert.Proof.DUSmall

end
-- ==== Proof.Mm.DUFirst.lean ====
module

public import proofs.«01_k».proof.Proof.Gen.DUFirst
public import proofs.«01_k».proof.Proof.Gen.DUFirstIdeal.Value
public import proofs.«01_k».proof.Proof.Gen.DUFirstReferenceIdeal.Run
public import proofs.«01_k».proof.Proof.Mm.Sums

@[expose] public section

set_option maxRecDepth 16384

noncomputable section

/-! ## The gradient of the input through half of the combined projection -/

namespace Cert.DUFirstIdeal.Value

open Cert.DUFirstIdeal Cert.DUFirstIdeal.Gen Idealize.ShloMosaic Idealize.ShloMosaic.TcCoe Idealize.SL.Sem

/-- The array the call is to leave, entry by entry. -/
def prod (d : Vec Ideal S4096x9216 .bf16) (w : Vec Ideal S9216x1024 .bf16) (r : Vec Ideal S4096x1024 .f32) : Vec Ideal S4096x1024 .f32 := fun i =>
  (r i : EReal) + ∑ k : Fin 4608, (d (ix2 (i 0) ⟨k.val, by omega⟩) : EReal) * (w (ix2 ⟨k.val, by omega⟩ (i 1)) : EReal)

variable (m : (ℓ : Loc nD τ sig) → Buf (Elt Ideal) ℓ) (c : Dev nD)

/-- Which blocks the grid point reads and writes. -/
theorem idx : ∀ t : Fin cfg0.N, win0_0.index t = ![t.val / 3, t.val % 3] ∧ win0_1.index t = ![t.val % 3, 0] ∧ win0_2.index t = ![t.val / 3, 0] ∧ win0_3.index t = ![t.val / 3, 0] := by decide +kernel

/-- The array after the call: every entry is summed over the 3 grid points of its block. -/
theorem arr : (dats m 0 c).arrAt 3 cfg0.N = prod (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have h1 : t.val % 3 = 2 := (flush0_3 t).mp hf
  blk_simp
  rw [after0_3, outsAt0_C m c t (by omega) h1]
  frame_out
  have e1 := outsAt0_B m c ⟨t.val - 1, (Nat.lt_of_le_of_lt (Nat.sub_le _ _) t.isLt)⟩ (by show ¬ (t.val - 1) % 3 = 0; omega) (by show ¬ (t.val - 1) % 3 = 2; omega)
  dsimp only at e1
  rw [e1]
  frame_out
  have e2 := outsAt0_A m c ⟨t.val - 1 - 1, (Nat.lt_of_le_of_lt (Nat.sub_le _ _) (Nat.lt_of_le_of_lt (Nat.sub_le _ _) t.isLt))⟩ (by show (t.val - 1 - 1) % 3 = 0; omega) (by show ¬ (t.val - 1 - 1) % 3 = 2; omega)
  dsimp only at e2
  rw [e2]
  frame_out
  simp only [read_unread_whole]
  idx_vars y
  pointwise [k0_pay3, k0_pay2, k0_pay1]
  simp only [prod, sum3_4608]
  show (_ : EReal) = _
  refine ((add_comm _ _).trans (congrArg₂ (· + ·) ?_ (congrArg₂ (· + ·) (congrArg₂ (· + ·) (Finset.sum_congr rfl fun x _ => congrArg₂ (· * ·) ?_ ?_) (Finset.sum_congr rfl fun x _ => congrArg₂ (· * ·) ?_ ?_)) (Finset.sum_congr rfl fun x _ => congrArg₂ (· * ·) ?_ ?_))))
  all_goals blk_ext [iblk, V, (idx _).1, (idx _).2.1, (idx _).2.2.1, (idx _).2.2.2]

end Cert.DUFirstIdeal.Value

namespace Cert.DUFirstReferenceIdeal.Value

open Cert.DUFirstReferenceIdeal Cert.DUFirstReferenceIdeal.Gen Idealize.ShloMosaic Idealize.ShloMosaic.TcCoe Idealize.SL.Sem

/-- The reference's array is the same. -/
theorem ref (d : Vec Ideal S4096x9216 .bf16) (w : Vec Ideal S9216x1024 .bf16) (r : Vec Ideal S4096x1024 .f32) :
    (addf r (Host.dotGeneral dot_S4096x4608_S1024x4608_S4096x1024_1_1_0_0_n_n none (extf .f32 (extractStridedSlice S4096x4608 ![0, 0] d slices_S4096x9216_S4096x4608_0_0) bitsLt_bf16_f32) (transpose S1024x4608 [1, 0] (extf .f32 (extractStridedSlice S4608x1024 ![0, 0] w slices_S9216x1024_S4608x1024_0_0) bitsLt_bf16_f32) transposes_S4608x1024_S1024x4608_1_0)) : FVec Ideal S4096x1024 .f32)
      = Cert.DUFirstIdeal.Value.prod d w r := by
  funext i
  rw [eq_ix2 i]
  pointwise
  rfl

end Cert.DUFirstReferenceIdeal.Value

namespace Cert.Proof.DUFirst

open Idealize.ShloMosaic Idealize.SL.Sem
open Cert.DUFirstIdeal (nD τ sig main_arg0 main_arg1 main_arg2)

theorem frame_ideal : Cert.quiescent_DUFirstIdeal := fun m ρ _ => DUFirstIdeal.Gen.frame m ρ

/-- The statement of the kernel's frame with the names of its ideal reading. -/
def ReadAsIdeal [hDUFirst : DUFirstIdeal.Facts] : Prop :=
  ∀ (m : (ℓ : Loc nD τ sig) → Buf (Elt Bits) ℓ) (g : Dev nD → PrngReg), Cert.Pre_DUFirst m →
    θ_run (DUFirstIdeal.defs (F := Bits)) (onTc (τ := τ) (DUFirstIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem same : Cert.quiescent_DUFirst = ReadAsIdeal := by sl_kernel_rfl

theorem frame_kernel : Cert.quiescent_DUFirst := same.mpr fun m ρ _ => DUFirstIdeal.Gen.frame m ρ

/-- The reference has no semaphore. -/
theorem no_semaphore : ∀ _ : SemLoc DUFirstReferenceIdeal.sig, False := by decide

theorem frame_reference : Cert.quiescent_DUFirstReferenceIdeal := fun m ρ _ =>
  (θ_run _ _ _).mono (fun _ h => ⟨fun c => (h c).2, funext fun s => (no_semaphore s.2).elim⟩) (DUFirstReferenceIdeal.Value.run m ρ)

theorem algebraic : Cert.algebraic_DUFirstIdeal_DUFirstReferenceIdeal := by
  intro m g m' g' _ hag
  refine ⟨fun c => DUFirstIdeal.Value.prod (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (DUFirstIdeal.Value.arr m c), (h c).2⟩) (DUFirstIdeal.Value.run_blocks m g)
  · refine (θ_run _ _ _).mono (fun r h c => ⟨(h c).1.trans ?_, (h c).2⟩) (DUFirstReferenceIdeal.Value.run m' g')
    obtain ⟨e0, e1, e2⟩ := hag c
    rw [e0, e1, e2]
    exact DUFirstReferenceIdeal.Value.ref _ _ _

end Cert.Proof.DUFirst

end
-- ==== Proof.Mm.DUSecond.lean ====
module

public import proofs.«01_k».proof.Proof.Gen.DUSecond
public import proofs.«01_k».proof.Proof.Gen.DUSecondIdeal.Value
public import proofs.«01_k».proof.Proof.Gen.DUSecondReferenceIdeal.Run
public import proofs.«01_k».proof.Proof.Mm.Sums

@[expose] public section

set_option maxRecDepth 16384

noncomputable section

/-! ## The gradient of the input through half of the combined projection -/

namespace Cert.DUSecondIdeal.Value

open Cert.DUSecondIdeal Cert.DUSecondIdeal.Gen Idealize.ShloMosaic Idealize.ShloMosaic.TcCoe Idealize.SL.Sem

/-- The array the call is to leave, entry by entry. -/
def prod (d : Vec Ideal S4096x9216 .bf16) (w : Vec Ideal S9216x1024 .bf16) (r : Vec Ideal S4096x1024 .f32) : Vec Ideal S4096x1024 .f32 := fun i =>
  (r i : EReal) + ∑ k : Fin 4608, (d (ix2 (i 0) ⟨k.val + 4608, by omega⟩) : EReal) * (w (ix2 ⟨k.val + 4608, by omega⟩ (i 1)) : EReal)

variable (m : (ℓ : Loc nD τ sig) → Buf (Elt Ideal) ℓ) (c : Dev nD)

/-- Which blocks the grid point reads and writes. -/
theorem idx : ∀ t : Fin cfg0.N, win0_0.index t = ![t.val / 3, t.val % 3 + 3] ∧ win0_1.index t = ![t.val % 3 + 3, 0] ∧ win0_2.index t = ![t.val / 3, 0] ∧ win0_3.index t = ![t.val / 3, 0] := by decide +kernel

/-- The array after the call: every entry is summed over the 3 grid points of its block. -/
theorem arr : (dats m 0 c).arrAt 3 cfg0.N = prod (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have h1 : t.val % 3 = 2 := (flush0_3 t).mp hf
  blk_simp
  rw [after0_3, outsAt0_C m c t (by omega) h1]
  frame_out
  have e1 := outsAt0_B m c ⟨t.val - 1, (Nat.lt_of_le_of_lt (Nat.sub_le _ _) t.isLt)⟩ (by show ¬ (t.val - 1) % 3 = 0; omega) (by show ¬ (t.val - 1) % 3 = 2; omega)
  dsimp only at e1
  rw [e1]
  frame_out
  have e2 := outsAt0_A m c ⟨t.val - 1 - 1, (Nat.lt_of_le_of_lt (Nat.sub_le _ _) (Nat.lt_of_le_of_lt (Nat.sub_le _ _) t.isLt))⟩ (by show (t.val - 1 - 1) % 3 = 0; omega) (by show ¬ (t.val - 1 - 1) % 3 = 2; omega)
  dsimp only at e2
  rw [e2]
  frame_out
  simp only [read_unread_whole]
  idx_vars y
  pointwise [k0_pay3, k0_pay2, k0_pay1]
  simp only [prod, sum3_4608]
  show (_ : EReal) = _
  refine ((add_comm _ _).trans (congrArg₂ (· + ·) ?_ (congrArg₂ (· + ·) (congrArg₂ (· + ·) (Finset.sum_congr rfl fun x _ => congrArg₂ (· * ·) ?_ ?_) (Finset.sum_congr rfl fun x _ => congrArg₂ (· * ·) ?_ ?_)) (Finset.sum_congr rfl fun x _ => congrArg₂ (· * ·) ?_ ?_))))
  all_goals blk_ext [iblk, V, (idx _).1, (idx _).2.1, (idx _).2.2.1, (idx _).2.2.2]

end Cert.DUSecondIdeal.Value

namespace Cert.DUSecondReferenceIdeal.Value

open Cert.DUSecondReferenceIdeal Cert.DUSecondReferenceIdeal.Gen Idealize.ShloMosaic Idealize.ShloMosaic.TcCoe Idealize.SL.Sem

/-- The reference's array is the same. -/
theorem ref (d : Vec Ideal S4096x9216 .bf16) (w : Vec Ideal S9216x1024 .bf16) (r : Vec Ideal S4096x1024 .f32) :
    (addf r (Host.dotGeneral dot_S4096x4608_S1024x4608_S4096x1024_1_1_0_0_n_n none (extf .f32 (extractStridedSlice S4096x4608 ![0, 4608] d slices_S4096x9216_S4096x4608_0_4608) bitsLt_bf16_f32) (transpose S1024x4608 [1, 0] (extf .f32 (extractStridedSlice S4608x1024 ![4608, 0] w slices_S9216x1024_S4608x1024_4608_0) bitsLt_bf16_f32) transposes_S4608x1024_S1024x4608_1_0)) : FVec Ideal S4096x1024 .f32)
      = Cert.DUSecondIdeal.Value.prod d w r := by
  funext i
  rw [eq_ix2 i]
  pointwise
  rfl

end Cert.DUSecondReferenceIdeal.Value

namespace Cert.Proof.DUSecond

open Idealize.ShloMosaic Idealize.SL.Sem
open Cert.DUSecondIdeal (nD τ sig main_arg0 main_arg1 main_arg2)

theorem frame_ideal : Cert.quiescent_DUSecondIdeal := fun m ρ _ => DUSecondIdeal.Gen.frame m ρ

/-- The statement of the kernel's frame with the names of its ideal reading. -/
def ReadAsIdeal [hDUSecond : DUSecondIdeal.Facts] : Prop :=
  ∀ (m : (ℓ : Loc nD τ sig) → Buf (Elt Bits) ℓ) (g : Dev nD → PrngReg), Cert.Pre_DUSecond m →
    θ_run (DUSecondIdeal.defs (F := Bits)) (onTc (τ := τ) (DUSecondIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem same : Cert.quiescent_DUSecond = ReadAsIdeal := by sl_kernel_rfl

theorem frame_kernel : Cert.quiescent_DUSecond := same.mpr fun m ρ _ => DUSecondIdeal.Gen.frame m ρ

/-- The reference has no semaphore. -/
theorem no_semaphore : ∀ _ : SemLoc DUSecondReferenceIdeal.sig, False := by decide

theorem frame_reference : Cert.quiescent_DUSecondReferenceIdeal := fun m ρ _ =>
  (θ_run _ _ _).mono (fun _ h => ⟨fun c => (h c).2, funext fun s => (no_semaphore s.2).elim⟩) (DUSecondReferenceIdeal.Value.run m ρ)

theorem algebraic : Cert.algebraic_DUSecondIdeal_DUSecondReferenceIdeal := by
  intro m g m' g' _ hag
  refine ⟨fun c => DUSecondIdeal.Value.prod (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (DUSecondIdeal.Value.arr m c), (h c).2⟩) (DUSecondIdeal.Value.run_blocks m g)
  · refine (θ_run _ _ _).mono (fun r h c => ⟨(h c).1.trans ?_, (h c).2⟩) (DUSecondReferenceIdeal.Value.run m' g')
    obtain ⟨e0, e1, e2⟩ := hag c
    rw [e0, e1, e2]
    exact DUSecondReferenceIdeal.Value.ref _ _ _

end Cert.Proof.DUSecond

end
-- ==== Proof.Mm.Down.lean ====
module

public import proofs.«01_k».proof.Proof.Gen.Down
public import proofs.«01_k».proof.Proof.Gen.DownIdeal.Value
public import proofs.«01_k».proof.Proof.Gen.DownReferenceIdeal.Run
public import proofs.«01_k».proof.Proof.Mm.Sums

@[expose] public section

set_option maxRecDepth 16384

noncomputable section

/-! ## The gradient the loss gives, at the MLP's output -/

namespace Cert.DownIdeal.Value

open Cert.DownIdeal Cert.DownIdeal.Gen Idealize.ShloMosaic Idealize.ShloMosaic.TcCoe Idealize.SL.Sem

section
variable (x : Vec Ideal S4096x4096 .bf16) (w : Vec Ideal S4096x1024 .bf16) (h : Vec Ideal S4096x1024 .f32) (t : Vec Ideal S4096x1024 .f32)

/-- The difference between the MLP's output and the target. -/
def diff (r : Fin 4096) (l : Fin 1024) : EReal :=
  ((h (ix2 r l) : EReal) + ∑ k : Fin 4096, (x (ix2 r k) : EReal) * (w (ix2 k l) : EReal)) - (t (ix2 r l) : EReal)

/-- The array the call is to leave, entry by entry. -/
def prod : Vec Ideal S4096x1024 .f32 := fun i => diff x w h t (i 0) (i 1) * Ideal.ofBits .f32 0x3A800000#32

/-- The same at half width. -/
def prod16 : Vec Ideal S4096x1024 .bf16 := fun i => prod x w h t i

/-- The loss's terms: the difference squared, over 2048. -/
def term (r : Fin 4096) (l : Fin 1024) : EReal := Ideal.ofBits .f32 0x3A000000#32 * (diff x w h t r l * diff x w h t r l)

/-- The terms of a block of 1024 tokens, summed over the tokens 8 apart and the columns 128 apart. -/
def parts : Vec Ideal S32x128 .f32 := fun i =>
  ∑ b : Fin 8, ∑ p : Fin 128, term x w h t ⟨(i 0).val / 8 * 1024 + p.val * 8 + (i 0).val % 8, by have := (i 0).isLt; show _ < 4096; change (i 0).val < 32 at this; omega⟩
    ⟨b.val * 128 + (i 1).val, by have := (i 1).isLt; change (i 1).val < 128 at this; omega⟩

end

variable (m : (ℓ : Loc nD τ sig) → Buf (Elt Ideal) ℓ) (c : Dev nD)

/-- `f` of the call's four arguments. -/
abbrev on {α : Type} (f : Vec Ideal S4096x4096 .bf16 → Vec Ideal S4096x1024 .bf16 → Vec Ideal S4096x1024 .f32 → Vec Ideal S4096x1024 .f32 → α) : α :=
  f (m ((c.tc : Thread nD τ).loc main_arg0)) (m ((c.tc : Thread nD τ).loc main_arg1)) (m ((c.tc : Thread nD τ).loc main_arg2)) (m ((c.tc : Thread nD τ).loc main_arg3))

/-- Which blocks the grid point reads and writes. -/
theorem idx : ∀ t : Fin cfg0.N, win0_0.index t = ![t.val / 2, t.val % 2] ∧ win0_1.index t = ![t.val % 2, 0] ∧ win0_2.index t = ![t.val / 2, 0] ∧ win0_3.index t = ![t.val / 2, 0] ∧
    win0_4.index t = ![t.val / 2, 0] ∧ win0_5.index t = ![t.val / 2, 0] ∧ win0_6.index t = ![t.val / 2, 0] := by decide +kernel

/-- What a block's last point writes to the array of the sums, entry by entry. -/
theorem pay4_at (a h t : Vec Ideal S1024x1024 .f32) (s : Fin 8) (l : Fin 128) :
    (k0_pay4 a h t (ix2 s l) : EReal) = ∑ b : Fin 8, ∑ p : Fin 128, Ideal.ofBits .f32 0x3A000000#32 *
      (k0_pay3 a h t (ix2 ⟨p.val * 8 + s.val, by omega⟩ ⟨b.val * 128 + l.val, by omega⟩) * k0_pay3 a h t (ix2 ⟨p.val * 8 + s.val, by omega⟩ ⟨b.val * 128 + l.val, by omega⟩) : EReal) := by
  pointwise [k0_pay4]
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine Finset.sum_congr rfl fun p _ => congrArg (_ * ·) ((fun e => congrArg₂ (· * ·) e e) (congrArg (k0_pay3 a h t) (congrArg (ix2 _) (Fin.ext ?_))))
    simp

/-- The grid point before. -/
abbrev bef (t : Fin cfg0.N) : Fin cfg0.N := ⟨t.val - 1, (Nat.lt_of_le_of_lt (Nat.sub_le _ _) t.isLt)⟩

/-- A difference from the blocks of the two grid points of its row block. -/
theorem entry (t : Fin cfg0.N) (h1 : t.val % 2 = 1) (r l : Fin 1024) (R : Fin 4096) (L : Fin 1024) (hR : R.val = t.val / 2 * 1024 + r.val) (hL : L.val = l.val) :
    (k0_pay3 (k0_pay2 (k0_pay2 (k0_pay1 (F := Ideal)) (iblk m c 0 (bef t)) (iblk m c 1 (bef t))) (iblk m c 0 t) (iblk m c 1 t)) (iblk m c 2 t) (iblk m c 3 t) (ix2 r l) : EReal)
      = on m c diff R L := by
  obtain rfl : L = l := Fin.ext hL
  pointwise [k0_pay3, k0_pay2, k0_pay1]
  simp only [diff, sum2_4096]
  show (_ : EReal) = _
  refine congrArg₂ (· - ·) ((add_comm _ _).trans (congrArg₂ (· + ·) ?_ (congrArg₂ (· + ·) (Finset.sum_congr rfl fun x _ => congrArg₂ (· * ·) ?_ ?_) (Finset.sum_congr rfl fun x _ => congrArg₂ (· * ·) ?_ ?_)))) ?_
  all_goals blk_ext [iblk, V, (idx _).1, (idx _).2.1, (idx _).2.2.1, (idx _).2.2.2.1]

/-- The array after the call: every entry is summed over the 2 grid points of its block. -/
theorem arr : (dats m 0 c).arrAt 4 cfg0.N = on m c prod := by
  refine (dats m 0 c).arrAt_eq_of_covers 4 _ (by decide +kernel) fun t hf y => ?_
  have h1 : t.val % 2 = 1 := (flush0_4 t).mp hf
  blk_simp
  rw [after0_4, outsAt0_B m c t (by omega) h1]
  frame_out
  have e1 := outsAt0_A m c (bef t) (by show (t.val - 1) % 2 = 0; omega) (by show ¬ (t.val - 1) % 2 = 1; omega)
  dsimp only at e1
  rw [e1]
  frame_out
  simp only [read_unread_whole]
  idx_vars y
  exact congrArg (· * Ideal.ofBits .f32 0x3A800000#32) (entry m c t h1 y0 y1 _ _ (by blk_simp [(idx t).2.2.2.2.1]) (by blk_simp [(idx t).2.2.2.2.1]))

/-- The array at half width after the call. -/
theorem arr16 : (dats m 0 c).arrAt 5 cfg0.N = on m c prod16 := by
  refine (dats m 0 c).arrAt_eq_of_covers 5 _ (by decide +kernel) fun t hf y => ?_
  have h1 : t.val % 2 = 1 := (flush0_5 t).mp hf
  blk_simp
  rw [after0_5, outsAt0_B m c t (by omega) h1]
  frame_out
  have e1 := outsAt0_A m c (bef t) (by show (t.val - 1) % 2 = 0; omega) (by show ¬ (t.val - 1) % 2 = 1; omega)
  dsimp only at e1
  rw [e1]
  frame_out
  simp only [read_unread_whole]
  idx_vars y
  exact congrArg (· * Ideal.ofBits .f32 0x3A800000#32) (entry m c t h1 y0 y1 _ _ (by blk_simp [(idx t).2.2.2.2.2.1]) (by blk_simp [(idx t).2.2.2.2.2.1]))

/-- The array of the sums after the call. -/
theorem arrParts : (dats m 0 c).arrAt 6 cfg0.N = on m c parts := by
  refine (dats m 0 c).arrAt_eq_of_covers 6 _ (by decide +kernel) fun t hf y => ?_
  have h1 : t.val % 2 = 1 := (flush0_6 t).mp hf
  blk_simp
  rw [after0_6, outsAt0_B m c t (by omega) h1]
  frame_out
  have e1 := outsAt0_A m c (bef t) (by show (t.val - 1) % 2 = 0; omega) (by show ¬ (t.val - 1) % 2 = 1; omega)
  dsimp only at e1
  rw [e1]
  frame_out
  simp only [read_unread_whole]
  idx_vars y
  have r0 : (((View.whole main_v0_2).slice (win0_6.rect t)).emb (ix2 y0 y1) 0).val = t.val / 2 * 8 + y0.val := by
    blk_simp [(idx t).2.2.2.2.2.2]
  have r1 : (((View.whole main_v0_2).slice (win0_6.rect t)).emb (ix2 y0 y1) 1).val = y1.val := by
    blk_simp [(idx t).2.2.2.2.2.2]
  refine (pay4_at _ _ _ y0 y1).trans (Finset.sum_congr rfl fun b _ => Finset.sum_congr rfl fun p _ => congrArg (_ * ·) ((fun e => congrArg₂ (· * ·) e e) ?_))
  exact entry m c t h1 _ _ _ _ (by simp only [r0]; omega) (by simp only [r1])

end Cert.DownIdeal.Value

namespace Cert.DownReferenceIdeal.Value

open Cert.DownReferenceIdeal Cert.DownReferenceIdeal.Gen Idealize.ShloMosaic Idealize.ShloMosaic.TcCoe Idealize.SL.Sem

theorem bits_half : Ideal.ofBits .f32 0x3F000000#32 = (((1 : ℝ) / 2 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num

/-- Half of the mean's square, differentiated, is the difference over 1024. -/
theorem half_over_1024 (d : EReal) :
    Ideal.div (Ideal.ofBits .f32 0x3F000000#32) (Ideal.ofBits .f32 0x44800000#32) * (Ideal.ofBits .f32 0x40000000#32 * d)
      = d * Ideal.ofBits .f32 0x3A800000#32 := by
  have e3 : Ideal.ofBits .f32 0x40000000#32 = ((2 : ℝ) : EReal) := by
    simp [Ideal.ofBits, Ideal.ieee, -EReal.coe_mul]; norm_num
  have e4 : Ideal.ofBits .f32 0x3A800000#32 = (((1 : ℝ) / 1024 : ℝ) : EReal) := by
    simp [Ideal.ofBits, Ideal.ieee, -EReal.coe_mul]; norm_num
  rw [bits_half, bits_1024, e3, e4, Ideal.div, if_neg (by norm_num), ← EReal.coe_inv, ← EReal.coe_mul, ← mul_assoc, ← EReal.coe_mul, mul_comm d]
  norm_num

/-- Half a square over 1024 is the square over 2048. -/
theorem half_square (d : EReal) :
    Ideal.div (Ideal.ofBits .f32 0x3F000000#32 * d) (Ideal.ofBits .f32 0x44800000#32) = Ideal.ofBits .f32 0x3A000000#32 * d := by
  have e3 : Ideal.ofBits .f32 0x3A000000#32 = (((1 : ℝ) / 2048 : ℝ) : EReal) := by
    simp [Ideal.ofBits, Ideal.ieee, -EReal.coe_mul]; norm_num
  rw [bits_half, bits_1024, e3, Ideal.div, if_neg (by norm_num), mul_right_comm, ← EReal.coe_inv, ← EReal.coe_mul]
  norm_num

variable (x : Vec Ideal S4096x4096 .bf16) (w : Vec Ideal S4096x1024 .bf16) (h : FVec Ideal S4096x1024 .f32) (t : FVec Ideal S4096x1024 .f32)

/-- The reference's difference. -/
abbrev rdiff : FVec Ideal S4096x1024 .f32 :=
  subf (addf h (Host.dotGeneral dot_S4096x4096_S4096x1024_S4096x1024_1_0_0_1_n_n none (extf .f32 x bitsLt_bf16_f32) (extf .f32 w bitsLt_bf16_f32))) t

/-- The reference's array. -/
abbrev rprod : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (rdiff x w h t))

/-- It is the same. -/
theorem ref : rprod x w h t = Cert.DownIdeal.Value.prod x w h t := by
  funext i
  rw [eq_ix2 i]
  pointwise [Cert.DownIdeal.Value.prod, Cert.DownIdeal.Value.diff]
  exact half_over_1024 _

theorem ref16 : (truncf .bf16 (rprod x w h t) bitsLt_bf16_f32 : FVec Ideal S4096x1024 .bf16) = Cert.DownIdeal.Value.prod16 x w h t := by
  rw [ref]
  rfl

/-- The reference's sums are the same. -/
theorem refParts :
    (shapeCast S32x128 (Host.reduceAdd (Host.reduceAdd (shapeCast S4x128x8x8x128 (Host.divf (mulf (broadcastInDim S4096x1024 ![] bcast_S_S4096x1024 (constant S_ .f32 0x3F000000#32)) (mulf (rdiff x w h t) (rdiff x w h t))) (broadcastInDim S4096x1024 ![] bcast_S_S4096x1024 (constant S_ .f32 0x44800000#32))) shapeCasts_S4096x1024_S4x128x8x8x128) (constant S_ .f32 0x00000000#32) reducesTo_S4x128x8x8x128_S4x8x8x128_d1 h_S_) (constant S_ .f32 0x00000000#32) reducesTo_S4x8x8x128_S4x8x128_d2 h_S_) shapeCasts_S4x8x128_S32x128 : FVec Ideal S32x128 .f32)
      = Cert.DownIdeal.Value.parts x w h t := by
  funext i
  rw [eq_ix2 i]
  pointwise [Cert.DownIdeal.Value.parts, Cert.DownIdeal.Value.term, Cert.DownIdeal.Value.diff]
  exact Finset.sum_congr rfl fun _ _ => Finset.sum_congr rfl fun _ _ => half_square _

end Cert.DownReferenceIdeal.Value

namespace Cert.Proof.Down

open Idealize.ShloMosaic Idealize.SL.Sem
open Cert.DownIdeal (nD τ sig main_arg0 main_arg1 main_arg2 main_arg3)

theorem frame_ideal : Cert.quiescent_DownIdeal := fun m ρ _ => DownIdeal.Gen.frame m ρ

/-- The statement of the kernel's frame with the names of its ideal reading. -/
def ReadAsIdeal [hDown : DownIdeal.Facts] : Prop :=
  ∀ (m : (ℓ : Loc nD τ sig) → Buf (Elt Bits) ℓ) (g : Dev nD → PrngReg), Cert.Pre_Down m →
    θ_run (DownIdeal.defs (F := Bits)) (onTc (τ := τ) (DownIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem same : Cert.quiescent_Down = ReadAsIdeal := by sl_kernel_rfl

theorem frame_kernel : Cert.quiescent_Down := same.mpr fun m ρ _ => DownIdeal.Gen.frame m ρ

/-- The reference has no semaphore. -/
theorem no_semaphore : ∀ _ : SemLoc DownReferenceIdeal.sig, False := by decide

theorem frame_reference : Cert.quiescent_DownReferenceIdeal := fun m ρ _ =>
  (θ_run _ _ _).mono (fun _ h => ⟨fun c => (h c).2.2.2, funext fun s => (no_semaphore s.2).elim⟩) (DownReferenceIdeal.Value.run m ρ)

theorem algebraic : Cert.algebraic_DownIdeal_DownReferenceIdeal := by
  intro m g m' g' _ hag
  refine ⟨fun c => DownIdeal.Value.on m c DownIdeal.Value.prod, fun c => DownIdeal.Value.on m c DownIdeal.Value.prod16, fun c => DownIdeal.Value.on m c DownIdeal.Value.parts, ?_, ?_⟩
  · exact (θ_run _ _ _).mono (fun r h c => ⟨(h c).1.trans (DownIdeal.Value.arr m c), (h c).2.1.trans (DownIdeal.Value.arr16 m c), (h c).2.2.1.trans (DownIdeal.Value.arrParts m c), (h c).2.2.2⟩) (DownIdeal.Value.run_blocks m g)
  · refine (θ_run _ _ _).mono (fun r h c => ?_) (DownReferenceIdeal.Value.run m' g')
    obtain ⟨e0, e1, e2, e3⟩ := hag c
    refine ⟨(h c).1.trans ?_, (h c).2.1.trans ?_, (h c).2.2.1.trans ?_, (h c).2.2.2⟩ <;> rw [e0, e1, e2, e3]
    · exact DownReferenceIdeal.Value.ref _ _ _ _
    · exact DownReferenceIdeal.Value.ref16 _ _ _ _
    · exact DownReferenceIdeal.Value.refParts _ _ _ _

end Cert.Proof.Down

end
-- ==== Proof.Mm.AdamSmall.lean ====
module

public import proofs.«01_k».proof.Proof.Gen.AdamSmall
public import proofs.«01_k».proof.Proof.Gen.AdamSmallIdeal.Value
public import proofs.«01_k».proof.Proof.Gen.AdamSmallReferenceIdeal.Run
public import proofs.«01_k».proof.Proof.Mm.Sums

@[expose] public section

noncomputable section

/-! ## The optimiser's step of the small weights, packed into one array -/

namespace Cert.Proof.AdamSmall

open Idealize.ShloMosaic Idealize.SL.Sem
open Cert.AdamSmallIdeal (nD τ sig main_arg0 main_arg1 main_arg2 main_arg3)
open Cert.AdamSmallIdeal.Value (G4 G5 G6)

theorem frame_ideal : Cert.quiescent_AdamSmallIdeal := fun m ρ _ => AdamSmallIdeal.Gen.frame m ρ

/-- The statement of the kernel's frame with the names of its ideal reading. -/
def ReadAsIdeal [hAdamSmall : AdamSmallIdeal.Facts] : Prop :=
  ∀ (m : (ℓ : Loc nD τ sig) → Buf (Elt Bits) ℓ) (g : Dev nD → PrngReg), Cert.Pre_AdamSmall m →
    θ_run (AdamSmallIdeal.defs (F := Bits)) (onTc (τ := τ) (AdamSmallIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem same : Cert.quiescent_AdamSmall = ReadAsIdeal := by sl_kernel_rfl

theorem frame_kernel : Cert.quiescent_AdamSmall := same.mpr fun m ρ _ => AdamSmallIdeal.Gen.frame m ρ

/-- The reference has no semaphore. -/
theorem no_semaphore : ∀ _ : SemLoc AdamSmallReferenceIdeal.sig, False := by decide

theorem frame_reference : Cert.quiescent_AdamSmallReferenceIdeal := fun m ρ _ =>
  (θ_run _ _ _).mono (fun _ h => ⟨fun c => (h c).2.2.2, funext fun s => (no_semaphore s.2).elim⟩) (AdamSmallReferenceIdeal.Value.run m ρ)

/-- The two programs' operations are the same entry by entry, so each result is one function of the arguments. -/
theorem algebraic : Cert.algebraic_AdamSmallIdeal_AdamSmallReferenceIdeal := by
  intro m g m' g' _ hag
  let A (c : Dev nD) (b : Ref sig .tc) := m ((c.tc : Thread nD τ).loc b)
  refine ⟨fun c => G4 (A c main_arg0) (A c main_arg1) (A c main_arg2) (A c main_arg3), fun c => G5 (A c main_arg1) (A c main_arg2),
    fun c => G6 (A c main_arg1) (A c main_arg3), AdamSmallIdeal.Value.run m g, ?_⟩
  refine (θ_run _ _ _).mono (fun r h c => ?_) (AdamSmallReferenceIdeal.Value.run m' g')
  obtain ⟨e0, e1, e2, e3⟩ := hag c
  obtain ⟨h0, h1, h2, h⟩ := h c
  rw [e0, e1, e2, e3] at h0
  rw [e1, e2] at h1
  rw [e1, e3] at h2
  exact ⟨h0.trans rfl, h1.trans rfl, h2.trans rfl, h⟩

end Cert.Proof.AdamSmall

end
-- ==== Proof.Mm.Step.lean ====
module

public import proofs.«01_k».proof.Proof.Mm.Sums

@[expose] public section

noncomputable section

/-! ## The optimiser's step, AdamW, at one entry of a weight -/

namespace Cert.Adam

open Idealize.ShloMosaic

/-- The new first moment, from the gradient `g` and the moment `m`. -/
def mean (g m : Ideal .f32) : Ideal .f32 :=
  FloatOps.addf (FloatOps.mulf (Scalar.ofBits .f32 0x3F666666#32) m) (FloatOps.mulf (Scalar.ofBits .f32 0x3DCCCCCD#32) g)

/-- The new second moment. -/
def square (g v : Ideal .f32) : Ideal .f32 :=
  FloatOps.addf (FloatOps.mulf (Scalar.ofBits .f32 0x3F7FBE77#32) v) (FloatOps.mulf (Scalar.ofBits .f32 0x3A83126F#32) (FloatOps.mulf g g))

/-- What is added to the weight `w`. -/
def delta (w g m v : Ideal .f32) : Ideal .f32 :=
  FloatOps.mulf (Scalar.ofBits .f32 0xBA83126F#32) (FloatOps.addf (FloatOps.divf (FloatOps.divf (mean g m) (Scalar.ofBits .f32 0x3F26BD02#32))
    (FloatOps.addf (FloatOps.sqrt (FloatOps.divf (square g v) (Scalar.ofBits .f32 0x3C231ACC#32))) (Scalar.ofBits .f32 0x322BCC77#32)))
    (FloatOps.mulf (Scalar.ofBits .f32 0x3C23D70A#32) w))

theorem cmpi_eq (a b : BitVec 32) : IntOp.cmpi .eq a b = 1#1 ↔ a = b := by
  have e : ∀ p : Bool, BitVec.ofBool p = 1#1 ↔ p = true := by decide
  exact (e _).trans beq_iff_eq

/-- A choice by the equality of two words. -/
theorem select_eq (a b : BitVec 32) (x y : Ideal .f32) : Scalar.select (IntOp.cmpi .eq a b) x y = if b = a then x else y :=
  if_congr ((cmpi_eq a b).trans eq_comm) rfl rfl

end Cert.Adam

end
-- ==== Proof.Mm.AdamPa.lean ====
module

public import proofs.«01_k».proof.Proof.Gen.AdamPa
public import proofs.«01_k».proof.Proof.Gen.AdamPaIdeal.Frame
public import proofs.«01_k».proof.Proof.Gen.AdamPaReferenceIdeal.Run
public import proofs.«01_k».proof.Proof.Mm.Step

@[expose] public section

set_option maxRecDepth 16384

noncomputable section

/-! ## The optimiser's step of a weight of 256 rows, whose gradient comes in two halves -/

namespace Cert.AdamPaIdeal.Value

open Cert.AdamPaIdeal Cert.AdamPaIdeal.Gen Idealize.ShloMosaic Idealize.ShloMosaic.TcCoe Idealize.SL.Sem

variable (m : (ℓ : Loc nD τ sig) → Buf (Elt Ideal) ℓ) (hO : Ok m)

/-- An argument. There is one device. -/
abbrev A (b : Ref sig .tc) := m ((0 : Dev nD).tc.loc b)

/-- Some contents of the prefetched table. No index map reads it. -/
abbrev table : (pcfg0 (F := Ideal)).Adm := ⟨fun | 0 => fun _ => (0 : BitVec 32), trivial⟩

theorem covers : ((cfg0 table).win 5).Covers ∧ ((cfg0 table).win 6).Covers ∧ ((cfg0 table).win 7).Covers ∧ ((cfg0 table).win 8).Covers := by
  decide +kernel

/-- The gradient from its two halves: half `k` is from `x` if the word is `k`, and from `y` if not. -/
def whole (x y : Vec Ideal S128x1024 .f32) (s : Vec Ideal S1 .i32) : Vec Ideal S256x1024 .f32 := fun i =>
  (if BitVec.ofNat 32 ((i 0).val / 128) = s (ix1 0) then x else y) (ix2 ⟨(i 0).val % 128, Nat.mod_lt _ (by decide)⟩ (i 1))

/-- Which blocks the grid point reads and writes. -/
theorem idx : ∀ t : Fin grid0.N, cc0_transform_0 (grid0.coords t) = ![t.val, 0] ∧ cc0_transform_1 (grid0.coords t) = ![0, 0] := by
  decide +kernel

/-- The half a grid point is in selects the block. -/
theorem pick (t : Fin grid0.N) (s : BitVec 32) (x y : Vec Ideal S128x1024 .f32) :
    k0_pay3 (grid0.coords t) s x y = if BitVec.ofNat 32 (t.val / 1) = s then x else y := by
  have h : k0_pay3 (grid0.coords t) s x y = if IntOp.cmpi .eq (BitVec.ofNat 32 (t.val / 1)) s = 1#1 then x else y := by
    rcases fin_N0 t with rfl | rfl <;> rfl
  rw [h]
  simp only [Adam.cmpi_eq]

/-- The word read from the prefetched table. -/
theorem word (s : Vec Ideal S1 .i32) (h) :
    View.readAt (Elt Ideal) (View.whole main_arg5) (Rect.unit (s := S1) ![0] ![1] inb_S1_S1_0).toLoadRect s (Shape.Idx.first h) = s (ix1 0) := by
  refine congrArg s (funext fun a => ?_)
  match a with
  | ⟨0, _⟩ => exact Subsingleton.elim (α := Fin 1) _ _

section
variable (t : Fin grid0.N) (y : S128x1024.Idx) (j : S256x1024.Idx)
  (h0 : (j 0).val = cc0_transform_0 (grid0.coords t) 0 * 128 + 1 * (y 0).val) (h1 : (j 1).val = cc0_transform_0 (grid0.coords t) 1 * 1024 + 1 * (y 1).val)
include h0 h1

theorem half : ((win0 (adm m hO) 1).blk t).view.emb y = ((ix2 ⟨(j 0).val % 128, Nat.mod_lt _ (by decide)⟩ (j 1)) : S128x1024.Idx) := by
  rw [(idx t).1] at h0 h1
  have hy : (y 0).val < 128 := (y 0).isLt
  have e : (j 0).val = t.val * 128 + 1 * (y 0).val := h0
  funext a
  apply Fin.ext
  match a with
  | ⟨0, _⟩ => show cc0_transform_1 (grid0.coords t) 0 * 128 + 1 * (y 0).val = (j 0).val % 128
              rw [(idx t).2]; show 0 * 128 + 1 * (y 0).val = _; omega
  | ⟨1, _⟩ => show cc0_transform_1 (grid0.coords t) 1 * 1024 + 1 * (y 1).val = (j 1).val
              rw [(idx t).2]; exact h1.symm

theorem blk : ((win0 (adm m hO) 0).blk t).view.emb y = j := by
  funext a
  apply Fin.ext
  match a with
  | ⟨0, _⟩ => exact h0.symm
  | ⟨1, _⟩ => exact h1.symm

theorem read0 : View.read (Elt Ideal) (ms0_0 m hO t).view ((hs0_0 m hO t).unread (iblk m hO 0 0 t)) y = A m main_arg0 j :=
  (congrFun ((hs0_0 m hO t).read_unread _) y).trans (congrArg (A m main_arg0) (blk m hO t y j h0 h1))

theorem read1 : View.read (Elt Ideal) (ms0_1 m hO t).view ((hs0_1 m hO t).unread (iblk m hO 0 1 t)) y = A m main_arg1 (ix2 ⟨(j 0).val % 128, Nat.mod_lt _ (by decide)⟩ (j 1)) :=
  (congrFun ((hs0_1 m hO t).read_unread _) y).trans (congrArg (A m main_arg1) (half m hO t y j h0 h1))

theorem read2 : View.read (Elt Ideal) (ms0_2 m hO t).view ((hs0_2 m hO t).unread (iblk m hO 0 2 t)) y = A m main_arg2 (ix2 ⟨(j 0).val % 128, Nat.mod_lt _ (by decide)⟩ (j 1)) :=
  (congrFun ((hs0_2 m hO t).read_unread _) y).trans (congrArg (A m main_arg2) (half m hO t y j h0 h1))

theorem read3 : View.read (Elt Ideal) (ms0_3 m hO t).view ((hs0_3 m hO t).unread (iblk m hO 0 3 t)) y = A m main_arg3 j :=
  (congrFun ((hs0_3 m hO t).read_unread _) y).trans (congrArg (A m main_arg3) (blk m hO t y j h0 h1))

theorem read4 : View.read (Elt Ideal) (ms0_4 m hO t).view ((hs0_4 m hO t).unread (iblk m hO 0 4 t)) y = A m main_arg4 j :=
  (congrFun ((hs0_4 m hO t).read_unread _) y).trans (congrArg (A m main_arg4) (blk m hO t y j h0 h1))

/-- The gradient a grid point works with. -/
theorem step : k0_pay3 (grid0.coords t)
      (View.readAt (Elt Ideal) (View.whole main_arg5) (Rect.unit (s := S1) ![0] ![1] inb_S1_S1_0).toLoadRect (A m main_arg5) (Shape.Idx.first (by decide)))
      (View.read (Elt Ideal) (ms0_1 m hO t).view ((hs0_1 m hO t).unread (iblk m hO 0 1 t)))
      (View.read (Elt Ideal) (ms0_2 m hO t).view ((hs0_2 m hO t).unread (iblk m hO 0 2 t))) y = whole (A m main_arg1) (A m main_arg2) (A m main_arg5) j := by
  have hx := read1 m hO t y j h0 h1
  have hx' := read2 m hO t y j h0 h1
  rw [(idx t).1] at h0
  have hy : (y 0).val < 128 := (y 0).isLt
  have e : (j 0).val = t.val * 128 + 1 * (y 0).val := h0
  rw [pick, whole, word, show t.val / 1 = (j 0).val / 128 by omega]
  split
  · exact hx
  · exact hx'

end

theorem pay2 (i : grid0.Coords) (s : BitVec 32) (w x x' a v : Vec Ideal S128x1024 .f32) (y : S128x1024.Idx) :
    k0_pay2 w (k0_pay4 i s x x' a) (k0_pay5 v) (k0_pay6 i s x x') (FloatOps.ofBits .f32 0x3A83126F#32) y = Adam.delta (w y) (k0_pay3 i s x x' y) (a y) (v y) := rfl

theorem pay4 (i : grid0.Coords) (s : BitVec 32) (x x' a : Vec Ideal S128x1024 .f32) (y : S128x1024.Idx) :
    k0_pay4 i s x x' a y = Adam.mean (k0_pay3 i s x x' y) (a y) := rfl

theorem pay1 (i : grid0.Coords) (s : BitVec 32) (x x' v : Vec Ideal S128x1024 .f32) (y : S128x1024.Idx) :
    k0_pay1 (k0_pay5 v) (k0_pay6 i s x x') (FloatOps.ofBits .f32 0x3A83126F#32) y = Adam.square (k0_pay3 i s x x' y) (v y) := rfl

/-- The whole gradient. -/
abbrev G := whole (A m main_arg1) (A m main_arg2) (A m main_arg5)

theorem arr5 : (dats m hO 0 0).arrAt 5 (cfgM m hO).N = G m := by
  refine (dats m hO 0 0).arrAt_eq_of_covers 5 _ covers.1 fun t hf y => ?_
  blk_simp
  rw [after0_5, outsAt0]
  frame_out
  exact step m hO t y _ rfl rfl

theorem arr6 : (dats m hO 0 0).arrAt 6 (cfgM m hO).N = fun i => Adam.delta (A m main_arg0 i) (G m i) (A m main_arg3 i) (A m main_arg4 i) := by
  refine (dats m hO 0 0).arrAt_eq_of_covers 6 _ covers.2.1 fun t hf y => ?_
  blk_simp
  rw [after0_6, outsAt0]
  frame_out
  refine (pay2 _ _ _ _ _ _ _ _).trans ?_
  exact congr (congr (congr (congrArg Adam.delta (read0 m hO t y _ rfl rfl)) (step m hO t y _ rfl rfl)) (read3 m hO t y _ rfl rfl)) (read4 m hO t y _ rfl rfl)

theorem arr7 : (dats m hO 0 0).arrAt 7 (cfgM m hO).N = fun i => Adam.mean (G m i) (A m main_arg3 i) := by
  refine (dats m hO 0 0).arrAt_eq_of_covers 7 _ covers.2.2.1 fun t hf y => ?_
  blk_simp
  rw [after0_7, outsAt0]
  frame_out
  refine (pay4 _ _ _ _ _ _).trans ?_
  exact congr (congrArg Adam.mean (step m hO t y _ rfl rfl)) (read3 m hO t y _ rfl rfl)

theorem arr8 : (dats m hO 0 0).arrAt 8 (cfgM m hO).N = fun i => Adam.square (G m i) (A m main_arg4 i) := by
  refine (dats m hO 0 0).arrAt_eq_of_covers 8 _ covers.2.2.2 fun t hf y => ?_
  blk_simp
  rw [after0_8, outsAt0]
  frame_out
  refine (pay1 _ _ _ _ _ _).trans ?_
  exact congr (congrArg Adam.square (step m hO t y _ rfl rfl)) (read4 m hO t y _ rfl rfl)

/-- What the kernel leaves. -/
theorem run (g : Dev nD → PrngReg) : θ_run (defs (F := Ideal)) (onTc (τ := τ) (main (F := Ideal))) ⟨m, fun _ => 0, g⟩ fun r => ∀ c : Dev nD,
      r.2.mem ((c.tc : Thread nD τ).loc main_v0_0) = G m
      ∧ r.2.mem ((c.tc : Thread nD τ).loc main_v0_1) = (fun i => Adam.delta (A m main_arg0 i) (G m i) (A m main_arg3 i) (A m main_arg4 i))
      ∧ r.2.mem ((c.tc : Thread nD τ).loc main_v0_2) = (fun i => Adam.mean (G m i) (A m main_arg3 i))
      ∧ r.2.mem ((c.tc : Thread nD τ).loc main_v0_3) = (fun i => Adam.square (G m i) (A m main_arg4 i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (θ_run_and (run_main m g trivial) (unchanged m g trivial))
  refine ⟨?_, ?_, ?_, ?_, h.2 c⟩ <;> obtain rfl : c = 0 := Subsingleton.elim _ _
  · exact ((h.1 0).1 5).trans (arr5 m trivial)
  · exact ((h.1 0).1 6).trans (arr6 m trivial)
  · exact ((h.1 0).1 7).trans (arr7 m trivial)
  · exact ((h.1 0).1 8).trans (arr8 m trivial)

end Cert.AdamPaIdeal.Value

namespace Cert.AdamPaReferenceIdeal.Value

open Cert.AdamPaReferenceIdeal Cert.AdamPaReferenceIdeal.Gen Idealize.ShloMosaic Idealize.ShloMosaic.TcCoe Idealize.SL.Sem

/-- The reference's gradient is the same. -/
theorem ref (x y : Vec Ideal S128x1024 .f32) (s : Vec Ideal S1 .i32) :
    concatenate S256x1024 0 [⟨S128x1024, (select (broadcastInDim S128x1024 ![] bcast_S_S128x1024 (cmpi .eq (shapeCast _ s shapeCasts_S1_S_) (constantI S_ 32 0#32))) x y)⟩,
        ⟨S128x1024, (select (broadcastInDim S128x1024 ![] bcast_S_S128x1024 (cmpi .eq (shapeCast _ s shapeCasts_S1_S_) (constantI S_ 32 1#32))) x y)⟩] concatenates_S128x1024_S128x1024_S256x1024_d0
      = Cert.AdamPaIdeal.Value.whole x y s := by
  funext i
  rw [eq_ix2 i]
  pointwise
  have hi : (i 0).val < 256 := (i 0).isLt
  simp only [Cert.AdamPaIdeal.Value.whole, Adam.select_eq]
  split
  · rename_i h
    simp only [show (i 0).val / 128 = 0 by omega, show (i 0).val % 128 = (i 0).val by omega]
    split <;> rfl
  · rename_i h
    simp only [show (i 0).val / 128 = 1 by omega, show (i 0).val % 128 = (i 0).val - 128 by omega]
    split <;> rfl

end Cert.AdamPaReferenceIdeal.Value

namespace Cert.Proof.AdamPa

open Idealize.ShloMosaic Idealize.SL.Sem
open Cert.AdamPaIdeal (nD τ sig main_arg0 main_arg1 main_arg2 main_arg3 main_arg4 main_arg5)
open Cert.AdamPaIdeal.Value (whole A)

theorem frame_ideal : Cert.quiescent_AdamPaIdeal := fun m ρ _ => AdamPaIdeal.Gen.frame m ρ trivial

/-- The statement of the kernel's frame with the names of its ideal reading. -/
def ReadAsIdeal [hAdamPa : AdamPaIdeal.Facts] : Prop :=
  ∀ (m : (ℓ : Loc nD τ sig) → Buf (Elt Bits) ℓ) (g : Dev nD → PrngReg), Cert.Pre_AdamPa m →
    θ_run (AdamPaIdeal.defs (F := Bits)) (onTc (τ := τ) (AdamPaIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem same : Cert.quiescent_AdamPa = ReadAsIdeal := by sl_kernel_rfl

theorem frame_kernel : Cert.quiescent_AdamPa := same.mpr fun m ρ _ => AdamPaIdeal.Gen.frame m ρ trivial

/-- The reference has no semaphore. -/
theorem no_semaphore : ∀ _ : SemLoc AdamPaReferenceIdeal.sig, False := by decide

theorem frame_reference : Cert.quiescent_AdamPaReferenceIdeal := fun m ρ _ =>
  (θ_run _ _ _).mono (fun _ h => ⟨fun c => (h c).2.2.2.2, funext fun s => (no_semaphore s.2).elim⟩) (AdamPaReferenceIdeal.Value.run m ρ)

/-- Both make the same gradient of the two halves, and the rest is the same entry by entry. -/
theorem algebraic : Cert.algebraic_AdamPaIdeal_AdamPaReferenceIdeal := by
  intro m g m' g' _ hag
  let G := whole (A m main_arg1) (A m main_arg2) (A m main_arg5)
  refine ⟨fun _ => G, fun _ i => Adam.delta (A m main_arg0 i) (G i) (A m main_arg3 i) (A m main_arg4 i), fun _ i => Adam.mean (G i) (A m main_arg3 i),
    fun _ i => Adam.square (G i) (A m main_arg4 i), AdamPaIdeal.Value.run m g, ?_⟩
  refine (θ_run _ _ _).mono (fun r h c => ?_) (AdamPaReferenceIdeal.Value.run m' g')
  obtain ⟨e0, e1, e2, e3, e4, e5⟩ := hag c
  obtain ⟨h0, h1, h2, h3, h⟩ := h c
  obtain rfl : c = 0 := Subsingleton.elim _ _
  rw [AdamPaReferenceIdeal.Value.ref, e1, e2, e5] at h0
  rw [AdamPaReferenceIdeal.Value.ref, e0, e1, e2, e3, e4, e5] at h1
  rw [AdamPaReferenceIdeal.Value.ref, e1, e2, e3, e5] at h2
  rw [AdamPaReferenceIdeal.Value.ref, e1, e2, e4, e5] at h3
  exact ⟨h0, h1.trans rfl, h2.trans rfl, h3.trans rfl, h⟩

end Cert.Proof.AdamPa

end
-- ==== Proof.Mm.AdamPb.lean ====
module

public import proofs.«01_k».proof.Proof.Gen.AdamPb
public import proofs.«01_k».proof.Proof.Gen.AdamPbIdeal
public import proofs.«01_k».proof.Proof.Gen.AdamPbReferenceIdeal
public import proofs.«01_k».proof.Proof.Mm.AdamPa

@[expose] public section

set_option maxRecDepth 16384

noncomputable section

/-! ## The step of a weight of the same shape as in `AdamPa`: the programs are the same but for their names, and so are the statements -/

namespace Cert.Proof.AdamPb

theorem same_kernel : Cert.quiescent_AdamPb = Cert.quiescent_AdamPa := by sl_kernel_rfl

theorem same_ideal : Cert.quiescent_AdamPbIdeal = Cert.quiescent_AdamPaIdeal := by sl_kernel_rfl

theorem same_reference : Cert.quiescent_AdamPbReferenceIdeal = Cert.quiescent_AdamPaReferenceIdeal := by sl_kernel_rfl

theorem same_algebraic : Cert.algebraic_AdamPbIdeal_AdamPbReferenceIdeal = Cert.algebraic_AdamPaIdeal_AdamPaReferenceIdeal := by sl_kernel_rfl

theorem frame_kernel : Cert.quiescent_AdamPb := same_kernel.mpr AdamPa.frame_kernel

theorem frame_ideal : Cert.quiescent_AdamPbIdeal := same_ideal.mpr AdamPa.frame_ideal

theorem frame_reference : Cert.quiescent_AdamPbReferenceIdeal := same_reference.mpr AdamPa.frame_reference

theorem algebraic : Cert.algebraic_AdamPbIdeal_AdamPbReferenceIdeal := same_algebraic.mpr AdamPa.algebraic

end Cert.Proof.AdamPb

end
-- ==== Proof.Mm.AdamOut.lean ====
module

public import proofs.«01_k».proof.Proof.Gen.AdamOut
public import proofs.«01_k».proof.Proof.Gen.AdamOutIdeal
public import proofs.«01_k».proof.Proof.Gen.AdamOutReferenceIdeal
public import proofs.«01_k».proof.Proof.Mm.AdamPa

@[expose] public section

set_option maxRecDepth 16384

noncomputable section

/-! ## The step of a weight of the same shape as in `AdamPa`: the programs are the same but for their names, and so are the statements -/

namespace Cert.Proof.AdamOut

theorem same_kernel : Cert.quiescent_AdamOut = Cert.quiescent_AdamPa := by sl_kernel_rfl

theorem same_ideal : Cert.quiescent_AdamOutIdeal = Cert.quiescent_AdamPaIdeal := by sl_kernel_rfl

theorem same_reference : Cert.quiescent_AdamOutReferenceIdeal = Cert.quiescent_AdamPaReferenceIdeal := by sl_kernel_rfl

theorem same_algebraic : Cert.algebraic_AdamOutIdeal_AdamOutReferenceIdeal = Cert.algebraic_AdamPaIdeal_AdamPaReferenceIdeal := by sl_kernel_rfl

theorem frame_kernel : Cert.quiescent_AdamOut := same_kernel.mpr AdamPa.frame_kernel

theorem frame_ideal : Cert.quiescent_AdamOutIdeal := same_ideal.mpr AdamPa.frame_ideal

theorem frame_reference : Cert.quiescent_AdamOutReferenceIdeal := same_reference.mpr AdamPa.frame_reference

theorem algebraic : Cert.algebraic_AdamOutIdeal_AdamOutReferenceIdeal := same_algebraic.mpr AdamPa.algebraic

end Cert.Proof.AdamOut

end
-- ==== Proof.Mm.AdamUp.lean ====
module

public import proofs.«01_k».proof.Proof.Gen.AdamUp
public import proofs.«01_k».proof.Proof.Gen.AdamUpIdeal.Frame
public import proofs.«01_k».proof.Proof.Gen.AdamUpReferenceIdeal.Run
public import proofs.«01_k».proof.Proof.Mm.Step

@[expose] public section

set_option maxRecDepth 16384

noncomputable section

/-! ## The optimiser's step of a large weight, whose gradient comes in two halves -/

namespace Cert.AdamUpIdeal.Value

open Cert.AdamUpIdeal Cert.AdamUpIdeal.Gen Idealize.ShloMosaic Idealize.ShloMosaic.TcCoe Idealize.SL.Sem

variable (m : (ℓ : Loc nD τ sig) → Buf (Elt Ideal) ℓ) (hO : Ok m)

/-- An argument. There is one device. -/
abbrev A (b : Ref sig .tc) := m ((0 : Dev nD).tc.loc b)

/-- Some contents of the prefetched table. No index map reads it. -/
abbrev table : (pcfg0 (F := Ideal)).Adm := ⟨fun | 0 => fun _ => (0 : BitVec 32), trivial⟩

theorem covers : ((cfg0 table).win 5).Covers ∧ ((cfg0 table).win 6).Covers ∧ ((cfg0 table).win 7).Covers ∧ ((cfg0 table).win 8).Covers := by
  decide +kernel

/-- The gradient from its two halves: half `k` is from `x` if the word is `k`, and from `y` if not. -/
def whole (x y : Vec Ideal S512x1024 .f32) (s : Vec Ideal S1 .i32) : Vec Ideal S1024x1024 .f32 := fun i =>
  (if BitVec.ofNat 32 ((i 0).val / 512) = s (ix1 0) then x else y) (ix2 ⟨(i 0).val % 512, Nat.mod_lt _ (by decide)⟩ (i 1))

/-- Which blocks the grid point reads and writes. -/
theorem idx : ∀ t : Fin grid0.N, cc0_transform_0 (grid0.coords t) = ![t.val, 0] ∧ cc0_transform_1 (grid0.coords t) = ![t.val % 4, 0] := by
  decide +kernel

/-- The half a grid point is in selects the block. -/
theorem pick (t : Fin grid0.N) (s : BitVec 32) (x y : Vec Ideal S128x1024 .f32) :
    k0_pay3 (grid0.coords t) s x y = if BitVec.ofNat 32 (t.val / 4) = s then x else y := by
  have h : k0_pay3 (grid0.coords t) s x y = if IntOp.cmpi .eq (BitVec.ofNat 32 (t.val / 4)) s = 1#1 then x else y := by
    rcases fin_N0 t with rfl | rfl | rfl | rfl | rfl | rfl | rfl | rfl <;> rfl
  rw [h]
  simp only [Adam.cmpi_eq]

/-- The word read from the prefetched table. -/
theorem word (s : Vec Ideal S1 .i32) (h) :
    View.readAt (Elt Ideal) (View.whole main_arg5) (Rect.unit (s := S1) ![0] ![1] inb_S1_S1_0).toLoadRect s (Shape.Idx.first h) = s (ix1 0) := by
  refine congrArg s (funext fun a => ?_)
  match a with
  | ⟨0, _⟩ => exact Subsingleton.elim (α := Fin 1) _ _

section
variable (t : Fin grid0.N) (y : S128x1024.Idx) (j : S1024x1024.Idx)
  (h0 : (j 0).val = cc0_transform_0 (grid0.coords t) 0 * 128 + 1 * (y 0).val) (h1 : (j 1).val = cc0_transform_0 (grid0.coords t) 1 * 1024 + 1 * (y 1).val)
include h0 h1

theorem half : ((win0 (adm m hO) 1).blk t).view.emb y = ((ix2 ⟨(j 0).val % 512, Nat.mod_lt _ (by decide)⟩ (j 1)) : S512x1024.Idx) := by
  rw [(idx t).1] at h0 h1
  have hy : (y 0).val < 128 := (y 0).isLt
  have e : (j 0).val = t.val * 128 + 1 * (y 0).val := h0
  funext a
  apply Fin.ext
  match a with
  | ⟨0, _⟩ => show cc0_transform_1 (grid0.coords t) 0 * 128 + 1 * (y 0).val = (j 0).val % 512
              rw [(idx t).2]; show t.val % 4 * 128 + 1 * (y 0).val = _; omega
  | ⟨1, _⟩ => show cc0_transform_1 (grid0.coords t) 1 * 1024 + 1 * (y 1).val = (j 1).val
              rw [(idx t).2]; exact h1.symm

theorem blk : ((win0 (adm m hO) 0).blk t).view.emb y = j := by
  funext a
  apply Fin.ext
  match a with
  | ⟨0, _⟩ => exact h0.symm
  | ⟨1, _⟩ => exact h1.symm

theorem read0 : View.read (Elt Ideal) (ms0_0 m hO t).view ((hs0_0 m hO t).unread (iblk m hO 0 0 t)) y = A m main_arg0 j :=
  (congrFun ((hs0_0 m hO t).read_unread _) y).trans (congrArg (A m main_arg0) (blk m hO t y j h0 h1))

theorem read1 : View.read (Elt Ideal) (ms0_1 m hO t).view ((hs0_1 m hO t).unread (iblk m hO 0 1 t)) y = A m main_arg1 (ix2 ⟨(j 0).val % 512, Nat.mod_lt _ (by decide)⟩ (j 1)) :=
  (congrFun ((hs0_1 m hO t).read_unread _) y).trans (congrArg (A m main_arg1) (half m hO t y j h0 h1))

theorem read2 : View.read (Elt Ideal) (ms0_2 m hO t).view ((hs0_2 m hO t).unread (iblk m hO 0 2 t)) y = A m main_arg2 (ix2 ⟨(j 0).val % 512, Nat.mod_lt _ (by decide)⟩ (j 1)) :=
  (congrFun ((hs0_2 m hO t).read_unread _) y).trans (congrArg (A m main_arg2) (half m hO t y j h0 h1))

theorem read3 : View.read (Elt Ideal) (ms0_3 m hO t).view ((hs0_3 m hO t).unread (iblk m hO 0 3 t)) y = A m main_arg3 j :=
  (congrFun ((hs0_3 m hO t).read_unread _) y).trans (congrArg (A m main_arg3) (blk m hO t y j h0 h1))

theorem read4 : View.read (Elt Ideal) (ms0_4 m hO t).view ((hs0_4 m hO t).unread (iblk m hO 0 4 t)) y = A m main_arg4 j :=
  (congrFun ((hs0_4 m hO t).read_unread _) y).trans (congrArg (A m main_arg4) (blk m hO t y j h0 h1))

/-- The gradient a grid point works with. -/
theorem step : k0_pay3 (grid0.coords t)
      (View.readAt (Elt Ideal) (View.whole main_arg5) (Rect.unit (s := S1) ![0] ![1] inb_S1_S1_0).toLoadRect (A m main_arg5) (Shape.Idx.first (by decide)))
      (View.read (Elt Ideal) (ms0_1 m hO t).view ((hs0_1 m hO t).unread (iblk m hO 0 1 t)))
      (View.read (Elt Ideal) (ms0_2 m hO t).view ((hs0_2 m hO t).unread (iblk m hO 0 2 t))) y = whole (A m main_arg1) (A m main_arg2) (A m main_arg5) j := by
  have hx := read1 m hO t y j h0 h1
  have hx' := read2 m hO t y j h0 h1
  rw [(idx t).1] at h0
  have hy : (y 0).val < 128 := (y 0).isLt
  have e : (j 0).val = t.val * 128 + 1 * (y 0).val := h0
  rw [pick, whole, word, show t.val / 4 = (j 0).val / 512 by omega]
  split
  · exact hx
  · exact hx'

end

theorem pay2 (i : grid0.Coords) (s : BitVec 32) (w x x' a v : Vec Ideal S128x1024 .f32) (y : S128x1024.Idx) :
    k0_pay2 w (k0_pay4 i s x x' a) (k0_pay5 v) (k0_pay6 i s x x') (FloatOps.ofBits .f32 0x3A83126F#32) y = Adam.delta (w y) (k0_pay3 i s x x' y) (a y) (v y) := rfl

theorem pay4 (i : grid0.Coords) (s : BitVec 32) (x x' a : Vec Ideal S128x1024 .f32) (y : S128x1024.Idx) :
    k0_pay4 i s x x' a y = Adam.mean (k0_pay3 i s x x' y) (a y) := rfl

theorem pay1 (i : grid0.Coords) (s : BitVec 32) (x x' v : Vec Ideal S128x1024 .f32) (y : S128x1024.Idx) :
    k0_pay1 (k0_pay5 v) (k0_pay6 i s x x') (FloatOps.ofBits .f32 0x3A83126F#32) y = Adam.square (k0_pay3 i s x x' y) (v y) := rfl

/-- The whole gradient. -/
abbrev G := whole (A m main_arg1) (A m main_arg2) (A m main_arg5)

theorem arr5 : (dats m hO 0 0).arrAt 5 (cfgM m hO).N = G m := by
  refine (dats m hO 0 0).arrAt_eq_of_covers 5 _ covers.1 fun t hf y => ?_
  blk_simp
  rw [after0_5, outsAt0]
  frame_out
  exact step m hO t y _ rfl rfl

theorem arr6 : (dats m hO 0 0).arrAt 6 (cfgM m hO).N = fun i => Adam.delta (A m main_arg0 i) (G m i) (A m main_arg3 i) (A m main_arg4 i) := by
  refine (dats m hO 0 0).arrAt_eq_of_covers 6 _ covers.2.1 fun t hf y => ?_
  blk_simp
  rw [after0_6, outsAt0]
  frame_out
  refine (pay2 _ _ _ _ _ _ _ _).trans ?_
  exact congr (congr (congr (congrArg Adam.delta (read0 m hO t y _ rfl rfl)) (step m hO t y _ rfl rfl)) (read3 m hO t y _ rfl rfl)) (read4 m hO t y _ rfl rfl)

theorem arr7 : (dats m hO 0 0).arrAt 7 (cfgM m hO).N = fun i => Adam.mean (G m i) (A m main_arg3 i) := by
  refine (dats m hO 0 0).arrAt_eq_of_covers 7 _ covers.2.2.1 fun t hf y => ?_
  blk_simp
  rw [after0_7, outsAt0]
  frame_out
  refine (pay4 _ _ _ _ _ _).trans ?_
  exact congr (congrArg Adam.mean (step m hO t y _ rfl rfl)) (read3 m hO t y _ rfl rfl)

theorem arr8 : (dats m hO 0 0).arrAt 8 (cfgM m hO).N = fun i => Adam.square (G m i) (A m main_arg4 i) := by
  refine (dats m hO 0 0).arrAt_eq_of_covers 8 _ covers.2.2.2 fun t hf y => ?_
  blk_simp
  rw [after0_8, outsAt0]
  frame_out
  refine (pay1 _ _ _ _ _ _).trans ?_
  exact congr (congrArg Adam.square (step m hO t y _ rfl rfl)) (read4 m hO t y _ rfl rfl)

/-- What the kernel leaves. -/
theorem run (g : Dev nD → PrngReg) : θ_run (defs (F := Ideal)) (onTc (τ := τ) (main (F := Ideal))) ⟨m, fun _ => 0, g⟩ fun r => ∀ c : Dev nD,
      r.2.mem ((c.tc : Thread nD τ).loc main_v0_0) = G m
      ∧ r.2.mem ((c.tc : Thread nD τ).loc main_v0_1) = (fun i => Adam.delta (A m main_arg0 i) (G m i) (A m main_arg3 i) (A m main_arg4 i))
      ∧ r.2.mem ((c.tc : Thread nD τ).loc main_v0_2) = (fun i => Adam.mean (G m i) (A m main_arg3 i))
      ∧ r.2.mem ((c.tc : Thread nD τ).loc main_v0_3) = (fun i => Adam.square (G m i) (A m main_arg4 i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (θ_run_and (run_main m g trivial) (unchanged m g trivial))
  refine ⟨?_, ?_, ?_, ?_, h.2 c⟩ <;> obtain rfl : c = 0 := Subsingleton.elim _ _
  · exact ((h.1 0).1 5).trans (arr5 m trivial)
  · exact ((h.1 0).1 6).trans (arr6 m trivial)
  · exact ((h.1 0).1 7).trans (arr7 m trivial)
  · exact ((h.1 0).1 8).trans (arr8 m trivial)

end Cert.AdamUpIdeal.Value

namespace Cert.AdamUpReferenceIdeal.Value

open Cert.AdamUpReferenceIdeal Cert.AdamUpReferenceIdeal.Gen Idealize.ShloMosaic Idealize.ShloMosaic.TcCoe Idealize.SL.Sem

/-- The reference's gradient is the same. -/
theorem ref (x y : Vec Ideal S512x1024 .f32) (s : Vec Ideal S1 .i32) :
    concatenate S1024x1024 0 [⟨S512x1024, (select (broadcastInDim S512x1024 ![] bcast_S_S512x1024 (cmpi .eq (shapeCast _ s shapeCasts_S1_S_) (constantI S_ 32 0#32))) x y)⟩,
        ⟨S512x1024, (select (broadcastInDim S512x1024 ![] bcast_S_S512x1024 (cmpi .eq (shapeCast _ s shapeCasts_S1_S_) (constantI S_ 32 1#32))) x y)⟩] concatenates_S512x1024_S512x1024_S1024x1024_d0
      = Cert.AdamUpIdeal.Value.whole x y s := by
  funext i
  rw [eq_ix2 i]
  pointwise
  have hi : (i 0).val < 1024 := (i 0).isLt
  simp only [Cert.AdamUpIdeal.Value.whole, Adam.select_eq]
  split
  · rename_i h
    simp only [show (i 0).val / 512 = 0 by omega, show (i 0).val % 512 = (i 0).val by omega]
    split <;> rfl
  · rename_i h
    simp only [show (i 0).val / 512 = 1 by omega, show (i 0).val % 512 = (i 0).val - 512 by omega]
    split <;> rfl

end Cert.AdamUpReferenceIdeal.Value

namespace Cert.Proof.AdamUp

open Idealize.ShloMosaic Idealize.SL.Sem
open Cert.AdamUpIdeal (nD τ sig main_arg0 main_arg1 main_arg2 main_arg3 main_arg4 main_arg5)
open Cert.AdamUpIdeal.Value (whole A)

theorem frame_ideal : Cert.quiescent_AdamUpIdeal := fun m ρ _ => AdamUpIdeal.Gen.frame m ρ trivial

/-- The statement of the kernel's frame with the names of its ideal reading. -/
def ReadAsIdeal [hAdamUp : AdamUpIdeal.Facts] : Prop :=
  ∀ (m : (ℓ : Loc nD τ sig) → Buf (Elt Bits) ℓ) (g : Dev nD → PrngReg), Cert.Pre_AdamUp m →
    θ_run (AdamUpIdeal.defs (F := Bits)) (onTc (τ := τ) (AdamUpIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem same : Cert.quiescent_AdamUp = ReadAsIdeal := by sl_kernel_rfl

theorem frame_kernel : Cert.quiescent_AdamUp := same.mpr fun m ρ _ => AdamUpIdeal.Gen.frame m ρ trivial

/-- The reference has no semaphore. -/
theorem no_semaphore : ∀ _ : SemLoc AdamUpReferenceIdeal.sig, False := by decide

theorem frame_reference : Cert.quiescent_AdamUpReferenceIdeal := fun m ρ _ =>
  (θ_run _ _ _).mono (fun _ h => ⟨fun c => (h c).2.2.2.2, funext fun s => (no_semaphore s.2).elim⟩) (AdamUpReferenceIdeal.Value.run m ρ)

/-- Both make the same gradient of the two halves, and the rest is the same entry by entry. -/
theorem algebraic : Cert.algebraic_AdamUpIdeal_AdamUpReferenceIdeal := by
  intro m g m' g' _ hag
  let G := whole (A m main_arg1) (A m main_arg2) (A m main_arg5)
  refine ⟨fun _ => G, fun _ i => Adam.delta (A m main_arg0 i) (G i) (A m main_arg3 i) (A m main_arg4 i), fun _ i => Adam.mean (G i) (A m main_arg3 i),
    fun _ i => Adam.square (G i) (A m main_arg4 i), AdamUpIdeal.Value.run m g, ?_⟩
  refine (θ_run _ _ _).mono (fun r h c => ?_) (AdamUpReferenceIdeal.Value.run m' g')
  obtain ⟨e0, e1, e2, e3, e4, e5⟩ := hag c
  obtain ⟨h0, h1, h2, h3, h⟩ := h c
  obtain rfl : c = 0 := Subsingleton.elim _ _
  rw [AdamUpReferenceIdeal.Value.ref, e1, e2, e5] at h0
  rw [AdamUpReferenceIdeal.Value.ref, e0, e1, e2, e3, e4, e5] at h1
  rw [AdamUpReferenceIdeal.Value.ref, e1, e2, e3, e5] at h2
  rw [AdamUpReferenceIdeal.Value.ref, e1, e2, e4, e5] at h3
  exact ⟨h0, h1.trans rfl, h2.trans rfl, h3.trans rfl, h⟩

end Cert.Proof.AdamUp

end
-- ==== Proof.Mm.AdamDown.lean ====
module

public import proofs.«01_k».proof.Proof.Gen.AdamDown
public import proofs.«01_k».proof.Proof.Gen.AdamDownIdeal
public import proofs.«01_k».proof.Proof.Gen.AdamDownReferenceIdeal
public import proofs.«01_k».proof.Proof.Mm.AdamUp

@[expose] public section

set_option maxRecDepth 16384

noncomputable section

/-! ## The step of a weight of the same shape as in `AdamUp`: the programs are the same but for their names, and so are the statements -/

namespace Cert.Proof.AdamDown

theorem same_kernel : Cert.quiescent_AdamDown = Cert.quiescent_AdamUp := by sl_kernel_rfl

theorem same_ideal : Cert.quiescent_AdamDownIdeal = Cert.quiescent_AdamUpIdeal := by sl_kernel_rfl

theorem same_reference : Cert.quiescent_AdamDownReferenceIdeal = Cert.quiescent_AdamUpReferenceIdeal := by sl_kernel_rfl

theorem same_algebraic : Cert.algebraic_AdamDownIdeal_AdamDownReferenceIdeal = Cert.algebraic_AdamUpIdeal_AdamUpReferenceIdeal := by sl_kernel_rfl

theorem frame_kernel : Cert.quiescent_AdamDown := same_kernel.mpr AdamUp.frame_kernel

theorem frame_ideal : Cert.quiescent_AdamDownIdeal := same_ideal.mpr AdamUp.frame_ideal

theorem frame_reference : Cert.quiescent_AdamDownReferenceIdeal := same_reference.mpr AdamUp.frame_reference

theorem algebraic : Cert.algebraic_AdamDownIdeal_AdamDownReferenceIdeal := same_algebraic.mpr AdamUp.algebraic

end Cert.Proof.AdamDown

end
-- ==== Proof.Mm.AdamIn.lean ====
module

public import proofs.«01_k».proof.Proof.Gen.AdamIn
public import proofs.«01_k».proof.Proof.Gen.AdamInIdeal.Frame
public import proofs.«01_k».proof.Proof.Gen.AdamInReferenceIdeal.Run
public import proofs.«01_k».proof.Proof.Mm.Step

@[expose] public section

set_option maxRecDepth 16384

noncomputable section

/-! ## The optimiser's step of the in projection, whose gradient comes in two halves along the other axis -/

namespace Cert.AdamInIdeal.Value

open Cert.AdamInIdeal Cert.AdamInIdeal.Gen Idealize.ShloMosaic Idealize.ShloMosaic.TcCoe Idealize.SL.Sem

variable (m : (ℓ : Loc nD τ sig) → Buf (Elt Ideal) ℓ) (hO : Ok m)

/-- An argument. There is one device. -/
abbrev A (b : Ref sig .tc) := m ((0 : Dev nD).tc.loc b)

/-- Some contents of the prefetched table. No index map reads it. -/
abbrev table : (pcfg0 (F := Ideal)).Adm := ⟨fun | 0 => fun _ => (0 : BitVec 32), trivial⟩

theorem covers : ((cfg0 table).win 5).Covers ∧ ((cfg0 table).win 6).Covers ∧ ((cfg0 table).win 7).Covers ∧ ((cfg0 table).win 8).Covers := by
  decide +kernel

/-- The gradient from its two halves: half `k` is from `x` if the word is `k`, and from `y` if not. -/
def whole (x y : Vec Ideal S2310x512 .f32) (s : Vec Ideal S1 .i32) : Vec Ideal S2310x1024 .f32 := fun i =>
  (if BitVec.ofNat 32 ((i 1).val / 512) = s (ix1 0) then x else y) (ix2 (i 0) ⟨(i 1).val % 512, Nat.mod_lt _ (by decide)⟩)

/-- Which blocks the grid point reads and writes. -/
theorem idx : ∀ t : Fin grid0.N, cc0_transform_0 (grid0.coords t) = ![0, t.val] ∧ cc0_transform_1 (grid0.coords t) = ![0, t.val % 4] := by
  decide +kernel

/-- The half a grid point is in selects the block. -/
theorem pick (t : Fin grid0.N) (s : BitVec 32) (x y : Vec Ideal S2310x128 .f32) :
    k0_pay3 (grid0.coords t) s x y = if BitVec.ofNat 32 (t.val / 4) = s then x else y := by
  have h : k0_pay3 (grid0.coords t) s x y = if IntOp.cmpi .eq (BitVec.ofNat 32 (t.val / 4)) s = 1#1 then x else y := by
    rcases fin_N0 t with rfl | rfl | rfl | rfl | rfl | rfl | rfl | rfl <;> rfl
  rw [h]
  simp only [Adam.cmpi_eq]

/-- The word read from the prefetched table. -/
theorem word (s : Vec Ideal S1 .i32) (h) :
    View.readAt (Elt Ideal) (View.whole main_arg5) (Rect.unit (s := S1) ![0] ![1] inb_S1_S1_0).toLoadRect s (Shape.Idx.first h) = s (ix1 0) := by
  refine congrArg s (funext fun a => ?_)
  match a with
  | ⟨0, _⟩ => exact Subsingleton.elim (α := Fin 1) _ _

section
variable (t : Fin grid0.N) (y : S2310x128.Idx) (j : S2310x1024.Idx)
  (h0 : (j 0).val = cc0_transform_0 (grid0.coords t) 0 * 2310 + 1 * (y 0).val) (h1 : (j 1).val = cc0_transform_0 (grid0.coords t) 1 * 128 + 1 * (y 1).val)
include h0 h1

theorem half : ((win0 (adm m hO) 1).blk t).view.emb y = ((ix2 (j 0) ⟨(j 1).val % 512, Nat.mod_lt _ (by decide)⟩) : S2310x512.Idx) := by
  rw [(idx t).1] at h0 h1
  have hy : (y 1).val < 128 := (y 1).isLt
  have e : (j 1).val = t.val * 128 + 1 * (y 1).val := h1
  funext a
  apply Fin.ext
  match a with
  | ⟨0, _⟩ => show cc0_transform_1 (grid0.coords t) 0 * 2310 + 1 * (y 0).val = (j 0).val
              rw [(idx t).2]; exact h0.symm
  | ⟨1, _⟩ => show cc0_transform_1 (grid0.coords t) 1 * 128 + 1 * (y 1).val = (j 1).val % 512
              rw [(idx t).2]; show t.val % 4 * 128 + 1 * (y 1).val = _; omega

theorem blk : ((win0 (adm m hO) 0).blk t).view.emb y = j := by
  funext a
  apply Fin.ext
  match a with
  | ⟨0, _⟩ => exact h0.symm
  | ⟨1, _⟩ => exact h1.symm

theorem read0 : View.read (Elt Ideal) (ms0_0 m hO t).view ((hs0_0 m hO t).unread (iblk m hO 0 0 t)) y = A m main_arg0 j :=
  (congrFun ((hs0_0 m hO t).read_unread _) y).trans (congrArg (A m main_arg0) (blk m hO t y j h0 h1))

theorem read1 : View.read (Elt Ideal) (ms0_1 m hO t).view ((hs0_1 m hO t).unread (iblk m hO 0 1 t)) y = A m main_arg1 (ix2 (j 0) ⟨(j 1).val % 512, Nat.mod_lt _ (by decide)⟩) :=
  (congrFun ((hs0_1 m hO t).read_unread _) y).trans (congrArg (A m main_arg1) (half m hO t y j h0 h1))

theorem read2 : View.read (Elt Ideal) (ms0_2 m hO t).view ((hs0_2 m hO t).unread (iblk m hO 0 2 t)) y = A m main_arg2 (ix2 (j 0) ⟨(j 1).val % 512, Nat.mod_lt _ (by decide)⟩) :=
  (congrFun ((hs0_2 m hO t).read_unread _) y).trans (congrArg (A m main_arg2) (half m hO t y j h0 h1))

theorem read3 : View.read (Elt Ideal) (ms0_3 m hO t).view ((hs0_3 m hO t).unread (iblk m hO 0 3 t)) y = A m main_arg3 j :=
  (congrFun ((hs0_3 m hO t).read_unread _) y).trans (congrArg (A m main_arg3) (blk m hO t y j h0 h1))

theorem read4 : View.read (Elt Ideal) (ms0_4 m hO t).view ((hs0_4 m hO t).unread (iblk m hO 0 4 t)) y = A m main_arg4 j :=
  (congrFun ((hs0_4 m hO t).read_unread _) y).trans (congrArg (A m main_arg4) (blk m hO t y j h0 h1))

/-- The gradient a grid point works with. -/
theorem step : k0_pay3 (grid0.coords t)
      (View.readAt (Elt Ideal) (View.whole main_arg5) (Rect.unit (s := S1) ![0] ![1] inb_S1_S1_0).toLoadRect (A m main_arg5) (Shape.Idx.first (by decide)))
      (View.read (Elt Ideal) (ms0_1 m hO t).view ((hs0_1 m hO t).unread (iblk m hO 0 1 t)))
      (View.read (Elt Ideal) (ms0_2 m hO t).view ((hs0_2 m hO t).unread (iblk m hO 0 2 t))) y = whole (A m main_arg1) (A m main_arg2) (A m main_arg5) j := by
  have hx := read1 m hO t y j h0 h1
  have hx' := read2 m hO t y j h0 h1
  rw [(idx t).1] at h1
  have hy : (y 1).val < 128 := (y 1).isLt
  have e : (j 1).val = t.val * 128 + 1 * (y 1).val := h1
  rw [pick, whole, word, show t.val / 4 = (j 1).val / 512 by omega]
  split
  · exact hx
  · exact hx'

end

theorem pay2 (i : grid0.Coords) (s : BitVec 32) (w x x' a v : Vec Ideal S2310x128 .f32) (y : S2310x128.Idx) :
    k0_pay2 w (k0_pay4 i s x x' a) (k0_pay5 v) (k0_pay6 i s x x') (FloatOps.ofBits .f32 0x3A83126F#32) y = Adam.delta (w y) (k0_pay3 i s x x' y) (a y) (v y) := rfl

theorem pay4 (i : grid0.Coords) (s : BitVec 32) (x x' a : Vec Ideal S2310x128 .f32) (y : S2310x128.Idx) :
    k0_pay4 i s x x' a y = Adam.mean (k0_pay3 i s x x' y) (a y) := rfl

theorem pay1 (i : grid0.Coords) (s : BitVec 32) (x x' v : Vec Ideal S2310x128 .f32) (y : S2310x128.Idx) :
    k0_pay1 (k0_pay5 v) (k0_pay6 i s x x') (FloatOps.ofBits .f32 0x3A83126F#32) y = Adam.square (k0_pay3 i s x x' y) (v y) := rfl

/-- The whole gradient. -/
abbrev G := whole (A m main_arg1) (A m main_arg2) (A m main_arg5)

theorem arr5 : (dats m hO 0 0).arrAt 5 (cfgM m hO).N = G m := by
  refine (dats m hO 0 0).arrAt_eq_of_covers 5 _ covers.1 fun t hf y => ?_
  blk_simp
  rw [after0_5, outsAt0]
  frame_out
  exact step m hO t y _ rfl rfl

theorem arr6 : (dats m hO 0 0).arrAt 6 (cfgM m hO).N = fun i => Adam.delta (A m main_arg0 i) (G m i) (A m main_arg3 i) (A m main_arg4 i) := by
  refine (dats m hO 0 0).arrAt_eq_of_covers 6 _ covers.2.1 fun t hf y => ?_
  blk_simp
  rw [after0_6, outsAt0]
  frame_out
  refine (pay2 _ _ _ _ _ _ _ _).trans ?_
  exact congr (congr (congr (congrArg Adam.delta (read0 m hO t y _ rfl rfl)) (step m hO t y _ rfl rfl)) (read3 m hO t y _ rfl rfl)) (read4 m hO t y _ rfl rfl)

theorem arr7 : (dats m hO 0 0).arrAt 7 (cfgM m hO).N = fun i => Adam.mean (G m i) (A m main_arg3 i) := by
  refine (dats m hO 0 0).arrAt_eq_of_covers 7 _ covers.2.2.1 fun t hf y => ?_
  blk_simp
  rw [after0_7, outsAt0]
  frame_out
  refine (pay4 _ _ _ _ _ _).trans ?_
  exact congr (congrArg Adam.mean (step m hO t y _ rfl rfl)) (read3 m hO t y _ rfl rfl)

theorem arr8 : (dats m hO 0 0).arrAt 8 (cfgM m hO).N = fun i => Adam.square (G m i) (A m main_arg4 i) := by
  refine (dats m hO 0 0).arrAt_eq_of_covers 8 _ covers.2.2.2 fun t hf y => ?_
  blk_simp
  rw [after0_8, outsAt0]
  frame_out
  refine (pay1 _ _ _ _ _ _).trans ?_
  exact congr (congrArg Adam.square (step m hO t y _ rfl rfl)) (read4 m hO t y _ rfl rfl)

/-- What the kernel leaves. -/
theorem run (g : Dev nD → PrngReg) : θ_run (defs (F := Ideal)) (onTc (τ := τ) (main (F := Ideal))) ⟨m, fun _ => 0, g⟩ fun r => ∀ c : Dev nD,
      r.2.mem ((c.tc : Thread nD τ).loc main_v0_0) = G m
      ∧ r.2.mem ((c.tc : Thread nD τ).loc main_v0_1) = (fun i => Adam.delta (A m main_arg0 i) (G m i) (A m main_arg3 i) (A m main_arg4 i))
      ∧ r.2.mem ((c.tc : Thread nD τ).loc main_v0_2) = (fun i => Adam.mean (G m i) (A m main_arg3 i))
      ∧ r.2.mem ((c.tc : Thread nD τ).loc main_v0_3) = (fun i => Adam.square (G m i) (A m main_arg4 i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (θ_run_and (run_main m g trivial) (unchanged m g trivial))
  refine ⟨?_, ?_, ?_, ?_, h.2 c⟩ <;> obtain rfl : c = 0 := Subsingleton.elim _ _
  · exact ((h.1 0).1 5).trans (arr5 m trivial)
  · exact ((h.1 0).1 6).trans (arr6 m trivial)
  · exact ((h.1 0).1 7).trans (arr7 m trivial)
  · exact ((h.1 0).1 8).trans (arr8 m trivial)

end Cert.AdamInIdeal.Value

namespace Cert.AdamInReferenceIdeal.Value

open Cert.AdamInReferenceIdeal Cert.AdamInReferenceIdeal.Gen Idealize.ShloMosaic Idealize.ShloMosaic.TcCoe Idealize.SL.Sem

/-- The reference's gradient is the same. -/
theorem ref (x y : Vec Ideal S2310x512 .f32) (s : Vec Ideal S1 .i32) :
    concatenate S2310x1024 1 [⟨S2310x512, (select (broadcastInDim S2310x512 ![] bcast_S_S2310x512 (cmpi .eq (shapeCast _ s shapeCasts_S1_S_) (constantI S_ 32 0#32))) x y)⟩,
        ⟨S2310x512, (select (broadcastInDim S2310x512 ![] bcast_S_S2310x512 (cmpi .eq (shapeCast _ s shapeCasts_S1_S_) (constantI S_ 32 1#32))) x y)⟩] concatenates_S2310x512_S2310x512_S2310x1024_d1
      = Cert.AdamInIdeal.Value.whole x y s := by
  funext i
  rw [eq_ix2 i]
  pointwise
  have hi : (i 1).val < 1024 := (i 1).isLt
  simp only [Cert.AdamInIdeal.Value.whole, Adam.select_eq]
  split
  · rename_i h
    simp only [show (i 1).val / 512 = 0 by omega, show (i 1).val % 512 = (i 1).val by omega]
    split <;> rfl
  · rename_i h
    simp only [show (i 1).val / 512 = 1 by omega, show (i 1).val % 512 = (i 1).val - 512 by omega]
    split <;> rfl

end Cert.AdamInReferenceIdeal.Value

namespace Cert.Proof.AdamIn

open Idealize.ShloMosaic Idealize.SL.Sem
open Cert.AdamInIdeal (nD τ sig main_arg0 main_arg1 main_arg2 main_arg3 main_arg4 main_arg5)
open Cert.AdamInIdeal.Value (whole A)

theorem frame_ideal : Cert.quiescent_AdamInIdeal := fun m ρ _ => AdamInIdeal.Gen.frame m ρ trivial

/-- The statement of the kernel's frame with the names of its ideal reading. -/
def ReadAsIdeal [hAdamIn : AdamInIdeal.Facts] : Prop :=
  ∀ (m : (ℓ : Loc nD τ sig) → Buf (Elt Bits) ℓ) (g : Dev nD → PrngReg), Cert.Pre_AdamIn m →
    θ_run (AdamInIdeal.defs (F := Bits)) (onTc (τ := τ) (AdamInIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem same : Cert.quiescent_AdamIn = ReadAsIdeal := by sl_kernel_rfl

theorem frame_kernel : Cert.quiescent_AdamIn := same.mpr fun m ρ _ => AdamInIdeal.Gen.frame m ρ trivial

/-- The reference has no semaphore. -/
theorem no_semaphore : ∀ _ : SemLoc AdamInReferenceIdeal.sig, False := by decide

theorem frame_reference : Cert.quiescent_AdamInReferenceIdeal := fun m ρ _ =>
  (θ_run _ _ _).mono (fun _ h => ⟨fun c => (h c).2.2.2.2, funext fun s => (no_semaphore s.2).elim⟩) (AdamInReferenceIdeal.Value.run m ρ)

/-- Both make the same gradient of the two halves, and the rest is the same entry by entry. -/
theorem algebraic : Cert.algebraic_AdamInIdeal_AdamInReferenceIdeal := by
  intro m g m' g' _ hag
  let G := whole (A m main_arg1) (A m main_arg2) (A m main_arg5)
  refine ⟨fun _ => G, fun _ i => Adam.delta (A m main_arg0 i) (G i) (A m main_arg3 i) (A m main_arg4 i), fun _ i => Adam.mean (G i) (A m main_arg3 i),
    fun _ i => Adam.square (G i) (A m main_arg4 i), AdamInIdeal.Value.run m g, ?_⟩
  refine (θ_run _ _ _).mono (fun r h c => ?_) (AdamInReferenceIdeal.Value.run m' g')
  obtain ⟨e0, e1, e2, e3, e4, e5⟩ := hag c
  obtain ⟨h0, h1, h2, h3, h⟩ := h c
  obtain rfl : c = 0 := Subsingleton.elim _ _
  rw [AdamInReferenceIdeal.Value.ref, e1, e2, e5] at h0
  rw [AdamInReferenceIdeal.Value.ref, e0, e1, e2, e3, e4, e5] at h1
  rw [AdamInReferenceIdeal.Value.ref, e1, e2, e3, e5] at h2
  rw [AdamInReferenceIdeal.Value.ref, e1, e2, e4, e5] at h3
  exact ⟨h0, h1.trans rfl, h2.trans rfl, h3.trans rfl, h⟩

end Cert.Proof.AdamIn

end
-- ==== Proof.Mm.DX.lean ====
module

public import proofs.«01_k».proof.Proof.Gen.DX
public import proofs.«01_k».proof.Proof.Gen.DXIdeal.Value
public import proofs.«01_k».proof.Proof.Gen.DXReferenceIdeal.Run
public import proofs.«01_k».proof.Proof.Mm.Sums

@[expose] public section

set_option maxRecDepth 16384

noncomputable section

/-! ## The gradient of the step's input: the first norm's gradient and the residual's -/

namespace Cert.DXIdeal.Value

open Cert.DXIdeal Cert.DXIdeal.Gen Idealize.ShloMosaic Idealize.ShloMosaic.TcCoe Idealize.SL.Sem

section
variable (x d g : Fin 1024 → EReal)

/-- A token's mean square, and the small constant. -/
def ms : EReal := Ideal.div (∑ k, x k * x k) (Ideal.ofBits .f32 0x44800000#32) + Ideal.ofBits .f32 0x358637BD#32

/-- The gradient of each of a token's squares. -/
def dsq : EReal :=
  Ideal.div ((∑ k, x k * (d k * g k)) * (Ideal.ofBits .f32 0xBF000000#32 * Ideal.div (Ideal.rsqrt (ms x)) (ms x))) (Ideal.ofBits .f32 0x44800000#32)

/-- The norm's gradient at a token, and what the residual adds. -/
def dxAt (e : EReal) (l : Fin 1024) : EReal := ((d l * g l * Ideal.rsqrt (ms x) + x l * dsq x d g) + dsq x d g * x l) + e

/-- What a token adds to the gradient of the norm's weight. -/
def dgAt (l : Fin 1024) : EReal := x l * Ideal.rsqrt (ms x) * d l

end

/-- A row of an array. -/
abbrev row {n : ℕ} (x : Vec Ideal ⟨2, ![n, 1024]⟩ .f32) (r : Fin n) : Fin 1024 → EReal := fun k => x (ix2 r k)

/-- The gradient of the step's input. -/
def dx (x : Vec Ideal S4096x1024 .f32) (g : Vec Ideal S1x1024 .f32) (d e : Vec Ideal S4096x1024 .f32) : Vec Ideal S4096x1024 .f32 := fun i =>
  dxAt (row x (i 0)) (row d (i 0)) (row g 0) (e i) (i 1)

/-- The gradient of the norm's weight: a sum over the tokens. -/
def dg (x d : Vec Ideal S4096x1024 .f32) : Vec Ideal S1x1024 .f32 := fun i => ∑ r : Fin 4096, dgAt (row x r) (row d r) (i 1)

theorem pay5_at (a d e : Vec Ideal S512x1024 .f32) (g : Vec Ideal S1x1024 .f32) (r : Fin 512) (l : Fin 1024) :
    (k0_pay5 a g d e (ix2 r l) : EReal) = dxAt (row a r) (row d r) (row g 0) (e (ix2 r l)) l := by
  pointwise [k0_pay5, k0_pay3, k0_pay2]
  simp only [Finset.univ_unique, Finset.sum_singleton]
  rfl

theorem pay4_at (a d : Vec Ideal S512x1024 .f32) (r : Fin 1) (l : Fin 1024) :
    (k0_pay4 a d (ix2 r l) : EReal) = ∑ k : Fin 512, dgAt (row a k) (row d k) l := by
  pointwise [k0_pay4, k0_pay3, k0_pay2]
  rfl

variable (m : (ℓ : Loc nD τ sig) → Buf (Elt Ideal) ℓ) (c : Dev nD)

/-- Which blocks the grid point reads and writes. -/
theorem idx : ∀ t : Fin cfg0.N, win0_0.index t = ![t.val, 0] ∧ win0_1.index t = ![0, 0] ∧ win0_2.index t = ![t.val, 0] ∧ win0_3.index t = ![t.val, 0] ∧
    win0_4.index t = ![t.val, 0] ∧ win0_5.index t = ![0, 0] := by decide +kernel

/-- A token of the grid point's block. -/
def tok (t : Fin cfg0.N) (r : Fin 512) : Fin 4096 := ⟨t.val * 512 + r.val, by have := t.isLt; have : cfg0.N = 8 := N_0; omega⟩

theorem row0 (t : Fin cfg0.N) (r : Fin 512) : row (iblk m c 0 t) r = row (m ((c.tc : Thread nD τ).loc main_arg0)) (tok t r) := by
  funext k; show (iblk m c 0 t (ix2 r k) : EReal) = m ((c.tc : Thread nD τ).loc main_arg0) (ix2 (tok t r) k); simp only [tok]; blk_ext [iblk, V, (idx _).1]
theorem row1 (t : Fin cfg0.N) (r : Fin 1) : row (iblk m c 1 t) r = row (m ((c.tc : Thread nD τ).loc main_arg1)) 0 := by
  funext k; show (iblk m c 1 t (ix2 r k) : EReal) = m ((c.tc : Thread nD τ).loc main_arg1) (ix2 0 k); blk_ext [iblk, V, (idx _).2.1]
theorem row2 (t : Fin cfg0.N) (r : Fin 512) : row (iblk m c 2 t) r = row (m ((c.tc : Thread nD τ).loc main_arg2)) (tok t r) := by
  funext k; show (iblk m c 2 t (ix2 r k) : EReal) = m ((c.tc : Thread nD τ).loc main_arg2) (ix2 (tok t r) k); simp only [tok]; blk_ext [iblk, V, (idx _).2.2.1]

theorem out_dx (t : Fin cfg0.N) : (outsAt0 m c t.val t.isLt).1 = k0_pay5 (iblk m c 0 t) (iblk m c 1 t) (iblk m c 2 t) (iblk m c 3 t) := by
  by_cases h : 1 ≤ t.val
  · rw [outsAt0_B m c t (by have := t.isLt; have : cfg0.N = 8 := N_0; omega) h]
    frame_out
  · rw [outsAt0_A m c t (by omega) h]
    frame_out

/-- The array after the call. -/
theorem arr : (dats m 0 c).arrAt 4 cfg0.N = dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4, out_dx]
  simp only [read_unread_whole]
  idx_vars y
  refine (pay5_at _ _ _ _ y0 y1).trans ?_
  rw [row0, row1, row2]
  have r0 : ((View.whole main_v0_0).slice (win0_4.rect t)).emb (ix2 y0 y1) = ix2 (tok t y0) y1 := by
    blk_ext [tok, (idx t).2.2.2.2.1]
  rw [r0]
  refine congrArg (dxAt _ _ _ · _) ?_
  show (_ : EReal) = _
  simp only [tok]; blk_ext [iblk, V, (idx _).2.2.2.1]

/-- What a token adds to the weight's gradient, the tokens numbered by all the numbers. -/
def add (l : Fin 1024) (k : ℕ) : EReal := if h : k < 4096 then dgAt (row (m ((c.tc : Thread nD τ).loc main_arg0)) ⟨k, h⟩) (row (m ((c.tc : Thread nD τ).loc main_arg2)) ⟨k, h⟩) l else 0

theorem pay4_add (t : Fin cfg0.N) (r : Fin 1) (l : Fin 1024) : (k0_pay4 (iblk m c 0 t) (iblk m c 2 t) (ix2 r l) : EReal) = ∑ k ∈ Finset.range 512, add m c l (t.val * 512 + k) := by
  rw [pay4_at, Finset.sum_range]
  refine Finset.sum_congr rfl fun k _ => ?_
  rw [row0, row2]
  have h : t.val * 512 + k.val < 4096 := (tok t k).isLt
  rw [add, dif_pos h]
  rfl

/-- The sum so far, after each grid point. -/
theorem out_dg (r : Fin 1) (l : Fin 1024) : ∀ (n : ℕ) (h : n < cfg0.N), ((outsAt0 m c n h).2 (ix2 r l) : EReal) = ∑ k ∈ Finset.range ((n + 1) * 512), add m c l k
  | 0, h => by
    have e := outsAt0_A m c ⟨0, h⟩ rfl (by show ¬ 1 ≤ 0; omega)
    dsimp only at e
    rw [e]
    refine Eq.trans ?_ ((pay4_add m c ⟨0, h⟩ r l).trans (by simp only [zero_mul, zero_add, one_mul]))
    frame_out
  | n + 1, h => by
    have e := outsAt0_B m c ⟨n + 1, h⟩ (by have : cfg0.N = 8 := N_0; show ¬ (n + 1) % 8 = 0; omega) (by show 1 ≤ n + 1; omega)
    dsimp only at e
    rw [e]
    rw [Nat.succ_mul, Finset.sum_range_add, ← pay4_add m c ⟨n + 1, h⟩ r l, ← out_dg r l n (by omega)]
    frame_out
    pointwise [k0_pay1]
    rfl

/-- The array of the weight's gradient after the call. -/
theorem arrG : (dats m 0 c).arrAt 5 cfg0.N = dg (m ((c.tc : Thread nD τ).loc main_arg0)) (m ((c.tc : Thread nD τ).loc main_arg2)) := by
  refine (dats m 0 c).arrAt_eq_of_covers 5 _ (by decide +kernel) fun t hf y => ?_
  have h7 : t.val = 7 := by revert hf; revert t; decide +kernel
  blk_simp
  rw [after0_5]
  simp only [read_unread_whole]
  idx_vars y
  refine (out_dg m c y0 y1 t.val t.isLt).trans ?_
  rw [h7, Finset.sum_range]
  have r0 : (((View.whole main_v0_1).slice (win0_5.rect t)).emb (ix2 y0 y1)) 1 = y1 := Fin.ext (by blk_simp [(idx t).2.2.2.2.2])
  simp only [dg, r0]
  refine Finset.sum_congr rfl fun k _ => ?_
  rw [add, dif_pos k.isLt]

end Cert.DXIdeal.Value

namespace Cert.DXReferenceIdeal.Value

open Cert.DXReferenceIdeal Cert.DXReferenceIdeal.Gen Idealize.ShloMosaic Idealize.ShloMosaic.TcCoe Idealize.SL.Sem

variable (x : FVec Ideal S4096x1024 .f32) (g : FVec Ideal S1x1024 .f32) (d e : FVec Ideal S4096x1024 .f32)

/-- The reference's mean squares, and the small constant. -/
abbrev rms : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The reference's gradients of the squares. -/
abbrev rdsq : FVec Ideal S4096x1024 .f32 :=
  broadcastInDim S4096x1024 ![0] bcast_S4096_S4096x1024_0 (Host.reduceAdd (Host.divf (mulf (shapeCast S4096x1 (Host.reduceAdd (mulf x (mulf d (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (rms x)) (rms x)))) (broadcastInDim S4096x1 ![] bcast_S_S4096x1 (constant S_ .f32 0x44800000#32))) (constant S_ .f32 0x00000000#32) reducesTo_S4096x1_S4096_d1 h_S_)

/-- The reference's arrays are the same. -/
theorem ref : (addf (addf (addf (mulf (mulf d (broadcastInDim S4096x1024 ![0, 1] bcast_S1x1024_S4096x1024_0_1 g)) (broadcastInDim S4096x1024 ![0, 1] bcast_S4096x1_S4096x1024_0_1 (Host.rsqrt (rms x)))) (mulf x (rdsq x g d))) (mulf (rdsq x g d) x)) e : FVec Ideal S4096x1024 .f32) = Cert.DXIdeal.Value.dx x g d e := by
  funext i
  obtain ⟨p, q, rfl⟩ : ∃ p q, i = ix2 p q := ⟨_, _, eq_ix2 i⟩
  pointwise
  simp only [Finset.univ_unique, Finset.sum_singleton]
  rfl

theorem refG : (shapeCast S1x1024 (Host.reduceAdd (mulf (mulf x (broadcastInDim S4096x1024 ![0, 1] bcast_S4096x1_S4096x1024_0_1 (Host.rsqrt (rms x)))) d) (constant S_ .f32 0x00000000#32) reducesTo_S4096x1024_S1024_d0 h_S_) shapeCasts_S1024_S1x1024 : FVec Ideal S1x1024 .f32) = Cert.DXIdeal.Value.dg x d := by
  funext i
  obtain ⟨p, q, rfl⟩ : ∃ p q, i = ix2 p q := ⟨_, _, eq_ix2 i⟩
  pointwise
  rfl

end Cert.DXReferenceIdeal.Value

namespace Cert.Proof.DX

open Idealize.ShloMosaic Idealize.SL.Sem
open Cert.DXIdeal (nD τ sig main_arg0 main_arg1 main_arg2 main_arg3)

theorem frame_ideal : Cert.quiescent_DXIdeal := fun m ρ _ => DXIdeal.Gen.frame m ρ

/-- The statement of the kernel's frame with the names of its ideal reading. -/
def ReadAsIdeal [hDX : DXIdeal.Facts] : Prop :=
  ∀ (m : (ℓ : Loc nD τ sig) → Buf (Elt Bits) ℓ) (g : Dev nD → PrngReg), Cert.Pre_DX m →
    θ_run (DXIdeal.defs (F := Bits)) (onTc (τ := τ) (DXIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem same : Cert.quiescent_DX = ReadAsIdeal := by sl_kernel_rfl

theorem frame_kernel : Cert.quiescent_DX := same.mpr fun m ρ _ => DXIdeal.Gen.frame m ρ

/-- The reference has no semaphore. -/
theorem no_semaphore : ∀ _ : SemLoc DXReferenceIdeal.sig, False := by decide

theorem frame_reference : Cert.quiescent_DXReferenceIdeal := fun m ρ _ =>
  (θ_run _ _ _).mono (fun _ h => ⟨fun c => (h c).2.2, funext fun s => (no_semaphore s.2).elim⟩) (DXReferenceIdeal.Value.run m ρ)

theorem algebraic : Cert.algebraic_DXIdeal_DXReferenceIdeal := by
  intro m g m' g' _ hag
  refine ⟨fun c => DXIdeal.Value.dx (m ((c.tc : Thread nD τ).loc main_arg0)) (m ((c.tc : Thread nD τ).loc main_arg1)) (m ((c.tc : Thread nD τ).loc main_arg2)) (m ((c.tc : Thread nD τ).loc main_arg3)),
    fun c => DXIdeal.Value.dg (m ((c.tc : Thread nD τ).loc main_arg0)) (m ((c.tc : Thread nD τ).loc main_arg2)), ?_, ?_⟩
  · exact (θ_run _ _ _).mono (fun r h c => ⟨(h c).1.trans (DXIdeal.Value.arr m c), (h c).2.1.trans (DXIdeal.Value.arrG m c), (h c).2.2⟩) (DXIdeal.Value.run_blocks m g)
  · refine (θ_run _ _ _).mono (fun r h c => ?_) (DXReferenceIdeal.Value.run m' g')
    obtain ⟨e0, e1, e2, e3⟩ := hag c
    refine ⟨(h c).1.trans ?_, (h c).2.1.trans ?_, (h c).2.2⟩
    · rw [e0, e1, e2, e3]
      exact DXReferenceIdeal.Value.ref _ _ _ _
    · rw [e0, e2]
      exact DXReferenceIdeal.Value.refG _ _

end Cert.Proof.DX

end
-- ==== Proof.Mm.Norm.lean ====
module

public import proofs.«01_k».proof.Proof.Gen.Norm
public import proofs.«01_k».proof.Proof.Gen.NormIdeal.Value
public import proofs.«01_k».proof.Proof.Gen.NormReferenceIdeal.Run
public import proofs.«01_k».proof.Proof.Mm.DX

@[expose] public section

set_option maxRecDepth 16384

noncomputable section

/-! ## A norm: of the step's input, and of the MLP's -/

namespace Cert.NormIdeal.Value

open Cert.NormIdeal Cert.NormIdeal.Gen Idealize.ShloMosaic Idealize.ShloMosaic.TcCoe Idealize.SL.Sem
open Cert.DXIdeal.Value (ms row)

/-- The array the call is to leave, entry by entry. -/
def norm (x : Vec Ideal S4096x1024 .f32) (g : Vec Ideal S1x1024 .f32) : Vec Ideal S4096x1024 .bf16 := fun i =>
  ((row x (i 0) (i 1) * Ideal.rsqrt (ms (row x (i 0)))) * row g 0 (i 1) : EReal)

variable (m : (ℓ : Loc nD τ sig) → Buf (Elt Ideal) ℓ) (c : Dev nD)

/-- Which blocks the grid point reads and writes. -/
theorem idx : ∀ t : Fin cfg0.N, win0_0.index t = ![t.val, 0] ∧ win0_1.index t = ![0, 0] ∧ win0_2.index t = ![t.val, 0] := by decide +kernel

/-- The array after the call, block by block. -/
theorem arr : (dats m 0 c).arrAt 2 cfg0.N = norm (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  idx_vars y
  pointwise [k0_pay1]
  simp only [norm, ms, row]
  show (_ : EReal) = _
  refine congrArg₂ (· * ·) (congrArg₂ (· * ·) ?_ (congrArg (fun s : EReal => Ideal.rsqrt (Ideal.div s _ + _)) (Finset.sum_congr rfl fun x _ => congrArg (fun s : EReal => s * s) ?_))) ?_
  all_goals blk_ext [iblk, V, (idx _).1, (idx _).2.1, (idx _).2.2]

end Cert.NormIdeal.Value

namespace Cert.NormReferenceIdeal.Value

open Cert.NormReferenceIdeal Cert.NormReferenceIdeal.Gen Idealize.ShloMosaic Idealize.ShloMosaic.TcCoe Idealize.SL.Sem

/-- The reference's array is the same. -/
theorem ref (x : FVec Ideal S4096x1024 .f32) (g : FVec Ideal S1x1024 .f32) :
    (truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)) bitsLt_bf16_f32 : FVec Ideal S4096x1024 .bf16)
      = Cert.NormIdeal.Value.norm x g := by
  funext i
  obtain ⟨p, q, rfl⟩ : ∃ p q, i = ix2 p q := ⟨_, _, eq_ix2 i⟩
  pointwise
  rfl

end Cert.NormReferenceIdeal.Value

namespace Cert.Proof.Norm

open Idealize.ShloMosaic Idealize.SL.Sem
open Cert.NormIdeal (nD τ sig main_arg0 main_arg1)

theorem frame_ideal : Cert.quiescent_NormIdeal := fun m ρ _ => NormIdeal.Gen.frame m ρ

/-- The statement of the kernel's frame with the names of its ideal reading. -/
def ReadAsIdeal [hNorm : NormIdeal.Facts] : Prop :=
  ∀ (m : (ℓ : Loc nD τ sig) → Buf (Elt Bits) ℓ) (g : Dev nD → PrngReg), Cert.Pre_Norm m →
    θ_run (NormIdeal.defs (F := Bits)) (onTc (τ := τ) (NormIdeal.main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem same : Cert.quiescent_Norm = ReadAsIdeal := by sl_kernel_rfl

theorem frame_kernel : Cert.quiescent_Norm := same.mpr fun m ρ _ => NormIdeal.Gen.frame m ρ

/-- The reference has no semaphore. -/
theorem no_semaphore : ∀ _ : SemLoc NormReferenceIdeal.sig, False := by decide

theorem frame_reference : Cert.quiescent_NormReferenceIdeal := fun m ρ _ =>
  (θ_run _ _ _).mono (fun _ h => ⟨fun c => (h c).2, funext fun s => (no_semaphore s.2).elim⟩) (NormReferenceIdeal.Value.run m ρ)

theorem algebraic : Cert.algebraic_NormIdeal_NormReferenceIdeal := by
  intro m g m' g' _ hag
  refine ⟨fun c => NormIdeal.Value.norm (m ((c.tc : Thread nD τ).loc main_arg0)) (m ((c.tc : Thread nD τ).loc main_arg1)), ?_, ?_⟩
  · exact (θ_run _ _ _).mono (fun r h c => ⟨(h c).1.trans (NormIdeal.Value.arr m c), (h c).2⟩) (NormIdeal.Value.run_blocks m g)
  · refine (θ_run _ _ _).mono (fun r h c => ⟨(h c).1.trans ?_, (h c).2⟩) (NormReferenceIdeal.Value.run m' g')
    obtain ⟨e0, e1⟩ := hag c
    rw [e0, e1]
    exact NormReferenceIdeal.Value.ref _ _

end Cert.Proof.Norm

end
-- ==== Proof.lean ====
module

public import proofs.«01_k».proof.Defs
public import proofs.«01_k».proof.Proof.Algebraic
public import proofs.«01_k».proof.Proof.Mm.DwMain
public import proofs.«01_k».proof.Proof.Mm.InMain
public import proofs.«01_k».proof.Proof.Mm.InSmall
public import proofs.«01_k».proof.Proof.Mm.Pa
public import proofs.«01_k».proof.Proof.Mm.Pb
public import proofs.«01_k».proof.Proof.Mm.Out
public import proofs.«01_k».proof.Proof.Mm.Up
public import proofs.«01_k».proof.Proof.Mm.DAct
public import proofs.«01_k».proof.Proof.Mm.DwDown
public import proofs.«01_k».proof.Proof.Mm.DwUp
public import proofs.«01_k».proof.Proof.Mm.DHn
public import proofs.«01_k».proof.Proof.Mm.DMerged
public import proofs.«01_k».proof.Proof.Mm.DYaIn
public import proofs.«01_k».proof.Proof.Mm.DOb
public import proofs.«01_k».proof.Proof.Mm.DwOut
public import proofs.«01_k».proof.Proof.Mm.DpA
public import proofs.«01_k».proof.Proof.Mm.DpB
public import proofs.«01_k».proof.Proof.Mm.DwSmall
public import proofs.«01_k».proof.Proof.Mm.DUSmall
public import proofs.«01_k».proof.Proof.Mm.DUFirst
public import proofs.«01_k».proof.Proof.Mm.DUSecond
public import proofs.«01_k».proof.Proof.Mm.Down
public import proofs.«01_k».proof.Proof.Mm.AdamSmall
public import proofs.«01_k».proof.Proof.Mm.AdamPa
public import proofs.«01_k».proof.Proof.Mm.AdamPb
public import proofs.«01_k».proof.Proof.Mm.AdamOut
public import proofs.«01_k».proof.Proof.Mm.AdamUp
public import proofs.«01_k».proof.Proof.Mm.AdamDown
public import proofs.«01_k».proof.Proof.Mm.AdamIn
public import proofs.«01_k».proof.Proof.Mm.DX
public import proofs.«01_k».proof.Proof.Mm.Norm

@[expose] public section

noncomputable section

/-! The certificate: every claim of `proof/Defs.lean` from the modules under `proof/Proof/`. -/

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DwMain.Gen.facts, Cert.DwMainIdeal.Gen.facts, Cert.DwMainReferenceIdeal.Gen.facts,
  Cert.InMain.Gen.facts, Cert.InMainIdeal.Gen.facts, Cert.InMainReferenceIdeal.Gen.facts,
  Cert.InSmall.Gen.facts, Cert.InSmallIdeal.Gen.facts, Cert.InSmallReferenceIdeal.Gen.facts,
  Cert.Pa.Gen.facts, Cert.PaIdeal.Gen.facts, Cert.PaReferenceIdeal.Gen.facts,
  Cert.Pb.Gen.facts, Cert.PbIdeal.Gen.facts, Cert.PbReferenceIdeal.Gen.facts,
  Cert.Out.Gen.facts, Cert.OutIdeal.Gen.facts, Cert.OutReferenceIdeal.Gen.facts,
  Cert.Up.Gen.facts, Cert.UpIdeal.Gen.facts, Cert.UpReferenceIdeal.Gen.facts,
  Cert.DAct.Gen.facts, Cert.DActIdeal.Gen.facts, Cert.DActReferenceIdeal.Gen.facts,
  Cert.DwDown.Gen.facts, Cert.DwDownIdeal.Gen.facts, Cert.DwDownReferenceIdeal.Gen.facts,
  Cert.DwUp.Gen.facts, Cert.DwUpIdeal.Gen.facts, Cert.DwUpReferenceIdeal.Gen.facts,
  Cert.DHn.Gen.facts, Cert.DHnIdeal.Gen.facts, Cert.DHnReferenceIdeal.Gen.facts,
  Cert.DMerged.Gen.facts, Cert.DMergedIdeal.Gen.facts, Cert.DMergedReferenceIdeal.Gen.facts,
  Cert.DYaIn.Gen.facts, Cert.DYaInIdeal.Gen.facts, Cert.DYaInReferenceIdeal.Gen.facts,
  Cert.DOb.Gen.facts, Cert.DObIdeal.Gen.facts, Cert.DObReferenceIdeal.Gen.facts,
  Cert.DwOut.Gen.facts, Cert.DwOutIdeal.Gen.facts, Cert.DwOutReferenceIdeal.Gen.facts,
  Cert.DpA.Gen.facts, Cert.DpAIdeal.Gen.facts, Cert.DpAReferenceIdeal.Gen.facts,
  Cert.DpB.Gen.facts, Cert.DpBIdeal.Gen.facts, Cert.DpBReferenceIdeal.Gen.facts,
  Cert.DwSmall.Gen.facts, Cert.DwSmallIdeal.Gen.facts, Cert.DwSmallReferenceIdeal.Gen.facts,
  Cert.DUSmall.Gen.facts, Cert.DUSmallIdeal.Gen.facts, Cert.DUSmallReferenceIdeal.Gen.facts,
  Cert.DUFirst.Gen.facts, Cert.DUFirstIdeal.Gen.facts, Cert.DUFirstReferenceIdeal.Gen.facts,
  Cert.DUSecond.Gen.facts, Cert.DUSecondIdeal.Gen.facts, Cert.DUSecondReferenceIdeal.Gen.facts,
  Cert.Down.Gen.facts, Cert.DownIdeal.Gen.facts, Cert.DownReferenceIdeal.Gen.facts,
  Cert.AdamSmall.Gen.facts, Cert.AdamSmallIdeal.Gen.facts, Cert.AdamSmallReferenceIdeal.Gen.facts,
  Cert.AdamPa.Gen.facts, Cert.AdamPaIdeal.Gen.facts, Cert.AdamPaReferenceIdeal.Gen.facts,
  Cert.AdamPb.Gen.facts, Cert.AdamPbIdeal.Gen.facts, Cert.AdamPbReferenceIdeal.Gen.facts,
  Cert.AdamOut.Gen.facts, Cert.AdamOutIdeal.Gen.facts, Cert.AdamOutReferenceIdeal.Gen.facts,
  Cert.AdamUp.Gen.facts, Cert.AdamUpIdeal.Gen.facts, Cert.AdamUpReferenceIdeal.Gen.facts,
  Cert.AdamDown.Gen.facts, Cert.AdamDownIdeal.Gen.facts, Cert.AdamDownReferenceIdeal.Gen.facts,
  Cert.AdamIn.Gen.facts, Cert.AdamInIdeal.Gen.facts, Cert.AdamInReferenceIdeal.Gen.facts,
  Cert.DX.Gen.facts, Cert.DXIdeal.Gen.facts, Cert.DXReferenceIdeal.Gen.facts,
  Cert.Norm.Gen.facts, Cert.NormIdeal.Gen.facts, Cert.NormReferenceIdeal.Gen.facts,
  frame_kernel, frame_ideal, frame_reference,
  DwMain.frame_kernel, DwMain.frame_ideal, DwMain.frame_reference,
  InMain.frame_kernel, InMain.frame_ideal, InMain.frame_reference,
  InSmall.frame_kernel, InSmall.frame_ideal, InSmall.frame_reference,
  Pa.frame_kernel, Pa.frame_ideal, Pa.frame_reference,
  Pb.frame_kernel, Pb.frame_ideal, Pb.frame_reference,
  Out.frame_kernel, Out.frame_ideal, Out.frame_reference,
  Up.frame_kernel, Up.frame_ideal, Up.frame_reference,
  DAct.frame_kernel, DAct.frame_ideal, DAct.frame_reference,
  DwDown.frame_kernel, DwDown.frame_ideal, DwDown.frame_reference,
  DwUp.frame_kernel, DwUp.frame_ideal, DwUp.frame_reference,
  DHn.frame_kernel, DHn.frame_ideal, DHn.frame_reference,
  DMerged.frame_kernel, DMerged.frame_ideal, DMerged.frame_reference,
  DYaIn.frame_kernel, DYaIn.frame_ideal, DYaIn.frame_reference,
  DOb.frame_kernel, DOb.frame_ideal, DOb.frame_reference,
  DwOut.frame_kernel, DwOut.frame_ideal, DwOut.frame_reference,
  DpA.frame_kernel, DpA.frame_ideal, DpA.frame_reference,
  DpB.frame_kernel, DpB.frame_ideal, DpB.frame_reference,
  DwSmall.frame_kernel, DwSmall.frame_ideal, DwSmall.frame_reference,
  DUSmall.frame_kernel, DUSmall.frame_ideal, DUSmall.frame_reference,
  DUFirst.frame_kernel, DUFirst.frame_ideal, DUFirst.frame_reference,
  DUSecond.frame_kernel, DUSecond.frame_ideal, DUSecond.frame_reference,
  Down.frame_kernel, Down.frame_ideal, Down.frame_reference,
  AdamSmall.frame_kernel, AdamSmall.frame_ideal, AdamSmall.frame_reference,
  AdamPa.frame_kernel, AdamPa.frame_ideal, AdamPa.frame_reference,
  AdamPb.frame_kernel, AdamPb.frame_ideal, AdamPb.frame_reference,
  AdamOut.frame_kernel, AdamOut.frame_ideal, AdamOut.frame_reference,
  AdamUp.frame_kernel, AdamUp.frame_ideal, AdamUp.frame_reference,
  AdamDown.frame_kernel, AdamDown.frame_ideal, AdamDown.frame_reference,
  AdamIn.frame_kernel, AdamIn.frame_ideal, AdamIn.frame_reference,
  DX.frame_kernel, DX.frame_ideal, DX.frame_reference,
  Norm.frame_kernel, Norm.frame_ideal, Norm.frame_reference,
  trivial, algebraic,
  trivial, DwMain.algebraic,
  trivial, InMain.algebraic,
  trivial, InSmall.algebraic,
  trivial, Pa.algebraic,
  trivial, Pb.algebraic,
  trivial, Out.algebraic,
  trivial, Up.algebraic,
  trivial, DAct.algebraic,
  trivial, DwDown.algebraic,
  trivial, DwUp.algebraic,
  trivial, DHn.algebraic,
  trivial, DMerged.algebraic,
  trivial, DYaIn.algebraic,
  trivial, DOb.algebraic,
  trivial, DwOut.algebraic,
  trivial, DpA.algebraic,
  trivial, DpB.algebraic,
  trivial, DwSmall.algebraic,
  trivial, DUSmall.algebraic,
  trivial, DUFirst.algebraic,
  trivial, DUSecond.algebraic,
  trivial, Down.algebraic,
  trivial, AdamSmall.algebraic,
  trivial, AdamPa.algebraic,
  trivial, AdamPb.algebraic,
  trivial, AdamOut.algebraic,
  trivial, AdamUp.algebraic,
  trivial, AdamDown.algebraic,
  trivial, AdamIn.algebraic,
  trivial, DX.algebraic,
  trivial, Norm.algebraic⟩

end Cert.Proof

end
